-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_PostOdd (m : (ℓ : Loc Cert.PostOdd.nD Cert.PostOdd.τ Cert.PostOdd.sig) → Buf (Elt Bits) ℓ) : Prop :=
  True

def Pre_PostOddIdeal (m : (ℓ : Loc Cert.PostOddIdeal.nD Cert.PostOddIdeal.τ Cert.PostOddIdeal.sig) → Buf (Elt Ideal) ℓ) : Prop :=
  True

def Pre_PostOddRefIdeal (m : (ℓ : Loc Cert.PostOddRefIdeal.nD Cert.PostOddRefIdeal.τ Cert.PostOddRefIdeal.sig) → Buf (Elt Ideal) ℓ) : Prop :=
  True

def Pre_PostEven (m : (ℓ : Loc Cert.PostEven.nD Cert.PostEven.τ Cert.PostEven.sig) → Buf (Elt Bits) ℓ) : Prop :=
  True

def Pre_PostEvenIdeal (m : (ℓ : Loc Cert.PostEvenIdeal.nD Cert.PostEvenIdeal.τ Cert.PostEvenIdeal.sig) → Buf (Elt Ideal) ℓ) : Prop :=
  True

def Pre_PostEvenRefIdeal (m : (ℓ : Loc Cert.PostEvenRefIdeal.nD Cert.PostEvenRefIdeal.τ Cert.PostEvenRefIdeal.sig) → Buf (Elt Ideal) ℓ) : Prop :=
  True

def Pre_FrontEven (m : (ℓ : Loc Cert.FrontEven.nD Cert.FrontEven.τ Cert.FrontEven.sig) → Buf (Elt Bits) ℓ) : Prop :=
  True

def Pre_FrontEvenIdeal (m : (ℓ : Loc Cert.FrontEvenIdeal.nD Cert.FrontEvenIdeal.τ Cert.FrontEvenIdeal.sig) → Buf (Elt Ideal) ℓ) : Prop :=
  True

def Pre_FrontEvenRefIdeal (m : (ℓ : Loc Cert.FrontEvenRefIdeal.nD Cert.FrontEvenRefIdeal.τ Cert.FrontEvenRefIdeal.sig) → Buf (Elt Ideal) ℓ) : Prop :=
  True

def Pre_FrontOdd (m : (ℓ : Loc Cert.FrontOdd.nD Cert.FrontOdd.τ Cert.FrontOdd.sig) → Buf (Elt Bits) ℓ) : Prop :=
  True

def Pre_FrontOddIdeal (m : (ℓ : Loc Cert.FrontOddIdeal.nD Cert.FrontOddIdeal.τ Cert.FrontOddIdeal.sig) → Buf (Elt Ideal) ℓ) : Prop :=
  True

def Pre_FrontOddRefIdeal (m : (ℓ : Loc Cert.FrontOddRefIdeal.nD Cert.FrontOddRefIdeal.τ Cert.FrontOddRefIdeal.sig) → Buf (Elt Ideal) ℓ) : Prop :=
  True

def Pre_PostCtx (m : (ℓ : Loc Cert.PostCtx.nD Cert.PostCtx.τ Cert.PostCtx.sig) → Buf (Elt Bits) ℓ) : Prop :=
  True

def Pre_PostCtxIdeal (m : (ℓ : Loc Cert.PostCtxIdeal.nD Cert.PostCtxIdeal.τ Cert.PostCtxIdeal.sig) → Buf (Elt Ideal) ℓ) : Prop :=
  True

def Pre_PostCtxRefIdeal (m : (ℓ : Loc Cert.PostCtxRefIdeal.nD Cert.PostCtxRefIdeal.τ Cert.PostCtxRefIdeal.sig) → Buf (Elt Ideal) ℓ) : Prop :=
  True

def Pre_FrontCtx (m : (ℓ : Loc Cert.FrontCtx.nD Cert.FrontCtx.τ Cert.FrontCtx.sig) → Buf (Elt Bits) ℓ) : Prop :=
  True

def Pre_FrontCtxIdeal (m : (ℓ : Loc Cert.FrontCtxIdeal.nD Cert.FrontCtxIdeal.τ Cert.FrontCtxIdeal.sig) → Buf (Elt Ideal) ℓ) : Prop :=
  True

def Pre_FrontCtxRefIdeal (m : (ℓ : Loc Cert.FrontCtxRefIdeal.nD Cert.FrontCtxRefIdeal.τ Cert.FrontCtxRefIdeal.sig) → Buf (Elt Ideal) ℓ) : Prop :=
  True

def Pre_AttnCtx (m : (ℓ : Loc Cert.AttnCtx.nD Cert.AttnCtx.τ Cert.AttnCtx.sig) → Buf (Elt Bits) ℓ) : Prop :=
  True

def Pre_AttnCtxIdeal (m : (ℓ : Loc Cert.AttnCtxIdeal.nD Cert.AttnCtxIdeal.τ Cert.AttnCtxIdeal.sig) → Buf (Elt Ideal) ℓ) : Prop :=
  True

def Pre_AttnCtxIdeal_finite_ctx [hPre_finite_ctx : Cert.Pre_finite_ctx.Facts] (m : (ℓ : Loc Cert.AttnCtxIdeal.nD Cert.AttnCtxIdeal.τ Cert.AttnCtxIdeal.sig) → Buf (Elt Ideal) ℓ) : Prop :=
  ∀ c : Dev Cert.AttnCtxIdeal.nD,
    (Cert.Pre_finite_ctx.fn (F := Ideal) (m ((c.tc : Thread Cert.AttnCtxIdeal.nD Cert.AttnCtxIdeal.τ).loc Cert.AttnCtxIdeal.main_arg0))) = (fun _ => 1#1)

def Pre_AttnCtxRefIdeal (m : (ℓ : Loc Cert.AttnCtxRefIdeal.nD Cert.AttnCtxRefIdeal.τ Cert.AttnCtxRefIdeal.sig) → Buf (Elt Ideal) ℓ) : Prop :=
  True

def Pre_AttnCtxRefIdeal_finite_ctx [hPre_finite_ctx : Cert.Pre_finite_ctx.Facts] (m : (ℓ : Loc Cert.AttnCtxRefIdeal.nD Cert.AttnCtxRefIdeal.τ Cert.AttnCtxRefIdeal.sig) → Buf (Elt Ideal) ℓ) : Prop :=
  ∀ c : Dev Cert.AttnCtxRefIdeal.nD,
    (Cert.Pre_finite_ctx.fn (F := Ideal) (m ((c.tc : Thread Cert.AttnCtxRefIdeal.nD Cert.AttnCtxRefIdeal.τ).loc Cert.AttnCtxRefIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_PostOdd [hPostOdd : Cert.PostOdd.Facts] : Prop :=
  ∀ (m : (ℓ : Loc Cert.PostOdd.nD Cert.PostOdd.τ Cert.PostOdd.sig) → Buf (Elt Bits) ℓ) (g : Dev Cert.PostOdd.nD → PrngReg), Pre_PostOdd m →
    θ_run (Cert.PostOdd.defs (F := Bits)) (onTc (τ := Cert.PostOdd.τ) (Cert.PostOdd.main (F := Bits))) ⟨m, fun _ => 0, g⟩ (fun r => (∀ c : Dev Cert.PostOdd.nD,
      r.2.mem ((c.tc : Thread Cert.PostOdd.nD Cert.PostOdd.τ).loc Cert.PostOdd.main_arg0) = m ((c.tc : Thread Cert.PostOdd.nD Cert.PostOdd.τ).loc Cert.PostOdd.main_arg0)
      ∧ r.2.mem ((c.tc : Thread Cert.PostOdd.nD Cert.PostOdd.τ).loc Cert.PostOdd.main_arg1) = m ((c.tc : Thread Cert.PostOdd.nD Cert.PostOdd.τ).loc Cert.PostOdd.main_arg1)
      ∧ r.2.mem ((c.tc : Thread Cert.PostOdd.nD Cert.PostOdd.τ).loc Cert.PostOdd.main_arg2) = m ((c.tc : Thread Cert.PostOdd.nD Cert.PostOdd.τ).loc Cert.PostOdd.main_arg2)
      ∧ r.2.mem ((c.tc : Thread Cert.PostOdd.nD Cert.PostOdd.τ).loc Cert.PostOdd.main_arg3) = m ((c.tc : Thread Cert.PostOdd.nD Cert.PostOdd.τ).loc Cert.PostOdd.main_arg3)
      ∧ r.2.mem ((c.tc : Thread Cert.PostOdd.nD Cert.PostOdd.τ).loc Cert.PostOdd.main_arg4) = m ((c.tc : Thread Cert.PostOdd.nD Cert.PostOdd.τ).loc Cert.PostOdd.main_arg4)
      ∧ r.2.mem ((c.tc : Thread Cert.PostOdd.nD Cert.PostOdd.τ).loc Cert.PostOdd.main_arg5) = m ((c.tc : Thread Cert.PostOdd.nD Cert.PostOdd.τ).loc Cert.PostOdd.main_arg5)
      ∧ r.2.mem ((c.tc : Thread Cert.PostOdd.nD Cert.PostOdd.τ).loc Cert.PostOdd.main_arg6) = m ((c.tc : Thread Cert.PostOdd.nD Cert.PostOdd.τ).loc Cert.PostOdd.main_arg6)
      ∧ r.2.mem ((c.tc : Thread Cert.PostOdd.nD Cert.PostOdd.τ).loc Cert.PostOdd.main_arg7) = m ((c.tc : Thread Cert.PostOdd.nD Cert.PostOdd.τ).loc Cert.PostOdd.main_arg7)
      ∧ r.2.mem ((c.tc : Thread Cert.PostOdd.nD Cert.PostOdd.τ).loc Cert.PostOdd.main_arg8) = m ((c.tc : Thread Cert.PostOdd.nD Cert.PostOdd.τ).loc Cert.PostOdd.main_arg8))
      ∧ r.2.sem = fun _ => 0)

def quiescent_PostOddIdeal [hPostOddIdeal : Cert.PostOddIdeal.Facts] : Prop :=
  ∀ (m : (ℓ : Loc Cert.PostOddIdeal.nD Cert.PostOddIdeal.τ Cert.PostOddIdeal.sig) → Buf (Elt Ideal) ℓ) (g : Dev Cert.PostOddIdeal.nD → PrngReg), Pre_PostOddIdeal m →
    θ_run (Cert.PostOddIdeal.defs (F := Ideal)) (onTc (τ := Cert.PostOddIdeal.τ) (Cert.PostOddIdeal.main (F := Ideal))) ⟨m, fun _ => 0, g⟩ (fun r => (∀ c : Dev Cert.PostOddIdeal.nD,
      r.2.mem ((c.tc : Thread Cert.PostOddIdeal.nD Cert.PostOddIdeal.τ).loc Cert.PostOddIdeal.main_arg0) = m ((c.tc : Thread Cert.PostOddIdeal.nD Cert.PostOddIdeal.τ).loc Cert.PostOddIdeal.main_arg0)
      ∧ r.2.mem ((c.tc : Thread Cert.PostOddIdeal.nD Cert.PostOddIdeal.τ).loc Cert.PostOddIdeal.main_arg1) = m ((c.tc : Thread Cert.PostOddIdeal.nD Cert.PostOddIdeal.τ).loc Cert.PostOddIdeal.main_arg1)
      ∧ r.2.mem ((c.tc : Thread Cert.PostOddIdeal.nD Cert.PostOddIdeal.τ).loc Cert.PostOddIdeal.main_arg2) = m ((c.tc : Thread Cert.PostOddIdeal.nD Cert.PostOddIdeal.τ).loc Cert.PostOddIdeal.main_arg2)
      ∧ r.2.mem ((c.tc : Thread Cert.PostOddIdeal.nD Cert.PostOddIdeal.τ).loc Cert.PostOddIdeal.main_arg3) = m ((c.tc : Thread Cert.PostOddIdeal.nD Cert.PostOddIdeal.τ).loc Cert.PostOddIdeal.main_arg3)
      ∧ r.2.mem ((c.tc : Thread Cert.PostOddIdeal.nD Cert.PostOddIdeal.τ).loc Cert.PostOddIdeal.main_arg4) = m ((c.tc : Thread Cert.PostOddIdeal.nD Cert.PostOddIdeal.τ).loc Cert.PostOddIdeal.main_arg4)
      ∧ r.2.mem ((c.tc : Thread Cert.PostOddIdeal.nD Cert.PostOddIdeal.τ).loc Cert.PostOddIdeal.main_arg5) = m ((c.tc : Thread Cert.PostOddIdeal.nD Cert.PostOddIdeal.τ).loc Cert.PostOddIdeal.main_arg5)
      ∧ r.2.mem ((c.tc : Thread Cert.PostOddIdeal.nD Cert.PostOddIdeal.τ).loc Cert.PostOddIdeal.main_arg6) = m ((c.tc : Thread Cert.PostOddIdeal.nD Cert.PostOddIdeal.τ).loc Cert.PostOddIdeal.main_arg6)
      ∧ r.2.mem ((c.tc : Thread Cert.PostOddIdeal.nD Cert.PostOddIdeal.τ).loc Cert.PostOddIdeal.main_arg7) = m ((c.tc : Thread Cert.PostOddIdeal.nD Cert.PostOddIdeal.τ).loc Cert.PostOddIdeal.main_arg7)
      ∧ r.2.mem ((c.tc : Thread Cert.PostOddIdeal.nD Cert.PostOddIdeal.τ).loc Cert.PostOddIdeal.main_arg8) = m ((c.tc : Thread Cert.PostOddIdeal.nD Cert.PostOddIdeal.τ).loc Cert.PostOddIdeal.main_arg8))
      ∧ r.2.sem = fun _ => 0)

def quiescent_PostOddRefIdeal [hPostOddRefIdeal : Cert.PostOddRefIdeal.Facts] : Prop :=
  ∀ (m : (ℓ : Loc Cert.PostOddRefIdeal.nD Cert.PostOddRefIdeal.τ Cert.PostOddRefIdeal.sig) → Buf (Elt Ideal) ℓ) (g : Dev Cert.PostOddRefIdeal.nD → PrngReg), Pre_PostOddRefIdeal m →
    θ_run (Cert.PostOddRefIdeal.defs (F := Ideal)) (onTc (τ := Cert.PostOddRefIdeal.τ) (Cert.PostOddRefIdeal.main (F := Ideal))) ⟨m, fun _ => 0, g⟩ (fun r => (∀ c : Dev Cert.PostOddRefIdeal.nD,
      r.2.mem ((c.tc : Thread Cert.PostOddRefIdeal.nD Cert.PostOddRefIdeal.τ).loc Cert.PostOddRefIdeal.main_arg0) = m ((c.tc : Thread Cert.PostOddRefIdeal.nD Cert.PostOddRefIdeal.τ).loc Cert.PostOddRefIdeal.main_arg0)
      ∧ r.2.mem ((c.tc : Thread Cert.PostOddRefIdeal.nD Cert.PostOddRefIdeal.τ).loc Cert.PostOddRefIdeal.main_arg1) = m ((c.tc : Thread Cert.PostOddRefIdeal.nD Cert.PostOddRefIdeal.τ).loc Cert.PostOddRefIdeal.main_arg1)
      ∧ r.2.mem ((c.tc : Thread Cert.PostOddRefIdeal.nD Cert.PostOddRefIdeal.τ).loc Cert.PostOddRefIdeal.main_arg2) = m ((c.tc : Thread Cert.PostOddRefIdeal.nD Cert.PostOddRefIdeal.τ).loc Cert.PostOddRefIdeal.main_arg2)
      ∧ r.2.mem ((c.tc : Thread Cert.PostOddRefIdeal.nD Cert.PostOddRefIdeal.τ).loc Cert.PostOddRefIdeal.main_arg3) = m ((c.tc : Thread Cert.PostOddRefIdeal.nD Cert.PostOddRefIdeal.τ).loc Cert.PostOddRefIdeal.main_arg3)
      ∧ r.2.mem ((c.tc : Thread Cert.PostOddRefIdeal.nD Cert.PostOddRefIdeal.τ).loc Cert.PostOddRefIdeal.main_arg4) = m ((c.tc : Thread Cert.PostOddRefIdeal.nD Cert.PostOddRefIdeal.τ).loc Cert.PostOddRefIdeal.main_arg4)
      ∧ r.2.mem ((c.tc : Thread Cert.PostOddRefIdeal.nD Cert.PostOddRefIdeal.τ).loc Cert.PostOddRefIdeal.main_arg5) = m ((c.tc : Thread Cert.PostOddRefIdeal.nD Cert.PostOddRefIdeal.τ).loc Cert.PostOddRefIdeal.main_arg5)
      ∧ r.2.mem ((c.tc : Thread Cert.PostOddRefIdeal.nD Cert.PostOddRefIdeal.τ).loc Cert.PostOddRefIdeal.main_arg6) = m ((c.tc : Thread Cert.PostOddRefIdeal.nD Cert.PostOddRefIdeal.τ).loc Cert.PostOddRefIdeal.main_arg6)
      ∧ r.2.mem ((c.tc : Thread Cert.PostOddRefIdeal.nD Cert.PostOddRefIdeal.τ).loc Cert.PostOddRefIdeal.main_arg7) = m ((c.tc : Thread Cert.PostOddRefIdeal.nD Cert.PostOddRefIdeal.τ).loc Cert.PostOddRefIdeal.main_arg7)
      ∧ r.2.mem ((c.tc : Thread Cert.PostOddRefIdeal.nD Cert.PostOddRefIdeal.τ).loc Cert.PostOddRefIdeal.main_arg8) = m ((c.tc : Thread Cert.PostOddRefIdeal.nD Cert.PostOddRefIdeal.τ).loc Cert.PostOddRefIdeal.main_arg8))
      ∧ r.2.sem = fun _ => 0)

def quiescent_PostEven [hPostEven : Cert.PostEven.Facts] : Prop :=
  ∀ (m : (ℓ : Loc Cert.PostEven.nD Cert.PostEven.τ Cert.PostEven.sig) → Buf (Elt Bits) ℓ) (g : Dev Cert.PostEven.nD → PrngReg), Pre_PostEven m →
    θ_run (Cert.PostEven.defs (F := Bits)) (onTc (τ := Cert.PostEven.τ) (Cert.PostEven.main (F := Bits))) ⟨m, fun _ => 0, g⟩ (fun r => (∀ c : Dev Cert.PostEven.nD,
      r.2.mem ((c.tc : Thread Cert.PostEven.nD Cert.PostEven.τ).loc Cert.PostEven.main_arg0) = m ((c.tc : Thread Cert.PostEven.nD Cert.PostEven.τ).loc Cert.PostEven.main_arg0)
      ∧ r.2.mem ((c.tc : Thread Cert.PostEven.nD Cert.PostEven.τ).loc Cert.PostEven.main_arg1) = m ((c.tc : Thread Cert.PostEven.nD Cert.PostEven.τ).loc Cert.PostEven.main_arg1)
      ∧ r.2.mem ((c.tc : Thread Cert.PostEven.nD Cert.PostEven.τ).loc Cert.PostEven.main_arg2) = m ((c.tc : Thread Cert.PostEven.nD Cert.PostEven.τ).loc Cert.PostEven.main_arg2)
      ∧ r.2.mem ((c.tc : Thread Cert.PostEven.nD Cert.PostEven.τ).loc Cert.PostEven.main_arg3) = m ((c.tc : Thread Cert.PostEven.nD Cert.PostEven.τ).loc Cert.PostEven.main_arg3)
      ∧ r.2.mem ((c.tc : Thread Cert.PostEven.nD Cert.PostEven.τ).loc Cert.PostEven.main_arg4) = m ((c.tc : Thread Cert.PostEven.nD Cert.PostEven.τ).loc Cert.PostEven.main_arg4)
      ∧ r.2.mem ((c.tc : Thread Cert.PostEven.nD Cert.PostEven.τ).loc Cert.PostEven.main_arg5) = m ((c.tc : Thread Cert.PostEven.nD Cert.PostEven.τ).loc Cert.PostEven.main_arg5)
      ∧ r.2.mem ((c.tc : Thread Cert.PostEven.nD Cert.PostEven.τ).loc Cert.PostEven.main_arg6) = m ((c.tc : Thread Cert.PostEven.nD Cert.PostEven.τ).loc Cert.PostEven.main_arg6)
      ∧ r.2.mem ((c.tc : Thread Cert.PostEven.nD Cert.PostEven.τ).loc Cert.PostEven.main_arg7) = m ((c.tc : Thread Cert.PostEven.nD Cert.PostEven.τ).loc Cert.PostEven.main_arg7)
      ∧ r.2.mem ((c.tc : Thread Cert.PostEven.nD Cert.PostEven.τ).loc Cert.PostEven.main_arg8) = m ((c.tc : Thread Cert.PostEven.nD Cert.PostEven.τ).loc Cert.PostEven.main_arg8))
      ∧ r.2.sem = fun _ => 0)

def quiescent_PostEvenIdeal [hPostEvenIdeal : Cert.PostEvenIdeal.Facts] : Prop :=
  ∀ (m : (ℓ : Loc Cert.PostEvenIdeal.nD Cert.PostEvenIdeal.τ Cert.PostEvenIdeal.sig) → Buf (Elt Ideal) ℓ) (g : Dev Cert.PostEvenIdeal.nD → PrngReg), Pre_PostEvenIdeal m →
    θ_run (Cert.PostEvenIdeal.defs (F := Ideal)) (onTc (τ := Cert.PostEvenIdeal.τ) (Cert.PostEvenIdeal.main (F := Ideal))) ⟨m, fun _ => 0, g⟩ (fun r => (∀ c : Dev Cert.PostEvenIdeal.nD,
      r.2.mem ((c.tc : Thread Cert.PostEvenIdeal.nD Cert.PostEvenIdeal.τ).loc Cert.PostEvenIdeal.main_arg0) = m ((c.tc : Thread Cert.PostEvenIdeal.nD Cert.PostEvenIdeal.τ).loc Cert.PostEvenIdeal.main_arg0)
      ∧ r.2.mem ((c.tc : Thread Cert.PostEvenIdeal.nD Cert.PostEvenIdeal.τ).loc Cert.PostEvenIdeal.main_arg1) = m ((c.tc : Thread Cert.PostEvenIdeal.nD Cert.PostEvenIdeal.τ).loc Cert.PostEvenIdeal.main_arg1)
      ∧ r.2.mem ((c.tc : Thread Cert.PostEvenIdeal.nD Cert.PostEvenIdeal.τ).loc Cert.PostEvenIdeal.main_arg2) = m ((c.tc : Thread Cert.PostEvenIdeal.nD Cert.PostEvenIdeal.τ).loc Cert.PostEvenIdeal.main_arg2)
      ∧ r.2.mem ((c.tc : Thread Cert.PostEvenIdeal.nD Cert.PostEvenIdeal.τ).loc Cert.PostEvenIdeal.main_arg3) = m ((c.tc : Thread Cert.PostEvenIdeal.nD Cert.PostEvenIdeal.τ).loc Cert.PostEvenIdeal.main_arg3)
      ∧ r.2.mem ((c.tc : Thread Cert.PostEvenIdeal.nD Cert.PostEvenIdeal.τ).loc Cert.PostEvenIdeal.main_arg4) = m ((c.tc : Thread Cert.PostEvenIdeal.nD Cert.PostEvenIdeal.τ).loc Cert.PostEvenIdeal.main_arg4)
      ∧ r.2.mem ((c.tc : Thread Cert.PostEvenIdeal.nD Cert.PostEvenIdeal.τ).loc Cert.PostEvenIdeal.main_arg5) = m ((c.tc : Thread Cert.PostEvenIdeal.nD Cert.PostEvenIdeal.τ).loc Cert.PostEvenIdeal.main_arg5)
      ∧ r.2.mem ((c.tc : Thread Cert.PostEvenIdeal.nD Cert.PostEvenIdeal.τ).loc Cert.PostEvenIdeal.main_arg6) = m ((c.tc : Thread Cert.PostEvenIdeal.nD Cert.PostEvenIdeal.τ).loc Cert.PostEvenIdeal.main_arg6)
      ∧ r.2.mem ((c.tc : Thread Cert.PostEvenIdeal.nD Cert.PostEvenIdeal.τ).loc Cert.PostEvenIdeal.main_arg7) = m ((c.tc : Thread Cert.PostEvenIdeal.nD Cert.PostEvenIdeal.τ).loc Cert.PostEvenIdeal.main_arg7)
      ∧ r.2.mem ((c.tc : Thread Cert.PostEvenIdeal.nD Cert.PostEvenIdeal.τ).loc Cert.PostEvenIdeal.main_arg8) = m ((c.tc : Thread Cert.PostEvenIdeal.nD Cert.PostEvenIdeal.τ).loc Cert.PostEvenIdeal.main_arg8))
      ∧ r.2.sem = fun _ => 0)

def quiescent_PostEvenRefIdeal [hPostEvenRefIdeal : Cert.PostEvenRefIdeal.Facts] : Prop :=
  ∀ (m : (ℓ : Loc Cert.PostEvenRefIdeal.nD Cert.PostEvenRefIdeal.τ Cert.PostEvenRefIdeal.sig) → Buf (Elt Ideal) ℓ) (g : Dev Cert.PostEvenRefIdeal.nD → PrngReg), Pre_PostEvenRefIdeal m →
    θ_run (Cert.PostEvenRefIdeal.defs (F := Ideal)) (onTc (τ := Cert.PostEvenRefIdeal.τ) (Cert.PostEvenRefIdeal.main (F := Ideal))) ⟨m, fun _ => 0, g⟩ (fun r => (∀ c : Dev Cert.PostEvenRefIdeal.nD,
      r.2.mem ((c.tc : Thread Cert.PostEvenRefIdeal.nD Cert.PostEvenRefIdeal.τ).loc Cert.PostEvenRefIdeal.main_arg0) = m ((c.tc : Thread Cert.PostEvenRefIdeal.nD Cert.PostEvenRefIdeal.τ).loc Cert.PostEvenRefIdeal.main_arg0)
      ∧ r.2.mem ((c.tc : Thread Cert.PostEvenRefIdeal.nD Cert.PostEvenRefIdeal.τ).loc Cert.PostEvenRefIdeal.main_arg1) = m ((c.tc : Thread Cert.PostEvenRefIdeal.nD Cert.PostEvenRefIdeal.τ).loc Cert.PostEvenRefIdeal.main_arg1)
      ∧ r.2.mem ((c.tc : Thread Cert.PostEvenRefIdeal.nD Cert.PostEvenRefIdeal.τ).loc Cert.PostEvenRefIdeal.main_arg2) = m ((c.tc : Thread Cert.PostEvenRefIdeal.nD Cert.PostEvenRefIdeal.τ).loc Cert.PostEvenRefIdeal.main_arg2)
      ∧ r.2.mem ((c.tc : Thread Cert.PostEvenRefIdeal.nD Cert.PostEvenRefIdeal.τ).loc Cert.PostEvenRefIdeal.main_arg3) = m ((c.tc : Thread Cert.PostEvenRefIdeal.nD Cert.PostEvenRefIdeal.τ).loc Cert.PostEvenRefIdeal.main_arg3)
      ∧ r.2.mem ((c.tc : Thread Cert.PostEvenRefIdeal.nD Cert.PostEvenRefIdeal.τ).loc Cert.PostEvenRefIdeal.main_arg4) = m ((c.tc : Thread Cert.PostEvenRefIdeal.nD Cert.PostEvenRefIdeal.τ).loc Cert.PostEvenRefIdeal.main_arg4)
      ∧ r.2.mem ((c.tc : Thread Cert.PostEvenRefIdeal.nD Cert.PostEvenRefIdeal.τ).loc Cert.PostEvenRefIdeal.main_arg5) = m ((c.tc : Thread Cert.PostEvenRefIdeal.nD Cert.PostEvenRefIdeal.τ).loc Cert.PostEvenRefIdeal.main_arg5)
      ∧ r.2.mem ((c.tc : Thread Cert.PostEvenRefIdeal.nD Cert.PostEvenRefIdeal.τ).loc Cert.PostEvenRefIdeal.main_arg6) = m ((c.tc : Thread Cert.PostEvenRefIdeal.nD Cert.PostEvenRefIdeal.τ).loc Cert.PostEvenRefIdeal.main_arg6)
      ∧ r.2.mem ((c.tc : Thread Cert.PostEvenRefIdeal.nD Cert.PostEvenRefIdeal.τ).loc Cert.PostEvenRefIdeal.main_arg7) = m ((c.tc : Thread Cert.PostEvenRefIdeal.nD Cert.PostEvenRefIdeal.τ).loc Cert.PostEvenRefIdeal.main_arg7)
      ∧ r.2.mem ((c.tc : Thread Cert.PostEvenRefIdeal.nD Cert.PostEvenRefIdeal.τ).loc Cert.PostEvenRefIdeal.main_arg8) = m ((c.tc : Thread Cert.PostEvenRefIdeal.nD Cert.PostEvenRefIdeal.τ).loc Cert.PostEvenRefIdeal.main_arg8))
      ∧ r.2.sem = fun _ => 0)

def quiescent_FrontEven [hFrontEven : Cert.FrontEven.Facts] : Prop :=
  ∀ (m : (ℓ : Loc Cert.FrontEven.nD Cert.FrontEven.τ Cert.FrontEven.sig) → Buf (Elt Bits) ℓ) (g : Dev Cert.FrontEven.nD → PrngReg), Pre_FrontEven m →
    θ_run (Cert.FrontEven.defs (F := Bits)) (onTc (τ := Cert.FrontEven.τ) (Cert.FrontEven.main (F := Bits))) ⟨m, fun _ => 0, g⟩ (fun r => (∀ c : Dev Cert.FrontEven.nD,
      r.2.mem ((c.tc : Thread Cert.FrontEven.nD Cert.FrontEven.τ).loc Cert.FrontEven.main_arg0) = m ((c.tc : Thread Cert.FrontEven.nD Cert.FrontEven.τ).loc Cert.FrontEven.main_arg0)
      ∧ r.2.mem ((c.tc : Thread Cert.FrontEven.nD Cert.FrontEven.τ).loc Cert.FrontEven.main_arg1) = m ((c.tc : Thread Cert.FrontEven.nD Cert.FrontEven.τ).loc Cert.FrontEven.main_arg1)
      ∧ r.2.mem ((c.tc : Thread Cert.FrontEven.nD Cert.FrontEven.τ).loc Cert.FrontEven.main_arg2) = m ((c.tc : Thread Cert.FrontEven.nD Cert.FrontEven.τ).loc Cert.FrontEven.main_arg2))
      ∧ r.2.sem = fun _ => 0)

def quiescent_FrontEvenIdeal [hFrontEvenIdeal : Cert.FrontEvenIdeal.Facts] : Prop :=
  ∀ (m : (ℓ : Loc Cert.FrontEvenIdeal.nD Cert.FrontEvenIdeal.τ Cert.FrontEvenIdeal.sig) → Buf (Elt Ideal) ℓ) (g : Dev Cert.FrontEvenIdeal.nD → PrngReg), Pre_FrontEvenIdeal m →
    θ_run (Cert.FrontEvenIdeal.defs (F := Ideal)) (onTc (τ := Cert.FrontEvenIdeal.τ) (Cert.FrontEvenIdeal.main (F := Ideal))) ⟨m, fun _ => 0, g⟩ (fun r => (∀ c : Dev Cert.FrontEvenIdeal.nD,
      r.2.mem ((c.tc : Thread Cert.FrontEvenIdeal.nD Cert.FrontEvenIdeal.τ).loc Cert.FrontEvenIdeal.main_arg0) = m ((c.tc : Thread Cert.FrontEvenIdeal.nD Cert.FrontEvenIdeal.τ).loc Cert.FrontEvenIdeal.main_arg0)
      ∧ r.2.mem ((c.tc : Thread Cert.FrontEvenIdeal.nD Cert.FrontEvenIdeal.τ).loc Cert.FrontEvenIdeal.main_arg1) = m ((c.tc : Thread Cert.FrontEvenIdeal.nD Cert.FrontEvenIdeal.τ).loc Cert.FrontEvenIdeal.main_arg1)
      ∧ r.2.mem ((c.tc : Thread Cert.FrontEvenIdeal.nD Cert.FrontEvenIdeal.τ).loc Cert.FrontEvenIdeal.main_arg2) = m ((c.tc : Thread Cert.FrontEvenIdeal.nD Cert.FrontEvenIdeal.τ).loc Cert.FrontEvenIdeal.main_arg2))
      ∧ r.2.sem = fun _ => 0)

def quiescent_FrontEvenRefIdeal [hFrontEvenRefIdeal : Cert.FrontEvenRefIdeal.Facts] : Prop :=
  ∀ (m : (ℓ : Loc Cert.FrontEvenRefIdeal.nD Cert.FrontEvenRefIdeal.τ Cert.FrontEvenRefIdeal.sig) → Buf (Elt Ideal) ℓ) (g : Dev Cert.FrontEvenRefIdeal.nD → PrngReg), Pre_FrontEvenRefIdeal m →
    θ_run (Cert.FrontEvenRefIdeal.defs (F := Ideal)) (onTc (τ := Cert.FrontEvenRefIdeal.τ) (Cert.FrontEvenRefIdeal.main (F := Ideal))) ⟨m, fun _ => 0, g⟩ (fun r => (∀ c : Dev Cert.FrontEvenRefIdeal.nD,
      r.2.mem ((c.tc : Thread Cert.FrontEvenRefIdeal.nD Cert.FrontEvenRefIdeal.τ).loc Cert.FrontEvenRefIdeal.main_arg0) = m ((c.tc : Thread Cert.FrontEvenRefIdeal.nD Cert.FrontEvenRefIdeal.τ).loc Cert.FrontEvenRefIdeal.main_arg0)
      ∧ r.2.mem ((c.tc : Thread Cert.FrontEvenRefIdeal.nD Cert.FrontEvenRefIdeal.τ).loc Cert.FrontEvenRefIdeal.main_arg1) = m ((c.tc : Thread Cert.FrontEvenRefIdeal.nD Cert.FrontEvenRefIdeal.τ).loc Cert.FrontEvenRefIdeal.main_arg1)
      ∧ r.2.mem ((c.tc : Thread Cert.FrontEvenRefIdeal.nD Cert.FrontEvenRefIdeal.τ).loc Cert.FrontEvenRefIdeal.main_arg2) = m ((c.tc : Thread Cert.FrontEvenRefIdeal.nD Cert.FrontEvenRefIdeal.τ).loc Cert.FrontEvenRefIdeal.main_arg2))
      ∧ r.2.sem = fun _ => 0)

def quiescent_FrontOdd [hFrontOdd : Cert.FrontOdd.Facts] : Prop :=
  ∀ (m : (ℓ : Loc Cert.FrontOdd.nD Cert.FrontOdd.τ Cert.FrontOdd.sig) → Buf (Elt Bits) ℓ) (g : Dev Cert.FrontOdd.nD → PrngReg), Pre_FrontOdd m →
    θ_run (Cert.FrontOdd.defs (F := Bits)) (onTc (τ := Cert.FrontOdd.τ) (Cert.FrontOdd.main (F := Bits))) ⟨m, fun _ => 0, g⟩ (fun r => (∀ c : Dev Cert.FrontOdd.nD,
      r.2.mem ((c.tc : Thread Cert.FrontOdd.nD Cert.FrontOdd.τ).loc Cert.FrontOdd.main_arg0) = m ((c.tc : Thread Cert.FrontOdd.nD Cert.FrontOdd.τ).loc Cert.FrontOdd.main_arg0)
      ∧ r.2.mem ((c.tc : Thread Cert.FrontOdd.nD Cert.FrontOdd.τ).loc Cert.FrontOdd.main_arg1) = m ((c.tc : Thread Cert.FrontOdd.nD Cert.FrontOdd.τ).loc Cert.FrontOdd.main_arg1)
      ∧ r.2.mem ((c.tc : Thread Cert.FrontOdd.nD Cert.FrontOdd.τ).loc Cert.FrontOdd.main_arg2) = m ((c.tc : Thread Cert.FrontOdd.nD Cert.FrontOdd.τ).loc Cert.FrontOdd.main_arg2)
      ∧ r.2.mem ((c.tc : Thread Cert.FrontOdd.nD Cert.FrontOdd.τ).loc Cert.FrontOdd.main_arg3) = m ((c.tc : Thread Cert.FrontOdd.nD Cert.FrontOdd.τ).loc Cert.FrontOdd.main_arg3)
      ∧ r.2.mem ((c.tc : Thread Cert.FrontOdd.nD Cert.FrontOdd.τ).loc Cert.FrontOdd.main_arg4) = m ((c.tc : Thread Cert.FrontOdd.nD Cert.FrontOdd.τ).loc Cert.FrontOdd.main_arg4)
      ∧ r.2.mem ((c.tc : Thread Cert.FrontOdd.nD Cert.FrontOdd.τ).loc Cert.FrontOdd.main_arg5) = m ((c.tc : Thread Cert.FrontOdd.nD Cert.FrontOdd.τ).loc Cert.FrontOdd.main_arg5)
      ∧ r.2.mem ((c.tc : Thread Cert.FrontOdd.nD Cert.FrontOdd.τ).loc Cert.FrontOdd.main_arg6) = m ((c.tc : Thread Cert.FrontOdd.nD Cert.FrontOdd.τ).loc Cert.FrontOdd.main_arg6)
      ∧ r.2.mem ((c.tc : Thread Cert.FrontOdd.nD Cert.FrontOdd.τ).loc Cert.FrontOdd.main_arg7) = m ((c.tc : Thread Cert.FrontOdd.nD Cert.FrontOdd.τ).loc Cert.FrontOdd.main_arg7)
      ∧ r.2.mem ((c.tc : Thread Cert.FrontOdd.nD Cert.FrontOdd.τ).loc Cert.FrontOdd.main_arg8) = m ((c.tc : Thread Cert.FrontOdd.nD Cert.FrontOdd.τ).loc Cert.FrontOdd.main_arg8)
      ∧ r.2.mem ((c.tc : Thread Cert.FrontOdd.nD Cert.FrontOdd.τ).loc Cert.FrontOdd.main_arg9) = m ((c.tc : Thread Cert.FrontOdd.nD Cert.FrontOdd.τ).loc Cert.FrontOdd.main_arg9))
      ∧ r.2.sem = fun _ => 0)

def quiescent_FrontOddIdeal [hFrontOddIdeal : Cert.FrontOddIdeal.Facts] : Prop :=
  ∀ (m : (ℓ : Loc Cert.FrontOddIdeal.nD Cert.FrontOddIdeal.τ Cert.FrontOddIdeal.sig) → Buf (Elt Ideal) ℓ) (g : Dev Cert.FrontOddIdeal.nD → PrngReg), Pre_FrontOddIdeal m →
    θ_run (Cert.FrontOddIdeal.defs (F := Ideal)) (onTc (τ := Cert.FrontOddIdeal.τ) (Cert.FrontOddIdeal.main (F := Ideal))) ⟨m, fun _ => 0, g⟩ (fun r => (∀ c : Dev Cert.FrontOddIdeal.nD,
      r.2.mem ((c.tc : Thread Cert.FrontOddIdeal.nD Cert.FrontOddIdeal.τ).loc Cert.FrontOddIdeal.main_arg0) = m ((c.tc : Thread Cert.FrontOddIdeal.nD Cert.FrontOddIdeal.τ).loc Cert.FrontOddIdeal.main_arg0)
      ∧ r.2.mem ((c.tc : Thread Cert.FrontOddIdeal.nD Cert.FrontOddIdeal.τ).loc Cert.FrontOddIdeal.main_arg1) = m ((c.tc : Thread Cert.FrontOddIdeal.nD Cert.FrontOddIdeal.τ).loc Cert.FrontOddIdeal.main_arg1)
      ∧ r.2.mem ((c.tc : Thread Cert.FrontOddIdeal.nD Cert.FrontOddIdeal.τ).loc Cert.FrontOddIdeal.main_arg2) = m ((c.tc : Thread Cert.FrontOddIdeal.nD Cert.FrontOddIdeal.τ).loc Cert.FrontOddIdeal.main_arg2)
      ∧ r.2.mem ((c.tc : Thread Cert.FrontOddIdeal.nD Cert.FrontOddIdeal.τ).loc Cert.FrontOddIdeal.main_arg3) = m ((c.tc : Thread Cert.FrontOddIdeal.nD Cert.FrontOddIdeal.τ).loc Cert.FrontOddIdeal.main_arg3)
      ∧ r.2.mem ((c.tc : Thread Cert.FrontOddIdeal.nD Cert.FrontOddIdeal.τ).loc Cert.FrontOddIdeal.main_arg4) = m ((c.tc : Thread Cert.FrontOddIdeal.nD Cert.FrontOddIdeal.τ).loc Cert.FrontOddIdeal.main_arg4)
      ∧ r.2.mem ((c.tc : Thread Cert.FrontOddIdeal.nD Cert.FrontOddIdeal.τ).loc Cert.FrontOddIdeal.main_arg5) = m ((c.tc : Thread Cert.FrontOddIdeal.nD Cert.FrontOddIdeal.τ).loc Cert.FrontOddIdeal.main_arg5)
      ∧ r.2.mem ((c.tc : Thread Cert.FrontOddIdeal.nD Cert.FrontOddIdeal.τ).loc Cert.FrontOddIdeal.main_arg6) = m ((c.tc : Thread Cert.FrontOddIdeal.nD Cert.FrontOddIdeal.τ).loc Cert.FrontOddIdeal.main_arg6)
      ∧ r.2.mem ((c.tc : Thread Cert.FrontOddIdeal.nD Cert.FrontOddIdeal.τ).loc Cert.FrontOddIdeal.main_arg7) = m ((c.tc : Thread Cert.FrontOddIdeal.nD Cert.FrontOddIdeal.τ).loc Cert.FrontOddIdeal.main_arg7)
      ∧ r.2.mem ((c.tc : Thread Cert.FrontOddIdeal.nD Cert.FrontOddIdeal.τ).loc Cert.FrontOddIdeal.main_arg8) = m ((c.tc : Thread Cert.FrontOddIdeal.nD Cert.FrontOddIdeal.τ).loc Cert.FrontOddIdeal.main_arg8)
      ∧ r.2.mem ((c.tc : Thread Cert.FrontOddIdeal.nD Cert.FrontOddIdeal.τ).loc Cert.FrontOddIdeal.main_arg9) = m ((c.tc : Thread Cert.FrontOddIdeal.nD Cert.FrontOddIdeal.τ).loc Cert.FrontOddIdeal.main_arg9))
      ∧ r.2.sem = fun _ => 0)

def quiescent_FrontOddRefIdeal [hFrontOddRefIdeal : Cert.FrontOddRefIdeal.Facts] : Prop :=
  ∀ (m : (ℓ : Loc Cert.FrontOddRefIdeal.nD Cert.FrontOddRefIdeal.τ Cert.FrontOddRefIdeal.sig) → Buf (Elt Ideal) ℓ) (g : Dev Cert.FrontOddRefIdeal.nD → PrngReg), Pre_FrontOddRefIdeal m →
    θ_run (Cert.FrontOddRefIdeal.defs (F := Ideal)) (onTc (τ := Cert.FrontOddRefIdeal.τ) (Cert.FrontOddRefIdeal.main (F := Ideal))) ⟨m, fun _ => 0, g⟩ (fun r => (∀ c : Dev Cert.FrontOddRefIdeal.nD,
      r.2.mem ((c.tc : Thread Cert.FrontOddRefIdeal.nD Cert.FrontOddRefIdeal.τ).loc Cert.FrontOddRefIdeal.main_arg0) = m ((c.tc : Thread Cert.FrontOddRefIdeal.nD Cert.FrontOddRefIdeal.τ).loc Cert.FrontOddRefIdeal.main_arg0)
      ∧ r.2.mem ((c.tc : Thread Cert.FrontOddRefIdeal.nD Cert.FrontOddRefIdeal.τ).loc Cert.FrontOddRefIdeal.main_arg1) = m ((c.tc : Thread Cert.FrontOddRefIdeal.nD Cert.FrontOddRefIdeal.τ).loc Cert.FrontOddRefIdeal.main_arg1)
      ∧ r.2.mem ((c.tc : Thread Cert.FrontOddRefIdeal.nD Cert.FrontOddRefIdeal.τ).loc Cert.FrontOddRefIdeal.main_arg2) = m ((c.tc : Thread Cert.FrontOddRefIdeal.nD Cert.FrontOddRefIdeal.τ).loc Cert.FrontOddRefIdeal.main_arg2)
      ∧ r.2.mem ((c.tc : Thread Cert.FrontOddRefIdeal.nD Cert.FrontOddRefIdeal.τ).loc Cert.FrontOddRefIdeal.main_arg3) = m ((c.tc : Thread Cert.FrontOddRefIdeal.nD Cert.FrontOddRefIdeal.τ).loc Cert.FrontOddRefIdeal.main_arg3)
      ∧ r.2.mem ((c.tc : Thread Cert.FrontOddRefIdeal.nD Cert.FrontOddRefIdeal.τ).loc Cert.FrontOddRefIdeal.main_arg4) = m ((c.tc : Thread Cert.FrontOddRefIdeal.nD Cert.FrontOddRefIdeal.τ).loc Cert.FrontOddRefIdeal.main_arg4)
      ∧ r.2.mem ((c.tc : Thread Cert.FrontOddRefIdeal.nD Cert.FrontOddRefIdeal.τ).loc Cert.FrontOddRefIdeal.main_arg5) = m ((c.tc : Thread Cert.FrontOddRefIdeal.nD Cert.FrontOddRefIdeal.τ).loc Cert.FrontOddRefIdeal.main_arg5)
      ∧ r.2.mem ((c.tc : Thread Cert.FrontOddRefIdeal.nD Cert.FrontOddRefIdeal.τ).loc Cert.FrontOddRefIdeal.main_arg6) = m ((c.tc : Thread Cert.FrontOddRefIdeal.nD Cert.FrontOddRefIdeal.τ).loc Cert.FrontOddRefIdeal.main_arg6)
      ∧ r.2.mem ((c.tc : Thread Cert.FrontOddRefIdeal.nD Cert.FrontOddRefIdeal.τ).loc Cert.FrontOddRefIdeal.main_arg7) = m ((c.tc : Thread Cert.FrontOddRefIdeal.nD Cert.FrontOddRefIdeal.τ).loc Cert.FrontOddRefIdeal.main_arg7)
      ∧ r.2.mem ((c.tc : Thread Cert.FrontOddRefIdeal.nD Cert.FrontOddRefIdeal.τ).loc Cert.FrontOddRefIdeal.main_arg8) = m ((c.tc : Thread Cert.FrontOddRefIdeal.nD Cert.FrontOddRefIdeal.τ).loc Cert.FrontOddRefIdeal.main_arg8)
      ∧ r.2.mem ((c.tc : Thread Cert.FrontOddRefIdeal.nD Cert.FrontOddRefIdeal.τ).loc Cert.FrontOddRefIdeal.main_arg9) = m ((c.tc : Thread Cert.FrontOddRefIdeal.nD Cert.FrontOddRefIdeal.τ).loc Cert.FrontOddRefIdeal.main_arg9))
      ∧ r.2.sem = fun _ => 0)

def quiescent_PostCtx [hPostCtx : Cert.PostCtx.Facts] : Prop :=
  ∀ (m : (ℓ : Loc Cert.PostCtx.nD Cert.PostCtx.τ Cert.PostCtx.sig) → Buf (Elt Bits) ℓ) (g : Dev Cert.PostCtx.nD → PrngReg), Pre_PostCtx m →
    θ_run (Cert.PostCtx.defs (F := Bits)) (onTc (τ := Cert.PostCtx.τ) (Cert.PostCtx.main (F := Bits))) ⟨m, fun _ => 0, g⟩ (fun r => (∀ c : Dev Cert.PostCtx.nD,
      r.2.mem ((c.tc : Thread Cert.PostCtx.nD Cert.PostCtx.τ).loc Cert.PostCtx.main_arg0) = m ((c.tc : Thread Cert.PostCtx.nD Cert.PostCtx.τ).loc Cert.PostCtx.main_arg0)
      ∧ r.2.mem ((c.tc : Thread Cert.PostCtx.nD Cert.PostCtx.τ).loc Cert.PostCtx.main_arg1) = m ((c.tc : Thread Cert.PostCtx.nD Cert.PostCtx.τ).loc Cert.PostCtx.main_arg1)
      ∧ r.2.mem ((c.tc : Thread Cert.PostCtx.nD Cert.PostCtx.τ).loc Cert.PostCtx.main_arg2) = m ((c.tc : Thread Cert.PostCtx.nD Cert.PostCtx.τ).loc Cert.PostCtx.main_arg2)
      ∧ r.2.mem ((c.tc : Thread Cert.PostCtx.nD Cert.PostCtx.τ).loc Cert.PostCtx.main_arg3) = m ((c.tc : Thread Cert.PostCtx.nD Cert.PostCtx.τ).loc Cert.PostCtx.main_arg3)
      ∧ r.2.mem ((c.tc : Thread Cert.PostCtx.nD Cert.PostCtx.τ).loc Cert.PostCtx.main_arg4) = m ((c.tc : Thread Cert.PostCtx.nD Cert.PostCtx.τ).loc Cert.PostCtx.main_arg4)
      ∧ r.2.mem ((c.tc : Thread Cert.PostCtx.nD Cert.PostCtx.τ).loc Cert.PostCtx.main_arg5) = m ((c.tc : Thread Cert.PostCtx.nD Cert.PostCtx.τ).loc Cert.PostCtx.main_arg5)
      ∧ r.2.mem ((c.tc : Thread Cert.PostCtx.nD Cert.PostCtx.τ).loc Cert.PostCtx.main_arg6) = m ((c.tc : Thread Cert.PostCtx.nD Cert.PostCtx.τ).loc Cert.PostCtx.main_arg6)
      ∧ r.2.mem ((c.tc : Thread Cert.PostCtx.nD Cert.PostCtx.τ).loc Cert.PostCtx.main_arg7) = m ((c.tc : Thread Cert.PostCtx.nD Cert.PostCtx.τ).loc Cert.PostCtx.main_arg7)
      ∧ r.2.mem ((c.tc : Thread Cert.PostCtx.nD Cert.PostCtx.τ).loc Cert.PostCtx.main_arg8) = m ((c.tc : Thread Cert.PostCtx.nD Cert.PostCtx.τ).loc Cert.PostCtx.main_arg8))
      ∧ r.2.sem = fun _ => 0)

def quiescent_PostCtxIdeal [hPostCtxIdeal : Cert.PostCtxIdeal.Facts] : Prop :=
  ∀ (m : (ℓ : Loc Cert.PostCtxIdeal.nD Cert.PostCtxIdeal.τ Cert.PostCtxIdeal.sig) → Buf (Elt Ideal) ℓ) (g : Dev Cert.PostCtxIdeal.nD → PrngReg), Pre_PostCtxIdeal m →
    θ_run (Cert.PostCtxIdeal.defs (F := Ideal)) (onTc (τ := Cert.PostCtxIdeal.τ) (Cert.PostCtxIdeal.main (F := Ideal))) ⟨m, fun _ => 0, g⟩ (fun r => (∀ c : Dev Cert.PostCtxIdeal.nD,
      r.2.mem ((c.tc : Thread Cert.PostCtxIdeal.nD Cert.PostCtxIdeal.τ).loc Cert.PostCtxIdeal.main_arg0) = m ((c.tc : Thread Cert.PostCtxIdeal.nD Cert.PostCtxIdeal.τ).loc Cert.PostCtxIdeal.main_arg0)
      ∧ r.2.mem ((c.tc : Thread Cert.PostCtxIdeal.nD Cert.PostCtxIdeal.τ).loc Cert.PostCtxIdeal.main_arg1) = m ((c.tc : Thread Cert.PostCtxIdeal.nD Cert.PostCtxIdeal.τ).loc Cert.PostCtxIdeal.main_arg1)
      ∧ r.2.mem ((c.tc : Thread Cert.PostCtxIdeal.nD Cert.PostCtxIdeal.τ).loc Cert.PostCtxIdeal.main_arg2) = m ((c.tc : Thread Cert.PostCtxIdeal.nD Cert.PostCtxIdeal.τ).loc Cert.PostCtxIdeal.main_arg2)
      ∧ r.2.mem ((c.tc : Thread Cert.PostCtxIdeal.nD Cert.PostCtxIdeal.τ).loc Cert.PostCtxIdeal.main_arg3) = m ((c.tc : Thread Cert.PostCtxIdeal.nD Cert.PostCtxIdeal.τ).loc Cert.PostCtxIdeal.main_arg3)
      ∧ r.2.mem ((c.tc : Thread Cert.PostCtxIdeal.nD Cert.PostCtxIdeal.τ).loc Cert.PostCtxIdeal.main_arg4) = m ((c.tc : Thread Cert.PostCtxIdeal.nD Cert.PostCtxIdeal.τ).loc Cert.PostCtxIdeal.main_arg4)
      ∧ r.2.mem ((c.tc : Thread Cert.PostCtxIdeal.nD Cert.PostCtxIdeal.τ).loc Cert.PostCtxIdeal.main_arg5) = m ((c.tc : Thread Cert.PostCtxIdeal.nD Cert.PostCtxIdeal.τ).loc Cert.PostCtxIdeal.main_arg5)
      ∧ r.2.mem ((c.tc : Thread Cert.PostCtxIdeal.nD Cert.PostCtxIdeal.τ).loc Cert.PostCtxIdeal.main_arg6) = m ((c.tc : Thread Cert.PostCtxIdeal.nD Cert.PostCtxIdeal.τ).loc Cert.PostCtxIdeal.main_arg6)
      ∧ r.2.mem ((c.tc : Thread Cert.PostCtxIdeal.nD Cert.PostCtxIdeal.τ).loc Cert.PostCtxIdeal.main_arg7) = m ((c.tc : Thread Cert.PostCtxIdeal.nD Cert.PostCtxIdeal.τ).loc Cert.PostCtxIdeal.main_arg7)
      ∧ r.2.mem ((c.tc : Thread Cert.PostCtxIdeal.nD Cert.PostCtxIdeal.τ).loc Cert.PostCtxIdeal.main_arg8) = m ((c.tc : Thread Cert.PostCtxIdeal.nD Cert.PostCtxIdeal.τ).loc Cert.PostCtxIdeal.main_arg8))
      ∧ r.2.sem = fun _ => 0)

def quiescent_PostCtxRefIdeal [hPostCtxRefIdeal : Cert.PostCtxRefIdeal.Facts] : Prop :=
  ∀ (m : (ℓ : Loc Cert.PostCtxRefIdeal.nD Cert.PostCtxRefIdeal.τ Cert.PostCtxRefIdeal.sig) → Buf (Elt Ideal) ℓ) (g : Dev Cert.PostCtxRefIdeal.nD → PrngReg), Pre_PostCtxRefIdeal m →
    θ_run (Cert.PostCtxRefIdeal.defs (F := Ideal)) (onTc (τ := Cert.PostCtxRefIdeal.τ) (Cert.PostCtxRefIdeal.main (F := Ideal))) ⟨m, fun _ => 0, g⟩ (fun r => (∀ c : Dev Cert.PostCtxRefIdeal.nD,
      r.2.mem ((c.tc : Thread Cert.PostCtxRefIdeal.nD Cert.PostCtxRefIdeal.τ).loc Cert.PostCtxRefIdeal.main_arg0) = m ((c.tc : Thread Cert.PostCtxRefIdeal.nD Cert.PostCtxRefIdeal.τ).loc Cert.PostCtxRefIdeal.main_arg0)
      ∧ r.2.mem ((c.tc : Thread Cert.PostCtxRefIdeal.nD Cert.PostCtxRefIdeal.τ).loc Cert.PostCtxRefIdeal.main_arg1) = m ((c.tc : Thread Cert.PostCtxRefIdeal.nD Cert.PostCtxRefIdeal.τ).loc Cert.PostCtxRefIdeal.main_arg1)
      ∧ r.2.mem ((c.tc : Thread Cert.PostCtxRefIdeal.nD Cert.PostCtxRefIdeal.τ).loc Cert.PostCtxRefIdeal.main_arg2) = m ((c.tc : Thread Cert.PostCtxRefIdeal.nD Cert.PostCtxRefIdeal.τ).loc Cert.PostCtxRefIdeal.main_arg2)
      ∧ r.2.mem ((c.tc : Thread Cert.PostCtxRefIdeal.nD Cert.PostCtxRefIdeal.τ).loc Cert.PostCtxRefIdeal.main_arg3) = m ((c.tc : Thread Cert.PostCtxRefIdeal.nD Cert.PostCtxRefIdeal.τ).loc Cert.PostCtxRefIdeal.main_arg3)
      ∧ r.2.mem ((c.tc : Thread Cert.PostCtxRefIdeal.nD Cert.PostCtxRefIdeal.τ).loc Cert.PostCtxRefIdeal.main_arg4) = m ((c.tc : Thread Cert.PostCtxRefIdeal.nD Cert.PostCtxRefIdeal.τ).loc Cert.PostCtxRefIdeal.main_arg4)
      ∧ r.2.mem ((c.tc : Thread Cert.PostCtxRefIdeal.nD Cert.PostCtxRefIdeal.τ).loc Cert.PostCtxRefIdeal.main_arg5) = m ((c.tc : Thread Cert.PostCtxRefIdeal.nD Cert.PostCtxRefIdeal.τ).loc Cert.PostCtxRefIdeal.main_arg5)
      ∧ r.2.mem ((c.tc : Thread Cert.PostCtxRefIdeal.nD Cert.PostCtxRefIdeal.τ).loc Cert.PostCtxRefIdeal.main_arg6) = m ((c.tc : Thread Cert.PostCtxRefIdeal.nD Cert.PostCtxRefIdeal.τ).loc Cert.PostCtxRefIdeal.main_arg6)
      ∧ r.2.mem ((c.tc : Thread Cert.PostCtxRefIdeal.nD Cert.PostCtxRefIdeal.τ).loc Cert.PostCtxRefIdeal.main_arg7) = m ((c.tc : Thread Cert.PostCtxRefIdeal.nD Cert.PostCtxRefIdeal.τ).loc Cert.PostCtxRefIdeal.main_arg7)
      ∧ r.2.mem ((c.tc : Thread Cert.PostCtxRefIdeal.nD Cert.PostCtxRefIdeal.τ).loc Cert.PostCtxRefIdeal.main_arg8) = m ((c.tc : Thread Cert.PostCtxRefIdeal.nD Cert.PostCtxRefIdeal.τ).loc Cert.PostCtxRefIdeal.main_arg8))
      ∧ r.2.sem = fun _ => 0)

def quiescent_FrontCtx [hFrontCtx : Cert.FrontCtx.Facts] : Prop :=
  ∀ (m : (ℓ : Loc Cert.FrontCtx.nD Cert.FrontCtx.τ Cert.FrontCtx.sig) → Buf (Elt Bits) ℓ) (g : Dev Cert.FrontCtx.nD → PrngReg), Pre_FrontCtx m →
    θ_run (Cert.FrontCtx.defs (F := Bits)) (onTc (τ := Cert.FrontCtx.τ) (Cert.FrontCtx.main (F := Bits))) ⟨m, fun _ => 0, g⟩ (fun r => (∀ c : Dev Cert.FrontCtx.nD,
      r.2.mem ((c.tc : Thread Cert.FrontCtx.nD Cert.FrontCtx.τ).loc Cert.FrontCtx.main_arg0) = m ((c.tc : Thread Cert.FrontCtx.nD Cert.FrontCtx.τ).loc Cert.FrontCtx.main_arg0)
      ∧ r.2.mem ((c.tc : Thread Cert.FrontCtx.nD Cert.FrontCtx.τ).loc Cert.FrontCtx.main_arg1) = m ((c.tc : Thread Cert.FrontCtx.nD Cert.FrontCtx.τ).loc Cert.FrontCtx.main_arg1)
      ∧ r.2.mem ((c.tc : Thread Cert.FrontCtx.nD Cert.FrontCtx.τ).loc Cert.FrontCtx.main_arg2) = m ((c.tc : Thread Cert.FrontCtx.nD Cert.FrontCtx.τ).loc Cert.FrontCtx.main_arg2))
      ∧ r.2.sem = fun _ => 0)

def quiescent_FrontCtxIdeal [hFrontCtxIdeal : Cert.FrontCtxIdeal.Facts] : Prop :=
  ∀ (m : (ℓ : Loc Cert.FrontCtxIdeal.nD Cert.FrontCtxIdeal.τ Cert.FrontCtxIdeal.sig) → Buf (Elt Ideal) ℓ) (g : Dev Cert.FrontCtxIdeal.nD → PrngReg), Pre_FrontCtxIdeal m →
    θ_run (Cert.FrontCtxIdeal.defs (F := Ideal)) (onTc (τ := Cert.FrontCtxIdeal.τ) (Cert.FrontCtxIdeal.main (F := Ideal))) ⟨m, fun _ => 0, g⟩ (fun r => (∀ c : Dev Cert.FrontCtxIdeal.nD,
      r.2.mem ((c.tc : Thread Cert.FrontCtxIdeal.nD Cert.FrontCtxIdeal.τ).loc Cert.FrontCtxIdeal.main_arg0) = m ((c.tc : Thread Cert.FrontCtxIdeal.nD Cert.FrontCtxIdeal.τ).loc Cert.FrontCtxIdeal.main_arg0)
      ∧ r.2.mem ((c.tc : Thread Cert.FrontCtxIdeal.nD Cert.FrontCtxIdeal.τ).loc Cert.FrontCtxIdeal.main_arg1) = m ((c.tc : Thread Cert.FrontCtxIdeal.nD Cert.FrontCtxIdeal.τ).loc Cert.FrontCtxIdeal.main_arg1)
      ∧ r.2.mem ((c.tc : Thread Cert.FrontCtxIdeal.nD Cert.FrontCtxIdeal.τ).loc Cert.FrontCtxIdeal.main_arg2) = m ((c.tc : Thread Cert.FrontCtxIdeal.nD Cert.FrontCtxIdeal.τ).loc Cert.FrontCtxIdeal.main_arg2))
      ∧ r.2.sem = fun _ => 0)

def quiescent_FrontCtxRefIdeal [hFrontCtxRefIdeal : Cert.FrontCtxRefIdeal.Facts] : Prop :=
  ∀ (m : (ℓ : Loc Cert.FrontCtxRefIdeal.nD Cert.FrontCtxRefIdeal.τ Cert.FrontCtxRefIdeal.sig) → Buf (Elt Ideal) ℓ) (g : Dev Cert.FrontCtxRefIdeal.nD → PrngReg), Pre_FrontCtxRefIdeal m →
    θ_run (Cert.FrontCtxRefIdeal.defs (F := Ideal)) (onTc (τ := Cert.FrontCtxRefIdeal.τ) (Cert.FrontCtxRefIdeal.main (F := Ideal))) ⟨m, fun _ => 0, g⟩ (fun r => (∀ c : Dev Cert.FrontCtxRefIdeal.nD,
      r.2.mem ((c.tc : Thread Cert.FrontCtxRefIdeal.nD Cert.FrontCtxRefIdeal.τ).loc Cert.FrontCtxRefIdeal.main_arg0) = m ((c.tc : Thread Cert.FrontCtxRefIdeal.nD Cert.FrontCtxRefIdeal.τ).loc Cert.FrontCtxRefIdeal.main_arg0)
      ∧ r.2.mem ((c.tc : Thread Cert.FrontCtxRefIdeal.nD Cert.FrontCtxRefIdeal.τ).loc Cert.FrontCtxRefIdeal.main_arg1) = m ((c.tc : Thread Cert.FrontCtxRefIdeal.nD Cert.FrontCtxRefIdeal.τ).loc Cert.FrontCtxRefIdeal.main_arg1)
      ∧ r.2.mem ((c.tc : Thread Cert.FrontCtxRefIdeal.nD Cert.FrontCtxRefIdeal.τ).loc Cert.FrontCtxRefIdeal.main_arg2) = m ((c.tc : Thread Cert.FrontCtxRefIdeal.nD Cert.FrontCtxRefIdeal.τ).loc Cert.FrontCtxRefIdeal.main_arg2))
      ∧ r.2.sem = fun _ => 0)

def quiescent_AttnCtx [hAttnCtx : Cert.AttnCtx.Facts] : Prop :=
  ∀ (m : (ℓ : Loc Cert.AttnCtx.nD Cert.AttnCtx.τ Cert.AttnCtx.sig) → Buf (Elt Bits) ℓ) (g : Dev Cert.AttnCtx.nD → PrngReg), Pre_AttnCtx m →
    θ_run (Cert.AttnCtx.defs (F := Bits)) (onTc (τ := Cert.AttnCtx.τ) (Cert.AttnCtx.main (F := Bits))) ⟨m, fun _ => 0, g⟩ (fun r => (∀ c : Dev Cert.AttnCtx.nD,
      r.2.mem ((c.tc : Thread Cert.AttnCtx.nD Cert.AttnCtx.τ).loc Cert.AttnCtx.main_arg0) = m ((c.tc : Thread Cert.AttnCtx.nD Cert.AttnCtx.τ).loc Cert.AttnCtx.main_arg0))
      ∧ r.2.sem = fun _ => 0)

def quiescent_AttnCtxIdeal [hAttnCtxIdeal : Cert.AttnCtxIdeal.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg), Pre_AttnCtxIdeal m →
    θ_run (Cert.AttnCtxIdeal.defs (F := Ideal)) (onTc (τ := Cert.AttnCtxIdeal.τ) (Cert.AttnCtxIdeal.main (F := Ideal))) ⟨m, fun _ => 0, g⟩ (fun r => (∀ c : Dev Cert.AttnCtxIdeal.nD,
      r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0))
      ∧ r.2.sem = fun _ => 0)

def quiescent_AttnCtxIdeal_pre_finite_ctx [hAttnCtxIdeal : Cert.AttnCtxIdeal.Facts] [hPre_finite_ctx : Cert.Pre_finite_ctx.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg), Pre_AttnCtxIdeal_finite_ctx m →
    θ_run (Cert.AttnCtxIdeal.defs (F := Ideal)) (onTc (τ := Cert.AttnCtxIdeal.τ) (Cert.AttnCtxIdeal.main (F := Ideal))) ⟨m, fun _ => 0, g⟩ (fun r => (∀ c : Dev Cert.AttnCtxIdeal.nD,
      r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0))
      ∧ r.2.sem = fun _ => 0)

def quiescent_AttnCtxRefIdeal [hAttnCtxRefIdeal : Cert.AttnCtxRefIdeal.Facts] : Prop :=
  ∀ (m : (ℓ : Loc Cert.AttnCtxRefIdeal.nD Cert.AttnCtxRefIdeal.τ Cert.AttnCtxRefIdeal.sig) → Buf (Elt Ideal) ℓ) (g : Dev Cert.AttnCtxRefIdeal.nD → PrngReg), Pre_AttnCtxRefIdeal m →
    θ_run (Cert.AttnCtxRefIdeal.defs (F := Ideal)) (onTc (τ := Cert.AttnCtxRefIdeal.τ) (Cert.AttnCtxRefIdeal.main (F := Ideal))) ⟨m, fun _ => 0, g⟩ (fun r => (∀ c : Dev Cert.AttnCtxRefIdeal.nD,
      r.2.mem ((c.tc : Thread Cert.AttnCtxRefIdeal.nD Cert.AttnCtxRefIdeal.τ).loc Cert.AttnCtxRefIdeal.main_arg0) = m ((c.tc : Thread Cert.AttnCtxRefIdeal.nD Cert.AttnCtxRefIdeal.τ).loc Cert.AttnCtxRefIdeal.main_arg0))
      ∧ r.2.sem = fun _ => 0)

def quiescent_AttnCtxRefIdeal_pre_finite_ctx [hAttnCtxRefIdeal : Cert.AttnCtxRefIdeal.Facts] [hPre_finite_ctx : Cert.Pre_finite_ctx.Facts] : Prop :=
  ∀ (m : (ℓ : Loc Cert.AttnCtxRefIdeal.nD Cert.AttnCtxRefIdeal.τ Cert.AttnCtxRefIdeal.sig) → Buf (Elt Ideal) ℓ) (g : Dev Cert.AttnCtxRefIdeal.nD → PrngReg), Pre_AttnCtxRefIdeal_finite_ctx m →
    θ_run (Cert.AttnCtxRefIdeal.defs (F := Ideal)) (onTc (τ := Cert.AttnCtxRefIdeal.τ) (Cert.AttnCtxRefIdeal.main (F := Ideal))) ⟨m, fun _ => 0, g⟩ (fun r => (∀ c : Dev Cert.AttnCtxRefIdeal.nD,
      r.2.mem ((c.tc : Thread Cert.AttnCtxRefIdeal.nD Cert.AttnCtxRefIdeal.τ).loc Cert.AttnCtxRefIdeal.main_arg0) = m ((c.tc : Thread Cert.AttnCtxRefIdeal.nD Cert.AttnCtxRefIdeal.τ).loc Cert.AttnCtxRefIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_PostOdd_PostOddIdeal : Prop :=
  True

def algebraic_PostOddIdeal_PostOddRefIdeal [hPostOddIdeal : Cert.PostOddIdeal.Facts] [hPostOddRefIdeal : Cert.PostOddRefIdeal.Facts] : Prop :=
  ∀ (m : (ℓ : Loc Cert.PostOddIdeal.nD Cert.PostOddIdeal.τ Cert.PostOddIdeal.sig) → Buf (Elt Ideal) ℓ) (g : Dev Cert.PostOddIdeal.nD → PrngReg)
    (m' : (ℓ : Loc Cert.PostOddRefIdeal.nD Cert.PostOddRefIdeal.τ Cert.PostOddRefIdeal.sig) → Buf (Elt Ideal) ℓ) (g' : Dev Cert.PostOddRefIdeal.nD → PrngReg), Pre_PostOddIdeal m →
    (∀ c : Dev Cert.PostOddIdeal.nD,
      m' ((c.tc : Thread Cert.PostOddRefIdeal.nD Cert.PostOddRefIdeal.τ).loc Cert.PostOddRefIdeal.main_arg0) = m ((c.tc : Thread Cert.PostOddIdeal.nD Cert.PostOddIdeal.τ).loc Cert.PostOddIdeal.main_arg0)
      ∧ m' ((c.tc : Thread Cert.PostOddRefIdeal.nD Cert.PostOddRefIdeal.τ).loc Cert.PostOddRefIdeal.main_arg1) = m ((c.tc : Thread Cert.PostOddIdeal.nD Cert.PostOddIdeal.τ).loc Cert.PostOddIdeal.main_arg1)
      ∧ m' ((c.tc : Thread Cert.PostOddRefIdeal.nD Cert.PostOddRefIdeal.τ).loc Cert.PostOddRefIdeal.main_arg2) = m ((c.tc : Thread Cert.PostOddIdeal.nD Cert.PostOddIdeal.τ).loc Cert.PostOddIdeal.main_arg2)
      ∧ m' ((c.tc : Thread Cert.PostOddRefIdeal.nD Cert.PostOddRefIdeal.τ).loc Cert.PostOddRefIdeal.main_arg3) = m ((c.tc : Thread Cert.PostOddIdeal.nD Cert.PostOddIdeal.τ).loc Cert.PostOddIdeal.main_arg3)
      ∧ m' ((c.tc : Thread Cert.PostOddRefIdeal.nD Cert.PostOddRefIdeal.τ).loc Cert.PostOddRefIdeal.main_arg4) = m ((c.tc : Thread Cert.PostOddIdeal.nD Cert.PostOddIdeal.τ).loc Cert.PostOddIdeal.main_arg4)
      ∧ m' ((c.tc : Thread Cert.PostOddRefIdeal.nD Cert.PostOddRefIdeal.τ).loc Cert.PostOddRefIdeal.main_arg5) = m ((c.tc : Thread Cert.PostOddIdeal.nD Cert.PostOddIdeal.τ).loc Cert.PostOddIdeal.main_arg5)
      ∧ m' ((c.tc : Thread Cert.PostOddRefIdeal.nD Cert.PostOddRefIdeal.τ).loc Cert.PostOddRefIdeal.main_arg6) = m ((c.tc : Thread Cert.PostOddIdeal.nD Cert.PostOddIdeal.τ).loc Cert.PostOddIdeal.main_arg6)
      ∧ m' ((c.tc : Thread Cert.PostOddRefIdeal.nD Cert.PostOddRefIdeal.τ).loc Cert.PostOddRefIdeal.main_arg7) = m ((c.tc : Thread Cert.PostOddIdeal.nD Cert.PostOddIdeal.τ).loc Cert.PostOddIdeal.main_arg7)
      ∧ m' ((c.tc : Thread Cert.PostOddRefIdeal.nD Cert.PostOddRefIdeal.τ).loc Cert.PostOddRefIdeal.main_arg8) = m ((c.tc : Thread Cert.PostOddIdeal.nD Cert.PostOddIdeal.τ).loc Cert.PostOddIdeal.main_arg8)) →
    ∃ (v0 : (c : Dev Cert.PostOddIdeal.nD) → Buf (Elt Ideal) ((c.tc : Thread Cert.PostOddIdeal.nD Cert.PostOddIdeal.τ).loc Cert.PostOddIdeal.main_v13)),
      θ_run (Cert.PostOddIdeal.defs (F := Ideal)) (onTc (τ := Cert.PostOddIdeal.τ) (Cert.PostOddIdeal.main (F := Ideal))) ⟨m, fun _ => 0, g⟩ (fun r => ∀ c : Dev Cert.PostOddIdeal.nD,
          r.2.mem ((c.tc : Thread Cert.PostOddIdeal.nD Cert.PostOddIdeal.τ).loc Cert.PostOddIdeal.main_v13) = v0 c
          ∧ r.2.mem ((c.tc : Thread Cert.PostOddIdeal.nD Cert.PostOddIdeal.τ).loc Cert.PostOddIdeal.main_arg0) = m ((c.tc : Thread Cert.PostOddIdeal.nD Cert.PostOddIdeal.τ).loc Cert.PostOddIdeal.main_arg0)
          ∧ r.2.mem ((c.tc : Thread Cert.PostOddIdeal.nD Cert.PostOddIdeal.τ).loc Cert.PostOddIdeal.main_arg1) = m ((c.tc : Thread Cert.PostOddIdeal.nD Cert.PostOddIdeal.τ).loc Cert.PostOddIdeal.main_arg1)
          ∧ r.2.mem ((c.tc : Thread Cert.PostOddIdeal.nD Cert.PostOddIdeal.τ).loc Cert.PostOddIdeal.main_arg2) = m ((c.tc : Thread Cert.PostOddIdeal.nD Cert.PostOddIdeal.τ).loc Cert.PostOddIdeal.main_arg2)
          ∧ r.2.mem ((c.tc : Thread Cert.PostOddIdeal.nD Cert.PostOddIdeal.τ).loc Cert.PostOddIdeal.main_arg3) = m ((c.tc : Thread Cert.PostOddIdeal.nD Cert.PostOddIdeal.τ).loc Cert.PostOddIdeal.main_arg3)
          ∧ r.2.mem ((c.tc : Thread Cert.PostOddIdeal.nD Cert.PostOddIdeal.τ).loc Cert.PostOddIdeal.main_arg4) = m ((c.tc : Thread Cert.PostOddIdeal.nD Cert.PostOddIdeal.τ).loc Cert.PostOddIdeal.main_arg4)
          ∧ r.2.mem ((c.tc : Thread Cert.PostOddIdeal.nD Cert.PostOddIdeal.τ).loc Cert.PostOddIdeal.main_arg5) = m ((c.tc : Thread Cert.PostOddIdeal.nD Cert.PostOddIdeal.τ).loc Cert.PostOddIdeal.main_arg5)
          ∧ r.2.mem ((c.tc : Thread Cert.PostOddIdeal.nD Cert.PostOddIdeal.τ).loc Cert.PostOddIdeal.main_arg6) = m ((c.tc : Thread Cert.PostOddIdeal.nD Cert.PostOddIdeal.τ).loc Cert.PostOddIdeal.main_arg6)
          ∧ r.2.mem ((c.tc : Thread Cert.PostOddIdeal.nD Cert.PostOddIdeal.τ).loc Cert.PostOddIdeal.main_arg7) = m ((c.tc : Thread Cert.PostOddIdeal.nD Cert.PostOddIdeal.τ).loc Cert.PostOddIdeal.main_arg7)
          ∧ r.2.mem ((c.tc : Thread Cert.PostOddIdeal.nD Cert.PostOddIdeal.τ).loc Cert.PostOddIdeal.main_arg8) = m ((c.tc : Thread Cert.PostOddIdeal.nD Cert.PostOddIdeal.τ).loc Cert.PostOddIdeal.main_arg8))
      ∧ θ_run (Cert.PostOddRefIdeal.defs (F := Ideal)) (onTc (τ := Cert.PostOddRefIdeal.τ) (Cert.PostOddRefIdeal.main (F := Ideal))) ⟨m', fun _ => 0, g'⟩ (fun r => ∀ c : Dev Cert.PostOddRefIdeal.nD,
          r.2.mem ((c.tc : Thread Cert.PostOddRefIdeal.nD Cert.PostOddRefIdeal.τ).loc Cert.PostOddRefIdeal.main_v107) = v0 c
          ∧ r.2.mem ((c.tc : Thread Cert.PostOddRefIdeal.nD Cert.PostOddRefIdeal.τ).loc Cert.PostOddRefIdeal.main_arg0) = m' ((c.tc : Thread Cert.PostOddRefIdeal.nD Cert.PostOddRefIdeal.τ).loc Cert.PostOddRefIdeal.main_arg0)
          ∧ r.2.mem ((c.tc : Thread Cert.PostOddRefIdeal.nD Cert.PostOddRefIdeal.τ).loc Cert.PostOddRefIdeal.main_arg1) = m' ((c.tc : Thread Cert.PostOddRefIdeal.nD Cert.PostOddRefIdeal.τ).loc Cert.PostOddRefIdeal.main_arg1)
          ∧ r.2.mem ((c.tc : Thread Cert.PostOddRefIdeal.nD Cert.PostOddRefIdeal.τ).loc Cert.PostOddRefIdeal.main_arg2) = m' ((c.tc : Thread Cert.PostOddRefIdeal.nD Cert.PostOddRefIdeal.τ).loc Cert.PostOddRefIdeal.main_arg2)
          ∧ r.2.mem ((c.tc : Thread Cert.PostOddRefIdeal.nD Cert.PostOddRefIdeal.τ).loc Cert.PostOddRefIdeal.main_arg3) = m' ((c.tc : Thread Cert.PostOddRefIdeal.nD Cert.PostOddRefIdeal.τ).loc Cert.PostOddRefIdeal.main_arg3)
          ∧ r.2.mem ((c.tc : Thread Cert.PostOddRefIdeal.nD Cert.PostOddRefIdeal.τ).loc Cert.PostOddRefIdeal.main_arg4) = m' ((c.tc : Thread Cert.PostOddRefIdeal.nD Cert.PostOddRefIdeal.τ).loc Cert.PostOddRefIdeal.main_arg4)
          ∧ r.2.mem ((c.tc : Thread Cert.PostOddRefIdeal.nD Cert.PostOddRefIdeal.τ).loc Cert.PostOddRefIdeal.main_arg5) = m' ((c.tc : Thread Cert.PostOddRefIdeal.nD Cert.PostOddRefIdeal.τ).loc Cert.PostOddRefIdeal.main_arg5)
          ∧ r.2.mem ((c.tc : Thread Cert.PostOddRefIdeal.nD Cert.PostOddRefIdeal.τ).loc Cert.PostOddRefIdeal.main_arg6) = m' ((c.tc : Thread Cert.PostOddRefIdeal.nD Cert.PostOddRefIdeal.τ).loc Cert.PostOddRefIdeal.main_arg6)
          ∧ r.2.mem ((c.tc : Thread Cert.PostOddRefIdeal.nD Cert.PostOddRefIdeal.τ).loc Cert.PostOddRefIdeal.main_arg7) = m' ((c.tc : Thread Cert.PostOddRefIdeal.nD Cert.PostOddRefIdeal.τ).loc Cert.PostOddRefIdeal.main_arg7)
          ∧ r.2.mem ((c.tc : Thread Cert.PostOddRefIdeal.nD Cert.PostOddRefIdeal.τ).loc Cert.PostOddRefIdeal.main_arg8) = m' ((c.tc : Thread Cert.PostOddRefIdeal.nD Cert.PostOddRefIdeal.τ).loc Cert.PostOddRefIdeal.main_arg8))

def preserves_PostEven_PostEvenIdeal : Prop :=
  True

def algebraic_PostEvenIdeal_PostEvenRefIdeal [hPostEvenIdeal : Cert.PostEvenIdeal.Facts] [hPostEvenRefIdeal : Cert.PostEvenRefIdeal.Facts] : Prop :=
  ∀ (m : (ℓ : Loc Cert.PostEvenIdeal.nD Cert.PostEvenIdeal.τ Cert.PostEvenIdeal.sig) → Buf (Elt Ideal) ℓ) (g : Dev Cert.PostEvenIdeal.nD → PrngReg)
    (m' : (ℓ : Loc Cert.PostEvenRefIdeal.nD Cert.PostEvenRefIdeal.τ Cert.PostEvenRefIdeal.sig) → Buf (Elt Ideal) ℓ) (g' : Dev Cert.PostEvenRefIdeal.nD → PrngReg), Pre_PostEvenIdeal m →
    (∀ c : Dev Cert.PostEvenIdeal.nD,
      m' ((c.tc : Thread Cert.PostEvenRefIdeal.nD Cert.PostEvenRefIdeal.τ).loc Cert.PostEvenRefIdeal.main_arg0) = m ((c.tc : Thread Cert.PostEvenIdeal.nD Cert.PostEvenIdeal.τ).loc Cert.PostEvenIdeal.main_arg0)
      ∧ m' ((c.tc : Thread Cert.PostEvenRefIdeal.nD Cert.PostEvenRefIdeal.τ).loc Cert.PostEvenRefIdeal.main_arg1) = m ((c.tc : Thread Cert.PostEvenIdeal.nD Cert.PostEvenIdeal.τ).loc Cert.PostEvenIdeal.main_arg1)
      ∧ m' ((c.tc : Thread Cert.PostEvenRefIdeal.nD Cert.PostEvenRefIdeal.τ).loc Cert.PostEvenRefIdeal.main_arg2) = m ((c.tc : Thread Cert.PostEvenIdeal.nD Cert.PostEvenIdeal.τ).loc Cert.PostEvenIdeal.main_arg2)
      ∧ m' ((c.tc : Thread Cert.PostEvenRefIdeal.nD Cert.PostEvenRefIdeal.τ).loc Cert.PostEvenRefIdeal.main_arg3) = m ((c.tc : Thread Cert.PostEvenIdeal.nD Cert.PostEvenIdeal.τ).loc Cert.PostEvenIdeal.main_arg3)
      ∧ m' ((c.tc : Thread Cert.PostEvenRefIdeal.nD Cert.PostEvenRefIdeal.τ).loc Cert.PostEvenRefIdeal.main_arg4) = m ((c.tc : Thread Cert.PostEvenIdeal.nD Cert.PostEvenIdeal.τ).loc Cert.PostEvenIdeal.main_arg4)
      ∧ m' ((c.tc : Thread Cert.PostEvenRefIdeal.nD Cert.PostEvenRefIdeal.τ).loc Cert.PostEvenRefIdeal.main_arg5) = m ((c.tc : Thread Cert.PostEvenIdeal.nD Cert.PostEvenIdeal.τ).loc Cert.PostEvenIdeal.main_arg5)
      ∧ m' ((c.tc : Thread Cert.PostEvenRefIdeal.nD Cert.PostEvenRefIdeal.τ).loc Cert.PostEvenRefIdeal.main_arg6) = m ((c.tc : Thread Cert.PostEvenIdeal.nD Cert.PostEvenIdeal.τ).loc Cert.PostEvenIdeal.main_arg6)
      ∧ m' ((c.tc : Thread Cert.PostEvenRefIdeal.nD Cert.PostEvenRefIdeal.τ).loc Cert.PostEvenRefIdeal.main_arg7) = m ((c.tc : Thread Cert.PostEvenIdeal.nD Cert.PostEvenIdeal.τ).loc Cert.PostEvenIdeal.main_arg7)
      ∧ m' ((c.tc : Thread Cert.PostEvenRefIdeal.nD Cert.PostEvenRefIdeal.τ).loc Cert.PostEvenRefIdeal.main_arg8) = m ((c.tc : Thread Cert.PostEvenIdeal.nD Cert.PostEvenIdeal.τ).loc Cert.PostEvenIdeal.main_arg8)) →
    ∃ (v0 : (c : Dev Cert.PostEvenIdeal.nD) → Buf (Elt Ideal) ((c.tc : Thread Cert.PostEvenIdeal.nD Cert.PostEvenIdeal.τ).loc Cert.PostEvenIdeal.main_v6)),
      θ_run (Cert.PostEvenIdeal.defs (F := Ideal)) (onTc (τ := Cert.PostEvenIdeal.τ) (Cert.PostEvenIdeal.main (F := Ideal))) ⟨m, fun _ => 0, g⟩ (fun r => ∀ c : Dev Cert.PostEvenIdeal.nD,
          r.2.mem ((c.tc : Thread Cert.PostEvenIdeal.nD Cert.PostEvenIdeal.τ).loc Cert.PostEvenIdeal.main_v6) = v0 c
          ∧ r.2.mem ((c.tc : Thread Cert.PostEvenIdeal.nD Cert.PostEvenIdeal.τ).loc Cert.PostEvenIdeal.main_arg0) = m ((c.tc : Thread Cert.PostEvenIdeal.nD Cert.PostEvenIdeal.τ).loc Cert.PostEvenIdeal.main_arg0)
          ∧ r.2.mem ((c.tc : Thread Cert.PostEvenIdeal.nD Cert.PostEvenIdeal.τ).loc Cert.PostEvenIdeal.main_arg1) = m ((c.tc : Thread Cert.PostEvenIdeal.nD Cert.PostEvenIdeal.τ).loc Cert.PostEvenIdeal.main_arg1)
          ∧ r.2.mem ((c.tc : Thread Cert.PostEvenIdeal.nD Cert.PostEvenIdeal.τ).loc Cert.PostEvenIdeal.main_arg2) = m ((c.tc : Thread Cert.PostEvenIdeal.nD Cert.PostEvenIdeal.τ).loc Cert.PostEvenIdeal.main_arg2)
          ∧ r.2.mem ((c.tc : Thread Cert.PostEvenIdeal.nD Cert.PostEvenIdeal.τ).loc Cert.PostEvenIdeal.main_arg3) = m ((c.tc : Thread Cert.PostEvenIdeal.nD Cert.PostEvenIdeal.τ).loc Cert.PostEvenIdeal.main_arg3)
          ∧ r.2.mem ((c.tc : Thread Cert.PostEvenIdeal.nD Cert.PostEvenIdeal.τ).loc Cert.PostEvenIdeal.main_arg4) = m ((c.tc : Thread Cert.PostEvenIdeal.nD Cert.PostEvenIdeal.τ).loc Cert.PostEvenIdeal.main_arg4)
          ∧ r.2.mem ((c.tc : Thread Cert.PostEvenIdeal.nD Cert.PostEvenIdeal.τ).loc Cert.PostEvenIdeal.main_arg5) = m ((c.tc : Thread Cert.PostEvenIdeal.nD Cert.PostEvenIdeal.τ).loc Cert.PostEvenIdeal.main_arg5)
          ∧ r.2.mem ((c.tc : Thread Cert.PostEvenIdeal.nD Cert.PostEvenIdeal.τ).loc Cert.PostEvenIdeal.main_arg6) = m ((c.tc : Thread Cert.PostEvenIdeal.nD Cert.PostEvenIdeal.τ).loc Cert.PostEvenIdeal.main_arg6)
          ∧ r.2.mem ((c.tc : Thread Cert.PostEvenIdeal.nD Cert.PostEvenIdeal.τ).loc Cert.PostEvenIdeal.main_arg7) = m ((c.tc : Thread Cert.PostEvenIdeal.nD Cert.PostEvenIdeal.τ).loc Cert.PostEvenIdeal.main_arg7)
          ∧ r.2.mem ((c.tc : Thread Cert.PostEvenIdeal.nD Cert.PostEvenIdeal.τ).loc Cert.PostEvenIdeal.main_arg8) = m ((c.tc : Thread Cert.PostEvenIdeal.nD Cert.PostEvenIdeal.τ).loc Cert.PostEvenIdeal.main_arg8))
      ∧ θ_run (Cert.PostEvenRefIdeal.defs (F := Ideal)) (onTc (τ := Cert.PostEvenRefIdeal.τ) (Cert.PostEvenRefIdeal.main (F := Ideal))) ⟨m', fun _ => 0, g'⟩ (fun r => ∀ c : Dev Cert.PostEvenRefIdeal.nD,
          r.2.mem ((c.tc : Thread Cert.PostEvenRefIdeal.nD Cert.PostEvenRefIdeal.τ).loc Cert.PostEvenRefIdeal.main_v103) = v0 c
          ∧ r.2.mem ((c.tc : Thread Cert.PostEvenRefIdeal.nD Cert.PostEvenRefIdeal.τ).loc Cert.PostEvenRefIdeal.main_arg0) = m' ((c.tc : Thread Cert.PostEvenRefIdeal.nD Cert.PostEvenRefIdeal.τ).loc Cert.PostEvenRefIdeal.main_arg0)
          ∧ r.2.mem ((c.tc : Thread Cert.PostEvenRefIdeal.nD Cert.PostEvenRefIdeal.τ).loc Cert.PostEvenRefIdeal.main_arg1) = m' ((c.tc : Thread Cert.PostEvenRefIdeal.nD Cert.PostEvenRefIdeal.τ).loc Cert.PostEvenRefIdeal.main_arg1)
          ∧ r.2.mem ((c.tc : Thread Cert.PostEvenRefIdeal.nD Cert.PostEvenRefIdeal.τ).loc Cert.PostEvenRefIdeal.main_arg2) = m' ((c.tc : Thread Cert.PostEvenRefIdeal.nD Cert.PostEvenRefIdeal.τ).loc Cert.PostEvenRefIdeal.main_arg2)
          ∧ r.2.mem ((c.tc : Thread Cert.PostEvenRefIdeal.nD Cert.PostEvenRefIdeal.τ).loc Cert.PostEvenRefIdeal.main_arg3) = m' ((c.tc : Thread Cert.PostEvenRefIdeal.nD Cert.PostEvenRefIdeal.τ).loc Cert.PostEvenRefIdeal.main_arg3)
          ∧ r.2.mem ((c.tc : Thread Cert.PostEvenRefIdeal.nD Cert.PostEvenRefIdeal.τ).loc Cert.PostEvenRefIdeal.main_arg4) = m' ((c.tc : Thread Cert.PostEvenRefIdeal.nD Cert.PostEvenRefIdeal.τ).loc Cert.PostEvenRefIdeal.main_arg4)
          ∧ r.2.mem ((c.tc : Thread Cert.PostEvenRefIdeal.nD Cert.PostEvenRefIdeal.τ).loc Cert.PostEvenRefIdeal.main_arg5) = m' ((c.tc : Thread Cert.PostEvenRefIdeal.nD Cert.PostEvenRefIdeal.τ).loc Cert.PostEvenRefIdeal.main_arg5)
          ∧ r.2.mem ((c.tc : Thread Cert.PostEvenRefIdeal.nD Cert.PostEvenRefIdeal.τ).loc Cert.PostEvenRefIdeal.main_arg6) = m' ((c.tc : Thread Cert.PostEvenRefIdeal.nD Cert.PostEvenRefIdeal.τ).loc Cert.PostEvenRefIdeal.main_arg6)
          ∧ r.2.mem ((c.tc : Thread Cert.PostEvenRefIdeal.nD Cert.PostEvenRefIdeal.τ).loc Cert.PostEvenRefIdeal.main_arg7) = m' ((c.tc : Thread Cert.PostEvenRefIdeal.nD Cert.PostEvenRefIdeal.τ).loc Cert.PostEvenRefIdeal.main_arg7)
          ∧ r.2.mem ((c.tc : Thread Cert.PostEvenRefIdeal.nD Cert.PostEvenRefIdeal.τ).loc Cert.PostEvenRefIdeal.main_arg8) = m' ((c.tc : Thread Cert.PostEvenRefIdeal.nD Cert.PostEvenRefIdeal.τ).loc Cert.PostEvenRefIdeal.main_arg8))

def preserves_FrontEven_FrontEvenIdeal : Prop :=
  True

def algebraic_FrontEvenIdeal_FrontEvenRefIdeal [hFrontEvenIdeal : Cert.FrontEvenIdeal.Facts] [hFrontEvenRefIdeal : Cert.FrontEvenRefIdeal.Facts] : Prop :=
  ∀ (m : (ℓ : Loc Cert.FrontEvenIdeal.nD Cert.FrontEvenIdeal.τ Cert.FrontEvenIdeal.sig) → Buf (Elt Ideal) ℓ) (g : Dev Cert.FrontEvenIdeal.nD → PrngReg)
    (m' : (ℓ : Loc Cert.FrontEvenRefIdeal.nD Cert.FrontEvenRefIdeal.τ Cert.FrontEvenRefIdeal.sig) → Buf (Elt Ideal) ℓ) (g' : Dev Cert.FrontEvenRefIdeal.nD → PrngReg), Pre_FrontEvenIdeal m →
    (∀ c : Dev Cert.FrontEvenIdeal.nD,
      m' ((c.tc : Thread Cert.FrontEvenRefIdeal.nD Cert.FrontEvenRefIdeal.τ).loc Cert.FrontEvenRefIdeal.main_arg0) = m ((c.tc : Thread Cert.FrontEvenIdeal.nD Cert.FrontEvenIdeal.τ).loc Cert.FrontEvenIdeal.main_arg0)
      ∧ m' ((c.tc : Thread Cert.FrontEvenRefIdeal.nD Cert.FrontEvenRefIdeal.τ).loc Cert.FrontEvenRefIdeal.main_arg1) = m ((c.tc : Thread Cert.FrontEvenIdeal.nD Cert.FrontEvenIdeal.τ).loc Cert.FrontEvenIdeal.main_arg1)
      ∧ m' ((c.tc : Thread Cert.FrontEvenRefIdeal.nD Cert.FrontEvenRefIdeal.τ).loc Cert.FrontEvenRefIdeal.main_arg2) = m ((c.tc : Thread Cert.FrontEvenIdeal.nD Cert.FrontEvenIdeal.τ).loc Cert.FrontEvenIdeal.main_arg2)) →
    ∃ (v0 : (c : Dev Cert.FrontEvenIdeal.nD) → Buf (Elt Ideal) ((c.tc : Thread Cert.FrontEvenIdeal.nD Cert.FrontEvenIdeal.τ).loc Cert.FrontEvenIdeal.main_v4_0)) (v1 : (c : Dev Cert.FrontEvenIdeal.nD) → Buf (Elt Ideal) ((c.tc : Thread Cert.FrontEvenIdeal.nD Cert.FrontEvenIdeal.τ).loc Cert.FrontEvenIdeal.main_v4_1)),
      θ_run (Cert.FrontEvenIdeal.defs (F := Ideal)) (onTc (τ := Cert.FrontEvenIdeal.τ) (Cert.FrontEvenIdeal.main (F := Ideal))) ⟨m, fun _ => 0, g⟩ (fun r => ∀ c : Dev Cert.FrontEvenIdeal.nD,
          r.2.mem ((c.tc : Thread Cert.FrontEvenIdeal.nD Cert.FrontEvenIdeal.τ).loc Cert.FrontEvenIdeal.main_v4_0) = v0 c
          ∧ r.2.mem ((c.tc : Thread Cert.FrontEvenIdeal.nD Cert.FrontEvenIdeal.τ).loc Cert.FrontEvenIdeal.main_v4_1) = v1 c
          ∧ r.2.mem ((c.tc : Thread Cert.FrontEvenIdeal.nD Cert.FrontEvenIdeal.τ).loc Cert.FrontEvenIdeal.main_arg0) = m ((c.tc : Thread Cert.FrontEvenIdeal.nD Cert.FrontEvenIdeal.τ).loc Cert.FrontEvenIdeal.main_arg0)
          ∧ r.2.mem ((c.tc : Thread Cert.FrontEvenIdeal.nD Cert.FrontEvenIdeal.τ).loc Cert.FrontEvenIdeal.main_arg1) = m ((c.tc : Thread Cert.FrontEvenIdeal.nD Cert.FrontEvenIdeal.τ).loc Cert.FrontEvenIdeal.main_arg1)
          ∧ r.2.mem ((c.tc : Thread Cert.FrontEvenIdeal.nD Cert.FrontEvenIdeal.τ).loc Cert.FrontEvenIdeal.main_arg2) = m ((c.tc : Thread Cert.FrontEvenIdeal.nD Cert.FrontEvenIdeal.τ).loc Cert.FrontEvenIdeal.main_arg2))
      ∧ θ_run (Cert.FrontEvenRefIdeal.defs (F := Ideal)) (onTc (τ := Cert.FrontEvenRefIdeal.τ) (Cert.FrontEvenRefIdeal.main (F := Ideal))) ⟨m', fun _ => 0, g'⟩ (fun r => ∀ c : Dev Cert.FrontEvenRefIdeal.nD,
          r.2.mem ((c.tc : Thread Cert.FrontEvenRefIdeal.nD Cert.FrontEvenRefIdeal.τ).loc Cert.FrontEvenRefIdeal.main_v33) = v0 c
          ∧ r.2.mem ((c.tc : Thread Cert.FrontEvenRefIdeal.nD Cert.FrontEvenRefIdeal.τ).loc Cert.FrontEvenRefIdeal.main_v31) = v1 c
          ∧ r.2.mem ((c.tc : Thread Cert.FrontEvenRefIdeal.nD Cert.FrontEvenRefIdeal.τ).loc Cert.FrontEvenRefIdeal.main_arg0) = m' ((c.tc : Thread Cert.FrontEvenRefIdeal.nD Cert.FrontEvenRefIdeal.τ).loc Cert.FrontEvenRefIdeal.main_arg0)
          ∧ r.2.mem ((c.tc : Thread Cert.FrontEvenRefIdeal.nD Cert.FrontEvenRefIdeal.τ).loc Cert.FrontEvenRefIdeal.main_arg1) = m' ((c.tc : Thread Cert.FrontEvenRefIdeal.nD Cert.FrontEvenRefIdeal.τ).loc Cert.FrontEvenRefIdeal.main_arg1)
          ∧ r.2.mem ((c.tc : Thread Cert.FrontEvenRefIdeal.nD Cert.FrontEvenRefIdeal.τ).loc Cert.FrontEvenRefIdeal.main_arg2) = m' ((c.tc : Thread Cert.FrontEvenRefIdeal.nD Cert.FrontEvenRefIdeal.τ).loc Cert.FrontEvenRefIdeal.main_arg2))

def preserves_FrontOdd_FrontOddIdeal : Prop :=
  True

def algebraic_FrontOddIdeal_FrontOddRefIdeal [hFrontOddIdeal : Cert.FrontOddIdeal.Facts] [hFrontOddRefIdeal : Cert.FrontOddRefIdeal.Facts] : Prop :=
  ∀ (m : (ℓ : Loc Cert.FrontOddIdeal.nD Cert.FrontOddIdeal.τ Cert.FrontOddIdeal.sig) → Buf (Elt Ideal) ℓ) (g : Dev Cert.FrontOddIdeal.nD → PrngReg)
    (m' : (ℓ : Loc Cert.FrontOddRefIdeal.nD Cert.FrontOddRefIdeal.τ Cert.FrontOddRefIdeal.sig) → Buf (Elt Ideal) ℓ) (g' : Dev Cert.FrontOddRefIdeal.nD → PrngReg), Pre_FrontOddIdeal m →
    (∀ c : Dev Cert.FrontOddIdeal.nD,
      m' ((c.tc : Thread Cert.FrontOddRefIdeal.nD Cert.FrontOddRefIdeal.τ).loc Cert.FrontOddRefIdeal.main_arg0) = m ((c.tc : Thread Cert.FrontOddIdeal.nD Cert.FrontOddIdeal.τ).loc Cert.FrontOddIdeal.main_arg0)
      ∧ m' ((c.tc : Thread Cert.FrontOddRefIdeal.nD Cert.FrontOddRefIdeal.τ).loc Cert.FrontOddRefIdeal.main_arg1) = m ((c.tc : Thread Cert.FrontOddIdeal.nD Cert.FrontOddIdeal.τ).loc Cert.FrontOddIdeal.main_arg1)
      ∧ m' ((c.tc : Thread Cert.FrontOddRefIdeal.nD Cert.FrontOddRefIdeal.τ).loc Cert.FrontOddRefIdeal.main_arg2) = m ((c.tc : Thread Cert.FrontOddIdeal.nD Cert.FrontOddIdeal.τ).loc Cert.FrontOddIdeal.main_arg2)
      ∧ m' ((c.tc : Thread Cert.FrontOddRefIdeal.nD Cert.FrontOddRefIdeal.τ).loc Cert.FrontOddRefIdeal.main_arg3) = m ((c.tc : Thread Cert.FrontOddIdeal.nD Cert.FrontOddIdeal.τ).loc Cert.FrontOddIdeal.main_arg3)
      ∧ m' ((c.tc : Thread Cert.FrontOddRefIdeal.nD Cert.FrontOddRefIdeal.τ).loc Cert.FrontOddRefIdeal.main_arg4) = m ((c.tc : Thread Cert.FrontOddIdeal.nD Cert.FrontOddIdeal.τ).loc Cert.FrontOddIdeal.main_arg4)
      ∧ m' ((c.tc : Thread Cert.FrontOddRefIdeal.nD Cert.FrontOddRefIdeal.τ).loc Cert.FrontOddRefIdeal.main_arg5) = m ((c.tc : Thread Cert.FrontOddIdeal.nD Cert.FrontOddIdeal.τ).loc Cert.FrontOddIdeal.main_arg5)
      ∧ m' ((c.tc : Thread Cert.FrontOddRefIdeal.nD Cert.FrontOddRefIdeal.τ).loc Cert.FrontOddRefIdeal.main_arg6) = m ((c.tc : Thread Cert.FrontOddIdeal.nD Cert.FrontOddIdeal.τ).loc Cert.FrontOddIdeal.main_arg6)
      ∧ m' ((c.tc : Thread Cert.FrontOddRefIdeal.nD Cert.FrontOddRefIdeal.τ).loc Cert.FrontOddRefIdeal.main_arg7) = m ((c.tc : Thread Cert.FrontOddIdeal.nD Cert.FrontOddIdeal.τ).loc Cert.FrontOddIdeal.main_arg7)
      ∧ m' ((c.tc : Thread Cert.FrontOddRefIdeal.nD Cert.FrontOddRefIdeal.τ).loc Cert.FrontOddRefIdeal.main_arg8) = m ((c.tc : Thread Cert.FrontOddIdeal.nD Cert.FrontOddIdeal.τ).loc Cert.FrontOddIdeal.main_arg8)
      ∧ m' ((c.tc : Thread Cert.FrontOddRefIdeal.nD Cert.FrontOddRefIdeal.τ).loc Cert.FrontOddRefIdeal.main_arg9) = m ((c.tc : Thread Cert.FrontOddIdeal.nD Cert.FrontOddIdeal.τ).loc Cert.FrontOddIdeal.main_arg9)) →
    ∃ (v0 : (c : Dev Cert.FrontOddIdeal.nD) → Buf (Elt Ideal) ((c.tc : Thread Cert.FrontOddIdeal.nD Cert.FrontOddIdeal.τ).loc Cert.FrontOddIdeal.main_v123_0)) (v1 : (c : Dev Cert.FrontOddIdeal.nD) → Buf (Elt Ideal) ((c.tc : Thread Cert.FrontOddIdeal.nD Cert.FrontOddIdeal.τ).loc Cert.FrontOddIdeal.main_v123_1)) (v2 : (c : Dev Cert.FrontOddIdeal.nD) → Buf (Elt Ideal) ((c.tc : Thread Cert.FrontOddIdeal.nD Cert.FrontOddIdeal.τ).loc Cert.FrontOddIdeal.main_v123_2)) (v3 : (c : Dev Cert.FrontOddIdeal.nD) → Buf (Elt Ideal) ((c.tc : Thread Cert.FrontOddIdeal.nD Cert.FrontOddIdeal.τ).loc Cert.FrontOddIdeal.main_v123_3)) (v4 : (c : Dev Cert.FrontOddIdeal.nD) → Buf (Elt Ideal) ((c.tc : Thread Cert.FrontOddIdeal.nD Cert.FrontOddIdeal.τ).loc Cert.FrontOddIdeal.main_v123_4)),
      θ_run (Cert.FrontOddIdeal.defs (F := Ideal)) (onTc (τ := Cert.FrontOddIdeal.τ) (Cert.FrontOddIdeal.main (F := Ideal))) ⟨m, fun _ => 0, g⟩ (fun r => ∀ c : Dev Cert.FrontOddIdeal.nD,
          r.2.mem ((c.tc : Thread Cert.FrontOddIdeal.nD Cert.FrontOddIdeal.τ).loc Cert.FrontOddIdeal.main_v123_0) = v0 c
          ∧ r.2.mem ((c.tc : Thread Cert.FrontOddIdeal.nD Cert.FrontOddIdeal.τ).loc Cert.FrontOddIdeal.main_v123_1) = v1 c
          ∧ r.2.mem ((c.tc : Thread Cert.FrontOddIdeal.nD Cert.FrontOddIdeal.τ).loc Cert.FrontOddIdeal.main_v123_2) = v2 c
          ∧ r.2.mem ((c.tc : Thread Cert.FrontOddIdeal.nD Cert.FrontOddIdeal.τ).loc Cert.FrontOddIdeal.main_v123_3) = v3 c
          ∧ r.2.mem ((c.tc : Thread Cert.FrontOddIdeal.nD Cert.FrontOddIdeal.τ).loc Cert.FrontOddIdeal.main_v123_4) = v4 c
          ∧ r.2.mem ((c.tc : Thread Cert.FrontOddIdeal.nD Cert.FrontOddIdeal.τ).loc Cert.FrontOddIdeal.main_arg0) = m ((c.tc : Thread Cert.FrontOddIdeal.nD Cert.FrontOddIdeal.τ).loc Cert.FrontOddIdeal.main_arg0)
          ∧ r.2.mem ((c.tc : Thread Cert.FrontOddIdeal.nD Cert.FrontOddIdeal.τ).loc Cert.FrontOddIdeal.main_arg1) = m ((c.tc : Thread Cert.FrontOddIdeal.nD Cert.FrontOddIdeal.τ).loc Cert.FrontOddIdeal.main_arg1)
          ∧ r.2.mem ((c.tc : Thread Cert.FrontOddIdeal.nD Cert.FrontOddIdeal.τ).loc Cert.FrontOddIdeal.main_arg2) = m ((c.tc : Thread Cert.FrontOddIdeal.nD Cert.FrontOddIdeal.τ).loc Cert.FrontOddIdeal.main_arg2)
          ∧ r.2.mem ((c.tc : Thread Cert.FrontOddIdeal.nD Cert.FrontOddIdeal.τ).loc Cert.FrontOddIdeal.main_arg3) = m ((c.tc : Thread Cert.FrontOddIdeal.nD Cert.FrontOddIdeal.τ).loc Cert.FrontOddIdeal.main_arg3)
          ∧ r.2.mem ((c.tc : Thread Cert.FrontOddIdeal.nD Cert.FrontOddIdeal.τ).loc Cert.FrontOddIdeal.main_arg4) = m ((c.tc : Thread Cert.FrontOddIdeal.nD Cert.FrontOddIdeal.τ).loc Cert.FrontOddIdeal.main_arg4)
          ∧ r.2.mem ((c.tc : Thread Cert.FrontOddIdeal.nD Cert.FrontOddIdeal.τ).loc Cert.FrontOddIdeal.main_arg5) = m ((c.tc : Thread Cert.FrontOddIdeal.nD Cert.FrontOddIdeal.τ).loc Cert.FrontOddIdeal.main_arg5)
          ∧ r.2.mem ((c.tc : Thread Cert.FrontOddIdeal.nD Cert.FrontOddIdeal.τ).loc Cert.FrontOddIdeal.main_arg6) = m ((c.tc : Thread Cert.FrontOddIdeal.nD Cert.FrontOddIdeal.τ).loc Cert.FrontOddIdeal.main_arg6)
          ∧ r.2.mem ((c.tc : Thread Cert.FrontOddIdeal.nD Cert.FrontOddIdeal.τ).loc Cert.FrontOddIdeal.main_arg7) = m ((c.tc : Thread Cert.FrontOddIdeal.nD Cert.FrontOddIdeal.τ).loc Cert.FrontOddIdeal.main_arg7)
          ∧ r.2.mem ((c.tc : Thread Cert.FrontOddIdeal.nD Cert.FrontOddIdeal.τ).loc Cert.FrontOddIdeal.main_arg8) = m ((c.tc : Thread Cert.FrontOddIdeal.nD Cert.FrontOddIdeal.τ).loc Cert.FrontOddIdeal.main_arg8)
          ∧ r.2.mem ((c.tc : Thread Cert.FrontOddIdeal.nD Cert.FrontOddIdeal.τ).loc Cert.FrontOddIdeal.main_arg9) = m ((c.tc : Thread Cert.FrontOddIdeal.nD Cert.FrontOddIdeal.τ).loc Cert.FrontOddIdeal.main_arg9))
      ∧ θ_run (Cert.FrontOddRefIdeal.defs (F := Ideal)) (onTc (τ := Cert.FrontOddRefIdeal.τ) (Cert.FrontOddRefIdeal.main (F := Ideal))) ⟨m', fun _ => 0, g'⟩ (fun r => ∀ c : Dev Cert.FrontOddRefIdeal.nD,
          r.2.mem ((c.tc : Thread Cert.FrontOddRefIdeal.nD Cert.FrontOddRefIdeal.τ).loc Cert.FrontOddRefIdeal.main_v226) = v0 c
          ∧ r.2.mem ((c.tc : Thread Cert.FrontOddRefIdeal.nD Cert.FrontOddRefIdeal.τ).loc Cert.FrontOddRefIdeal.main_v227) = v1 c
          ∧ r.2.mem ((c.tc : Thread Cert.FrontOddRefIdeal.nD Cert.FrontOddRefIdeal.τ).loc Cert.FrontOddRefIdeal.main_v228) = v2 c
          ∧ r.2.mem ((c.tc : Thread Cert.FrontOddRefIdeal.nD Cert.FrontOddRefIdeal.τ).loc Cert.FrontOddRefIdeal.main_v229) = v3 c
          ∧ r.2.mem ((c.tc : Thread Cert.FrontOddRefIdeal.nD Cert.FrontOddRefIdeal.τ).loc Cert.FrontOddRefIdeal.main_v230) = v4 c
          ∧ r.2.mem ((c.tc : Thread Cert.FrontOddRefIdeal.nD Cert.FrontOddRefIdeal.τ).loc Cert.FrontOddRefIdeal.main_arg0) = m' ((c.tc : Thread Cert.FrontOddRefIdeal.nD Cert.FrontOddRefIdeal.τ).loc Cert.FrontOddRefIdeal.main_arg0)
          ∧ r.2.mem ((c.tc : Thread Cert.FrontOddRefIdeal.nD Cert.FrontOddRefIdeal.τ).loc Cert.FrontOddRefIdeal.main_arg1) = m' ((c.tc : Thread Cert.FrontOddRefIdeal.nD Cert.FrontOddRefIdeal.τ).loc Cert.FrontOddRefIdeal.main_arg1)
          ∧ r.2.mem ((c.tc : Thread Cert.FrontOddRefIdeal.nD Cert.FrontOddRefIdeal.τ).loc Cert.FrontOddRefIdeal.main_arg2) = m' ((c.tc : Thread Cert.FrontOddRefIdeal.nD Cert.FrontOddRefIdeal.τ).loc Cert.FrontOddRefIdeal.main_arg2)
          ∧ r.2.mem ((c.tc : Thread Cert.FrontOddRefIdeal.nD Cert.FrontOddRefIdeal.τ).loc Cert.FrontOddRefIdeal.main_arg3) = m' ((c.tc : Thread Cert.FrontOddRefIdeal.nD Cert.FrontOddRefIdeal.τ).loc Cert.FrontOddRefIdeal.main_arg3)
          ∧ r.2.mem ((c.tc : Thread Cert.FrontOddRefIdeal.nD Cert.FrontOddRefIdeal.τ).loc Cert.FrontOddRefIdeal.main_arg4) = m' ((c.tc : Thread Cert.FrontOddRefIdeal.nD Cert.FrontOddRefIdeal.τ).loc Cert.FrontOddRefIdeal.main_arg4)
          ∧ r.2.mem ((c.tc : Thread Cert.FrontOddRefIdeal.nD Cert.FrontOddRefIdeal.τ).loc Cert.FrontOddRefIdeal.main_arg5) = m' ((c.tc : Thread Cert.FrontOddRefIdeal.nD Cert.FrontOddRefIdeal.τ).loc Cert.FrontOddRefIdeal.main_arg5)
          ∧ r.2.mem ((c.tc : Thread Cert.FrontOddRefIdeal.nD Cert.FrontOddRefIdeal.τ).loc Cert.FrontOddRefIdeal.main_arg6) = m' ((c.tc : Thread Cert.FrontOddRefIdeal.nD Cert.FrontOddRefIdeal.τ).loc Cert.FrontOddRefIdeal.main_arg6)
          ∧ r.2.mem ((c.tc : Thread Cert.FrontOddRefIdeal.nD Cert.FrontOddRefIdeal.τ).loc Cert.FrontOddRefIdeal.main_arg7) = m' ((c.tc : Thread Cert.FrontOddRefIdeal.nD Cert.FrontOddRefIdeal.τ).loc Cert.FrontOddRefIdeal.main_arg7)
          ∧ r.2.mem ((c.tc : Thread Cert.FrontOddRefIdeal.nD Cert.FrontOddRefIdeal.τ).loc Cert.FrontOddRefIdeal.main_arg8) = m' ((c.tc : Thread Cert.FrontOddRefIdeal.nD Cert.FrontOddRefIdeal.τ).loc Cert.FrontOddRefIdeal.main_arg8)
          ∧ r.2.mem ((c.tc : Thread Cert.FrontOddRefIdeal.nD Cert.FrontOddRefIdeal.τ).loc Cert.FrontOddRefIdeal.main_arg9) = m' ((c.tc : Thread Cert.FrontOddRefIdeal.nD Cert.FrontOddRefIdeal.τ).loc Cert.FrontOddRefIdeal.main_arg9))

def preserves_PostCtx_PostCtxIdeal : Prop :=
  True

def algebraic_PostCtxIdeal_PostCtxRefIdeal [hPostCtxIdeal : Cert.PostCtxIdeal.Facts] [hPostCtxRefIdeal : Cert.PostCtxRefIdeal.Facts] : Prop :=
  ∀ (m : (ℓ : Loc Cert.PostCtxIdeal.nD Cert.PostCtxIdeal.τ Cert.PostCtxIdeal.sig) → Buf (Elt Ideal) ℓ) (g : Dev Cert.PostCtxIdeal.nD → PrngReg)
    (m' : (ℓ : Loc Cert.PostCtxRefIdeal.nD Cert.PostCtxRefIdeal.τ Cert.PostCtxRefIdeal.sig) → Buf (Elt Ideal) ℓ) (g' : Dev Cert.PostCtxRefIdeal.nD → PrngReg), Pre_PostCtxIdeal m →
    (∀ c : Dev Cert.PostCtxIdeal.nD,
      m' ((c.tc : Thread Cert.PostCtxRefIdeal.nD Cert.PostCtxRefIdeal.τ).loc Cert.PostCtxRefIdeal.main_arg0) = m ((c.tc : Thread Cert.PostCtxIdeal.nD Cert.PostCtxIdeal.τ).loc Cert.PostCtxIdeal.main_arg0)
      ∧ m' ((c.tc : Thread Cert.PostCtxRefIdeal.nD Cert.PostCtxRefIdeal.τ).loc Cert.PostCtxRefIdeal.main_arg1) = m ((c.tc : Thread Cert.PostCtxIdeal.nD Cert.PostCtxIdeal.τ).loc Cert.PostCtxIdeal.main_arg1)
      ∧ m' ((c.tc : Thread Cert.PostCtxRefIdeal.nD Cert.PostCtxRefIdeal.τ).loc Cert.PostCtxRefIdeal.main_arg2) = m ((c.tc : Thread Cert.PostCtxIdeal.nD Cert.PostCtxIdeal.τ).loc Cert.PostCtxIdeal.main_arg2)
      ∧ m' ((c.tc : Thread Cert.PostCtxRefIdeal.nD Cert.PostCtxRefIdeal.τ).loc Cert.PostCtxRefIdeal.main_arg3) = m ((c.tc : Thread Cert.PostCtxIdeal.nD Cert.PostCtxIdeal.τ).loc Cert.PostCtxIdeal.main_arg3)
      ∧ m' ((c.tc : Thread Cert.PostCtxRefIdeal.nD Cert.PostCtxRefIdeal.τ).loc Cert.PostCtxRefIdeal.main_arg4) = m ((c.tc : Thread Cert.PostCtxIdeal.nD Cert.PostCtxIdeal.τ).loc Cert.PostCtxIdeal.main_arg4)
      ∧ m' ((c.tc : Thread Cert.PostCtxRefIdeal.nD Cert.PostCtxRefIdeal.τ).loc Cert.PostCtxRefIdeal.main_arg5) = m ((c.tc : Thread Cert.PostCtxIdeal.nD Cert.PostCtxIdeal.τ).loc Cert.PostCtxIdeal.main_arg5)
      ∧ m' ((c.tc : Thread Cert.PostCtxRefIdeal.nD Cert.PostCtxRefIdeal.τ).loc Cert.PostCtxRefIdeal.main_arg6) = m ((c.tc : Thread Cert.PostCtxIdeal.nD Cert.PostCtxIdeal.τ).loc Cert.PostCtxIdeal.main_arg6)
      ∧ m' ((c.tc : Thread Cert.PostCtxRefIdeal.nD Cert.PostCtxRefIdeal.τ).loc Cert.PostCtxRefIdeal.main_arg7) = m ((c.tc : Thread Cert.PostCtxIdeal.nD Cert.PostCtxIdeal.τ).loc Cert.PostCtxIdeal.main_arg7)
      ∧ m' ((c.tc : Thread Cert.PostCtxRefIdeal.nD Cert.PostCtxRefIdeal.τ).loc Cert.PostCtxRefIdeal.main_arg8) = m ((c.tc : Thread Cert.PostCtxIdeal.nD Cert.PostCtxIdeal.τ).loc Cert.PostCtxIdeal.main_arg8)) →
    ∃ (v0 : (c : Dev Cert.PostCtxIdeal.nD) → Buf (Elt Ideal) ((c.tc : Thread Cert.PostCtxIdeal.nD Cert.PostCtxIdeal.τ).loc Cert.PostCtxIdeal.main_v7)),
      θ_run (Cert.PostCtxIdeal.defs (F := Ideal)) (onTc (τ := Cert.PostCtxIdeal.τ) (Cert.PostCtxIdeal.main (F := Ideal))) ⟨m, fun _ => 0, g⟩ (fun r => ∀ c : Dev Cert.PostCtxIdeal.nD,
          r.2.mem ((c.tc : Thread Cert.PostCtxIdeal.nD Cert.PostCtxIdeal.τ).loc Cert.PostCtxIdeal.main_v7) = v0 c
          ∧ r.2.mem ((c.tc : Thread Cert.PostCtxIdeal.nD Cert.PostCtxIdeal.τ).loc Cert.PostCtxIdeal.main_arg0) = m ((c.tc : Thread Cert.PostCtxIdeal.nD Cert.PostCtxIdeal.τ).loc Cert.PostCtxIdeal.main_arg0)
          ∧ r.2.mem ((c.tc : Thread Cert.PostCtxIdeal.nD Cert.PostCtxIdeal.τ).loc Cert.PostCtxIdeal.main_arg1) = m ((c.tc : Thread Cert.PostCtxIdeal.nD Cert.PostCtxIdeal.τ).loc Cert.PostCtxIdeal.main_arg1)
          ∧ r.2.mem ((c.tc : Thread Cert.PostCtxIdeal.nD Cert.PostCtxIdeal.τ).loc Cert.PostCtxIdeal.main_arg2) = m ((c.tc : Thread Cert.PostCtxIdeal.nD Cert.PostCtxIdeal.τ).loc Cert.PostCtxIdeal.main_arg2)
          ∧ r.2.mem ((c.tc : Thread Cert.PostCtxIdeal.nD Cert.PostCtxIdeal.τ).loc Cert.PostCtxIdeal.main_arg3) = m ((c.tc : Thread Cert.PostCtxIdeal.nD Cert.PostCtxIdeal.τ).loc Cert.PostCtxIdeal.main_arg3)
          ∧ r.2.mem ((c.tc : Thread Cert.PostCtxIdeal.nD Cert.PostCtxIdeal.τ).loc Cert.PostCtxIdeal.main_arg4) = m ((c.tc : Thread Cert.PostCtxIdeal.nD Cert.PostCtxIdeal.τ).loc Cert.PostCtxIdeal.main_arg4)
          ∧ r.2.mem ((c.tc : Thread Cert.PostCtxIdeal.nD Cert.PostCtxIdeal.τ).loc Cert.PostCtxIdeal.main_arg5) = m ((c.tc : Thread Cert.PostCtxIdeal.nD Cert.PostCtxIdeal.τ).loc Cert.PostCtxIdeal.main_arg5)
          ∧ r.2.mem ((c.tc : Thread Cert.PostCtxIdeal.nD Cert.PostCtxIdeal.τ).loc Cert.PostCtxIdeal.main_arg6) = m ((c.tc : Thread Cert.PostCtxIdeal.nD Cert.PostCtxIdeal.τ).loc Cert.PostCtxIdeal.main_arg6)
          ∧ r.2.mem ((c.tc : Thread Cert.PostCtxIdeal.nD Cert.PostCtxIdeal.τ).loc Cert.PostCtxIdeal.main_arg7) = m ((c.tc : Thread Cert.PostCtxIdeal.nD Cert.PostCtxIdeal.τ).loc Cert.PostCtxIdeal.main_arg7)
          ∧ r.2.mem ((c.tc : Thread Cert.PostCtxIdeal.nD Cert.PostCtxIdeal.τ).loc Cert.PostCtxIdeal.main_arg8) = m ((c.tc : Thread Cert.PostCtxIdeal.nD Cert.PostCtxIdeal.τ).loc Cert.PostCtxIdeal.main_arg8))
      ∧ θ_run (Cert.PostCtxRefIdeal.defs (F := Ideal)) (onTc (τ := Cert.PostCtxRefIdeal.τ) (Cert.PostCtxRefIdeal.main (F := Ideal))) ⟨m', fun _ => 0, g'⟩ (fun r => ∀ c : Dev Cert.PostCtxRefIdeal.nD,
          r.2.mem ((c.tc : Thread Cert.PostCtxRefIdeal.nD Cert.PostCtxRefIdeal.τ).loc Cert.PostCtxRefIdeal.main_v101) = v0 c
          ∧ r.2.mem ((c.tc : Thread Cert.PostCtxRefIdeal.nD Cert.PostCtxRefIdeal.τ).loc Cert.PostCtxRefIdeal.main_arg0) = m' ((c.tc : Thread Cert.PostCtxRefIdeal.nD Cert.PostCtxRefIdeal.τ).loc Cert.PostCtxRefIdeal.main_arg0)
          ∧ r.2.mem ((c.tc : Thread Cert.PostCtxRefIdeal.nD Cert.PostCtxRefIdeal.τ).loc Cert.PostCtxRefIdeal.main_arg1) = m' ((c.tc : Thread Cert.PostCtxRefIdeal.nD Cert.PostCtxRefIdeal.τ).loc Cert.PostCtxRefIdeal.main_arg1)
          ∧ r.2.mem ((c.tc : Thread Cert.PostCtxRefIdeal.nD Cert.PostCtxRefIdeal.τ).loc Cert.PostCtxRefIdeal.main_arg2) = m' ((c.tc : Thread Cert.PostCtxRefIdeal.nD Cert.PostCtxRefIdeal.τ).loc Cert.PostCtxRefIdeal.main_arg2)
          ∧ r.2.mem ((c.tc : Thread Cert.PostCtxRefIdeal.nD Cert.PostCtxRefIdeal.τ).loc Cert.PostCtxRefIdeal.main_arg3) = m' ((c.tc : Thread Cert.PostCtxRefIdeal.nD Cert.PostCtxRefIdeal.τ).loc Cert.PostCtxRefIdeal.main_arg3)
          ∧ r.2.mem ((c.tc : Thread Cert.PostCtxRefIdeal.nD Cert.PostCtxRefIdeal.τ).loc Cert.PostCtxRefIdeal.main_arg4) = m' ((c.tc : Thread Cert.PostCtxRefIdeal.nD Cert.PostCtxRefIdeal.τ).loc Cert.PostCtxRefIdeal.main_arg4)
          ∧ r.2.mem ((c.tc : Thread Cert.PostCtxRefIdeal.nD Cert.PostCtxRefIdeal.τ).loc Cert.PostCtxRefIdeal.main_arg5) = m' ((c.tc : Thread Cert.PostCtxRefIdeal.nD Cert.PostCtxRefIdeal.τ).loc Cert.PostCtxRefIdeal.main_arg5)
          ∧ r.2.mem ((c.tc : Thread Cert.PostCtxRefIdeal.nD Cert.PostCtxRefIdeal.τ).loc Cert.PostCtxRefIdeal.main_arg6) = m' ((c.tc : Thread Cert.PostCtxRefIdeal.nD Cert.PostCtxRefIdeal.τ).loc Cert.PostCtxRefIdeal.main_arg6)
          ∧ r.2.mem ((c.tc : Thread Cert.PostCtxRefIdeal.nD Cert.PostCtxRefIdeal.τ).loc Cert.PostCtxRefIdeal.main_arg7) = m' ((c.tc : Thread Cert.PostCtxRefIdeal.nD Cert.PostCtxRefIdeal.τ).loc Cert.PostCtxRefIdeal.main_arg7)
          ∧ r.2.mem ((c.tc : Thread Cert.PostCtxRefIdeal.nD Cert.PostCtxRefIdeal.τ).loc Cert.PostCtxRefIdeal.main_arg8) = m' ((c.tc : Thread Cert.PostCtxRefIdeal.nD Cert.PostCtxRefIdeal.τ).loc Cert.PostCtxRefIdeal.main_arg8))

def preserves_FrontCtx_FrontCtxIdeal : Prop :=
  True

def algebraic_FrontCtxIdeal_FrontCtxRefIdeal [hFrontCtxIdeal : Cert.FrontCtxIdeal.Facts] [hFrontCtxRefIdeal : Cert.FrontCtxRefIdeal.Facts] : Prop :=
  ∀ (m : (ℓ : Loc Cert.FrontCtxIdeal.nD Cert.FrontCtxIdeal.τ Cert.FrontCtxIdeal.sig) → Buf (Elt Ideal) ℓ) (g : Dev Cert.FrontCtxIdeal.nD → PrngReg)
    (m' : (ℓ : Loc Cert.FrontCtxRefIdeal.nD Cert.FrontCtxRefIdeal.τ Cert.FrontCtxRefIdeal.sig) → Buf (Elt Ideal) ℓ) (g' : Dev Cert.FrontCtxRefIdeal.nD → PrngReg), Pre_FrontCtxIdeal m →
    (∀ c : Dev Cert.FrontCtxIdeal.nD,
      m' ((c.tc : Thread Cert.FrontCtxRefIdeal.nD Cert.FrontCtxRefIdeal.τ).loc Cert.FrontCtxRefIdeal.main_arg0) = m ((c.tc : Thread Cert.FrontCtxIdeal.nD Cert.FrontCtxIdeal.τ).loc Cert.FrontCtxIdeal.main_arg0)
      ∧ m' ((c.tc : Thread Cert.FrontCtxRefIdeal.nD Cert.FrontCtxRefIdeal.τ).loc Cert.FrontCtxRefIdeal.main_arg1) = m ((c.tc : Thread Cert.FrontCtxIdeal.nD Cert.FrontCtxIdeal.τ).loc Cert.FrontCtxIdeal.main_arg1)
      ∧ m' ((c.tc : Thread Cert.FrontCtxRefIdeal.nD Cert.FrontCtxRefIdeal.τ).loc Cert.FrontCtxRefIdeal.main_arg2) = m ((c.tc : Thread Cert.FrontCtxIdeal.nD Cert.FrontCtxIdeal.τ).loc Cert.FrontCtxIdeal.main_arg2)) →
    ∃ (v0 : (c : Dev Cert.FrontCtxIdeal.nD) → Buf (Elt Ideal) ((c.tc : Thread Cert.FrontCtxIdeal.nD Cert.FrontCtxIdeal.τ).loc Cert.FrontCtxIdeal.main_v1)),
      θ_run (Cert.FrontCtxIdeal.defs (F := Ideal)) (onTc (τ := Cert.FrontCtxIdeal.τ) (Cert.FrontCtxIdeal.main (F := Ideal))) ⟨m, fun _ => 0, g⟩ (fun r => ∀ c : Dev Cert.FrontCtxIdeal.nD,
          r.2.mem ((c.tc : Thread Cert.FrontCtxIdeal.nD Cert.FrontCtxIdeal.τ).loc Cert.FrontCtxIdeal.main_v1) = v0 c
          ∧ r.2.mem ((c.tc : Thread Cert.FrontCtxIdeal.nD Cert.FrontCtxIdeal.τ).loc Cert.FrontCtxIdeal.main_arg0) = m ((c.tc : Thread Cert.FrontCtxIdeal.nD Cert.FrontCtxIdeal.τ).loc Cert.FrontCtxIdeal.main_arg0)
          ∧ r.2.mem ((c.tc : Thread Cert.FrontCtxIdeal.nD Cert.FrontCtxIdeal.τ).loc Cert.FrontCtxIdeal.main_arg1) = m ((c.tc : Thread Cert.FrontCtxIdeal.nD Cert.FrontCtxIdeal.τ).loc Cert.FrontCtxIdeal.main_arg1)
          ∧ r.2.mem ((c.tc : Thread Cert.FrontCtxIdeal.nD Cert.FrontCtxIdeal.τ).loc Cert.FrontCtxIdeal.main_arg2) = m ((c.tc : Thread Cert.FrontCtxIdeal.nD Cert.FrontCtxIdeal.τ).loc Cert.FrontCtxIdeal.main_arg2))
      ∧ θ_run (Cert.FrontCtxRefIdeal.defs (F := Ideal)) (onTc (τ := Cert.FrontCtxRefIdeal.τ) (Cert.FrontCtxRefIdeal.main (F := Ideal))) ⟨m', fun _ => 0, g'⟩ (fun r => ∀ c : Dev Cert.FrontCtxRefIdeal.nD,
          r.2.mem ((c.tc : Thread Cert.FrontCtxRefIdeal.nD Cert.FrontCtxRefIdeal.τ).loc Cert.FrontCtxRefIdeal.main_v29) = v0 c
          ∧ r.2.mem ((c.tc : Thread Cert.FrontCtxRefIdeal.nD Cert.FrontCtxRefIdeal.τ).loc Cert.FrontCtxRefIdeal.main_arg0) = m' ((c.tc : Thread Cert.FrontCtxRefIdeal.nD Cert.FrontCtxRefIdeal.τ).loc Cert.FrontCtxRefIdeal.main_arg0)
          ∧ r.2.mem ((c.tc : Thread Cert.FrontCtxRefIdeal.nD Cert.FrontCtxRefIdeal.τ).loc Cert.FrontCtxRefIdeal.main_arg1) = m' ((c.tc : Thread Cert.FrontCtxRefIdeal.nD Cert.FrontCtxRefIdeal.τ).loc Cert.FrontCtxRefIdeal.main_arg1)
          ∧ r.2.mem ((c.tc : Thread Cert.FrontCtxRefIdeal.nD Cert.FrontCtxRefIdeal.τ).loc Cert.FrontCtxRefIdeal.main_arg2) = m' ((c.tc : Thread Cert.FrontCtxRefIdeal.nD Cert.FrontCtxRefIdeal.τ).loc Cert.FrontCtxRefIdeal.main_arg2))

def preserves_AttnCtx_AttnCtxIdeal : Prop :=
  True

def algebraic_AttnCtxIdeal_AttnCtxRefIdeal_pre_finite_ctx [hAttnCtxIdeal : Cert.AttnCtxIdeal.Facts] [hAttnCtxRefIdeal : Cert.AttnCtxRefIdeal.Facts] [hPre_finite_ctx : Cert.Pre_finite_ctx.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg)
    (m' : (ℓ : Loc Cert.AttnCtxRefIdeal.nD Cert.AttnCtxRefIdeal.τ Cert.AttnCtxRefIdeal.sig) → Buf (Elt Ideal) ℓ) (g' : Dev Cert.AttnCtxRefIdeal.nD → PrngReg), Pre_AttnCtxIdeal_finite_ctx m →
    (∀ c : Dev Cert.AttnCtxIdeal.nD,
      m' ((c.tc : Thread Cert.AttnCtxRefIdeal.nD Cert.AttnCtxRefIdeal.τ).loc Cert.AttnCtxRefIdeal.main_arg0) = m ((c.tc : Thread Cert.AttnCtxIdeal.nD Cert.AttnCtxIdeal.τ).loc Cert.AttnCtxIdeal.main_arg0)) →
    ∃ (v0 : (c : Dev Cert.AttnCtxIdeal.nD) → Buf (Elt Ideal) ((c.tc : Thread Cert.AttnCtxIdeal.nD Cert.AttnCtxIdeal.τ).loc Cert.AttnCtxIdeal.main_v1)),
      θ_run (Cert.AttnCtxIdeal.defs (F := Ideal)) (onTc (τ := Cert.AttnCtxIdeal.τ) (Cert.AttnCtxIdeal.main (F := Ideal))) ⟨m, fun _ => 0, g⟩ (fun r => ∀ c : Dev Cert.AttnCtxIdeal.nD,
          r.2.mem ((c.tc : Thread Cert.AttnCtxIdeal.nD Cert.AttnCtxIdeal.τ).loc Cert.AttnCtxIdeal.main_v1) = v0 c
          ∧ r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0))
      ∧ θ_run (Cert.AttnCtxRefIdeal.defs (F := Ideal)) (onTc (τ := Cert.AttnCtxRefIdeal.τ) (Cert.AttnCtxRefIdeal.main (F := Ideal))) ⟨m', fun _ => 0, g'⟩ (fun r => ∀ c : Dev Cert.AttnCtxRefIdeal.nD,
          r.2.mem ((c.tc : Thread Cert.AttnCtxRefIdeal.nD Cert.AttnCtxRefIdeal.τ).loc Cert.AttnCtxRefIdeal.main_v26) = v0 c
          ∧ r.2.mem ((c.tc : Thread Cert.AttnCtxRefIdeal.nD Cert.AttnCtxRefIdeal.τ).loc Cert.AttnCtxRefIdeal.main_arg0) = m' ((c.tc : Thread Cert.AttnCtxRefIdeal.nD Cert.AttnCtxRefIdeal.τ).loc Cert.AttnCtxRefIdeal.main_arg0))

def Claim : Prop :=
  ∃ (hKernel : Cert.Kernel.Facts) (hKernelIdeal : Cert.KernelIdeal.Facts) (hReferenceIdeal : Cert.ReferenceIdeal.Facts) (hPostOdd : Cert.PostOdd.Facts) (hPostOddIdeal : Cert.PostOddIdeal.Facts) (hPostOddRefIdeal : Cert.PostOddRefIdeal.Facts) (hPostEven : Cert.PostEven.Facts) (hPostEvenIdeal : Cert.PostEvenIdeal.Facts) (hPostEvenRefIdeal : Cert.PostEvenRefIdeal.Facts) (hFrontEven : Cert.FrontEven.Facts) (hFrontEvenIdeal : Cert.FrontEvenIdeal.Facts) (hFrontEvenRefIdeal : Cert.FrontEvenRefIdeal.Facts) (hFrontOdd : Cert.FrontOdd.Facts) (hFrontOddIdeal : Cert.FrontOddIdeal.Facts) (hFrontOddRefIdeal : Cert.FrontOddRefIdeal.Facts) (hPostCtx : Cert.PostCtx.Facts) (hPostCtxIdeal : Cert.PostCtxIdeal.Facts) (hPostCtxRefIdeal : Cert.PostCtxRefIdeal.Facts) (hFrontCtx : Cert.FrontCtx.Facts) (hFrontCtxIdeal : Cert.FrontCtxIdeal.Facts) (hFrontCtxRefIdeal : Cert.FrontCtxRefIdeal.Facts) (hAttnCtx : Cert.AttnCtx.Facts) (hAttnCtxIdeal : Cert.AttnCtxIdeal.Facts) (hAttnCtxRefIdeal : Cert.AttnCtxRefIdeal.Facts) (hPre_finite : Cert.Pre_finite.Facts) (hPre_finite_ctx : Cert.Pre_finite_ctx.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_PostOdd (hPostOdd := hPostOdd)
    ∧ quiescent_PostOddIdeal (hPostOddIdeal := hPostOddIdeal)
    ∧ quiescent_PostOddRefIdeal (hPostOddRefIdeal := hPostOddRefIdeal)
    ∧ quiescent_PostEven (hPostEven := hPostEven)
    ∧ quiescent_PostEvenIdeal (hPostEvenIdeal := hPostEvenIdeal)
    ∧ quiescent_PostEvenRefIdeal (hPostEvenRefIdeal := hPostEvenRefIdeal)
    ∧ quiescent_FrontEven (hFrontEven := hFrontEven)
    ∧ quiescent_FrontEvenIdeal (hFrontEvenIdeal := hFrontEvenIdeal)
    ∧ quiescent_FrontEvenRefIdeal (hFrontEvenRefIdeal := hFrontEvenRefIdeal)
    ∧ quiescent_FrontOdd (hFrontOdd := hFrontOdd)
    ∧ quiescent_FrontOddIdeal (hFrontOddIdeal := hFrontOddIdeal)
    ∧ quiescent_FrontOddRefIdeal (hFrontOddRefIdeal := hFrontOddRefIdeal)
    ∧ quiescent_PostCtx (hPostCtx := hPostCtx)
    ∧ quiescent_PostCtxIdeal (hPostCtxIdeal := hPostCtxIdeal)
    ∧ quiescent_PostCtxRefIdeal (hPostCtxRefIdeal := hPostCtxRefIdeal)
    ∧ quiescent_FrontCtx (hFrontCtx := hFrontCtx)
    ∧ quiescent_FrontCtxIdeal (hFrontCtxIdeal := hFrontCtxIdeal)
    ∧ quiescent_FrontCtxRefIdeal (hFrontCtxRefIdeal := hFrontCtxRefIdeal)
    ∧ quiescent_AttnCtx (hAttnCtx := hAttnCtx)
    ∧ quiescent_AttnCtxIdeal (hAttnCtxIdeal := hAttnCtxIdeal)
    ∧ quiescent_AttnCtxIdeal_pre_finite_ctx (hAttnCtxIdeal := hAttnCtxIdeal) (hPre_finite_ctx := hPre_finite_ctx)
    ∧ quiescent_AttnCtxRefIdeal (hAttnCtxRefIdeal := hAttnCtxRefIdeal)
    ∧ quiescent_AttnCtxRefIdeal_pre_finite_ctx (hAttnCtxRefIdeal := hAttnCtxRefIdeal) (hPre_finite_ctx := hPre_finite_ctx)
    ∧ preserves_Kernel_KernelIdeal
    ∧ algebraic_KernelIdeal_ReferenceIdeal_pre_finite (hKernelIdeal := hKernelIdeal) (hReferenceIdeal := hReferenceIdeal) (hPre_finite := hPre_finite)
    ∧ preserves_PostOdd_PostOddIdeal
    ∧ algebraic_PostOddIdeal_PostOddRefIdeal (hPostOddIdeal := hPostOddIdeal) (hPostOddRefIdeal := hPostOddRefIdeal)
    ∧ preserves_PostEven_PostEvenIdeal
    ∧ algebraic_PostEvenIdeal_PostEvenRefIdeal (hPostEvenIdeal := hPostEvenIdeal) (hPostEvenRefIdeal := hPostEvenRefIdeal)
    ∧ preserves_FrontEven_FrontEvenIdeal
    ∧ algebraic_FrontEvenIdeal_FrontEvenRefIdeal (hFrontEvenIdeal := hFrontEvenIdeal) (hFrontEvenRefIdeal := hFrontEvenRefIdeal)
    ∧ preserves_FrontOdd_FrontOddIdeal
    ∧ algebraic_FrontOddIdeal_FrontOddRefIdeal (hFrontOddIdeal := hFrontOddIdeal) (hFrontOddRefIdeal := hFrontOddRefIdeal)
    ∧ preserves_PostCtx_PostCtxIdeal
    ∧ algebraic_PostCtxIdeal_PostCtxRefIdeal (hPostCtxIdeal := hPostCtxIdeal) (hPostCtxRefIdeal := hPostCtxRefIdeal)
    ∧ preserves_FrontCtx_FrontCtxIdeal
    ∧ algebraic_FrontCtxIdeal_FrontCtxRefIdeal (hFrontCtxIdeal := hFrontCtxIdeal) (hFrontCtxRefIdeal := hFrontCtxRefIdeal)
    ∧ preserves_AttnCtx_AttnCtxIdeal
    ∧ algebraic_AttnCtxIdeal_AttnCtxRefIdeal_pre_finite_ctx (hAttnCtxIdeal := hAttnCtxIdeal) (hAttnCtxRefIdeal := hAttnCtxRefIdeal) (hPre_finite_ctx := hPre_finite_ctx)
-- ==== Pre_finite.lean ====
abbrev S4x8x8192x96 : Shape := ⟨4, ![4, 8, 8192, 96]⟩
abbrev S4x8x256x96 : Shape := ⟨4, ![4, 8, 256, 96]⟩
abbrev S_ : Shape := ⟨0, ![]⟩

class Facts : Prop where
  bcast_S_S4x8x8192x96 : S_.BroadcastsInDim S4x8x8192x96 (![] : Fin 0 → Fin S4x8x8192x96.rank)
  reducesTo_S4x8x8192x96_S_d0_1_2_3 : S4x8x8192x96.ReducesTo [0, 1, 2, 3] S_
  h_S_ : 0 < S_.numel
  bcast_S_S4x8x256x96 : S_.BroadcastsInDim S4x8x256x96 (![] : Fin 0 → Fin S4x8x256x96.rank)
  reducesTo_S4x8x256x96_S_d0_1_2_3 : S4x8x256x96.ReducesTo [0, 1, 2, 3] S_

variable [Facts]

def fn {F : FTy → Type} [FloatOps F] (main_arg0 : FVec F S4x8x8192x96 .f32) (main_arg1 : FVec F S4x8x8192x96 .f32) (main_arg2 : FVec F S4x8x8192x96 .f32) (main_arg3 : FVec F S4x8x256x96 .f32) (main_arg4 : FVec F S4x8x256x96 .f32) : IVec S_ 1 :=
  let main_v0 : FVec F S4x8x8192x96 .f32 := Host.absf main_arg0
  let main_cst : FVec F S_ .f32 := constant S_ .f32 0x7F800000#32
  let main_v1 : FVec F S4x8x8192x96 .f32 := broadcastInDim S4x8x8192x96 ![] bcast_S_S4x8x8192x96 main_cst
  let main_v2 : IVec S4x8x8192x96 1 := cmpf .olt main_v0 main_v1
  let main_c : IVec S_ 1 := constantI S_ 1 1#1
  let main_v3 : IVec S_ 1 := (fun x v => Host.reduce IntOp.andi x v reducesTo_S4x8x8192x96_S_d0_1_2_3 h_S_) main_v2 main_c
  let main_v4 : FVec F S4x8x8192x96 .f32 := Host.absf main_arg1
  let main_cst_0 : FVec F S_ .f32 := constant S_ .f32 0x7F800000#32
  let main_v5 : FVec F S4x8x8192x96 .f32 := broadcastInDim S4x8x8192x96 ![] bcast_S_S4x8x8192x96 main_cst_0
  let main_v6 : IVec S4x8x8192x96 1 := cmpf .olt main_v4 main_v5
  let main_c_1 : IVec S_ 1 := constantI S_ 1 1#1
  let main_v7 : IVec S_ 1 := (fun x v => Host.reduce IntOp.andi x v reducesTo_S4x8x8192x96_S_d0_1_2_3 h_S_) main_v6 main_c_1
  let main_v8 : IVec S_ 1 := andi main_v3 main_v7
  let main_v9 : FVec F S4x8x256x96 .f32 := Host.absf main_arg3
  let main_cst_2 : FVec F S_ .f32 := constant S_ .f32 0x7F800000#32
  let main_v10 : FVec F S4x8x256x96 .f32 := broadcastInDim S4x8x256x96 ![] bcast_S_S4x8x256x96 main_cst_2
  let main_v11 : IVec S4x8x256x96 1 := cmpf .olt main_v9 main_v10
  let main_c_3 : IVec S_ 1 := constantI S_ 1 1#1
  let main_v12 : IVec S_ 1 := (fun x v => Host.reduce IntOp.andi x v reducesTo_S4x8x256x96_S_d0_1_2_3 h_S_) main_v11 main_c_3
  let main_v13 : IVec S_ 1 := andi main_v8 main_v12
  main_v13
-- ==== Pre_finite_ctx.lean ====
abbrev S4x256x3072 : Shape := ⟨3, ![4, 256, 3072]⟩
abbrev S4x256x1024 : Shape := ⟨3, ![4, 256, 1024]⟩
abbrev S_ : Shape := ⟨0, ![]⟩

class Facts : Prop where
  slices_S4x256x3072_S4x256x1024_0_0_1536 : S4x256x3072.Slices ![0, 0, 1536] S4x256x1024
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel

variable [Facts]

def fn {F : FTy → Type} [FloatOps F] (main_arg0 : FVec F S4x256x3072 .f32) : IVec S_ 1 :=
  let main_v0 : FVec F S4x256x1024 .f32 := (extractStridedSlice S4x256x1024 ![0, 0, 1536] · slices_S4x256x3072_S4x256x1024_0_0_1536) main_arg0
  let main_v1 : FVec F S4x256x1024 .f32 := Host.absf main_v0
  let main_cst : FVec F S_ .f32 := constant S_ .f32 0x7F800000#32
  let main_v2 : FVec F S4x256x1024 .f32 := broadcastInDim S4x256x1024 ![] bcast_S_S4x256x1024 main_cst
  let main_v3 : IVec S4x256x1024 1 := cmpf .olt main_v1 main_v2
  let main_c : IVec S_ 1 := constantI S_ 1 1#1
  let main_v4 : IVec S_ 1 := (fun x v => Host.reduce IntOp.andi x v reducesTo_S4x256x1024_S_d0_1_2 h_S_) main_v3 main_c
  main_v4
-- ==== Kernel.lean ====
abbrev S4x8x8192x96 : Shape := ⟨4, ![4, 8, 8192, 96]⟩
abbrev S4x8x256x96 : Shape := ⟨4, ![4, 8, 256, 96]⟩
abbrev S_ : Shape := ⟨0, ![]⟩
abbrev S4x8x8448x96 : Shape := ⟨4, ![4, 8, 8448, 96]⟩
abbrev S4x8448x8x96 : Shape := ⟨4, ![4, 8448, 8, 96]⟩
abbrev S4x8448x8x1 : Shape := ⟨4, ![4, 8448, 8, 1]⟩
abbrev S4x8448x8x31 : Shape := ⟨4, ![4, 8448, 8, 31]⟩
abbrev S4x8448x8x128 : Shape := ⟨4, ![4, 8448, 8, 128]⟩
abbrev S4x8448x1024 : Shape := ⟨3, ![4, 8448, 1024]⟩
abbrev S4x8192x1024 : Shape := ⟨3, ![4, 8192, 1024]⟩
abbrev S1x1024x128 : Shape := ⟨3, ![1, 1024, 128]⟩
abbrev S1x8448x128 : Shape := ⟨3, ![1, 8448, 128]⟩
abbrev S1x256x128 : Shape := ⟨3, ![1, 256, 128]⟩
abbrev S256x128 : Shape := ⟨2, ![256, 128]⟩
abbrev S8448x128 : Shape := ⟨2, ![8448, 128]⟩
abbrev S256x8448 : Shape := ⟨2, ![256, 8448]⟩
abbrev S256 : Shape := ⟨1, ![256]⟩
abbrev S256x1 : Shape := ⟨2, ![256, 1]⟩

abbrev nBuf : Space → Nat
  | .hbm => 44
  | .vmem => 8
  | .smem => 0
  | _ => 0

abbrev bufTy : (tb : Table) → Fin (tcTables nBuf tb) → BufTy
  | .hbm, ⟨0, _⟩ => ⟨S4x8x8192x96, .f32⟩
  | .hbm, ⟨1, _⟩ => ⟨S4x8x8192x96, .f32⟩
  | .hbm, ⟨2, _⟩ => ⟨S4x8x8192x96, .f32⟩
  | .hbm, ⟨3, _⟩ => ⟨S4x8x256x96, .f32⟩
  | .hbm, ⟨4, _⟩ => ⟨S4x8x256x96, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x8x8192x96, .f32⟩
  | .hbm, ⟨13, _⟩ => ⟨S4x8x8192x96, .f32⟩
  | .hbm, ⟨14, _⟩ => ⟨S_, .f32⟩
  | .hbm, ⟨15, _⟩ => ⟨S4x8x256x96, .f32⟩
  | .hbm, ⟨16, _⟩ => ⟨S4x8x8448x96, .f32⟩
  | .hbm, ⟨17, _⟩ => ⟨S4x8448x8x96, .f32⟩
  | .hbm, ⟨18, _⟩ => ⟨S_, .f32⟩
  | .hbm, ⟨19, _⟩ => ⟨S4x8448x8x1, .f32⟩
  | .hbm, ⟨20, _⟩ => ⟨S_, .f32⟩
  | .hbm, ⟨21, _⟩ => ⟨S4x8448x8x31, .f32⟩
  | .hbm, ⟨22, _⟩ => ⟨S4x8448x8x128, .f32⟩
  | .hbm, ⟨23, _⟩ => ⟨S4x8448x1024, .f32⟩
  | .hbm, ⟨24, _⟩ => ⟨S4x8448x1024, .bf16⟩
  | .hbm, ⟨25, _⟩ => ⟨S4x8x8448x96, .f32⟩
  | .hbm, ⟨26, _⟩ => ⟨S4x8448x8x96, .f32⟩
  | .hbm, ⟨27, _⟩ => ⟨S_, .f32⟩
  | .hbm, ⟨28, _⟩ => ⟨S4x8448x8x1, .f32⟩
  | .hbm, ⟨29, _⟩ => ⟨S_, .f32⟩
  | .hbm, ⟨30, _⟩ => ⟨S4x8448x8x31, .f32⟩
  | .hbm, ⟨31, _⟩ => ⟨S4x8448x8x128, .f32⟩
  | .hbm, ⟨32, _⟩ => ⟨S4x8448x1024, .f32⟩
  | .hbm, ⟨33, _⟩ => ⟨S4x8448x1024, .bf16⟩
  | .hbm, ⟨34, _⟩ => ⟨S4x8x8448x96, .f32⟩
  | .hbm, ⟨35, _⟩ => ⟨S4x8448x8x96, .f32⟩
  | .hbm, ⟨36, _⟩ => ⟨S_, .f32⟩
  | .hbm, ⟨37, _⟩ => ⟨S4x8448x8x1, .f32⟩
  | .hbm, ⟨38, _⟩ => ⟨S_, .f32⟩
  | .hbm, ⟨39, _⟩ => ⟨S4x8448x8x31, .f32⟩
  | .hbm, ⟨40, _⟩ => ⟨S4x8448x8x128, .f32⟩
  | .hbm, ⟨41, _⟩ => ⟨S4x8448x1024, .f32⟩
  | .hbm, ⟨42, _⟩ => ⟨S4x8448x1024, .bf16⟩
  | .hbm, ⟨43, _⟩ => ⟨S4x8192x1024, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x1024x128, .bf16⟩
  | .local _ .vmem, ⟨7, _⟩ => ⟨S1x1024x128, .bf16⟩
  | _, _ => ⟨S4x8x8192x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_cst_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x8x8192x96 : Shape := ⟨4, ![4, 8, 8192, 96]⟩
abbrev S4x8x256x96 : Shape := ⟨4, ![4, 8, 256, 96]⟩
abbrev S_ : Shape := ⟨0, ![]⟩
abbrev S4x8x8192x8192 : Shape := ⟨4, ![4, 8, 8192, 8192]⟩
abbrev S4x8x8192x256 : Shape := ⟨4, ![4, 8, 8192, 256]⟩
abbrev S4x8x8192x8448 : Shape := ⟨4, ![4, 8, 8192, 8448]⟩
abbrev S4x8x8192 : Shape := ⟨3, ![4, 8, 8192]⟩
abbrev S4x8x8192x1 : Shape := ⟨4, ![4, 8, 8192, 1]⟩
abbrev S4x8192x8x96 : Shape := ⟨4, ![4, 8192, 8, 96]⟩
abbrev S4x8192x8x1 : Shape := ⟨4, ![4, 8192, 8, 1]⟩
abbrev S4x8192x8x31 : Shape := ⟨4, ![4, 8192, 8, 31]⟩
abbrev S4x8192x8x128 : Shape := ⟨4, ![4, 8192, 8, 128]⟩
abbrev S4x8192x1024 : Shape := ⟨3, ![4, 8192, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x8x8192x96, .f32⟩
  | .hbm, ⟨1, _⟩ => ⟨S4x8x8192x96, .f32⟩
  | .hbm, ⟨2, _⟩ => ⟨S4x8x8192x96, .f32⟩
  | .hbm, ⟨3, _⟩ => ⟨S4x8x256x96, .f32⟩
  | .hbm, ⟨4, _⟩ => ⟨S4x8x256x96, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x8x8192x8192, .f32⟩
  | .hbm, ⟨10, _⟩ => ⟨S4x8x8192x256, .f32⟩
  | .hbm, ⟨11, _⟩ => ⟨S4x8x8192x8448, .f32⟩
  | .hbm, ⟨12, _⟩ => ⟨S4x8x8192x8448, .f32⟩
  | .hbm, ⟨13, _⟩ => ⟨S4x8x8192x8448, .f32⟩
  | .hbm, ⟨14, _⟩ => ⟨S_, .f32⟩
  | .hbm, ⟨15, _⟩ => ⟨S4x8x8192, .f32⟩
  | .hbm, ⟨16, _⟩ => ⟨S_, .f32⟩
  | .hbm, ⟨17, _⟩ => ⟨S4x8x8192, .f32⟩
  | .hbm, ⟨18, _⟩ => ⟨S4x8x8192, .f32⟩
  | .hbm, ⟨19, _⟩ => ⟨S4x8x8192x1, .f32⟩
  | .hbm, ⟨20, _⟩ => ⟨S4x8x8192x8448, .f32⟩
  | .hbm, ⟨21, _⟩ => ⟨S4x8x8192x8448, .f32⟩
  | .hbm, ⟨22, _⟩ => ⟨S4x8x8192x8448, .f32⟩
  | .hbm, ⟨23, _⟩ => ⟨S_, .f32⟩
  | .hbm, ⟨24, _⟩ => ⟨S4x8x8192, .f32⟩
  | .hbm, ⟨25, _⟩ => ⟨S4x8x8192x1, .f32⟩
  | .hbm, ⟨26, _⟩ => ⟨S4x8x8192x8448, .f32⟩
  | .hbm, ⟨27, _⟩ => ⟨S4x8x8192x8448, .f32⟩
  | .hbm, ⟨28, _⟩ => ⟨S4x8x8192x8192, .f32⟩
  | .hbm, ⟨29, _⟩ => ⟨S4x8x8192x96, .f32⟩
  | .hbm, ⟨30, _⟩ => ⟨S4x8x8192x256, .f32⟩
  | .hbm, ⟨31, _⟩ => ⟨S4x8x8192x96, .f32⟩
  | .hbm, ⟨32, _⟩ => ⟨S4x8x8192x96, .f32⟩
  | .hbm, ⟨33, _⟩ => ⟨S4x8192x8x96, .f32⟩
  | .hbm, ⟨34, _⟩ => ⟨S_, .f32⟩
  | .hbm, ⟨35, _⟩ => ⟨S4x8192x8x1, .f32⟩
  | .hbm, ⟨36, _⟩ => ⟨S_, .f32⟩
  | .hbm, ⟨37, _⟩ => ⟨S4x8192x8x31, .f32⟩
  | .hbm, ⟨38, _⟩ => ⟨S4x8192x8x128, .f32⟩
  | .hbm, ⟨39, _⟩ => ⟨S4x8192x1024, .f32⟩
  | .hbm, ⟨40, _⟩ => ⟨S4x8192x1024, .bf16⟩
  | _, _ => ⟨S4x8x8192x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== PostOdd.lean ====
abbrev S4x8192x1024 : Shape := ⟨3, ![4, 8192, 1024]⟩
abbrev S4x2x6x1024 : Shape := ⟨4, ![4, 2, 6, 1024]⟩
abbrev S4x64x256x128 : Shape := ⟨4, ![4, 64, 256, 128]⟩
abbrev S1024x1024 : Shape := ⟨2, ![1024, 1024]⟩
abbrev S2x1024 : Shape := ⟨2, ![2, 1024]⟩
abbrev S1024x4096 : Shape := ⟨2, ![1024, 4096]⟩
abbrev S4096x1024 : Shape := ⟨2, ![4096, 1024]⟩
abbrev S768x1024 : Shape := ⟨2, ![768, 1024]⟩
abbrev S8x96x1024 : Shape := ⟨3, ![8, 96, 1024]⟩
abbrev S_ : Shape := ⟨0, ![]⟩
abbrev S8x128x1024 : Shape := ⟨3, ![8, 128, 1024]⟩
abbrev S256x1024 : Shape := ⟨2, ![256, 1024]⟩
abbrev S2x128x1024 : Shape := ⟨3, ![2, 128, 1024]⟩
abbrev S128x2x1024 : Shape := ⟨3, ![128, 2, 1024]⟩
abbrev S1x1024x1024 : Shape := ⟨3, ![1, 1024, 1024]⟩
abbrev S1x1x6x1024 : Shape := ⟨4, ![1, 1, 6, 1024]⟩
abbrev S1x8x256x128 : Shape := ⟨4, ![1, 8, 256, 128]⟩
abbrev S6x1024 : Shape := ⟨2, ![6, 1024]⟩
abbrev S1x256x1024 : Shape := ⟨3, ![1, 256, 1024]⟩
abbrev S1x1x256x128 : Shape := ⟨4, ![1, 1, 256, 128]⟩
abbrev S256x128 : Shape := ⟨2, ![256, 128]⟩
abbrev S128x256 : Shape := ⟨2, ![128, 256]⟩
abbrev S256x256 : Shape := ⟨2, ![256, 256]⟩
abbrev S1x1024 : Shape := ⟨2, ![1, 1024]⟩
abbrev S256 : Shape := ⟨1, ![256]⟩
abbrev S256x1 : Shape := ⟨2, ![256, 1]⟩

abbrev nBuf : Space → Nat
  | .hbm => 25
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S4x2x6x1024, .f32⟩
  | .hbm, ⟨2, _⟩ => ⟨S4x8192x1024, .f32⟩
  | .hbm, ⟨3, _⟩ => ⟨S4x64x256x128, .f32⟩
  | .hbm, ⟨4, _⟩ => ⟨S1024x1024, .f32⟩
  | .hbm, ⟨5, _⟩ => ⟨S2x1024, .f32⟩
  | .hbm, ⟨6, _⟩ => ⟨S2x1024, .f32⟩
  | .hbm, ⟨7, _⟩ => ⟨S1024x4096, .f32⟩
  | .hbm, ⟨8, _⟩ => ⟨S4096x1024, .f32⟩
  | .hbm, ⟨9, _⟩ => ⟨S768x1024, .f32⟩
  | .hbm, ⟨10, _⟩ => ⟨S8x96x1024, .f32⟩
  | .hbm, ⟨11, _⟩ => ⟨S_, .i32⟩
  | .hbm, ⟨12, _⟩ => ⟨S_, .f32⟩
  | .hbm, ⟨13, _⟩ => ⟨S8x128x1024, .f32⟩
  | .hbm, ⟨14, _⟩ => ⟨S1024x1024, .f32⟩
  | .hbm, ⟨15, _⟩ => ⟨S1024x1024, .bf16⟩
  | .hbm, ⟨16, _⟩ => ⟨S256x1024, .f32⟩
  | .hbm, ⟨17, _⟩ => ⟨S2x128x1024, .f32⟩
  | .hbm, ⟨18, _⟩ => ⟨S128x2x1024, .f32⟩
  | .hbm, ⟨19, _⟩ => ⟨S256x1024, .f32⟩
  | .hbm, ⟨20, _⟩ => ⟨S4x8192x1024, .bf16⟩
  | .hbm, ⟨21, _⟩ => ⟨S256x1024, .bf16⟩
  | .hbm, ⟨22, _⟩ => ⟨S1024x4096, .bf16⟩
  | .hbm, ⟨23, _⟩ => ⟨S4096x1024, .bf16⟩
  | .hbm, ⟨24, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1x8x256x128, .f32⟩
  | .local _ .vmem, ⟨7, _⟩ => ⟨S1x8x256x128, .f32⟩
  | .local _ .vmem, ⟨8, _⟩ => ⟨S1024x1024, .bf16⟩
  | .local _ .vmem, ⟨9, _⟩ => ⟨S256x1024, .bf16⟩
  | .local _ .vmem, ⟨10, _⟩ => ⟨S2x1024, .f32⟩
  | .local _ .vmem, ⟨11, _⟩ => ⟨S2x1024, .f32⟩
  | .local _ .vmem, ⟨12, _⟩ => ⟨S1024x4096, .bf16⟩
  | .local _ .vmem, ⟨13, _⟩ => ⟨S4096x1024, .bf16⟩
  | .local _ .vmem, ⟨14, _⟩ => ⟨S1x1024x1024, .f32⟩
  | .local _ .vmem, ⟨15, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== PostOddRefIdeal.lean ====
abbrev S4x8192x1024 : Shape := ⟨3, ![4, 8192, 1024]⟩
abbrev S4x2x6x1024 : Shape := ⟨4, ![4, 2, 6, 1024]⟩
abbrev S4x64x256x128 : Shape := ⟨4, ![4, 64, 256, 128]⟩
abbrev S1024x1024 : Shape := ⟨2, ![1024, 1024]⟩
abbrev S2x1024 : Shape := ⟨2, ![2, 1024]⟩
abbrev S1024x4096 : Shape := ⟨2, ![1024, 4096]⟩
abbrev S4096x1024 : Shape := ⟨2, ![4096, 1024]⟩
abbrev S4x8192x8x128 : Shape := ⟨4, ![4, 8192, 8, 128]⟩
abbrev S4x8192x8x96 : Shape := ⟨4, ![4, 8192, 8, 96]⟩
abbrev S4x8192x768 : Shape := ⟨3, ![4, 8192, 768]⟩
abbrev S4x64x128x2x128 : Shape := ⟨5, ![4, 64, 128, 2, 128]⟩
abbrev S4x8192x256 : Shape := ⟨3, ![4, 8192, 256]⟩
abbrev S4x1x6x1024 : Shape := ⟨4, ![4, 1, 6, 1024]⟩
abbrev S4x6x1024 : Shape := ⟨3, ![4, 6, 1024]⟩
abbrev S4x1x1024 : Shape := ⟨3, ![4, 1, 1024]⟩
abbrev S_ : Shape := ⟨0, ![]⟩
abbrev S1x1024 : Shape := ⟨2, ![1, 1024]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩

abbrev nBuf : Space → Nat
  | .hbm => 137
  | .vmem => 0
  | .smem => 0
  | _ => 0

abbrev hbmTy0_0 (i : Nat) : BufTy := match i % 128 with
  | 0 => ⟨S4x8192x1024, .f32⟩
  | 1 => ⟨S4x2x6x1024, .f32⟩
  | 2 => ⟨S4x8192x1024, .f32⟩
  | 3 => ⟨S4x64x256x128, .f32⟩
  | 4 => ⟨S1024x1024, .f32⟩
  | 5 => ⟨S2x1024, .f32⟩
  | 6 => ⟨S2x1024, .f32⟩
  | 7 => ⟨S1024x4096, .f32⟩
  | 8 => ⟨S4096x1024, .f32⟩
  | 9 => ⟨S4x8192x8x128, .f32⟩
  | 10 => ⟨S4x8192x8x96, .f32⟩
  | 11 => ⟨S4x8192x768, .f32⟩
  | 12 => ⟨S4x64x128x2x128, .f32⟩
  | 13 => ⟨S4x64x128x2x128, .f32⟩
  | 14 => ⟨S4x8192x256, .f32⟩
  | 15 => ⟨S4x8192x1024, .f32⟩
  | 16 => ⟨S4x8192x1024, .f32⟩
  | 17 => ⟨S4x1x6x1024, .f32⟩
  | 18 => ⟨S4x6x1024, .f32⟩
  | 19 => ⟨S4x1x1024, .f32⟩
  | 20 => ⟨S4x1x1024, .f32⟩
  | 21 => ⟨S4x1x1024, .f32⟩
  | 22 => ⟨S4x1x1024, .f32⟩
  | 23 => ⟨S_, .f32⟩
  | 24 => ⟨S4x8192x1024, .f32⟩
  | 25 => ⟨S4x8192x1024, .f32⟩
  | 26 => ⟨S4x8192x1024, .f32⟩
  | 27 => ⟨S4x8192x1024, .f32⟩
  | 28 => ⟨S4x8192x1024, .f32⟩
  | 29 => ⟨S1x1024, .f32⟩
  | 30 => ⟨S1024, .f32⟩
  | 31 => ⟨S1x1024, .f32⟩
  | 32 => ⟨S1024, .f32⟩
  | 33 => ⟨S_, .f32⟩
  | 34 => ⟨S4x8192, .f32⟩
  | 35 => ⟨S4x8192x1, .f32⟩
  | 36 => ⟨S_, .f32⟩
  | 37 => ⟨S4x8192x1, .f32⟩
  | 38 => ⟨S4x8192x1, .f32⟩
  | 39 => ⟨S4x8192x1024, .f32⟩
  | 40 => ⟨S4x8192x1024, .f32⟩
  | 41 => ⟨S4x8192x1024, .f32⟩
  | 42 => ⟨S_, .f32⟩
  | 43 => ⟨S4x8192, .f32⟩
  | 44 => ⟨S4x8192x1, .f32⟩
  | 45 => ⟨S_, .f32⟩
  | 46 => ⟨S4x8192x1, .f32⟩
  | 47 => ⟨S4x8192x1, .f32⟩
  | 48 => ⟨S4x8192x1024, .f32⟩
  | 49 => ⟨S4x8192x1024, .f32⟩
  | 50 => ⟨S_, .f32⟩
  | 51 => ⟨S4x8192x1, .f32⟩
  | 52 => ⟨S4x8192x1, .f32⟩
  | 53 => ⟨S4x8192x1, .f32⟩
  | 54 => ⟨S4x8192x1024, .f32⟩
  | 55 => ⟨S4x8192x1024, .f32⟩
  | 56 => ⟨S1x1x1024, .f32⟩
  | 57 => ⟨S4x8192x1024, .f32⟩
  | 58 => ⟨S4x8192x1024, .f32⟩
  | 59 => ⟨S1x1x1024, .f32⟩
  | 60 => ⟨S4x8192x1024, .f32⟩
  | 61 => ⟨S4x8192x1024, .f32⟩
  | 62 => ⟨S_, .f32⟩
  | 63 => ⟨S4x8192x1024, .f32⟩
  | 64 => ⟨S4x8192x1024, .f32⟩
  | 65 => ⟨S_, .f32⟩
  | 66 => ⟨S4x8192, .f32⟩
  | 67 => ⟨S4x8192x1, .f32⟩
  | 68 => ⟨S_, .f32⟩
  | 69 => ⟨S4x8192x1, .f32⟩
  | 70 => ⟨S4x8192x1, .f32⟩
  | 71 => ⟨S4x8192x1024, .f32⟩
  | 72 => ⟨S4x8192x1024, .f32⟩
  | 73 => ⟨S4x8192x1024, .f32⟩
  | 74 => ⟨S_, .f32⟩
  | 75 => ⟨S4x8192, .f32⟩
  | 76 => ⟨S4x8192x1, .f32⟩
  | 77 => ⟨S_, .f32⟩
  | 78 => ⟨S4x8192x1, .f32⟩
  | 79 => ⟨S4x8192x1, .f32⟩
  | 80 => ⟨S4x8192x1024, .f32⟩
  | 81 => ⟨S4x8192x1024, .f32⟩
  | 82 => ⟨S_, .f32⟩
  | 83 => ⟨S4x8192x1, .f32⟩
  | 84 => ⟨S4x8192x1, .f32⟩
  | 85 => ⟨S4x8192x1, .f32⟩
  | 86 => ⟨S4x8192x1024, .f32⟩
  | 87 => ⟨S4x8192x1024, .f32⟩
  | 88 => ⟨S_, .f32⟩
  | 89 => ⟨S4x1x1024, .f32⟩
  | 90 => ⟨S4x1x1024, .f32⟩
  | 91 => ⟨S4x8192x1024, .f32⟩
  | 92 => ⟨S4x8192x1024, .f32⟩
  | 93 => ⟨S4x8192x1024, .f32⟩
  | 94 => ⟨S4x8192x1024, .f32⟩
  | 95 => ⟨S4x8192x4096, .f32⟩
  | 96 => ⟨S_, .f32⟩
  | 97 => ⟨S4x8192x4096, .f32⟩
  | 98 => ⟨S4x8192x4096, .f32⟩
  | 99 => ⟨S4x8192x4096, .f32⟩
  | 100 => ⟨S4x8192x1024, .f32⟩
  | 101 => ⟨S4x8192x1024, .f32⟩
  | 102 => ⟨S4x8192x1024, .f32⟩
  | 103 => ⟨S4x8192x1024, .f32⟩
  | 104 => ⟨S1x1024, .f32⟩
  | 105 => ⟨S1024, .f32⟩
  | 106 => ⟨S1x1024, .f32⟩
  | 107 => ⟨S1024, .f32⟩
  | 108 => ⟨S_, .f32⟩
  | 109 => ⟨S4x8192, .f32⟩
  | 110 => ⟨S4x8192x1, .f32⟩
  | 111 => ⟨S_, .f32⟩
  | 112 => ⟨S4x8192x1, .f32⟩
  | 113 => ⟨S4x8192x1, .f32⟩
  | 114 => ⟨S4x8192x1024, .f32⟩
  | 115 => ⟨S4x8192x1024, .f32⟩
  | 116 => ⟨S4x8192x1024, .f32⟩
  | 117 => ⟨S_, .f32⟩
  | 118 => ⟨S4x8192, .f32⟩
  | 119 => ⟨S4x8192x1, .f32⟩
  | 120 => ⟨S_, .f32⟩
  | 121 => ⟨S4x8192x1, .f32⟩
  | 122 => ⟨S4x8192x1, .f32⟩
  | 123 => ⟨S4x8192x1024, .f32⟩
  | 124 => ⟨S4x8192x1024, .f32⟩
  | 125 => ⟨S_, .f32⟩
  | 126 => ⟨S4x8192x1, .f32⟩
  | 127 => ⟨S4x8192x1, .f32⟩
  | _ => ⟨S4x8192x1024, .f32⟩

abbrev hbmTy0_1 (i : Nat) : BufTy := match i % 128 with
  | 0 => ⟨S4x8192x1, .f32⟩
  | 1 => ⟨S4x8192x1024, .f32⟩
  | 2 => ⟨S4x8192x1024, .f32⟩
  | 3 => ⟨S1x1x1024, .f32⟩
  | 4 => ⟨S4x8192x1024, .f32⟩
  | 5 => ⟨S4x8192x1024, .f32⟩
  | 6 => ⟨S1x1x1024, .f32⟩
  | 7 => ⟨S4x8192x1024, .f32⟩
  | 8 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_11 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call0_cst : Ref sig .tc := ⟨.hbm, 96, rfl⟩
abbrev main_call0_v0 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_12 : Ref sig .tc := ⟨.hbm, 108, rfl⟩
abbrev main_v84 : Ref sig .tc := ⟨.hbm, 109, rfl⟩
abbrev main_v85 : Ref sig .tc := ⟨.hbm, 110, rfl⟩
abbrev main_cst_13 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_14 : Ref sig .tc := ⟨.hbm, 117, rfl⟩
abbrev main_v91 : Ref sig .tc := ⟨.hbm, 118, rfl⟩
abbrev main_v92 : Ref sig .tc := ⟨.hbm, 119, rfl⟩
abbrev main_cst_15 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_16 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩

abbrev nD : Nat := 1
abbrev τ : Topo := Topo.v7x

variable {F : FTy → Type} [FloatOps F]
-- ==== PostEven.lean ====
abbrev S4x8192x1024 : Shape := ⟨3, ![4, 8192, 1024]⟩
abbrev S4x2x6x1024 : Shape := ⟨4, ![4, 2, 6, 1024]⟩
abbrev S4x64x512x128 : Shape := ⟨4, ![4, 64, 512, 128]⟩
abbrev S4x8192x512 : Shape := ⟨3, ![4, 8192, 512]⟩
abbrev S1024x1024 : Shape := ⟨2, ![1024, 1024]⟩
abbrev S2x1024 : Shape := ⟨2, ![2, 1024]⟩
abbrev S1024x4096 : Shape := ⟨2, ![1024, 4096]⟩
abbrev S4096x1024 : Shape := ⟨2, ![4096, 1024]⟩
abbrev S512x1024 : Shape := ⟨2, ![512, 1024]⟩
abbrev S1x1024x1024 : Shape := ⟨3, ![1, 1024, 1024]⟩
abbrev S1x1x6x1024 : Shape := ⟨4, ![1, 1, 6, 1024]⟩
abbrev S1x8x512x128 : Shape := ⟨4, ![1, 8, 512, 128]⟩
abbrev S1x1024x512 : Shape := ⟨3, ![1, 1024, 512]⟩
abbrev S6x1024 : Shape := ⟨2, ![6, 1024]⟩
abbrev S1x1x512x128 : Shape := ⟨4, ![1, 1, 512, 128]⟩
abbrev S512x128 : Shape := ⟨2, ![512, 128]⟩
abbrev S128x512 : Shape := ⟨2, ![128, 512]⟩
abbrev S256x512 : Shape := ⟨2, ![256, 512]⟩
abbrev S256x1024 : Shape := ⟨2, ![256, 1024]⟩
abbrev S1x256x512 : Shape := ⟨3, ![1, 256, 512]⟩
abbrev S1x256x1024 : Shape := ⟨3, ![1, 256, 1024]⟩
abbrev S1x1024 : Shape := ⟨2, ![1, 1024]⟩
abbrev S256 : Shape := ⟨1, ![256]⟩
abbrev S256x1 : Shape := ⟨2, ![256, 1]⟩

abbrev nBuf : Space → Nat
  | .hbm => 16
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S4x2x6x1024, .f32⟩
  | .hbm, ⟨2, _⟩ => ⟨S4x64x512x128, .f32⟩
  | .hbm, ⟨3, _⟩ => ⟨S4x8192x512, .f32⟩
  | .hbm, ⟨4, _⟩ => ⟨S1024x1024, .f32⟩
  | .hbm, ⟨5, _⟩ => ⟨S2x1024, .f32⟩
  | .hbm, ⟨6, _⟩ => ⟨S2x1024, .f32⟩
  | .hbm, ⟨7, _⟩ => ⟨S1024x4096, .f32⟩
  | .hbm, ⟨8, _⟩ => ⟨S4096x1024, .f32⟩
  | .hbm, ⟨9, _⟩ => ⟨S1024x1024, .bf16⟩
  | .hbm, ⟨10, _⟩ => ⟨S4x8192x512, .bf16⟩
  | .hbm, ⟨11, _⟩ => ⟨S512x1024, .bf16⟩
  | .hbm, ⟨12, _⟩ => ⟨S512x1024, .bf16⟩
  | .hbm, ⟨13, _⟩ => ⟨S1024x4096, .bf16⟩
  | .hbm, ⟨14, _⟩ => ⟨S4096x1024, .bf16⟩
  | .hbm, ⟨15, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x8x512x128, .f32⟩
  | .local _ .vmem, ⟨5, _⟩ => ⟨S1x8x512x128, .f32⟩
  | .local _ .vmem, ⟨6, _⟩ => ⟨S1x1024x512, .bf16⟩
  | .local _ .vmem, ⟨7, _⟩ => ⟨S1x1024x512, .bf16⟩
  | .local _ .vmem, ⟨8, _⟩ => ⟨S512x1024, .bf16⟩
  | .local _ .vmem, ⟨9, _⟩ => ⟨S512x1024, .bf16⟩
  | .local _ .vmem, ⟨10, _⟩ => ⟨S2x1024, .f32⟩
  | .local _ .vmem, ⟨11, _⟩ => ⟨S2x1024, .f32⟩
  | .local _ .vmem, ⟨12, _⟩ => ⟨S1024x4096, .bf16⟩
  | .local _ .vmem, ⟨13, _⟩ => ⟨S4096x1024, .bf16⟩
  | .local _ .vmem, ⟨14, _⟩ => ⟨S1x1024x1024, .f32⟩
  | .local _ .vmem, ⟨15, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== PostEvenRefIdeal.lean ====
abbrev S4x8192x1024 : Shape := ⟨3, ![4, 8192, 1024]⟩
abbrev S4x2x6x1024 : Shape := ⟨4, ![4, 2, 6, 1024]⟩
abbrev S4x64x512x128 : Shape := ⟨4, ![4, 64, 512, 128]⟩
abbrev S4x8192x512 : Shape := ⟨3, ![4, 8192, 512]⟩
abbrev S1024x1024 : Shape := ⟨2, ![1024, 1024]⟩
abbrev S2x1024 : Shape := ⟨2, ![2, 1024]⟩
abbrev S1024x4096 : Shape := ⟨2, ![1024, 4096]⟩
abbrev S4096x1024 : Shape := ⟨2, ![4096, 1024]⟩
abbrev S4x64x128x512 : Shape := ⟨4, ![4, 64, 128, 512]⟩
abbrev S4x1x6x1024 : Shape := ⟨4, ![4, 1, 6, 1024]⟩
abbrev S4x6x1024 : Shape := ⟨3, ![4, 6, 1024]⟩
abbrev S4x1x1024 : Shape := ⟨3, ![4, 1, 1024]⟩
abbrev S_ : Shape := ⟨0, ![]⟩
abbrev S1x1024 : Shape := ⟨2, ![1, 1024]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩

abbrev nBuf : Space → Nat
  | .hbm => 133
  | .vmem => 0
  | .smem => 0
  | _ => 0

abbrev hbmTy0_0 (i : Nat) : BufTy := match i % 128 with
  | 0 => ⟨S4x8192x1024, .f32⟩
  | 1 => ⟨S4x2x6x1024, .f32⟩
  | 2 => ⟨S4x64x512x128, .f32⟩
  | 3 => ⟨S4x8192x512, .f32⟩
  | 4 => ⟨S1024x1024, .f32⟩
  | 5 => ⟨S2x1024, .f32⟩
  | 6 => ⟨S2x1024, .f32⟩
  | 7 => ⟨S1024x4096, .f32⟩
  | 8 => ⟨S4096x1024, .f32⟩
  | 9 => ⟨S4x64x128x512, .f32⟩
  | 10 => ⟨S4x8192x512, .f32⟩
  | 11 => ⟨S4x8192x1024, .f32⟩
  | 12 => ⟨S4x8192x1024, .f32⟩
  | 13 => ⟨S4x1x6x1024, .f32⟩
  | 14 => ⟨S4x6x1024, .f32⟩
  | 15 => ⟨S4x1x1024, .f32⟩
  | 16 => ⟨S4x1x1024, .f32⟩
  | 17 => ⟨S4x1x1024, .f32⟩
  | 18 => ⟨S4x1x1024, .f32⟩
  | 19 => ⟨S_, .f32⟩
  | 20 => ⟨S4x8192x1024, .f32⟩
  | 21 => ⟨S4x8192x1024, .f32⟩
  | 22 => ⟨S4x8192x1024, .f32⟩
  | 23 => ⟨S4x8192x1024, .f32⟩
  | 24 => ⟨S4x8192x1024, .f32⟩
  | 25 => ⟨S1x1024, .f32⟩
  | 26 => ⟨S1024, .f32⟩
  | 27 => ⟨S1x1024, .f32⟩
  | 28 => ⟨S1024, .f32⟩
  | 29 => ⟨S_, .f32⟩
  | 30 => ⟨S4x8192, .f32⟩
  | 31 => ⟨S4x8192x1, .f32⟩
  | 32 => ⟨S_, .f32⟩
  | 33 => ⟨S4x8192x1, .f32⟩
  | 34 => ⟨S4x8192x1, .f32⟩
  | 35 => ⟨S4x8192x1024, .f32⟩
  | 36 => ⟨S4x8192x1024, .f32⟩
  | 37 => ⟨S4x8192x1024, .f32⟩
  | 38 => ⟨S_, .f32⟩
  | 39 => ⟨S4x8192, .f32⟩
  | 40 => ⟨S4x8192x1, .f32⟩
  | 41 => ⟨S_, .f32⟩
  | 42 => ⟨S4x8192x1, .f32⟩
  | 43 => ⟨S4x8192x1, .f32⟩
  | 44 => ⟨S4x8192x1024, .f32⟩
  | 45 => ⟨S4x8192x1024, .f32⟩
  | 46 => ⟨S_, .f32⟩
  | 47 => ⟨S4x8192x1, .f32⟩
  | 48 => ⟨S4x8192x1, .f32⟩
  | 49 => ⟨S4x8192x1, .f32⟩
  | 50 => ⟨S4x8192x1024, .f32⟩
  | 51 => ⟨S4x8192x1024, .f32⟩
  | 52 => ⟨S1x1x1024, .f32⟩
  | 53 => ⟨S4x8192x1024, .f32⟩
  | 54 => ⟨S4x8192x1024, .f32⟩
  | 55 => ⟨S1x1x1024, .f32⟩
  | 56 => ⟨S4x8192x1024, .f32⟩
  | 57 => ⟨S4x8192x1024, .f32⟩
  | 58 => ⟨S_, .f32⟩
  | 59 => ⟨S4x8192x1024, .f32⟩
  | 60 => ⟨S4x8192x1024, .f32⟩
  | 61 => ⟨S_, .f32⟩
  | 62 => ⟨S4x8192, .f32⟩
  | 63 => ⟨S4x8192x1, .f32⟩
  | 64 => ⟨S_, .f32⟩
  | 65 => ⟨S4x8192x1, .f32⟩
  | 66 => ⟨S4x8192x1, .f32⟩
  | 67 => ⟨S4x8192x1024, .f32⟩
  | 68 => ⟨S4x8192x1024, .f32⟩
  | 69 => ⟨S4x8192x1024, .f32⟩
  | 70 => ⟨S_, .f32⟩
  | 71 => ⟨S4x8192, .f32⟩
  | 72 => ⟨S4x8192x1, .f32⟩
  | 73 => ⟨S_, .f32⟩
  | 74 => ⟨S4x8192x1, .f32⟩
  | 75 => ⟨S4x8192x1, .f32⟩
  | 76 => ⟨S4x8192x1024, .f32⟩
  | 77 => ⟨S4x8192x1024, .f32⟩
  | 78 => ⟨S_, .f32⟩
  | 79 => ⟨S4x8192x1, .f32⟩
  | 80 => ⟨S4x8192x1, .f32⟩
  | 81 => ⟨S4x8192x1, .f32⟩
  | 82 => ⟨S4x8192x1024, .f32⟩
  | 83 => ⟨S4x8192x1024, .f32⟩
  | 84 => ⟨S_, .f32⟩
  | 85 => ⟨S4x1x1024, .f32⟩
  | 86 => ⟨S4x1x1024, .f32⟩
  | 87 => ⟨S4x8192x1024, .f32⟩
  | 88 => ⟨S4x8192x1024, .f32⟩
  | 89 => ⟨S4x8192x1024, .f32⟩
  | 90 => ⟨S4x8192x1024, .f32⟩
  | 91 => ⟨S4x8192x4096, .f32⟩
  | 92 => ⟨S_, .f32⟩
  | 93 => ⟨S4x8192x4096, .f32⟩
  | 94 => ⟨S4x8192x4096, .f32⟩
  | 95 => ⟨S4x8192x4096, .f32⟩
  | 96 => ⟨S4x8192x1024, .f32⟩
  | 97 => ⟨S4x8192x1024, .f32⟩
  | 98 => ⟨S4x8192x1024, .f32⟩
  | 99 => ⟨S4x8192x1024, .f32⟩
  | 100 => ⟨S1x1024, .f32⟩
  | 101 => ⟨S1024, .f32⟩
  | 102 => ⟨S1x1024, .f32⟩
  | 103 => ⟨S1024, .f32⟩
  | 104 => ⟨S_, .f32⟩
  | 105 => ⟨S4x8192, .f32⟩
  | 106 => ⟨S4x8192x1, .f32⟩
  | 107 => ⟨S_, .f32⟩
  | 108 => ⟨S4x8192x1, .f32⟩
  | 109 => ⟨S4x8192x1, .f32⟩
  | 110 => ⟨S4x8192x1024, .f32⟩
  | 111 => ⟨S4x8192x1024, .f32⟩
  | 112 => ⟨S4x8192x1024, .f32⟩
  | 113 => ⟨S_, .f32⟩
  | 114 => ⟨S4x8192, .f32⟩
  | 115 => ⟨S4x8192x1, .f32⟩
  | 116 => ⟨S_, .f32⟩
  | 117 => ⟨S4x8192x1, .f32⟩
  | 118 => ⟨S4x8192x1, .f32⟩
  | 119 => ⟨S4x8192x1024, .f32⟩
  | 120 => ⟨S4x8192x1024, .f32⟩
  | 121 => ⟨S_, .f32⟩
  | 122 => ⟨S4x8192x1, .f32⟩
  | 123 => ⟨S4x8192x1, .f32⟩
  | 124 => ⟨S4x8192x1, .f32⟩
  | 125 => ⟨S4x8192x1024, .f32⟩
  | 126 => ⟨S4x8192x1024, .f32⟩
  | 127 => ⟨S1x1x1024, .f32⟩
  | _ => ⟨S4x8192x1024, .f32⟩

abbrev hbmTy0_1 (i : Nat) : BufTy := match i % 128 with
  | 0 => ⟨S4x8192x1024, .f32⟩
  | 1 => ⟨S4x8192x1024, .f32⟩
  | 2 => ⟨S1x1x1024, .f32⟩
  | 3 => ⟨S4x8192x1024, .f32⟩
  | 4 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_call0_cst : Ref sig .tc := ⟨.hbm, 92, rfl⟩
abbrev main_call0_v0 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_12 : Ref sig .tc := ⟨.hbm, 104, rfl⟩
abbrev main_v80 : Ref sig .tc := ⟨.hbm, 105, rfl⟩
abbrev main_v81 : Ref sig .tc := ⟨.hbm, 106, rfl⟩
abbrev main_cst_13 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_14 : Ref sig .tc := ⟨.hbm, 113, rfl⟩
abbrev main_v87 : Ref sig .tc := ⟨.hbm, 114, rfl⟩
abbrev main_v88 : Ref sig .tc := ⟨.hbm, 115, rfl⟩
abbrev main_cst_15 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_16 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩

abbrev nD : Nat := 1
abbrev τ : Topo := Topo.v7x

variable {F : FTy → Type} [FloatOps F]
-- ==== FrontEven.lean ====
abbrev S4x8192x1024 : Shape := ⟨3, ![4, 8192, 1024]⟩
abbrev S4x2x6x1024 : Shape := ⟨4, ![4, 2, 6, 1024]⟩
abbrev S1024x3072 : Shape := ⟨2, ![1024, 3072]⟩
abbrev S1024x1536 : Shape := ⟨2, ![1024, 1536]⟩
abbrev S1536x1024 : Shape := ⟨2, ![1536, 1024]⟩
abbrev S4x8192x1536 : Shape := ⟨3, ![4, 8192, 1536]⟩
abbrev S4x1536x64x128 : Shape := ⟨4, ![4, 1536, 64, 128]⟩
abbrev S1x1024x1024 : Shape := ⟨3, ![1, 1024, 1024]⟩
abbrev S1x1x6x1024 : Shape := ⟨4, ![1, 1, 6, 1024]⟩
abbrev S1x1024x1536 : Shape := ⟨3, ![1, 1024, 1536]⟩
abbrev S1x1536x8x128 : Shape := ⟨4, ![1, 1536, 8, 128]⟩
abbrev S6x1024 : Shape := ⟨2, ![6, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S256x1536 : Shape := ⟨2, ![256, 1536]⟩
abbrev S1x256x1536 : Shape := ⟨3, ![1, 256, 1536]⟩
abbrev S1024x1024 : Shape := ⟨2, ![1024, 1024]⟩
abbrev S512x1024 : Shape := ⟨2, ![512, 1024]⟩
abbrev S512x128 : Shape := ⟨2, ![512, 128]⟩
abbrev S1x512x1x128 : Shape := ⟨4, ![1, 512, 1, 128]⟩

abbrev nBuf : Space → Nat
  | .hbm => 9
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S4x2x6x1024, .f32⟩
  | .hbm, ⟨2, _⟩ => ⟨S1024x3072, .f32⟩
  | .hbm, ⟨3, _⟩ => ⟨S1024x3072, .bf16⟩
  | .hbm, ⟨4, _⟩ => ⟨S1024x1536, .bf16⟩
  | .hbm, ⟨5, _⟩ => ⟨S1024x1536, .bf16⟩
  | .hbm, ⟨6, _⟩ => ⟨S1536x1024, .bf16⟩
  | .hbm, ⟨7, _⟩ => ⟨S4x8192x1536, .bf16⟩
  | .hbm, ⟨8, _⟩ => ⟨S4x1536x64x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1024x1536, .bf16⟩
  | .local _ .vmem, ⟨5, _⟩ => ⟨S1536x1024, .bf16⟩
  | .local _ .vmem, ⟨6, _⟩ => ⟨S1x1024x1536, .bf16⟩
  | .local _ .vmem, ⟨7, _⟩ => ⟨S1x1024x1536, .bf16⟩
  | .local _ .vmem, ⟨8, _⟩ => ⟨S1x1536x8x128, .f32⟩
  | .local _ .vmem, ⟨9, _⟩ => ⟨S1x1536x8x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1536x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FrontEvenRefIdeal.lean ====
abbrev S4x8192x1024 : Shape := ⟨3, ![4, 8192, 1024]⟩
abbrev S4x2x6x1024 : Shape := ⟨4, ![4, 2, 6, 1024]⟩
abbrev S1024x3072 : Shape := ⟨2, ![1024, 3072]⟩
abbrev S4x1x1x1024 : Shape := ⟨4, ![4, 1, 1, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S4x8192x3072 : Shape := ⟨3, ![4, 8192, 3072]⟩
abbrev S4x8192x1536 : Shape := ⟨3, ![4, 8192, 1536]⟩
abbrev S4x1536x8192 : Shape := ⟨3, ![4, 1536, 8192]⟩
abbrev S4x1536x64x128 : Shape := ⟨4, ![4, 1536, 64, 128]⟩

abbrev nBuf : Space → Nat
  | .hbm => 43
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x2x6x1024, .f32⟩
  | .hbm, ⟨2, _⟩ => ⟨S1024x3072, .f32⟩
  | .hbm, ⟨3, _⟩ => ⟨S4x1x1x1024, .f32⟩
  | .hbm, ⟨4, _⟩ => ⟨S4x1x1024, .f32⟩
  | .hbm, ⟨5, _⟩ => ⟨S4x1x1x1024, .f32⟩
  | .hbm, ⟨6, _⟩ => ⟨S4x1x1024, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S_, .f32⟩
  | .hbm, ⟨17, _⟩ => ⟨S4x8192, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S4x8192x1024, .f32⟩
  | .hbm, ⟨23, _⟩ => ⟨S4x8192x1024, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S4x8192x1, .f32⟩
  | .hbm, ⟨28, _⟩ => ⟨S4x8192x1024, .f32⟩
  | .hbm, ⟨29, _⟩ => ⟨S4x8192x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S4x8192x1024, .f32⟩
  | .hbm, ⟨37, _⟩ => ⟨S4x8192x3072, .f32⟩
  | .hbm, ⟨38, _⟩ => ⟨S4x8192x1536, .f32⟩
  | .hbm, ⟨39, _⟩ => ⟨S4x1536x8192, .f32⟩
  | .hbm, ⟨40, _⟩ => ⟨S4x1536x64x128, .f32⟩
  | .hbm, ⟨41, _⟩ => ⟨S4x8192x1536, .f32⟩
  | .hbm, ⟨42, _⟩ => ⟨S4x8192x1536, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== FrontOdd.lean ====
abbrev S4x8192x1024 : Shape := ⟨3, ![4, 8192, 1024]⟩
abbrev S4x256x1024 : Shape := ⟨3, ![4, 256, 1024]⟩
abbrev S4x2x6x1024 : Shape := ⟨4, ![4, 2, 6, 1024]⟩
abbrev S1024x928 : Shape := ⟨2, ![1024, 928]⟩
abbrev S384 : Shape := ⟨1, ![384]⟩
abbrev S384x768 : Shape := ⟨2, ![384, 768]⟩
abbrev S256 : Shape := ⟨1, ![256]⟩
abbrev S256x1280 : Shape := ⟨2, ![256, 1280]⟩
abbrev S1024x640 : Shape := ⟨2, ![1024, 640]⟩
abbrev S1024x256 : Shape := ⟨2, ![1024, 256]⟩
abbrev S1024x32 : Shape := ⟨2, ![1024, 32]⟩
abbrev S_ : Shape := ⟨0, ![]⟩
abbrev S1024x96 : Shape := ⟨2, ![1024, 96]⟩
abbrev S1024x1024 : Shape := ⟨2, ![1024, 1024]⟩
abbrev S384x8x96 : Shape := ⟨3, ![384, 8, 96]⟩
abbrev S384x8x128 : Shape := ⟨3, ![384, 8, 128]⟩
abbrev S384x1024 : Shape := ⟨2, ![384, 1024]⟩
abbrev S256x8x160 : Shape := ⟨3, ![256, 8, 160]⟩
abbrev S256x8x64 : Shape := ⟨3, ![256, 8, 64]⟩
abbrev S256x8x128 : Shape := ⟨3, ![256, 8, 128]⟩
abbrev S256x1024 : Shape := ⟨2, ![256, 1024]⟩
abbrev S256x8x96 : Shape := ⟨3, ![256, 8, 96]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x1024 : Shape := ⟨2, ![128, 1024]⟩
abbrev S1x1024 : Shape := ⟨2, ![1, 1024]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x4 : Shape := ⟨2, ![4, 4]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S8448 : Shape := ⟨1, ![8448]⟩
abbrev S8 : Shape := ⟨1, ![8]⟩
abbrev S8448x1 : Shape := ⟨2, ![8448, 1]⟩
abbrev S1x8 : Shape := ⟨2, ![1, 8]⟩
abbrev S8448x8 : Shape := ⟨2, ![8448, 8]⟩
abbrev S8448x32 : Shape := ⟨2, ![8448, 32]⟩
abbrev S8448x128 : Shape := ⟨2, ![8448, 128]⟩
abbrev S1x384 : Shape := ⟨2, ![1, 384]⟩
abbrev S1x256 : Shape := ⟨2, ![1, 256]⟩
abbrev S4x8448x1024 : Shape := ⟨3, ![4, 8448, 1024]⟩
abbrev S4x256x8448 : Shape := ⟨3, ![4, 256, 8448]⟩
abbrev S1x256x1024 : Shape := ⟨3, ![1, 256, 1024]⟩
abbrev S1x1x6x1024 : Shape := ⟨4, ![1, 1, 6, 1024]⟩
abbrev S256x128 : Shape := ⟨2, ![256, 128]⟩
abbrev S1x256x256 : Shape := ⟨3, ![1, 256, 256]⟩
abbrev S6x1024 : Shape := ⟨2, ![6, 1024]⟩
abbrev S256x1 : Shape := ⟨2, ![256, 1]⟩
abbrev S256x384 : Shape := ⟨2, ![256, 384]⟩

abbrev nBuf : Space → Nat
  | .hbm => 237
  | .vmem => 35
  | .smem => 0
  | _ => 0

abbrev hbmTy0_0 (i : Nat) : BufTy := match i % 128 with
  | 0 => ⟨S4x8192x1024, .f32⟩
  | 1 => ⟨S4x256x1024, .f32⟩
  | 2 => ⟨S4x2x6x1024, .f32⟩
  | 3 => ⟨S1024x928, .f32⟩
  | 4 => ⟨S384, .f32⟩
  | 5 => ⟨S384x768, .f32⟩
  | 6 => ⟨S256, .f32⟩
  | 7 => ⟨S256x1280, .f32⟩
  | 8 => ⟨S256, .f32⟩
  | 9 => ⟨S256, .f32⟩
  | 10 => ⟨S1024x640, .f32⟩
  | 11 => ⟨S1024x256, .f32⟩
  | 12 => ⟨S1024x32, .f32⟩
  | 13 => ⟨S_, .f32⟩
  | 14 => ⟨S1024x96, .f32⟩
  | 15 => ⟨S1024x1024, .f32⟩
  | 16 => ⟨S1024x1024, .bf16⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S384x768, .f32⟩
  | 25 => ⟨S384x768, .f32⟩
  | 26 => ⟨S384x8x96, .f32⟩
  | 27 => ⟨S_, .i32⟩
  | 28 => ⟨S_, .f32⟩
  | 29 => ⟨S384x8x128, .f32⟩
  | 30 => ⟨S384x1024, .f32⟩
  | 31 => ⟨S384x1024, .bf16⟩
  | 32 => ⟨S256x8x160, .f32⟩
  | 33 => ⟨S256x8x64, .f32⟩
  | 34 => ⟨S_, .i32⟩
  | 35 => ⟨S_, .f32⟩
  | 36 => ⟨S256x8x128, .f32⟩
  | 37 => ⟨S256x1024, .f32⟩
  | 38 => ⟨S256x1024, .bf16⟩
  | 39 => ⟨S256x8x160, .f32⟩
  | 40 => ⟨S256x8x96, .f32⟩
  | 41 => ⟨S_, .i32⟩
  | 42 => ⟨S_, .f32⟩
  | 43 => ⟨S256x8x128, .f32⟩
  | 44 => ⟨S256x1024, .f32⟩
  | 45 => ⟨S256x1024, .bf16⟩
  | 46 => ⟨S128, .i32⟩
  | 47 => ⟨S128x1, .i32⟩
  | 48 => ⟨S128, .i32⟩
  | 49 => ⟨S1x128, .i32⟩
  | 50 => ⟨S_, .i32⟩
  | 51 => ⟨S128x1, .i32⟩
  | 52 => ⟨S128x1, .i1⟩
  | 53 => ⟨S_, .i32⟩
  | 54 => ⟨S128x1, .i32⟩
  | 55 => ⟨S128x1, .i32⟩
  | 56 => ⟨S128x128, .i32⟩
  | 57 => ⟨S128x128, .i32⟩
  | 58 => ⟨S128x128, .i1⟩
  | 59 => ⟨S128x128, .i1⟩
  | 60 => ⟨S128x128, .i1⟩
  | 61 => ⟨S_, .f32⟩
  | 62 => ⟨S_, .f32⟩
  | 63 => ⟨S128x128, .f32⟩
  | 64 => ⟨S128x128, .f32⟩
  | 65 => ⟨S128x128, .f32⟩
  | 66 => ⟨S128x1024, .f32⟩
  | 67 => ⟨S128x1024, .f32⟩
  | 68 => ⟨S128x1024, .bf16⟩
  | 69 => ⟨S_, .i32⟩
  | 70 => ⟨S1x128, .i32⟩
  | 71 => ⟨S1x128, .i1⟩
  | 72 => ⟨S_, .f32⟩
  | 73 => ⟨S_, .f32⟩
  | 74 => ⟨S1x128, .f32⟩
  | 75 => ⟨S1x128, .f32⟩
  | 76 => ⟨S1x128, .f32⟩
  | 77 => ⟨S1x1024, .f32⟩
  | 78 => ⟨S64, .f32⟩
  | 79 => ⟨S64x1, .f32⟩
  | 80 => ⟨S64, .f32⟩
  | 81 => ⟨S1x64, .f32⟩
  | 82 => ⟨S64x64, .f32⟩
  | 83 => ⟨S64x64, .f32⟩
  | 84 => ⟨S64x64, .f32⟩
  | 85 => ⟨S_, .f32⟩
  | 86 => ⟨S64x64, .f32⟩
  | 87 => ⟨S64x64, .f32⟩
  | 88 => ⟨S_, .f32⟩
  | 89 => ⟨S64x64, .f32⟩
  | 90 => ⟨S64x64, .f32⟩
  | 91 => ⟨S64x64, .f32⟩
  | 92 => ⟨S64x64, .f32⟩
  | 93 => ⟨S4x4, .i32⟩
  | 94 => ⟨S4x4, .i32⟩
  | 95 => ⟨S_, .i32⟩
  | 96 => ⟨S4x4, .i32⟩
  | 97 => ⟨S4x4, .i32⟩
  | 98 => ⟨S4x4, .i1⟩
  | 99 => ⟨S4x4, .f32⟩
  | 100 => ⟨S4x1x4x1, .f32⟩
  | 101 => ⟨S1x64x1x64, .f32⟩
  | 102 => ⟨S4x64x4x64, .f32⟩
  | 103 => ⟨S4x64x4x64, .f32⟩
  | 104 => ⟨S4x64x4x64, .f32⟩
  | 105 => ⟨S256x256, .f32⟩
  | 106 => ⟨S256x256, .bf16⟩
  | 107 => ⟨S64x64, .f32⟩
  | 108 => ⟨S4x1x4x1, .f32⟩
  | 109 => ⟨S1x64x1x64, .f32⟩
  | 110 => ⟨S4x64x4x64, .f32⟩
  | 111 => ⟨S4x64x4x64, .f32⟩
  | 112 => ⟨S4x64x4x64, .f32⟩
  | 113 => ⟨S256x256, .f32⟩
  | 114 => ⟨S256x256, .bf16⟩
  | 115 => ⟨S_, .f32⟩
  | 116 => ⟨S64x64, .f32⟩
  | 117 => ⟨S64x64, .f32⟩
  | 118 => ⟨S4x1x4x1, .f32⟩
  | 119 => ⟨S1x64x1x64, .f32⟩
  | 120 => ⟨S4x64x4x64, .f32⟩
  | 121 => ⟨S4x64x4x64, .f32⟩
  | 122 => ⟨S4x64x4x64, .f32⟩
  | 123 => ⟨S256x256, .f32⟩
  | 124 => ⟨S256x256, .bf16⟩
  | 125 => ⟨S8448, .i32⟩
  | 126 => ⟨S_, .i32⟩
  | 127 => ⟨S_, .i32⟩
  | _ => ⟨S4x8192x1024, .f32⟩

abbrev hbmTy0_1 (i : Nat) : BufTy := match i % 128 with
  | 0 => ⟨S8448, .i32⟩
  | 1 => ⟨S8448, .i32⟩
  | 2 => ⟨S8448, .i32⟩
  | 3 => ⟨S_, .i32⟩
  | 4 => ⟨S8448, .i32⟩
  | 5 => ⟨S8448, .i1⟩
  | 6 => ⟨S8448, .i32⟩
  | 7 => ⟨S8448, .i32⟩
  | 8 => ⟨S_, .i32⟩
  | 9 => ⟨S8448, .i32⟩
  | 10 => ⟨S8448, .i1⟩
  | 11 => ⟨S8448, .i1⟩
  | 12 => ⟨S_, .i32⟩
  | 13 => ⟨S8448, .i32⟩
  | 14 => ⟨S8448, .i32⟩
  | 15 => ⟨S8448, .i32⟩
  | 16 => ⟨S8448, .f32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S8448, .i32⟩
  | 24 => ⟨S8448, .i32⟩
  | 25 => ⟨S_, .i32⟩
  | 26 => ⟨S8448, .i32⟩
  | 27 => ⟨S8448, .i1⟩
  | 28 => ⟨S_, .i32⟩
  | 29 => ⟨S8448, .i32⟩
  | 30 => ⟨S8448, .i1⟩
  | 31 => ⟨S_, .i32⟩
  | 32 => ⟨S_, .i1⟩
  | 33 => ⟨S8448, .i1⟩
  | 34 => ⟨S8448, .i1⟩
  | 35 => ⟨S8448, .i1⟩
  | 36 => ⟨S8448, .i32⟩
  | 37 => ⟨S8448, .i32⟩
  | 38 => ⟨S8448, .i32⟩
  | 39 => ⟨S8448, .f32⟩
  | 40 => ⟨S8, .f32⟩
  | 41 => ⟨S_, .f32⟩
  | 42 => ⟨S8, .f32⟩
  | 43 => ⟨S8, .f32⟩
  | 44 => ⟨S_, .f32⟩
  | 45 => ⟨S8, .f32⟩
  | 46 => ⟨S8, .f32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S8448x1, .f32⟩
  | 55 => ⟨S1x8, .f32⟩
  | 56 => ⟨S8448x8, .f32⟩
  | 57 => ⟨S8448x8, .f32⟩
  | 58 => ⟨S8448x8, .f32⟩
  | 59 => ⟨S8448x1, .f32⟩
  | 60 => ⟨S1x8, .f32⟩
  | 61 => ⟨S8448x8, .f32⟩
  | 62 => ⟨S8448x8, .f32⟩
  | 63 => ⟨S8448x8, .f32⟩
  | 64 => ⟨S8448x32, .f32⟩
  | 65 => ⟨S_, .i32⟩
  | 66 => ⟨S8448, .i32⟩
  | 67 => ⟨S8448, .i1⟩
  | 68 => ⟨S8448x1, .i1⟩
  | 69 => ⟨S8448x32, .f32⟩
  | 70 => ⟨S_, .f32⟩
  | 71 => ⟨S_, .f32⟩
  | 72 => ⟨S8448x32, .i1⟩
  | 73 => ⟨S8448x32, .f32⟩
  | 74 => ⟨S8448x32, .f32⟩
  | 75 => ⟨S8448x32, .f32⟩
  | 76 => ⟨S_, .f32⟩
  | 77 => ⟨S_, .f32⟩
  | 78 => ⟨S8448x32, .i1⟩
  | 79 => ⟨S8448x32, .f32⟩
  | 80 => ⟨S8448x32, .f32⟩
  | 81 => ⟨S_, .f32⟩
  | 82 => ⟨S8448x8, .f32⟩
  | 83 => ⟨S8448x8, .f32⟩
  | 84 => ⟨S8448x8, .f32⟩
  | 85 => ⟨S8448x8, .f32⟩
  | 86 => ⟨S8448x8, .f32⟩
  | 87 => ⟨S8448x32, .f32⟩
  | 88 => ⟨S8448x8, .f32⟩
  | 89 => ⟨S8448x8, .f32⟩
  | 90 => ⟨S8448x32, .f32⟩
  | 91 => ⟨S_, .f32⟩
  | 92 => ⟨S_, .f32⟩
  | 93 => ⟨S8448x128, .f32⟩
  | 94 => ⟨S_, .f32⟩
  | 95 => ⟨S_, .f32⟩
  | 96 => ⟨S8448x128, .f32⟩
  | 97 => ⟨S_, .f32⟩
  | 98 => ⟨S_, .f32⟩
  | 99 => ⟨S8448x128, .f32⟩
  | 100 => ⟨S1x384, .f32⟩
  | 101 => ⟨S1x256, .f32⟩
  | 102 => ⟨S1x256, .f32⟩
  | 103 => ⟨S1x256, .f32⟩
  | 104 => ⟨S4x8448x1024, .bf16⟩
  | 105 => ⟨S4x8448x1024, .bf16⟩
  | 106 => ⟨S4x8448x1024, .bf16⟩
  | 107 => ⟨S4x256x8448, .bf16⟩
  | 108 => ⟨S4x256x8448, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x6x1024, .f32⟩
  | .local _ .vmem, ⟨5, _⟩ => ⟨S1x1x6x1024, .f32⟩
  | .local _ .vmem, ⟨6, _⟩ => ⟨S1024x1024, .bf16⟩
  | .local _ .vmem, ⟨7, _⟩ => ⟨S1x384, .f32⟩
  | .local _ .vmem, ⟨8, _⟩ => ⟨S1x256, .f32⟩
  | .local _ .vmem, ⟨9, _⟩ => ⟨S384x1024, .bf16⟩
  | .local _ .vmem, ⟨10, _⟩ => ⟨S256x1024, .bf16⟩
  | .local _ .vmem, ⟨11, _⟩ => ⟨S256x1024, .bf16⟩
  | .local _ .vmem, ⟨12, _⟩ => ⟨S128x1024, .bf16⟩
  | .local _ .vmem, ⟨13, _⟩ => ⟨S1x1024, .f32⟩
  | .local _ .vmem, ⟨14, _⟩ => ⟨S1x256, .f32⟩
  | .local _ .vmem, ⟨15, _⟩ => ⟨S1x256, .f32⟩
  | .local _ .vmem, ⟨16, _⟩ => ⟨S256x256, .bf16⟩
  | .local _ .vmem, ⟨17, _⟩ => ⟨S256x256, .bf16⟩
  | .local _ .vmem, ⟨18, _⟩ => ⟨S256x256, .bf16⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S1x256x1024, .bf16⟩
  | .local _ .vmem, ⟨26, _⟩ => ⟨S1x256x1024, .bf16⟩
  | .local _ .vmem, ⟨27, _⟩ => ⟨S1x256x1024, .bf16⟩
  | .local _ .vmem, ⟨28, _⟩ => ⟨S1x256x1024, .bf16⟩
  | .local _ .vmem, ⟨29, _⟩ => ⟨S1x256x1024, .bf16⟩
  | .local _ .vmem, ⟨30, _⟩ => ⟨S1x256x1024, .bf16⟩
  | .local _ .vmem, ⟨31, _⟩ => ⟨S1x256x256, .bf16⟩
  | .local _ .vmem, ⟨32, _⟩ => ⟨S1x256x256, .bf16⟩
  | .local _ .vmem, ⟨33, _⟩ => ⟨S1x256x256, .bf16⟩
  | .local _ .vmem, ⟨34, _⟩ => ⟨S1x256x256, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_call0_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_call1_v0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_call2_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_cst_8 : Ref sig .tc := ⟨.hbm, 62, rfl⟩
abbrev main_call3_v0 : Ref sig .tc := ⟨.hbm, 63, rfl⟩
abbrev main_call3_v1 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_9 : Ref sig .tc := ⟨.hbm, 69, rfl⟩
abbrev main_v43 : Ref sig .tc := ⟨.hbm, 70, rfl⟩
abbrev main_v44 : Ref sig .tc := ⟨.hbm, 71, rfl⟩
abbrev main_cst_10 : Ref sig .tc := ⟨.hbm, 72, rfl⟩
abbrev main_cst_11 : Ref sig .tc := ⟨.hbm, 73, rfl⟩
abbrev main_call4_v0 : Ref sig .tc := ⟨.hbm, 74, rfl⟩
abbrev main_call4_v1 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_12 : Ref sig .tc := ⟨.hbm, 85, rfl⟩
abbrev main_v54 : Ref sig .tc := ⟨.hbm, 86, rfl⟩
abbrev main_v55 : Ref sig .tc := ⟨.hbm, 87, rfl⟩
abbrev main_cst_13 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c_14 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_call5_v0 : Ref sig .tc := ⟨.hbm, 100, rfl⟩
abbrev main_call5_v1 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_call6_v0 : Ref sig .tc := ⟨.hbm, 108, rfl⟩
abbrev main_call6_v1 : Ref sig .tc := ⟨.hbm, 109, rfl⟩
abbrev main_call6_v2 : Ref sig .tc := ⟨.hbm, 110, rfl⟩
abbrev main_call6_v3 : Ref sig .tc := ⟨.hbm, 111, rfl⟩
abbrev main_call6_v4 : Ref sig .tc := ⟨.hbm, 112, rfl⟩
abbrev main_v69 : Ref sig .tc := ⟨.hbm, 113, rfl⟩
abbrev main_v70 : Ref sig .tc := ⟨.hbm, 114, rfl⟩
abbrev main_cst_15 : Ref sig .tc := ⟨.hbm, 115, rfl⟩
abbrev main_v71 : Ref sig .tc := ⟨.hbm, 116, rfl⟩
abbrev main_call7_v0 : Ref sig .tc := ⟨.hbm, 117, rfl⟩
abbrev main_call7_v1 : Ref sig .tc := ⟨.hbm, 118, rfl⟩
abbrev main_call7_v2 : Ref sig .tc := ⟨.hbm, 119, rfl⟩
abbrev main_call7_v3 : Ref sig .tc := ⟨.hbm, 120, rfl⟩
abbrev main_call7_v4 : Ref sig .tc := ⟨.hbm, 121, rfl⟩
abbrev main_call7_v5 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_c_16 : Ref sig .tc := ⟨.hbm, 126, rfl⟩
abbrev main_call8_v0 : Ref sig .tc := ⟨.hbm, 127, rfl⟩
abbrev main_call8_v1 : Ref sig .tc := ⟨.hbm, 128, rfl⟩
abbrev main_call8_v2 : Ref sig .tc := ⟨.hbm, 129, rfl⟩
abbrev main_call8_v3 : Ref sig .tc := ⟨.hbm, 130, rfl⟩
abbrev main_call8_v4 : Ref sig .tc := ⟨.hbm, 131, rfl⟩
abbrev main_call8_v5 : Ref sig .tc := ⟨.hbm, 132, rfl⟩
abbrev main_call8_v6 : Ref sig .tc := ⟨.hbm, 133, rfl⟩
abbrev main_call8_v7 : Ref sig .tc := ⟨.hbm, 134, rfl⟩
abbrev main_call8_v8 : Ref sig .tc := ⟨.hbm, 135, rfl⟩
abbrev main_call8_c : Ref sig .tc := ⟨.hbm, 136, rfl⟩
abbrev main_call8_v9 : Ref sig .tc := ⟨.hbm, 137, rfl⟩
abbrev main_call8_v10 : Ref sig .tc := ⟨.hbm, 138, rfl⟩
abbrev main_call8_v11 : Ref sig .tc := ⟨.hbm, 139, rfl⟩
abbrev main_call8_c_0 : Ref sig .tc := ⟨.hbm, 140, rfl⟩
abbrev main_call8_v12 : Ref sig .tc := ⟨.hbm, 141, rfl⟩
abbrev main_call8_v13 : Ref sig .tc := ⟨.hbm, 142, rfl⟩
abbrev main_v75 : Ref sig .tc := ⟨.hbm, 143, rfl⟩
abbrev main_v76 : Ref sig .tc := ⟨.hbm, 144, rfl⟩
abbrev main_c_17 : Ref sig .tc := ⟨.hbm, 145, rfl⟩
abbrev main_call9_v0 : Ref sig .tc := ⟨.hbm, 146, rfl⟩
abbrev main_call9_c : Ref sig .tc := ⟨.hbm, 147, rfl⟩
abbrev main_call9_v1 : Ref sig .tc := ⟨.hbm, 148, rfl⟩
abbrev main_call9_c_0 : Ref sig .tc := ⟨.hbm, 149, rfl⟩
abbrev main_call9_v2 : Ref sig .tc := ⟨.hbm, 150, rfl⟩
abbrev main_call9_v3 : Ref sig .tc := ⟨.hbm, 151, rfl⟩
abbrev main_call9_v4 : Ref sig .tc := ⟨.hbm, 152, rfl⟩
abbrev main_call9_c_1 : Ref sig .tc := ⟨.hbm, 153, rfl⟩
abbrev main_call9_v5 : Ref sig .tc := ⟨.hbm, 154, rfl⟩
abbrev main_call9_v6 : Ref sig .tc := ⟨.hbm, 155, rfl⟩
abbrev main_call9_c_2 : Ref sig .tc := ⟨.hbm, 156, rfl⟩
abbrev main_call9_v7 : Ref sig .tc := ⟨.hbm, 157, rfl⟩
abbrev main_call9_v8 : Ref sig .tc := ⟨.hbm, 158, rfl⟩
abbrev main_call9_c_3 : Ref sig .tc := ⟨.hbm, 159, rfl⟩
abbrev main_call9_v9 : Ref sig .tc := ⟨.hbm, 160, rfl⟩
abbrev main_call9_v10 : Ref sig .tc := ⟨.hbm, 161, rfl⟩
abbrev main_call9_v11 : Ref sig .tc := ⟨.hbm, 162, rfl⟩
abbrev main_call9_v12 : Ref sig .tc := ⟨.hbm, 163, rfl⟩
abbrev main_call9_v13 : Ref sig .tc := ⟨.hbm, 164, rfl⟩
abbrev main_call9_v14 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_cst_18 : Ref sig .tc := ⟨.hbm, 169, rfl⟩
abbrev main_v80 : Ref sig .tc := ⟨.hbm, 170, rfl⟩
abbrev main_v81 : Ref sig .tc := ⟨.hbm, 171, rfl⟩
abbrev main_cst_19 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_cst_20 : Ref sig .tc := ⟨.hbm, 176, rfl⟩
abbrev main_v85 : Ref sig .tc := ⟨.hbm, 177, rfl⟩
abbrev main_v86 : Ref sig .tc := ⟨.hbm, 178, rfl⟩
abbrev main_cst_21 : Ref sig .tc := ⟨.hbm, 179, rfl⟩
abbrev main_v87 : Ref sig .tc := ⟨.hbm, 180, rfl⟩
abbrev main_v88 : Ref sig .tc := ⟨.hbm, 181, rfl⟩
abbrev main_v89 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_c_22 : Ref sig .tc := ⟨.hbm, 193, rfl⟩
abbrev main_v100 : Ref sig .tc := ⟨.hbm, 194, rfl⟩
abbrev main_v101 : Ref sig .tc := ⟨.hbm, 195, rfl⟩
abbrev main_v102 : Ref sig .tc := ⟨.hbm, 196, rfl⟩
abbrev main_v103 : Ref sig .tc := ⟨.hbm, 197, rfl⟩
abbrev main_cst_23 : Ref sig .tc := ⟨.hbm, 198, rfl⟩
abbrev main_call10_v0 : Ref sig .tc := ⟨.hbm, 199, rfl⟩
abbrev main_call10_v1 : Ref sig .tc := ⟨.hbm, 200, rfl⟩
abbrev main_call10_v2 : Ref sig .tc := ⟨.hbm, 201, rfl⟩
abbrev main_v104 : Ref sig .tc := ⟨.hbm, 202, rfl⟩
abbrev main_v105 : Ref sig .tc := ⟨.hbm, 203, rfl⟩
abbrev main_cst_24 : Ref sig .tc := ⟨.hbm, 204, rfl⟩
abbrev main_call11_v0 : Ref sig .tc := ⟨.hbm, 205, rfl⟩
abbrev main_call11_v1 : Ref sig .tc := ⟨.hbm, 206, rfl⟩
abbrev main_call11_v2 : Ref sig .tc := ⟨.hbm, 207, rfl⟩
abbrev main_v106 : Ref sig .tc := ⟨.hbm, 208, rfl⟩
abbrev main_cst_25 : Ref sig .tc := ⟨.hbm, 209, rfl⟩
abbrev main_v107 : Ref sig .tc := ⟨.hbm, 210, rfl⟩
abbrev main_v108 : Ref sig .tc := ⟨.hbm, 211, rfl⟩
abbrev main_v109 : Ref sig .tc := ⟨.hbm, 212, rfl⟩
abbrev main_v110 : Ref sig .tc := ⟨.hbm, 213, rfl⟩
abbrev main_v111 : Ref sig .tc := ⟨.hbm, 214, rfl⟩
abbrev main_v112 : Ref sig .tc := ⟨.hbm, 215, rfl⟩
abbrev main_v113 : Ref sig .tc := ⟨.hbm, 216, rfl⟩
abbrev main_v114 : Ref sig .tc := ⟨.hbm, 217, rfl⟩
abbrev main_v115 : Ref sig .tc := ⟨.hbm, 218, rfl⟩
abbrev main_cst_26 : Ref sig .tc := ⟨.hbm, 219, rfl⟩
abbrev main_call12_v0 : Ref sig .tc := ⟨.hbm, 220, rfl⟩
abbrev main_v116 : Ref sig .tc := ⟨.hbm, 221, rfl⟩
abbrev main_cst_27 : Ref sig .tc := ⟨.hbm, 222, rfl⟩
abbrev main_call13_v0 : Ref sig .tc := ⟨.hbm, 223, rfl⟩
abbrev main_v117 : Ref sig .tc := ⟨.hbm, 224, rfl⟩
abbrev main_cst_28 : Ref sig .tc := ⟨.hbm, 225, rfl⟩
abbrev main_call14_v0 : Ref sig .tc := ⟨.hbm, 226, rfl⟩
abbrev main_v118 : Ref sig .tc := ⟨.hbm, 227, rfl⟩
abbrev main_v119 : Ref sig .tc := ⟨.hbm, 228, rfl⟩
abbrev main_v120 : Ref sig .tc := ⟨.hbm, 229, rfl⟩
abbrev main_v121 : Ref sig .tc := ⟨.hbm, 230, rfl⟩
abbrev main_v122 : Ref sig .tc := ⟨.hbm, 231, rfl⟩
abbrev main_v123_0 : Ref sig .tc := ⟨.hbm, 232, rfl⟩
abbrev main_v123_1 : Ref sig .tc := ⟨.hbm, 233, rfl⟩
abbrev main_v123_2 : Ref sig .tc := ⟨.hbm, 234, rfl⟩
abbrev main_v123_3 : Ref sig .tc := ⟨.hbm, 235, rfl⟩
abbrev main_v123_4 : Ref sig .tc := ⟨.hbm, 236, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.divsi arg1 c32_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg1 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![false, true]

abbrev stage0_19 : Fin 2 → Memref sig .tc .vmem S1x256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== FrontOddRefIdeal.lean ====
abbrev S4x8192x1024 : Shape := ⟨3, ![4, 8192, 1024]⟩
abbrev S4x256x1024 : Shape := ⟨3, ![4, 256, 1024]⟩
abbrev S4x2x6x1024 : Shape := ⟨4, ![4, 2, 6, 1024]⟩
abbrev S1024x928 : Shape := ⟨2, ![1024, 928]⟩
abbrev S384 : Shape := ⟨1, ![384]⟩
abbrev S384x768 : Shape := ⟨2, ![384, 768]⟩
abbrev S256 : Shape := ⟨1, ![256]⟩
abbrev S256x1280 : Shape := ⟨2, ![256, 1280]⟩
abbrev S4x1x1x1024 : Shape := ⟨4, ![4, 1, 1, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S4x256 : Shape := ⟨2, ![4, 256]⟩
abbrev S4x256x1 : Shape := ⟨3, ![4, 256, 1]⟩
abbrev S4x8448x1024 : Shape := ⟨3, ![4, 8448, 1024]⟩
abbrev S4x8448x928 : Shape := ⟨3, ![4, 8448, 928]⟩
abbrev S8192 : Shape := ⟨1, ![8192]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x32 : Shape := ⟨2, ![8192, 32]⟩
abbrev S4x8448x384 : Shape := ⟨3, ![4, 8448, 384]⟩
abbrev S4x8448 : Shape := ⟨2, ![4, 8448]⟩
abbrev S4x8448x1 : Shape := ⟨3, ![4, 8448, 1]⟩
abbrev S1x1x384 : Shape := ⟨3, ![1, 1, 384]⟩
abbrev S4x8448x768 : Shape := ⟨3, ![4, 8448, 768]⟩
abbrev S4x8448x8x96 : Shape := ⟨4, ![4, 8448, 8, 96]⟩
abbrev S4x8448x8x64 : Shape := ⟨4, ![4, 8448, 8, 64]⟩
abbrev S4x8448x8x32 : Shape := ⟨4, ![4, 8448, 8, 32]⟩
abbrev S4x8192x8x32 : Shape := ⟨4, ![4, 8192, 8, 32]⟩
abbrev S8192x1x32 : Shape := ⟨3, ![8192, 1, 32]⟩
abbrev S4x8192x8x8 : Shape := ⟨4, ![4, 8192, 8, 8]⟩
abbrev S1x8192x1x32 : Shape := ⟨4, ![1, 8192, 1, 32]⟩
abbrev S4x256x8x32 : Shape := ⟨4, ![4, 256, 8, 32]⟩
abbrev S4x8448x8x128 : Shape := ⟨4, ![4, 8448, 8, 128]⟩
abbrev S4x8448x256 : Shape := ⟨3, ![4, 8448, 256]⟩
abbrev S1x1x256 : Shape := ⟨3, ![1, 1, 256]⟩
abbrev S4x8448x1280 : Shape := ⟨3, ![4, 8448, 1280]⟩
abbrev S4x8448x8x160 : Shape := ⟨4, ![4, 8448, 8, 160]⟩
abbrev S4x8448x32 : Shape := ⟨3, ![4, 8448, 32]⟩
abbrev S4x8448x1x32 : Shape := ⟨4, ![4, 8448, 1, 32]⟩
abbrev S4x8192x1x32 : Shape := ⟨4, ![4, 8192, 1, 32]⟩
abbrev S4x8192x1x8 : Shape := ⟨4, ![4, 8192, 1, 8]⟩
abbrev S4x256x1x32 : Shape := ⟨4, ![4, 256, 1, 32]⟩
abbrev S4x8448x8x1 : Shape := ⟨4, ![4, 8448, 8, 1]⟩
abbrev S4x8448x8x31 : Shape := ⟨4, ![4, 8448, 8, 31]⟩
abbrev S4x8448x4x64 : Shape := ⟨4, ![4, 8448, 4, 64]⟩
abbrev S4x64 : Shape := ⟨2, ![4, 64]⟩
abbrev S4x8448x4 : Shape := ⟨3, ![4, 8448, 4]⟩
abbrev S4x8448x4x1 : Shape := ⟨4, ![4, 8448, 4, 1]⟩
abbrev S1x1x4x64 : Shape := ⟨4, ![1, 1, 4, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x4x8448x4 : Shape := ⟨4, ![64, 4, 8448, 4]⟩
abbrev S4x4x64x8448 : Shape := ⟨4, ![4, 4, 64, 8448]⟩
abbrev S4x256x8448 : Shape := ⟨3, ![4, 256, 8448]⟩

abbrev nBuf : Space → Nat
  | .hbm => 315
  | .vmem => 0
  | .smem => 0
  | _ => 0

abbrev hbmTy0_0 (i : Nat) : BufTy := match i % 128 with
  | 0 => ⟨S4x8192x1024, .f32⟩
  | 1 => ⟨S4x256x1024, .f32⟩
  | 2 => ⟨S4x2x6x1024, .f32⟩
  | 3 => ⟨S1024x928, .f32⟩
  | 4 => ⟨S384, .f32⟩
  | 5 => ⟨S384x768, .f32⟩
  | 6 => ⟨S256, .f32⟩
  | 7 => ⟨S256x1280, .f32⟩
  | 8 => ⟨S256, .f32⟩
  | 9 => ⟨S256, .f32⟩
  | 10 => ⟨S4x1x1x1024, .f32⟩
  | 11 => ⟨S4x1x1024, .f32⟩
  | 12 => ⟨S4x1x1x1024, .f32⟩
  | 13 => ⟨S4x1x1024, .f32⟩
  | 14 => ⟨S_, .f32⟩
  | 15 => ⟨S4x8192, .f32⟩
  | 16 => ⟨S4x8192x1, .f32⟩
  | 17 => ⟨S_, .f32⟩
  | 18 => ⟨S4x8192x1, .f32⟩
  | 19 => ⟨S4x8192x1, .f32⟩
  | 20 => ⟨S4x8192x1024, .f32⟩
  | 21 => ⟨S4x8192x1024, .f32⟩
  | 22 => ⟨S4x8192x1024, .f32⟩
  | 23 => ⟨S_, .f32⟩
  | 24 => ⟨S4x8192, .f32⟩
  | 25 => ⟨S4x8192x1, .f32⟩
  | 26 => ⟨S_, .f32⟩
  | 27 => ⟨S4x8192x1, .f32⟩
  | 28 => ⟨S4x8192x1, .f32⟩
  | 29 => ⟨S4x8192x1024, .f32⟩
  | 30 => ⟨S4x8192x1024, .f32⟩
  | 31 => ⟨S_, .f32⟩
  | 32 => ⟨S4x8192x1, .f32⟩
  | 33 => ⟨S4x8192x1, .f32⟩
  | 34 => ⟨S4x8192x1, .f32⟩
  | 35 => ⟨S4x8192x1024, .f32⟩
  | 36 => ⟨S4x8192x1024, .f32⟩
  | 37 => ⟨S_, .f32⟩
  | 38 => ⟨S4x1x1024, .f32⟩
  | 39 => ⟨S4x1x1024, .f32⟩
  | 40 => ⟨S4x8192x1024, .f32⟩
  | 41 => ⟨S4x8192x1024, .f32⟩
  | 42 => ⟨S4x8192x1024, .f32⟩
  | 43 => ⟨S4x8192x1024, .f32⟩
  | 44 => ⟨S4x1x1x1024, .f32⟩
  | 45 => ⟨S4x1x1024, .f32⟩
  | 46 => ⟨S4x1x1x1024, .f32⟩
  | 47 => ⟨S4x1x1024, .f32⟩
  | 48 => ⟨S_, .f32⟩
  | 49 => ⟨S4x256, .f32⟩
  | 50 => ⟨S4x256x1, .f32⟩
  | 51 => ⟨S_, .f32⟩
  | 52 => ⟨S4x256x1, .f32⟩
  | 53 => ⟨S4x256x1, .f32⟩
  | 54 => ⟨S4x256x1024, .f32⟩
  | 55 => ⟨S4x256x1024, .f32⟩
  | 56 => ⟨S4x256x1024, .f32⟩
  | 57 => ⟨S_, .f32⟩
  | 58 => ⟨S4x256, .f32⟩
  | 59 => ⟨S4x256x1, .f32⟩
  | 60 => ⟨S_, .f32⟩
  | 61 => ⟨S4x256x1, .f32⟩
  | 62 => ⟨S4x256x1, .f32⟩
  | 63 => ⟨S4x256x1024, .f32⟩
  | 64 => ⟨S4x256x1024, .f32⟩
  | 65 => ⟨S_, .f32⟩
  | 66 => ⟨S4x256x1, .f32⟩
  | 67 => ⟨S4x256x1, .f32⟩
  | 68 => ⟨S4x256x1, .f32⟩
  | 69 => ⟨S4x256x1024, .f32⟩
  | 70 => ⟨S4x256x1024, .f32⟩
  | 71 => ⟨S_, .f32⟩
  | 72 => ⟨S4x1x1024, .f32⟩
  | 73 => ⟨S4x1x1024, .f32⟩
  | 74 => ⟨S4x256x1024, .f32⟩
  | 75 => ⟨S4x256x1024, .f32⟩
  | 76 => ⟨S4x256x1024, .f32⟩
  | 77 => ⟨S4x256x1024, .f32⟩
  | 78 => ⟨S4x8448x1024, .f32⟩
  | 79 => ⟨S4x8448x928, .f32⟩
  | 80 => ⟨S8192, .i32⟩
  | 81 => ⟨S_, .i32⟩
  | 82 => ⟨S_, .i32⟩
  | 83 => ⟨S8192, .i32⟩
  | 84 => ⟨S8192, .i32⟩
  | 85 => ⟨S8192, .i32⟩
  | 86 => ⟨S_, .i32⟩
  | 87 => ⟨S8192, .i32⟩
  | 88 => ⟨S8192, .i1⟩
  | 89 => ⟨S8192, .i32⟩
  | 90 => ⟨S8192, .i32⟩
  | 91 => ⟨S_, .i32⟩
  | 92 => ⟨S8192, .i32⟩
  | 93 => ⟨S8192, .i1⟩
  | 94 => ⟨S8192, .i1⟩
  | 95 => ⟨S_, .i32⟩
  | 96 => ⟨S8192, .i32⟩
  | 97 => ⟨S8192, .i32⟩
  | 98 => ⟨S8192, .i32⟩
  | 99 => ⟨S8192, .f32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S8192, .i32⟩
  | 107 => ⟨S8192, .i32⟩
  | 108 => ⟨S_, .i32⟩
  | 109 => ⟨S8192, .i32⟩
  | 110 => ⟨S8192, .i1⟩
  | 111 => ⟨S_, .i32⟩
  | 112 => ⟨S8192, .i32⟩
  | 113 => ⟨S8192, .i1⟩
  | 114 => ⟨S_, .i32⟩
  | 115 => ⟨S_, .i1⟩
  | 116 => ⟨S8192, .i1⟩
  | 117 => ⟨S8192, .i1⟩
  | 118 => ⟨S8192, .i1⟩
  | 119 => ⟨S8192, .i32⟩
  | 120 => ⟨S8192, .i32⟩
  | 121 => ⟨S8192, .i32⟩
  | 122 => ⟨S8192, .f32⟩
  | 123 => ⟨S8, .f32⟩
  | 124 => ⟨S_, .f32⟩
  | 125 => ⟨S8, .f32⟩
  | 126 => ⟨S8, .f32⟩
  | 127 => ⟨S_, .f32⟩
  | _ => ⟨S4x8192x1024, .f32⟩

abbrev hbmTy0_1 (i : Nat) : BufTy := match i % 128 with
  | 0 => ⟨S8, .f32⟩
  | 1 => ⟨S8, .f32⟩
  | 2 => ⟨S8, .f32⟩
  | 3 => ⟨S_, .f32⟩
  | 4 => ⟨S8, .f32⟩
  | 5 => ⟨S8, .f32⟩
  | 6 => ⟨S_, .f32⟩
  | 7 => ⟨S8, .f32⟩
  | 8 => ⟨S8, .f32⟩
  | 9 => ⟨S8192x1, .f32⟩
  | 10 => ⟨S1x8, .f32⟩
  | 11 => ⟨S8192x8, .f32⟩
  | 12 => ⟨S8192x8, .f32⟩
  | 13 => ⟨S8192x8, .f32⟩
  | 14 => ⟨S8192x1, .f32⟩
  | 15 => ⟨S1x8, .f32⟩
  | 16 => ⟨S8192x8, .f32⟩
  | 17 => ⟨S8192x8, .f32⟩
  | 18 => ⟨S8192x8, .f32⟩
  | 19 => ⟨S8192x32, .f32⟩
  | 20 => ⟨S8192x32, .f32⟩
  | 21 => ⟨S8192x32, .f32⟩
  | 22 => ⟨S4x8448x384, .f32⟩
  | 23 => ⟨S4x8448x384, .f32⟩
  | 24 => ⟨S_, .f32⟩
  | 25 => ⟨S4x8448, .f32⟩
  | 26 => ⟨S4x8448x1, .f32⟩
  | 27 => ⟨S_, .f32⟩
  | 28 => ⟨S4x8448x1, .f32⟩
  | 29 => ⟨S4x8448x1, .f32⟩
  | 30 => ⟨S_, .f32⟩
  | 31 => ⟨S4x8448x1, .f32⟩
  | 32 => ⟨S4x8448x1, .f32⟩
  | 33 => ⟨S4x8448x1, .f32⟩
  | 34 => ⟨S4x8448x384, .f32⟩
  | 35 => ⟨S4x8448x384, .f32⟩
  | 36 => ⟨S1x1x384, .f32⟩
  | 37 => ⟨S4x8448x384, .f32⟩
  | 38 => ⟨S4x8448x384, .f32⟩
  | 39 => ⟨S4x8448x768, .f32⟩
  | 40 => ⟨S4x8448x8x96, .f32⟩
  | 41 => ⟨S4x8448x8x64, .f32⟩
  | 42 => ⟨S4x8448x8x32, .f32⟩
  | 43 => ⟨S4x8192x8x32, .f32⟩
  | 44 => ⟨S8192x1x32, .f32⟩
  | 45 => ⟨S8192x1x32, .f32⟩
  | 46 => ⟨S4x8192x8x8, .f32⟩
  | 47 => ⟨S4x8192x8x8, .f32⟩
  | 48 => ⟨S4x8192x8x8, .f32⟩
  | 49 => ⟨S4x8192x8x8, .f32⟩
  | 50 => ⟨S4x8192x8x8, .f32⟩
  | 51 => ⟨S4x8192x8x8, .f32⟩
  | 52 => ⟨S4x8192x8x32, .f32⟩
  | 53 => ⟨S1x8192x1x32, .f32⟩
  | 54 => ⟨S4x8192x8x32, .f32⟩
  | 55 => ⟨S4x8192x8x32, .f32⟩
  | 56 => ⟨S1x8192x1x32, .f32⟩
  | 57 => ⟨S4x8192x8x32, .f32⟩
  | 58 => ⟨S4x8192x8x32, .f32⟩
  | 59 => ⟨S4x8192x8x32, .f32⟩
  | 60 => ⟨S4x256x8x32, .f32⟩
  | 61 => ⟨S4x8448x8x32, .f32⟩
  | 62 => ⟨S_, .f32⟩
  | 63 => ⟨S4x8448x8x32, .f32⟩
  | 64 => ⟨S4x8448x8x128, .f32⟩
  | 65 => ⟨S4x8448x1024, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S4x8448x1024, .f32⟩
  | 74 => ⟨S4x8448x1024, .f32⟩
  | 75 => ⟨S4x8448x256, .f32⟩
  | 76 => ⟨S4x8448x256, .f32⟩
  | 77 => ⟨S_, .f32⟩
  | 78 => ⟨S4x8448, .f32⟩
  | 79 => ⟨S4x8448x1, .f32⟩
  | 80 => ⟨S_, .f32⟩
  | 81 => ⟨S4x8448x1, .f32⟩
  | 82 => ⟨S4x8448x1, .f32⟩
  | 83 => ⟨S_, .f32⟩
  | 84 => ⟨S4x8448x1, .f32⟩
  | 85 => ⟨S4x8448x1, .f32⟩
  | 86 => ⟨S4x8448x1, .f32⟩
  | 87 => ⟨S4x8448x256, .f32⟩
  | 88 => ⟨S4x8448x256, .f32⟩
  | 89 => ⟨S1x1x256, .f32⟩
  | 90 => ⟨S4x8448x256, .f32⟩
  | 91 => ⟨S4x8448x256, .f32⟩
  | 92 => ⟨S4x8448x1280, .f32⟩
  | 93 => ⟨S4x8448x8x160, .f32⟩
  | 94 => ⟨S4x8448x32, .f32⟩
  | 95 => ⟨S4x8448x1x32, .f32⟩
  | 96 => ⟨S4x8192x1x32, .f32⟩
  | 97 => ⟨S8192x1x32, .f32⟩
  | 98 => ⟨S8192x1x32, .f32⟩
  | 99 => ⟨S4x8192x1x8, .f32⟩
  | 100 => ⟨S4x8192x1x8, .f32⟩
  | 101 => ⟨S4x8192x1x8, .f32⟩
  | 102 => ⟨S4x8192x1x8, .f32⟩
  | 103 => ⟨S4x8192x1x8, .f32⟩
  | 104 => ⟨S4x8192x1x8, .f32⟩
  | 105 => ⟨S4x8192x1x32, .f32⟩
  | 106 => ⟨S1x8192x1x32, .f32⟩
  | 107 => ⟨S4x8192x1x32, .f32⟩
  | 108 => ⟨S4x8192x1x32, .f32⟩
  | 109 => ⟨S1x8192x1x32, .f32⟩
  | 110 => ⟨S4x8192x1x32, .f32⟩
  | 111 => ⟨S4x8192x1x32, .f32⟩
  | 112 => ⟨S4x8192x1x32, .f32⟩
  | 113 => ⟨S4x256x1x32, .f32⟩
  | 114 => ⟨S4x8448x1x32, .f32⟩
  | 115 => ⟨S4x8448x8x32, .f32⟩
  | 116 => ⟨S4x8448x8x64, .f32⟩
  | 117 => ⟨S_, .f32⟩
  | 118 => ⟨S4x8448x8x32, .f32⟩
  | 119 => ⟨S4x8448x8x128, .f32⟩
  | 120 => ⟨S4x8448x1024, .f32⟩
  | 121 => ⟨S4x8448x8x96, .f32⟩
  | 122 => ⟨S_, .f32⟩
  | 123 => ⟨S4x8448x8x1, .f32⟩
  | 124 => ⟨S_, .f32⟩
  | 125 => ⟨S4x8448x8x31, .f32⟩
  | 126 => ⟨S4x8448x8x128, .f32⟩
  | 127 => ⟨S4x8448x1024, .f32⟩
  | _ => ⟨S4x8192x1024, .f32⟩

abbrev hbmTy0_2 (i : Nat) : BufTy := match i % 128 with
  | 0 => ⟨S4x8448x256, .f32⟩
  | 1 => ⟨S4x8448x4x64, .f32⟩
  | 2 => ⟨S4x64, .f32⟩
  | 3 => ⟨S4x64, .f32⟩
  | 4 => ⟨S_, .f32⟩
  | 5 => ⟨S4x8448x4, .f32⟩
  | 6 => ⟨S4x8448x4x1, .f32⟩
  | 7 => ⟨S_, .f32⟩
  | 8 => ⟨S4x8448x4x1, .f32⟩
  | 9 => ⟨S4x8448x4x1, .f32⟩
  | 10 => ⟨S4x8448x4x64, .f32⟩
  | 11 => ⟨S4x8448x4x64, .f32⟩
  | 12 => ⟨S4x8448x4x64, .f32⟩
  | 13 => ⟨S_, .f32⟩
  | 14 => ⟨S4x8448x4, .f32⟩
  | 15 => ⟨S4x8448x4x1, .f32⟩
  | 16 => ⟨S_, .f32⟩
  | 17 => ⟨S4x8448x4x1, .f32⟩
  | 18 => ⟨S4x8448x4x1, .f32⟩
  | 19 => ⟨S4x8448x4x64, .f32⟩
  | 20 => ⟨S4x8448x4x64, .f32⟩
  | 21 => ⟨S_, .f32⟩
  | 22 => ⟨S4x8448x4x1, .f32⟩
  | 23 => ⟨S4x8448x4x1, .f32⟩
  | 24 => ⟨S4x8448x4x1, .f32⟩
  | 25 => ⟨S4x8448x4x64, .f32⟩
  | 26 => ⟨S4x8448x4x64, .f32⟩
  | 27 => ⟨S1x1x4x64, .f32⟩
  | 28 => ⟨S4x8448x4x64, .f32⟩
  | 29 => ⟨S4x8448x4x64, .f32⟩
  | 30 => ⟨S1x1x4x64, .f32⟩
  | 31 => ⟨S4x8448x4x64, .f32⟩
  | 32 => ⟨S4x8448x4x64, .f32⟩
  | 33 => ⟨S64, .f32⟩
  | 34 => ⟨S64x1, .f32⟩
  | 35 => ⟨S1x64, .f32⟩
  | 36 => ⟨S64x64, .f32⟩
  | 37 => ⟨S64x64, .f32⟩
  | 38 => ⟨S64x64, .f32⟩
  | 39 => ⟨S_, .f32⟩
  | 40 => ⟨S64x64, .f32⟩
  | 41 => ⟨S64x64, .f32⟩
  | 42 => ⟨S_, .f32⟩
  | 43 => ⟨S64x64, .f32⟩
  | 44 => ⟨S64x64, .f32⟩
  | 45 => ⟨S64x64, .f32⟩
  | 46 => ⟨S64x4x8448x4, .f32⟩
  | 47 => ⟨S4x4x64x8448, .f32⟩
  | 48 => ⟨S4x256x8448, .f32⟩
  | 49 => ⟨S64x64, .f32⟩
  | 50 => ⟨S64x64, .f32⟩
  | 51 => ⟨S64x4x8448x4, .f32⟩
  | 52 => ⟨S4x4x64x8448, .f32⟩
  | 53 => ⟨S4x256x8448, .f32⟩
  | 54 => ⟨S4x8448x1024, .bf16⟩
  | 55 => ⟨S4x8448x1024, .bf16⟩
  | 56 => ⟨S4x8448x1024, .bf16⟩
  | 57 => ⟨S4x256x8448, .bf16⟩
  | 58 => ⟨S4x256x8448, .bf16⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_v5 : Ref sig .tc := ⟨.hbm, 87, rfl⟩
abbrev main_call0_v6 : Ref sig .tc := ⟨.hbm, 88, rfl⟩
abbrev main_call0_v7 : Ref sig .tc := ⟨.hbm, 89, rfl⟩
abbrev main_call0_v8 : Ref sig .tc := ⟨.hbm, 90, rfl⟩
abbrev main_call0_c : Ref sig .tc := ⟨.hbm, 91, rfl⟩
abbrev main_call0_v9 : Ref sig .tc := ⟨.hbm, 92, rfl⟩
abbrev main_call0_v10 : Ref sig .tc := ⟨.hbm, 93, rfl⟩
abbrev main_call0_v11 : Ref sig .tc := ⟨.hbm, 94, rfl⟩
abbrev main_call0_c_0 : Ref sig .tc := ⟨.hbm, 95, rfl⟩
abbrev main_call0_v12 : Ref sig .tc := ⟨.hbm, 96, rfl⟩
abbrev main_call0_v13 : Ref sig .tc := ⟨.hbm, 97, rfl⟩
abbrev main_v59 : Ref sig .tc := ⟨.hbm, 98, rfl⟩
abbrev main_v60 : Ref sig .tc := ⟨.hbm, 99, rfl⟩
abbrev main_c_11 : Ref sig .tc := ⟨.hbm, 100, rfl⟩
abbrev main_call1_v0 : Ref sig .tc := ⟨.hbm, 101, rfl⟩
abbrev main_call1_c : Ref sig .tc := ⟨.hbm, 102, rfl⟩
abbrev main_call1_v1 : Ref sig .tc := ⟨.hbm, 103, rfl⟩
abbrev main_call1_c_0 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_c_1 : Ref sig .tc := ⟨.hbm, 108, rfl⟩
abbrev main_call1_v5 : Ref sig .tc := ⟨.hbm, 109, rfl⟩
abbrev main_call1_v6 : Ref sig .tc := ⟨.hbm, 110, rfl⟩
abbrev main_call1_c_2 : Ref sig .tc := ⟨.hbm, 111, rfl⟩
abbrev main_call1_v7 : Ref sig .tc := ⟨.hbm, 112, rfl⟩
abbrev main_call1_v8 : Ref sig .tc := ⟨.hbm, 113, rfl⟩
abbrev main_call1_c_3 : Ref sig .tc := ⟨.hbm, 114, rfl⟩
abbrev main_call1_v9 : Ref sig .tc := ⟨.hbm, 115, rfl⟩
abbrev main_call1_v10 : Ref sig .tc := ⟨.hbm, 116, rfl⟩
abbrev main_call1_v11 : Ref sig .tc := ⟨.hbm, 117, rfl⟩
abbrev main_call1_v12 : Ref sig .tc := ⟨.hbm, 118, rfl⟩
abbrev main_call1_v13 : Ref sig .tc := ⟨.hbm, 119, rfl⟩
abbrev main_call1_v14 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_12 : Ref sig .tc := ⟨.hbm, 124, rfl⟩
abbrev main_v64 : Ref sig .tc := ⟨.hbm, 125, rfl⟩
abbrev main_v65 : Ref sig .tc := ⟨.hbm, 126, rfl⟩
abbrev main_cst_13 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_cst_14 : Ref sig .tc := ⟨.hbm, 131, rfl⟩
abbrev main_v69 : Ref sig .tc := ⟨.hbm, 132, rfl⟩
abbrev main_v70 : Ref sig .tc := ⟨.hbm, 133, rfl⟩
abbrev main_cst_15 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_cst_16 : Ref sig .tc := ⟨.hbm, 152, rfl⟩
abbrev main_v88 : Ref sig .tc := ⟨.hbm, 153, rfl⟩
abbrev main_v89 : Ref sig .tc := ⟨.hbm, 154, rfl⟩
abbrev main_cst_17 : Ref sig .tc := ⟨.hbm, 155, rfl⟩
abbrev main_v90 : Ref sig .tc := ⟨.hbm, 156, rfl⟩
abbrev main_v91 : Ref sig .tc := ⟨.hbm, 157, rfl⟩
abbrev main_cst_18 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_cst_19 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_cst_20 : Ref sig .tc := ⟨.hbm, 194, rfl⟩
abbrev main_v126 : Ref sig .tc := ⟨.hbm, 195, rfl⟩
abbrev main_cst_21 : Ref sig .tc := ⟨.hbm, 196, rfl⟩
abbrev main_v127 : Ref sig .tc := ⟨.hbm, 197, rfl⟩
abbrev main_v128 : Ref sig .tc := ⟨.hbm, 198, rfl⟩
abbrev main_cst_22 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_cst_23 : Ref sig .tc := ⟨.hbm, 205, rfl⟩
abbrev main_v134 : Ref sig .tc := ⟨.hbm, 206, rfl⟩
abbrev main_v135 : Ref sig .tc := ⟨.hbm, 207, rfl⟩
abbrev main_cst_24 : Ref sig .tc := ⟨.hbm, 208, rfl⟩
abbrev main_v136 : Ref sig .tc := ⟨.hbm, 209, rfl⟩
abbrev main_v137 : Ref sig .tc := ⟨.hbm, 210, rfl⟩
abbrev main_cst_25 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_cst_26 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_cst_27 : Ref sig .tc := ⟨.hbm, 250, rfl⟩
abbrev main_v175 : Ref sig .tc := ⟨.hbm, 251, rfl⟩
abbrev main_cst_28 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_v179 : Ref sig .tc := ⟨.hbm, 256, rfl⟩
abbrev main_v180 : Ref sig .tc := ⟨.hbm, 257, rfl⟩
abbrev main_v181 : Ref sig .tc := ⟨.hbm, 258, rfl⟩
abbrev main_v182 : Ref sig .tc := ⟨.hbm, 259, rfl⟩
abbrev main_cst_29 : Ref sig .tc := ⟨.hbm, 260, rfl⟩
abbrev main_v183 : Ref sig .tc := ⟨.hbm, 261, rfl⟩
abbrev main_v184 : Ref sig .tc := ⟨.hbm, 262, rfl⟩
abbrev main_cst_30 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_cst_31 : Ref sig .tc := ⟨.hbm, 269, rfl⟩
abbrev main_v190 : Ref sig .tc := ⟨.hbm, 270, rfl⟩
abbrev main_v191 : Ref sig .tc := ⟨.hbm, 271, rfl⟩
abbrev main_cst_32 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_cst_33 : Ref sig .tc := ⟨.hbm, 277, rfl⟩
abbrev main_v196 : Ref sig .tc := ⟨.hbm, 278, rfl⟩
abbrev main_v197 : Ref sig .tc := ⟨.hbm, 279, rfl⟩
abbrev main_v198 : Ref sig .tc := ⟨.hbm, 280, rfl⟩
abbrev main_v199 : Ref sig .tc := ⟨.hbm, 281, rfl⟩
abbrev main_v200 : Ref sig .tc := ⟨.hbm, 282, rfl⟩
abbrev main_v201 : Ref sig .tc := ⟨.hbm, 283, rfl⟩
abbrev main_v202 : Ref sig .tc := ⟨.hbm, 284, rfl⟩
abbrev main_v203 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_cst_34 : Ref sig .tc := ⟨.hbm, 295, rfl⟩
abbrev main_v213 : Ref sig .tc := ⟨.hbm, 296, rfl⟩
abbrev main_v214 : Ref sig .tc := ⟨.hbm, 297, rfl⟩
abbrev main_cst_35 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩

abbrev nD : Nat := 1
abbrev τ : Topo := Topo.v7x

variable {F : FTy → Type} [FloatOps F]
-- ==== PostCtx.lean ====
abbrev S4x256x1024 : Shape := ⟨3, ![4, 256, 1024]⟩
abbrev S4x2x6x1024 : Shape := ⟨4, ![4, 2, 6, 1024]⟩
abbrev S4x256x512 : Shape := ⟨3, ![4, 256, 512]⟩
abbrev S1024x1024 : Shape := ⟨2, ![1024, 1024]⟩
abbrev S2x1024 : Shape := ⟨2, ![2, 1024]⟩
abbrev S1024x4096 : Shape := ⟨2, ![1024, 4096]⟩
abbrev S4096x1024 : Shape := ⟨2, ![4096, 1024]⟩
abbrev S512x1024 : Shape := ⟨2, ![512, 1024]⟩
abbrev S1x256x1024 : Shape := ⟨3, ![1, 256, 1024]⟩
abbrev S1x1x6x1024 : Shape := ⟨4, ![1, 1, 6, 1024]⟩
abbrev S1x256x512 : Shape := ⟨3, ![1, 256, 512]⟩
abbrev S6x1024 : Shape := ⟨2, ![6, 1024]⟩
abbrev S256x512 : Shape := ⟨2, ![256, 512]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 17
  | .vmem => 16
  | .smem => 0
  | _ => 0

abbrev bufTy : (tb : Table) → Fin (tcTables nBuf tb) → BufTy
  | .hbm, ⟨0, _⟩ => ⟨S4x256x1024, .f32⟩
  | .hbm, ⟨1, _⟩ => ⟨S4x2x6x1024, .f32⟩
  | .hbm, ⟨2, _⟩ => ⟨S4x256x512, .f32⟩
  | .hbm, ⟨3, _⟩ => ⟨S4x256x512, .f32⟩
  | .hbm, ⟨4, _⟩ => ⟨S1024x1024, .f32⟩
  | .hbm, ⟨5, _⟩ => ⟨S2x1024, .f32⟩
  | .hbm, ⟨6, _⟩ => ⟨S2x1024, .f32⟩
  | .hbm, ⟨7, _⟩ => ⟨S1024x4096, .f32⟩
  | .hbm, ⟨8, _⟩ => ⟨S4096x1024, .f32⟩
  | .hbm, ⟨9, _⟩ => ⟨S1024x1024, .bf16⟩
  | .hbm, ⟨10, _⟩ => ⟨S4x256x512, .bf16⟩
  | .hbm, ⟨11, _⟩ => ⟨S4x256x512, .bf16⟩
  | .hbm, ⟨12, _⟩ => ⟨S512x1024, .bf16⟩
  | .hbm, ⟨13, _⟩ => ⟨S512x1024, .bf16⟩
  | .hbm, ⟨14, _⟩ => ⟨S1024x4096, .bf16⟩
  | .hbm, ⟨15, _⟩ => ⟨S4096x1024, .bf16⟩
  | .hbm, ⟨16, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S512x1024, .bf16⟩
  | .local _ .vmem, ⟨9, _⟩ => ⟨S512x1024, .bf16⟩
  | .local _ .vmem, ⟨10, _⟩ => ⟨S2x1024, .f32⟩
  | .local _ .vmem, ⟨11, _⟩ => ⟨S2x1024, .f32⟩
  | .local _ .vmem, ⟨12, _⟩ => ⟨S1024x4096, .bf16⟩
  | .local _ .vmem, ⟨13, _⟩ => ⟨S4096x1024, .bf16⟩
  | .local _ .vmem, ⟨14, _⟩ => ⟨S1x256x1024, .f32⟩
  | .local _ .vmem, ⟨15, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== PostCtxRefIdeal.lean ====
abbrev S4x256x1024 : Shape := ⟨3, ![4, 256, 1024]⟩
abbrev S4x2x6x1024 : Shape := ⟨4, ![4, 2, 6, 1024]⟩
abbrev S4x256x512 : Shape := ⟨3, ![4, 256, 512]⟩
abbrev S1024x1024 : Shape := ⟨2, ![1024, 1024]⟩
abbrev S2x1024 : Shape := ⟨2, ![2, 1024]⟩
abbrev S1024x4096 : Shape := ⟨2, ![1024, 4096]⟩
abbrev S4096x1024 : Shape := ⟨2, ![4096, 1024]⟩
abbrev S4x1x6x1024 : Shape := ⟨4, ![4, 1, 6, 1024]⟩
abbrev S4x6x1024 : Shape := ⟨3, ![4, 6, 1024]⟩
abbrev S4x1x1024 : Shape := ⟨3, ![4, 1, 1024]⟩
abbrev S_ : Shape := ⟨0, ![]⟩
abbrev S1x1024 : Shape := ⟨2, ![1, 1024]⟩
abbrev S1024 : Shape := ⟨1, ![1024]⟩
abbrev S4x256 : Shape := ⟨2, ![4, 256]⟩
abbrev S4x256x1 : Shape := ⟨3, ![4, 256, 1]⟩
abbrev S1x1x1024 : Shape := ⟨3, ![1, 1, 1024]⟩
abbrev S4x256x4096 : Shape := ⟨3, ![4, 256, 4096]⟩

abbrev nBuf : Space → Nat
  | .hbm => 131
  | .vmem => 0
  | .smem => 0
  | _ => 0

abbrev hbmTy0_0 (i : Nat) : BufTy := match i % 128 with
  | 0 => ⟨S4x256x1024, .f32⟩
  | 1 => ⟨S4x2x6x1024, .f32⟩
  | 2 => ⟨S4x256x512, .f32⟩
  | 3 => ⟨S4x256x512, .f32⟩
  | 4 => ⟨S1024x1024, .f32⟩
  | 5 => ⟨S2x1024, .f32⟩
  | 6 => ⟨S2x1024, .f32⟩
  | 7 => ⟨S1024x4096, .f32⟩
  | 8 => ⟨S4096x1024, .f32⟩
  | 9 => ⟨S4x256x1024, .f32⟩
  | 10 => ⟨S4x256x1024, .f32⟩
  | 11 => ⟨S4x1x6x1024, .f32⟩
  | 12 => ⟨S4x6x1024, .f32⟩
  | 13 => ⟨S4x1x1024, .f32⟩
  | 14 => ⟨S4x1x1024, .f32⟩
  | 15 => ⟨S4x1x1024, .f32⟩
  | 16 => ⟨S4x1x1024, .f32⟩
  | 17 => ⟨S_, .f32⟩
  | 18 => ⟨S4x256x1024, .f32⟩
  | 19 => ⟨S4x256x1024, .f32⟩
  | 20 => ⟨S4x256x1024, .f32⟩
  | 21 => ⟨S4x256x1024, .f32⟩
  | 22 => ⟨S4x256x1024, .f32⟩
  | 23 => ⟨S1x1024, .f32⟩
  | 24 => ⟨S1024, .f32⟩
  | 25 => ⟨S1x1024, .f32⟩
  | 26 => ⟨S1024, .f32⟩
  | 27 => ⟨S_, .f32⟩
  | 28 => ⟨S4x256, .f32⟩
  | 29 => ⟨S4x256x1, .f32⟩
  | 30 => ⟨S_, .f32⟩
  | 31 => ⟨S4x256x1, .f32⟩
  | 32 => ⟨S4x256x1, .f32⟩
  | 33 => ⟨S4x256x1024, .f32⟩
  | 34 => ⟨S4x256x1024, .f32⟩
  | 35 => ⟨S4x256x1024, .f32⟩
  | 36 => ⟨S_, .f32⟩
  | 37 => ⟨S4x256, .f32⟩
  | 38 => ⟨S4x256x1, .f32⟩
  | 39 => ⟨S_, .f32⟩
  | 40 => ⟨S4x256x1, .f32⟩
  | 41 => ⟨S4x256x1, .f32⟩
  | 42 => ⟨S4x256x1024, .f32⟩
  | 43 => ⟨S4x256x1024, .f32⟩
  | 44 => ⟨S_, .f32⟩
  | 45 => ⟨S4x256x1, .f32⟩
  | 46 => ⟨S4x256x1, .f32⟩
  | 47 => ⟨S4x256x1, .f32⟩
  | 48 => ⟨S4x256x1024, .f32⟩
  | 49 => ⟨S4x256x1024, .f32⟩
  | 50 => ⟨S1x1x1024, .f32⟩
  | 51 => ⟨S4x256x1024, .f32⟩
  | 52 => ⟨S4x256x1024, .f32⟩
  | 53 => ⟨S1x1x1024, .f32⟩
  | 54 => ⟨S4x256x1024, .f32⟩
  | 55 => ⟨S4x256x1024, .f32⟩
  | 56 => ⟨S_, .f32⟩
  | 57 => ⟨S4x256x1024, .f32⟩
  | 58 => ⟨S4x256x1024, .f32⟩
  | 59 => ⟨S_, .f32⟩
  | 60 => ⟨S4x256, .f32⟩
  | 61 => ⟨S4x256x1, .f32⟩
  | 62 => ⟨S_, .f32⟩
  | 63 => ⟨S4x256x1, .f32⟩
  | 64 => ⟨S4x256x1, .f32⟩
  | 65 => ⟨S4x256x1024, .f32⟩
  | 66 => ⟨S4x256x1024, .f32⟩
  | 67 => ⟨S4x256x1024, .f32⟩
  | 68 => ⟨S_, .f32⟩
  | 69 => ⟨S4x256, .f32⟩
  | 70 => ⟨S4x256x1, .f32⟩
  | 71 => ⟨S_, .f32⟩
  | 72 => ⟨S4x256x1, .f32⟩
  | 73 => ⟨S4x256x1, .f32⟩
  | 74 => ⟨S4x256x1024, .f32⟩
  | 75 => ⟨S4x256x1024, .f32⟩
  | 76 => ⟨S_, .f32⟩
  | 77 => ⟨S4x256x1, .f32⟩
  | 78 => ⟨S4x256x1, .f32⟩
  | 79 => ⟨S4x256x1, .f32⟩
  | 80 => ⟨S4x256x1024, .f32⟩
  | 81 => ⟨S4x256x1024, .f32⟩
  | 82 => ⟨S_, .f32⟩
  | 83 => ⟨S4x1x1024, .f32⟩
  | 84 => ⟨S4x1x1024, .f32⟩
  | 85 => ⟨S4x256x1024, .f32⟩
  | 86 => ⟨S4x256x1024, .f32⟩
  | 87 => ⟨S4x256x1024, .f32⟩
  | 88 => ⟨S4x256x1024, .f32⟩
  | 89 => ⟨S4x256x4096, .f32⟩
  | 90 => ⟨S_, .f32⟩
  | 91 => ⟨S4x256x4096, .f32⟩
  | 92 => ⟨S4x256x4096, .f32⟩
  | 93 => ⟨S4x256x4096, .f32⟩
  | 94 => ⟨S4x256x1024, .f32⟩
  | 95 => ⟨S4x256x1024, .f32⟩
  | 96 => ⟨S4x256x1024, .f32⟩
  | 97 => ⟨S4x256x1024, .f32⟩
  | 98 => ⟨S1x1024, .f32⟩
  | 99 => ⟨S1024, .f32⟩
  | 100 => ⟨S1x1024, .f32⟩
  | 101 => ⟨S1024, .f32⟩
  | 102 => ⟨S_, .f32⟩
  | 103 => ⟨S4x256, .f32⟩
  | 104 => ⟨S4x256x1, .f32⟩
  | 105 => ⟨S_, .f32⟩
  | 106 => ⟨S4x256x1, .f32⟩
  | 107 => ⟨S4x256x1, .f32⟩
  | 108 => ⟨S4x256x1024, .f32⟩
  | 109 => ⟨S4x256x1024, .f32⟩
  | 110 => ⟨S4x256x1024, .f32⟩
  | 111 => ⟨S_, .f32⟩
  | 112 => ⟨S4x256, .f32⟩
  | 113 => ⟨S4x256x1, .f32⟩
  | 114 => ⟨S_, .f32⟩
  | 115 => ⟨S4x256x1, .f32⟩
  | 116 => ⟨S4x256x1, .f32⟩
  | 117 => ⟨S4x256x1024, .f32⟩
  | 118 => ⟨S4x256x1024, .f32⟩
  | 119 => ⟨S_, .f32⟩
  | 120 => ⟨S4x256x1, .f32⟩
  | 121 => ⟨S4x256x1, .f32⟩
  | 122 => ⟨S4x256x1, .f32⟩
  | 123 => ⟨S4x256x1024, .f32⟩
  | 124 => ⟨S4x256x1024, .f32⟩
  | 125 => ⟨S1x1x1024, .f32⟩
  | 126 => ⟨S4x256x1024, .f32⟩
  | 127 => ⟨S4x256x1024, .f32⟩
  | _ => ⟨S4x256x1024, .f32⟩

abbrev hbmTy0_1 (i : Nat) : BufTy := match i % 128 with
  | 0 => ⟨S1x1x1024, .f32⟩
  | 1 => ⟨S4x256x1024, .f32⟩
  | 2 => ⟨S4x256x1024, .f32⟩
  | _ => ⟨S4x256x1024, .f32⟩

abbrev hbmTy (i : Nat) : BufTy := match i / 128 with
  | 0 => hbmTy0_0 i
  | 1 => hbmTy0_1 i
  | _ => ⟨S4x256x1024, .f32⟩

abbrev bufTy : (tb : Table) → Fin (tcTables nBuf tb) → BufTy
  | .hbm, ⟨i, _⟩ => hbmTy i
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_call0_cst : Ref sig .tc := ⟨.hbm, 90, rfl⟩
abbrev main_call0_v0 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_12 : Ref sig .tc := ⟨.hbm, 102, rfl⟩
abbrev main_v78 : Ref sig .tc := ⟨.hbm, 103, rfl⟩
abbrev main_v79 : Ref sig .tc := ⟨.hbm, 104, rfl⟩
abbrev main_cst_13 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_14 : Ref sig .tc := ⟨.hbm, 111, rfl⟩
abbrev main_v85 : Ref sig .tc := ⟨.hbm, 112, rfl⟩
abbrev main_v86 : Ref sig .tc := ⟨.hbm, 113, rfl⟩
abbrev main_cst_15 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_16 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩

abbrev nD : Nat := 1
abbrev τ : Topo := Topo.v7x

variable {F : FTy → Type} [FloatOps F]
-- ==== FrontCtx.lean ====
abbrev S4x256x1024 : Shape := ⟨3, ![4, 256, 1024]⟩
abbrev S4x2x6x1024 : Shape := ⟨4, ![4, 2, 6, 1024]⟩
abbrev S1024x3072 : Shape := ⟨2, ![1024, 3072]⟩
abbrev S4x256x3072 : Shape := ⟨3, ![4, 256, 3072]⟩
abbrev S1x256x1024 : Shape := ⟨3, ![1, 256, 1024]⟩
abbrev S1x1x6x1024 : Shape := ⟨4, ![1, 1, 6, 1024]⟩
abbrev S1x256x3072 : Shape := ⟨3, ![1, 256, 3072]⟩
abbrev S6x1024 : Shape := ⟨2, ![6, 1024]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S256x3072 : Shape := ⟨2, ![256, 3072]⟩

abbrev nBuf : Space → Nat
  | .hbm => 5
  | .vmem => 7
  | .smem => 0
  | _ => 0

abbrev bufTy : (tb : Table) → Fin (tcTables nBuf tb) → BufTy
  | .hbm, ⟨0, _⟩ => ⟨S4x256x1024, .f32⟩
  | .hbm, ⟨1, _⟩ => ⟨S4x2x6x1024, .f32⟩
  | .hbm, ⟨2, _⟩ => ⟨S1024x3072, .f32⟩
  | .hbm, ⟨3, _⟩ => ⟨S1024x3072, .bf16⟩
  | .hbm, ⟨4, _⟩ => ⟨S4x256x3072, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1024x3072, .bf16⟩
  | .local _ .vmem, ⟨5, _⟩ => ⟨S1x256x3072, .bf16⟩
  | .local _ .vmem, ⟨6, _⟩ => ⟨S1x256x3072, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FrontCtxRefIdeal.lean ====
abbrev S4x256x1024 : Shape := ⟨3, ![4, 256, 1024]⟩
abbrev S4x2x6x1024 : Shape := ⟨4, ![4, 2, 6, 1024]⟩
abbrev S1024x3072 : Shape := ⟨2, ![1024, 3072]⟩
abbrev S4x1x1x1024 : Shape := ⟨4, ![4, 1, 1, 1024]⟩
abbrev S4x1x1024 : Shape := ⟨3, ![4, 1, 1024]⟩
abbrev S_ : Shape := ⟨0, ![]⟩
abbrev S4x256 : Shape := ⟨2, ![4, 256]⟩
abbrev S4x256x1 : Shape := ⟨3, ![4, 256, 1]⟩
abbrev S4x256x3072 : Shape := ⟨3, ![4, 256, 3072]⟩

abbrev nBuf : Space → Nat
  | .hbm => 39
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x2x6x1024, .f32⟩
  | .hbm, ⟨2, _⟩ => ⟨S1024x3072, .f32⟩
  | .hbm, ⟨3, _⟩ => ⟨S4x1x1x1024, .f32⟩
  | .hbm, ⟨4, _⟩ => ⟨S4x1x1024, .f32⟩
  | .hbm, ⟨5, _⟩ => ⟨S4x1x1x1024, .f32⟩
  | .hbm, ⟨6, _⟩ => ⟨S4x1x1024, .f32⟩
  | .hbm, ⟨7, _⟩ => ⟨S_, .f32⟩
  | .hbm, ⟨8, _⟩ => ⟨S4x256, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S4x256x1024, .f32⟩
  | .hbm, ⟨14, _⟩ => ⟨S4x256x1024, .f32⟩
  | .hbm, ⟨15, _⟩ => ⟨S4x256x1024, .f32⟩
  | .hbm, ⟨16, _⟩ => ⟨S_, .f32⟩
  | .hbm, ⟨17, _⟩ => ⟨S4x256, .f32⟩
  | .hbm, ⟨18, _⟩ => ⟨S4x256x1, .f32⟩
  | .hbm, ⟨19, _⟩ => ⟨S_, .f32⟩
  | .hbm, ⟨20, _⟩ => ⟨S4x256x1, .f32⟩
  | .hbm, ⟨21, _⟩ => ⟨S4x256x1, .f32⟩
  | .hbm, ⟨22, _⟩ => ⟨S4x256x1024, .f32⟩
  | .hbm, ⟨23, _⟩ => ⟨S4x256x1024, .f32⟩
  | .hbm, ⟨24, _⟩ => ⟨S_, .f32⟩
  | .hbm, ⟨25, _⟩ => ⟨S4x256x1, .f32⟩
  | .hbm, ⟨26, _⟩ => ⟨S4x256x1, .f32⟩
  | .hbm, ⟨27, _⟩ => ⟨S4x256x1, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x256x1024, .f32⟩
  | .hbm, ⟨34, _⟩ => ⟨S4x256x1024, .f32⟩
  | .hbm, ⟨35, _⟩ => ⟨S4x256x1024, .f32⟩
  | .hbm, ⟨36, _⟩ => ⟨S4x256x1024, .f32⟩
  | .hbm, ⟨37, _⟩ => ⟨S4x256x3072, .f32⟩
  | .hbm, ⟨38, _⟩ => ⟨S4x256x3072, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== AttnCtx.lean ====
abbrev S4x256x3072 : Shape := ⟨3, ![4, 256, 3072]⟩
abbrev S4x256x512 : Shape := ⟨3, ![4, 256, 512]⟩
abbrev S1x256x512 : Shape := ⟨3, ![1, 256, 512]⟩
abbrev S1x256x128 : Shape := ⟨3, ![1, 256, 128]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S4x256x3072, .f32⟩
  | .hbm, ⟨1, _⟩ => ⟨S4x256x3072, .bf16⟩
  | .hbm, ⟨2, _⟩ => ⟨S4x256x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | _, _ => ⟨S4x256x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_1 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![arg0.toNat, c0_i32.toNat, c4_i32.toNat]

def cc0_transform_2 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![arg0.toNat, c0_i32.toNat, c5_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnCtxRefIdeal.lean ====
abbrev S4x256x3072 : Shape := ⟨3, ![4, 256, 3072]⟩
abbrev S4x256x512 : Shape := ⟨3, ![4, 256, 512]⟩
abbrev S4x256x8x64 : Shape := ⟨4, ![4, 256, 8, 64]⟩
abbrev S4x8x256x64 : Shape := ⟨4, ![4, 8, 256, 64]⟩
abbrev S4x8x256x256 : Shape := ⟨4, ![4, 8, 256, 256]⟩
abbrev S_ : Shape := ⟨0, ![]⟩
abbrev S4x8x256 : Shape := ⟨3, ![4, 8, 256]⟩
abbrev S4x8x256x1 : Shape := ⟨4, ![4, 8, 256, 1]⟩

abbrev nBuf : Space → Nat
  | .hbm => 32
  | .vmem => 0
  | .smem => 0
  | _ => 0

abbrev bufTy : (tb : Table) → Fin (tcTables nBuf tb) → BufTy
  | .hbm, ⟨0, _⟩ => ⟨S4x256x3072, .f32⟩
  | .hbm, ⟨1, _⟩ => ⟨S4x256x512, .f32⟩
  | .hbm, ⟨2, _⟩ => ⟨S4x256x512, .f32⟩
  | .hbm, ⟨3, _⟩ => ⟨S4x256x512, .f32⟩
  | .hbm, ⟨4, _⟩ => ⟨S4x256x8x64, .f32⟩
  | .hbm, ⟨5, _⟩ => ⟨S4x8x256x64, .f32⟩
  | .hbm, ⟨6, _⟩ => ⟨S4x256x8x64, .f32⟩
  | .hbm, ⟨7, _⟩ => ⟨S4x8x256x64, .f32⟩
  | .hbm, ⟨8, _⟩ => ⟨S4x256x8x64, .f32⟩
  | .hbm, ⟨9, _⟩ => ⟨S4x8x256x64, .f32⟩
  | .hbm, ⟨10, _⟩ => ⟨S4x8x256x256, .f32⟩
  | .hbm, ⟨11, _⟩ => ⟨S_, .f32⟩
  | .hbm, ⟨12, _⟩ => ⟨S4x8x256x256, .f32⟩
  | .hbm, ⟨13, _⟩ => ⟨S4x8x256x256, .f32⟩
  | .hbm, ⟨14, _⟩ => ⟨S_, .f32⟩
  | .hbm, ⟨15, _⟩ => ⟨S4x8x256, .f32⟩
  | .hbm, ⟨16, _⟩ => ⟨S_, .f32⟩
  | .hbm, ⟨17, _⟩ => ⟨S4x8x256, .f32⟩
  | .hbm, ⟨18, _⟩ => ⟨S4x8x256, .f32⟩
  | .hbm, ⟨19, _⟩ => ⟨S4x8x256x1, .f32⟩
  | .hbm, ⟨20, _⟩ => ⟨S4x8x256x256, .f32⟩
  | .hbm, ⟨21, _⟩ => ⟨S4x8x256x256, .f32⟩
  | .hbm, ⟨22, _⟩ => ⟨S4x8x256x256, .f32⟩
  | .hbm, ⟨23, _⟩ => ⟨S_, .f32⟩
  | .hbm, ⟨24, _⟩ => ⟨S4x8x256, .f32⟩
  | .hbm, ⟨25, _⟩ => ⟨S4x8x256x1, .f32⟩
  | .hbm, ⟨26, _⟩ => ⟨S4x8x256x256, .f32⟩
  | .hbm, ⟨27, _⟩ => ⟨S4x8x256x256, .f32⟩
  | .hbm, ⟨28, _⟩ => ⟨S4x8x256x64, .f32⟩
  | .hbm, ⟨29, _⟩ => ⟨S4x256x8x64, .f32⟩
  | .hbm, ⟨30, _⟩ => ⟨S4x256x512, .f32⟩
  | .hbm, ⟨31, _⟩ => ⟨S4x256x512, .bf16⟩
  | _, _ => ⟨S4x256x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_2 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== Proof.Layout.lean ====
module

public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Layout

/-- Merging the last two of four axes, read at a merged index. -/
theorem merge_last {α : Type} {B T H D N : ℕ} (x : (⟨4, ![B, T, H, D]⟩ : Shape).Idx → α)
    (hc : (⟨4, ![B, T, H, D]⟩ : Shape).ShapeCasts ⟨3, ![B, T, N]⟩) (hN : N = H * D)
    (b : Fin B) (t : Fin T) (h : Fin H) (d : Fin D) (n : Fin N) (hn : n.val = h.val * D + d.val) :
    shapeCast ⟨3, ![B, T, N]⟩ x hc (ix3 b t n) = x (ix4 b t h d) := by
  subst hN
  refine congrArg x (Shape.reshapeEquiv_eq_of_rowMajor _ ?_)
  rw [Shape.rowMajor_val_four, Shape.rowMajor_val_three]
  simp only [ix3_0, ix3_1, ix3_2, ix4_0, ix4_1, ix4_2, ix4_3, hn]
  show ((b.val * T + t.val) * H + h.val) * D + d.val = (b.val * T + t.val) * (H * D) + (h.val * D + d.val)
  ring

/-- The largest entry of the last of four axes. -/
theorem reduce_max_last {B T H D : ℕ} {u : Shape} (x : FVec Ideal ⟨4, ![B, T, H, D]⟩ .f32) (init : FVec Ideal u .f32)
    (h' : (⟨4, ![B, T, H, D]⟩ : Shape).ReducesTo [3] ⟨3, ![B, T, H]⟩) (hu : 0 < u.numel)
    (b : Fin B) (t : Fin T) (h : Fin H) :
    Host.reduce (FloatOps.maximumf (F := Ideal) (φ := .f32)) x init h' hu (ix3 b t h)
      = Finset.univ.fold max (init (Shape.Idx.first hu) : EReal) (fun d : Fin D => (x (ix4 b t h d) : EReal)) := by
  pointwise

/-- Splitting the last of three axes, read at a split index. -/
theorem split_last {α : Type} {B T H D N : ℕ} (x : (⟨3, ![B, T, N]⟩ : Shape).Idx → α)
    (hc : (⟨3, ![B, T, N]⟩ : Shape).ShapeCasts ⟨4, ![B, T, H, D]⟩) (hN : N = H * D)
    (b : Fin B) (t : Fin T) (h : Fin H) (d : Fin D) (n : Fin N) (hn : n.val = h.val * D + d.val) :
    shapeCast ⟨4, ![B, T, H, D]⟩ x hc (ix4 b t h d) = x (ix3 b t n) := by
  subst hN
  refine congrArg x (Shape.reshapeEquiv_eq_of_rowMajor _ ?_)
  rw [Shape.rowMajor_val_four, Shape.rowMajor_val_three]
  simp only [ix3_0, ix3_1, ix3_2, ix4_0, ix4_1, ix4_2, ix4_3, hn]
  show (b.val * T + t.val) * (H * D) + (h.val * D + d.val) = ((b.val * T + t.val) * H + h.val) * D + d.val
  ring

/-- Splitting the first of two axes, read at a split index. -/
theorem split_first {α : Type} {H D K N : ℕ} (x : (⟨2, ![N, K]⟩ : Shape).Idx → α)
    (hc : (⟨2, ![N, K]⟩ : Shape).ShapeCasts ⟨3, ![H, D, K]⟩) (hN : N = H * D)
    (h : Fin H) (d : Fin D) (k : Fin K) (n : Fin N) (hn : n.val = h.val * D + d.val) :
    shapeCast ⟨3, ![H, D, K]⟩ x hc (ix3 h d k) = x (ix2 n k) := by
  subst hN
  refine congrArg x (Shape.reshapeEquiv_eq_of_rowMajor _ ?_)
  rw [Shape.rowMajor_val_three, Shape.rowMajor_val_two]
  simp only [ix3_0, ix3_1, ix3_2, ix2_0, ix2_1, hn]
  rfl

/-- Merging the first two of three axes, read at a merged index. -/
theorem merge_first {α : Type} {H D K N : ℕ} (x : (⟨3, ![H, D, K]⟩ : Shape).Idx → α)
    (hc : (⟨3, ![H, D, K]⟩ : Shape).ShapeCasts ⟨2, ![N, K]⟩) (hN : N = H * D)
    (h : Fin H) (d : Fin D) (k : Fin K) (n : Fin N) (hn : n.val = h.val * D + d.val) :
    shapeCast ⟨2, ![N, K]⟩ x hc (ix2 n k) = x (ix3 h d k) := by
  subst hN
  refine congrArg x (Shape.reshapeEquiv_eq_of_rowMajor _ ?_)
  rw [Shape.rowMajor_val_three, Shape.rowMajor_val_two]
  simp only [ix3_0, ix3_1, ix3_2, ix2_0, ix2_1, hn]
  rfl

/-- Splitting the third of four axes in two, read at a split index. -/
theorem split_third {α : Type} {B A H D L N : ℕ} (x : (⟨4, ![B, A, N, L]⟩ : Shape).Idx → α)
    (hc : (⟨4, ![B, A, N, L]⟩ : Shape).ShapeCasts ⟨5, ![B, A, H, D, L]⟩) (hN : N = H * D)
    (b : Fin B) (a : Fin A) (h : Fin H) (d : Fin D) (l : Fin L) (n : Fin N) (hn : n.val = h.val * D + d.val) :
    shapeCast ⟨5, ![B, A, H, D, L]⟩ x hc (ix5 b a h d l) = x (ix4 b a n l) := by
  subst hN
  refine congrArg x (Shape.reshapeEquiv_eq_of_rowMajor _ ?_)
  rw [Shape.rowMajor_val_five, Shape.rowMajor_val_four]
  simp only [ix5_0, ix5_1, ix5_2, ix5_3, ix5_4, ix4_0, ix4_1, ix4_2, ix4_3, hn]
  show ((b.val * A + a.val) * (H * D) + (h.val * D + d.val)) * L + l.val = (((b.val * A + a.val) * H + h.val) * D + d.val) * L + l.val
  ring

/-- Merging the second with the third and the fourth with the fifth of five axes, read at merged indices. -/
theorem merge_pairs {α : Type} {B A P H D T N : ℕ} (x : (⟨5, ![B, A, P, H, D]⟩ : Shape).Idx → α)
    (hc : (⟨5, ![B, A, P, H, D]⟩ : Shape).ShapeCasts ⟨3, ![B, T, N]⟩) (hT : T = A * P) (hN : N = H * D)
    (b : Fin B) (a : Fin A) (q : Fin P) (h : Fin H) (d : Fin D) (t : Fin T) (n : Fin N) (ht : t.val = a.val * P + q.val) (hn : n.val = h.val * D + d.val) :
    shapeCast ⟨3, ![B, T, N]⟩ x hc (ix3 b t n) = x (ix5 b a q h d) := by
  subst hT hN
  refine congrArg x (Shape.reshapeEquiv_eq_of_rowMajor _ ?_)
  rw [Shape.rowMajor_val_five, Shape.rowMajor_val_three]
  simp only [ix5_0, ix5_1, ix5_2, ix5_3, ix5_4, ix3_0, ix3_1, ix3_2, ht, hn]
  show (((b.val * A + a.val) * P + q.val) * H + h.val) * D + d.val = (b.val * (A * P) + (a.val * P + q.val)) * (H * D) + (h.val * D + d.val)
  ring

/-- Merging the second with the third of four axes, read at a merged index. -/
theorem merge_mid {α : Type} {B A P D T : ℕ} (x : (⟨4, ![B, A, P, D]⟩ : Shape).Idx → α)
    (hc : (⟨4, ![B, A, P, D]⟩ : Shape).ShapeCasts ⟨3, ![B, T, D]⟩) (hT : T = A * P)
    (b : Fin B) (a : Fin A) (q : Fin P) (d : Fin D) (t : Fin T) (ht : t.val = a.val * P + q.val) :
    shapeCast ⟨3, ![B, T, D]⟩ x hc (ix3 b t d) = x (ix4 b a q d) := by
  subst hT
  refine congrArg x (Shape.reshapeEquiv_eq_of_rowMajor _ ?_)
  rw [Shape.rowMajor_val_four, Shape.rowMajor_val_three]
  simp only [ix4_0, ix4_1, ix4_2, ix4_3, ix3_0, ix3_1, ix3_2, ht]
  show ((b.val * A + a.val) * P + q.val) * D + d.val = (b.val * (A * P) + (a.val * P + q.val)) * D + d.val
  ring

/-- A sum over a product of extents, one extent after the other. -/
theorem sum_prod {H D N : ℕ} (hN : N = H * D) (f : Fin N → EReal) :
    ∑ n, f n = ∑ h : Fin H, ∑ d : Fin D, f ⟨h.val * D + d.val, by
      subst hN
      calc h.val * D + d.val < h.val * D + D := by omega
        _ = (h.val + 1) * D := by ring
        _ ≤ H * D := Nat.mul_le_mul_right _ h.isLt⟩ := by
  subst hN
  rw [← Fintype.sum_prod_type']
  refine (Fintype.sum_equiv finProdFinEquiv _ _ fun p => congrArg f (Fin.ext ?_)).symm
  show p.1.val * D + p.2.val = p.2.val + D * p.1.val
  ring

end Cert.Layout

end
-- ==== Proof.AttnEntry.lean ====
module

public import proofs.«01_k».proof.Proof.Gen.KernelIdeal.Value
public import Idealize.ShloMosaic.Lib.Pipeline.ValueKit
public import Idealize.ShloMosaic.Lib.Pointwise
public import Idealize.ShloMosaic.Lib.Claim
public import proofs.«01_k».proof.Proof.Layout

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-- Latent tokens, then context tokens. -/
def joined (x : FVec Ideal S4x8x8192x96 .f32) (y : FVec Ideal S4x8x256x96 .f32) : FVec Ideal S4x8x8448x96 .f32 :=
  concatenate S4x8x8448x96 2 [⟨S4x8x8192x96, x⟩, ⟨S4x8x256x96, y⟩] concatenates_S4x8x8192x96_S4x8x256x96_S4x8x8448x96_d2

/-- One slot of lanes per head: the head's entries, one filler, zeros. -/
def slots4 (one : FVec Ideal S4x8448x8x1 .f32) (z : FVec Ideal S4x8x8448x96 .f32) : FVec Ideal S4x8448x8x128 .f32 :=
  concatenate S4x8448x8x128 3
    [⟨S4x8448x8x96, transpose S4x8448x8x96 [0, 2, 1, 3] z transposes_S4x8x8448x96_S4x8448x8x96_0_2_1_3⟩, ⟨S4x8448x8x1, one⟩,
     ⟨S4x8448x8x31, broadcastInDim S4x8448x8x31 ![] bcast_S_S4x8448x8x31 (constant S_ .f32 0x00000000#32)⟩]
    concatenates_S4x8448x8x96_S4x8448x8x1_S4x8448x8x31_S4x8448x8x128_d3

/-- The slots side by side. -/
def slots (one : FVec Ideal S4x8448x8x1 .f32) (z : FVec Ideal S4x8x8448x96 .f32) : FVec Ideal S4x8448x1024 .bf16 :=
  truncf .bf16 (shapeCast S4x8448x1024 (slots4 one z) shapeCasts_S4x8448x8x128_S4x8448x1024) bitsLt_bf16_f32

theorem joined_at (x : FVec Ideal S4x8x8192x96 .f32) (y : FVec Ideal S4x8x256x96 .f32) (b : Fin 4) (h : Fin 8) (k : Fin 8448) (d : Fin 96) :
    joined x y (ix4 b h k d) = if hk : k.val < 8192 then (x (ix4 b h ⟨k.val, hk⟩ d) : EReal) else y (ix4 b h ⟨k.val - 8192, by omega⟩ d) := by
  pointwise [joined]

theorem slots4_at (one : FVec Ideal S4x8448x8x1 .f32) (z : FVec Ideal S4x8x8448x96 .f32) (b : Fin 4) (k : Fin 8448) (h : Fin 8) (d : Fin 128) :
    slots4 one z (ix4 b k h d) = if hd : d.val < 96 then (z (ix4 b h k ⟨d.val, hd⟩) : EReal)
      else if d.val - 96 < 1 then one (ix4 b k h 0) else 0 := by
  pointwise [slots4]
  by_cases h1 : d.val < 96
  · rw [dif_pos h1, dif_pos h1]
  · rw [dif_neg h1, dif_neg h1]
    by_cases h2 : d.val - 96 < 1
    · rw [dif_pos h2, if_pos h2]
      exact congrArg (fun e => one (ix4 b k h e)) (Subsingleton.elim _ _)
    · rw [dif_neg h2, if_neg h2]

/-- The merged array read at a merged lane. -/
theorem merged_at (Y : FVec Ideal S4x8448x8x128 .f32) (b : Fin 4) (t : Fin 8448) (h : Fin 8) (d : Fin 128)
    (n : Fin 1024) (hn : n.val = h.val * 128 + d.val) (hc : S4x8448x8x128.ShapeCasts S4x8448x1024) :
    shapeCast S4x8448x1024 Y hc (ix3 b t n) = Y (ix4 b t h d) :=
  Cert.Layout.merge_last (B := 4) (T := 8448) (N := 1024) (H := 8) (D := 128) Y hc (by norm_num) b t h d n hn

/-- Narrowing keeps every entry. -/
theorem narrowed_at (Y : FVec Ideal S4x8448x1024 .f32) (i : S4x8448x1024.Idx) : truncf .bf16 Y bitsLt_bf16_f32 i = Y i := rfl

theorem slots_at (one : FVec Ideal S4x8448x8x1 .f32) (z : FVec Ideal S4x8x8448x96 .f32) (b : Fin 4) (k : Fin 8448) (h : Fin 8) (d : Fin 128)
    (n : Fin 1024) (hn : n.val = h.val * 128 + d.val) :
    slots one z (ix3 b k n) = slots4 one z (ix4 b k h d) := by
  unfold slots
  exact (narrowed_at _ _).trans (merged_at (slots4 one z) b k h d n hn _)

variable (m : (ℓ : Loc nD τ sig) → Buf (Elt Ideal) ℓ)

/-- The factor the queries are scaled by. -/
def qscale : FVec Ideal S4x8x8192x96 .f32 :=
  broadcastInDim S4x8x8192x96 ![] bcast_S_S4x8x8192x96 (Host.divf (constant S_ .f32 0x3F800000#32)
    (mulf (Host.sqrt (constant S_ .f32 0x42C00000#32)) (Host.log (constant S_ .f32 0x40000000#32))))

theorem V13 (c : Dev nD) : V m c main_v13 = slots (broadcastInDim S4x8448x8x1 ![] bcast_S_S4x8448x8x1 (constant S_ .f32 0x00000000#32))
    (joined (mulf (m ((c : Thread nD τ).loc main_arg0)) qscale)
      (broadcastInDim S4x8x256x96 ![] bcast_S_S4x8x256x96 (constant S_ .f32 0x00000000#32))) := by
  unfold V; after_results; rfl

theorem V20 (c : Dev nD) : V m c main_v20 = slots (broadcastInDim S4x8448x8x1 ![] bcast_S_S4x8448x8x1 (constant S_ .f32 0x00000000#32))
    (joined (m ((c : Thread nD τ).loc main_arg1)) (m ((c : Thread nD τ).loc main_arg3))) := by
  unfold V; after_results; rfl

theorem V27 (c : Dev nD) : V m c main_v27 = slots (broadcastInDim S4x8448x8x1 ![] bcast_S_S4x8448x8x1 (constant S_ .f32 0x3F800000#32))
    (joined (m ((c : Thread nD τ).loc main_arg2)) (m ((c : Thread nD τ).loc main_arg4))) := by
  unfold V; after_results; rfl

end Cert.KernelIdeal.Attn

end
-- ==== Proof.AttnRef.lean ====
module

public import proofs.«01_k».proof.Proof.Gen.ReferenceIdeal.Run
public import Idealize.ShloMosaic.Lib.Pipeline.ValueKit
public import Idealize.ShloMosaic.Lib.Pointwise
public import Idealize.ShloMosaic.Lib.Claim
public import proofs.«01_k».proof.Proof.Layout

@[expose] public section

set_option maxRecDepth 16384

noncomputable section

open Idealize.ShloMosaic Idealize.ShloMosaic.TcCoe Idealize.SL.Sem
open Idealize.ShloMosaic.Pipeline (Dat)

namespace Cert.ReferenceIdeal.Attn

open Cert.ReferenceIdeal Cert.ReferenceIdeal.Gen

/-- The initial value of the row maximum is minus infinity. -/
theorem ofBits_neg_inf : Ideal.ofBits .f32 0xFF800000#32 = (⊥ : EReal) := by
  simp [Ideal.ofBits, Ideal.ieee]

/-- The scaled scores of every query against every latent and context key. -/
def scores (q k : FVec Ideal S4x8x8192x96 .f32) (kc : FVec Ideal S4x8x256x96 .f32) : FVec Ideal S4x8x8192x8448 .f32 :=
  mulf (concatenate S4x8x8192x8448 3 [⟨S4x8x8192x8192, (Host.dotGeneral dot_S4x8x8192x96_S4x8x8192x96_S4x8x8192x8192_3_3_2_2_01_01 none q k)⟩,
      ⟨S4x8x8192x256, (Host.dotGeneral dot_S4x8x8192x96_S4x8x256x96_S4x8x8192x256_3_3_2_2_01_01 none q kc)⟩] concatenates_S4x8x8192x8192_S4x8x8192x256_S4x8x8192x8448_d3)
    (broadcastInDim S4x8x8192x8448 ![] bcast_S_S4x8x8192x8448 (Host.divf (constant S_ .f32 0x3F800000#32) (Host.sqrt (constant S_ .f32 0x42C00000#32))))

/-- The largest score of each row. -/
def rowMax (S : FVec Ideal S4x8x8192x8448 .f32) : FVec Ideal S4x8x8192 .f32 :=
  Host.reduce FloatOps.maximumf S (constant S_ .f32 0xFF800000#32) reducesTo_S4x8x8192x8448_S4x8x8192_d3 h_S_

/-- The exponentials of the scores less their row's largest. -/
def expo (S : FVec Ideal S4x8x8192x8448 .f32) (M : FVec Ideal S4x8x8192 .f32) : FVec Ideal S4x8x8192x8448 .f32 :=
  Host.exp (subf S (broadcastInDim S4x8x8192x8448 ![0, 1, 2, 3] bcast_S4x8x8192x1_S4x8x8192x8448_0_1_2_3 (broadcastInDim S4x8x8192x1 ![0, 1, 2] bcast_S4x8x8192_S4x8x8192x1_0_1_2 (maximumf (broadcastInDim S4x8x8192 ![] bcast_S_S4x8x8192 (constant S_ .f32 0xFF800000#32)) M))))

/-- The weights: the exponentials over their row's sum. -/
def weights (E : FVec Ideal S4x8x8192x8448 .f32) : FVec Ideal S4x8x8192x8448 .f32 :=
  Host.divf E (broadcastInDim S4x8x8192x8448 ![0, 1, 2, 3] bcast_S4x8x8192x1_S4x8x8192x8448_0_1_2_3 (broadcastInDim S4x8x8192x1 ![0, 1, 2] bcast_S4x8x8192_S4x8x8192x1_0_1_2 (Host.reduceAdd E (constant S_ .f32 0x00000000#32) reducesTo_S4x8x8192x8448_S4x8x8192_d3 h_S_)))

/-- The latent part of the weighted sums plus the context part. -/
def mixed (P : FVec Ideal S4x8x8192x8448 .f32) (v : FVec Ideal S4x8x8192x96 .f32) (vc : FVec Ideal S4x8x256x96 .f32) : FVec Ideal S4x8x8192x96 .f32 :=
  addf (Host.dotGeneral dot_S4x8x8192x8192_S4x8x8192x96_S4x8x8192x96_3_2_2_3_01_01 none (extractStridedSlice S4x8x8192x8192 ![0, 0, 0, 0] P slices_S4x8x8192x8448_S4x8x8192x8192_0_0_0_0) v) (Host.dotGeneral dot_S4x8x8192x256_S4x8x256x96_S4x8x8192x96_3_2_2_3_01_01 none (extractStridedSlice S4x8x8192x256 ![0, 0, 0, 8192] P slices_S4x8x8192x8448_S4x8x8192x256_0_0_0_8192) vc)

/-- The heads in their slots. -/
def slotted4 (o : FVec Ideal S4x8x8192x96 .f32) : FVec Ideal S4x8192x8x128 .f32 :=
  concatenate S4x8192x8x128 3 [⟨S4x8192x8x96, (transpose S4x8192x8x96 [0, 2, 1, 3] o transposes_S4x8x8192x96_S4x8192x8x96_0_2_1_3)⟩,
      ⟨S4x8192x8x1, (broadcastInDim S4x8192x8x1 ![] bcast_S_S4x8192x8x1 (constant S_ .f32 0x3F800000#32))⟩,
      ⟨S4x8192x8x31, (broadcastInDim S4x8192x8x31 ![] bcast_S_S4x8192x8x31 (constant S_ .f32 0x00000000#32))⟩] concatenates_S4x8192x8x96_S4x8192x8x1_S4x8192x8x31_S4x8192x8x128_d3

/-- The slots side by side. -/
def slotted (o : FVec Ideal S4x8x8192x96 .f32) : FVec Ideal S4x8192x1024 .bf16 :=
  truncf .bf16 (shapeCast S4x8192x1024 (slotted4 o) shapeCasts_S4x8192x8x128_S4x8192x1024) bitsLt_bf16_f32

variable (m : (ℓ : Loc nD τ sig) → Buf (Elt Ideal) ℓ)

/-- The reference's result, in these steps. -/
theorem res_eq (c : Dev nD) :
    Value.res_main_v28 m c = slotted (mixed (weights (expo (scores (m ((c.tc : Thread nD τ).loc main_arg0)) (m ((c.tc : Thread nD τ).loc main_arg1)) (m ((c.tc : Thread nD τ).loc main_arg3)))
        (rowMax (scores (m ((c.tc : Thread nD τ).loc main_arg0)) (m ((c.tc : Thread nD τ).loc main_arg1)) (m ((c.tc : Thread nD τ).loc main_arg3))))))
      (m ((c.tc : Thread nD τ).loc main_arg2)) (m ((c.tc : Thread nD τ).loc main_arg4))) := rfl

theorem scores_at (q k : FVec Ideal S4x8x8192x96 .f32) (kc : FVec Ideal S4x8x256x96 .f32) (b : Fin 4) (h : Fin 8) (i : Fin 8192) (j : Fin 8448) :
    scores q k kc (ix4 b h i j) = (if hj : j.val < 8192 then ∑ x : Fin 96, (q (ix4 b h i x) : EReal) * k (ix4 b h ⟨j.val, hj⟩ x)
        else ∑ x : Fin 96, (q (ix4 b h i x) : EReal) * kc (ix4 b h ⟨j.val - 8192, by omega⟩ x))
      * Ideal.div 1 (Ideal.sqrt (Ideal.ofBits .f32 0x42C00000#32)) := by
  pointwise [scores]
theorem rowMax_at (S : FVec Ideal S4x8x8192x8448 .f32) (b : Fin 4) (h : Fin 8) (i : Fin 8192) :
    rowMax S (ix3 b h i) = Finset.univ.fold max (⊥ : EReal) (fun j : Fin 8448 => (S (ix4 b h i j) : EReal)) := by
  have e := Cert.Layout.reduce_max_last S (constant (F := Ideal) S_ .f32 0xFF800000#32) reducesTo_S4x8x8192x8448_S4x8x8192_d3 h_S_ b h i
  refine e.trans ?_
  rw [show (constant (F := Ideal) S_ .f32 0xFF800000#32 (Shape.Idx.first h_S_) : EReal) = ⊥ from ofBits_neg_inf]

theorem expo_at (S : FVec Ideal S4x8x8192x8448 .f32) (M : FVec Ideal S4x8x8192 .f32) (b : Fin 4) (h : Fin 8) (i : Fin 8192) (j : Fin 8448) :
    expo S M (ix4 b h i j) = Ideal.exp (S (ix4 b h i j) - M (ix3 b h i)) := by
  pointwise [expo, ofBits_neg_inf]
  simp

theorem weights_at (S : FVec Ideal S4x8x8192x8448 .f32) (b : Fin 4) (h : Fin 8) (i : Fin 8192) (j : Fin 8448) :
    weights S (ix4 b h i j) = Ideal.div (S (ix4 b h i j)) (∑ x : Fin 8448, (S (ix4 b h i x) : EReal)) := by
  pointwise [weights]
theorem mixed_at (P : FVec Ideal S4x8x8192x8448 .f32) (v : FVec Ideal S4x8x8192x96 .f32) (vc : FVec Ideal S4x8x256x96 .f32) (b : Fin 4) (h : Fin 8) (i : Fin 8192) (d : Fin 96) :
    mixed P v vc (ix4 b h i d) = ∑ x : Fin 8192, (P (ix4 b h i ⟨x.val, by omega⟩) : EReal) * v (ix4 b h x d)
      + ∑ x : Fin 256, (P (ix4 b h i ⟨8192 + x.val, by omega⟩) : EReal) * vc (ix4 b h x d) := by
  pointwise [mixed]
theorem slotted4_at (o : FVec Ideal S4x8x8192x96 .f32) (b : Fin 4) (i : Fin 8192) (h : Fin 8) (d : Fin 128) :
    slotted4 o (ix4 b i h d) = if hd : d.val < 96 then (o (ix4 b h i ⟨d.val, hd⟩) : EReal) else if d.val - 96 < 1 then 1 else 0 := by
  pointwise [slotted4]
  by_cases h1 : d.val < 96
  · rw [dif_pos h1, dif_pos h1]
  · rw [dif_neg h1, dif_neg h1]
    rfl

/-- The merged array read at a merged lane. -/
theorem merged_at (Y : FVec Ideal S4x8192x8x128 .f32) (b : Fin 4) (t : Fin 8192) (h : Fin 8) (d : Fin 128)
    (n : Fin 1024) (hn : n.val = h.val * 128 + d.val) (hc : S4x8192x8x128.ShapeCasts S4x8192x1024) :
    shapeCast S4x8192x1024 Y hc (ix3 b t n) = Y (ix4 b t h d) :=
  Cert.Layout.merge_last (B := 4) (T := 8192) (N := 1024) (H := 8) (D := 128) Y hc (by norm_num) b t h d n hn

/-- Narrowing keeps every entry. -/
theorem narrowed_at (Y : FVec Ideal S4x8192x1024 .f32) (i : S4x8192x1024.Idx) : truncf .bf16 Y bitsLt_bf16_f32 i = Y i := rfl

theorem slotted_at (o : FVec Ideal S4x8x8192x96 .f32) (b : Fin 4) (i : Fin 8192) (h : Fin 8) (d : Fin 128) (n : Fin 1024) (hn : n.val = h.val * 128 + d.val) :
    slotted o (ix3 b i n) = slotted4 o (ix4 b i h d) := by
  unfold slotted
  exact (narrowed_at _ _).trans (merged_at (slotted4 o) b i h d n hn _)

end Cert.ReferenceIdeal.Attn

end
-- ==== Proof.AttnPure.lean ====
module

public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-- One entry of an attention row in base two: scores `s`, the value column `v`, the column `w` whose weighted sum divides. -/
def rowOut {n : ℕ} (s v w : Fin n → EReal) : EReal :=
  Ideal.div (∑ k, FloatOps.exp2 (F := Ideal) (φ := .f32) (s k - Finset.univ.fold max ⊥ s) * v k)
    (∑ k, FloatOps.exp2 (F := Ideal) (φ := .f32) (s k - Finset.univ.fold max ⊥ s) * w k)

/-- The initial value of the row maximum is minus infinity. -/
theorem ofBits_neg_inf : Ideal.ofBits .f32 0xFF800000#32 = (⊥ : EReal) := by
  simp [Ideal.ofBits, Ideal.ieee]

/-- The array the attention call returns, entry by entry, from the slotted queries, keys and values. -/
def attnArr (Q K W : FVec Ideal S4x8448x1024 .bf16) : FVec Ideal S4x8192x1024 .bf16 := fun j =>
  rowOut (fun k : Fin 8448 => ∑ d : Fin 128,
      (Q (ix3 (j 0) ⟨(j 1 : ℕ), by have : (j 1 : ℕ) < 8192 := (j 1).isLt; omega⟩
          ⟨(j 2 : ℕ) / 128 * 128 + d, by have : (j 2 : ℕ) < 1024 := (j 2).isLt; omega⟩) : EReal)
        * K (ix3 (j 0) k ⟨(j 2 : ℕ) / 128 * 128 + d, by have : (j 2 : ℕ) < 1024 := (j 2).isLt; omega⟩))
    (fun k => W (ix3 (j 0) k (j 2)))
    (fun k => W (ix3 (j 0) k ⟨(j 2 : ℕ) / 128 * 128 + 96, by have : (j 2 : ℕ) < 1024 := (j 2).isLt; omega⟩))

variable (m : (ℓ : Loc nD τ sig) → Buf (Elt Ideal) ℓ)

/-- Where each window's block sits, at every grid point. -/
theorem idx : ∀ t : Fin cfg0.N, win0_0.index t = ![t.val / 64, t.val % 8, t.val / 8 % 8]
    ∧ win0_1.index t = ![t.val / 64, 0, t.val / 8 % 8] ∧ win0_2.index t = ![t.val / 64, 0, t.val / 8 % 8]
    ∧ win0_3.index t = ![t.val / 64, t.val % 8, t.val / 8 % 8] :=
  (by decide +kernel : ∀ t : Fin grid0.N, _)

/-- There are fewer than 256 points. -/
theorem pt_lt (t : Fin cfg0.N) : t.val < 256 := lt_of_lt_of_eq t.isLt N_0

/-- An entry of the query block, read in the array at the block's place. -/
theorem iblk0_at (c : Dev nD) (t : Fin cfg0.N) (y : ((cfg0.win 0).xblock (cfg0.grid.coords t)).Idx) (i : S4x8448x1024.Idx)
    (h : ∀ a, (i a : ℕ) = win0_0.index t a * win0_0.size a + (y a : ℕ)) :
    iblk m c 0 t y = V m c main_v13 i := by
  have e : (win0_0.rect t).emb y = i := funext fun a => Fin.ext ((win0_0.rect_emb_val t y a).trans (h a).symm)
  unfold iblk
  rw [View.read_apply]
  generalize V m c = W
  exact (cast_eq _ _).trans (congrArg (W main_v13) e)

/-- An entry of the key block, read in the array at the block's place. -/
theorem iblk1_at (c : Dev nD) (t : Fin cfg0.N) (y : ((cfg0.win 1).xblock (cfg0.grid.coords t)).Idx) (i : S4x8448x1024.Idx)
    (h : ∀ a, (i a : ℕ) = win0_1.index t a * win0_1.size a + (y a : ℕ)) :
    iblk m c 1 t y = V m c main_v20 i := by
  have e : (win0_1.rect t).emb y = i := funext fun a => Fin.ext ((win0_1.rect_emb_val t y a).trans (h a).symm)
  unfold iblk
  rw [View.read_apply]
  generalize V m c = W
  exact (cast_eq _ _).trans (congrArg (W main_v20) e)

/-- An entry of the value block, read in the array at the block's place. -/
theorem iblk2_at (c : Dev nD) (t : Fin cfg0.N) (y : ((cfg0.win 2).xblock (cfg0.grid.coords t)).Idx) (i : S4x8448x1024.Idx)
    (h : ∀ a, (i a : ℕ) = win0_2.index t a * win0_2.size a + (y a : ℕ)) :
    iblk m c 2 t y = V m c main_v27 i := by
  have e : (win0_2.rect t).emb y = i := funext fun a => Fin.ext ((win0_2.rect_emb_val t y a).trans (h a).symm)
  unfold iblk
  rw [View.read_apply]
  generalize V m c = W
  exact (cast_eq _ _).trans (congrArg (W main_v27) e)

/-- Every index of the query block is filled by a fetch. -/
theorem X0_eq (c : Dev nD) (t : Fin cfg0.N) (y : S1x1024x128.Idx) (i : S4x8448x1024.Idx)
    (h : ∀ a, (i a : ℕ) = win0_0.index t a * win0_0.size a + (y a : ℕ)) :
    X0_0 m c t y = V m c main_v13 i := by
  unfold X0_0 Pipeline.Window.fill
  rw [dif_pos (moved0_0 t _)]
  exact iblk0_at m c t _ i h

/-- An entry of a block of the result: from the query block, the key block and the value block. -/
def blockRow (X : FVec Ideal S1x1024x128 .bf16) (K W : FVec Ideal S1x8448x128 .bf16) (r : Fin 1024) (l : Fin 128) : EReal :=
  rowOut (fun k : Fin 8448 => ∑ d : Fin 128, (X (ix3 0 r d) : EReal) * K (ix3 0 k d))
    (fun k => W (ix3 0 k l)) (fun k => W (ix3 0 k 96))

/-- Equal scores and equal columns give equal entries. -/
theorem rowOut_congr {n : ℕ} {s s' v v' w w' : Fin n → EReal} (hs : ∀ k, s k = s' k) (hv : ∀ k, v k = v' k)
    (hw : ∀ k, w k = w' k) : rowOut s v w = rowOut s' v' w' := by
  rw [funext hs, funext hv, funext hw]

/-- A block's entry is the array's, when the blocks hold the arrays' entries of that head. -/
theorem blockRow_eq (X : FVec Ideal S1x1024x128 .bf16) (K W : FVec Ideal S1x8448x128 .bf16)
    (Q' K' W' : FVec Ideal S4x8448x1024 .bf16) (r : Fin 1024) (l : Fin 128) (b h s : ℕ) (hb : b < 4) (hh : h < 8) (hs : s < 8)
    (hX : ∀ d : Fin 128, X (ix3 0 r d) = Q' (ix3 ⟨b, hb⟩ ⟨s * 1024 + r, by omega⟩ ⟨h * 128 + d, by omega⟩))
    (hK : ∀ (k : Fin 8448) (d : Fin 128), K (ix3 0 k d) = K' (ix3 ⟨b, hb⟩ k ⟨h * 128 + d, by omega⟩))
    (hW : ∀ (k : Fin 8448) (d : Fin 128), W (ix3 0 k d) = W' (ix3 ⟨b, hb⟩ k ⟨h * 128 + d, by omega⟩))
    (i : S4x8192x1024.Idx) (h0 : (i 0 : ℕ) = b) (h1 : (i 1 : ℕ) = s * 1024 + r) (h2 : (i 2 : ℕ) = h * 128 + l) :
    blockRow X K W r l = attnArr Q' K' W' i := by
  have hd : (i 2 : ℕ) / 128 = h := by omega
  unfold blockRow attnArr
  refine rowOut_congr (fun k => Finset.sum_congr rfl fun d _ => ?_) (fun k => ?_) fun k => ?_
  · rw [hX, hK]
    refine congrArg₂ (· * ·) (congrArg Q' ((ix3_inj ..).2 ⟨?_, ?_, ?_⟩)) (congrArg K' ((ix3_inj ..).2 ⟨?_, rfl, ?_⟩)) <;>
      (apply Fin.ext; first | exact h0.symm | exact h1.symm | (show h * 128 + d.val = (i 2 : ℕ) / 128 * 128 + d.val; rw [hd]))
  · rw [hW]
    refine congrArg W' ((ix3_inj ..).2 ⟨?_, rfl, ?_⟩) <;> (apply Fin.ext; first | exact h0.symm | exact h2.symm)
  · rw [hW]
    refine congrArg W' ((ix3_inj ..).2 ⟨?_, rfl, ?_⟩) <;>
      (apply Fin.ext; first | exact h0.symm | (show h * 128 + 96 = (i 2 : ℕ) / 128 * 128 + 96; rw [hd]))

/-- The whole array after the run. -/
theorem final (c : Dev nD) : (dats m 0 c).arrAt 3 (cfgs 0).N
    = attnArr (V m c main_v13) (V m c main_v20) (V m c main_v27) := by
  refine (dats m 0 c).arrAt_eq_of_covers 3 _ (by decide +kernel) fun t _ y => ?_
  blk_simp
  rw [after0_3]
  unfold Gen.outsAt0
  frame_out
  have y1 : (y 1 : ℕ) < 1024 := (y 1).isLt
  have y2 : (y 2 : ℕ) < 128 := (y 2).isLt
  refine Eq.trans (b := blockRow (X0_0 m c t) (iblk m c 1 t) (iblk m c 2 t) ⟨y 1, y1⟩ ⟨y 2, y2⟩) ?_ ?_
  · generalize X0_0 m c t = X
    generalize iblk m c 1 t = K
    generalize iblk m c 2 t = W
    canon_tiles x h
    all_goals
      open_payloads
      idx_vars x
      pointwise [blockRow, rowOut, ofBits_neg_inf, h1, h2]
  · have e (a) : (((win0_3.rect t).emb y) a : ℕ) = win0_3.index t a * win0_3.size a + (y a : ℕ) := win0_3.rect_emb_val t y a
    have y0 : (y 0 : ℕ) < 1 := (y 0).isLt
    have ht := pt_lt t
    obtain ⟨i0, i1, i2, i3⟩ := idx t
    rw [i3] at e
    refine blockRow_eq _ _ _ _ _ _ _ _ (t.val / 64) (t.val / 8 % 8) (t.val % 8) (by omega) (by omega) (by omega)
      (fun d => X0_eq m c t _ _ fun a => ?_) (fun k d => iblk1_at m c t _ _ fun a => ?_)
      (fun k d => iblk2_at m c t _ _ fun a => ?_) _ ?_ ?_ ?_
    · rw [i0]
      match a with
      | ⟨0, _⟩ => show t.val / 64 = t.val / 64 * 1 + 0; omega
      | ⟨1, _⟩ => show t.val % 8 * 1024 + (y 1 : ℕ) = t.val % 8 * 1024 + (y 1 : ℕ); rfl
      | ⟨2, _⟩ => show t.val / 8 % 8 * 128 + d.val = t.val / 8 % 8 * 128 + d.val; rfl
    · rw [i1]
      match a with
      | ⟨0, _⟩ => show t.val / 64 = t.val / 64 * 1 + 0; omega
      | ⟨1, _⟩ => show k.val = 0 * 8448 + k.val; omega
      | ⟨2, _⟩ => show t.val / 8 % 8 * 128 + d.val = t.val / 8 % 8 * 128 + d.val; rfl
    · rw [i2]
      match a with
      | ⟨0, _⟩ => show t.val / 64 = t.val / 64 * 1 + 0; omega
      | ⟨1, _⟩ => show k.val = 0 * 8448 + k.val; omega
      | ⟨2, _⟩ => show t.val / 8 % 8 * 128 + d.val = t.val / 8 % 8 * 128 + d.val; rfl
    · refine (e 0).trans ?_
      show t.val / 64 * 1 + (y 0 : ℕ) = t.val / 64
      omega
    · exact e 1
    · exact e 2

end Cert.KernelIdeal.Attn

end
-- ==== Proof.Softmax.lean ====
module

public import proofs.«01_k».proof.Proof.AttnPure
public import Mathlib.Data.EReal.Operations
public import Mathlib.Analysis.SpecialFunctions.Pow.Real

@[expose] public section

set_option maxRecDepth 16384

noncomputable section

open Idealize.ShloMosaic

namespace Cert.Softmax

open Cert.KernelIdeal.Attn (rowOut)

/-- The largest of finitely many reals, as a fold, is one of them. -/
theorem fold_max_real {n : ℕ} (hn : 0 < n) (t : Fin n → ℝ) :
    ∃ k0, (∀ k, t k ≤ t k0) ∧ Finset.univ.fold max (⊥ : EReal) (fun k => (t k : EReal)) = (t k0 : EReal) := by
  obtain ⟨k0, -, h⟩ := Finset.exists_max_image Finset.univ t ⟨⟨0, hn⟩, Finset.mem_univ _⟩
  refine ⟨k0, fun k => h k (Finset.mem_univ k), ?_⟩
  show Finset.univ.sup (fun k => (t k : EReal)) = _
  exact le_antisymm (Finset.sup_le fun k _ => EReal.coe_le_coe_iff.2 (h k (Finset.mem_univ k)))
    (Finset.le_sup (f := fun k => (t k : EReal)) (Finset.mem_univ k0))

/-- A nonnegative real factor goes inside a sum of extended reals. -/
theorem mul_sum_real {ι : Type} (s : Finset ι) (r : ℝ) (hr : 0 ≤ r) (f : ι → EReal) :
    (∑ k ∈ s, f k) * (r : EReal) = ∑ k ∈ s, f k * (r : EReal) := by
  classical
  induction s using Finset.induction_on with
  | empty => simp
  | insert a s ha ih =>
    rw [Finset.sum_insert ha, Finset.sum_insert ha,
      EReal.right_distrib_of_nonneg_of_ne_top (EReal.coe_nonneg.2 hr) (EReal.coe_ne_top r), ih]

/-- A sum of reals, as an extended real. -/
theorem sum_real {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- A sum split in two. -/
theorem sum_split {a b n : ℕ} (h : n = a + b) (f : Fin n → EReal) :
    ∑ k, f k = ∑ x : Fin a, f ⟨x.val, by omega⟩ + ∑ x : Fin b, f ⟨a + x.val, by omega⟩ := by
  subst h
  exact Fin.sum_univ_add f

/-- The powers of two of the scores in base two are the exponentials of the scores: the same positive reals. -/
theorem powers {n : ℕ} (hn : 0 < n) (x : Fin n → ℝ) (a c : ℝ) (hc : 0 < c) (ha : a = c * Real.log 2)
    (s t : Fin n → EReal) (hs : ∀ k, s k = ((x k * c : ℝ) : EReal)) (ht : ∀ k, t k = ((x k * a : ℝ) : EReal)) :
    ∃ e : Fin n → ℝ, (∀ k, 0 < e k)
      ∧ (∀ k, FloatOps.exp2 (F := Ideal) (φ := .f32) (s k - Finset.univ.fold max ⊥ s) = ((e k : ℝ) : EReal))
      ∧ ∀ k, Ideal.exp (t k - Finset.univ.fold max ⊥ t) = ((e k : ℝ) : EReal) := by
  have l2 : 0 < Real.log 2 := Real.log_pos (by norm_num)
  have ha0 : 0 < a := by rw [ha]; positivity
  obtain rfl : s = fun k => ((x k * c : ℝ) : EReal) := funext hs
  obtain rfl : t = fun k => ((x k * a : ℝ) : EReal) := funext ht
  obtain ⟨k0, h0, f0⟩ := fold_max_real hn fun k => x k * c
  obtain ⟨k1, h1, f1⟩ := fold_max_real hn fun k => x k * a
  have e01 : x k0 = x k1 := le_antisymm (le_of_mul_le_mul_right (h1 k0) ha0) (le_of_mul_le_mul_right (h0 k1) hc)
  refine ⟨fun k => Real.exp (x k * a - x k1 * a), fun k => Real.exp_pos _, fun k => ?_, fun k => ?_⟩
  · rw [f0]
    show Ideal.exp2 _ = _
    rw [← EReal.coe_sub, Ideal.exp2_coe]
    congr 1
    show (2 : ℝ) ^ (x k * c - x k0 * c) = _
    rw [Real.rpow_def_of_pos (by norm_num), e01, ha]
    congr 1
    ring
  · rw [f1, ← EReal.coe_sub, Ideal.exp_coe]

variable {n : ℕ} (hn : 0 < n) (x : Fin n → ℝ) (a c : ℝ) (hc : 0 < c) (ha : a = c * Real.log 2)
    (s t : Fin n → EReal) (hs : ∀ k, s k = ((x k * c : ℝ) : EReal)) (ht : ∀ k, t k = ((x k * a : ℝ) : EReal))

include hn hc ha hs ht in
/-- One entry of the attention: the base-two row divided at the end is the softmax row divided first. -/
theorem row_eq (v : Fin n → EReal) :
    rowOut s v (fun _ => 1) = ∑ k, Ideal.div (Ideal.exp (t k - Finset.univ.fold max ⊥ t))
      (∑ j, Ideal.exp (t j - Finset.univ.fold max ⊥ t)) * v k := by
  obtain ⟨e, pos, e2, e1⟩ := powers hn x a c hc ha s t hs ht
  have C : 0 < ∑ k, e k := Finset.sum_pos (fun k _ => pos k) ⟨⟨0, hn⟩, Finset.mem_univ _⟩
  have C0 : ((∑ k, e k : ℝ) : EReal) ≠ 0 := by exact_mod_cast C.ne'
  unfold rowOut
  simp only [e2, e1, mul_one, sum_real, Ideal.div, if_neg C0]
  rw [← EReal.coe_inv, mul_sum_real _ _ (inv_nonneg.2 C.le)]
  exact Finset.sum_congr rfl fun k _ => by rw [mul_right_comm]

include hn hc ha hs ht in
/-- The column of ones: the sum over itself. -/
theorem row_one : rowOut s (fun _ => 1) (fun _ => 1) = 1 := by
  obtain ⟨e, pos, e2, e1⟩ := powers hn x a c hc ha s t hs ht
  have C : 0 < ∑ k, e k := Finset.sum_pos (fun k _ => pos k) ⟨⟨0, hn⟩, Finset.mem_univ _⟩
  have C0 : ((∑ k, e k : ℝ) : EReal) ≠ 0 := by exact_mod_cast C.ne'
  unfold rowOut
  simp only [e2, mul_one, sum_real, Ideal.div, if_neg C0]
  rw [← EReal.coe_inv, ← EReal.coe_mul, mul_inv_cancel₀ C.ne', EReal.coe_one]

include hn hc ha hs ht in
/-- A column of zeros gives zero. -/
theorem row_zero : rowOut s (fun _ => 0) (fun _ => 1) = 0 := by
  obtain ⟨e, pos, e2, e1⟩ := powers hn x a c hc ha s t hs ht
  have C : 0 < ∑ k, e k := Finset.sum_pos (fun k _ => pos k) ⟨⟨0, hn⟩, Finset.mem_univ _⟩
  have C0 : ((∑ k, e k : ℝ) : EReal) ≠ 0 := by exact_mod_cast C.ne'
  unfold rowOut
  simp only [e2, mul_one, mul_zero, Finset.sum_const_zero, sum_real, Ideal.div, if_neg C0, zero_mul]

end Cert.Softmax

end
-- ==== Proof.Attn.lean ====
module

public import proofs.«01_k».proof.Proof.AttnEntry
public import proofs.«01_k».proof.Proof.AttnRef
public import proofs.«01_k».proof.Proof.Softmax
public import proofs.«01_k».proof.Pre_finite
public import Idealize.ShloMosaic.Lib.ReduceAll

@[expose] public section

set_option maxRecDepth 16384

noncomputable section

open Idealize.ShloMosaic Idealize.ShloMosaic.TcCoe Idealize.SL.Sem

namespace Cert.Attn

open Cert.KernelIdeal (S4x8x8192x96 S4x8x256x96 S4x8448x8x1 S4x8x8448x96 S_ )
open Cert.KernelIdeal.Gen (bcast_S_S4x8448x8x1 bcast_S_S4x8x256x96)
open Cert.KernelIdeal.Attn (slots joined slots_at slots4_at joined_at qscale attnArr rowOut)
open Cert.ReferenceIdeal.Attn (scores rowMax expo weights mixed slotted slotted4 scores_at rowMax_at expo_at weights_at mixed_at slotted_at slotted4_at)

/-- An entry below infinity in absolute value is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  induction x with
  | bot => simp [Ideal.cmp] at h
  | top => simp [Ideal.cmp] at h
  | coe r => exact ⟨r, rfl⟩

theorem andi_one (a b : BitVec 1) : IntOp.andi a b = 1#1 ↔ a = 1#1 ∧ b = 1#1 := by revert a b; decide

instance : Subsingleton (Cert.Pre_finite.S_).Idx := ⟨fun a b => funext fun i => i.elim0⟩

/-- The precondition says that the queries, the keys and the context keys are real numbers. -/
theorem reals_of_finite [Cert.Pre_finite.Facts] (a0 a1 a2 : FVec Ideal S4x8x8192x96 .f32) (a3 a4 : FVec Ideal S4x8x256x96 .f32)
    (h : Cert.Pre_finite.fn (F := Ideal) a0 a1 a2 a3 a4 = fun _ => 1#1) :
    (∀ i, ∃ r : ℝ, a0 i = (r : EReal)) ∧ (∀ i, ∃ r : ℝ, a1 i = (r : EReal)) ∧ ∀ i, ∃ r : ℝ, a3 i = (r : EReal) := by
  have pre := congrFun h (Shape.Idx.first Cert.Pre_finite.Facts.h_S_)
  simp only [Cert.Pre_finite.fn, andi, andi_one] at pre
  obtain ⟨⟨p0, p1⟩, p3⟩ := pre
  refine ⟨fun i => ?_, fun i => ?_, fun i => ?_⟩
  · exact real_of_abs_lt _ (Host.reduce_andi_all _ _ _ _ _ p0 i)
  · exact real_of_abs_lt _ (Host.reduce_andi_all _ _ _ _ _ p1 i)
  · exact real_of_abs_lt _ (Host.reduce_andi_all _ _ _ _ _ p3 i)

/-- 96 and 2 as their words. -/
theorem ofBits_96 : Ideal.ofBits .f32 0x42C00000#32 = ((96 : ℝ) : EReal) := by
  simp [Ideal.ofBits, Ideal.ieee]
  rw [← EReal.coe_mul]
  norm_num

theorem ofBits_2 : Ideal.ofBits .f32 0x40000000#32 = ((2 : ℝ) : EReal) := by
  simp [Ideal.ofBits, Ideal.ieee]
  rw [← EReal.coe_mul]
  norm_num

theorem ofBits_1 : Ideal.ofBits .f32 0x3F800000#32 = (1 : EReal) := by
  simp

/-- The reference's scale. -/
def scale : ℝ := 1 / Real.sqrt 96

/-- The kernel's scale, in base two. -/
def scale2 : ℝ := 1 / (Real.sqrt 96 * Real.log 2)

theorem scale2_pos : 0 < scale2 := by
  have l2 : 0 < Real.log 2 := Real.log_pos (by norm_num)
  unfold scale2; positivity

theorem scale_eq : scale = scale2 * Real.log 2 := by
  have l2 : 0 < Real.log 2 := Real.log_pos (by norm_num)
  have : 0 < Real.sqrt 96 := by positivity
  unfold scale scale2; field_simp

theorem div_sqrt : Ideal.div 1 (Ideal.sqrt (Ideal.ofBits .f32 0x42C00000#32)) = ((scale : ℝ) : EReal) := by
  have : Real.sqrt 96 ≠ 0 := by positivity
  rw [ofBits_96, Ideal.sqrt_coe, if_neg (by norm_num), Ideal.div_coe this, one_mul]; rfl

theorem qscale_at (i : S4x8x8192x96.Idx) : qscale i = ((scale2 : ℝ) : EReal) := by
  have l2 : 0 < Real.log 2 := Real.log_pos (by norm_num)
  show Ideal.div (Ideal.ofBits .f32 0x3F800000#32) (Ideal.sqrt (Ideal.ofBits .f32 0x42C00000#32) * Ideal.log (Ideal.ofBits .f32 0x40000000#32)) = _
  have : Real.sqrt 96 * Real.log 2 ≠ 0 := by positivity
  rw [ofBits_96, ofBits_2, ofBits_1, Ideal.sqrt_coe, Ideal.log_coe, if_neg (by norm_num), if_neg (by norm_num), ← EReal.coe_mul, Ideal.div_coe this, one_mul]; rfl

/-- Latent entries, then context entries. -/
def both (x : FVec Ideal S4x8x8192x96 .f32) (y : FVec Ideal S4x8x256x96 .f32) (b : Fin 4) (h : Fin 8) (k : Fin 8448) (d : Fin 96) : EReal :=
  if hk : k.val < 8192 then x (ix4 b h ⟨k.val, hk⟩ d) else y (ix4 b h ⟨k.val - 8192, by omega⟩ d)

/-- An entry of the slotted array: a head's lane, the filler, zero. -/
theorem slot_lane (one : FVec Ideal S4x8448x8x1 .f32) (x : FVec Ideal S4x8x8192x96 .f32) (y : FVec Ideal S4x8x256x96 .f32)
    (b : Fin 4) (k : Fin 8448) (h : Fin 8) (d : Fin 128) (n : Fin 1024) (hn : n.val = h.val * 128 + d.val) :
    slots one (joined x y) (ix3 b k n) = if hd : d.val < 96 then both x y b h k ⟨d.val, hd⟩ else if d.val - 96 < 1 then one (ix4 b k h 0) else (0 : EReal) := by
  rw [slots_at one _ b k h d n hn, slots4_at]
  simp only [joined_at]
  rfl

/-- A sum over 128 lanes of which only the first 96 hold something. -/
theorem lanes (f : Fin 128 → EReal) (g : Fin 96 → EReal) (h1 : ∀ d : Fin 96, f ⟨d.val, by omega⟩ = g d)
    (h2 : ∀ d : Fin 128, ¬ d.val < 96 → f d = 0) : ∑ d, f d = ∑ d, g d := by
  rw [Cert.Softmax.sum_split (a := 96) (b := 32) rfl]
  rw [Finset.sum_congr rfl fun d _ => h1 d, Finset.sum_congr rfl fun (d : Fin 32) _ => h2 ⟨96 + d.val, by omega⟩ (by simp)]
  simp

/-- Zeros and ones. -/
def zero8 : FVec Ideal S4x8448x8x1 .f32 := broadcastInDim S4x8448x8x1 ![] bcast_S_S4x8448x8x1 (constant S_ .f32 0x00000000#32)
def one8 : FVec Ideal S4x8448x8x1 .f32 := broadcastInDim S4x8448x8x1 ![] bcast_S_S4x8448x8x1 (constant S_ .f32 0x3F800000#32)
def zeroC : FVec Ideal S4x8x256x96 .f32 := broadcastInDim S4x8x256x96 ![] bcast_S_S4x8x256x96 (constant S_ .f32 0x00000000#32)

theorem zero8_at (i : S4x8448x8x1.Idx) : zero8 i = (0 : EReal) := by
  show Ideal.ofBits .f32 0x00000000#32 = 0
  simp [Ideal.ofBits, Ideal.ieee]

theorem one8_at (i : S4x8448x8x1.Idx) : one8 i = (1 : EReal) := ofBits_1

/-- The kernel's scores of one query: the scaled dot products, over the lanes that hold something. -/
theorem score_row (a0 a1 : FVec Ideal S4x8x8192x96 .f32) (a3 : FVec Ideal S4x8x256x96 .f32) (b : Fin 4) (h : Fin 8) (i : Fin 8192)
    (k : Fin 8448) (g : Fin 128 → Fin 1024) (hg : ∀ d, (g d).val = h.val * 128 + d.val) :
    ∑ d : Fin 128, (slots zero8 (joined (mulf a0 qscale) zeroC) (ix3 b ⟨i.val, by omega⟩ (g d)) : EReal) * slots zero8 (joined a1 a3) (ix3 b k (g d))
      = ∑ d : Fin 96, (a0 (ix4 b h i d) : EReal) * ((scale2 : ℝ) : EReal) * both a1 a3 b h k d := by
  refine lanes _ _ (fun d => ?_) (fun d hd => ?_)
  · rw [slot_lane zero8 _ _ b _ h ⟨d.val, by omega⟩ _ (hg _), slot_lane zero8 _ _ b _ h ⟨d.val, by omega⟩ _ (hg _)]
    rw [dif_pos d.isLt, dif_pos d.isLt]
    unfold both
    rw [dif_pos (show (⟨i.val, by omega⟩ : Fin 8448).val < 8192 from i.isLt)]
    show (a0 (ix4 b h i d) : EReal) * qscale _ * _ = _
    rw [qscale_at]
  · rw [slot_lane zero8 _ _ b _ h d _ (hg _), dif_neg hd, zero8_at]
    simp

/-- The reference's entry: the softmax of the scaled scores of one query, applied to a value column. -/
theorem mixed_row (S : FVec Ideal Cert.ReferenceIdeal.S4x8x8192x8448 .f32) (a2 : FVec Ideal S4x8x8192x96 .f32) (a4 : FVec Ideal S4x8x256x96 .f32)
    (b : Fin 4) (h : Fin 8) (i : Fin 8192) (d : Fin 96) (t : Fin 8448 → EReal) (ht : ∀ k, S (ix4 b h i k) = t k) :
    mixed (weights (expo S (rowMax S))) a2 a4 (ix4 b h i d)
      = ∑ k : Fin 8448, Ideal.div (Ideal.exp (t k - Finset.univ.fold max ⊥ t)) (∑ j, Ideal.exp (t j - Finset.univ.fold max ⊥ t)) * both a2 a4 b h k d := by
  rw [mixed_at, Cert.Softmax.sum_split (a := 8192) (b := 256) (n := 8448) rfl]
  have E : ∀ k, expo S (rowMax S) (ix4 b h i k) = Ideal.exp (t k - Finset.univ.fold max ⊥ t) := fun k => by
    rw [expo_at, rowMax_at, ht]
    simp only [ht]
  refine congrArg₂ (fun x y : EReal => x + y) (Finset.sum_congr rfl fun x _ => ?_) (Finset.sum_congr rfl fun x _ => ?_)
  · rw [weights_at, E]
    simp only [E]
    unfold both
    rw [dif_pos x.isLt]
  · rw [weights_at, E]
    simp only [E]
    unfold both
    rw [dif_neg (by simp)]
    simp

/-- One entry of the kernel's array. -/
theorem attnArr_at (Q K W : FVec Ideal Cert.KernelIdeal.S4x8448x1024 .bf16) (b : Fin 4) (i : Fin 8192) (n : Fin 1024) :
    attnArr Q K W (ix3 b i n) = rowOut (fun k : Fin 8448 => ∑ d : Fin 128,
        (Q (ix3 b ⟨i.val, by omega⟩ ⟨n.val / 128 * 128 + d.val, by omega⟩) : EReal) * K (ix3 b k ⟨n.val / 128 * 128 + d.val, by omega⟩))
      (fun k => W (ix3 b k n)) (fun k => W (ix3 b k ⟨n.val / 128 * 128 + 96, by omega⟩)) := rfl

/-- One entry of the two arrays, where queries, keys and context keys are real. -/
theorem attn_entry (a0 a1 a2 : FVec Ideal S4x8x8192x96 .f32) (a3 a4 : FVec Ideal S4x8x256x96 .f32)
    (r0 : ∀ i, ∃ r : ℝ, a0 i = (r : EReal)) (r1 : ∀ i, ∃ r : ℝ, a1 i = (r : EReal)) (r3 : ∀ i, ∃ r : ℝ, a3 i = (r : EReal))
    (b : Fin 4) (i : Fin 8192) (n : Fin 1024) :
    attnArr (slots zero8 (joined (mulf a0 qscale) zeroC)) (slots zero8 (joined a1 a3)) (slots one8 (joined a2 a4)) (ix3 b i n)
      = slotted (mixed (weights (expo (scores a0 a1 a3) (rowMax (scores a0 a1 a3)))) a2 a4) (ix3 b i n) := by
  choose q hq using r0
  choose u hu using r1
  choose w hw using r3
  obtain ⟨h, hh⟩ : ∃ h : Fin 8, h.val = n.val / 128 := ⟨⟨n.val / 128, by omega⟩, rfl⟩
  obtain ⟨d, hd⟩ : ∃ d : Fin 128, d.val = n.val % 128 := ⟨⟨n.val % 128, by omega⟩, rfl⟩
  have hn : n.val = h.val * 128 + d.val := by omega
  let kr : Fin 8448 → Fin 96 → ℝ := fun k e => if hk : k.val < 8192 then u (ix4 b h ⟨k.val, hk⟩ e) else w (ix4 b h ⟨k.val - 8192, by omega⟩ e)
  have hkr : ∀ k e, both a1 a3 b h k e = ((kr k e : ℝ) : EReal) := fun k e => by
    show both a1 a3 b h k e = (((if hk : k.val < 8192 then u (ix4 b h ⟨k.val, hk⟩ e) else w (ix4 b h ⟨k.val - 8192, by omega⟩ e)) : ℝ) : EReal)
    unfold both
    by_cases hk : k.val < 8192
    · rw [dif_pos hk, dif_pos hk, hu]
    · rw [dif_neg hk, dif_neg hk, hw]
  let x : Fin 8448 → ℝ := fun k => ∑ e, q (ix4 b h i e) * kr k e
  let s : Fin 8448 → EReal := fun k => ((x k * scale2 : ℝ) : EReal)
  let t : Fin 8448 → EReal := fun k => ((x k * scale : ℝ) : EReal)
  have ht : ∀ k, scores a0 a1 a3 (ix4 b h i k) = t k := fun k => by
    rw [scores_at, div_sqrt]
    show _ = ((x k * scale : ℝ) : EReal)
    rw [EReal.coe_mul, ← Cert.Softmax.sum_real]
    refine congrArg (fun y : EReal => y * ((scale : ℝ) : EReal)) ?_
    have hs : ∀ e, ((q (ix4 b h i e) * kr k e : ℝ) : EReal) = a0 (ix4 b h i e) * both a1 a3 b h k e := fun e => by
      rw [hkr, hq, EReal.coe_mul]
    rw [Finset.sum_congr rfl fun e _ => hs e]
    unfold both
    by_cases hk : k.val < 8192
    · simp only [dif_pos hk]
    · simp only [dif_neg hk]
  have hs : ∀ k (g : Fin 128 → Fin 1024) (hg : ∀ d, (g d).val = h.val * 128 + d.val),
      ∑ d : Fin 128, (slots zero8 (joined (mulf a0 qscale) zeroC) (ix3 b ⟨i.val, by omega⟩ (g d)) : EReal) * slots zero8 (joined a1 a3) (ix3 b k (g d)) = s k := fun k g hg => by
    rw [score_row a0 a1 a3 b h i k g hg]
    show _ = ((x k * scale2 : ℝ) : EReal)
    rw [Finset.sum_mul, ← Cert.Softmax.sum_real]
    refine Finset.sum_congr rfl fun e _ => ?_
    rw [hkr, hq, ← EReal.coe_mul, ← EReal.coe_mul]
    congr 1
    ring
  have L : attnArr (slots zero8 (joined (mulf a0 qscale) zeroC)) (slots zero8 (joined a1 a3)) (slots one8 (joined a2 a4)) (ix3 b i n)
      = rowOut s (fun k => slots one8 (joined a2 a4) (ix3 b k n)) (fun k => slots one8 (joined a2 a4) (ix3 b k ⟨n.val / 128 * 128 + 96, by omega⟩)) := by
    rw [attnArr_at]
    simp only [fun k => hs k (fun d => ⟨n.val / 128 * 128 + d.val, by omega⟩) (fun d => by simp [hh])]
  have W : (fun k => (slots one8 (joined a2 a4) (ix3 b k ⟨n.val / 128 * 128 + 96, by omega⟩) : EReal)) = fun _ => 1 := by
    funext k
    rw [slot_lane one8 a2 a4 b k h ⟨96, by omega⟩ _ (by simp [hh]), dif_neg (by simp), if_pos (by simp), one8_at]
  rw [L, W, slotted_at _ b i h d n hn, slotted4_at]
  have V : (fun k => (slots one8 (joined a2 a4) (ix3 b k n) : EReal)) = fun k => if hd : d.val < 96 then both a2 a4 b h k ⟨d.val, hd⟩ else if d.val - 96 < 1 then 1 else 0 := by
    funext k
    rw [slot_lane one8 a2 a4 b k h d n hn, one8_at]
  rw [V]
  by_cases c1 : d.val < 96
  · simp only [dif_pos c1]
    rw [mixed_row _ a2 a4 b h i ⟨d.val, c1⟩ t ht]
    exact Cert.Softmax.row_eq (by norm_num) x scale scale2 scale2_pos scale_eq s t (fun _ => rfl) (fun _ => rfl) _
  · simp only [dif_neg c1]
    by_cases c2 : d.val - 96 < 1
    · simp only [if_pos c2]
      exact Cert.Softmax.row_one (by norm_num) x scale scale2 scale2_pos scale_eq s t (fun _ => rfl) (fun _ => rfl)
    · simp only [if_neg c2]
      exact Cert.Softmax.row_zero (by norm_num) x scale scale2 scale2_pos scale_eq s t (fun _ => rfl) (fun _ => rfl)

/-- The two arrays are equal. -/
theorem attn_eq (a0 a1 a2 : FVec Ideal S4x8x8192x96 .f32) (a3 a4 : FVec Ideal S4x8x256x96 .f32)
    (r0 : ∀ i, ∃ r : ℝ, a0 i = (r : EReal)) (r1 : ∀ i, ∃ r : ℝ, a1 i = (r : EReal)) (r3 : ∀ i, ∃ r : ℝ, a3 i = (r : EReal)) :
    attnArr (slots zero8 (joined (mulf a0 qscale) zeroC)) (slots zero8 (joined a1 a3)) (slots one8 (joined a2 a4))
      = slotted (mixed (weights (expo (scores a0 a1 a3) (rowMax (scores a0 a1 a3)))) a2 a4) := by
  funext j
  idx_vars j
  exact attn_entry a0 a1 a2 a3 a4 r0 r1 r3 _ _ _

end Cert.Attn

end
-- ==== Proof.Rows.lean ====
module

public import Idealize.ShloMosaic.Lib.Pointwise
public import Idealize.ShloMosaic.Lib.Pipeline.ValueKit
public import proofs.«01_k».proof.Proof.Softmax

@[expose] public section

set_option maxRecDepth 16384

noncomputable section

open Idealize.ShloMosaic Idealize.ShloMosaic.TcCoe Idealize.SL.Sem

namespace Cert.Rows

/-- The mean of a row of 1024 entries. -/
def mean (v : Fin 1024 → EReal) : EReal := Ideal.div (∑ k, v k) (Ideal.ofBits .f32 0x44800000#32)

/-- A row less its mean, over its standard deviation. -/
def norm (v : Fin 1024 → EReal) : Fin 1024 → EReal := fun k =>
  (v k - mean v) * Ideal.rsqrt (mean (fun j => (v j - mean v) * (v j - mean v)) + Ideal.ofBits .f32 0x3727C5AC#32)

/-- The weighted residual plus the gated branch. -/
def resid (x g y : Fin 1024 → EReal) : Fin 1024 → EReal := fun k => Ideal.ofBits .f32 0x3FB504F3#32 * x k + g k * y k

/-- Scale, then shift. -/
def affine (v g b : Fin 1024 → EReal) : Fin 1024 → EReal := fun k => v k * g k + b k

/-- Scale by one more than `sc`, then shift. -/
def modulate (v sh sc : Fin 1024 → EReal) : Fin 1024 → EReal := fun k => v k * (1 + sc k) + sh k

/-- One hidden unit: the product, cut at zero. -/
def hidden {n : ℕ} (h : Fin 1024 → EReal) (w : Fin 1024 → Fin n → EReal) (j : Fin n) : EReal := max (∑ i, h i * w i j) 0

/-- The channel mixer of a row: squared hidden units times the second weights. -/
def mlp {n : ℕ} (h : Fin 1024 → EReal) (w : Fin 1024 → Fin n → EReal) (u : Fin n → Fin 1024 → EReal) : Fin 1024 → EReal :=
  fun k => ∑ j, hidden h w j * hidden h w j * u j k

/-- The channel mixer summed over four groups of 1024 hidden units. -/
def mlp4 (h : Fin 1024 → EReal) (w : Fin 1024 → Fin 4096 → EReal) (u : Fin 4096 → Fin 1024 → EReal) : Fin 1024 → EReal := fun k =>
  ((mlp h (fun i (j : Fin 1024) => w i ⟨j, by omega⟩) (fun (j : Fin 1024) => u ⟨j, by omega⟩) k
    + mlp h (fun i (j : Fin 1024) => w i ⟨1024 + j, by omega⟩) (fun (j : Fin 1024) => u ⟨1024 + j, by omega⟩) k)
    + mlp h (fun i (j : Fin 1024) => w i ⟨2048 + j, by omega⟩) (fun (j : Fin 1024) => u ⟨2048 + j, by omega⟩) k)
    + mlp h (fun i (j : Fin 1024) => w i ⟨3072 + j, by omega⟩) (fun (j : Fin 1024) => u ⟨3072 + j, by omega⟩) k

/-- The four groups make up the whole. -/
theorem mlp4_eq (h : Fin 1024 → EReal) (w : Fin 1024 → Fin 4096 → EReal) (u : Fin 4096 → Fin 1024 → EReal) :
    mlp4 h w u = mlp h w u := by
  funext k
  unfold mlp4 mlp
  rw [Cert.Softmax.sum_split (a := 3072) (b := 1024) (n := 4096) (by norm_num),
    Cert.Softmax.sum_split (a := 2048) (b := 1024) (n := 3072) (by norm_num),
    Cert.Softmax.sum_split (a := 1024) (b := 1024) (n := 2048) (by norm_num)]
  rfl

/-- The first half of the layer on a row: residual, norm. -/
def first (x y g lg lb : Fin 1024 → EReal) : Fin 1024 → EReal := affine (norm (resid x g y)) lg lb

/-- The second half, from the first's row and the channel mixer `f`. -/
def second (f : (Fin 1024 → EReal) → Fin 1024 → EReal) (x1 sh sc g lg lb : Fin 1024 → EReal) : Fin 1024 → EReal :=
  affine (norm (resid x1 g (f (modulate (norm x1) sh sc)))) lg lb

/-- An index of a block of one leading entry is a row and a lane. -/
theorem row_idx {B C : ℕ} (x : (⟨3, ![1, B, C]⟩ : Shape).Idx) : ∃ (r : Fin B) (k : Fin C), x = ix3 0 r k := by
  refine ⟨x 1, x 2, funext fun a => ?_⟩
  match a with
  | ⟨0, _⟩ => exact Subsingleton.elim (α := Fin 1) _ _
  | ⟨1, _⟩ => rfl
  | ⟨2, _⟩ => rfl

end Cert.Rows

end
-- ==== Proof.PostOddTile.lean ====
module

public import proofs.«01_k».proof.Proof.Gen.PostOddIdeal.Frame
public import Idealize.ShloMosaic.Lib.Pipeline.ValueKit
public import Idealize.ShloMosaic.Lib.Pointwise
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.PostOddIdeal.Post

open Cert.PostOddIdeal Cert.PostOddIdeal.Gen

/-- Rows less their means. -/
def cen (v : FVec Ideal S256x1024 .f32) : FVec Ideal S256x1024 .f32 :=
  subf v (broadcastTo S256x1024 (divf (shapeCast S256x1 (multiReduction .add [1] S256 v 0x00000000#32 reduces_S256x1024_S256 (.inl rfl) rfl) shapeCasts_S256_S256x1)
    (broadcast S256x1 (Scalar.ofBits .f32 0x44800000#32))) broadcasts_S256x1_S256x1024)

/-- Rows less their means, over their standard deviations. -/
def normV (v : FVec Ideal S256x1024 .f32) : FVec Ideal S256x1024 .f32 :=
  mulf (cen v) (broadcastTo S256x1024 (rsqrt (addf (divf (shapeCast S256x1 (multiReduction .add [1] S256 (mulf (cen v) (cen v)) 0x00000000#32 reduces_S256x1024_S256 (.inl rfl) rfl) shapeCasts_S256_S256x1)
    (broadcast S256x1 (Scalar.ofBits .f32 0x44800000#32))) (broadcast S256x1 (Scalar.ofBits .f32 0x3727C5AC#32)))) broadcasts_S256x1_S256x1024)

/-- The first norm's scale and shift. -/
def aff0 (g b : Vec Ideal S2x1024 .f32) (v : FVec Ideal S256x1024 .f32) : FVec Ideal S256x1024 .f32 :=
  addf (mulf v (broadcastTo S256x1024 (extractStridedSlice S1x1024 ![0, 0] g slices_S2x1024_o0_0_S1x1024) broadcasts_S1x1024_S256x1024))
    (broadcastTo S256x1024 (extractStridedSlice S1x1024 ![0, 0] b slices_S2x1024_o0_0_S1x1024) broadcasts_S1x1024_S256x1024)

/-- The second norm's scale and shift. -/
def aff1 (g b : Vec Ideal S2x1024 .f32) (v : FVec Ideal S256x1024 .f32) : FVec Ideal S256x1024 .f32 :=
  addf (mulf v (broadcastTo S256x1024 (extractStridedSlice S1x1024 ![1, 0] g slices_S2x1024_o1_0_S1x1024) broadcasts_S1x1024_S256x1024))
    (broadcastTo S256x1024 (extractStridedSlice S1x1024 ![1, 0] b slices_S2x1024_o1_0_S1x1024) broadcasts_S1x1024_S256x1024)

/-- The modulation vectors without their leading axes. -/
def mods (m : Vec Ideal S1x1x6x1024 .f32) : FVec Ideal S6x1024 .f32 := shapeCast S6x1024 m shapeCasts_S1x1x6x1024_S6x1024

/-- The mixer's residual. -/
def res1 (m : FVec Ideal S6x1024 .f32) (x y : FVec Ideal S256x1024 .f32) : FVec Ideal S256x1024 .f32 :=
  addf (mulf (broadcast S256x1024 (Scalar.ofBits .f32 0x3FB504F3#32)) x)
    (mulf (broadcastTo S256x1024 (extractStridedSlice S1x1024 ![2, 0] m slices_S6x1024_o2_0_S1x1024) broadcasts_S1x1024_S256x1024) y)

/-- The channel mixer's residual. -/
def res2 (m : FVec Ideal S6x1024 .f32) (x y : FVec Ideal S256x1024 .f32) : FVec Ideal S256x1024 .f32 :=
  addf (mulf (broadcast S256x1024 (Scalar.ofBits .f32 0x3FB504F3#32)) x)
    (mulf (broadcastTo S256x1024 (extractStridedSlice S1x1024 ![5, 0] m slices_S6x1024_o5_0_S1x1024) broadcasts_S1x1024_S256x1024) y)

/-- The modulated rows. -/
def modV (m : FVec Ideal S6x1024 .f32) (v : FVec Ideal S256x1024 .f32) : FVec Ideal S256x1024 .bf16 :=
  truncf .bf16 (addf (mulf v (broadcastTo S256x1024 (addf (broadcast S1x1024 (Scalar.ofBits .f32 0x3F800000#32)) (extractStridedSlice S1x1024 ![4, 0] m slices_S6x1024_o4_0_S1x1024)) broadcasts_S1x1024_S256x1024))
    (broadcastTo S256x1024 (extractStridedSlice S1x1024 ![3, 0] m slices_S6x1024_o3_0_S1x1024) broadcasts_S1x1024_S256x1024)) bitsLt_bf16_f32

/-- A group of hidden units, cut at zero. -/
def hid (h : FVec Ideal S256x1024 .bf16) (p : Vec Ideal S1024x1024 .bf16) : FVec Ideal S256x1024 .f32 :=
  maximumf (matmul dot_S256x1024_S1024x1024_S256x1024_1_0_0_1_n_n none h (shapeCast S1024x1024 p shapeCasts_S1024x1024_S1024x1024 : FVec Ideal S1024x1024 .bf16) (constant S256x1024 .f32 0x00000000#32))
    (broadcast S256x1024 (Scalar.ofBits .f32 0x00000000#32))

/-- A group's share of the channel mixer. -/
def chunk (h : FVec Ideal S256x1024 .bf16) (p q : Vec Ideal S1024x1024 .bf16) : FVec Ideal S256x1024 .f32 :=
  matmul dot_S256x1024_S1024x1024_S256x1024_1_0_0_1_n_n none (truncf .bf16 (mulf (hid h p) (hid h p)) bitsLt_bf16_f32)
    (shapeCast S1024x1024 q shapeCasts_S1024x1024_S1024x1024 : FVec Ideal S1024x1024 .bf16) (constant S256x1024 .f32 0x00000000#32)

/-- The four groups' sum. -/
def mlpV (h : FVec Ideal S256x1024 .bf16) (p0 q0 p1 q1 p2 q2 p3 q3 : Vec Ideal S1024x1024 .bf16) : FVec Ideal S256x1024 .f32 :=
  addf (addf (addf (chunk h p0 q0) (chunk h p1 q1)) (chunk h p2 q2)) (chunk h p3 q3)

/-- Two slabs of channels by tokens, as tokens by channels. -/
def slabs (s0 s1 : Vec Ideal S1x1x256x128 .f32) : FVec Ideal S256x256 .f32 :=
  concatenate S256x256 0 [⟨S128x256, transpose S128x256 [1, 0] (shapeCast S256x128 s0 shapeCasts_S1x1x256x128_S256x128 : FVec Ideal S256x128 .f32) transposes_S256x128_p1_0_S128x256⟩,
    ⟨S128x256, transpose S128x256 [1, 0] (shapeCast S256x128 s1 shapeCasts_S1x1x256x128_S256x128 : FVec Ideal S256x128 .f32) transposes_S256x128_p1_0_S128x256⟩] concatenates_S128x256_S128x256_S256x256_d0

/-- The output projection of the two mixers' rows. -/
def proj (a : Vec Ideal S1x256x1024 .bf16) (wa : Vec Ideal S1024x1024 .bf16) (s : FVec Ideal S256x256 .f32) (wb : Vec Ideal S256x1024 .bf16) : FVec Ideal S256x1024 .f32 :=
  addf (matmul dot_S256x1024_S1024x1024_S256x1024_1_0_0_1_n_n none (shapeCast S256x1024 a shapeCasts_S1x256x1024_S256x1024 : FVec Ideal S256x1024 .bf16)
      (shapeCast S1024x1024 wa shapeCasts_S1024x1024_S1024x1024 : FVec Ideal S1024x1024 .bf16) (constant S256x1024 .f32 0x00000000#32))
    (matmul dot_S256x256_S256x1024_S256x1024_1_0_0_1_n_n none (truncf .bf16 s bitsLt_bf16_f32)
      (shapeCast S256x1024 wb shapeCasts_S256x1024_S256x1024 : FVec Ideal S256x1024 .bf16) (constant S256x1024 .f32 0x00000000#32))

/-- The rows after the mixer's norm. -/
def head (m : Vec Ideal S1x1x6x1024 .f32) (lg lb : Vec Ideal S2x1024 .f32) (x : Vec Ideal S1x256x1024 .f32) (y : FVec Ideal S256x1024 .f32) : FVec Ideal S256x1024 .f32 :=
  aff0 lg lb (normV (res1 (mods m) (shapeCast S256x1024 x shapeCasts_S1x256x1024_S256x1024 : FVec Ideal S256x1024 .f32) y))

/-- The rows after the channel mixer's norm. -/
def tail (m : Vec Ideal S1x1x6x1024 .f32) (lg lb : Vec Ideal S2x1024 .f32) (x1 : FVec Ideal S256x1024 .f32)
    (p0 q0 p1 q1 p2 q2 p3 q3 : Vec Ideal S1024x1024 .bf16) : FVec Ideal S1x256x1024 .f32 :=
  shapeCast S1x256x1024 (aff1 lg lb (normV (res2 (mods m) x1 (mlpV (modV (mods m) (normV x1)) p0 q0 p1 q1 p2 q2 p3 q3)))) shapeCasts_S256x1024_S1x256x1024

/-- What is stored for 256 rows. -/
def tile (m : Vec Ideal S1x1x6x1024 .f32) (lg lb : Vec Ideal S2x1024 .f32) (x : Vec Ideal S1x256x1024 .f32)
    (a : Vec Ideal S1x256x1024 .bf16) (wa : Vec Ideal S1024x1024 .bf16) (s0 s1 : Vec Ideal S1x1x256x128 .f32) (wb : Vec Ideal S256x1024 .bf16)
    (p0 q0 p1 q1 p2 q2 p3 q3 : Vec Ideal S1024x1024 .bf16) : FVec Ideal S1x256x1024 .f32 :=
  tail m lg lb (head m lg lb x (proj a wa (slabs s0 s1) wb)) p0 q0 p1 q1 p2 q2 p3 q3

section entries
open Cert.Rows

theorem ofBits_zero : Ideal.ofBits .f32 0x00000000#32 = (0 : EReal) := by
  simp [Ideal.ofBits, Ideal.ieee]

theorem cen_at (v : FVec Ideal S256x1024 .f32) (r : Fin 256) (k : Fin 1024) :
    cen v (ix2 r k) = (v (ix2 r k) : EReal) - mean (fun j => v (ix2 r j)) := by
  pointwise [cen, mean]

theorem normV_at (v : FVec Ideal S256x1024 .f32) (r : Fin 256) (k : Fin 1024) :
    normV v (ix2 r k) = Rows.norm (fun j => v (ix2 r j)) k := by
  pointwise [normV, Rows.norm, mean, cen_at]

theorem aff0_at (g b : Vec Ideal S2x1024 .f32) (v : FVec Ideal S256x1024 .f32) (r : Fin 256) (k : Fin 1024) :
    aff0 g b v (ix2 r k) = affine (fun j => v (ix2 r j)) (fun j => g (ix2 0 j)) (fun j => b (ix2 0 j)) k := by
  pointwise [aff0, affine]

theorem aff1_at (g b : Vec Ideal S2x1024 .f32) (v : FVec Ideal S256x1024 .f32) (r : Fin 256) (k : Fin 1024) :
    aff1 g b v (ix2 r k) = affine (fun j => v (ix2 r j)) (fun j => g (ix2 1 j)) (fun j => b (ix2 1 j)) k := by
  pointwise [aff1, affine]

theorem mods_at (m : Vec Ideal S1x1x6x1024 .f32) (a : Fin 6) (k : Fin 1024) : mods m (ix2 a k) = m (ix4 0 0 a k) := by
  pointwise [mods]

theorem res1_at (m : FVec Ideal S6x1024 .f32) (x y : FVec Ideal S256x1024 .f32) (r : Fin 256) (k : Fin 1024) :
    res1 m x y (ix2 r k) = resid (fun j => x (ix2 r j)) (fun j => m (ix2 2 j)) (fun j => y (ix2 r j)) k := by
  pointwise [res1, resid]

theorem res2_at (m : FVec Ideal S6x1024 .f32) (x y : FVec Ideal S256x1024 .f32) (r : Fin 256) (k : Fin 1024) :
    res2 m x y (ix2 r k) = resid (fun j => x (ix2 r j)) (fun j => m (ix2 5 j)) (fun j => y (ix2 r j)) k := by
  pointwise [res2, resid]

theorem modV_at (m : FVec Ideal S6x1024 .f32) (v : FVec Ideal S256x1024 .f32) (r : Fin 256) (k : Fin 1024) :
    modV m v (ix2 r k) = modulate (fun j => v (ix2 r j)) (fun j => m (ix2 3 j)) (fun j => m (ix2 4 j)) k := by
  pointwise [modV, modulate]

theorem hid_at (h : FVec Ideal S256x1024 .bf16) (p : Vec Ideal S1024x1024 .bf16) (r : Fin 256) (k : Fin 1024) :
    hid h p (ix2 r k) = Rows.hidden (fun j => h (ix2 r j)) (fun i j => p (ix2 i j)) k := by
  pointwise [hid, Rows.hidden, ofBits_zero]

theorem chunk_at (h : FVec Ideal S256x1024 .bf16) (p q : Vec Ideal S1024x1024 .bf16) (r : Fin 256) (k : Fin 1024) :
    chunk h p q (ix2 r k) = mlp (fun j => h (ix2 r j)) (fun i j => p (ix2 i j)) (fun i j => q (ix2 i j)) k := by
  pointwise [chunk, mlp, hid_at]

theorem slabs_at (s0 s1 : Vec Ideal S1x1x256x128 .f32) (r c : Fin 256) :
    slabs s0 s1 (ix2 r c) = if h : r.val < 128 then (s0 (ix4 0 0 c ⟨r.val, h⟩) : EReal) else s1 (ix4 0 0 c ⟨r.val - 128, by omega⟩) := by
  pointwise [slabs]

theorem proj_at (a : Vec Ideal S1x256x1024 .bf16) (wa : Vec Ideal S1024x1024 .bf16) (s : FVec Ideal S256x256 .f32) (wb : Vec Ideal S256x1024 .bf16) (r : Fin 256) (k : Fin 1024) :
    proj a wa s wb (ix2 r k) = ∑ i : Fin 1024, (a (ix3 0 r i) : EReal) * wa (ix2 i k) + ∑ i : Fin 256, (s (ix2 r i) : EReal) * wb (ix2 i k) := by
  pointwise [proj]

theorem head_at (m : Vec Ideal S1x1x6x1024 .f32) (lg lb : Vec Ideal S2x1024 .f32) (x : Vec Ideal S1x256x1024 .f32) (y : FVec Ideal S256x1024 .f32) (r : Fin 256) (k : Fin 1024) :
    head m lg lb x y (ix2 r k) = first (fun j => x (ix3 0 r j)) (fun j => y (ix2 r j)) (fun j => m (ix4 0 0 2 j)) (fun j => lg (ix2 0 j)) (fun j => lb (ix2 0 j)) k := by
  have e (j : Fin 1024) : (shapeCast S256x1024 x shapeCasts_S1x256x1024_S256x1024 : FVec Ideal S256x1024 .f32) (ix2 r j) = x (ix3 0 r j) := by
    pointwise
  unfold head first
  rw [aff0_at]
  simp only [normV_at, res1_at, mods_at, e]

theorem tail_at (m : Vec Ideal S1x1x6x1024 .f32) (lg lb : Vec Ideal S2x1024 .f32) (x1 : FVec Ideal S256x1024 .f32)
    (p0 q0 p1 q1 p2 q2 p3 q3 : Vec Ideal S1024x1024 .bf16) (w : Fin 1024 → Fin 4096 → EReal) (u : Fin 4096 → Fin 1024 → EReal)
    (hp0 : ∀ i j, p0 (ix2 i j) = w i ⟨j, by omega⟩) (hq0 : ∀ i j, q0 (ix2 i j) = u ⟨i, by omega⟩ j)
    (hp1 : ∀ i j, p1 (ix2 i j) = w i ⟨1024 + j, by omega⟩) (hq1 : ∀ i j, q1 (ix2 i j) = u ⟨1024 + i, by omega⟩ j)
    (hp2 : ∀ i j, p2 (ix2 i j) = w i ⟨2048 + j, by omega⟩) (hq2 : ∀ i j, q2 (ix2 i j) = u ⟨2048 + i, by omega⟩ j)
    (hp3 : ∀ i j, p3 (ix2 i j) = w i ⟨3072 + j, by omega⟩) (hq3 : ∀ i j, q3 (ix2 i j) = u ⟨3072 + i, by omega⟩ j)
    (r : Fin 256) (k : Fin 1024) :
    tail m lg lb x1 p0 q0 p1 q1 p2 q2 p3 q3 (ix3 0 r k)
      = second (fun h => mlp4 h w u) (fun j => x1 (ix2 r j)) (fun j => m (ix4 0 0 3 j)) (fun j => m (ix4 0 0 4 j)) (fun j => m (ix4 0 0 5 j))
          (fun j => lg (ix2 1 j)) (fun j => lb (ix2 1 j)) k := by
  have e (z : FVec Ideal S256x1024 .f32) : shapeCast S1x256x1024 z shapeCasts_S256x1024_S1x256x1024 (ix3 0 r k) = z (ix2 r k) := by
    pointwise
  have a4 (h : FVec Ideal S256x1024 .bf16) (j : Fin 1024) :
      mlpV h p0 q0 p1 q1 p2 q2 p3 q3 (ix2 r j) = mlp4 (fun i => h (ix2 r i)) w u j := by
    show ((chunk h p0 q0 (ix2 r j) + chunk h p1 q1 (ix2 r j) : EReal) + chunk h p2 q2 (ix2 r j)) + chunk h p3 q3 (ix2 r j) = _
    simp only [chunk_at, hp0, hq0, hp1, hq1, hp2, hq2, hp3, hq3]
    rfl
  unfold tail second
  rw [e, aff1_at]
  simp only [normV_at, res2_at, a4, modV_at, mods_at]

end entries

/-! The stored values are these rows. -/

variable (m : Vec Ideal S1x1x6x1024 .f32) (lg lb : Vec Ideal S2x1024 .f32) (x : Vec Ideal S1x256x1024 .f32)
    (a : Vec Ideal S1x256x1024 .bf16) (wa : Vec Ideal S1024x1024 .bf16) (s0 s1 : Vec Ideal S1x1x256x128 .f32) (wb : Vec Ideal S256x1024 .bf16)
    (p0 q0 p1 q1 p2 q2 p3 q3 : Vec Ideal S1024x1024 .bf16)

theorem tile0 : k0_pay12 lg lb (k0_pay11 (k0_pay2 m) (k0_pay4 lg lb (k0_pay3 m a wa s0 s1 wb x)) (k0_pay5 (k0_pay2 m) lg lb (k0_pay3 m a wa s0 s1 wb x))
      (k0_pay10 (k0_pay5 (k0_pay2 m) lg lb (k0_pay3 m a wa s0 s1 wb x)) p0 q0) p1 q1 p2 q2 p3 q3)
    = tile m lg lb x a wa s0 s1 wb p0 q0 p1 q1 p2 q2 p3 q3 := rfl

theorem tile1 : k0_pay22 lb (k0_pay21 (k0_pay2 m) lg (k0_pay8 lg lb (k0_pay6 (k0_pay2 m) a wa s0 s1 wb x) (k0_pay7 (k0_pay2 m) a wa s0 s1 wb x) (Scalar.ofBits .f32 0x3727C5AC#32))
      (k0_pay9 (k0_pay2 m) lg lb (k0_pay6 (k0_pay2 m) a wa s0 s1 wb x) (k0_pay7 (k0_pay2 m) a wa s0 s1 wb x) (Scalar.ofBits .f32 0x3727C5AC#32))
      (k0_pay19 (k0_pay9 (k0_pay2 m) lg lb (k0_pay6 (k0_pay2 m) a wa s0 s1 wb x) (k0_pay7 (k0_pay2 m) a wa s0 s1 wb x) (Scalar.ofBits .f32 0x3727C5AC#32)) p0 q0 p1 q1)
      (k0_pay20 (k0_pay9 (k0_pay2 m) lg lb (k0_pay6 (k0_pay2 m) a wa s0 s1 wb x) (k0_pay7 (k0_pay2 m) a wa s0 s1 wb x) (Scalar.ofBits .f32 0x3727C5AC#32)) p2)
      (Scalar.ofBits .f32 0x00000000#32) q2 p3 q3)
    = tile m lg lb x a wa s0 s1 wb p0 q0 p1 q1 p2 q2 p3 q3 := rfl

theorem tile2 : k0_pay30 (k0_pay2 m) lg lb (k0_pay15 (k0_pay2 m) lg lb (k0_pay13 a wa) (k0_pay14 s0 s1) wb x)
      (k0_pay28 (k0_pay18 (k0_pay2 m) (k0_pay16 (k0_pay2 m) lg lb (k0_pay13 a wa) (k0_pay14 s0 s1) wb x) (k0_pay17 (k0_pay2 m) lg lb (k0_pay13 a wa) (k0_pay14 s0 s1) wb x) (Scalar.ofBits .f32 0x44800000#32))
        (k0_pay27 (k0_pay18 (k0_pay2 m) (k0_pay16 (k0_pay2 m) lg lb (k0_pay13 a wa) (k0_pay14 s0 s1) wb x) (k0_pay17 (k0_pay2 m) lg lb (k0_pay13 a wa) (k0_pay14 s0 s1) wb x) (Scalar.ofBits .f32 0x44800000#32)) p0) q0 p1 q1 p2 q2)
      (k0_pay29 (k0_pay18 (k0_pay2 m) (k0_pay16 (k0_pay2 m) lg lb (k0_pay13 a wa) (k0_pay14 s0 s1) wb x) (k0_pay17 (k0_pay2 m) lg lb (k0_pay13 a wa) (k0_pay14 s0 s1) wb x) (Scalar.ofBits .f32 0x44800000#32)) p3) q3
    = tile m lg lb x a wa s0 s1 wb p0 q0 p1 q1 p2 q2 p3 q3 := rfl

theorem tile3 : k0_pay1 (k0_pay2 m) lg lb
      (k0_pay32 (k0_pay26 (k0_pay2 m) lg lb (k0_pay23 (k0_pay2 m) a wa s0 s1 wb x) (k0_pay24 (k0_pay2 m) a wa s0 s1 wb x) (Scalar.ofBits .f32 0x44800000#32))
        (k0_pay31 (k0_pay26 (k0_pay2 m) lg lb (k0_pay23 (k0_pay2 m) a wa s0 s1 wb x) (k0_pay24 (k0_pay2 m) a wa s0 s1 wb x) (Scalar.ofBits .f32 0x44800000#32)) p0) q0 p1 q1 p2 q2 p3 q3)
      (k0_pay33 (k0_pay25 lg lb (k0_pay23 (k0_pay2 m) a wa s0 s1 wb x) (k0_pay24 (k0_pay2 m) a wa s0 s1 wb x) (Scalar.ofBits .f32 0x44800000#32)))
    = tile m lg lb x a wa s0 s1 wb p0 q0 p1 q1 p2 q2 p3 q3 := rfl

end Cert.PostOddIdeal.Post

end
-- ==== Proof.PostOddPure.lean ====
module

public import proofs.«01_k».proof.Proof.Gen.PostOddIdeal.Value
public import proofs.«01_k».proof.Proof.PostOddTile

@[expose] public section

set_option maxRecDepth 16384

noncomputable section

open Idealize.ShloMosaic Idealize.ShloMosaic.TcCoe Idealize.SL.Sem
open Idealize.ShloMosaic.Pipeline (Dat)

namespace Cert.PostOddIdeal.Post

open Cert.PostOddIdeal Cert.PostOddIdeal.Gen

/-- A row after both halves, from the rows and matrices it reads. -/
def rowOut (x a : Fin 1024 → EReal) (wa : Fin 1024 → Fin 1024 → EReal) (s : Fin 256 → EReal) (wb : Fin 256 → Fin 1024 → EReal)
    (md : Fin 6 → Fin 1024 → EReal) (lg lb : Fin 2 → Fin 1024 → EReal)
    (w : Fin 1024 → Fin 4096 → EReal) (u : Fin 4096 → Fin 1024 → EReal) : Fin 1024 → EReal :=
  Rows.second (fun h => Rows.mlp4 h w u)
    (Rows.first x (fun k => ∑ i, a i * wa i k + ∑ i, s i * wb i k) (md 2) (lg 0) (lb 0)) (md 3) (md 4) (md 5) (lg 1) (lb 1)

/-- One tile's entry. -/
theorem tile_at (m : Vec Ideal S1x1x6x1024 .f32) (lg lb : Vec Ideal S2x1024 .f32) (x : Vec Ideal S1x256x1024 .f32)
    (a : Vec Ideal S1x256x1024 .bf16) (wa : Vec Ideal S1024x1024 .bf16) (s0 s1 : Vec Ideal S1x1x256x128 .f32) (wb : Vec Ideal S256x1024 .bf16)
    (p0 q0 p1 q1 p2 q2 p3 q3 : Vec Ideal S1024x1024 .bf16)
    (w : Fin 1024 → Fin 4096 → EReal) (u : Fin 4096 → Fin 1024 → EReal)
    (hp0 : ∀ i j, p0 (ix2 i j) = w i ⟨j, by omega⟩) (hq0 : ∀ i j, q0 (ix2 i j) = u ⟨i, by omega⟩ j)
    (hp1 : ∀ i j, p1 (ix2 i j) = w i ⟨1024 + j, by omega⟩) (hq1 : ∀ i j, q1 (ix2 i j) = u ⟨1024 + i, by omega⟩ j)
    (hp2 : ∀ i j, p2 (ix2 i j) = w i ⟨2048 + j, by omega⟩) (hq2 : ∀ i j, q2 (ix2 i j) = u ⟨2048 + i, by omega⟩ j)
    (hp3 : ∀ i j, p3 (ix2 i j) = w i ⟨3072 + j, by omega⟩) (hq3 : ∀ i j, q3 (ix2 i j) = u ⟨3072 + i, by omega⟩ j)
    (r : Fin 256) (k : Fin 1024) (s : Fin 256 → EReal)
    (hs : ∀ c, s c = if h : r.val < 128 then (s0 (ix4 0 0 c ⟨r.val, h⟩) : EReal) else s1 (ix4 0 0 c ⟨r.val - 128, by omega⟩)) :
    tile m lg lb x a wa s0 s1 wb p0 q0 p1 q1 p2 q2 p3 q3 (ix3 0 r k)
      = rowOut (fun j => x (ix3 0 r j)) (fun j => a (ix3 0 r j)) (fun i j => wa (ix2 i j)) s (fun i j => wb (ix2 i j))
          (fun i j => m (ix4 0 0 i j)) (fun i j => lg (ix2 i j)) (fun i j => lb (ix2 i j)) w u k := by
  unfold tile rowOut
  rw [tail_at (w := w) (u := u) (hp0 := hp0) (hq0 := hq0) (hp1 := hp1) (hq1 := hq1) (hp2 := hp2) (hq2 := hq2) (hp3 := hp3) (hq3 := hq3)]
  refine congrFun (congrArg (fun z => Rows.second (fun h => Rows.mlp4 h w u) z _ _ _ _ _) (funext fun j => ?_)) k
  rw [head_at]
  refine congrFun (congrArg (fun z => Rows.first _ z _ _ _) (funext fun i => ?_)) j
  rw [proj_at]
  refine congrArg (_ + ·) (Finset.sum_congr rfl fun c _ => ?_)
  rw [slabs_at, hs c]

/-- Equal rows and matrices give equal rows. -/
theorem rowOut_congr {x x' a a' : Fin 1024 → EReal} {wa wa' : Fin 1024 → Fin 1024 → EReal} {s s' : Fin 256 → EReal} {wb wb' : Fin 256 → Fin 1024 → EReal}
    {md md' : Fin 6 → Fin 1024 → EReal} {lg lg' lb lb' : Fin 2 → Fin 1024 → EReal}
    {w w' : Fin 1024 → Fin 4096 → EReal} {u u' : Fin 4096 → Fin 1024 → EReal} {k k' : Fin 1024}
    (hx : ∀ j, x j = x' j) (ha : ∀ j, a j = a' j) (hwa : ∀ i j, wa i j = wa' i j) (hs : ∀ c, s c = s' c) (hwb : ∀ i j, wb i j = wb' i j)
    (hmd : ∀ i j, md i j = md' i j) (hlg : ∀ i j, lg i j = lg' i j) (hlb : ∀ i j, lb i j = lb' i j)
    (hw : ∀ i j, w i j = w' i j) (hu : ∀ i j, u i j = u' i j) (hk : k = k') :
    rowOut x a wa s wb md lg lb w u k = rowOut x' a' wa' s' wb' md' lg' lb' w' u' k' := by
  obtain rfl : x = x' := funext hx
  obtain rfl : a = a' := funext ha
  obtain rfl : wa = wa' := funext fun i => funext (hwa i)
  obtain rfl : s = s' := funext hs
  obtain rfl : wb = wb' := funext fun i => funext (hwb i)
  obtain rfl : md = md' := funext fun i => funext (hmd i)
  obtain rfl : lg = lg' := funext fun i => funext (hlg i)
  obtain rfl : lb = lb' := funext fun i => funext (hlb i)
  obtain rfl : w = w' := funext fun i => funext (hw i)
  obtain rfl : u = u' := funext fun i => funext (hu i)
  rw [hk]

/-- The block stored at a grid point, entry by entry. -/
theorem out_at (x0 : Vec Ideal S1x1024x1024 .f32) (x1 : Vec Ideal S1x1x6x1024 .f32) (x2 : Vec Ideal S1x1024x1024 .bf16) (x3 : Vec Ideal S1x8x256x128 .f32)
    (x4 : Vec Ideal S1024x1024 .bf16) (x5 : Vec Ideal S256x1024 .bf16) (x6 x7 : Vec Ideal S2x1024 .f32) (x8 : Vec Ideal S1024x4096 .bf16) (x9 : Vec Ideal S4096x1024 .bf16)
    (y : S1x1024x1024.Idx) (R : Fin 1024) (K : Fin 1024) (hR : (y 1 : ℕ) = R) (hK : (y 2 : ℕ) = K) :
    out0_10 x0 x1 x2 x3 x4 x5 x6 x7 x8 x9 y
      = rowOut (fun j => x0 (ix3 0 R j)) (fun j => x2 (ix3 0 R j)) (fun i j => x4 (ix2 i j))
          (fun c => x3 (ix4 0 ⟨R / 128, by omega⟩ c ⟨R % 128, by omega⟩)) (fun i j => x5 (ix2 i j))
          (fun i j => x1 (ix4 0 0 i j)) (fun i j => x6 (ix2 i j)) (fun i j => x7 (ix2 i j)) (fun i j => x8 (ix2 i j)) (fun i j => x9 (ix2 i j)) K := by
  unfold_out out0_10
  canon_tiles x h
  · obtain ⟨r, k, rfl⟩ := Cert.Rows.row_idx x
    have e1 : (y 1 : ℕ) = 768 + r.val := h1
    have e2 : (y 2 : ℕ) = k.val := h2
    have lt : 768 + r.val < 1024 := by have := r.isLt; omega
    have eR : R = ⟨768 + r.val, lt⟩ := Fin.ext (hR.symm.trans e1)
    have eK : K = k := Fin.ext (hK.symm.trans e2)
    refine (congrFun (tile3 _ _ _ _ _ _ _ _ _ _ _ _ _ _ _ _ _) _).trans ?_
    refine (tile_at (w := fun i j => x8 (ix2 i j)) (u := fun i j => x9 (ix2 i j))
      (s := fun c => x3 (ix4 0 ⟨(768 + r.val) / 128, by omega⟩ c ⟨(768 + r.val) % 128, by omega⟩))
      (hp0 := fun i j => by pointwise) (hq0 := fun i j => by pointwise) (hp1 := fun i j => by pointwise) (hq1 := fun i j => by pointwise)
      (hp2 := fun i j => by pointwise) (hq2 := fun i j => by pointwise) (hp3 := fun i j => by pointwise) (hq3 := fun i j => by pointwise)
      (hs := fun c => ?_) ..).trans ?_
    · by_cases hr : r.val < 128
      · rw [dif_pos hr, show (⟨(768 + r.val) / 128, by omega⟩ : Fin 8) = 6 from Fin.ext (by show (768 + r.val) / 128 = 6; omega),
          show (⟨(768 + r.val) % 128, by omega⟩ : Fin 128) = ⟨r.val, hr⟩ from Fin.ext (by show (768 + r.val) % 128 = r.val; omega)]
        pointwise
      · rw [dif_neg hr, show (⟨(768 + r.val) / 128, by omega⟩ : Fin 8) = 7 from Fin.ext (by show (768 + r.val) / 128 = 7; omega),
          show (⟨(768 + r.val) % 128, by omega⟩ : Fin 128) = ⟨r.val - 128, by omega⟩ from Fin.ext (by show (768 + r.val) % 128 = r.val - 128; omega)]
        pointwise
    · subst eR eK
      refine rowOut_congr (fun j => ?_) (fun j => ?_) (fun i j => ?_) (fun c => rfl) (fun i j => ?_) (fun i j => ?_) (fun i j => ?_) (fun i j => ?_)
        (fun i j => rfl) (fun i j => rfl) rfl <;> pointwise
  · obtain ⟨r, k, rfl⟩ := Cert.Rows.row_idx x
    have e1 : (y 1 : ℕ) = 512 + r.val := h1
    have e2 : (y 2 : ℕ) = k.val := h2
    have lt : 512 + r.val < 1024 := by have := r.isLt; omega
    have eR : R = ⟨512 + r.val, lt⟩ := Fin.ext (hR.symm.trans e1)
    have eK : K = k := Fin.ext (hK.symm.trans e2)
    refine (congrFun (tile2 _ _ _ _ _ _ _ _ _ _ _ _ _ _ _ _ _) _).trans ?_
    refine (tile_at (w := fun i j => x8 (ix2 i j)) (u := fun i j => x9 (ix2 i j))
      (s := fun c => x3 (ix4 0 ⟨(512 + r.val) / 128, by omega⟩ c ⟨(512 + r.val) % 128, by omega⟩))
      (hp0 := fun i j => by pointwise) (hq0 := fun i j => by pointwise) (hp1 := fun i j => by pointwise) (hq1 := fun i j => by pointwise)
      (hp2 := fun i j => by pointwise) (hq2 := fun i j => by pointwise) (hp3 := fun i j => by pointwise) (hq3 := fun i j => by pointwise)
      (hs := fun c => ?_) ..).trans ?_
    · by_cases hr : r.val < 128
      · rw [dif_pos hr, show (⟨(512 + r.val) / 128, by omega⟩ : Fin 8) = 4 from Fin.ext (by show (512 + r.val) / 128 = 4; omega),
          show (⟨(512 + r.val) % 128, by omega⟩ : Fin 128) = ⟨r.val, hr⟩ from Fin.ext (by show (512 + r.val) % 128 = r.val; omega)]
        pointwise
      · rw [dif_neg hr, show (⟨(512 + r.val) / 128, by omega⟩ : Fin 8) = 5 from Fin.ext (by show (512 + r.val) / 128 = 5; omega),
          show (⟨(512 + r.val) % 128, by omega⟩ : Fin 128) = ⟨r.val - 128, by omega⟩ from Fin.ext (by show (512 + r.val) % 128 = r.val - 128; omega)]
        pointwise
    · subst eR eK
      refine rowOut_congr (fun j => ?_) (fun j => ?_) (fun i j => ?_) (fun c => rfl) (fun i j => ?_) (fun i j => ?_) (fun i j => ?_) (fun i j => ?_)
        (fun i j => rfl) (fun i j => rfl) rfl <;> pointwise
  · obtain ⟨r, k, rfl⟩ := Cert.Rows.row_idx x
    have e1 : (y 1 : ℕ) = 256 + r.val := h1
    have e2 : (y 2 : ℕ) = k.val := h2
    have lt : 256 + r.val < 1024 := by have := r.isLt; omega
    have eR : R = ⟨256 + r.val, lt⟩ := Fin.ext (hR.symm.trans e1)
    have eK : K = k := Fin.ext (hK.symm.trans e2)
    refine (congrFun (tile1 _ _ _ _ _ _ _ _ _ _ _ _ _ _ _ _ _) _).trans ?_
    refine (tile_at (w := fun i j => x8 (ix2 i j)) (u := fun i j => x9 (ix2 i j))
      (s := fun c => x3 (ix4 0 ⟨(256 + r.val) / 128, by omega⟩ c ⟨(256 + r.val) % 128, by omega⟩))
      (hp0 := fun i j => by pointwise) (hq0 := fun i j => by pointwise) (hp1 := fun i j => by pointwise) (hq1 := fun i j => by pointwise)
      (hp2 := fun i j => by pointwise) (hq2 := fun i j => by pointwise) (hp3 := fun i j => by pointwise) (hq3 := fun i j => by pointwise)
      (hs := fun c => ?_) ..).trans ?_
    · by_cases hr : r.val < 128
      · rw [dif_pos hr, show (⟨(256 + r.val) / 128, by omega⟩ : Fin 8) = 2 from Fin.ext (by show (256 + r.val) / 128 = 2; omega),
          show (⟨(256 + r.val) % 128, by omega⟩ : Fin 128) = ⟨r.val, hr⟩ from Fin.ext (by show (256 + r.val) % 128 = r.val; omega)]
        pointwise
      · rw [dif_neg hr, show (⟨(256 + r.val) / 128, by omega⟩ : Fin 8) = 3 from Fin.ext (by show (256 + r.val) / 128 = 3; omega),
          show (⟨(256 + r.val) % 128, by omega⟩ : Fin 128) = ⟨r.val - 128, by omega⟩ from Fin.ext (by show (256 + r.val) % 128 = r.val - 128; omega)]
        pointwise
    · subst eR eK
      refine rowOut_congr (fun j => ?_) (fun j => ?_) (fun i j => ?_) (fun c => rfl) (fun i j => ?_) (fun i j => ?_) (fun i j => ?_) (fun i j => ?_)
        (fun i j => rfl) (fun i j => rfl) rfl <;> pointwise
  · obtain ⟨r, k, rfl⟩ := Cert.Rows.row_idx x
    have e1 : (y 1 : ℕ) = 0 + r.val := (h1 : (y 1 : ℕ) = r.val).trans (Nat.zero_add _).symm
    have e2 : (y 2 : ℕ) = k.val := h2
    have lt : 0 + r.val < 1024 := by have := r.isLt; omega
    have eR : R = ⟨0 + r.val, lt⟩ := Fin.ext (hR.symm.trans e1)
    have eK : K = k := Fin.ext (hK.symm.trans e2)
    refine (congrFun (tile0 _ _ _ _ _ _ _ _ _ _ _ _ _ _ _ _ _) _).trans ?_
    refine (tile_at (w := fun i j => x8 (ix2 i j)) (u := fun i j => x9 (ix2 i j))
      (s := fun c => x3 (ix4 0 ⟨(0 + r.val) / 128, by omega⟩ c ⟨(0 + r.val) % 128, by omega⟩))
      (hp0 := fun i j => by pointwise) (hq0 := fun i j => by pointwise) (hp1 := fun i j => by pointwise) (hq1 := fun i j => by pointwise)
      (hp2 := fun i j => by pointwise) (hq2 := fun i j => by pointwise) (hp3 := fun i j => by pointwise) (hq3 := fun i j => by pointwise)
      (hs := fun c => ?_) ..).trans ?_
    · by_cases hr : r.val < 128
      · rw [dif_pos hr, show (⟨(0 + r.val) / 128, by omega⟩ : Fin 8) = 0 from Fin.ext (by show (0 + r.val) / 128 = 0; omega),
          show (⟨(0 + r.val) % 128, by omega⟩ : Fin 128) = ⟨r.val, hr⟩ from Fin.ext (by show (0 + r.val) % 128 = r.val; omega)]
        pointwise
      · rw [dif_neg hr, show (⟨(0 + r.val) / 128, by omega⟩ : Fin 8) = 1 from Fin.ext (by show (0 + r.val) / 128 = 1; omega),
          show (⟨(0 + r.val) % 128, by omega⟩ : Fin 128) = ⟨r.val - 128, by omega⟩ from Fin.ext (by show (0 + r.val) % 128 = r.val - 128; omega)]
        pointwise
    · subst eR eK
      refine rowOut_congr (fun j => ?_) (fun j => ?_) (fun i j => ?_) (fun c => rfl) (fun i j => ?_) (fun i j => ?_) (fun i j => ?_) (fun i j => ?_)
        (fun i j => rfl) (fun i j => rfl) rfl <;> pointwise

/-- The array the call returns, entry by entry, from the arrays its windows read. -/
def postArr (X : FVec Ideal S4x8192x1024 .f32) (M : FVec Ideal S4x2x6x1024 .f32) (A : FVec Ideal S4x8192x1024 .bf16) (S : FVec Ideal S4x64x256x128 .f32)
    (WA : FVec Ideal S1024x1024 .bf16) (WB : FVec Ideal S256x1024 .bf16) (LG LB : FVec Ideal S2x1024 .f32) (W : FVec Ideal S1024x4096 .bf16) (U : FVec Ideal S4096x1024 .bf16) :
    FVec Ideal S4x8192x1024 .f32 := fun j =>
  rowOut (fun k => X (ix3 (j 0) (j 1) k)) (fun k => A (ix3 (j 0) (j 1) k)) (fun i k => WA (ix2 i k))
    (fun c => S (ix4 (j 0) ⟨(j 1 : ℕ) / 128, by have : (j 1 : ℕ) < 8192 := (j 1).isLt; omega⟩ c ⟨(j 1 : ℕ) % 128, by omega⟩)) (fun i k => WB (ix2 i k))
    (fun i k => M (ix4 (j 0) 0 i k)) (fun i k => LG (ix2 i k)) (fun i k => LB (ix2 i k)) (fun i k => W (ix2 i k)) (fun i k => U (ix2 i k)) (j 2)

variable (m : (ℓ : Loc nD τ sig) → Buf (Elt Ideal) ℓ)

/-- Where each window's block sits, at every grid point. -/
theorem idx : ∀ t : Fin cfg0.N, win0_0.index t = ![t.val / 8, t.val % 8, 0] ∧ win0_1.index t = ![t.val / 8, 0, 0, 0]
    ∧ win0_2.index t = ![t.val / 8, t.val % 8, 0] ∧ win0_3.index t = ![t.val / 8, t.val % 8, 0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![t.val / 8, t.val % 8, 0] :=
  (by decide +kernel : ∀ t : Fin grid0.N, _)

/-- There are fewer than 32 points. -/
theorem pt_lt (t : Fin cfg0.N) : t.val < 32 := lt_of_lt_of_eq t.isLt N_0

/-- An entry of the tokens' block, read in the array at the block's place. -/
theorem iblk0_at (c : Dev nD) (t : Fin cfg0.N) (y : ((cfg0.win 0).xblock (cfg0.grid.coords t)).Idx) (i : S4x8192x1024.Idx)
    (h : ∀ a, (i a : ℕ) = win0_0.index t a * win0_0.size a + (y a : ℕ)) :
    iblk m c 0 t y = V m c main_arg0 i := by
  have e : (win0_0.rect t).emb y = i := funext fun a => Fin.ext ((win0_0.rect_emb_val t y a).trans (h a).symm)
  unfold iblk
  rw [View.read_apply]
  generalize V m c = W
  exact (cast_eq _ _).trans (congrArg (W main_arg0) e)

/-- An entry of the modulation vectors' block, read in the array at the block's place. -/
theorem iblk1_at (c : Dev nD) (t : Fin cfg0.N) (y : ((cfg0.win 1).xblock (cfg0.grid.coords t)).Idx) (i : S4x2x6x1024.Idx)
    (h : ∀ a, (i a : ℕ) = win0_1.index t a * win0_1.size a + (y a : ℕ)) :
    iblk m c 1 t y = V m c main_arg1 i := by
  have e : (win0_1.rect t).emb y = i := funext fun a => Fin.ext ((win0_1.rect_emb_val t y a).trans (h a).symm)
  unfold iblk
  rw [View.read_apply]
  generalize V m c = W
  exact (cast_eq _ _).trans (congrArg (W main_arg1) e)

/-- An entry of the first branch's block, read in the array at the block's place. -/
theorem iblk2_at (c : Dev nD) (t : Fin cfg0.N) (y : ((cfg0.win 2).xblock (cfg0.grid.coords t)).Idx) (i : S4x8192x1024.Idx)
    (h : ∀ a, (i a : ℕ) = win0_2.index t a * win0_2.size a + (y a : ℕ)) :
    iblk m c 2 t y = V m c main_v9 i := by
  have e : (win0_2.rect t).emb y = i := funext fun a => Fin.ext ((win0_2.rect_emb_val t y a).trans (h a).symm)
  unfold iblk
  rw [View.read_apply]
  generalize V m c = W
  exact (cast_eq _ _).trans (congrArg (W main_v9) e)

/-- An entry of the second branch's block, read in the array at the block's place. -/
theorem iblk3_at (c : Dev nD) (t : Fin cfg0.N) (y : ((cfg0.win 3).xblock (cfg0.grid.coords t)).Idx) (i : S4x64x256x128.Idx)
    (h : ∀ a, (i a : ℕ) = win0_3.index t a * win0_3.size a + (y a : ℕ)) :
    iblk m c 3 t y = V m c main_arg3 i := by
  have e : (win0_3.rect t).emb y = i := funext fun a => Fin.ext ((win0_3.rect_emb_val t y a).trans (h a).symm)
  unfold iblk
  rw [View.read_apply]
  generalize V m c = W
  exact (cast_eq _ _).trans (congrArg (W main_arg3) e)

/-- An entry of the first branch's weights' block, read in the array at the block's place. -/
theorem iblk4_at (c : Dev nD) (t : Fin cfg0.N) (y : ((cfg0.win 4).xblock (cfg0.grid.coords t)).Idx) (i : S1024x1024.Idx)
    (h : ∀ a, (i a : ℕ) = win0_4.index t a * win0_4.size a + (y a : ℕ)) :
    iblk m c 4 t y = V m c main_v4 i := by
  have e : (win0_4.rect t).emb y = i := funext fun a => Fin.ext ((win0_4.rect_emb_val t y a).trans (h a).symm)
  unfold iblk
  rw [View.read_apply]
  generalize V m c = W
  exact (cast_eq _ _).trans (congrArg (W main_v4) e)

/-- An entry of the second branch's weights' block, read in the array at the block's place. -/
theorem iblk5_at (c : Dev nD) (t : Fin cfg0.N) (y : ((cfg0.win 5).xblock (cfg0.grid.coords t)).Idx) (i : S256x1024.Idx)
    (h : ∀ a, (i a : ℕ) = win0_5.index t a * win0_5.size a + (y a : ℕ)) :
    iblk m c 5 t y = V m c main_v10 i := by
  have e : (win0_5.rect t).emb y = i := funext fun a => Fin.ext ((win0_5.rect_emb_val t y a).trans (h a).symm)
  unfold iblk
  rw [View.read_apply]
  generalize V m c = W
  exact (cast_eq _ _).trans (congrArg (W main_v10) e)

/-- An entry of the scales' block, read in the array at the block's place. -/
theorem iblk6_at (c : Dev nD) (t : Fin cfg0.N) (y : ((cfg0.win 6).xblock (cfg0.grid.coords t)).Idx) (i : S2x1024.Idx)
    (h : ∀ a, (i a : ℕ) = win0_6.index t a * win0_6.size a + (y a : ℕ)) :
    iblk m c 6 t y = V m c main_arg5 i := by
  have e : (win0_6.rect t).emb y = i := funext fun a => Fin.ext ((win0_6.rect_emb_val t y a).trans (h a).symm)
  unfold iblk
  rw [View.read_apply]
  generalize V m c = W
  exact (cast_eq _ _).trans (congrArg (W main_arg5) e)

/-- An entry of the shifts' block, read in the array at the block's place. -/
theorem iblk7_at (c : Dev nD) (t : Fin cfg0.N) (y : ((cfg0.win 7).xblock (cfg0.grid.coords t)).Idx) (i : S2x1024.Idx)
    (h : ∀ a, (i a : ℕ) = win0_7.index t a * win0_7.size a + (y a : ℕ)) :
    iblk m c 7 t y = V m c main_arg6 i := by
  have e : (win0_7.rect t).emb y = i := funext fun a => Fin.ext ((win0_7.rect_emb_val t y a).trans (h a).symm)
  unfold iblk
  rw [View.read_apply]
  generalize V m c = W
  exact (cast_eq _ _).trans (congrArg (W main_arg6) e)

/-- An entry of the first channel weights' block, read in the array at the block's place. -/
theorem iblk8_at (c : Dev nD) (t : Fin cfg0.N) (y : ((cfg0.win 8).xblock (cfg0.grid.coords t)).Idx) (i : S1024x4096.Idx)
    (h : ∀ a, (i a : ℕ) = win0_8.index t a * win0_8.size a + (y a : ℕ)) :
    iblk m c 8 t y = V m c main_v11 i := by
  have e : (win0_8.rect t).emb y = i := funext fun a => Fin.ext ((win0_8.rect_emb_val t y a).trans (h a).symm)
  unfold iblk
  rw [View.read_apply]
  generalize V m c = W
  exact (cast_eq _ _).trans (congrArg (W main_v11) e)

/-- An entry of the second channel weights' block, read in the array at the block's place. -/
theorem iblk9_at (c : Dev nD) (t : Fin cfg0.N) (y : ((cfg0.win 9).xblock (cfg0.grid.coords t)).Idx) (i : S4096x1024.Idx)
    (h : ∀ a, (i a : ℕ) = win0_9.index t a * win0_9.size a + (y a : ℕ)) :
    iblk m c 9 t y = V m c main_v12 i := by
  have e : (win0_9.rect t).emb y = i := funext fun a => Fin.ext ((win0_9.rect_emb_val t y a).trans (h a).symm)
  unfold iblk
  rw [View.read_apply]
  generalize V m c = W
  exact (cast_eq _ _).trans (congrArg (W main_v12) e)

/-- The whole array after the run. -/
theorem final (c : Dev nD) : (dats m 0 c).arrAt 10 (cfgs 0).N
    = postArr (V m c main_arg0) (V m c main_arg1) (V m c main_v9) (V m c main_arg3) (V m c main_v4) (V m c main_v10) (V m c main_arg5) (V m c main_arg6)
        (V m c main_v11) (V m c main_v12) := by
  refine (dats m 0 c).arrAt_eq_of_covers 10 _ (by decide +kernel) fun t _ y => ?_
  blk_simp
  rw [after0_10]
  have y1 : (y 1 : ℕ) < 1024 := (y 1).isLt
  have y2 : (y 2 : ℕ) < 1024 := (y 2).isLt
  have y0 : (y 0 : ℕ) < 1 := (y 0).isLt
  have ht := pt_lt t
  refine (out_at _ _ _ _ _ _ _ _ _ _ _ ⟨y 1, y1⟩ ⟨y 2, y2⟩ rfl rfl).trans ?_
  have e (a) : (((win0_10.rect t).emb y) a : ℕ) = win0_10.index t a * win0_10.size a + (y a : ℕ) := win0_10.rect_emb_val t y a
  obtain ⟨i0, i1, i2, i3, i4, i5, i6, i7, i8, i9, i10⟩ := idx t
  rw [i10] at e
  have e0 : (((win0_10.rect t).emb y) 0 : ℕ) = t.val / 8 := by
    refine (e 0).trans ?_
    show t.val / 8 * 1 + (y 0 : ℕ) = t.val / 8
    omega
  have e1 : (((win0_10.rect t).emb y) 1 : ℕ) = t.val % 8 * 1024 + (y 1 : ℕ) := e 1
  have e2 : (((win0_10.rect t).emb y) 2 : ℕ) = (y 2 : ℕ) := by
    refine (e 2).trans ?_
    show 0 * 1024 + (y 2 : ℕ) = (y 2 : ℕ)
    omega
  obtain ⟨z, hz⟩ : ∃ z, z = (win0_10.blk t).view.emb y := ⟨_, rfl⟩
  rw [← hz]
  have e0 : (z 0 : ℕ) = t.val / 8 := by rw [hz]; exact e0
  have e1 : (z 1 : ℕ) = t.val % 8 * 1024 + (y 1 : ℕ) := by rw [hz]; exact e1
  have e2 : (z 2 : ℕ) = (y 2 : ℕ) := by rw [hz]; exact e2
  unfold postArr
  have z1 : (z 1 : ℕ) < 8192 := (z 1).isLt
  refine rowOut_congr (fun j => ?_) (fun j => ?_) (fun i j => ?_) (fun d => ?_) (fun i j => ?_) (fun i j => ?_) (fun i j => ?_) (fun i j => ?_)
    (fun i j => ?_) (fun i j => ?_) (Fin.ext e2.symm)
  · refine iblk0_at m c t _ _ fun a => ?_
    rw [i0]
    match a with
    | ⟨0, _⟩ => show (z 0 : ℕ) = t.val / 8 * 1 + 0; omega
    | ⟨1, _⟩ => show (z 1 : ℕ) = t.val % 8 * 1024 + (y 1 : ℕ); exact e1
    | ⟨2, _⟩ => show j.val = 0 * 1024 + j.val; omega
  · refine iblk2_at m c t _ _ fun a => ?_
    rw [i2]
    match a with
    | ⟨0, _⟩ => show (z 0 : ℕ) = t.val / 8 * 1 + 0; omega
    | ⟨1, _⟩ => show (z 1 : ℕ) = t.val % 8 * 1024 + (y 1 : ℕ); exact e1
    | ⟨2, _⟩ => show j.val = 0 * 1024 + j.val; omega
  · refine iblk4_at m c t _ _ fun a => ?_
    rw [i4]
    match a with
    | ⟨0, _⟩ => show i.val = 0 * 1024 + i.val; omega
    | ⟨1, _⟩ => show j.val = 0 * 1024 + j.val; omega
  · refine iblk3_at m c t _ _ fun a => ?_
    rw [i3]
    match a with
    | ⟨0, _⟩ => show (z 0 : ℕ) = t.val / 8 * 1 + 0; omega
    | ⟨1, _⟩ => show (z 1 : ℕ) / 128 = t.val % 8 * 8 + (y 1 : ℕ) / 128; omega
    | ⟨2, _⟩ => show d.val = 0 * 256 + d.val; omega
    | ⟨3, _⟩ => show (z 1 : ℕ) % 128 = 0 * 128 + (y 1 : ℕ) % 128; omega
  · refine iblk5_at m c t _ _ fun a => ?_
    rw [i5]
    match a with
    | ⟨0, _⟩ => show i.val = 0 * 256 + i.val; omega
    | ⟨1, _⟩ => show j.val = 0 * 1024 + j.val; omega
  · refine iblk1_at m c t _ _ fun a => ?_
    rw [i1]
    match a with
    | ⟨0, _⟩ => show (z 0 : ℕ) = t.val / 8 * 1 + 0; omega
    | ⟨1, _⟩ => show 0 = 0 * 1 + 0; omega
    | ⟨2, _⟩ => show i.val = 0 * 6 + i.val; omega
    | ⟨3, _⟩ => show j.val = 0 * 1024 + j.val; omega
  · refine iblk6_at m c t _ _ fun a => ?_
    rw [i6]
    match a with
    | ⟨0, _⟩ => show i.val = 0 * 2 + i.val; omega
    | ⟨1, _⟩ => show j.val = 0 * 1024 + j.val; omega
  · refine iblk7_at m c t _ _ fun a => ?_
    rw [i7]
    match a with
    | ⟨0, _⟩ => show i.val = 0 * 2 + i.val; omega
    | ⟨1, _⟩ => show j.val = 0 * 1024 + j.val; omega
  · refine iblk8_at m c t _ _ fun a => ?_
    rw [i8]
    match a with
    | ⟨0, _⟩ => show i.val = 0 * 1024 + i.val; omega
    | ⟨1, _⟩ => show j.val = 0 * 4096 + j.val; omega
  · refine iblk9_at m c t _ _ fun a => ?_
    rw [i9]
    match a with
    | ⟨0, _⟩ => show i.val = 0 * 4096 + i.val; omega
    | ⟨1, _⟩ => show j.val = 0 * 1024 + j.val; omega

end Cert.PostOddIdeal.Post

end
-- ==== Proof.PostOddEntry.lean ====
module

public import proofs.«01_k».proof.Proof.Gen.PostOddIdeal.Value
public import Idealize.ShloMosaic.Lib.Pipeline.ValueKit
public import Idealize.ShloMosaic.Lib.Pointwise
public import Idealize.ShloMosaic.Lib.Claim
public import proofs.«01_k».proof.Proof.Layout

@[expose] public section

set_option maxRecDepth 16384

noncomputable section

open Idealize.ShloMosaic Idealize.ShloMosaic.TcCoe Idealize.SL.Sem
open Idealize.ShloMosaic.Pipeline (Dat)

namespace Cert.PostOddIdeal.Post

open Cert.PostOddIdeal Cert.PostOddIdeal.Gen

/-- The attention heads' weights, head by head. -/
def heads (w : FVec Ideal S1024x1024 .f32) : FVec Ideal S8x96x1024 .f32 :=
  shapeCast S8x96x1024 (extractStridedSlice S768x1024 ![0, 0] w slices_S1024x1024_S768x1024_0_0) shapeCasts_S768x1024_S8x96x1024

/-- Each head's 96 rows followed by 32 rows of zeros. -/
def padded (w : FVec Ideal S1024x1024 .f32) : FVec Ideal S8x128x1024 .f32 :=
  pad S8x128x1024 ![0, 0, 0] ![0, 32, 0] ![0, 0, 0] (heads w) (sitofp .f32 (constantI S_ 32 0#32)) pads_S8x96x1024_S8x128x1024_000_0320_000 h_S_

/-- The padded weights, a row per lane of the slots. -/
def wA (w : FVec Ideal S1024x1024 .f32) : FVec Ideal S1024x1024 .bf16 :=
  truncf .bf16 (shapeCast S1024x1024 (padded w) shapeCasts_S8x128x1024_S1024x1024) bitsLt_bf16_f32

/-- The other branch's weights, half by half. -/
def halves (w : FVec Ideal S1024x1024 .f32) : FVec Ideal S2x128x1024 .f32 :=
  shapeCast S2x128x1024 (extractStridedSlice S256x1024 ![768, 0] w slices_S1024x1024_S256x1024_768_0) shapeCasts_S256x1024_S2x128x1024

/-- The halves' rows in turns. -/
def inTurns (w : FVec Ideal S1024x1024 .f32) : FVec Ideal S128x2x1024 .f32 :=
  transpose S128x2x1024 [1, 0, 2] (halves w) transposes_S2x128x1024_S128x2x1024_1_0_2

/-- The other branch's weights in the slabs' channel order. -/
def wB (w : FVec Ideal S1024x1024 .f32) : FVec Ideal S256x1024 .bf16 :=
  truncf .bf16 (shapeCast S256x1024 (inTurns w) shapeCasts_S128x2x1024_S256x1024) bitsLt_bf16_f32

/-- The integer zero is the zero. -/
theorem zero_int : (sitofp .f32 (constantI S_ 32 0#32) : FVec Ideal S_ .f32) (Shape.Idx.first h_S_) = (0 : EReal) := by
  show ((((0#32 : BitVec 32).toInt : ℤ) : ℝ) : EReal) = 0
  simp

theorem rows768 (w : FVec Ideal S1024x1024 .f32) (n : Fin 768) (k : Fin 1024) :
    extractStridedSlice S768x1024 ![0, 0] w slices_S1024x1024_S768x1024_0_0 (ix2 n k) = w (ix2 ⟨n.val, by omega⟩ k) := by
  pointwise

theorem rows256 (w : FVec Ideal S1024x1024 .f32) (n : Fin 256) (k : Fin 1024) :
    extractStridedSlice S256x1024 ![768, 0] w slices_S1024x1024_S256x1024_768_0 (ix2 n k) = w (ix2 ⟨768 + n.val, by omega⟩ k) := by
  pointwise

theorem heads_at (w : FVec Ideal S1024x1024 .f32) (h : Fin 8) (d : Fin 96) (k : Fin 1024) :
    heads w (ix3 h d k) = w (ix2 ⟨h.val * 96 + d.val, by omega⟩ k) := by
  unfold heads
  exact (Cert.Layout.split_first (H := 8) (D := 96) (K := 1024) (N := 768) _ _ (by norm_num) h d k ⟨h.val * 96 + d.val, by omega⟩ rfl).trans (rows768 w _ _)

theorem padded_at (w : FVec Ideal S1024x1024 .f32) (h : Fin 8) (d : Fin 128) (k : Fin 1024) :
    padded w (ix3 h d k) = if hd : d.val < 96 then (heads w (ix3 h ⟨d.val, hd⟩ k) : EReal) else 0 := by
  pointwise [padded, zero_int]

theorem wA_at (w : FVec Ideal S1024x1024 .f32) (h : Fin 8) (d : Fin 128) (k n : Fin 1024) (hn : n.val = h.val * 128 + d.val) :
    wA w (ix2 n k) = if hd : d.val < 96 then (w (ix2 ⟨h.val * 96 + d.val, by omega⟩ k) : EReal) else 0 := by
  have e : wA w (ix2 n k) = padded w (ix3 h d k) := by
    unfold wA
    exact Cert.Layout.merge_first (H := 8) (D := 128) (K := 1024) (N := 1024) (padded w) shapeCasts_S8x128x1024_S1024x1024 (by norm_num) h d k n hn
  rw [e, padded_at]
  by_cases hd : d.val < 96
  · rw [dif_pos hd, dif_pos hd, heads_at]
  · rw [dif_neg hd, dif_neg hd]

theorem halves_at (w : FVec Ideal S1024x1024 .f32) (h : Fin 2) (p : Fin 128) (k : Fin 1024) :
    halves w (ix3 h p k) = w (ix2 ⟨768 + (h.val * 128 + p.val), by omega⟩ k) := by
  unfold halves
  exact (Cert.Layout.split_first (H := 2) (D := 128) (K := 1024) (N := 256) _ _ (by norm_num) h p k ⟨h.val * 128 + p.val, by omega⟩ rfl).trans (rows256 w _ _)

theorem inTurns_at (w : FVec Ideal S1024x1024 .f32) (p : Fin 128) (h : Fin 2) (k : Fin 1024) :
    inTurns w (ix3 p h k) = halves w (ix3 h p k) := by
  pointwise [inTurns]

theorem wB_at (w : FVec Ideal S1024x1024 .f32) (p : Fin 128) (h : Fin 2) (k : Fin 1024) (n : Fin 256) (hn : n.val = p.val * 2 + h.val) :
    wB w (ix2 n k) = w (ix2 ⟨768 + (h.val * 128 + p.val), by omega⟩ k) := by
  have e : wB w (ix2 n k) = inTurns w (ix3 p h k) := by
    unfold wB
    exact Cert.Layout.merge_first (H := 128) (D := 2) (K := 1024) (N := 256) (inTurns w) shapeCasts_S128x2x1024_S256x1024 (by norm_num) p h k n hn
  rw [e, inTurns_at, halves_at]

variable (m : (ℓ : Loc nD τ sig) → Buf (Elt Ideal) ℓ)

theorem V4 (c : Dev nD) : V m c main_v4 = wA (m ((c : Thread nD τ).loc main_arg4)) := by
  unfold V
  simp only [hostOps0, hostOps0_1, hostOps0_2, List.flatten_cons, List.flatten_nil, List.append_nil, List.cons_append, List.nil_append]
  after_results; rfl

theorem V9 (c : Dev nD) : V m c main_v9 = (truncf .bf16 (m ((c : Thread nD τ).loc main_arg2) : FVec Ideal S4x8192x1024 .f32) bitsLt_bf16_f32 : FVec Ideal S4x8192x1024 .bf16) := by
  unfold V
  simp only [hostOps0, hostOps0_1, hostOps0_2, List.flatten_cons, List.flatten_nil, List.append_nil, List.cons_append, List.nil_append]
  after_results

theorem V10 (c : Dev nD) : V m c main_v10 = wB (m ((c : Thread nD τ).loc main_arg4)) := by
  unfold V
  simp only [hostOps0, hostOps0_1, hostOps0_2, List.flatten_cons, List.flatten_nil, List.append_nil, List.cons_append, List.nil_append]
  after_results; rfl

theorem V11 (c : Dev nD) : V m c main_v11 = (truncf .bf16 (m ((c : Thread nD τ).loc main_arg7) : FVec Ideal S1024x4096 .f32) bitsLt_bf16_f32 : FVec Ideal S1024x4096 .bf16) := by
  unfold V
  simp only [hostOps0, hostOps0_1, hostOps0_2, List.flatten_cons, List.flatten_nil, List.append_nil, List.cons_append, List.nil_append]
  after_results

theorem V12 (c : Dev nD) : V m c main_v12 = (truncf .bf16 (m ((c : Thread nD τ).loc main_arg8) : FVec Ideal S4096x1024 .f32) bitsLt_bf16_f32 : FVec Ideal S4096x1024 .bf16) := by
  unfold V
  simp only [hostOps0, hostOps0_1, hostOps0_2, List.flatten_cons, List.flatten_nil, List.append_nil, List.cons_append, List.nil_append]
  after_results

end Cert.PostOddIdeal.Post

end
-- ==== Proof.PostOddRef.lean ====
module

public import proofs.«01_k».proof.Proof.Gen.PostOddRefIdeal.Run
public import Idealize.ShloMosaic.Lib.Pipeline.ValueKit
public import Idealize.ShloMosaic.Lib.Pointwise
public import Idealize.ShloMosaic.Lib.Claim
public import proofs.«01_k».proof.Proof.Layout
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.PostOddRefIdeal.Post

open Cert.PostOddRefIdeal Cert.PostOddRefIdeal.Gen

/-- The means of the rows. -/
def meanV (v : FVec Ideal S4x8192x1024 .f32) : FVec Ideal S4x8192x1 .f32 :=
  Host.divf (broadcastInDim S4x8192x1 ![0, 1] bcast_S4x8192_S4x8192x1_0_1 (Host.reduceAdd v (constant S_ .f32 0x00000000#32) reducesTo_S4x8192x1024_S4x8192_d2 h_S_)) (broadcastInDim S4x8192x1 ![] bcast_S_S4x8192x1 (constant S_ .f32 0x44800000#32))

/-- Rows less their means. -/
def cen (v : FVec Ideal S4x8192x1024 .f32) : FVec Ideal S4x8192x1024 .f32 :=
  subf v (broadcastInDim S4x8192x1024 ![0, 1, 2] bcast_S4x8192x1_S4x8192x1024_0_1_2 (meanV v))

/-- Rows less their means, over their standard deviations. -/
def normV (v : FVec Ideal S4x8192x1024 .f32) : FVec Ideal S4x8192x1024 .f32 :=
  mulf (cen v) (broadcastInDim S4x8192x1024 ![0, 1, 2] bcast_S4x8192x1_S4x8192x1024_0_1_2 (Host.rsqrt (addf (meanV (mulf (cen v) (cen v)))
    (broadcastInDim S4x8192x1 ![] bcast_S_S4x8192x1 (constant S_ .f32 0x3727C5AC#32)))))

/-- A row of a table of two, for every token. -/
def row0 (g : FVec Ideal S2x1024 .f32) : FVec Ideal S4x8192x1024 .f32 :=
  broadcastInDim S4x8192x1024 ![0, 1, 2] bcast_S1x1x1024_S4x8192x1024_0_1_2 (broadcastInDim S1x1x1024 ![2] bcast_S1024_S1x1x1024_2 (shapeCast S1024 (extractStridedSlice S1x1024 ![0, 0] g slices_S2x1024_S1x1024_0_0) shapeCasts_S1x1024_S1024))

/-- The other row. -/
def row1 (g : FVec Ideal S2x1024 .f32) : FVec Ideal S4x8192x1024 .f32 :=
  broadcastInDim S4x8192x1024 ![0, 1, 2] bcast_S1x1x1024_S4x8192x1024_0_1_2 (broadcastInDim S1x1x1024 ![2] bcast_S1024_S1x1x1024_2 (shapeCast S1024 (extractStridedSlice S1x1024 ![1, 0] g slices_S2x1024_S1x1024_1_0) shapeCasts_S1x1024_S1024))

/-- The layer's modulation vectors. -/
def mods (m : FVec Ideal S4x2x6x1024 .f32) : FVec Ideal S4x6x1024 .f32 :=
  shapeCast S4x6x1024 (extractStridedSlice S4x1x6x1024 ![0, 0, 0, 0] m slices_S4x2x6x1024_S4x1x6x1024_0_0_0_0) shapeCasts_S4x1x6x1024_S4x6x1024

/-- The mixer's residual. -/
def res1 (m : FVec Ideal S4x6x1024 .f32) (x y : FVec Ideal S4x8192x1024 .f32) : FVec Ideal S4x8192x1024 .f32 :=
  addf (mulf (broadcastInDim S4x8192x1024 ![] bcast_S_S4x8192x1024 (constant S_ .f32 0x3FB504F3#32)) x)
    (mulf (broadcastInDim S4x8192x1024 ![0, 1, 2] bcast_S4x1x1024_S4x8192x1024_0_1_2 (extractStridedSlice S4x1x1024 ![0, 2, 0] m slices_S4x6x1024_S4x1x1024_0_2_0)) y)

/-- The channel mixer's residual. -/
def res2 (m : FVec Ideal S4x6x1024 .f32) (x y : FVec Ideal S4x8192x1024 .f32) : FVec Ideal S4x8192x1024 .f32 :=
  addf (mulf (broadcastInDim S4x8192x1024 ![] bcast_S_S4x8192x1024 (constant S_ .f32 0x3FB504F3#32)) x)
    (mulf (broadcastInDim S4x8192x1024 ![0, 1, 2] bcast_S4x1x1024_S4x8192x1024_0_1_2 (extractStridedSlice S4x1x1024 ![0, 5, 0] m slices_S4x6x1024_S4x1x1024_0_5_0)) y)

/-- The modulated rows. -/
def modV (m : FVec Ideal S4x6x1024 .f32) (v : FVec Ideal S4x8192x1024 .f32) : FVec Ideal S4x8192x1024 .f32 :=
  addf (mulf v (broadcastInDim S4x8192x1024 ![0, 1, 2] bcast_S4x1x1024_S4x8192x1024_0_1_2 (addf (broadcastInDim S4x1x1024 ![] bcast_S_S4x1x1024 (constant S_ .f32 0x3F800000#32)) (extractStridedSlice S4x1x1024 ![0, 4, 0] m slices_S4x6x1024_S4x1x1024_0_4_0))))
    (broadcastInDim S4x8192x1024 ![0, 1, 2] bcast_S4x1x1024_S4x8192x1024_0_1_2 (extractStridedSlice S4x1x1024 ![0, 3, 0] m slices_S4x6x1024_S4x1x1024_0_3_0))

/-- The hidden units, cut at zero. -/
def hid (h : FVec Ideal S4x8192x1024 .f32) (w : FVec Ideal S1024x4096 .f32) : FVec Ideal S4x8192x4096 .f32 :=
  maximumf (Host.dotGeneral dot_S4x8192x1024_S1024x4096_S4x8192x4096_2_0_01_1_n_n none h w) (broadcastInDim S4x8192x4096 ![] bcast_S_S4x8192x4096 (constant S_ .f32 0x00000000#32))

/-- The channel mixer. -/
def mlpV (h : FVec Ideal S4x8192x1024 .f32) (w : FVec Ideal S1024x4096 .f32) (u : FVec Ideal S4096x1024 .f32) : FVec Ideal S4x8192x1024 .f32 :=
  Host.dotGeneral dot_S4x8192x4096_S4096x1024_S4x8192x1024_2_0_01_1_n_n none (mulf (hid h w) (hid h w)) u

/-- The heads without their fillers, side by side. -/
def mla (o : FVec Ideal S4x8192x1024 .f32) : FVec Ideal S4x8192x768 .f32 :=
  shapeCast S4x8192x768 (extractStridedSlice S4x8192x8x96 ![0, 0, 0, 0] (shapeCast S4x8192x8x128 o shapeCasts_S4x8192x1024_S4x8192x8x128) slices_S4x8192x8x128_S4x8192x8x96_0_0_0_0) shapeCasts_S4x8192x8x96_S4x8192x768

/-- The slabs as tokens by channels, one half of the channels after the other. -/
def fnet (y : FVec Ideal S4x64x256x128 .f32) : FVec Ideal S4x8192x256 .f32 :=
  shapeCast S4x8192x256 (transpose S4x64x128x2x128 [0, 1, 4, 3, 2] (shapeCast S4x64x128x2x128 y shapeCasts_S4x64x256x128_S4x64x128x2x128) transposes_S4x64x128x2x128_S4x64x128x2x128_0_1_4_3_2) shapeCasts_S4x64x128x2x128_S4x8192x256

/-- Both branches side by side. -/
def cat (p : FVec Ideal S4x8192x768 .f32) (q : FVec Ideal S4x8192x256 .f32) : FVec Ideal S4x8192x1024 .f32 :=
  concatenate S4x8192x1024 2 [⟨S4x8192x768, p⟩, ⟨S4x8192x256, q⟩] concatenates_S4x8192x768_S4x8192x256_S4x8192x1024_d2

/-- The output projection. -/
def proj (y : FVec Ideal S4x8192x1024 .f32) (w : FVec Ideal S1024x1024 .f32) : FVec Ideal S4x8192x1024 .f32 :=
  Host.dotGeneral dot_S4x8192x1024_S1024x1024_S4x8192x1024_2_0_01_1_n_n none y w

/-- The first half: residual and norm. -/
def head (x : FVec Ideal S4x8192x1024 .f32) (m : FVec Ideal S4x6x1024 .f32) (y : FVec Ideal S4x8192x1024 .f32) (lg lb : FVec Ideal S2x1024 .f32) : FVec Ideal S4x8192x1024 .f32 :=
  addf (mulf (normV (res1 m x y)) (row0 lg)) (row0 lb)

/-- The second half. -/
def tail (x1 : FVec Ideal S4x8192x1024 .f32) (m : FVec Ideal S4x6x1024 .f32) (lg lb : FVec Ideal S2x1024 .f32)
    (w : FVec Ideal S1024x4096 .f32) (u : FVec Ideal S4096x1024 .f32) : FVec Ideal S4x8192x1024 .f32 :=
  addf (mulf (normV (res2 m x1 (mlpV (modV m (normV x1)) w u))) (row1 lg)) (row1 lb)

/-- The reference's result. -/
def post (x : FVec Ideal S4x8192x1024 .f32) (mt : FVec Ideal S4x2x6x1024 .f32) (o : FVec Ideal S4x8192x1024 .f32) (y : FVec Ideal S4x64x256x128 .f32)
    (wo : FVec Ideal S1024x1024 .f32) (lg lb : FVec Ideal S2x1024 .f32) (w : FVec Ideal S1024x4096 .f32) (u : FVec Ideal S4096x1024 .f32) : FVec Ideal S4x8192x1024 .f32 :=
  tail (head x (mods mt) (proj (cat (mla o) (fnet y)) wo) lg lb) (mods mt) lg lb w u

section entries
open Cert.Rows

theorem ofBits_zero : Ideal.ofBits .f32 0x00000000#32 = (0 : EReal) := by
  simp [Ideal.ofBits, Ideal.ieee]

theorem meanV_at (v : FVec Ideal S4x8192x1024 .f32) (b : Fin 4) (t : Fin 8192) (z : Fin 1) :
    meanV v (ix3 b t z) = mean (fun j => v (ix3 b t j)) := by
  pointwise [meanV, mean]

theorem cen_at (v : FVec Ideal S4x8192x1024 .f32) (b : Fin 4) (t : Fin 8192) (k : Fin 1024) :
    cen v (ix3 b t k) = (v (ix3 b t k) : EReal) - mean (fun j => v (ix3 b t j)) := by
  pointwise [cen, meanV_at]

theorem normV_at (v : FVec Ideal S4x8192x1024 .f32) (b : Fin 4) (t : Fin 8192) (k : Fin 1024) :
    normV v (ix3 b t k) = Rows.norm (fun j => v (ix3 b t j)) k := by
  pointwise [normV, Rows.norm, meanV_at, cen_at]

theorem row0_at (g : FVec Ideal S2x1024 .f32) (b : Fin 4) (t : Fin 8192) (k : Fin 1024) : row0 g (ix3 b t k) = g (ix2 0 k) := by
  pointwise [row0]

theorem row1_at (g : FVec Ideal S2x1024 .f32) (b : Fin 4) (t : Fin 8192) (k : Fin 1024) : row1 g (ix3 b t k) = g (ix2 1 k) := by
  pointwise [row1]

theorem mods_at (m : FVec Ideal S4x2x6x1024 .f32) (b : Fin 4) (a : Fin 6) (k : Fin 1024) : mods m (ix3 b a k) = m (ix4 b 0 a k) := by
  pointwise [mods]

theorem res1_at (m : FVec Ideal S4x6x1024 .f32) (x y : FVec Ideal S4x8192x1024 .f32) (b : Fin 4) (t : Fin 8192) (k : Fin 1024) :
    res1 m x y (ix3 b t k) = resid (fun j => x (ix3 b t j)) (fun j => m (ix3 b 2 j)) (fun j => y (ix3 b t j)) k := by
  pointwise [res1, resid]

theorem res2_at (m : FVec Ideal S4x6x1024 .f32) (x y : FVec Ideal S4x8192x1024 .f32) (b : Fin 4) (t : Fin 8192) (k : Fin 1024) :
    res2 m x y (ix3 b t k) = resid (fun j => x (ix3 b t j)) (fun j => m (ix3 b 5 j)) (fun j => y (ix3 b t j)) k := by
  pointwise [res2, resid]

theorem modV_at (m : FVec Ideal S4x6x1024 .f32) (v : FVec Ideal S4x8192x1024 .f32) (b : Fin 4) (t : Fin 8192) (k : Fin 1024) :
    modV m v (ix3 b t k) = modulate (fun j => v (ix3 b t j)) (fun j => m (ix3 b 3 j)) (fun j => m (ix3 b 4 j)) k := by
  pointwise [modV, modulate]

theorem hid_at (h : FVec Ideal S4x8192x1024 .f32) (w : FVec Ideal S1024x4096 .f32) (b : Fin 4) (t : Fin 8192) (k : Fin 4096) :
    hid h w (ix3 b t k) = Rows.hidden (fun j => h (ix3 b t j)) (fun i j => w (ix2 i j)) k := by
  pointwise [hid, Rows.hidden, ofBits_zero]

theorem mlpV_at (h : FVec Ideal S4x8192x1024 .f32) (w : FVec Ideal S1024x4096 .f32) (u : FVec Ideal S4096x1024 .f32) (b : Fin 4) (t : Fin 8192) (k : Fin 1024) :
    mlpV h w u (ix3 b t k) = mlp (fun j => h (ix3 b t j)) (fun i j => w (ix2 i j)) (fun i j => u (ix2 i j)) k := by
  pointwise [mlpV, mlp, hid_at]

theorem proj_at (y : FVec Ideal S4x8192x1024 .f32) (w : FVec Ideal S1024x1024 .f32) (b : Fin 4) (t : Fin 8192) (k : Fin 1024) :
    proj y w (ix3 b t k) = ∑ n : Fin 1024, (y (ix3 b t n) : EReal) * w (ix2 n k) := by
  pointwise [proj]

theorem cat_at (p : FVec Ideal S4x8192x768 .f32) (q : FVec Ideal S4x8192x256 .f32) (b : Fin 4) (t : Fin 8192) (n : Fin 1024) :
    cat p q (ix3 b t n) = if h : n.val < 768 then (p (ix3 b t ⟨n.val, h⟩) : EReal) else q (ix3 b t ⟨n.val - 768, by omega⟩) := by
  pointwise [cat]

theorem mla_at (o : FVec Ideal S4x8192x1024 .f32) (b : Fin 4) (t : Fin 8192) (h : Fin 8) (d : Fin 96) (n : Fin 768) (hn : n.val = h.val * 96 + d.val) :
    mla o (ix3 b t n) = o (ix3 b t ⟨h.val * 128 + d.val, by omega⟩) := by
  have e (Y : FVec Ideal S4x8192x8x128 .f32) : extractStridedSlice S4x8192x8x96 ![0, 0, 0, 0] Y slices_S4x8192x8x128_S4x8192x8x96_0_0_0_0 (ix4 b t h d)
      = Y (ix4 b t h ⟨d.val, by omega⟩) := by pointwise
  unfold mla
  refine (Cert.Layout.merge_last (B := 4) (T := 8192) (H := 8) (D := 96) (N := 768) _ _ (by norm_num) b t h d n hn).trans ((e _).trans ?_)
  exact Cert.Layout.split_last (B := 4) (T := 8192) (H := 8) (D := 128) (N := 1024) o shapeCasts_S4x8192x1024_S4x8192x8x128 (by norm_num) b t h ⟨d.val, by omega⟩ ⟨h.val * 128 + d.val, by omega⟩ rfl

theorem fnet_at (y : FVec Ideal S4x64x256x128 .f32) (b : Fin 4) (s : Fin 64) (l : Fin 128) (h : Fin 2) (p : Fin 128) (t : Fin 8192) (n : Fin 256)
    (ht : t.val = s.val * 128 + l.val) (hn : n.val = h.val * 128 + p.val) :
    fnet y (ix3 b t n) = y (ix4 b s ⟨p.val * 2 + h.val, by omega⟩ l) := by
  have e (Y : FVec Ideal S4x64x128x2x128 .f32) : transpose S4x64x128x2x128 [0, 1, 4, 3, 2] Y transposes_S4x64x128x2x128_S4x64x128x2x128_0_1_4_3_2 (ix5 b s l h p)
      = Y (ix5 b s p h l) := by pointwise
  unfold fnet
  refine (Cert.Layout.merge_pairs (B := 4) (A := 64) (P := 128) (H := 2) (D := 128) (T := 8192) (N := 256) _ _ (by norm_num) (by norm_num) b s l h p t n ht hn).trans ((e _).trans ?_)
  exact Cert.Layout.split_third (B := 4) (A := 64) (H := 128) (D := 2) (L := 128) (N := 256) y shapeCasts_S4x64x256x128_S4x64x128x2x128 (by norm_num) b s p h l ⟨p.val * 2 + h.val, by omega⟩ rfl

theorem head_at (x : FVec Ideal S4x8192x1024 .f32) (m : FVec Ideal S4x6x1024 .f32) (y : FVec Ideal S4x8192x1024 .f32) (lg lb : FVec Ideal S2x1024 .f32)
    (b : Fin 4) (t : Fin 8192) (k : Fin 1024) :
    head x m y lg lb (ix3 b t k) = first (fun j => x (ix3 b t j)) (fun j => y (ix3 b t j)) (fun j => m (ix3 b 2 j)) (fun j => lg (ix2 0 j)) (fun j => lb (ix2 0 j)) k := by
  show (normV (res1 m x y) (ix3 b t k) : EReal) * row0 lg (ix3 b t k) + row0 lb (ix3 b t k) = _
  rw [normV_at, row0_at, row0_at]
  simp only [res1_at]
  rfl

theorem tail_at (x1 : FVec Ideal S4x8192x1024 .f32) (m : FVec Ideal S4x6x1024 .f32) (lg lb : FVec Ideal S2x1024 .f32)
    (w : FVec Ideal S1024x4096 .f32) (u : FVec Ideal S4096x1024 .f32) (b : Fin 4) (t : Fin 8192) (k : Fin 1024) :
    tail x1 m lg lb w u (ix3 b t k) = second (fun h => mlp h (fun i j => w (ix2 i j)) (fun i j => u (ix2 i j))) (fun j => x1 (ix3 b t j))
      (fun j => m (ix3 b 3 j)) (fun j => m (ix3 b 4 j)) (fun j => m (ix3 b 5 j)) (fun j => lg (ix2 1 j)) (fun j => lb (ix2 1 j)) k := by
  show (normV (res2 m x1 (mlpV (modV m (normV x1)) w u)) (ix3 b t k) : EReal) * row1 lg (ix3 b t k) + row1 lb (ix3 b t k) = _
  rw [normV_at, row1_at, row1_at]
  simp only [res2_at, mlpV_at, modV_at, normV_at]
  rfl

/-- The reference's result, entry by entry. -/
theorem post_at (x : FVec Ideal S4x8192x1024 .f32) (mt : FVec Ideal S4x2x6x1024 .f32) (o : FVec Ideal S4x8192x1024 .f32) (y : FVec Ideal S4x64x256x128 .f32)
    (wo : FVec Ideal S1024x1024 .f32) (lg lb : FVec Ideal S2x1024 .f32) (w : FVec Ideal S1024x4096 .f32) (u : FVec Ideal S4096x1024 .f32) (b : Fin 4) (t : Fin 8192) (k : Fin 1024) :
    post x mt o y wo lg lb w u (ix3 b t k)
      = second (fun h => mlp h (fun i j => w (ix2 i j)) (fun i j => u (ix2 i j)))
          (first (fun j => x (ix3 b t j)) (fun j => ∑ n : Fin 1024, (cat (mla o) (fnet y) (ix3 b t n) : EReal) * wo (ix2 n j))
            (fun j => mt (ix4 b 0 2 j)) (fun j => lg (ix2 0 j)) (fun j => lb (ix2 0 j)))
          (fun j => mt (ix4 b 0 3 j)) (fun j => mt (ix4 b 0 4 j)) (fun j => mt (ix4 b 0 5 j)) (fun j => lg (ix2 1 j)) (fun j => lb (ix2 1 j)) k := by
  unfold post
  rw [tail_at]
  simp only [head_at, proj_at, mods_at]

end entries

end Cert.PostOddRefIdeal.Post

end
-- ==== Proof.PostOdd.lean ====
module

public import proofs.«01_k».proof.Proof.PostOddPure
public import proofs.«01_k».proof.Proof.PostOddEntry
public import proofs.«01_k».proof.Proof.PostOddRef

@[expose] public section

set_option maxRecDepth 16384

noncomputable section

open Idealize.ShloMosaic Idealize.ShloMosaic.TcCoe Idealize.SL.Sem

namespace Cert.PostOddEq

open Cert.PostOddIdeal (S4x8192x1024 S4x2x6x1024 S4x64x256x128 S1024x1024 S256x1024 S2x1024 S1024x4096 S4096x1024)
open Cert.PostOddIdeal.Gen (bitsLt_bf16_f32)
open Cert.PostOddIdeal.Post (rowOut postArr wA wB wA_at wB_at)
open Cert.PostOddRefIdeal.Post (post post_at cat mla fnet cat_at mla_at fnet_at)

/-- A sum over padded lanes is the sum over the lanes that hold something. -/
theorem padded_sum (a w : Fin 1024 → EReal) (g : Fin 768 → EReal)
    (h1 : ∀ (h : Fin 8) (d : Fin 96), a ⟨h.val * 128 + d.val, by omega⟩ * w ⟨h.val * 128 + d.val, by omega⟩ = g ⟨h.val * 96 + d.val, by omega⟩)
    (h2 : ∀ (h : Fin 8) (d : Fin 128), ¬ d.val < 96 → w ⟨h.val * 128 + d.val, by omega⟩ = 0) :
    ∑ i, a i * w i = ∑ n, g n := by
  rw [Cert.Layout.sum_prod (H := 8) (D := 128) (N := 1024) (by norm_num), Cert.Layout.sum_prod (H := 8) (D := 96) (N := 768) (by norm_num)]
  refine Finset.sum_congr rfl fun h _ => ?_
  rw [Cert.Softmax.sum_split (a := 96) (b := 32) (n := 128) (by norm_num)]
  rw [Finset.sum_congr rfl fun (d : Fin 96) _ => h1 h d,
    Finset.sum_congr rfl fun (d : Fin 32) _ => show _ = (0 : EReal) by
      rw [h2 h ⟨96 + d.val, by omega⟩ (by show ¬ 96 + d.val < 96; omega), mul_zero]]
  simp

/-- A sum over channels taken in turns from two halves is the sum over the halves. -/
theorem turns_sum (s w g : Fin 256 → EReal)
    (h : ∀ (p : Fin 128) (h : Fin 2), s ⟨p.val * 2 + h.val, by omega⟩ * w ⟨p.val * 2 + h.val, by omega⟩ = g ⟨h.val * 128 + p.val, by omega⟩) :
    ∑ i, s i * w i = ∑ n, g n := by
  rw [Cert.Layout.sum_prod (H := 128) (D := 2) (N := 256) (by norm_num), Cert.Layout.sum_prod (H := 2) (D := 128) (N := 256) (by norm_num),
    Finset.sum_comm]
  exact Finset.sum_congr rfl fun c _ => Finset.sum_congr rfl fun p _ => h p c

/-- The projection of one token: the branches' products added are the product of the joined branches. -/
theorem proj_eq (o : FVec Ideal S4x8192x1024 .f32) (y : FVec Ideal S4x64x256x128 .f32) (wo : FVec Ideal S1024x1024 .f32) (b : Fin 4) (t : Fin 8192) (j : Fin 1024) :
    ∑ n : Fin 1024, (cat (mla o) (fnet y) (ix3 b t n) : EReal) * wo (ix2 n j)
      = ∑ i : Fin 1024, (o (ix3 b t i) : EReal) * wA wo (ix2 i j)
        + ∑ i : Fin 256, (y (ix4 b ⟨t.val / 128, by omega⟩ i ⟨t.val % 128, by omega⟩) : EReal) * wB wo (ix2 i j) := by
  rw [Cert.Softmax.sum_split (a := 768) (b := 256) (n := 1024) (by norm_num)]
  refine congrArg₂ (fun p q : EReal => p + q) (padded_sum _ _ _ (fun h d => ?_) (fun h d hd => ?_)).symm (turns_sum _ _ _ fun p h => ?_).symm
  · rw [wA_at wo h ⟨d.val, by omega⟩ j ⟨h.val * 128 + d.val, by omega⟩ rfl, dif_pos d.isLt, cat_at]
    rw [dif_pos (show (⟨(⟨h.val * 96 + d.val, by omega⟩ : Fin 768).val, by omega⟩ : Fin 1024).val < 768 by show h.val * 96 + d.val < 768; omega)]
    rw [mla_at o b t h d _ rfl]
  · rw [wA_at wo h d j _ rfl, dif_neg hd]
  · rw [wB_at wo p h j ⟨p.val * 2 + h.val, by omega⟩ rfl, cat_at]
    rw [dif_neg (show ¬ (⟨768 + (⟨h.val * 128 + p.val, by omega⟩ : Fin 256).val, by omega⟩ : Fin 1024).val < 768 by show ¬ 768 + (h.val * 128 + p.val) < 768; omega)]
    rw [fnet_at y b ⟨t.val / 128, by omega⟩ ⟨t.val % 128, by omega⟩ h p t _ (by show t.val = t.val / 128 * 128 + t.val % 128; omega)
      (by show 768 + (h.val * 128 + p.val) - 768 = h.val * 128 + p.val; omega)]

theorem post_entry (x : FVec Ideal S4x8192x1024 .f32) (mt : FVec Ideal S4x2x6x1024 .f32) (o : FVec Ideal S4x8192x1024 .f32) (y : FVec Ideal S4x64x256x128 .f32)
    (wo : FVec Ideal S1024x1024 .f32) (lg lb : FVec Ideal S2x1024 .f32) (w : FVec Ideal S1024x4096 .f32) (u : FVec Ideal S4096x1024 .f32)
    (b : Fin 4) (t : Fin 8192) (k : Fin 1024) :
    post x mt o y wo lg lb w u (ix3 b t k)
      = postArr x mt (truncf .bf16 o bitsLt_bf16_f32) y (wA wo) (wB wo) lg lb (truncf .bf16 w bitsLt_bf16_f32) (truncf .bf16 u bitsLt_bf16_f32) (ix3 b t k) := by
  rw [post_at]
  simp only [proj_eq]
  unfold postArr rowOut
  simp only [Cert.Rows.mlp4_eq]
  rfl

/-- The reference's result is the array the call leaves. -/
theorem post_eq (x : FVec Ideal S4x8192x1024 .f32) (mt : FVec Ideal S4x2x6x1024 .f32) (o : FVec Ideal S4x8192x1024 .f32) (y : FVec Ideal S4x64x256x128 .f32)
    (wo : FVec Ideal S1024x1024 .f32) (lg lb : FVec Ideal S2x1024 .f32) (w : FVec Ideal S1024x4096 .f32) (u : FVec Ideal S4096x1024 .f32) :
    post x mt o y wo lg lb w u
      = postArr x mt (truncf .bf16 o bitsLt_bf16_f32) y (wA wo) (wB wo) lg lb (truncf .bf16 w bitsLt_bf16_f32) (truncf .bf16 u bitsLt_bf16_f32) := by
  funext j
  idx_vars j
  exact post_entry _ _ _ _ _ _ _ _ _ _ _ _

end Cert.PostOddEq

end
-- ==== Proof.PostEvenTile.lean ====
module

public import proofs.«01_k».proof.Proof.Gen.PostEvenIdeal.Frame
public import Idealize.ShloMosaic.Lib.Pipeline.ValueKit
public import Idealize.ShloMosaic.Lib.Pointwise
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.PostEvenIdeal.Post

open Cert.PostEvenIdeal Cert.PostEvenIdeal.Gen

/-- Rows less their means. -/
def cen (v : FVec Ideal S256x1024 .f32) : FVec Ideal S256x1024 .f32 :=
  subf v (broadcastTo S256x1024 (divf (shapeCast S256x1 (multiReduction .add [1] S256 v 0x00000000#32 reduces_S256x1024_S256 (.inl rfl) rfl) shapeCasts_S256_S256x1)
    (broadcast S256x1 (Scalar.ofBits .f32 0x44800000#32))) broadcasts_S256x1_S256x1024)

/-- Rows less their means, over their standard deviations. -/
def normV (v : FVec Ideal S256x1024 .f32) : FVec Ideal S256x1024 .f32 :=
  mulf (cen v) (broadcastTo S256x1024 (rsqrt (addf (divf (shapeCast S256x1 (multiReduction .add [1] S256 (mulf (cen v) (cen v)) 0x00000000#32 reduces_S256x1024_S256 (.inl rfl) rfl) shapeCasts_S256_S256x1)
    (broadcast S256x1 (Scalar.ofBits .f32 0x44800000#32))) (broadcast S256x1 (Scalar.ofBits .f32 0x3727C5AC#32)))) broadcasts_S256x1_S256x1024)

/-- The first norm's scale and shift. -/
def aff0 (g b : Vec Ideal S2x1024 .f32) (v : FVec Ideal S256x1024 .f32) : FVec Ideal S256x1024 .f32 :=
  addf (mulf v (broadcastTo S256x1024 (extractStridedSlice S1x1024 ![0, 0] g slices_S2x1024_o0_0_S1x1024) broadcasts_S1x1024_S256x1024))
    (broadcastTo S256x1024 (extractStridedSlice S1x1024 ![0, 0] b slices_S2x1024_o0_0_S1x1024) broadcasts_S1x1024_S256x1024)

/-- The second norm's scale and shift. -/
def aff1 (g b : Vec Ideal S2x1024 .f32) (v : FVec Ideal S256x1024 .f32) : FVec Ideal S256x1024 .f32 :=
  addf (mulf v (broadcastTo S256x1024 (extractStridedSlice S1x1024 ![1, 0] g slices_S2x1024_o1_0_S1x1024) broadcasts_S1x1024_S256x1024))
    (broadcastTo S256x1024 (extractStridedSlice S1x1024 ![1, 0] b slices_S2x1024_o1_0_S1x1024) broadcasts_S1x1024_S256x1024)

/-- The modulation vectors without their leading axes. -/
def mods (m : Vec Ideal S1x1x6x1024 .f32) : FVec Ideal S6x1024 .f32 := shapeCast S6x1024 m shapeCasts_S1x1x6x1024_S6x1024

/-- The mixer's residual. -/
def res1 (m : FVec Ideal S6x1024 .f32) (x y : FVec Ideal S256x1024 .f32) : FVec Ideal S256x1024 .f32 :=
  addf (mulf (broadcast S256x1024 (Scalar.ofBits .f32 0x3FB504F3#32)) x)
    (mulf (broadcastTo S256x1024 (extractStridedSlice S1x1024 ![2, 0] m slices_S6x1024_o2_0_S1x1024) broadcasts_S1x1024_S256x1024) y)

/-- The channel mixer's residual. -/
def res2 (m : FVec Ideal S6x1024 .f32) (x y : FVec Ideal S256x1024 .f32) : FVec Ideal S256x1024 .f32 :=
  addf (mulf (broadcast S256x1024 (Scalar.ofBits .f32 0x3FB504F3#32)) x)
    (mulf (broadcastTo S256x1024 (extractStridedSlice S1x1024 ![5, 0] m slices_S6x1024_o5_0_S1x1024) broadcasts_S1x1024_S256x1024) y)

/-- The modulated rows. -/
def modV (m : FVec Ideal S6x1024 .f32) (v : FVec Ideal S256x1024 .f32) : FVec Ideal S256x1024 .bf16 :=
  truncf .bf16 (addf (mulf v (broadcastTo S256x1024 (addf (broadcast S1x1024 (Scalar.ofBits .f32 0x3F800000#32)) (extractStridedSlice S1x1024 ![4, 0] m slices_S6x1024_o4_0_S1x1024)) broadcasts_S1x1024_S256x1024))
    (broadcastTo S256x1024 (extractStridedSlice S1x1024 ![3, 0] m slices_S6x1024_o3_0_S1x1024) broadcasts_S1x1024_S256x1024)) bitsLt_bf16_f32

/-- A group of hidden units, cut at zero. -/
def hid (h : FVec Ideal S256x1024 .bf16) (p : Vec Ideal S1024x1024 .bf16) : FVec Ideal S256x1024 .f32 :=
  maximumf (matmul dot_S256x1024_S1024x1024_S256x1024_1_0_0_1_n_n none h (shapeCast S1024x1024 p shapeCasts_S1024x1024_S1024x1024 : FVec Ideal S1024x1024 .bf16) (constant S256x1024 .f32 0x00000000#32))
    (broadcast S256x1024 (Scalar.ofBits .f32 0x00000000#32))

/-- A group's share of the channel mixer. -/
def chunk (h : FVec Ideal S256x1024 .bf16) (p q : Vec Ideal S1024x1024 .bf16) : FVec Ideal S256x1024 .f32 :=
  matmul dot_S256x1024_S1024x1024_S256x1024_1_0_0_1_n_n none (truncf .bf16 (mulf (hid h p) (hid h p)) bitsLt_bf16_f32)
    (shapeCast S1024x1024 q shapeCasts_S1024x1024_S1024x1024 : FVec Ideal S1024x1024 .bf16) (constant S256x1024 .f32 0x00000000#32)

/-- The four groups' sum. -/
def mlpV (h : FVec Ideal S256x1024 .bf16) (p0 q0 p1 q1 p2 q2 p3 q3 : Vec Ideal S1024x1024 .bf16) : FVec Ideal S256x1024 .f32 :=
  addf (addf (addf (chunk h p0 q0) (chunk h p1 q1)) (chunk h p2 q2)) (chunk h p3 q3)

/-- Two slabs of channels by tokens, as tokens by channels. -/
def slabs (s0 s1 : Vec Ideal S1x1x512x128 .f32) : FVec Ideal S256x512 .f32 :=
  concatenate S256x512 0 [⟨S128x512, transpose S128x512 [1, 0] (shapeCast S512x128 s0 shapeCasts_S1x1x512x128_S512x128 : FVec Ideal S512x128 .f32) transposes_S512x128_p1_0_S128x512⟩,
    ⟨S128x512, transpose S128x512 [1, 0] (shapeCast S512x128 s1 shapeCasts_S1x1x512x128_S512x128 : FVec Ideal S512x128 .f32) transposes_S512x128_p1_0_S128x512⟩] concatenates_S128x512_S128x512_S256x512_d0

/-- The output projection of the two mixers' rows. -/
def proj (a : Vec Ideal S1x256x512 .bf16) (wa : Vec Ideal S512x1024 .bf16) (s : FVec Ideal S256x512 .f32) (wb : Vec Ideal S512x1024 .bf16) : FVec Ideal S256x1024 .f32 :=
  addf (matmul dot_S256x512_S512x1024_S256x1024_1_0_0_1_n_n none (truncf .bf16 s bitsLt_bf16_f32)
      (shapeCast S512x1024 wa shapeCasts_S512x1024_S512x1024 : FVec Ideal S512x1024 .bf16) (constant S256x1024 .f32 0x00000000#32))
    (matmul dot_S256x512_S512x1024_S256x1024_1_0_0_1_n_n none (shapeCast S256x512 a shapeCasts_S1x256x512_S256x512 : FVec Ideal S256x512 .bf16)
      (shapeCast S512x1024 wb shapeCasts_S512x1024_S512x1024 : FVec Ideal S512x1024 .bf16) (constant S256x1024 .f32 0x00000000#32))

/-- The rows after the mixer's norm. -/
def head (m : Vec Ideal S1x1x6x1024 .f32) (lg lb : Vec Ideal S2x1024 .f32) (x : Vec Ideal S1x256x1024 .f32) (y : FVec Ideal S256x1024 .f32) : FVec Ideal S256x1024 .f32 :=
  aff0 lg lb (normV (res1 (mods m) (shapeCast S256x1024 x shapeCasts_S1x256x1024_S256x1024 : FVec Ideal S256x1024 .f32) y))

/-- The rows after the channel mixer's norm. -/
def tail (m : Vec Ideal S1x1x6x1024 .f32) (lg lb : Vec Ideal S2x1024 .f32) (x1 : FVec Ideal S256x1024 .f32)
    (p0 q0 p1 q1 p2 q2 p3 q3 : Vec Ideal S1024x1024 .bf16) : FVec Ideal S1x256x1024 .f32 :=
  shapeCast S1x256x1024 (aff1 lg lb (normV (res2 (mods m) x1 (mlpV (modV (mods m) (normV x1)) p0 q0 p1 q1 p2 q2 p3 q3)))) shapeCasts_S256x1024_S1x256x1024

/-- What is stored for 256 rows. -/
def tile (m : Vec Ideal S1x1x6x1024 .f32) (lg lb : Vec Ideal S2x1024 .f32) (x : Vec Ideal S1x256x1024 .f32)
    (a : Vec Ideal S1x256x512 .bf16) (wa : Vec Ideal S512x1024 .bf16) (s0 s1 : Vec Ideal S1x1x512x128 .f32) (wb : Vec Ideal S512x1024 .bf16)
    (p0 q0 p1 q1 p2 q2 p3 q3 : Vec Ideal S1024x1024 .bf16) : FVec Ideal S1x256x1024 .f32 :=
  tail m lg lb (head m lg lb x (proj a wa (slabs s0 s1) wb)) p0 q0 p1 q1 p2 q2 p3 q3

section entries
open Cert.Rows

theorem ofBits_zero : Ideal.ofBits .f32 0x00000000#32 = (0 : EReal) := by
  simp [Ideal.ofBits, Ideal.ieee]

theorem cen_at (v : FVec Ideal S256x1024 .f32) (r : Fin 256) (k : Fin 1024) :
    cen v (ix2 r k) = (v (ix2 r k) : EReal) - mean (fun j => v (ix2 r j)) := by
  pointwise [cen, mean]

theorem normV_at (v : FVec Ideal S256x1024 .f32) (r : Fin 256) (k : Fin 1024) :
    normV v (ix2 r k) = Rows.norm (fun j => v (ix2 r j)) k := by
  pointwise [normV, Rows.norm, mean, cen_at]

theorem aff0_at (g b : Vec Ideal S2x1024 .f32) (v : FVec Ideal S256x1024 .f32) (r : Fin 256) (k : Fin 1024) :
    aff0 g b v (ix2 r k) = affine (fun j => v (ix2 r j)) (fun j => g (ix2 0 j)) (fun j => b (ix2 0 j)) k := by
  pointwise [aff0, affine]

theorem aff1_at (g b : Vec Ideal S2x1024 .f32) (v : FVec Ideal S256x1024 .f32) (r : Fin 256) (k : Fin 1024) :
    aff1 g b v (ix2 r k) = affine (fun j => v (ix2 r j)) (fun j => g (ix2 1 j)) (fun j => b (ix2 1 j)) k := by
  pointwise [aff1, affine]

theorem mods_at (m : Vec Ideal S1x1x6x1024 .f32) (a : Fin 6) (k : Fin 1024) : mods m (ix2 a k) = m (ix4 0 0 a k) := by
  pointwise [mods]

theorem res1_at (m : FVec Ideal S6x1024 .f32) (x y : FVec Ideal S256x1024 .f32) (r : Fin 256) (k : Fin 1024) :
    res1 m x y (ix2 r k) = resid (fun j => x (ix2 r j)) (fun j => m (ix2 2 j)) (fun j => y (ix2 r j)) k := by
  pointwise [res1, resid]

theorem res2_at (m : FVec Ideal S6x1024 .f32) (x y : FVec Ideal S256x1024 .f32) (r : Fin 256) (k : Fin 1024) :
    res2 m x y (ix2 r k) = resid (fun j => x (ix2 r j)) (fun j => m (ix2 5 j)) (fun j => y (ix2 r j)) k := by
  pointwise [res2, resid]

theorem modV_at (m : FVec Ideal S6x1024 .f32) (v : FVec Ideal S256x1024 .f32) (r : Fin 256) (k : Fin 1024) :
    modV m v (ix2 r k) = modulate (fun j => v (ix2 r j)) (fun j => m (ix2 3 j)) (fun j => m (ix2 4 j)) k := by
  pointwise [modV, modulate]

theorem hid_at (h : FVec Ideal S256x1024 .bf16) (p : Vec Ideal S1024x1024 .bf16) (r : Fin 256) (k : Fin 1024) :
    hid h p (ix2 r k) = Rows.hidden (fun j => h (ix2 r j)) (fun i j => p (ix2 i j)) k := by
  pointwise [hid, Rows.hidden, ofBits_zero]

theorem chunk_at (h : FVec Ideal S256x1024 .bf16) (p q : Vec Ideal S1024x1024 .bf16) (r : Fin 256) (k : Fin 1024) :
    chunk h p q (ix2 r k) = mlp (fun j => h (ix2 r j)) (fun i j => p (ix2 i j)) (fun i j => q (ix2 i j)) k := by
  pointwise [chunk, mlp, hid_at]

theorem slabs_at (s0 s1 : Vec Ideal S1x1x512x128 .f32) (r : Fin 256) (c : Fin 512) :
    slabs s0 s1 (ix2 r c) = if h : r.val < 128 then (s0 (ix4 0 0 c ⟨r.val, h⟩) : EReal) else s1 (ix4 0 0 c ⟨r.val - 128, by omega⟩) := by
  pointwise [slabs]

theorem proj_at (a : Vec Ideal S1x256x512 .bf16) (wa : Vec Ideal S512x1024 .bf16) (s : FVec Ideal S256x512 .f32) (wb : Vec Ideal S512x1024 .bf16) (r : Fin 256) (k : Fin 1024) :
    proj a wa s wb (ix2 r k) = ∑ i : Fin 512, (s (ix2 r i) : EReal) * wa (ix2 i k) + ∑ i : Fin 512, (a (ix3 0 r i) : EReal) * wb (ix2 i k) := by
  pointwise [proj]

theorem head_at (m : Vec Ideal S1x1x6x1024 .f32) (lg lb : Vec Ideal S2x1024 .f32) (x : Vec Ideal S1x256x1024 .f32) (y : FVec Ideal S256x1024 .f32) (r : Fin 256) (k : Fin 1024) :
    head m lg lb x y (ix2 r k) = first (fun j => x (ix3 0 r j)) (fun j => y (ix2 r j)) (fun j => m (ix4 0 0 2 j)) (fun j => lg (ix2 0 j)) (fun j => lb (ix2 0 j)) k := by
  have e (j : Fin 1024) : (shapeCast S256x1024 x shapeCasts_S1x256x1024_S256x1024 : FVec Ideal S256x1024 .f32) (ix2 r j) = x (ix3 0 r j) := by
    pointwise
  unfold head first
  rw [aff0_at]
  simp only [normV_at, res1_at, mods_at, e]

theorem tail_at (m : Vec Ideal S1x1x6x1024 .f32) (lg lb : Vec Ideal S2x1024 .f32) (x1 : FVec Ideal S256x1024 .f32)
    (p0 q0 p1 q1 p2 q2 p3 q3 : Vec Ideal S1024x1024 .bf16) (w : Fin 1024 → Fin 4096 → EReal) (u : Fin 4096 → Fin 1024 → EReal)
    (hp0 : ∀ i j, p0 (ix2 i j) = w i ⟨j, by omega⟩) (hq0 : ∀ i j, q0 (ix2 i j) = u ⟨i, by omega⟩ j)
    (hp1 : ∀ i j, p1 (ix2 i j) = w i ⟨1024 + j, by omega⟩) (hq1 : ∀ i j, q1 (ix2 i j) = u ⟨1024 + i, by omega⟩ j)
    (hp2 : ∀ i j, p2 (ix2 i j) = w i ⟨2048 + j, by omega⟩) (hq2 : ∀ i j, q2 (ix2 i j) = u ⟨2048 + i, by omega⟩ j)
    (hp3 : ∀ i j, p3 (ix2 i j) = w i ⟨3072 + j, by omega⟩) (hq3 : ∀ i j, q3 (ix2 i j) = u ⟨3072 + i, by omega⟩ j)
    (r : Fin 256) (k : Fin 1024) :
    tail m lg lb x1 p0 q0 p1 q1 p2 q2 p3 q3 (ix3 0 r k)
      = second (fun h => mlp4 h w u) (fun j => x1 (ix2 r j)) (fun j => m (ix4 0 0 3 j)) (fun j => m (ix4 0 0 4 j)) (fun j => m (ix4 0 0 5 j))
          (fun j => lg (ix2 1 j)) (fun j => lb (ix2 1 j)) k := by
  have e (z : FVec Ideal S256x1024 .f32) : shapeCast S1x256x1024 z shapeCasts_S256x1024_S1x256x1024 (ix3 0 r k) = z (ix2 r k) := by
    pointwise
  have a4 (h : FVec Ideal S256x1024 .bf16) (j : Fin 1024) :
      mlpV h p0 q0 p1 q1 p2 q2 p3 q3 (ix2 r j) = mlp4 (fun i => h (ix2 r i)) w u j := by
    show ((chunk h p0 q0 (ix2 r j) + chunk h p1 q1 (ix2 r j) : EReal) + chunk h p2 q2 (ix2 r j)) + chunk h p3 q3 (ix2 r j) = _
    simp only [chunk_at, hp0, hq0, hp1, hq1, hp2, hq2, hp3, hq3]
    rfl
  unfold tail second
  rw [e, aff1_at]
  simp only [normV_at, res2_at, a4, modV_at, mods_at]

end entries

/-! The stored values are these rows. -/

variable (m : Vec Ideal S1x1x6x1024 .f32) (lg lb : Vec Ideal S2x1024 .f32) (x : Vec Ideal S1x256x1024 .f32)
    (a : Vec Ideal S1x256x512 .bf16) (wa : Vec Ideal S512x1024 .bf16) (s0 s1 : Vec Ideal S1x1x512x128 .f32) (wb : Vec Ideal S512x1024 .bf16)
    (p0 q0 p1 q1 p2 q2 p3 q3 : Vec Ideal S1024x1024 .bf16)

theorem tile0 : k0_pay12 lg lb (k0_pay11 (k0_pay2 m) (k0_pay4 lg lb (k0_pay3 m s0 s1 wa a wb x)) (k0_pay5 (k0_pay2 m) lg lb (k0_pay3 m s0 s1 wa a wb x))
      (k0_pay10 (k0_pay5 (k0_pay2 m) lg lb (k0_pay3 m s0 s1 wa a wb x)) p0 q0) p1 q1 p2 q2 p3 q3)
    = tile m lg lb x a wa s0 s1 wb p0 q0 p1 q1 p2 q2 p3 q3 := rfl

theorem tile1 : k0_pay21 lb (k0_pay20 (k0_pay2 m) lg (k0_pay8 lg lb (k0_pay6 (k0_pay2 m) s0 s1 wa a wb x) (k0_pay7 (k0_pay2 m) s0 s1 wa a wb x) (Scalar.ofBits .f32 0x3727C5AC#32))
      (k0_pay9 (k0_pay2 m) lg lb (k0_pay6 (k0_pay2 m) s0 s1 wa a wb x) (k0_pay7 (k0_pay2 m) s0 s1 wa a wb x) (Scalar.ofBits .f32 0x3727C5AC#32))
      (k0_pay18 (k0_pay9 (k0_pay2 m) lg lb (k0_pay6 (k0_pay2 m) s0 s1 wa a wb x) (k0_pay7 (k0_pay2 m) s0 s1 wa a wb x) (Scalar.ofBits .f32 0x3727C5AC#32)) p0 q0 p1 q1)
      (k0_pay19 (k0_pay9 (k0_pay2 m) lg lb (k0_pay6 (k0_pay2 m) s0 s1 wa a wb x) (k0_pay7 (k0_pay2 m) s0 s1 wa a wb x) (Scalar.ofBits .f32 0x3727C5AC#32)) p2)
      (Scalar.ofBits .f32 0x00000000#32) q2 p3 q3)
    = tile m lg lb x a wa s0 s1 wb p0 q0 p1 q1 p2 q2 p3 q3 := rfl

theorem tile2 : k0_pay29 (k0_pay2 m) lg lb (k0_pay14 (k0_pay2 m) lg lb (k0_pay13 s0 s1 wa) a wb x)
      (k0_pay27 (k0_pay17 (k0_pay2 m) (k0_pay15 (k0_pay2 m) lg lb (k0_pay13 s0 s1 wa) a wb x) (k0_pay16 (k0_pay2 m) lg lb (k0_pay13 s0 s1 wa) a wb x) (Scalar.ofBits .f32 0x44800000#32))
        (k0_pay26 (k0_pay17 (k0_pay2 m) (k0_pay15 (k0_pay2 m) lg lb (k0_pay13 s0 s1 wa) a wb x) (k0_pay16 (k0_pay2 m) lg lb (k0_pay13 s0 s1 wa) a wb x) (Scalar.ofBits .f32 0x44800000#32)) p0) q0 p1 q1 p2 q2)
      (k0_pay28 (k0_pay17 (k0_pay2 m) (k0_pay15 (k0_pay2 m) lg lb (k0_pay13 s0 s1 wa) a wb x) (k0_pay16 (k0_pay2 m) lg lb (k0_pay13 s0 s1 wa) a wb x) (Scalar.ofBits .f32 0x44800000#32)) p3) q3
    = tile m lg lb x a wa s0 s1 wb p0 q0 p1 q1 p2 q2 p3 q3 := rfl

theorem tile3 : k0_pay1 (k0_pay2 m) lg lb
      (k0_pay31 (k0_pay25 (k0_pay2 m) lg lb (k0_pay22 (k0_pay2 m) s0 s1 wa a wb x) (k0_pay23 (k0_pay2 m) s0 s1 wa a wb x) (Scalar.ofBits .f32 0x44800000#32))
        (k0_pay30 (k0_pay25 (k0_pay2 m) lg lb (k0_pay22 (k0_pay2 m) s0 s1 wa a wb x) (k0_pay23 (k0_pay2 m) s0 s1 wa a wb x) (Scalar.ofBits .f32 0x44800000#32)) p0) q0 p1 q1 p2 q2 p3 q3)
      (k0_pay32 (k0_pay24 lg lb (k0_pay22 (k0_pay2 m) s0 s1 wa a wb x) (k0_pay23 (k0_pay2 m) s0 s1 wa a wb x) (Scalar.ofBits .f32 0x44800000#32)))
    = tile m lg lb x a wa s0 s1 wb p0 q0 p1 q1 p2 q2 p3 q3 := rfl

end Cert.PostEvenIdeal.Post

end
-- ==== Proof.PostEvenPure.lean ====
module

public import proofs.«01_k».proof.Proof.Gen.PostEvenIdeal.Value
public import proofs.«01_k».proof.Proof.PostEvenTile

@[expose] public section

set_option maxRecDepth 16384

noncomputable section

open Idealize.ShloMosaic Idealize.ShloMosaic.TcCoe Idealize.SL.Sem
open Idealize.ShloMosaic.Pipeline (Dat)

namespace Cert.PostEvenIdeal.Post

open Cert.PostEvenIdeal Cert.PostEvenIdeal.Gen

/-- A row after both halves, from the rows and matrices it reads. -/
def rowOut (x : Fin 1024 → EReal) (a : Fin 512 → EReal) (wa : Fin 512 → Fin 1024 → EReal) (s : Fin 512 → EReal) (wb : Fin 512 → Fin 1024 → EReal)
    (md : Fin 6 → Fin 1024 → EReal) (lg lb : Fin 2 → Fin 1024 → EReal)
    (w : Fin 1024 → Fin 4096 → EReal) (u : Fin 4096 → Fin 1024 → EReal) : Fin 1024 → EReal :=
  Rows.second (fun h => Rows.mlp4 h w u)
    (Rows.first x (fun k => ∑ i, s i * wa i k + ∑ i, a i * wb i k) (md 2) (lg 0) (lb 0)) (md 3) (md 4) (md 5) (lg 1) (lb 1)

/-- One tile's entry. -/
theorem tile_at (m : Vec Ideal S1x1x6x1024 .f32) (lg lb : Vec Ideal S2x1024 .f32) (x : Vec Ideal S1x256x1024 .f32)
    (a : Vec Ideal S1x256x512 .bf16) (wa : Vec Ideal S512x1024 .bf16) (s0 s1 : Vec Ideal S1x1x512x128 .f32) (wb : Vec Ideal S512x1024 .bf16)
    (p0 q0 p1 q1 p2 q2 p3 q3 : Vec Ideal S1024x1024 .bf16)
    (w : Fin 1024 → Fin 4096 → EReal) (u : Fin 4096 → Fin 1024 → EReal)
    (hp0 : ∀ i j, p0 (ix2 i j) = w i ⟨j, by omega⟩) (hq0 : ∀ i j, q0 (ix2 i j) = u ⟨i, by omega⟩ j)
    (hp1 : ∀ i j, p1 (ix2 i j) = w i ⟨1024 + j, by omega⟩) (hq1 : ∀ i j, q1 (ix2 i j) = u ⟨1024 + i, by omega⟩ j)
    (hp2 : ∀ i j, p2 (ix2 i j) = w i ⟨2048 + j, by omega⟩) (hq2 : ∀ i j, q2 (ix2 i j) = u ⟨2048 + i, by omega⟩ j)
    (hp3 : ∀ i j, p3 (ix2 i j) = w i ⟨3072 + j, by omega⟩) (hq3 : ∀ i j, q3 (ix2 i j) = u ⟨3072 + i, by omega⟩ j)
    (r : Fin 256) (k : Fin 1024) (s : Fin 512 → EReal)
    (hs : ∀ c, s c = if h : r.val < 128 then (s0 (ix4 0 0 c ⟨r.val, h⟩) : EReal) else s1 (ix4 0 0 c ⟨r.val - 128, by omega⟩)) :
    tile m lg lb x a wa s0 s1 wb p0 q0 p1 q1 p2 q2 p3 q3 (ix3 0 r k)
      = rowOut (fun j => x (ix3 0 r j)) (fun j => a (ix3 0 r j)) (fun i j => wa (ix2 i j)) s (fun i j => wb (ix2 i j))
          (fun i j => m (ix4 0 0 i j)) (fun i j => lg (ix2 i j)) (fun i j => lb (ix2 i j)) w u k := by
  unfold tile rowOut
  rw [tail_at (w := w) (u := u) (hp0 := hp0) (hq0 := hq0) (hp1 := hp1) (hq1 := hq1) (hp2 := hp2) (hq2 := hq2) (hp3 := hp3) (hq3 := hq3)]
  refine congrFun (congrArg (fun z => Rows.second (fun h => Rows.mlp4 h w u) z _ _ _ _ _) (funext fun j => ?_)) k
  rw [head_at]
  refine congrFun (congrArg (fun z => Rows.first _ z _ _ _) (funext fun i => ?_)) j
  rw [proj_at]
  refine congrArg (· + _) (Finset.sum_congr rfl fun c _ => ?_)
  rw [slabs_at, hs c]

/-- Equal rows and matrices give equal rows. -/
theorem rowOut_congr {x x' : Fin 1024 → EReal} {a a' : Fin 512 → EReal} {wa wa' : Fin 512 → Fin 1024 → EReal} {s s' : Fin 512 → EReal} {wb wb' : Fin 512 → Fin 1024 → EReal}
    {md md' : Fin 6 → Fin 1024 → EReal} {lg lg' lb lb' : Fin 2 → Fin 1024 → EReal}
    {w w' : Fin 1024 → Fin 4096 → EReal} {u u' : Fin 4096 → Fin 1024 → EReal} {k k' : Fin 1024}
    (hx : ∀ j, x j = x' j) (ha : ∀ j, a j = a' j) (hwa : ∀ i j, wa i j = wa' i j) (hs : ∀ c, s c = s' c) (hwb : ∀ i j, wb i j = wb' i j)
    (hmd : ∀ i j, md i j = md' i j) (hlg : ∀ i j, lg i j = lg' i j) (hlb : ∀ i j, lb i j = lb' i j)
    (hw : ∀ i j, w i j = w' i j) (hu : ∀ i j, u i j = u' i j) (hk : k = k') :
    rowOut x a wa s wb md lg lb w u k = rowOut x' a' wa' s' wb' md' lg' lb' w' u' k' := by
  obtain rfl : x = x' := funext hx
  obtain rfl : a = a' := funext ha
  obtain rfl : wa = wa' := funext fun i => funext (hwa i)
  obtain rfl : s = s' := funext hs
  obtain rfl : wb = wb' := funext fun i => funext (hwb i)
  obtain rfl : md = md' := funext fun i => funext (hmd i)
  obtain rfl : lg = lg' := funext fun i => funext (hlg i)
  obtain rfl : lb = lb' := funext fun i => funext (hlb i)
  obtain rfl : w = w' := funext fun i => funext (hw i)
  obtain rfl : u = u' := funext fun i => funext (hu i)
  rw [hk]

/-- The block stored at a grid point, entry by entry. -/
theorem out_at (x0 : Vec Ideal S1x1024x1024 .f32) (x1 : Vec Ideal S1x1x6x1024 .f32) (x2 : Vec Ideal S1x8x512x128 .f32) (x3 : Vec Ideal S1x1024x512 .bf16)
    (x4 : Vec Ideal S512x1024 .bf16) (x5 : Vec Ideal S512x1024 .bf16) (x6 x7 : Vec Ideal S2x1024 .f32) (x8 : Vec Ideal S1024x4096 .bf16) (x9 : Vec Ideal S4096x1024 .bf16)
    (y : S1x1024x1024.Idx) (R : Fin 1024) (K : Fin 1024) (hR : (y 1 : ℕ) = R) (hK : (y 2 : ℕ) = K) :
    out0_10 x0 x1 x2 x3 x4 x5 x6 x7 x8 x9 y
      = rowOut (fun j => x0 (ix3 0 R j)) (fun j => x3 (ix3 0 R j)) (fun i j => x4 (ix2 i j))
          (fun c => x2 (ix4 0 ⟨R / 128, by omega⟩ c ⟨R % 128, by omega⟩)) (fun i j => x5 (ix2 i j))
          (fun i j => x1 (ix4 0 0 i j)) (fun i j => x6 (ix2 i j)) (fun i j => x7 (ix2 i j)) (fun i j => x8 (ix2 i j)) (fun i j => x9 (ix2 i j)) K := by
  unfold_out out0_10
  canon_tiles x h
  · obtain ⟨r, k, rfl⟩ := Cert.Rows.row_idx x
    have e1 : (y 1 : ℕ) = 768 + r.val := h1
    have e2 : (y 2 : ℕ) = k.val := h2
    have lt : 768 + r.val < 1024 := by have := r.isLt; omega
    have eR : R = ⟨768 + r.val, lt⟩ := Fin.ext (hR.symm.trans e1)
    have eK : K = k := Fin.ext (hK.symm.trans e2)
    refine (congrFun (tile3 _ _ _ _ _ _ _ _ _ _ _ _ _ _ _ _ _) _).trans ?_
    refine (tile_at (w := fun i j => x8 (ix2 i j)) (u := fun i j => x9 (ix2 i j))
      (s := fun c => x2 (ix4 0 ⟨(768 + r.val) / 128, by omega⟩ c ⟨(768 + r.val) % 128, by omega⟩))
      (hp0 := fun i j => by pointwise) (hq0 := fun i j => by pointwise) (hp1 := fun i j => by pointwise) (hq1 := fun i j => by pointwise)
      (hp2 := fun i j => by pointwise) (hq2 := fun i j => by pointwise) (hp3 := fun i j => by pointwise) (hq3 := fun i j => by pointwise)
      (hs := fun c => ?_) ..).trans ?_
    · by_cases hr : r.val < 128
      · rw [dif_pos hr, show (⟨(768 + r.val) / 128, by omega⟩ : Fin 8) = 6 from Fin.ext (by show (768 + r.val) / 128 = 6; omega),
          show (⟨(768 + r.val) % 128, by omega⟩ : Fin 128) = ⟨r.val, hr⟩ from Fin.ext (by show (768 + r.val) % 128 = r.val; omega)]
        pointwise
      · rw [dif_neg hr, show (⟨(768 + r.val) / 128, by omega⟩ : Fin 8) = 7 from Fin.ext (by show (768 + r.val) / 128 = 7; omega),
          show (⟨(768 + r.val) % 128, by omega⟩ : Fin 128) = ⟨r.val - 128, by omega⟩ from Fin.ext (by show (768 + r.val) % 128 = r.val - 128; omega)]
        pointwise
    · subst eR eK
      refine rowOut_congr (fun j => ?_) (fun j => ?_) (fun i j => ?_) (fun c => rfl) (fun i j => ?_) (fun i j => ?_) (fun i j => ?_) (fun i j => ?_)
        (fun i j => rfl) (fun i j => rfl) rfl <;> pointwise
  · obtain ⟨r, k, rfl⟩ := Cert.Rows.row_idx x
    have e1 : (y 1 : ℕ) = 512 + r.val := h1
    have e2 : (y 2 : ℕ) = k.val := h2
    have lt : 512 + r.val < 1024 := by have := r.isLt; omega
    have eR : R = ⟨512 + r.val, lt⟩ := Fin.ext (hR.symm.trans e1)
    have eK : K = k := Fin.ext (hK.symm.trans e2)
    refine (congrFun (tile2 _ _ _ _ _ _ _ _ _ _ _ _ _ _ _ _ _) _).trans ?_
    refine (tile_at (w := fun i j => x8 (ix2 i j)) (u := fun i j => x9 (ix2 i j))
      (s := fun c => x2 (ix4 0 ⟨(512 + r.val) / 128, by omega⟩ c ⟨(512 + r.val) % 128, by omega⟩))
      (hp0 := fun i j => by pointwise) (hq0 := fun i j => by pointwise) (hp1 := fun i j => by pointwise) (hq1 := fun i j => by pointwise)
      (hp2 := fun i j => by pointwise) (hq2 := fun i j => by pointwise) (hp3 := fun i j => by pointwise) (hq3 := fun i j => by pointwise)
      (hs := fun c => ?_) ..).trans ?_
    · by_cases hr : r.val < 128
      · rw [dif_pos hr, show (⟨(512 + r.val) / 128, by omega⟩ : Fin 8) = 4 from Fin.ext (by show (512 + r.val) / 128 = 4; omega),
          show (⟨(512 + r.val) % 128, by omega⟩ : Fin 128) = ⟨r.val, hr⟩ from Fin.ext (by show (512 + r.val) % 128 = r.val; omega)]
        pointwise
      · rw [dif_neg hr, show (⟨(512 + r.val) / 128, by omega⟩ : Fin 8) = 5 from Fin.ext (by show (512 + r.val) / 128 = 5; omega),
          show (⟨(512 + r.val) % 128, by omega⟩ : Fin 128) = ⟨r.val - 128, by omega⟩ from Fin.ext (by show (512 + r.val) % 128 = r.val - 128; omega)]
        pointwise
    · subst eR eK
      refine rowOut_congr (fun j => ?_) (fun j => ?_) (fun i j => ?_) (fun c => rfl) (fun i j => ?_) (fun i j => ?_) (fun i j => ?_) (fun i j => ?_)
        (fun i j => rfl) (fun i j => rfl) rfl <;> pointwise
  · obtain ⟨r, k, rfl⟩ := Cert.Rows.row_idx x
    have e1 : (y 1 : ℕ) = 256 + r.val := h1
    have e2 : (y 2 : ℕ) = k.val := h2
    have lt : 256 + r.val < 1024 := by have := r.isLt; omega
    have eR : R = ⟨256 + r.val, lt⟩ := Fin.ext (hR.symm.trans e1)
    have eK : K = k := Fin.ext (hK.symm.trans e2)
    refine (congrFun (tile1 _ _ _ _ _ _ _ _ _ _ _ _ _ _ _ _ _) _).trans ?_
    refine (tile_at (w := fun i j => x8 (ix2 i j)) (u := fun i j => x9 (ix2 i j))
      (s := fun c => x2 (ix4 0 ⟨(256 + r.val) / 128, by omega⟩ c ⟨(256 + r.val) % 128, by omega⟩))
      (hp0 := fun i j => by pointwise) (hq0 := fun i j => by pointwise) (hp1 := fun i j => by pointwise) (hq1 := fun i j => by pointwise)
      (hp2 := fun i j => by pointwise) (hq2 := fun i j => by pointwise) (hp3 := fun i j => by pointwise) (hq3 := fun i j => by pointwise)
      (hs := fun c => ?_) ..).trans ?_
    · by_cases hr : r.val < 128
      · rw [dif_pos hr, show (⟨(256 + r.val) / 128, by omega⟩ : Fin 8) = 2 from Fin.ext (by show (256 + r.val) / 128 = 2; omega),
          show (⟨(256 + r.val) % 128, by omega⟩ : Fin 128) = ⟨r.val, hr⟩ from Fin.ext (by show (256 + r.val) % 128 = r.val; omega)]
        pointwise
      · rw [dif_neg hr, show (⟨(256 + r.val) / 128, by omega⟩ : Fin 8) = 3 from Fin.ext (by show (256 + r.val) / 128 = 3; omega),
          show (⟨(256 + r.val) % 128, by omega⟩ : Fin 128) = ⟨r.val - 128, by omega⟩ from Fin.ext (by show (256 + r.val) % 128 = r.val - 128; omega)]
        pointwise
    · subst eR eK
      refine rowOut_congr (fun j => ?_) (fun j => ?_) (fun i j => ?_) (fun c => rfl) (fun i j => ?_) (fun i j => ?_) (fun i j => ?_) (fun i j => ?_)
        (fun i j => rfl) (fun i j => rfl) rfl <;> pointwise
  · obtain ⟨r, k, rfl⟩ := Cert.Rows.row_idx x
    have e1 : (y 1 : ℕ) = 0 + r.val := (h1 : (y 1 : ℕ) = r.val).trans (Nat.zero_add _).symm
    have e2 : (y 2 : ℕ) = k.val := h2
    have lt : 0 + r.val < 1024 := by have := r.isLt; omega
    have eR : R = ⟨0 + r.val, lt⟩ := Fin.ext (hR.symm.trans e1)
    have eK : K = k := Fin.ext (hK.symm.trans e2)
    refine (congrFun (tile0 _ _ _ _ _ _ _ _ _ _ _ _ _ _ _ _ _) _).trans ?_
    refine (tile_at (w := fun i j => x8 (ix2 i j)) (u := fun i j => x9 (ix2 i j))
      (s := fun c => x2 (ix4 0 ⟨(0 + r.val) / 128, by omega⟩ c ⟨(0 + r.val) % 128, by omega⟩))
      (hp0 := fun i j => by pointwise) (hq0 := fun i j => by pointwise) (hp1 := fun i j => by pointwise) (hq1 := fun i j => by pointwise)
      (hp2 := fun i j => by pointwise) (hq2 := fun i j => by pointwise) (hp3 := fun i j => by pointwise) (hq3 := fun i j => by pointwise)
      (hs := fun c => ?_) ..).trans ?_
    · by_cases hr : r.val < 128
      · rw [dif_pos hr, show (⟨(0 + r.val) / 128, by omega⟩ : Fin 8) = 0 from Fin.ext (by show (0 + r.val) / 128 = 0; omega),
          show (⟨(0 + r.val) % 128, by omega⟩ : Fin 128) = ⟨r.val, hr⟩ from Fin.ext (by show (0 + r.val) % 128 = r.val; omega)]
        pointwise
      · rw [dif_neg hr, show (⟨(0 + r.val) / 128, by omega⟩ : Fin 8) = 1 from Fin.ext (by show (0 + r.val) / 128 = 1; omega),
          show (⟨(0 + r.val) % 128, by omega⟩ : Fin 128) = ⟨r.val - 128, by omega⟩ from Fin.ext (by show (0 + r.val) % 128 = r.val - 128; omega)]
        pointwise
    · subst eR eK
      refine rowOut_congr (fun j => ?_) (fun j => ?_) (fun i j => ?_) (fun c => rfl) (fun i j => ?_) (fun i j => ?_) (fun i j => ?_) (fun i j => ?_)
        (fun i j => rfl) (fun i j => rfl) rfl <;> pointwise

/-- The array the call returns, entry by entry, from the arrays its windows read. -/
def postArr (X : FVec Ideal S4x8192x1024 .f32) (M : FVec Ideal S4x2x6x1024 .f32) (S : FVec Ideal S4x64x512x128 .f32) (A : FVec Ideal S4x8192x512 .bf16)
    (WA WB : FVec Ideal S512x1024 .bf16) (LG LB : FVec Ideal S2x1024 .f32) (W : FVec Ideal S1024x4096 .bf16) (U : FVec Ideal S4096x1024 .bf16) :
    FVec Ideal S4x8192x1024 .f32 := fun j =>
  rowOut (fun k => X (ix3 (j 0) (j 1) k)) (fun k => A (ix3 (j 0) (j 1) k)) (fun i k => WA (ix2 i k))
    (fun c => S (ix4 (j 0) ⟨(j 1 : ℕ) / 128, by have : (j 1 : ℕ) < 8192 := (j 1).isLt; omega⟩ c ⟨(j 1 : ℕ) % 128, by omega⟩)) (fun i k => WB (ix2 i k))
    (fun i k => M (ix4 (j 0) 0 i k)) (fun i k => LG (ix2 i k)) (fun i k => LB (ix2 i k)) (fun i k => W (ix2 i k)) (fun i k => U (ix2 i k)) (j 2)

variable (m : (ℓ : Loc nD τ sig) → Buf (Elt Ideal) ℓ)

/-- Where each window's block sits, at every grid point. -/
theorem idx : ∀ t : Fin cfg0.N, win0_0.index t = ![t.val / 8, t.val % 8, 0] ∧ win0_1.index t = ![t.val / 8, 0, 0, 0]
    ∧ win0_2.index t = ![t.val / 8, t.val % 8, 0, 0] ∧ win0_3.index t = ![t.val / 8, t.val % 8, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![t.val / 8, t.val % 8, 0] :=
  (by decide +kernel : ∀ t : Fin grid0.N, _)

/-- There are fewer than 32 points. -/
theorem pt_lt (t : Fin cfg0.N) : t.val < 32 := lt_of_lt_of_eq t.isLt N_0

/-- An entry of the tokens' block, read in the array at the block's place. -/
theorem iblk0_at (c : Dev nD) (t : Fin cfg0.N) (y : ((cfg0.win 0).xblock (cfg0.grid.coords t)).Idx) (i : S4x8192x1024.Idx)
    (h : ∀ a, (i a : ℕ) = win0_0.index t a * win0_0.size a + (y a : ℕ)) :
    iblk m c 0 t y = V m c main_arg0 i := by
  have e : (win0_0.rect t).emb y = i := funext fun a => Fin.ext ((win0_0.rect_emb_val t y a).trans (h a).symm)
  unfold iblk
  rw [View.read_apply]
  generalize V m c = W
  exact (cast_eq _ _).trans (congrArg (W main_arg0) e)

/-- An entry of the modulation vectors' block, read in the array at the block's place. -/
theorem iblk1_at (c : Dev nD) (t : Fin cfg0.N) (y : ((cfg0.win 1).xblock (cfg0.grid.coords t)).Idx) (i : S4x2x6x1024.Idx)
    (h : ∀ a, (i a : ℕ) = win0_1.index t a * win0_1.size a + (y a : ℕ)) :
    iblk m c 1 t y = V m c main_arg1 i := by
  have e : (win0_1.rect t).emb y = i := funext fun a => Fin.ext ((win0_1.rect_emb_val t y a).trans (h a).symm)
  unfold iblk
  rw [View.read_apply]
  generalize V m c = W
  exact (cast_eq _ _).trans (congrArg (W main_arg1) e)

/-- An entry of the first branch's block, read in the array at the block's place. -/
theorem iblk2_at (c : Dev nD) (t : Fin cfg0.N) (y : ((cfg0.win 2).xblock (cfg0.grid.coords t)).Idx) (i : S4x64x512x128.Idx)
    (h : ∀ a, (i a : ℕ) = win0_2.index t a * win0_2.size a + (y a : ℕ)) :
    iblk m c 2 t y = V m c main_arg2 i := by
  have e : (win0_2.rect t).emb y = i := funext fun a => Fin.ext ((win0_2.rect_emb_val t y a).trans (h a).symm)
  unfold iblk
  rw [View.read_apply]
  generalize V m c = W
  exact (cast_eq _ _).trans (congrArg (W main_arg2) e)

/-- An entry of the second branch's block, read in the array at the block's place. -/
theorem iblk3_at (c : Dev nD) (t : Fin cfg0.N) (y : ((cfg0.win 3).xblock (cfg0.grid.coords t)).Idx) (i : S4x8192x512.Idx)
    (h : ∀ a, (i a : ℕ) = win0_3.index t a * win0_3.size a + (y a : ℕ)) :
    iblk m c 3 t y = V m c main_v1 i := by
  have e : (win0_3.rect t).emb y = i := funext fun a => Fin.ext ((win0_3.rect_emb_val t y a).trans (h a).symm)
  unfold iblk
  rw [View.read_apply]
  generalize V m c = W
  exact (cast_eq _ _).trans (congrArg (W main_v1) e)

/-- An entry of the first branch's weights' block, read in the array at the block's place. -/
theorem iblk4_at (c : Dev nD) (t : Fin cfg0.N) (y : ((cfg0.win 4).xblock (cfg0.grid.coords t)).Idx) (i : S512x1024.Idx)
    (h : ∀ a, (i a : ℕ) = win0_4.index t a * win0_4.size a + (y a : ℕ)) :
    iblk m c 4 t y = V m c main_v2 i := by
  have e : (win0_4.rect t).emb y = i := funext fun a => Fin.ext ((win0_4.rect_emb_val t y a).trans (h a).symm)
  unfold iblk
  rw [View.read_apply]
  generalize V m c = W
  exact (cast_eq _ _).trans (congrArg (W main_v2) e)

/-- An entry of the second branch's weights' block, read in the array at the block's place. -/
theorem iblk5_at (c : Dev nD) (t : Fin cfg0.N) (y : ((cfg0.win 5).xblock (cfg0.grid.coords t)).Idx) (i : S512x1024.Idx)
    (h : ∀ a, (i a : ℕ) = win0_5.index t a * win0_5.size a + (y a : ℕ)) :
    iblk m c 5 t y = V m c main_v3 i := by
  have e : (win0_5.rect t).emb y = i := funext fun a => Fin.ext ((win0_5.rect_emb_val t y a).trans (h a).symm)
  unfold iblk
  rw [View.read_apply]
  generalize V m c = W
  exact (cast_eq _ _).trans (congrArg (W main_v3) e)

/-- An entry of the scales' block, read in the array at the block's place. -/
theorem iblk6_at (c : Dev nD) (t : Fin cfg0.N) (y : ((cfg0.win 6).xblock (cfg0.grid.coords t)).Idx) (i : S2x1024.Idx)
    (h : ∀ a, (i a : ℕ) = win0_6.index t a * win0_6.size a + (y a : ℕ)) :
    iblk m c 6 t y = V m c main_arg5 i := by
  have e : (win0_6.rect t).emb y = i := funext fun a => Fin.ext ((win0_6.rect_emb_val t y a).trans (h a).symm)
  unfold iblk
  rw [View.read_apply]
  generalize V m c = W
  exact (cast_eq _ _).trans (congrArg (W main_arg5) e)

/-- An entry of the shifts' block, read in the array at the block's place. -/
theorem iblk7_at (c : Dev nD) (t : Fin cfg0.N) (y : ((cfg0.win 7).xblock (cfg0.grid.coords t)).Idx) (i : S2x1024.Idx)
    (h : ∀ a, (i a : ℕ) = win0_7.index t a * win0_7.size a + (y a : ℕ)) :
    iblk m c 7 t y = V m c main_arg6 i := by
  have e : (win0_7.rect t).emb y = i := funext fun a => Fin.ext ((win0_7.rect_emb_val t y a).trans (h a).symm)
  unfold iblk
  rw [View.read_apply]
  generalize V m c = W
  exact (cast_eq _ _).trans (congrArg (W main_arg6) e)

/-- An entry of the first channel weights' block, read in the array at the block's place. -/
theorem iblk8_at (c : Dev nD) (t : Fin cfg0.N) (y : ((cfg0.win 8).xblock (cfg0.grid.coords t)).Idx) (i : S1024x4096.Idx)
    (h : ∀ a, (i a : ℕ) = win0_8.index t a * win0_8.size a + (y a : ℕ)) :
    iblk m c 8 t y = V m c main_v4 i := by
  have e : (win0_8.rect t).emb y = i := funext fun a => Fin.ext ((win0_8.rect_emb_val t y a).trans (h a).symm)
  unfold iblk
  rw [View.read_apply]
  generalize V m c = W
  exact (cast_eq _ _).trans (congrArg (W main_v4) e)

/-- An entry of the second channel weights' block, read in the array at the block's place. -/
theorem iblk9_at (c : Dev nD) (t : Fin cfg0.N) (y : ((cfg0.win 9).xblock (cfg0.grid.coords t)).Idx) (i : S4096x1024.Idx)
    (h : ∀ a, (i a : ℕ) = win0_9.index t a * win0_9.size a + (y a : ℕ)) :
    iblk m c 9 t y = V m c main_v5 i := by
  have e : (win0_9.rect t).emb y = i := funext fun a => Fin.ext ((win0_9.rect_emb_val t y a).trans (h a).symm)
  unfold iblk
  rw [View.read_apply]
  generalize V m c = W
  exact (cast_eq _ _).trans (congrArg (W main_v5) e)

/-- The whole array after the run. -/
theorem final (c : Dev nD) : (dats m 0 c).arrAt 10 (cfgs 0).N
    = postArr (V m c main_arg0) (V m c main_arg1) (V m c main_arg2) (V m c main_v1) (V m c main_v2) (V m c main_v3) (V m c main_arg5) (V m c main_arg6)
        (V m c main_v4) (V m c main_v5) := by
  refine (dats m 0 c).arrAt_eq_of_covers 10 _ (by decide +kernel) fun t _ y => ?_
  blk_simp
  rw [after0_10]
  have y1 : (y 1 : ℕ) < 1024 := (y 1).isLt
  have y2 : (y 2 : ℕ) < 1024 := (y 2).isLt
  have y0 : (y 0 : ℕ) < 1 := (y 0).isLt
  have ht := pt_lt t
  refine (out_at _ _ _ _ _ _ _ _ _ _ _ ⟨y 1, y1⟩ ⟨y 2, y2⟩ rfl rfl).trans ?_
  have e (a) : (((win0_10.rect t).emb y) a : ℕ) = win0_10.index t a * win0_10.size a + (y a : ℕ) := win0_10.rect_emb_val t y a
  obtain ⟨i0, i1, i2, i3, i4, i5, i6, i7, i8, i9, i10⟩ := idx t
  rw [i10] at e
  have e0 : (((win0_10.rect t).emb y) 0 : ℕ) = t.val / 8 := by
    refine (e 0).trans ?_
    show t.val / 8 * 1 + (y 0 : ℕ) = t.val / 8
    omega
  have e1 : (((win0_10.rect t).emb y) 1 : ℕ) = t.val % 8 * 1024 + (y 1 : ℕ) := e 1
  have e2 : (((win0_10.rect t).emb y) 2 : ℕ) = (y 2 : ℕ) := by
    refine (e 2).trans ?_
    show 0 * 1024 + (y 2 : ℕ) = (y 2 : ℕ)
    omega
  obtain ⟨z, hz⟩ : ∃ z, z = (win0_10.blk t).view.emb y := ⟨_, rfl⟩
  rw [← hz]
  have e0 : (z 0 : ℕ) = t.val / 8 := by rw [hz]; exact e0
  have e1 : (z 1 : ℕ) = t.val % 8 * 1024 + (y 1 : ℕ) := by rw [hz]; exact e1
  have e2 : (z 2 : ℕ) = (y 2 : ℕ) := by rw [hz]; exact e2
  unfold postArr
  have z1 : (z 1 : ℕ) < 8192 := (z 1).isLt
  refine rowOut_congr (fun j => ?_) (fun j => ?_) (fun i j => ?_) (fun d => ?_) (fun i j => ?_) (fun i j => ?_) (fun i j => ?_) (fun i j => ?_)
    (fun i j => ?_) (fun i j => ?_) (Fin.ext e2.symm)
  · refine iblk0_at m c t _ _ fun a => ?_
    rw [i0]
    match a with
    | ⟨0, _⟩ => show (z 0 : ℕ) = t.val / 8 * 1 + 0; omega
    | ⟨1, _⟩ => show (z 1 : ℕ) = t.val % 8 * 1024 + (y 1 : ℕ); exact e1
    | ⟨2, _⟩ => show j.val = 0 * 1024 + j.val; omega
  · refine iblk3_at m c t _ _ fun a => ?_
    rw [i3]
    match a with
    | ⟨0, _⟩ => show (z 0 : ℕ) = t.val / 8 * 1 + 0; omega
    | ⟨1, _⟩ => show (z 1 : ℕ) = t.val % 8 * 1024 + (y 1 : ℕ); exact e1
    | ⟨2, _⟩ => show j.val = 0 * 512 + j.val; omega
  · refine iblk4_at m c t _ _ fun a => ?_
    rw [i4]
    match a with
    | ⟨0, _⟩ => show i.val = 0 * 512 + i.val; omega
    | ⟨1, _⟩ => show j.val = 0 * 1024 + j.val; omega
  · refine iblk2_at m c t _ _ fun a => ?_
    rw [i2]
    match a with
    | ⟨0, _⟩ => show (z 0 : ℕ) = t.val / 8 * 1 + 0; omega
    | ⟨1, _⟩ => show (z 1 : ℕ) / 128 = t.val % 8 * 8 + (y 1 : ℕ) / 128; omega
    | ⟨2, _⟩ => show d.val = 0 * 512 + d.val; omega
    | ⟨3, _⟩ => show (z 1 : ℕ) % 128 = 0 * 128 + (y 1 : ℕ) % 128; omega
  · refine iblk5_at m c t _ _ fun a => ?_
    rw [i5]
    match a with
    | ⟨0, _⟩ => show i.val = 0 * 512 + i.val; omega
    | ⟨1, _⟩ => show j.val = 0 * 1024 + j.val; omega
  · refine iblk1_at m c t _ _ fun a => ?_
    rw [i1]
    match a with
    | ⟨0, _⟩ => show (z 0 : ℕ) = t.val / 8 * 1 + 0; omega
    | ⟨1, _⟩ => show 0 = 0 * 1 + 0; omega
    | ⟨2, _⟩ => show i.val = 0 * 6 + i.val; omega
    | ⟨3, _⟩ => show j.val = 0 * 1024 + j.val; omega
  · refine iblk6_at m c t _ _ fun a => ?_
    rw [i6]
    match a with
    | ⟨0, _⟩ => show i.val = 0 * 2 + i.val; omega
    | ⟨1, _⟩ => show j.val = 0 * 1024 + j.val; omega
  · refine iblk7_at m c t _ _ fun a => ?_
    rw [i7]
    match a with
    | ⟨0, _⟩ => show i.val = 0 * 2 + i.val; omega
    | ⟨1, _⟩ => show j.val = 0 * 1024 + j.val; omega
  · refine iblk8_at m c t _ _ fun a => ?_
    rw [i8]
    match a with
    | ⟨0, _⟩ => show i.val = 0 * 1024 + i.val; omega
    | ⟨1, _⟩ => show j.val = 0 * 4096 + j.val; omega
  · refine iblk9_at m c t _ _ fun a => ?_
    rw [i9]
    match a with
    | ⟨0, _⟩ => show i.val = 0 * 4096 + i.val; omega
    | ⟨1, _⟩ => show j.val = 0 * 1024 + j.val; omega

end Cert.PostEvenIdeal.Post

end
-- ==== Proof.PostEvenEntry.lean ====
module

public import proofs.«01_k».proof.Proof.Gen.PostEvenIdeal.Value
public import Idealize.ShloMosaic.Lib.Pipeline.ValueKit
public import Idealize.ShloMosaic.Lib.Pointwise
public import Idealize.ShloMosaic.Lib.Claim
public import proofs.«01_k».proof.Proof.Layout

@[expose] public section

set_option maxRecDepth 16384

noncomputable section

open Idealize.ShloMosaic Idealize.ShloMosaic.TcCoe Idealize.SL.Sem
open Idealize.ShloMosaic.Pipeline (Dat)

namespace Cert.PostEvenIdeal.Post

open Cert.PostEvenIdeal Cert.PostEvenIdeal.Gen

/-- The first branch's weights. -/
def wA (w : FVec Ideal S1024x1024 .f32) : FVec Ideal S512x1024 .bf16 :=
  extractStridedSlice S512x1024 ![0, 0] (truncf .bf16 w bitsLt_bf16_f32 : FVec Ideal S1024x1024 .bf16) slices_S1024x1024_S512x1024_0_0

/-- The second branch's weights. -/
def wB (w : FVec Ideal S1024x1024 .f32) : FVec Ideal S512x1024 .bf16 :=
  extractStridedSlice S512x1024 ![512, 0] (truncf .bf16 w bitsLt_bf16_f32 : FVec Ideal S1024x1024 .bf16) slices_S1024x1024_S512x1024_512_0

theorem wA_at (w : FVec Ideal S1024x1024 .f32) (n : Fin 512) (k : Fin 1024) : wA w (ix2 n k) = w (ix2 ⟨n.val, by omega⟩ k) := by
  pointwise [wA]

theorem wB_at (w : FVec Ideal S1024x1024 .f32) (n : Fin 512) (k : Fin 1024) : wB w (ix2 n k) = w (ix2 ⟨512 + n.val, by omega⟩ k) := by
  pointwise [wB]

variable (m : (ℓ : Loc nD τ sig) → Buf (Elt Ideal) ℓ)

theorem V1 (c : Dev nD) : V m c main_v1 = (truncf .bf16 (m ((c : Thread nD τ).loc main_arg3) : FVec Ideal S4x8192x512 .f32) bitsLt_bf16_f32 : FVec Ideal S4x8192x512 .bf16) := by
  unfold V
  simp only [hostOps0, List.flatten_cons, List.flatten_nil, List.append_nil, List.cons_append, List.nil_append]
  after_results

theorem V2 (c : Dev nD) : V m c main_v2 = wA (m ((c : Thread nD τ).loc main_arg4)) := by
  unfold V
  simp only [hostOps0, List.flatten_cons, List.flatten_nil, List.append_nil, List.cons_append, List.nil_append]
  after_results; rfl

theorem V3 (c : Dev nD) : V m c main_v3 = wB (m ((c : Thread nD τ).loc main_arg4)) := by
  unfold V
  simp only [hostOps0, List.flatten_cons, List.flatten_nil, List.append_nil, List.cons_append, List.nil_append]
  after_results; rfl

theorem V4 (c : Dev nD) : V m c main_v4 = (truncf .bf16 (m ((c : Thread nD τ).loc main_arg7) : FVec Ideal S1024x4096 .f32) bitsLt_bf16_f32 : FVec Ideal S1024x4096 .bf16) := by
  unfold V
  simp only [hostOps0, List.flatten_cons, List.flatten_nil, List.append_nil, List.cons_append, List.nil_append]
  after_results

theorem V5 (c : Dev nD) : V m c main_v5 = (truncf .bf16 (m ((c : Thread nD τ).loc main_arg8) : FVec Ideal S4096x1024 .f32) bitsLt_bf16_f32 : FVec Ideal S4096x1024 .bf16) := by
  unfold V
  simp only [hostOps0, List.flatten_cons, List.flatten_nil, List.append_nil, List.cons_append, List.nil_append]
  after_results

end Cert.PostEvenIdeal.Post

end
-- ==== Proof.PostEvenRef.lean ====
module

public import proofs.«01_k».proof.Proof.Gen.PostEvenRefIdeal.Run
public import Idealize.ShloMosaic.Lib.Pipeline.ValueKit
public import Idealize.ShloMosaic.Lib.Pointwise
public import Idealize.ShloMosaic.Lib.Claim
public import proofs.«01_k».proof.Proof.Layout
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.PostEvenRefIdeal.Post

open Cert.PostEvenRefIdeal Cert.PostEvenRefIdeal.Gen

/-- The means of the rows. -/
def meanV (v : FVec Ideal S4x8192x1024 .f32) : FVec Ideal S4x8192x1 .f32 :=
  Host.divf (broadcastInDim S4x8192x1 ![0, 1] bcast_S4x8192_S4x8192x1_0_1 (Host.reduceAdd v (constant S_ .f32 0x00000000#32) reducesTo_S4x8192x1024_S4x8192_d2 h_S_)) (broadcastInDim S4x8192x1 ![] bcast_S_S4x8192x1 (constant S_ .f32 0x44800000#32))

/-- Rows less their means. -/
def cen (v : FVec Ideal S4x8192x1024 .f32) : FVec Ideal S4x8192x1024 .f32 :=
  subf v (broadcastInDim S4x8192x1024 ![0, 1, 2] bcast_S4x8192x1_S4x8192x1024_0_1_2 (meanV v))

/-- Rows less their means, over their standard deviations. -/
def normV (v : FVec Ideal S4x8192x1024 .f32) : FVec Ideal S4x8192x1024 .f32 :=
  mulf (cen v) (broadcastInDim S4x8192x1024 ![0, 1, 2] bcast_S4x8192x1_S4x8192x1024_0_1_2 (Host.rsqrt (addf (meanV (mulf (cen v) (cen v)))
    (broadcastInDim S4x8192x1 ![] bcast_S_S4x8192x1 (constant S_ .f32 0x3727C5AC#32)))))

/-- A row of a table of two, for every token. -/
def row0 (g : FVec Ideal S2x1024 .f32) : FVec Ideal S4x8192x1024 .f32 :=
  broadcastInDim S4x8192x1024 ![0, 1, 2] bcast_S1x1x1024_S4x8192x1024_0_1_2 (broadcastInDim S1x1x1024 ![2] bcast_S1024_S1x1x1024_2 (shapeCast S1024 (extractStridedSlice S1x1024 ![0, 0] g slices_S2x1024_S1x1024_0_0) shapeCasts_S1x1024_S1024))

/-- The other row. -/
def row1 (g : FVec Ideal S2x1024 .f32) : FVec Ideal S4x8192x1024 .f32 :=
  broadcastInDim S4x8192x1024 ![0, 1, 2] bcast_S1x1x1024_S4x8192x1024_0_1_2 (broadcastInDim S1x1x1024 ![2] bcast_S1024_S1x1x1024_2 (shapeCast S1024 (extractStridedSlice S1x1024 ![1, 0] g slices_S2x1024_S1x1024_1_0) shapeCasts_S1x1024_S1024))

/-- The layer's modulation vectors. -/
def mods (m : FVec Ideal S4x2x6x1024 .f32) : FVec Ideal S4x6x1024 .f32 :=
  shapeCast S4x6x1024 (extractStridedSlice S4x1x6x1024 ![0, 0, 0, 0] m slices_S4x2x6x1024_S4x1x6x1024_0_0_0_0) shapeCasts_S4x1x6x1024_S4x6x1024

/-- The mixer's residual. -/
def res1 (m : FVec Ideal S4x6x1024 .f32) (x y : FVec Ideal S4x8192x1024 .f32) : FVec Ideal S4x8192x1024 .f32 :=
  addf (mulf (broadcastInDim S4x8192x1024 ![] bcast_S_S4x8192x1024 (constant S_ .f32 0x3FB504F3#32)) x)
    (mulf (broadcastInDim S4x8192x1024 ![0, 1, 2] bcast_S4x1x1024_S4x8192x1024_0_1_2 (extractStridedSlice S4x1x1024 ![0, 2, 0] m slices_S4x6x1024_S4x1x1024_0_2_0)) y)

/-- The channel mixer's residual. -/
def res2 (m : FVec Ideal S4x6x1024 .f32) (x y : FVec Ideal S4x8192x1024 .f32) : FVec Ideal S4x8192x1024 .f32 :=
  addf (mulf (broadcastInDim S4x8192x1024 ![] bcast_S_S4x8192x1024 (constant S_ .f32 0x3FB504F3#32)) x)
    (mulf (broadcastInDim S4x8192x1024 ![0, 1, 2] bcast_S4x1x1024_S4x8192x1024_0_1_2 (extractStridedSlice S4x1x1024 ![0, 5, 0] m slices_S4x6x1024_S4x1x1024_0_5_0)) y)

/-- The modulated rows. -/
def modV (m : FVec Ideal S4x6x1024 .f32) (v : FVec Ideal S4x8192x1024 .f32) : FVec Ideal S4x8192x1024 .f32 :=
  addf (mulf v (broadcastInDim S4x8192x1024 ![0, 1, 2] bcast_S4x1x1024_S4x8192x1024_0_1_2 (addf (broadcastInDim S4x1x1024 ![] bcast_S_S4x1x1024 (constant S_ .f32 0x3F800000#32)) (extractStridedSlice S4x1x1024 ![0, 4, 0] m slices_S4x6x1024_S4x1x1024_0_4_0))))
    (broadcastInDim S4x8192x1024 ![0, 1, 2] bcast_S4x1x1024_S4x8192x1024_0_1_2 (extractStridedSlice S4x1x1024 ![0, 3, 0] m slices_S4x6x1024_S4x1x1024_0_3_0))

/-- The hidden units, cut at zero. -/
def hid (h : FVec Ideal S4x8192x1024 .f32) (w : FVec Ideal S1024x4096 .f32) : FVec Ideal S4x8192x4096 .f32 :=
  maximumf (Host.dotGeneral dot_S4x8192x1024_S1024x4096_S4x8192x4096_2_0_01_1_n_n none h w) (broadcastInDim S4x8192x4096 ![] bcast_S_S4x8192x4096 (constant S_ .f32 0x00000000#32))

/-- The channel mixer. -/
def mlpV (h : FVec Ideal S4x8192x1024 .f32) (w : FVec Ideal S1024x4096 .f32) (u : FVec Ideal S4096x1024 .f32) : FVec Ideal S4x8192x1024 .f32 :=
  Host.dotGeneral dot_S4x8192x4096_S4096x1024_S4x8192x1024_2_0_01_1_n_n none (mulf (hid h w) (hid h w)) u

/-- The slabs as tokens by channels. -/
def hy (y : FVec Ideal S4x64x512x128 .f32) : FVec Ideal S4x8192x512 .f32 :=
  shapeCast S4x8192x512 (transpose S4x64x128x512 [0, 1, 3, 2] y transposes_S4x64x512x128_S4x64x128x512_0_1_3_2) shapeCasts_S4x64x128x512_S4x8192x512

/-- Both branches side by side. -/
def cat (p q : FVec Ideal S4x8192x512 .f32) : FVec Ideal S4x8192x1024 .f32 :=
  concatenate S4x8192x1024 2 [⟨S4x8192x512, p⟩, ⟨S4x8192x512, q⟩] concatenates_S4x8192x512_S4x8192x512_S4x8192x1024_d2

/-- The output projection. -/
def proj (y : FVec Ideal S4x8192x1024 .f32) (w : FVec Ideal S1024x1024 .f32) : FVec Ideal S4x8192x1024 .f32 :=
  Host.dotGeneral dot_S4x8192x1024_S1024x1024_S4x8192x1024_2_0_01_1_n_n none y w

/-- The first half: residual and norm. -/
def head (x : FVec Ideal S4x8192x1024 .f32) (m : FVec Ideal S4x6x1024 .f32) (y : FVec Ideal S4x8192x1024 .f32) (lg lb : FVec Ideal S2x1024 .f32) : FVec Ideal S4x8192x1024 .f32 :=
  addf (mulf (normV (res1 m x y)) (row0 lg)) (row0 lb)

/-- The second half. -/
def tail (x1 : FVec Ideal S4x8192x1024 .f32) (m : FVec Ideal S4x6x1024 .f32) (lg lb : FVec Ideal S2x1024 .f32)
    (w : FVec Ideal S1024x4096 .f32) (u : FVec Ideal S4096x1024 .f32) : FVec Ideal S4x8192x1024 .f32 :=
  addf (mulf (normV (res2 m x1 (mlpV (modV m (normV x1)) w u))) (row1 lg)) (row1 lb)

/-- The reference's result. -/
def post (x : FVec Ideal S4x8192x1024 .f32) (mt : FVec Ideal S4x2x6x1024 .f32) (y : FVec Ideal S4x64x512x128 .f32) (a : FVec Ideal S4x8192x512 .f32)
    (wo : FVec Ideal S1024x1024 .f32) (lg lb : FVec Ideal S2x1024 .f32) (w : FVec Ideal S1024x4096 .f32) (u : FVec Ideal S4096x1024 .f32) : FVec Ideal S4x8192x1024 .f32 :=
  tail (head x (mods mt) (proj (cat (hy y) a) wo) lg lb) (mods mt) lg lb w u

section entries
open Cert.Rows

theorem ofBits_zero : Ideal.ofBits .f32 0x00000000#32 = (0 : EReal) := by
  simp [Ideal.ofBits, Ideal.ieee]

theorem meanV_at (v : FVec Ideal S4x8192x1024 .f32) (b : Fin 4) (t : Fin 8192) (z : Fin 1) :
    meanV v (ix3 b t z) = mean (fun j => v (ix3 b t j)) := by
  pointwise [meanV, mean]

theorem cen_at (v : FVec Ideal S4x8192x1024 .f32) (b : Fin 4) (t : Fin 8192) (k : Fin 1024) :
    cen v (ix3 b t k) = (v (ix3 b t k) : EReal) - mean (fun j => v (ix3 b t j)) := by
  pointwise [cen, meanV_at]

theorem normV_at (v : FVec Ideal S4x8192x1024 .f32) (b : Fin 4) (t : Fin 8192) (k : Fin 1024) :
    normV v (ix3 b t k) = Rows.norm (fun j => v (ix3 b t j)) k := by
  pointwise [normV, Rows.norm, meanV_at, cen_at]

theorem row0_at (g : FVec Ideal S2x1024 .f32) (b : Fin 4) (t : Fin 8192) (k : Fin 1024) : row0 g (ix3 b t k) = g (ix2 0 k) := by
  pointwise [row0]

theorem row1_at (g : FVec Ideal S2x1024 .f32) (b : Fin 4) (t : Fin 8192) (k : Fin 1024) : row1 g (ix3 b t k) = g (ix2 1 k) := by
  pointwise [row1]

theorem mods_at (m : FVec Ideal S4x2x6x1024 .f32) (b : Fin 4) (a : Fin 6) (k : Fin 1024) : mods m (ix3 b a k) = m (ix4 b 0 a k) := by
  pointwise [mods]

theorem res1_at (m : FVec Ideal S4x6x1024 .f32) (x y : FVec Ideal S4x8192x1024 .f32) (b : Fin 4) (t : Fin 8192) (k : Fin 1024) :
    res1 m x y (ix3 b t k) = resid (fun j => x (ix3 b t j)) (fun j => m (ix3 b 2 j)) (fun j => y (ix3 b t j)) k := by
  pointwise [res1, resid]

theorem res2_at (m : FVec Ideal S4x6x1024 .f32) (x y : FVec Ideal S4x8192x1024 .f32) (b : Fin 4) (t : Fin 8192) (k : Fin 1024) :
    res2 m x y (ix3 b t k) = resid (fun j => x (ix3 b t j)) (fun j => m (ix3 b 5 j)) (fun j => y (ix3 b t j)) k := by
  pointwise [res2, resid]

theorem modV_at (m : FVec Ideal S4x6x1024 .f32) (v : FVec Ideal S4x8192x1024 .f32) (b : Fin 4) (t : Fin 8192) (k : Fin 1024) :
    modV m v (ix3 b t k) = modulate (fun j => v (ix3 b t j)) (fun j => m (ix3 b 3 j)) (fun j => m (ix3 b 4 j)) k := by
  pointwise [modV, modulate]

theorem hid_at (h : FVec Ideal S4x8192x1024 .f32) (w : FVec Ideal S1024x4096 .f32) (b : Fin 4) (t : Fin 8192) (k : Fin 4096) :
    hid h w (ix3 b t k) = Rows.hidden (fun j => h (ix3 b t j)) (fun i j => w (ix2 i j)) k := by
  pointwise [hid, Rows.hidden, ofBits_zero]

theorem mlpV_at (h : FVec Ideal S4x8192x1024 .f32) (w : FVec Ideal S1024x4096 .f32) (u : FVec Ideal S4096x1024 .f32) (b : Fin 4) (t : Fin 8192) (k : Fin 1024) :
    mlpV h w u (ix3 b t k) = mlp (fun j => h (ix3 b t j)) (fun i j => w (ix2 i j)) (fun i j => u (ix2 i j)) k := by
  pointwise [mlpV, mlp, hid_at]

theorem proj_at (y : FVec Ideal S4x8192x1024 .f32) (w : FVec Ideal S1024x1024 .f32) (b : Fin 4) (t : Fin 8192) (k : Fin 1024) :
    proj y w (ix3 b t k) = ∑ n : Fin 1024, (y (ix3 b t n) : EReal) * w (ix2 n k) := by
  pointwise [proj]

theorem cat_at (p q : FVec Ideal S4x8192x512 .f32) (b : Fin 4) (t : Fin 8192) (n : Fin 1024) :
    cat p q (ix3 b t n) = if h : n.val < 512 then (p (ix3 b t ⟨n.val, h⟩) : EReal) else q (ix3 b t ⟨n.val - 512, by omega⟩) := by
  pointwise [cat]

theorem hy_at (y : FVec Ideal S4x64x512x128 .f32) (b : Fin 4) (s : Fin 64) (l : Fin 128) (t : Fin 8192) (n : Fin 512)
    (ht : t.val = s.val * 128 + l.val) : hy y (ix3 b t n) = y (ix4 b s n l) := by
  have e : transpose S4x64x128x512 [0, 1, 3, 2] y transposes_S4x64x512x128_S4x64x128x512_0_1_3_2 (ix4 b s l n) = y (ix4 b s n l) := by pointwise
  unfold hy
  exact (Cert.Layout.merge_mid (B := 4) (A := 64) (P := 128) (D := 512) (T := 8192) _ _ (by norm_num) b s l n t ht).trans e

theorem head_at (x : FVec Ideal S4x8192x1024 .f32) (m : FVec Ideal S4x6x1024 .f32) (y : FVec Ideal S4x8192x1024 .f32) (lg lb : FVec Ideal S2x1024 .f32)
    (b : Fin 4) (t : Fin 8192) (k : Fin 1024) :
    head x m y lg lb (ix3 b t k) = first (fun j => x (ix3 b t j)) (fun j => y (ix3 b t j)) (fun j => m (ix3 b 2 j)) (fun j => lg (ix2 0 j)) (fun j => lb (ix2 0 j)) k := by
  show (normV (res1 m x y) (ix3 b t k) : EReal) * row0 lg (ix3 b t k) + row0 lb (ix3 b t k) = _
  rw [normV_at, row0_at, row0_at]
  simp only [res1_at]
  rfl

theorem tail_at (x1 : FVec Ideal S4x8192x1024 .f32) (m : FVec Ideal S4x6x1024 .f32) (lg lb : FVec Ideal S2x1024 .f32)
    (w : FVec Ideal S1024x4096 .f32) (u : FVec Ideal S4096x1024 .f32) (b : Fin 4) (t : Fin 8192) (k : Fin 1024) :
    tail x1 m lg lb w u (ix3 b t k) = second (fun h => mlp h (fun i j => w (ix2 i j)) (fun i j => u (ix2 i j))) (fun j => x1 (ix3 b t j))
      (fun j => m (ix3 b 3 j)) (fun j => m (ix3 b 4 j)) (fun j => m (ix3 b 5 j)) (fun j => lg (ix2 1 j)) (fun j => lb (ix2 1 j)) k := by
  show (normV (res2 m x1 (mlpV (modV m (normV x1)) w u)) (ix3 b t k) : EReal) * row1 lg (ix3 b t k) + row1 lb (ix3 b t k) = _
  rw [normV_at, row1_at, row1_at]
  simp only [res2_at, mlpV_at, modV_at, normV_at]
  rfl

/-- The reference's result, entry by entry. -/
theorem post_at (x : FVec Ideal S4x8192x1024 .f32) (mt : FVec Ideal S4x2x6x1024 .f32) (y : FVec Ideal S4x64x512x128 .f32) (a : FVec Ideal S4x8192x512 .f32)
    (wo : FVec Ideal S1024x1024 .f32) (lg lb : FVec Ideal S2x1024 .f32) (w : FVec Ideal S1024x4096 .f32) (u : FVec Ideal S4096x1024 .f32) (b : Fin 4) (t : Fin 8192) (k : Fin 1024) :
    post x mt y a wo lg lb w u (ix3 b t k)
      = second (fun h => mlp h (fun i j => w (ix2 i j)) (fun i j => u (ix2 i j)))
          (first (fun j => x (ix3 b t j)) (fun j => ∑ n : Fin 1024, (cat (hy y) a (ix3 b t n) : EReal) * wo (ix2 n j))
            (fun j => mt (ix4 b 0 2 j)) (fun j => lg (ix2 0 j)) (fun j => lb (ix2 0 j)))
          (fun j => mt (ix4 b 0 3 j)) (fun j => mt (ix4 b 0 4 j)) (fun j => mt (ix4 b 0 5 j)) (fun j => lg (ix2 1 j)) (fun j => lb (ix2 1 j)) k := by
  unfold post
  rw [tail_at]
  simp only [head_at, proj_at, mods_at]

end entries

end Cert.PostEvenRefIdeal.Post

end
-- ==== Proof.PostEven.lean ====
module

public import proofs.«01_k».proof.Proof.PostEvenPure
public import proofs.«01_k».proof.Proof.PostEvenEntry
public import proofs.«01_k».proof.Proof.PostEvenRef

@[expose] public section

set_option maxRecDepth 16384

noncomputable section

open Idealize.ShloMosaic Idealize.ShloMosaic.TcCoe Idealize.SL.Sem

namespace Cert.PostEvenEq

open Cert.PostEvenIdeal (S4x8192x1024 S4x2x6x1024 S4x64x512x128 S4x8192x512 S1024x1024 S512x1024 S2x1024 S1024x4096 S4096x1024)
open Cert.PostEvenIdeal.Gen (bitsLt_bf16_f32)
open Cert.PostEvenIdeal.Post (rowOut postArr wA wB wA_at wB_at)
open Cert.PostEvenRefIdeal.Post (post post_at cat hy cat_at hy_at)

/-- The projection of one token: the branches' products added are the product of the joined branches. -/
theorem proj_eq (y : FVec Ideal S4x64x512x128 .f32) (a : FVec Ideal S4x8192x512 .f32) (wo : FVec Ideal S1024x1024 .f32) (b : Fin 4) (t : Fin 8192) (j : Fin 1024) :
    ∑ n : Fin 1024, (cat (hy y) a (ix3 b t n) : EReal) * wo (ix2 n j)
      = ∑ i : Fin 512, (y (ix4 b ⟨t.val / 128, by omega⟩ i ⟨t.val % 128, by omega⟩) : EReal) * wA wo (ix2 i j)
        + ∑ i : Fin 512, (a (ix3 b t i) : EReal) * wB wo (ix2 i j) := by
  rw [Cert.Softmax.sum_split (a := 512) (b := 512) (n := 1024) (by norm_num)]
  refine congrArg₂ (fun p q : EReal => p + q) (Finset.sum_congr rfl fun i _ => ?_) (Finset.sum_congr rfl fun i _ => ?_)
  · rw [wA_at, cat_at, dif_pos (show (⟨i.val, by omega⟩ : Fin 1024).val < 512 from i.isLt),
      hy_at y b ⟨t.val / 128, by omega⟩ ⟨t.val % 128, by omega⟩ t _ (by show t.val = t.val / 128 * 128 + t.val % 128; omega)]
  · rw [wB_at, cat_at, dif_neg (show ¬ (⟨512 + i.val, by omega⟩ : Fin 1024).val < 512 by show ¬ 512 + i.val < 512; omega)]
    rw [show (⟨(⟨512 + i.val, by omega⟩ : Fin 1024).val - 512, by show 512 + i.val - 512 < 512; omega⟩ : Fin 512) = i from Fin.ext (by show 512 + i.val - 512 = i.val; omega)]

theorem post_entry (x : FVec Ideal S4x8192x1024 .f32) (mt : FVec Ideal S4x2x6x1024 .f32) (y : FVec Ideal S4x64x512x128 .f32) (a : FVec Ideal S4x8192x512 .f32)
    (wo : FVec Ideal S1024x1024 .f32) (lg lb : FVec Ideal S2x1024 .f32) (w : FVec Ideal S1024x4096 .f32) (u : FVec Ideal S4096x1024 .f32)
    (b : Fin 4) (t : Fin 8192) (k : Fin 1024) :
    post x mt y a wo lg lb w u (ix3 b t k)
      = postArr x mt y (truncf .bf16 a bitsLt_bf16_f32) (wA wo) (wB wo) lg lb (truncf .bf16 w bitsLt_bf16_f32) (truncf .bf16 u bitsLt_bf16_f32) (ix3 b t k) := by
  rw [post_at]
  simp only [proj_eq]
  unfold postArr rowOut
  simp only [Cert.Rows.mlp4_eq]
  rfl

/-- The reference's result is the array the call leaves. -/
theorem post_eq (x : FVec Ideal S4x8192x1024 .f32) (mt : FVec Ideal S4x2x6x1024 .f32) (y : FVec Ideal S4x64x512x128 .f32) (a : FVec Ideal S4x8192x512 .f32)
    (wo : FVec Ideal S1024x1024 .f32) (lg lb : FVec Ideal S2x1024 .f32) (w : FVec Ideal S1024x4096 .f32) (u : FVec Ideal S4096x1024 .f32) :
    post x mt y a wo lg lb w u
      = postArr x mt y (truncf .bf16 a bitsLt_bf16_f32) (wA wo) (wB wo) lg lb (truncf .bf16 w bitsLt_bf16_f32) (truncf .bf16 u bitsLt_bf16_f32) := by
  funext j
  idx_vars j
  exact post_entry _ _ _ _ _ _ _ _ _ _ _ _

end Cert.PostEvenEq

end
-- ==== Proof.FrontEvenTile.lean ====
module

public import proofs.«01_k».proof.Proof.Gen.FrontEvenIdeal.Frame
public import Idealize.ShloMosaic.Lib.Pipeline.ValueKit
public import Idealize.ShloMosaic.Lib.Pointwise
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.FrontEvenIdeal.Front

open Cert.FrontEvenIdeal Cert.FrontEvenIdeal.Gen

/-- Rows less their means. -/
def cen (v : FVec Ideal S256x1024 .f32) : FVec Ideal S256x1024 .f32 :=
  subf v (broadcastTo S256x1024 (divf (shapeCast S256x1 (multiReduction .add [1] S256 v 0x00000000#32 reduces_S256x1024_S256 (.inl rfl) rfl) shapeCasts_S256_S256x1)
    (broadcast S256x1 (Scalar.ofBits .f32 0x44800000#32))) broadcasts_S256x1_S256x1024)

/-- Rows less their means, over their standard deviations. -/
def normV (v : FVec Ideal S256x1024 .f32) : FVec Ideal S256x1024 .f32 :=
  mulf (cen v) (broadcastTo S256x1024 (rsqrt (addf (divf (shapeCast S256x1 (multiReduction .add [1] S256 (mulf (cen v) (cen v)) 0x00000000#32 reduces_S256x1024_S256 (.inl rfl) rfl) shapeCasts_S256_S256x1)
    (broadcast S256x1 (Scalar.ofBits .f32 0x44800000#32))) (broadcast S256x1 (Scalar.ofBits .f32 0x3727C5AC#32)))) broadcasts_S256x1_S256x1024)

/-- The modulation vectors without their leading axes. -/
def mods (m : Vec Ideal S1x1x6x1024 .f32) : FVec Ideal S6x1024 .f32 := shapeCast S6x1024 m shapeCasts_S1x1x6x1024_S6x1024

/-- The modulated norm of 256 rows. -/
def hv (m : Vec Ideal S1x1x6x1024 .f32) (x : Vec Ideal S1x256x1024 .f32) : FVec Ideal S256x1024 .bf16 :=
  truncf .bf16 (addf (mulf (normV (shapeCast S256x1024 x shapeCasts_S1x256x1024_S256x1024 : FVec Ideal S256x1024 .f32)) (broadcastTo S256x1024 (addf (broadcast S1x1024 (Scalar.ofBits .f32 0x3F800000#32)) (extractStridedSlice S1x1024 ![1, 0] (mods m) slices_S6x1024_o1_0_S1x1024)) broadcasts_S1x1024_S256x1024))
    (broadcastTo S256x1024 (extractStridedSlice S1x1024 ![0, 0] (mods m) slices_S6x1024_o0_0_S1x1024) broadcasts_S1x1024_S256x1024)) bitsLt_bf16_f32

/-- What is stored for 256 rows of the token-major half. -/
def uV (m : Vec Ideal S1x1x6x1024 .f32) (x : Vec Ideal S1x256x1024 .f32) (w : Vec Ideal S1024x1536 .bf16) : FVec Ideal S1x256x1536 .bf16 :=
  shapeCast S1x256x1536 (truncf .bf16 (matmul dot_S256x1024_S1024x1536_S256x1536_1_0_0_1_n_n none (hv m x) (shapeCast S1024x1536 w shapeCasts_S1024x1536_S1024x1536 : FVec Ideal S1024x1536 .bf16)
    (constant S256x1536 .f32 0x00000000#32)) bitsLt_bf16_f32) shapeCasts_S256x1536_S1x256x1536

/-- The four groups of rows together. -/
def allV (m : Vec Ideal S1x1x6x1024 .f32) (a b c d : Vec Ideal S1x256x1024 .f32) : FVec Ideal S1024x1024 .bf16 :=
  concatenate S1024x1024 0 [⟨S256x1024, hv m a⟩, ⟨S256x1024, hv m b⟩, ⟨S256x1024, hv m c⟩, ⟨S256x1024, hv m d⟩] concatenates_S256x1024_S256x1024_S256x1024_S256x1024_S1024x1024_d0

/-- 512 channels of the channel-major half, for all rows. -/
def tV (h : FVec Ideal S1024x1024 .bf16) (w : Vec Ideal S512x1024 .bf16) : FVec Ideal S512x1024 .f32 :=
  matmul dot_S512x1024_S1024x1024_S512x1024_1_1_0_0_n_n none (shapeCast S512x1024 w shapeCasts_S512x1024_S512x1024 : FVec Ideal S512x1024 .bf16) h (constant S512x1024 .f32 0x00000000#32)

section entries
open Cert.Rows

theorem cen_at (v : FVec Ideal S256x1024 .f32) (r : Fin 256) (k : Fin 1024) :
    cen v (ix2 r k) = (v (ix2 r k) : EReal) - mean (fun j => v (ix2 r j)) := by
  pointwise [cen, mean]

theorem normV_at (v : FVec Ideal S256x1024 .f32) (r : Fin 256) (k : Fin 1024) :
    normV v (ix2 r k) = Rows.norm (fun j => v (ix2 r j)) k := by
  pointwise [normV, Rows.norm, mean, cen_at]

theorem mods_at (m : Vec Ideal S1x1x6x1024 .f32) (a : Fin 6) (k : Fin 1024) : mods m (ix2 a k) = m (ix4 0 0 a k) := by
  pointwise [mods]

/-- A row's modulated norm, entry by entry. -/
theorem hv_at (m : Vec Ideal S1x1x6x1024 .f32) (x : Vec Ideal S1x256x1024 .f32) (r : Fin 256) (k : Fin 1024) :
    hv m x (ix2 r k) = modulate (Rows.norm (fun j => x (ix3 0 r j))) (fun j => m (ix4 0 0 0 j)) (fun j => m (ix4 0 0 1 j)) k := by
  have e (j : Fin 1024) : (shapeCast S256x1024 x shapeCasts_S1x256x1024_S256x1024 : FVec Ideal S256x1024 .f32) (ix2 r j) = x (ix3 0 r j) := by
    pointwise
  pointwise [hv, modulate, normV_at, mods_at, e]

theorem uV_at (m : Vec Ideal S1x1x6x1024 .f32) (x : Vec Ideal S1x256x1024 .f32) (w : Vec Ideal S1024x1536 .bf16) (r : Fin 256) (j : Fin 1536) :
    uV m x w (ix3 0 r j) = ∑ k : Fin 1024, modulate (Rows.norm (fun j => x (ix3 0 r j))) (fun j => m (ix4 0 0 0 j)) (fun j => m (ix4 0 0 1 j)) k * (w (ix2 k j) : EReal) := by
  pointwise [uV, hv_at]

theorem tV_at (h : FVec Ideal S1024x1024 .bf16) (w : Vec Ideal S512x1024 .bf16) (r : Fin 512) (t : Fin 1024) :
    tV h w (ix2 r t) = ∑ k : Fin 1024, (w (ix2 r k) : EReal) * h (ix2 t k) := by
  pointwise [tV]

theorem allV_at (m : Vec Ideal S1x1x6x1024 .f32) (a b c d : Vec Ideal S1x256x1024 .f32) (t k : Fin 1024) (X : Fin 1024 → Fin 1024 → EReal)
    (ha : ∀ (r : Fin 256) j, a (ix3 0 r j) = X ⟨r.val, by omega⟩ j) (hb : ∀ (r : Fin 256) j, b (ix3 0 r j) = X ⟨256 + r.val, by omega⟩ j)
    (hc : ∀ (r : Fin 256) j, c (ix3 0 r j) = X ⟨512 + r.val, by omega⟩ j) (hd : ∀ (r : Fin 256) j, d (ix3 0 r j) = X ⟨768 + r.val, by omega⟩ j) :
    allV m a b c d (ix2 t k) = modulate (Rows.norm (X t)) (fun j => m (ix4 0 0 0 j)) (fun j => m (ix4 0 0 1 j)) k := by
  have e : allV m a b c d (ix2 t k) = if h : t.val < 256 then (hv m a (ix2 ⟨t.val, h⟩ k) : EReal) else if h : t.val - 256 < 256 then hv m b (ix2 ⟨t.val - 256, h⟩ k)
      else if h : t.val - 256 - 256 < 256 then hv m c (ix2 ⟨t.val - 256 - 256, h⟩ k) else hv m d (ix2 ⟨t.val - 256 - 256 - 256, by omega⟩ k) := by
    pointwise [allV]
  rw [e]
  split_ifs with h0 h1 h2
  · rw [hv_at]; simp only [ha]
  · rw [hv_at]; simp only [hb]
    rw [show (⟨256 + (t.val - 256), by omega⟩ : Fin 1024) = t from Fin.ext (by show 256 + (t.val - 256) = t.val; omega)]
  · rw [hv_at]; simp only [hc]
    rw [show (⟨512 + (t.val - 256 - 256), by omega⟩ : Fin 1024) = t from Fin.ext (by show 512 + (t.val - 256 - 256) = t.val; omega)]
  · rw [hv_at]; simp only [hd]
    rw [show (⟨768 + (t.val - 256 - 256 - 256), by omega⟩ : Fin 1024) = t from Fin.ext (by show 768 + (t.val - 256 - 256 - 256) = t.val; omega)]

end entries

/-! The stored values are these. -/

variable (m : Vec Ideal S1x1x6x1024 .f32) (x : Vec Ideal S1x256x1024 .f32) (w : Vec Ideal S1024x1536 .bf16)

theorem tile0 : k0_pay6 m x w = uV m x w := rfl
theorem tile1 : k0_pay8 (k0_pay4 m) x w = uV m x w := rfl
theorem tile2 : k0_pay12 (k0_pay4 m) (k0_pay9 x) (k0_pay10 x) w = uV m x w := rfl
theorem tile3 : k0_pay17 (k0_pay4 m) (k0_pay13 x) (k0_pay14 x) k0_pay15 w = uV m x w := rfl

variable (x0 : Vec Ideal S1x1024x1024 .f32) (x1 : Vec Ideal S1x1x6x1024 .f32) (x2 : Vec Ideal S1024x1536 .bf16) (x3 : Vec Ideal S1536x1024 .bf16)

/-- A row's product with a channel's weights. -/
def chan (x0 : Vec Ideal S1x1024x1024 .f32) (x1 : Vec Ideal S1x1x6x1024 .f32) (x3 : Vec Ideal S1536x1024 .bf16) (n : Fin 1536) (t : Fin 1024) : EReal :=
  ∑ k : Fin 1024, (x3 (ix2 n k) : EReal) * Rows.modulate (Rows.norm (fun j => x0 (ix3 0 t j))) (fun j => x1 (ix4 0 0 0 j)) (fun j => x1 (ix4 0 0 1 j)) k

theorem all_eq : k0_pay56 x0 x1 x2 x3 = allV (View.ld x1 r0_0) (View.ld x0 r0_1) (View.ld x0 r0_4) (View.ld x0 r0_6) (View.ld x0 r0_8) := rfl

theorem all_at (t k : Fin 1024) : k0_pay56 x0 x1 x2 x3 (ix2 t k)
    = Rows.modulate (Rows.norm (fun j => x0 (ix3 0 t j))) (fun j => x1 (ix4 0 0 0 j)) (fun j => x1 (ix4 0 0 1 j)) k := by
  have e (i : Fin 6) (j : Fin 1024) : View.ld x1 r0_0 (ix4 0 0 i j) = x1 (ix4 0 0 i j) := by pointwise
  rw [all_eq, allV_at _ _ _ _ _ t k (fun t j => x0 (ix3 0 t j)) (fun r j => by pointwise) (fun r j => by pointwise) (fun r j => by pointwise) (fun r j => by pointwise)]
  simp only [e]

theorem part0_at (r : Fin 512) (t : Fin 1024) : k0_pay57 x0 x1 x2 x3 (ix2 r t) = chan x0 x1 x3 ⟨0 + r.val, by omega⟩ t := by
  have e (k : Fin 1024) : View.ld x3 r0_10 (ix2 r k) = x3 (ix2 ⟨0 + r.val, by omega⟩ k) := by pointwise
  refine (congrFun (show k0_pay57 x0 x1 x2 x3 = tV (k0_pay56 x0 x1 x2 x3) (View.ld x3 r0_10) from rfl) _).trans ?_
  rw [tV_at]
  simp only [all_at, e, chan]

theorem part1_at (r : Fin 512) (t : Fin 1024) : k0_pay58 x0 x1 x2 x3 (ix2 r t) = chan x0 x1 x3 ⟨512 + r.val, by omega⟩ t := by
  have e (k : Fin 1024) : View.ld x3 r0_19 (ix2 r k) = x3 (ix2 ⟨512 + r.val, by omega⟩ k) := by pointwise
  refine (congrFun (show k0_pay58 x0 x1 x2 x3 = tV (k0_pay56 x0 x1 x2 x3) (View.ld x3 r0_19) from rfl) _).trans ?_
  rw [tV_at]
  simp only [all_at, e, chan]

theorem part2_at (r : Fin 512) (t : Fin 1024) : k0_pay59 x0 x1 x2 x3 (ix2 r t) = chan x0 x1 x3 ⟨1024 + r.val, by omega⟩ t := by
  have e (k : Fin 1024) : View.ld x3 r0_28 (ix2 r k) = x3 (ix2 ⟨1024 + r.val, by omega⟩ k) := by pointwise
  refine (congrFun (show k0_pay59 x0 x1 x2 x3 = tV (k0_pay56 x0 x1 x2 x3) (View.ld x3 r0_28) from rfl) _).trans ?_
  rw [tV_at]
  simp only [all_at, e, chan]

/-- 128 rows of a group of channels, as stored. -/
theorem slab_at (o : ℕ) (v : FVec Ideal S512x1024 .f32) (hs : S512x1024.Slices ![0, o] S512x128) (ho : o + 128 ≤ 1024) (r : Fin 512) (l : Fin 128) :
    shapeCast S1x512x1x128 (extractStridedSlice S512x128 ![0, o] v hs) shapeCasts_S512x128_S1x512x1x128 (ix4 0 r 0 l) = v (ix2 r ⟨o + l.val, by omega⟩) := by
  have e (y : FVec Ideal S512x128 .f32) : shapeCast S1x512x1x128 y shapeCasts_S512x128_S1x512x1x128 (ix4 0 r 0 l) = y (ix2 r l) := by pointwise
  rw [e]
  show v _ = v _
  congr 1
  funext a
  match a with
  | ⟨0, _⟩ => exact Fin.ext (Nat.zero_add _)
  | ⟨1, _⟩ => exact Fin.ext rfl

end Cert.FrontEvenIdeal.Front

end
-- ==== Proof.FrontEvenPure.lean ====
module

public import proofs.«01_k».proof.Proof.Gen.FrontEvenIdeal.Value
public import proofs.«01_k».proof.Proof.FrontEvenTile

@[expose] public section

set_option maxRecDepth 16384

noncomputable section

open Idealize.ShloMosaic Idealize.ShloMosaic.TcCoe Idealize.SL.Sem
open Idealize.ShloMosaic.Pipeline (Dat)

namespace Cert.FrontEvenIdeal.Front

open Cert.FrontEvenIdeal Cert.FrontEvenIdeal.Gen

/-- An index of a block of one leading and one third entry is a channel and a lane. -/
theorem slab_idx (x : S1x512x1x128.Idx) : ∃ (r : Fin 512) (l : Fin 128), x = ix4 0 r 0 l := by
  refine ⟨x 1, x 3, funext fun a => ?_⟩
  match a with
  | ⟨0, _⟩ => exact Subsingleton.elim (α := Fin 1) _ _
  | ⟨1, _⟩ => rfl
  | ⟨2, _⟩ => exact Subsingleton.elim (α := Fin 1) _ _
  | ⟨3, _⟩ => rfl

/-- The first block stored at a grid point, entry by entry. -/
theorem out4_at (x0 : Vec Ideal S1x1024x1024 .f32) (x1 : Vec Ideal S1x1x6x1024 .f32) (x2 : Vec Ideal S1024x1536 .bf16) (x3 : Vec Ideal S1536x1024 .bf16)
    (y : S1x1024x1536.Idx) (R : Fin 1024) (K : Fin 1536) (hR : (y 1 : ℕ) = R) (hK : (y 2 : ℕ) = K) :
    out0_4 x0 x1 x2 x3 y = ∑ k : Fin 1024, Rows.modulate (Rows.norm (fun j => x0 (ix3 0 R j))) (fun j => x1 (ix4 0 0 0 j)) (fun j => x1 (ix4 0 0 1 j)) k * (x2 (ix2 k K) : EReal) := by
  have em (i : Fin 6) (j : Fin 1024) : View.ld x1 r0_0 (ix4 0 0 i j) = x1 (ix4 0 0 i j) := by pointwise
  have ew (i : Fin 1024) (j : Fin 1536) : View.ld x2 r0_2 (ix2 i j) = x2 (ix2 i j) := by pointwise
  unfold_out out0_4
  canon_tiles x h
  · obtain ⟨r, k, rfl⟩ := Cert.Rows.row_idx x
    have e1 : (y 1 : ℕ) = 768 + r.val := h1
    have e2 : (y 2 : ℕ) = k.val := h2
    have lt : 768 + r.val < 1024 := by have := r.isLt; omega
    have eR : R = ⟨768 + r.val, lt⟩ := Fin.ext (hR.symm.trans e1)
    have eK : K = k := Fin.ext (hK.symm.trans e2)
    have ex (j : Fin 1024) : View.ld x0 r0_8 (ix3 0 r j) = x0 (ix3 0 ⟨768 + r.val, lt⟩ j) := by pointwise
    subst eR eK
    refine (congrFun (tile3 _ _ _) _).trans ((uV_at _ _ _ _ _).trans ?_)
    simp only [em, ew, ex]
  · obtain ⟨r, k, rfl⟩ := Cert.Rows.row_idx x
    have e1 : (y 1 : ℕ) = 512 + r.val := h1
    have e2 : (y 2 : ℕ) = k.val := h2
    have lt : 512 + r.val < 1024 := by have := r.isLt; omega
    have eR : R = ⟨512 + r.val, lt⟩ := Fin.ext (hR.symm.trans e1)
    have eK : K = k := Fin.ext (hK.symm.trans e2)
    have ex (j : Fin 1024) : View.ld x0 r0_6 (ix3 0 r j) = x0 (ix3 0 ⟨512 + r.val, lt⟩ j) := by pointwise
    subst eR eK
    refine (congrFun (tile2 _ _ _) _).trans ((uV_at _ _ _ _ _).trans ?_)
    simp only [em, ew, ex]
  · obtain ⟨r, k, rfl⟩ := Cert.Rows.row_idx x
    have e1 : (y 1 : ℕ) = 256 + r.val := h1
    have e2 : (y 2 : ℕ) = k.val := h2
    have lt : 256 + r.val < 1024 := by have := r.isLt; omega
    have eR : R = ⟨256 + r.val, lt⟩ := Fin.ext (hR.symm.trans e1)
    have eK : K = k := Fin.ext (hK.symm.trans e2)
    have ex (j : Fin 1024) : View.ld x0 r0_4 (ix3 0 r j) = x0 (ix3 0 ⟨256 + r.val, lt⟩ j) := by pointwise
    subst eR eK
    refine (congrFun (tile1 _ _ _) _).trans ((uV_at _ _ _ _ _).trans ?_)
    simp only [em, ew, ex]
  · obtain ⟨r, k, rfl⟩ := Cert.Rows.row_idx x
    have e1 : (y 1 : ℕ) = 0 + r.val := (h1 : (y 1 : ℕ) = r.val).trans (Nat.zero_add _).symm
    have e2 : (y 2 : ℕ) = k.val := h2
    have lt : 0 + r.val < 1024 := by have := r.isLt; omega
    have eR : R = ⟨0 + r.val, lt⟩ := Fin.ext (hR.symm.trans e1)
    have eK : K = k := Fin.ext (hK.symm.trans e2)
    have ex (j : Fin 1024) : View.ld x0 r0_1 (ix3 0 r j) = x0 (ix3 0 ⟨0 + r.val, lt⟩ j) := by pointwise
    subst eR eK
    refine (congrFun (tile0 _ _ _) _).trans ((uV_at _ _ _ _ _).trans ?_)
    simp only [em, ew, ex]

/-- The second block stored at a grid point, entry by entry. -/
theorem out5_at (x0 : Vec Ideal S1x1024x1024 .f32) (x1 : Vec Ideal S1x1x6x1024 .f32) (x2 : Vec Ideal S1024x1536 .bf16) (x3 : Vec Ideal S1536x1024 .bf16)
    (y : S1x1536x8x128.Idx) (N : Fin 1536) (T : Fin 1024) (hN : (y 1 : ℕ) = N) (hT : (y 2 : ℕ) * 128 + (y 3 : ℕ) = T) :
    out0_5 x0 x1 x2 x3 y = chan x0 x1 x3 N T := by
  unfold out0_5
  canon_tiles x h
  · obtain ⟨r, l, rfl⟩ := slab_idx x
    have e1 : (y 1 : ℕ) = 1024 + r.val := h1
    have e2 : (y 2 : ℕ) = 7 := h2
    have e3 : (y 3 : ℕ) = l.val := h3
    have lN : 1024 + r.val < 1536 := by have := r.isLt; omega
    have lT : 896 + l.val < 1024 := by have := l.isLt; omega
    have eN : N = ⟨1024 + r.val, lN⟩ := Fin.ext (hN.symm.trans e1)
    have eT : T = ⟨896 + l.val, lT⟩ := Fin.ext (by show T.val = 896 + l.val; omega)
    subst eN eT
    exact (slab_at 896 (k0_pay59 x0 x1 x2 x3) slices_S512x1024_o0_896_S512x128 (by norm_num) r l).trans (part2_at x0 x1 x2 x3 r _)
  · obtain ⟨r, l, rfl⟩ := slab_idx x
    have e1 : (y 1 : ℕ) = 1024 + r.val := h1
    have e2 : (y 2 : ℕ) = 6 := h2
    have e3 : (y 3 : ℕ) = l.val := h3
    have lN : 1024 + r.val < 1536 := by have := r.isLt; omega
    have lT : 768 + l.val < 1024 := by have := l.isLt; omega
    have eN : N = ⟨1024 + r.val, lN⟩ := Fin.ext (hN.symm.trans e1)
    have eT : T = ⟨768 + l.val, lT⟩ := Fin.ext (by show T.val = 768 + l.val; omega)
    subst eN eT
    exact (slab_at 768 (k0_pay59 x0 x1 x2 x3) slices_S512x1024_o0_768_S512x128 (by norm_num) r l).trans (part2_at x0 x1 x2 x3 r _)
  · obtain ⟨r, l, rfl⟩ := slab_idx x
    have e1 : (y 1 : ℕ) = 1024 + r.val := h1
    have e2 : (y 2 : ℕ) = 5 := h2
    have e3 : (y 3 : ℕ) = l.val := h3
    have lN : 1024 + r.val < 1536 := by have := r.isLt; omega
    have lT : 640 + l.val < 1024 := by have := l.isLt; omega
    have eN : N = ⟨1024 + r.val, lN⟩ := Fin.ext (hN.symm.trans e1)
    have eT : T = ⟨640 + l.val, lT⟩ := Fin.ext (by show T.val = 640 + l.val; omega)
    subst eN eT
    exact (slab_at 640 (k0_pay59 x0 x1 x2 x3) slices_S512x1024_o0_640_S512x128 (by norm_num) r l).trans (part2_at x0 x1 x2 x3 r _)
  · obtain ⟨r, l, rfl⟩ := slab_idx x
    have e1 : (y 1 : ℕ) = 1024 + r.val := h1
    have e2 : (y 2 : ℕ) = 4 := h2
    have e3 : (y 3 : ℕ) = l.val := h3
    have lN : 1024 + r.val < 1536 := by have := r.isLt; omega
    have lT : 512 + l.val < 1024 := by have := l.isLt; omega
    have eN : N = ⟨1024 + r.val, lN⟩ := Fin.ext (hN.symm.trans e1)
    have eT : T = ⟨512 + l.val, lT⟩ := Fin.ext (by show T.val = 512 + l.val; omega)
    subst eN eT
    exact (slab_at 512 (k0_pay59 x0 x1 x2 x3) slices_S512x1024_o0_512_S512x128 (by norm_num) r l).trans (part2_at x0 x1 x2 x3 r _)
  · obtain ⟨r, l, rfl⟩ := slab_idx x
    have e1 : (y 1 : ℕ) = 1024 + r.val := h1
    have e2 : (y 2 : ℕ) = 3 := h2
    have e3 : (y 3 : ℕ) = l.val := h3
    have lN : 1024 + r.val < 1536 := by have := r.isLt; omega
    have lT : 384 + l.val < 1024 := by have := l.isLt; omega
    have eN : N = ⟨1024 + r.val, lN⟩ := Fin.ext (hN.symm.trans e1)
    have eT : T = ⟨384 + l.val, lT⟩ := Fin.ext (by show T.val = 384 + l.val; omega)
    subst eN eT
    exact (slab_at 384 (k0_pay59 x0 x1 x2 x3) slices_S512x1024_o0_384_S512x128 (by norm_num) r l).trans (part2_at x0 x1 x2 x3 r _)
  · obtain ⟨r, l, rfl⟩ := slab_idx x
    have e1 : (y 1 : ℕ) = 1024 + r.val := h1
    have e2 : (y 2 : ℕ) = 2 := h2
    have e3 : (y 3 : ℕ) = l.val := h3
    have lN : 1024 + r.val < 1536 := by have := r.isLt; omega
    have lT : 256 + l.val < 1024 := by have := l.isLt; omega
    have eN : N = ⟨1024 + r.val, lN⟩ := Fin.ext (hN.symm.trans e1)
    have eT : T = ⟨256 + l.val, lT⟩ := Fin.ext (by show T.val = 256 + l.val; omega)
    subst eN eT
    exact (slab_at 256 (k0_pay59 x0 x1 x2 x3) slices_S512x1024_o0_256_S512x128 (by norm_num) r l).trans (part2_at x0 x1 x2 x3 r _)
  · obtain ⟨r, l, rfl⟩ := slab_idx x
    have e1 : (y 1 : ℕ) = 1024 + r.val := h1
    have e2 : (y 2 : ℕ) = 1 := h2
    have e3 : (y 3 : ℕ) = l.val := h3
    have lN : 1024 + r.val < 1536 := by have := r.isLt; omega
    have lT : 128 + l.val < 1024 := by have := l.isLt; omega
    have eN : N = ⟨1024 + r.val, lN⟩ := Fin.ext (hN.symm.trans e1)
    have eT : T = ⟨128 + l.val, lT⟩ := Fin.ext (by show T.val = 128 + l.val; omega)
    subst eN eT
    exact (slab_at 128 (k0_pay59 x0 x1 x2 x3) slices_S512x1024_o0_128_S512x128 (by norm_num) r l).trans (part2_at x0 x1 x2 x3 r _)
  · obtain ⟨r, l, rfl⟩ := slab_idx x
    have e1 : (y 1 : ℕ) = 1024 + r.val := h1
    have e2 : (y 2 : ℕ) = 0 := h2
    have e3 : (y 3 : ℕ) = l.val := h3
    have lN : 1024 + r.val < 1536 := by have := r.isLt; omega
    have lT : 0 + l.val < 1024 := by have := l.isLt; omega
    have eN : N = ⟨1024 + r.val, lN⟩ := Fin.ext (hN.symm.trans e1)
    have eT : T = ⟨0 + l.val, lT⟩ := Fin.ext (by show T.val = 0 + l.val; omega)
    subst eN eT
    exact (slab_at 0 (k0_pay59 x0 x1 x2 x3) slices_S512x1024_o0_0_S512x128 (by norm_num) r l).trans (part2_at x0 x1 x2 x3 r _)
  · obtain ⟨r, l, rfl⟩ := slab_idx x
    have e1 : (y 1 : ℕ) = 512 + r.val := h1
    have e2 : (y 2 : ℕ) = 7 := h2
    have e3 : (y 3 : ℕ) = l.val := h3
    have lN : 512 + r.val < 1536 := by have := r.isLt; omega
    have lT : 896 + l.val < 1024 := by have := l.isLt; omega
    have eN : N = ⟨512 + r.val, lN⟩ := Fin.ext (hN.symm.trans e1)
    have eT : T = ⟨896 + l.val, lT⟩ := Fin.ext (by show T.val = 896 + l.val; omega)
    subst eN eT
    exact (slab_at 896 (k0_pay58 x0 x1 x2 x3) slices_S512x1024_o0_896_S512x128 (by norm_num) r l).trans (part1_at x0 x1 x2 x3 r _)
  · obtain ⟨r, l, rfl⟩ := slab_idx x
    have e1 : (y 1 : ℕ) = 512 + r.val := h1
    have e2 : (y 2 : ℕ) = 6 := h2
    have e3 : (y 3 : ℕ) = l.val := h3
    have lN : 512 + r.val < 1536 := by have := r.isLt; omega
    have lT : 768 + l.val < 1024 := by have := l.isLt; omega
    have eN : N = ⟨512 + r.val, lN⟩ := Fin.ext (hN.symm.trans e1)
    have eT : T = ⟨768 + l.val, lT⟩ := Fin.ext (by show T.val = 768 + l.val; omega)
    subst eN eT
    exact (slab_at 768 (k0_pay58 x0 x1 x2 x3) slices_S512x1024_o0_768_S512x128 (by norm_num) r l).trans (part1_at x0 x1 x2 x3 r _)
  · obtain ⟨r, l, rfl⟩ := slab_idx x
    have e1 : (y 1 : ℕ) = 512 + r.val := h1
    have e2 : (y 2 : ℕ) = 5 := h2
    have e3 : (y 3 : ℕ) = l.val := h3
    have lN : 512 + r.val < 1536 := by have := r.isLt; omega
    have lT : 640 + l.val < 1024 := by have := l.isLt; omega
    have eN : N = ⟨512 + r.val, lN⟩ := Fin.ext (hN.symm.trans e1)
    have eT : T = ⟨640 + l.val, lT⟩ := Fin.ext (by show T.val = 640 + l.val; omega)
    subst eN eT
    exact (slab_at 640 (k0_pay58 x0 x1 x2 x3) slices_S512x1024_o0_640_S512x128 (by norm_num) r l).trans (part1_at x0 x1 x2 x3 r _)
  · obtain ⟨r, l, rfl⟩ := slab_idx x
    have e1 : (y 1 : ℕ) = 512 + r.val := h1
    have e2 : (y 2 : ℕ) = 4 := h2
    have e3 : (y 3 : ℕ) = l.val := h3
    have lN : 512 + r.val < 1536 := by have := r.isLt; omega
    have lT : 512 + l.val < 1024 := by have := l.isLt; omega
    have eN : N = ⟨512 + r.val, lN⟩ := Fin.ext (hN.symm.trans e1)
    have eT : T = ⟨512 + l.val, lT⟩ := Fin.ext (by show T.val = 512 + l.val; omega)
    subst eN eT
    exact (slab_at 512 (k0_pay58 x0 x1 x2 x3) slices_S512x1024_o0_512_S512x128 (by norm_num) r l).trans (part1_at x0 x1 x2 x3 r _)
  · obtain ⟨r, l, rfl⟩ := slab_idx x
    have e1 : (y 1 : ℕ) = 512 + r.val := h1
    have e2 : (y 2 : ℕ) = 3 := h2
    have e3 : (y 3 : ℕ) = l.val := h3
    have lN : 512 + r.val < 1536 := by have := r.isLt; omega
    have lT : 384 + l.val < 1024 := by have := l.isLt; omega
    have eN : N = ⟨512 + r.val, lN⟩ := Fin.ext (hN.symm.trans e1)
    have eT : T = ⟨384 + l.val, lT⟩ := Fin.ext (by show T.val = 384 + l.val; omega)
    subst eN eT
    exact (slab_at 384 (k0_pay58 x0 x1 x2 x3) slices_S512x1024_o0_384_S512x128 (by norm_num) r l).trans (part1_at x0 x1 x2 x3 r _)
  · obtain ⟨r, l, rfl⟩ := slab_idx x
    have e1 : (y 1 : ℕ) = 512 + r.val := h1
    have e2 : (y 2 : ℕ) = 2 := h2
    have e3 : (y 3 : ℕ) = l.val := h3
    have lN : 512 + r.val < 1536 := by have := r.isLt; omega
    have lT : 256 + l.val < 1024 := by have := l.isLt; omega
    have eN : N = ⟨512 + r.val, lN⟩ := Fin.ext (hN.symm.trans e1)
    have eT : T = ⟨256 + l.val, lT⟩ := Fin.ext (by show T.val = 256 + l.val; omega)
    subst eN eT
    exact (slab_at 256 (k0_pay58 x0 x1 x2 x3) slices_S512x1024_o0_256_S512x128 (by norm_num) r l).trans (part1_at x0 x1 x2 x3 r _)
  · obtain ⟨r, l, rfl⟩ := slab_idx x
    have e1 : (y 1 : ℕ) = 512 + r.val := h1
    have e2 : (y 2 : ℕ) = 1 := h2
    have e3 : (y 3 : ℕ) = l.val := h3
    have lN : 512 + r.val < 1536 := by have := r.isLt; omega
    have lT : 128 + l.val < 1024 := by have := l.isLt; omega
    have eN : N = ⟨512 + r.val, lN⟩ := Fin.ext (hN.symm.trans e1)
    have eT : T = ⟨128 + l.val, lT⟩ := Fin.ext (by show T.val = 128 + l.val; omega)
    subst eN eT
    exact (slab_at 128 (k0_pay58 x0 x1 x2 x3) slices_S512x1024_o0_128_S512x128 (by norm_num) r l).trans (part1_at x0 x1 x2 x3 r _)
  · obtain ⟨r, l, rfl⟩ := slab_idx x
    have e1 : (y 1 : ℕ) = 512 + r.val := h1
    have e2 : (y 2 : ℕ) = 0 := h2
    have e3 : (y 3 : ℕ) = l.val := h3
    have lN : 512 + r.val < 1536 := by have := r.isLt; omega
    have lT : 0 + l.val < 1024 := by have := l.isLt; omega
    have eN : N = ⟨512 + r.val, lN⟩ := Fin.ext (hN.symm.trans e1)
    have eT : T = ⟨0 + l.val, lT⟩ := Fin.ext (by show T.val = 0 + l.val; omega)
    subst eN eT
    exact (slab_at 0 (k0_pay58 x0 x1 x2 x3) slices_S512x1024_o0_0_S512x128 (by norm_num) r l).trans (part1_at x0 x1 x2 x3 r _)
  · obtain ⟨r, l, rfl⟩ := slab_idx x
    have e1 : (y 1 : ℕ) = 0 + r.val := (h1 : (y 1 : ℕ) = r.val).trans (Nat.zero_add _).symm
    have e2 : (y 2 : ℕ) = 7 := h2
    have e3 : (y 3 : ℕ) = l.val := h3
    have lN : 0 + r.val < 1536 := by have := r.isLt; omega
    have lT : 896 + l.val < 1024 := by have := l.isLt; omega
    have eN : N = ⟨0 + r.val, lN⟩ := Fin.ext (hN.symm.trans e1)
    have eT : T = ⟨896 + l.val, lT⟩ := Fin.ext (by show T.val = 896 + l.val; omega)
    subst eN eT
    exact (slab_at 896 (k0_pay57 x0 x1 x2 x3) slices_S512x1024_o0_896_S512x128 (by norm_num) r l).trans (part0_at x0 x1 x2 x3 r _)
  · obtain ⟨r, l, rfl⟩ := slab_idx x
    have e1 : (y 1 : ℕ) = 0 + r.val := (h1 : (y 1 : ℕ) = r.val).trans (Nat.zero_add _).symm
    have e2 : (y 2 : ℕ) = 6 := h2
    have e3 : (y 3 : ℕ) = l.val := h3
    have lN : 0 + r.val < 1536 := by have := r.isLt; omega
    have lT : 768 + l.val < 1024 := by have := l.isLt; omega
    have eN : N = ⟨0 + r.val, lN⟩ := Fin.ext (hN.symm.trans e1)
    have eT : T = ⟨768 + l.val, lT⟩ := Fin.ext (by show T.val = 768 + l.val; omega)
    subst eN eT
    exact (slab_at 768 (k0_pay57 x0 x1 x2 x3) slices_S512x1024_o0_768_S512x128 (by norm_num) r l).trans (part0_at x0 x1 x2 x3 r _)
  · obtain ⟨r, l, rfl⟩ := slab_idx x
    have e1 : (y 1 : ℕ) = 0 + r.val := (h1 : (y 1 : ℕ) = r.val).trans (Nat.zero_add _).symm
    have e2 : (y 2 : ℕ) = 5 := h2
    have e3 : (y 3 : ℕ) = l.val := h3
    have lN : 0 + r.val < 1536 := by have := r.isLt; omega
    have lT : 640 + l.val < 1024 := by have := l.isLt; omega
    have eN : N = ⟨0 + r.val, lN⟩ := Fin.ext (hN.symm.trans e1)
    have eT : T = ⟨640 + l.val, lT⟩ := Fin.ext (by show T.val = 640 + l.val; omega)
    subst eN eT
    exact (slab_at 640 (k0_pay57 x0 x1 x2 x3) slices_S512x1024_o0_640_S512x128 (by norm_num) r l).trans (part0_at x0 x1 x2 x3 r _)
  · obtain ⟨r, l, rfl⟩ := slab_idx x
    have e1 : (y 1 : ℕ) = 0 + r.val := (h1 : (y 1 : ℕ) = r.val).trans (Nat.zero_add _).symm
    have e2 : (y 2 : ℕ) = 4 := h2
    have e3 : (y 3 : ℕ) = l.val := h3
    have lN : 0 + r.val < 1536 := by have := r.isLt; omega
    have lT : 512 + l.val < 1024 := by have := l.isLt; omega
    have eN : N = ⟨0 + r.val, lN⟩ := Fin.ext (hN.symm.trans e1)
    have eT : T = ⟨512 + l.val, lT⟩ := Fin.ext (by show T.val = 512 + l.val; omega)
    subst eN eT
    exact (slab_at 512 (k0_pay57 x0 x1 x2 x3) slices_S512x1024_o0_512_S512x128 (by norm_num) r l).trans (part0_at x0 x1 x2 x3 r _)
  · obtain ⟨r, l, rfl⟩ := slab_idx x
    have e1 : (y 1 : ℕ) = 0 + r.val := (h1 : (y 1 : ℕ) = r.val).trans (Nat.zero_add _).symm
    have e2 : (y 2 : ℕ) = 3 := h2
    have e3 : (y 3 : ℕ) = l.val := h3
    have lN : 0 + r.val < 1536 := by have := r.isLt; omega
    have lT : 384 + l.val < 1024 := by have := l.isLt; omega
    have eN : N = ⟨0 + r.val, lN⟩ := Fin.ext (hN.symm.trans e1)
    have eT : T = ⟨384 + l.val, lT⟩ := Fin.ext (by show T.val = 384 + l.val; omega)
    subst eN eT
    exact (slab_at 384 (k0_pay57 x0 x1 x2 x3) slices_S512x1024_o0_384_S512x128 (by norm_num) r l).trans (part0_at x0 x1 x2 x3 r _)
  · obtain ⟨r, l, rfl⟩ := slab_idx x
    have e1 : (y 1 : ℕ) = 0 + r.val := (h1 : (y 1 : ℕ) = r.val).trans (Nat.zero_add _).symm
    have e2 : (y 2 : ℕ) = 2 := h2
    have e3 : (y 3 : ℕ) = l.val := h3
    have lN : 0 + r.val < 1536 := by have := r.isLt; omega
    have lT : 256 + l.val < 1024 := by have := l.isLt; omega
    have eN : N = ⟨0 + r.val, lN⟩ := Fin.ext (hN.symm.trans e1)
    have eT : T = ⟨256 + l.val, lT⟩ := Fin.ext (by show T.val = 256 + l.val; omega)
    subst eN eT
    exact (slab_at 256 (k0_pay57 x0 x1 x2 x3) slices_S512x1024_o0_256_S512x128 (by norm_num) r l).trans (part0_at x0 x1 x2 x3 r _)
  · obtain ⟨r, l, rfl⟩ := slab_idx x
    have e1 : (y 1 : ℕ) = 0 + r.val := (h1 : (y 1 : ℕ) = r.val).trans (Nat.zero_add _).symm
    have e2 : (y 2 : ℕ) = 1 := h2
    have e3 : (y 3 : ℕ) = l.val := h3
    have lN : 0 + r.val < 1536 := by have := r.isLt; omega
    have lT : 128 + l.val < 1024 := by have := l.isLt; omega
    have eN : N = ⟨0 + r.val, lN⟩ := Fin.ext (hN.symm.trans e1)
    have eT : T = ⟨128 + l.val, lT⟩ := Fin.ext (by show T.val = 128 + l.val; omega)
    subst eN eT
    exact (slab_at 128 (k0_pay57 x0 x1 x2 x3) slices_S512x1024_o0_128_S512x128 (by norm_num) r l).trans (part0_at x0 x1 x2 x3 r _)
  · obtain ⟨r, l, rfl⟩ := slab_idx x
    have e1 : (y 1 : ℕ) = 0 + r.val := (h1 : (y 1 : ℕ) = r.val).trans (Nat.zero_add _).symm
    have e2 : (y 2 : ℕ) = 0 := h2
    have e3 : (y 3 : ℕ) = l.val := h3
    have lN : 0 + r.val < 1536 := by have := r.isLt; omega
    have lT : 0 + l.val < 1024 := by have := l.isLt; omega
    have eN : N = ⟨0 + r.val, lN⟩ := Fin.ext (hN.symm.trans e1)
    have eT : T = ⟨0 + l.val, lT⟩ := Fin.ext (by show T.val = 0 + l.val; omega)
    subst eN eT
    exact (slab_at 0 (k0_pay57 x0 x1 x2 x3) slices_S512x1024_o0_0_S512x128 (by norm_num) r l).trans (part0_at x0 x1 x2 x3 r _)

/-- A token's modulated norm. -/
def hrow (X : FVec Ideal S4x8192x1024 .f32) (M : FVec Ideal S4x2x6x1024 .f32) (b : Fin 4) (t : Fin 8192) : Fin 1024 → EReal :=
  Rows.modulate (Rows.norm (fun j => X (ix3 b t j))) (fun j => M (ix4 b 0 0 j)) (fun j => M (ix4 b 0 1 j))

/-- The token-major result, entry by entry, from the arrays its windows read. -/
def uArr (X : FVec Ideal S4x8192x1024 .f32) (M : FVec Ideal S4x2x6x1024 .f32) (W : FVec Ideal S1024x1536 .bf16) : FVec Ideal S4x8192x1536 .bf16 := fun j =>
  ∑ k : Fin 1024, hrow X M (j 0) (j 1) k * (W (ix2 k (j 2)) : EReal)

/-- The channel-major result, entry by entry, from the arrays its windows read. -/
def tArr (X : FVec Ideal S4x8192x1024 .f32) (M : FVec Ideal S4x2x6x1024 .f32) (W : FVec Ideal S1536x1024 .bf16) : FVec Ideal S4x1536x64x128 .f32 := fun j =>
  ∑ k : Fin 1024, (W (ix2 (j 1) k) : EReal) * hrow X M (j 0) ⟨(j 2 : ℕ) * 128 + (j 3 : ℕ), by
    have h2 : (j 2 : ℕ) < 64 := (j 2).isLt
    have h3 : (j 3 : ℕ) < 128 := (j 3).isLt
    omega⟩ k

variable (m : (ℓ : Loc nD τ sig) → Buf (Elt Ideal) ℓ)

/-- Where each window's block sits, at every grid point. -/
theorem idx : ∀ t : Fin cfg0.N, win0_0.index t = ![t.val / 8, t.val % 8, 0] ∧ win0_1.index t = ![t.val / 8, 0, 0, 0]
    ∧ win0_2.index t = ![0, 0] ∧ win0_3.index t = ![0, 0]
    ∧ win0_4.index t = ![t.val / 8, t.val % 8, 0] ∧ win0_5.index t = ![t.val / 8, 0, t.val % 8, 0] :=
  (by decide +kernel : ∀ t : Fin grid0.N, _)

/-- There are fewer than 32 points. -/
theorem pt_lt (t : Fin cfg0.N) : t.val < 32 := lt_of_lt_of_eq t.isLt N_0

/-- An entry of the tokens' block, read in the array at the block's place. -/
theorem iblk0_at (c : Dev nD) (t : Fin cfg0.N) (y : ((cfg0.win 0).xblock (cfg0.grid.coords t)).Idx) (i : S4x8192x1024.Idx)
    (h : ∀ a, (i a : ℕ) = win0_0.index t a * win0_0.size a + (y a : ℕ)) :
    iblk m c 0 t y = V m c main_arg0 i := by
  have e : (win0_0.rect t).emb y = i := funext fun a => Fin.ext ((win0_0.rect_emb_val t y a).trans (h a).symm)
  unfold iblk
  rw [View.read_apply]
  generalize V m c = W
  exact (cast_eq _ _).trans (congrArg (W main_arg0) e)

/-- An entry of the modulation vectors' block, read in the array at the block's place. -/
theorem iblk1_at (c : Dev nD) (t : Fin cfg0.N) (y : ((cfg0.win 1).xblock (cfg0.grid.coords t)).Idx) (i : S4x2x6x1024.Idx)
    (h : ∀ a, (i a : ℕ) = win0_1.index t a * win0_1.size a + (y a : ℕ)) :
    iblk m c 1 t y = V m c main_arg1 i := by
  have e : (win0_1.rect t).emb y = i := funext fun a => Fin.ext ((win0_1.rect_emb_val t y a).trans (h a).symm)
  unfold iblk
  rw [View.read_apply]
  generalize V m c = W
  exact (cast_eq _ _).trans (congrArg (W main_arg1) e)

/-- An entry of the token-major weights' block, read in the array at the block's place. -/
theorem iblk2_at (c : Dev nD) (t : Fin cfg0.N) (y : ((cfg0.win 2).xblock (cfg0.grid.coords t)).Idx) (i : S1024x1536.Idx)
    (h : ∀ a, (i a : ℕ) = win0_2.index t a * win0_2.size a + (y a : ℕ)) :
    iblk m c 2 t y = V m c main_v1 i := by
  have e : (win0_2.rect t).emb y = i := funext fun a => Fin.ext ((win0_2.rect_emb_val t y a).trans (h a).symm)
  unfold iblk
  rw [View.read_apply]
  generalize V m c = W
  exact (cast_eq _ _).trans (congrArg (W main_v1) e)

/-- An entry of the channel-major weights' block, read in the array at the block's place. -/
theorem iblk3_at (c : Dev nD) (t : Fin cfg0.N) (y : ((cfg0.win 3).xblock (cfg0.grid.coords t)).Idx) (i : S1536x1024.Idx)
    (h : ∀ a, (i a : ℕ) = win0_3.index t a * win0_3.size a + (y a : ℕ)) :
    iblk m c 3 t y = V m c main_v3 i := by
  have e : (win0_3.rect t).emb y = i := funext fun a => Fin.ext ((win0_3.rect_emb_val t y a).trans (h a).symm)
  unfold iblk
  rw [View.read_apply]
  generalize V m c = W
  exact (cast_eq _ _).trans (congrArg (W main_v3) e)

/-- A row of a block, modulated and normalised, is the token's. -/
theorem row_at (c : Dev nD) (t : Fin cfg0.N) (r : Fin 1024) (b : Fin 4) (T : Fin 8192) (hb : b.val = t.val / 8) (hT : T.val = t.val % 8 * 1024 + r.val) (k : Fin 1024) :
    Rows.modulate (Rows.norm (fun j : Fin 1024 => iblk m c 0 t (ix3 0 r j))) (fun j : Fin 1024 => iblk m c 1 t (ix4 0 0 0 j)) (fun j : Fin 1024 => iblk m c 1 t (ix4 0 0 1 j)) k
      = hrow (V m c main_arg0) (V m c main_arg1) b T k := by
  obtain ⟨i0, i1, -⟩ := idx t
  have e0 (j : Fin 1024) : iblk m c 0 t (ix3 0 r j) = V m c main_arg0 (ix3 b T j) := by
    refine iblk0_at m c t _ _ fun a => ?_
    rw [i0]
    match a with
    | ⟨0, _⟩ => show b.val = t.val / 8 * 1 + 0; omega
    | ⟨1, _⟩ => exact hT
    | ⟨2, _⟩ => show j.val = 0 * 1024 + j.val; omega
  have e1 (i : Fin 6) (j : Fin 1024) : iblk m c 1 t (ix4 0 0 i j) = V m c main_arg1 (ix4 b 0 i j) := by
    refine iblk1_at m c t _ _ fun a => ?_
    rw [i1]
    match a with
    | ⟨0, _⟩ => show b.val = t.val / 8 * 1 + 0; omega
    | ⟨1, _⟩ => show 0 = 0 * 1 + 0; omega
    | ⟨2, _⟩ => show i.val = 0 * 6 + i.val; omega
    | ⟨3, _⟩ => show j.val = 0 * 1024 + j.val; omega
  unfold hrow
  simp only [e0, e1]

/-- The whole token-major array after the run. -/
theorem final4 (c : Dev nD) : (dats m 0 c).arrAt 4 (cfgs 0).N = uArr (V m c main_arg0) (V m c main_arg1) (V m c main_v1) := by
  refine (dats m 0 c).arrAt_eq_of_covers 4 _ (by decide +kernel) fun t _ y => ?_
  blk_simp
  rw [after0_4]
  have y1 : (y 1 : ℕ) < 1024 := (y 1).isLt
  have y2 : (y 2 : ℕ) < 1536 := (y 2).isLt
  have y0 : (y 0 : ℕ) < 1 := (y 0).isLt
  have ht := pt_lt t
  refine (out4_at _ _ _ _ _ ⟨y 1, y1⟩ ⟨y 2, y2⟩ rfl rfl).trans ?_
  have e (a) : (((win0_4.rect t).emb y) a : ℕ) = win0_4.index t a * win0_4.size a + (y a : ℕ) := win0_4.rect_emb_val t y a
  obtain ⟨i0, i1, i2, i3, i4, i5⟩ := idx t
  rw [i4] at e
  have e0 : (((win0_4.rect t).emb y) 0 : ℕ) = t.val / 8 := by
    refine (e 0).trans ?_
    show t.val / 8 * 1 + (y 0 : ℕ) = t.val / 8
    omega
  have e1 : (((win0_4.rect t).emb y) 1 : ℕ) = t.val % 8 * 1024 + (y 1 : ℕ) := e 1
  have e2 : (((win0_4.rect t).emb y) 2 : ℕ) = (y 2 : ℕ) := by
    refine (e 2).trans ?_
    show 0 * 1536 + (y 2 : ℕ) = (y 2 : ℕ)
    omega
  obtain ⟨z, hz⟩ : ∃ z, z = (win0_4.blk t).view.emb y := ⟨_, rfl⟩
  rw [← hz]
  have e0 : (z 0 : ℕ) = t.val / 8 := by rw [hz]; exact e0
  have e1 : (z 1 : ℕ) = t.val % 8 * 1024 + (y 1 : ℕ) := by rw [hz]; exact e1
  have e2 : (z 2 : ℕ) = (y 2 : ℕ) := by rw [hz]; exact e2
  unfold uArr
  refine Finset.sum_congr rfl fun k _ => congrArg₂ (fun p q : EReal => p * q) ?_ ?_
  · exact row_at m c t ⟨y 1, y1⟩ (z 0) (z 1) e0 e1 k
  · refine iblk2_at m c t _ _ fun a => ?_
    rw [i2]
    match a with
    | ⟨0, _⟩ => show k.val = 0 * 1024 + k.val; omega
    | ⟨1, _⟩ => show (z 2 : ℕ) = 0 * 1536 + (y 2 : ℕ); omega

/-- The whole channel-major array after the run. -/
theorem final5 (c : Dev nD) : (dats m 0 c).arrAt 5 (cfgs 0).N = tArr (V m c main_arg0) (V m c main_arg1) (V m c main_v3) := by
  refine (dats m 0 c).arrAt_eq_of_covers 5 _ (by decide +kernel) fun t _ y => ?_
  blk_simp
  rw [after0_5]
  have y0 : (y 0 : ℕ) < 1 := (y 0).isLt
  have y1 : (y 1 : ℕ) < 1536 := (y 1).isLt
  have y2 : (y 2 : ℕ) < 8 := (y 2).isLt
  have y3 : (y 3 : ℕ) < 128 := (y 3).isLt
  have ht := pt_lt t
  have lT : (y 2 : ℕ) * 128 + (y 3 : ℕ) < 1024 := by omega
  refine (out5_at _ _ _ _ _ ⟨y 1, y1⟩ ⟨(y 2 : ℕ) * 128 + (y 3 : ℕ), lT⟩ rfl rfl).trans ?_
  have e (a) : (((win0_5.rect t).emb y) a : ℕ) = win0_5.index t a * win0_5.size a + (y a : ℕ) := win0_5.rect_emb_val t y a
  obtain ⟨i0, i1, i2, i3, i4, i5⟩ := idx t
  rw [i5] at e
  have e0 : (((win0_5.rect t).emb y) 0 : ℕ) = t.val / 8 := by
    refine (e 0).trans ?_
    show t.val / 8 * 1 + (y 0 : ℕ) = t.val / 8
    omega
  have e1 : (((win0_5.rect t).emb y) 1 : ℕ) = (y 1 : ℕ) := by
    refine (e 1).trans ?_
    show 0 * 1536 + (y 1 : ℕ) = (y 1 : ℕ)
    omega
  have e2 : (((win0_5.rect t).emb y) 2 : ℕ) = t.val % 8 * 8 + (y 2 : ℕ) := e 2
  have e3 : (((win0_5.rect t).emb y) 3 : ℕ) = (y 3 : ℕ) := by
    refine (e 3).trans ?_
    show 0 * 128 + (y 3 : ℕ) = (y 3 : ℕ)
    omega
  obtain ⟨z, hz⟩ : ∃ z, z = (win0_5.blk t).view.emb y := ⟨_, rfl⟩
  rw [← hz]
  have e0 : (z 0 : ℕ) = t.val / 8 := by rw [hz]; exact e0
  have e1 : (z 1 : ℕ) = (y 1 : ℕ) := by rw [hz]; exact e1
  have e2 : (z 2 : ℕ) = t.val % 8 * 8 + (y 2 : ℕ) := by rw [hz]; exact e2
  have e3 : (z 3 : ℕ) = (y 3 : ℕ) := by rw [hz]; exact e3
  unfold tArr chan
  refine Finset.sum_congr rfl fun k _ => congrArg₂ (fun p q : EReal => p * q) ?_ ?_
  · refine iblk3_at m c t _ _ fun a => ?_
    rw [i3]
    match a with
    | ⟨0, _⟩ => show (z 1 : ℕ) = 0 * 1536 + (y 1 : ℕ); omega
    | ⟨1, _⟩ => show k.val = 0 * 1024 + k.val; omega
  · exact row_at m c t ⟨(y 2 : ℕ) * 128 + (y 3 : ℕ), lT⟩ (z 0) _ e0 (by show (z 2 : ℕ) * 128 + (z 3 : ℕ) = t.val % 8 * 1024 + ((y 2 : ℕ) * 128 + (y 3 : ℕ)); omega) k

end Cert.FrontEvenIdeal.Front

end
-- ==== Proof.FrontEvenEntry.lean ====
module

public import proofs.«01_k».proof.Proof.Gen.FrontEvenIdeal.Value
public import Idealize.ShloMosaic.Lib.Pipeline.ValueKit
public import Idealize.ShloMosaic.Lib.Pointwise
public import Idealize.ShloMosaic.Lib.Claim
public import proofs.«01_k».proof.Proof.Layout

@[expose] public section

set_option maxRecDepth 16384

noncomputable section

open Idealize.ShloMosaic Idealize.ShloMosaic.TcCoe Idealize.SL.Sem
open Idealize.ShloMosaic.Pipeline (Dat)

namespace Cert.FrontEvenIdeal.Front

open Cert.FrontEvenIdeal Cert.FrontEvenIdeal.Gen

/-- The token-major half's weights. -/
def wQ (w : FVec Ideal S1024x3072 .f32) : FVec Ideal S1024x1536 .bf16 :=
  extractStridedSlice S1024x1536 ![0, 1536] (truncf .bf16 w bitsLt_bf16_f32 : FVec Ideal S1024x3072 .bf16) slices_S1024x3072_S1024x1536_0_1536

/-- The channel-major half's weights, a row per channel. -/
def wT (w : FVec Ideal S1024x3072 .f32) : FVec Ideal S1536x1024 .bf16 :=
  transpose S1536x1024 [1, 0] (extractStridedSlice S1024x1536 ![0, 0] (truncf .bf16 w bitsLt_bf16_f32 : FVec Ideal S1024x3072 .bf16) slices_S1024x3072_S1024x1536_0_0) transposes_S1024x1536_S1536x1024_1_0

theorem wQ_at (w : FVec Ideal S1024x3072 .f32) (k : Fin 1024) (n : Fin 1536) : wQ w (ix2 k n) = w (ix2 k ⟨1536 + n.val, by omega⟩) := by
  pointwise [wQ]

theorem wT_at (w : FVec Ideal S1024x3072 .f32) (n : Fin 1536) (k : Fin 1024) : wT w (ix2 n k) = w (ix2 k ⟨n.val, by omega⟩) := by
  pointwise [wT]

variable (m : (ℓ : Loc nD τ sig) → Buf (Elt Ideal) ℓ)

theorem V1 (c : Dev nD) : V m c main_v1 = wQ (m ((c : Thread nD τ).loc main_arg2)) := by
  unfold V
  simp only [hostOps0, List.flatten_cons, List.flatten_nil, List.append_nil, List.cons_append, List.nil_append]
  after_results; rfl

theorem V3 (c : Dev nD) : V m c main_v3 = wT (m ((c : Thread nD τ).loc main_arg2)) := by
  unfold V
  simp only [hostOps0, List.flatten_cons, List.flatten_nil, List.append_nil, List.cons_append, List.nil_append]
  after_results; rfl

end Cert.FrontEvenIdeal.Front

end
-- ==== Proof.FrontEvenRef.lean ====
module

public import proofs.«01_k».proof.Proof.Gen.FrontEvenRefIdeal.Run
public import Idealize.ShloMosaic.Lib.Pipeline.ValueKit
public import Idealize.ShloMosaic.Lib.Pointwise
public import Idealize.ShloMosaic.Lib.Claim
public import proofs.«01_k».proof.Proof.Layout
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.FrontEvenRefIdeal.Front

open Cert.FrontEvenRefIdeal Cert.FrontEvenRefIdeal.Gen

/-- The means of the rows. -/
def meanV (v : FVec Ideal S4x8192x1024 .f32) : FVec Ideal S4x8192x1 .f32 :=
  Host.divf (broadcastInDim S4x8192x1 ![0, 1] bcast_S4x8192_S4x8192x1_0_1 (Host.reduceAdd v (constant S_ .f32 0x00000000#32) reducesTo_S4x8192x1024_S4x8192_d2 h_S_)) (broadcastInDim S4x8192x1 ![] bcast_S_S4x8192x1 (constant S_ .f32 0x44800000#32))

/-- Rows less their means. -/
def cen (v : FVec Ideal S4x8192x1024 .f32) : FVec Ideal S4x8192x1024 .f32 :=
  subf v (broadcastInDim S4x8192x1024 ![0, 1, 2] bcast_S4x8192x1_S4x8192x1024_0_1_2 (meanV v))

/-- Rows less their means, over their standard deviations. -/
def normV (v : FVec Ideal S4x8192x1024 .f32) : FVec Ideal S4x8192x1024 .f32 :=
  mulf (cen v) (broadcastInDim S4x8192x1024 ![0, 1, 2] bcast_S4x8192x1_S4x8192x1024_0_1_2 (Host.rsqrt (addf (meanV (mulf (cen v) (cen v)))
    (broadcastInDim S4x8192x1 ![] bcast_S_S4x8192x1 (constant S_ .f32 0x3727C5AC#32)))))

/-- The layer's shifts. -/
def sh (m : FVec Ideal S4x2x6x1024 .f32) : FVec Ideal S4x1x1024 .f32 :=
  shapeCast S4x1x1024 (extractStridedSlice S4x1x1x1024 ![0, 0, 0, 0] m slices_S4x2x6x1024_S4x1x1x1024_0_0_0_0) shapeCasts_S4x1x1x1024_S4x1x1024

/-- The layer's scales. -/
def sc (m : FVec Ideal S4x2x6x1024 .f32) : FVec Ideal S4x1x1024 .f32 :=
  shapeCast S4x1x1024 (extractStridedSlice S4x1x1x1024 ![0, 0, 1, 0] m slices_S4x2x6x1024_S4x1x1x1024_0_0_1_0) shapeCasts_S4x1x1x1024_S4x1x1024

/-- The modulated norms of the tokens. -/
def modV (x : FVec Ideal S4x8192x1024 .f32) (m : FVec Ideal S4x2x6x1024 .f32) : FVec Ideal S4x8192x1024 .f32 :=
  addf (mulf (normV x) (broadcastInDim S4x8192x1024 ![0, 1, 2] bcast_S4x1x1024_S4x8192x1024_0_1_2 (addf (broadcastInDim S4x1x1024 ![] bcast_S_S4x1x1024 (constant S_ .f32 0x3F800000#32)) (sc m))))
    (broadcastInDim S4x8192x1024 ![0, 1, 2] bcast_S4x1x1024_S4x8192x1024_0_1_2 (sh m))

/-- The input projection. -/
def lin (x : FVec Ideal S4x8192x1024 .f32) (m : FVec Ideal S4x2x6x1024 .f32) (w : FVec Ideal S1024x3072 .f32) : FVec Ideal S4x8192x3072 .f32 :=
  Host.dotGeneral dot_S4x8192x1024_S1024x3072_S4x8192x3072_2_0_01_1_n_n none (modV x m) w

/-- Its second half of channels. -/
def tokMajor (x : FVec Ideal S4x8192x1024 .f32) (m : FVec Ideal S4x2x6x1024 .f32) (w : FVec Ideal S1024x3072 .f32) : FVec Ideal S4x8192x1536 .bf16 :=
  truncf .bf16 (extractStridedSlice S4x8192x1536 ![0, 0, 1536] (lin x m w) slices_S4x8192x3072_S4x8192x1536_0_0_1536) bitsLt_bf16_f32

/-- Its first half, channel by channel. -/
def chanRows (x : FVec Ideal S4x8192x1024 .f32) (m : FVec Ideal S4x2x6x1024 .f32) (w : FVec Ideal S1024x3072 .f32) : FVec Ideal S4x1536x8192 .f32 :=
  transpose S4x1536x8192 [0, 2, 1] (extractStridedSlice S4x8192x1536 ![0, 0, 0] (lin x m w) slices_S4x8192x3072_S4x8192x1536_0_0_0) transposes_S4x8192x1536_S4x1536x8192_0_2_1

/-- The same in rows of 128 tokens. -/
def chanMajor (x : FVec Ideal S4x8192x1024 .f32) (m : FVec Ideal S4x2x6x1024 .f32) (w : FVec Ideal S1024x3072 .f32) : FVec Ideal S4x1536x64x128 .f32 :=
  shapeCast S4x1536x64x128 (chanRows x m w) shapeCasts_S4x1536x8192_S4x1536x64x128

section entries
open Cert.Rows

theorem meanV_at (v : FVec Ideal S4x8192x1024 .f32) (b : Fin 4) (t : Fin 8192) (z : Fin 1) :
    meanV v (ix3 b t z) = mean (fun j => v (ix3 b t j)) := by
  pointwise [meanV, mean]

theorem cen_at (v : FVec Ideal S4x8192x1024 .f32) (b : Fin 4) (t : Fin 8192) (k : Fin 1024) :
    cen v (ix3 b t k) = (v (ix3 b t k) : EReal) - mean (fun j => v (ix3 b t j)) := by
  pointwise [cen, meanV_at]

theorem normV_at (v : FVec Ideal S4x8192x1024 .f32) (b : Fin 4) (t : Fin 8192) (k : Fin 1024) :
    normV v (ix3 b t k) = Rows.norm (fun j => v (ix3 b t j)) k := by
  pointwise [normV, Rows.norm, meanV_at, cen_at]

theorem sh_at (m : FVec Ideal S4x2x6x1024 .f32) (b : Fin 4) (z : Fin 1) (k : Fin 1024) : sh m (ix3 b z k) = m (ix4 b 0 0 k) := by
  pointwise [sh]

theorem sc_at (m : FVec Ideal S4x2x6x1024 .f32) (b : Fin 4) (z : Fin 1) (k : Fin 1024) : sc m (ix3 b z k) = m (ix4 b 0 1 k) := by
  pointwise [sc]

theorem modV_at (x : FVec Ideal S4x8192x1024 .f32) (m : FVec Ideal S4x2x6x1024 .f32) (b : Fin 4) (t : Fin 8192) (k : Fin 1024) :
    modV x m (ix3 b t k) = modulate (Rows.norm (fun j => x (ix3 b t j))) (fun j => m (ix4 b 0 0 j)) (fun j => m (ix4 b 0 1 j)) k := by
  pointwise [modV, modulate, normV_at, sh_at, sc_at]

theorem lin_at (x : FVec Ideal S4x8192x1024 .f32) (m : FVec Ideal S4x2x6x1024 .f32) (w : FVec Ideal S1024x3072 .f32) (b : Fin 4) (t : Fin 8192) (n : Fin 3072) :
    lin x m w (ix3 b t n) = ∑ k : Fin 1024, modulate (Rows.norm (fun j => x (ix3 b t j))) (fun j => m (ix4 b 0 0 j)) (fun j => m (ix4 b 0 1 j)) k * (w (ix2 k n) : EReal) := by
  pointwise [lin, modV_at]

theorem tokMajor_at (x : FVec Ideal S4x8192x1024 .f32) (m : FVec Ideal S4x2x6x1024 .f32) (w : FVec Ideal S1024x3072 .f32) (b : Fin 4) (t : Fin 8192) (n : Fin 1536) :
    tokMajor x m w (ix3 b t n) = lin x m w (ix3 b t ⟨1536 + n.val, by omega⟩) := by
  pointwise [tokMajor]

theorem chanRows_at (x : FVec Ideal S4x8192x1024 .f32) (m : FVec Ideal S4x2x6x1024 .f32) (w : FVec Ideal S1024x3072 .f32) (b : Fin 4) (n : Fin 1536) (t : Fin 8192) :
    chanRows x m w (ix3 b n t) = lin x m w (ix3 b t ⟨n.val, by omega⟩) := by
  pointwise [chanRows]

theorem chanMajor_at (x : FVec Ideal S4x8192x1024 .f32) (m : FVec Ideal S4x2x6x1024 .f32) (w : FVec Ideal S1024x3072 .f32) (b : Fin 4) (n : Fin 1536) (s : Fin 64) (l : Fin 128) :
    chanMajor x m w (ix4 b n s l) = lin x m w (ix3 b ⟨s.val * 128 + l.val, by omega⟩ ⟨n.val, by omega⟩) := by
  unfold chanMajor
  exact (Cert.Layout.split_last (B := 4) (T := 1536) (H := 64) (D := 128) (N := 8192) _ _ (by norm_num) b n s l ⟨s.val * 128 + l.val, by omega⟩ rfl).trans (chanRows_at x m w b n _)

end entries

end Cert.FrontEvenRefIdeal.Front

end
-- ==== Proof.FrontEven.lean ====
module

public import proofs.«01_k».proof.Proof.FrontEvenPure
public import proofs.«01_k».proof.Proof.FrontEvenEntry
public import proofs.«01_k».proof.Proof.FrontEvenRef

@[expose] public section

set_option maxRecDepth 16384

noncomputable section

open Idealize.ShloMosaic Idealize.ShloMosaic.TcCoe Idealize.SL.Sem

namespace Cert.FrontEvenEq

open Cert.FrontEvenIdeal (S4x8192x1024 S4x2x6x1024 S1024x3072)
open Cert.FrontEvenIdeal.Front (uArr tArr hrow wQ wT wQ_at wT_at)
open Cert.FrontEvenRefIdeal.Front (tokMajor chanMajor tokMajor_at chanMajor_at lin_at)

/-- The token-major halves agree. -/
theorem tok_eq (x : FVec Ideal S4x8192x1024 .f32) (m : FVec Ideal S4x2x6x1024 .f32) (w : FVec Ideal S1024x3072 .f32) :
    tokMajor x m w = uArr x m (wQ w) := by
  funext j
  idx_vars j
  refine (tokMajor_at ..).trans ((lin_at ..).trans ?_)
  unfold uArr
  exact Finset.sum_congr rfl fun k _ => congrArg (fun q : EReal => _ * q) (wQ_at w k _).symm

/-- The channel-major halves agree. -/
theorem chan_eq (x : FVec Ideal S4x8192x1024 .f32) (m : FVec Ideal S4x2x6x1024 .f32) (w : FVec Ideal S1024x3072 .f32) :
    chanMajor x m w = tArr x m (wT w) := by
  funext j
  idx_vars j
  refine (chanMajor_at ..).trans ((lin_at ..).trans ?_)
  unfold tArr
  exact Finset.sum_congr rfl fun k _ => (mul_comm _ _).trans (congrArg (fun q : EReal => q * _) (wT_at w _ k).symm)

end Cert.FrontEvenEq

end
-- ==== Proof.FrontOddRow.lean ====
module

public import proofs.«01_k».proof.Proof.Rows

@[expose] public section

set_option maxRecDepth 16384

noncomputable section

open Idealize.ShloMosaic Idealize.ShloMosaic.TcCoe Idealize.SL.Sem

namespace Cert.OddRow

/-- A row times a matrix. -/
def lin {n m : ℕ} (v : Fin n → EReal) (w : Fin n → Fin m → EReal) : Fin m → EReal := fun j => ∑ k, v k * w k j

/-- A row over its root mean square (`c` is its length), scaled. -/
def rms {n : ℕ} (c : EReal) (v g : Fin n → EReal) : Fin n → EReal := fun k =>
  v k * Ideal.rsqrt (Ideal.div (∑ j, v j * v j) c + Ideal.ofBits .f32 0x3727C5AC#32) * g k

/-- The lane within a head's slot of 128. -/
def lane (l : Fin 1024) : Fin 128 := ⟨l.val % 128, Nat.mod_lt _ (by norm_num)⟩

/-- A row times a table, plus its lanes moved by 8 to either side times two further tables. -/
def turn (y : Fin 1024 → EReal) (C L R : Fin 128 → EReal) : Fin 1024 → EReal := fun l =>
  y l * C (lane l) + y ⟨(l.val + 8) % 1024, Nat.mod_lt _ (by norm_num)⟩ * L (lane l)
    + y ⟨(l.val + 1016) % 1024, Nat.mod_lt _ (by norm_num)⟩ * R (lane l)

/-- A row less its averages, `A` averaging. -/
def cenA (f : Fin 256 → EReal) (A : Fin 256 → Fin 256 → EReal) : Fin 256 → EReal := fun c => f c - lin f A c

/-- A row normalised by averages, `A` averaging, then scaled and shifted. -/
def normA (f : Fin 256 → EReal) (A : Fin 256 → Fin 256 → EReal) (g b : Fin 256 → EReal) : Fin 256 → EReal := fun c =>
  cenA f A c * Ideal.rsqrt (lin (fun c => cenA f A c * cenA f A c) A c + Ideal.ofBits .f32 0x3727C5AC#32) * g c + b c

/-- `n` entries of a longer row, from the `o`-th. -/
def seg {n : ℕ} (o N : ℕ) (h : o + n ≤ N) (u : Fin N → EReal) : Fin n → EReal := fun k => u ⟨o + k.val, by omega⟩

/-- The query row of a projected row `u`. -/
def qRow (u : Fin 1024 → EReal) (g : Fin 384 → EReal) (w : Fin 384 → Fin 1024 → EReal) (C L R : Fin 128 → EReal) : Fin 1024 → EReal :=
  turn (lin (rms (Ideal.ofBits .f32 0x43C00000#32) (seg 0 1024 (by norm_num) u) g) w) C L R

/-- The compressed keys and values of a projected row `u`. -/
def cRow (u : Fin 1024 → EReal) (g : Fin 256 → EReal) : Fin 256 → EReal := rms (Ideal.ofBits .f32 0x43800000#32) (seg 384 1024 (by norm_num) u) g

/-- The key row of a projected row `u`. -/
def kRow (u : Fin 1024 → EReal) (g : Fin 256 → EReal) (w : Fin 256 → Fin 1024 → EReal) (e : Fin 128 → Fin 1024 → EReal) (C L R : Fin 128 → EReal) : Fin 1024 → EReal := fun l =>
  lin (cRow u g) w l + turn (lin (seg 896 1024 (by norm_num) u) e) C L R l

/-- The value row of a projected row `u`. -/
def vRow (u : Fin 1024 → EReal) (g : Fin 256 → EReal) (w : Fin 256 → Fin 1024 → EReal) (o : Fin 1024 → EReal) : Fin 1024 → EReal := fun l =>
  lin (cRow u g) w l + o l

/-- A matrix times the normalised 256 lanes of a projected row `u`. -/
def fRow (D : Fin 256 → Fin 256 → EReal) (u : Fin 1024 → EReal) (A : Fin 256 → Fin 256 → EReal) (g b : Fin 256 → EReal) : Fin 256 → EReal := fun j =>
  ∑ k, D j k * normA (seg 640 1024 (by norm_num) u) A g b k

end Cert.OddRow

end
-- ==== Proof.FrontOddTile.lean ====
module

public import proofs.«01_k».proof.Proof.Gen.FrontOddIdeal.Frame
public import Idealize.ShloMosaic.Lib.Pipeline.ValueKit
public import Idealize.ShloMosaic.Lib.Pointwise
public import proofs.«01_k».proof.Proof.FrontOddRow

@[expose] public section

set_option maxRecDepth 16384

noncomputable section

open Idealize.ShloMosaic Idealize.ShloMosaic.TcCoe Idealize.SL.Sem
open Idealize.ShloMosaic.Pipeline (Dat)

namespace Cert.FrontOddIdeal.Front

open Cert.FrontOddIdeal Cert.FrontOddIdeal.Gen

/-- Rows less their means. -/
def cen (v : FVec Ideal S256x1024 .f32) : FVec Ideal S256x1024 .f32 :=
  subf v (broadcastTo S256x1024 (divf (shapeCast S256x1 (multiReduction .add [1] S256 v 0x00000000#32 reduces_S256x1024_S256 (.inl rfl) rfl) shapeCasts_S256_S256x1)
    (broadcast S256x1 (Scalar.ofBits .f32 0x44800000#32))) broadcasts_S256x1_S256x1024)

/-- Rows less their means, over their standard deviations. -/
def normV (v : FVec Ideal S256x1024 .f32) : FVec Ideal S256x1024 .f32 :=
  mulf (cen v) (broadcastTo S256x1024 (rsqrt (addf (divf (shapeCast S256x1 (multiReduction .add [1] S256 (mulf (cen v) (cen v)) 0x00000000#32 reduces_S256x1024_S256 (.inl rfl) rfl) shapeCasts_S256_S256x1)
    (broadcast S256x1 (Scalar.ofBits .f32 0x44800000#32))) (broadcast S256x1 (Scalar.ofBits .f32 0x3727C5AC#32)))) broadcasts_S256x1_S256x1024)

/-- The modulation vectors without their leading axes. -/
def mods (m : Vec Ideal S1x1x6x1024 .f32) : FVec Ideal S6x1024 .f32 := shapeCast S6x1024 m shapeCasts_S1x1x6x1024_S6x1024

/-- The context's rows at the last block of tokens, the latents' rows elsewhere. -/
def selV (i : grid0.Coords) (xc xl : Vec Ideal S1x256x1024 .f32) : FVec Ideal S256x1024 .f32 :=
  select (broadcastTo S256x1024 (shapeCast S256x1 (cmpi .eq (addi (broadcast S256x1 0#32) (broadcast S256x1 (BitVec.ofNat 32 (i 1).val))) (broadcast S256x1 32#32) : IVec S256x1 1) shapeCasts_S256x1_S256x1 : IVec S256x1 1) broadcasts_S256x1_S256x1024 : IVec S256x1024 1)
    (shapeCast S256x1024 xc shapeCasts_S1x256x1024_S256x1024 : FVec Ideal S256x1024 .f32) (shapeCast S256x1024 xl shapeCasts_S1x256x1024_S256x1024 : FVec Ideal S256x1024 .f32)

/-- The modulated norm of 256 rows. -/
def hv (m : Vec Ideal S1x1x6x1024 .f32) (x : FVec Ideal S256x1024 .f32) : FVec Ideal S256x1024 .bf16 :=
  truncf .bf16 (addf (mulf (normV x) (broadcastTo S256x1024 (addf (broadcast S1x1024 (Scalar.ofBits .f32 0x3F800000#32)) (extractStridedSlice S1x1024 ![1, 0] (mods m) slices_S6x1024_o1_0_S1x1024)) broadcasts_S1x1024_S256x1024))
    (broadcastTo S256x1024 (extractStridedSlice S1x1024 ![0, 0] (mods m) slices_S6x1024_o0_0_S1x1024) broadcasts_S1x1024_S256x1024)) bitsLt_bf16_f32

/-- The rows times the first weights. -/
def uV (h : FVec Ideal S256x1024 .bf16) (w : Vec Ideal S1024x1024 .bf16) : FVec Ideal S256x1024 .f32 :=
  matmul dot_S256x1024_S1024x1024_S256x1024_1_0_0_1_n_n none h (shapeCast S1024x1024 w shapeCasts_S1024x1024_S1024x1024 : FVec Ideal S1024x1024 .bf16) (constant S256x1024 .f32 0x00000000#32)

/-- Rows of 384 entries over their root mean squares, scaled. -/
def rmsQ (v : FVec Ideal S256x384 .f32) (g : Vec Ideal S1x384 .f32) : FVec Ideal S256x384 .bf16 :=
  truncf .bf16 (mulf (mulf v (broadcastTo S256x384 (rsqrt (addf (divf (shapeCast S256x1 (multiReduction .add [1] S256 (mulf v v) 0x00000000#32 reduces_S256x384_S256 (.inl rfl) rfl) shapeCasts_S256_S256x1)
    (broadcast S256x1 (Scalar.ofBits .f32 0x43C00000#32))) (broadcast S256x1 (Scalar.ofBits .f32 0x3727C5AC#32)))) broadcasts_S256x1_S256x384))
    (broadcastTo S256x384 (shapeCast S1x384 g shapeCasts_S1x384_S1x384 : FVec Ideal S1x384 .f32) broadcasts_S1x384_S256x384)) bitsLt_bf16_f32

/-- Rows of 256 entries over their root mean squares, scaled. -/
def rmsK (v : FVec Ideal S256x256 .f32) (g : Vec Ideal S1x256 .f32) : FVec Ideal S256x256 .bf16 :=
  truncf .bf16 (mulf (mulf v (broadcastTo S256x256 (rsqrt (addf (divf (shapeCast S256x1 (multiReduction .add [1] S256 (mulf v v) 0x00000000#32 reduces_S256x256_S256 (.inl rfl) rfl) shapeCasts_S256_S256x1)
    (broadcast S256x1 (Scalar.ofBits .f32 0x43800000#32))) (broadcast S256x1 (Scalar.ofBits .f32 0x3727C5AC#32)))) broadcasts_S256x1_S256x256))
    (broadcastTo S256x256 (shapeCast S1x256 g shapeCasts_S1x256_S1x256 : FVec Ideal S1x256 .f32) broadcasts_S1x256_S256x256)) bitsLt_bf16_f32

/-- A table of 128 lanes, once for each of the eight heads. -/
def eight (t : FVec Ideal S256x128 .f32) : FVec Ideal S256x1024 .f32 :=
  concatenate S256x1024 1 [⟨S256x128, t⟩, ⟨S256x128, t⟩, ⟨S256x128, t⟩, ⟨S256x128, t⟩, ⟨S256x128, t⟩, ⟨S256x128, t⟩, ⟨S256x128, t⟩, ⟨S256x128, t⟩] concatenates_S256x128_S256x128_S256x128_S256x128_S256x128_S256x128_S256x128_S256x128_S256x1024_d1

/-- A table as it is read. -/
def tab (t : Vec Ideal S256x128 .f32) : FVec Ideal S256x128 .f32 := shapeCast S256x128 t shapeCasts_S256x128_S256x128

/-- The rotation of rows by position. -/
def turnV (y : FVec Ideal S256x1024 .f32) (C L R : Vec Ideal S256x128 .f32) : FVec Ideal S256x1024 .f32 :=
  addf (addf (mulf y (eight (tab C))) (mulf (dynamicRotate 1 1016#32 none y rotates_S256x1024_d1) (eight (tab L)))) (mulf (dynamicRotate 1 8#32 none y rotates_S256x1024_d1) (eight (tab R)))

/-- The query rows before the rotation. -/
def yV (u : FVec Ideal S256x1024 .f32) (g : Vec Ideal S1x384 .f32) (w : Vec Ideal S384x1024 .bf16) : FVec Ideal S256x1024 .f32 :=
  matmul dot_S256x384_S384x1024_S256x1024_1_0_0_1_n_n none (rmsQ (extractStridedSlice S256x384 ![0, 0] u slices_S256x1024_o0_0_S256x384) g)
    (shapeCast S384x1024 w shapeCasts_S384x1024_S384x1024 : FVec Ideal S384x1024 .bf16) (constant S256x1024 .f32 0x00000000#32)

/-- A tile of rows as it is stored. -/
def put (v : FVec Ideal S256x1024 .f32) : FVec Ideal S1x256x1024 .bf16 := shapeCast S1x256x1024 (truncf .bf16 v bitsLt_bf16_f32) shapeCasts_S256x1024_S1x256x1024

/-- The compressed keys and values. -/
def cV (u : FVec Ideal S256x1024 .f32) (g : Vec Ideal S1x256 .f32) : FVec Ideal S256x256 .bf16 :=
  rmsK (extractStridedSlice S256x256 ![0, 384] u slices_S256x1024_o0_384_S256x256) g

/-- The compressed keys and values times weights. -/
def upV (c : FVec Ideal S256x256 .bf16) (w : Vec Ideal S256x1024 .bf16) : FVec Ideal S256x1024 .f32 :=
  matmul dot_S256x256_S256x1024_S256x1024_1_0_0_1_n_n none c (shapeCast S256x1024 w shapeCasts_S256x1024_S256x1024 : FVec Ideal S256x1024 .bf16) (constant S256x1024 .f32 0x00000000#32)

/-- The shared rotated part of the keys, in every head's slot. -/
def peV (u : FVec Ideal S256x1024 .f32) (e : Vec Ideal S128x1024 .bf16) : FVec Ideal S256x1024 .f32 :=
  matmul dot_S256x128_S128x1024_S256x1024_1_0_0_1_n_n none (truncf .bf16 (extractStridedSlice S256x128 ![0, 896] u slices_S256x1024_o0_896_S256x128) bitsLt_bf16_f32)
    (shapeCast S128x1024 e shapeCasts_S128x1024_S128x1024 : FVec Ideal S128x1024 .bf16) (constant S256x1024 .f32 0x00000000#32)

/-- Rows times a square matrix. -/
def sqV (v : FVec Ideal S256x256 .f32) (A : Vec Ideal S256x256 .bf16) : FVec Ideal S256x256 .f32 :=
  matmul dot_S256x256_S256x256_S256x256_1_0_0_1_n_n none (truncf .bf16 v bitsLt_bf16_f32) (shapeCast S256x256 A shapeCasts_S256x256_S256x256 : FVec Ideal S256x256 .bf16) (constant S256x256 .f32 0x00000000#32)

/-- Rows less their averages. -/
def cgV (v : FVec Ideal S256x256 .f32) (A : Vec Ideal S256x256 .bf16) : FVec Ideal S256x256 .f32 := subf v (sqV v A)

/-- Rows less their averages, over their deviations, scaled. -/
def ngV (v : FVec Ideal S256x256 .f32) (A : Vec Ideal S256x256 .bf16) (g : Vec Ideal S1x256 .f32) : FVec Ideal S256x256 .f32 :=
  mulf (mulf (cgV v A) (rsqrt (addf (sqV (mulf (cgV v A) (cgV v A)) A) (broadcast S256x256 (Scalar.ofBits .f32 0x3727C5AC#32)))))
    (broadcastTo S256x256 (shapeCast S1x256 g shapeCasts_S1x256_S1x256 : FVec Ideal S1x256 .f32) broadcasts_S1x256_S256x256)

/-- A square matrix times the normalised rows, as it is stored. -/
def fV (y : FVec Ideal S256x256 .f32) (b : Vec Ideal S1x256 .f32) (D : Vec Ideal S256x256 .bf16) : FVec Ideal S1x256x256 .bf16 :=
  shapeCast S1x256x256 (truncf .bf16 (matmul dot_S256x256_S256x256_S256x256_1_1_0_0_n_n none (shapeCast S256x256 D shapeCasts_S256x256_S256x256 : FVec Ideal S256x256 .bf16)
    (truncf .bf16 (addf y (broadcastTo S256x256 (shapeCast S1x256 b shapeCasts_S1x256_S1x256 : FVec Ideal S1x256 .f32) broadcasts_S1x256_S256x256)) bitsLt_bf16_f32)
    (constant S256x256 .f32 0x00000000#32)) bitsLt_bf16_f32) shapeCasts_S256x256_S1x256x256

section entries
open Cert.Rows Cert.OddRow

theorem cen_at (v : FVec Ideal S256x1024 .f32) (r : Fin 256) (k : Fin 1024) :
    cen v (ix2 r k) = (v (ix2 r k) : EReal) - mean (fun j => v (ix2 r j)) := by
  pointwise [cen, mean]

theorem normV_at (v : FVec Ideal S256x1024 .f32) (r : Fin 256) (k : Fin 1024) :
    normV v (ix2 r k) = Rows.norm (fun j => v (ix2 r j)) k := by
  pointwise [normV, Rows.norm, mean, cen_at]

theorem mods_at (m : Vec Ideal S1x1x6x1024 .f32) (a : Fin 6) (k : Fin 1024) : mods m (ix2 a k) = m (ix4 0 0 a k) := by
  pointwise [mods]

/-- Which rows are read. -/
theorem selV_at (i : grid0.Coords) (xc xl : Vec Ideal S1x256x1024 .f32) (r : Fin 256) (k : Fin 1024) :
    selV i xc xl (ix2 r k) = if (i 1).val = 32 then (xc (ix3 0 r k) : EReal) else xl (ix3 0 r k) := by
  have e (x : Vec Ideal S1x256x1024 .f32) (j : Fin 1024) : (shapeCast S256x1024 x shapeCasts_S1x256x1024_S256x1024 : FVec Ideal S256x1024 .f32) (ix2 r j) = x (ix3 0 r j) := by
    pointwise
  have hc : ∀ n : Fin 33, IntOp.cmpi CmpIPredicate.eq (IntOp.addi (0#32) (BitVec.ofNat 32 n.val)) 32#32 = if n.val = 32 then 1#1 else 0#1 := by decide
  have hs : selV i xc xl (ix2 r k) = Scalar.select (IntOp.cmpi CmpIPredicate.eq (IntOp.addi (0#32) (BitVec.ofNat 32 (i 1).val)) 32#32) (xc (ix3 0 r k)) (xl (ix3 0 r k)) := by
    pointwise [selV, e]
  rw [hs, hc (i 1)]
  split_ifs <;> rfl

/-- A row's modulated norm, entry by entry. -/
theorem hv_at (m : Vec Ideal S1x1x6x1024 .f32) (x : FVec Ideal S256x1024 .f32) (r : Fin 256) (k : Fin 1024) :
    hv m x (ix2 r k) = modulate (Rows.norm (fun j => x (ix2 r j))) (fun j => m (ix4 0 0 0 j)) (fun j => m (ix4 0 0 1 j)) k := by
  pointwise [hv, modulate, normV_at, mods_at]

theorem uV_at (h : FVec Ideal S256x1024 .bf16) (w : Vec Ideal S1024x1024 .bf16) (r : Fin 256) (j : Fin 1024) :
    uV h w (ix2 r j) = lin (fun k => (h (ix2 r k) : EReal)) (fun k j => (w (ix2 k j) : EReal)) j := by
  pointwise [uV, lin]

theorem rmsQ_at (v : FVec Ideal S256x384 .f32) (g : Vec Ideal S1x384 .f32) (r : Fin 256) (k : Fin 384) :
    rmsQ v g (ix2 r k) = rms (Ideal.ofBits .f32 0x43C00000#32) (fun j => (v (ix2 r j) : EReal)) (fun j => (g (ix2 0 j) : EReal)) k := by
  pointwise [rmsQ, rms]

theorem rmsK_at (v : FVec Ideal S256x256 .f32) (g : Vec Ideal S1x256 .f32) (r : Fin 256) (k : Fin 256) :
    rmsK v g (ix2 r k) = rms (Ideal.ofBits .f32 0x43800000#32) (fun j => (v (ix2 r j) : EReal)) (fun j => (g (ix2 0 j) : EReal)) k := by
  pointwise [rmsK, rms]

theorem eight_at (t : FVec Ideal S256x128 .f32) (r : Fin 256) (l : Fin 1024) : eight t (ix2 r l) = t (ix2 r (lane l)) := by
  pointwise [eight]
  split_ifs <;> exact congrArg t (congrArg (ix2 r) (Fin.ext (by show _ = l.val % 128; simp only; omega)))

theorem tab_at (t : Vec Ideal S256x128 .f32) (r : Fin 256) (l : Fin 128) : tab t (ix2 r l) = t (ix2 r l) := by
  pointwise [tab]

theorem turnV_at (y : FVec Ideal S256x1024 .f32) (C L R : Vec Ideal S256x128 .f32) (r : Fin 256) (l : Fin 1024) :
    turnV y C L R (ix2 r l) = turn (fun j => (y (ix2 r j) : EReal)) (fun j => (C (ix2 r j) : EReal)) (fun j => (L (ix2 r j) : EReal)) (fun j => (R (ix2 r j) : EReal)) l := by
  pointwise [turnV, turn, eight_at, tab_at]
  simp only [show l.val + 1024 - 1016 = l.val + 8 by omega, show l.val + 1024 - 8 = l.val + 1016 by omega]

theorem yV_at (u : FVec Ideal S256x1024 .f32) (g : Vec Ideal S1x384 .f32) (w : Vec Ideal S384x1024 .bf16) (r : Fin 256) (l : Fin 1024) :
    yV u g w (ix2 r l) = lin (rms (Ideal.ofBits .f32 0x43C00000#32) (seg 0 1024 (by norm_num) fun j => (u (ix2 r j) : EReal)) (fun j => (g (ix2 0 j) : EReal))) (fun k j => (w (ix2 k j) : EReal)) l := by
  have e (k : Fin 384) : extractStridedSlice S256x384 ![0, 0] u slices_S256x1024_o0_0_S256x384 (ix2 r k) = u (ix2 r ⟨0 + k.val, by omega⟩) := by pointwise
  have e2 (k : Fin 384) : rmsQ (extractStridedSlice S256x384 ![0, 0] u slices_S256x1024_o0_0_S256x384) g (ix2 r k)
      = rms (Ideal.ofBits .f32 0x43C00000#32) (seg 0 1024 (by norm_num) fun j => (u (ix2 r j) : EReal)) (fun j => (g (ix2 0 j) : EReal)) k := by
    rw [rmsQ_at]
    simp only [e]
    rfl
  pointwise [yV, lin, e2]

theorem put_at (v : FVec Ideal S256x1024 .f32) (r : Fin 256) (l : Fin 1024) : put v (ix3 0 r l) = v (ix2 r l) := by
  pointwise [put]

theorem cV_at (u : FVec Ideal S256x1024 .f32) (g : Vec Ideal S1x256 .f32) (r : Fin 256) (k : Fin 256) :
    cV u g (ix2 r k) = rms (Ideal.ofBits .f32 0x43800000#32) (seg 384 1024 (by norm_num) fun j => (u (ix2 r j) : EReal)) (fun j => (g (ix2 0 j) : EReal)) k := by
  have e (k : Fin 256) : extractStridedSlice S256x256 ![0, 384] u slices_S256x1024_o0_384_S256x256 (ix2 r k) = u (ix2 r ⟨384 + k.val, by omega⟩) := by pointwise
  unfold cV
  rw [rmsK_at]
  simp only [e]
  rfl

theorem upV_at (c : FVec Ideal S256x256 .bf16) (w : Vec Ideal S256x1024 .bf16) (r : Fin 256) (l : Fin 1024) :
    upV c w (ix2 r l) = lin (fun k => (c (ix2 r k) : EReal)) (fun k j => (w (ix2 k j) : EReal)) l := by
  pointwise [upV, lin]

theorem peV_at (u : FVec Ideal S256x1024 .f32) (w : Vec Ideal S128x1024 .bf16) (r : Fin 256) (l : Fin 1024) :
    peV u w (ix2 r l) = lin (seg 896 1024 (by norm_num) fun k => (u (ix2 r k) : EReal)) (fun (k : Fin 128) j => (w (ix2 k j) : EReal)) l := by
  have e (k : Fin 128) : extractStridedSlice S256x128 ![0, 896] u slices_S256x1024_o0_896_S256x128 (ix2 r k) = u (ix2 r ⟨896 + k.val, by omega⟩) := by pointwise
  pointwise [peV, lin, e, seg]

theorem sqV_at (v : FVec Ideal S256x256 .f32) (A : Vec Ideal S256x256 .bf16) (r : Fin 256) (l : Fin 256) :
    sqV v A (ix2 r l) = lin (fun k => (v (ix2 r k) : EReal)) (fun k j => (A (ix2 k j) : EReal)) l := by
  pointwise [sqV, lin]

theorem cgV_at (v : FVec Ideal S256x256 .f32) (A : Vec Ideal S256x256 .bf16) (r : Fin 256) (l : Fin 256) :
    cgV v A (ix2 r l) = cenA (fun k => (v (ix2 r k) : EReal)) (fun k j => (A (ix2 k j) : EReal)) l := by
  pointwise [cgV, cenA, sqV_at]

theorem ngV_at (v : FVec Ideal S256x256 .f32) (A : Vec Ideal S256x256 .bf16) (g : Vec Ideal S1x256 .f32) (r : Fin 256) (l : Fin 256) :
    ngV v A g (ix2 r l) = cenA (fun k => (v (ix2 r k) : EReal)) (fun k j => (A (ix2 k j) : EReal)) l
      * Ideal.rsqrt (lin (fun c => cenA (fun k => (v (ix2 r k) : EReal)) (fun k j => (A (ix2 k j) : EReal)) c * cenA (fun k => (v (ix2 r k) : EReal)) (fun k j => (A (ix2 k j) : EReal)) c) (fun k j => (A (ix2 k j) : EReal)) l
        + Ideal.ofBits .f32 0x3727C5AC#32) * (g (ix2 0 l) : EReal) := by
  have e (k : Fin 256) : (mulf (cgV v A) (cgV v A) : FVec Ideal S256x256 .f32) (ix2 r k) = cenA (fun k => (v (ix2 r k) : EReal)) (fun k j => (A (ix2 k j) : EReal)) k * cenA (fun k => (v (ix2 r k) : EReal)) (fun k j => (A (ix2 k j) : EReal)) k := by
    pointwise [cgV_at]
  have e2 : sqV (mulf (cgV v A) (cgV v A)) A (ix2 r l) = lin (fun c => cenA (fun k => (v (ix2 r k) : EReal)) (fun k j => (A (ix2 k j) : EReal)) c * cenA (fun k => (v (ix2 r k) : EReal)) (fun k j => (A (ix2 k j) : EReal)) c) (fun k j => (A (ix2 k j) : EReal)) l := by
    rw [sqV_at]
    simp only [e]
  pointwise [ngV, cgV_at, e2]

theorem fV_at (y : FVec Ideal S256x256 .f32) (b : Vec Ideal S1x256 .f32) (D : Vec Ideal S256x256 .bf16) (j r : Fin 256) :
    fV y b D (ix3 0 j r) = ∑ k : Fin 256, (D (ix2 j k) : EReal) * ((y (ix2 r k) : EReal) + b (ix2 0 k)) := by
  pointwise [fV]

end entries

/-! The stored values are these. -/

section tiles

variable (i : grid0.Coords) (x0 x1 : Vec Ideal S1x256x1024 .f32) (x2 : Vec Ideal S1x1x6x1024 .f32) (x3 : Vec Ideal S1024x1024 .bf16) (x4 : Vec Ideal S1x384 .f32)
  (x5 : Vec Ideal S1x256 .f32) (x6 : Vec Ideal S384x1024 .bf16) (x7 x8 : Vec Ideal S256x1024 .bf16) (x9 : Vec Ideal S128x1024 .bf16) (x10 : Vec Ideal S1x1024 .f32)
  (x11 x12 : Vec Ideal S1x256 .f32) (x13 x14 x15 : Vec Ideal S256x256 .bf16) (x16 x17 x18 : Vec Ideal S256x128 .f32) (u : FVec Ideal S256x1024 .f32) (h : FVec Ideal S256x1024 .bf16)

theorem tileH : k0_pay4 i x2 x1 x0 = hv x2 (selV i x1 x0) := rfl
theorem tileU : k0_pay5 h x3 = uV h x3 := rfl
theorem tileQ : k0_pay7 (k0_pay6 h x3 x4 x6 x16 x17 x18) = put (turnV (yV (uV h x3) x4 x6) x16 x17 x18) := rfl
theorem tileK : k0_pay14 (k0_pay10 u x5 x7) (k0_pay11 x18) (k0_pay12 u x9 x16 x17) (k0_pay13 u x9) = put (addf (upV (cV u x5) x7) (turnV (peV u x9) x16 x17 x18)) := rfl
theorem tileV : k0_pay15 (k0_pay8 u x5) x8 x10 = put (addf (upV (cV u x5) x8) (broadcastTo S256x1024 (shapeCast S1x1024 x10 shapeCasts_S1x1024_S1x1024 : FVec Ideal S1x1024 .f32) broadcasts_S1x1024_S256x1024)) := rfl
theorem tileP : k0_pay2 (k0_pay16 u x13 x11) (k0_pay17 x12) x14 = fV (ngV (extractStridedSlice S256x256 ![0, 640] u slices_S256x1024_o0_640_S256x256) x13 x11) x12 x14 := rfl
theorem tileF : k0_pay3 (k0_pay16 u x13 x11) (k0_pay17 x12) x15 = fV (ngV (extractStridedSlice S256x256 ![0, 640] u slices_S256x1024_o0_640_S256x256) x13 x11) x12 x15 := rfl

end tiles

end Cert.FrontOddIdeal.Front

end
-- ==== Proof.FrontOddPure.lean ====
module

public import proofs.«01_k».proof.Proof.Gen.FrontOddIdeal.Value
public import proofs.«01_k».proof.Proof.FrontOddTile

@[expose] public section

set_option maxRecDepth 16384

noncomputable section

open Idealize.ShloMosaic Idealize.ShloMosaic.TcCoe Idealize.SL.Sem
open Idealize.ShloMosaic.Pipeline (Dat)

namespace Cert.FrontOddIdeal.Front

open Cert.FrontOddIdeal Cert.FrontOddIdeal.Gen

open Cert.OddRow

section blocks

variable (i : grid0.Coords) (x0 x1 : Vec Ideal S1x256x1024 .f32) (x2 : Vec Ideal S1x1x6x1024 .f32) (x3 : Vec Ideal S1024x1024 .bf16) (x4 : Vec Ideal S1x384 .f32)
  (x5 : Vec Ideal S1x256 .f32) (x6 : Vec Ideal S384x1024 .bf16) (x7 x8 : Vec Ideal S256x1024 .bf16) (x9 : Vec Ideal S128x1024 .bf16) (x10 : Vec Ideal S1x1024 .f32)
  (x11 x12 : Vec Ideal S1x256 .f32) (x13 x14 x15 : Vec Ideal S256x256 .bf16) (x16 x17 x18 : Vec Ideal S256x128 .f32)

/-- A projected row of a block. -/
def uBlk (r : Fin 256) : Fin 1024 → EReal :=
  lin (Rows.modulate (Rows.norm (fun j => if (i 1).val = 32 then (x1 (ix3 0 r j) : EReal) else x0 (ix3 0 r j))) (fun j => x2 (ix4 0 0 0 j)) (fun j => x2 (ix4 0 0 1 j))) (fun k j => (x3 (ix2 k j) : EReal))

/-- The projected rows of a block are these. -/
theorem uV_blk (r : Fin 256) (j : Fin 1024) :
    uV (hv (View.ld x2 r0_0) (selV i (View.ld x1 r0_1) (View.ld x0 r0_1))) (View.ld x3 r0_2) (ix2 r j) = uBlk i x0 x1 x2 x3 r j := by
  have e0 (k : Fin 1024) : View.ld x0 r0_1 (ix3 0 r k) = x0 (ix3 0 r k) := by pointwise
  have e1 (k : Fin 1024) : View.ld x1 r0_1 (ix3 0 r k) = x1 (ix3 0 r k) := by pointwise
  have e2 (a : Fin 6) (k : Fin 1024) : View.ld x2 r0_0 (ix4 0 0 a k) = x2 (ix4 0 0 a k) := by pointwise
  have e3 (k j : Fin 1024) : View.ld x3 r0_2 (ix2 k j) = x3 (ix2 k j) := by pointwise
  rw [uV_at]
  simp only [hv_at, selV_at, e0, e1, e2, e3]
  rfl

/-- What is stored in window 19 at a grid point, entry by entry. -/
theorem out19_at (y : S1x256x1024.Idx) (R : Fin 256) (K : Fin 1024) (hR : (y 1 : ℕ) = R) (hK : (y 2 : ℕ) = K) :
    out0_19 i x0 x1 x2 x3 x4 x5 x6 x7 x8 x9 x10 x11 x12 x13 x14 x15 x16 x17 x18 y = qRow (uBlk i x0 x1 x2 x3 R) (fun j => (x4 (ix2 0 j) : EReal)) (fun k j => (x6 (ix2 k j) : EReal)) (fun j => (x16 (ix2 R j) : EReal)) (fun j => (x17 (ix2 R j) : EReal)) (fun j => (x18 (ix2 R j) : EReal)) K := by
  have e4 (j : Fin 384) : View.ld x4 r0_3 (ix2 0 j) = x4 (ix2 0 j) := by pointwise
  have e6 (k : Fin 384) (j : Fin 1024) : View.ld x6 r0_4 (ix2 k j) = x6 (ix2 k j) := by pointwise
  have e16 (k : Fin 256) (j : Fin 128) : View.ld x16 r0_5 (ix2 k j) = x16 (ix2 k j) := by pointwise
  have e17 (k : Fin 256) (j : Fin 128) : View.ld x17 r0_5 (ix2 k j) = x17 (ix2 k j) := by pointwise
  have e18 (k : Fin 256) (j : Fin 128) : View.ld x18 r0_5 (ix2 k j) = x18 (ix2 k j) := by pointwise
  unfold_out out0_19
  canon_tiles x h
  · obtain ⟨r, k, rfl⟩ := Cert.Rows.row_idx x
    have eR : R = r := Fin.ext (hR.symm.trans h1)
    have eK : K = k := Fin.ext (hK.symm.trans h2)
    subst eR eK
    rw [tileH, tileQ, put_at, turnV_at]
    simp only [yV_at, uV_blk, e4, e6, e16, e17, e18]
    rfl

/-- What is stored in window 20 at a grid point, entry by entry. -/
theorem out20_at (y : S1x256x1024.Idx) (R : Fin 256) (K : Fin 1024) (hR : (y 1 : ℕ) = R) (hK : (y 2 : ℕ) = K) :
    out0_20 i x0 x1 x2 x3 x4 x5 x6 x7 x8 x9 x10 x11 x12 x13 x14 x15 x16 x17 x18 y = kRow (uBlk i x0 x1 x2 x3 R) (fun j => (x5 (ix2 0 j) : EReal)) (fun k j => (x7 (ix2 k j) : EReal)) (fun k j => (x9 (ix2 k j) : EReal)) (fun j => (x16 (ix2 R j) : EReal)) (fun j => (x17 (ix2 R j) : EReal)) (fun j => (x18 (ix2 R j) : EReal)) K := by
  have e5 (j : Fin 256) : View.ld x5 r0_6 (ix2 0 j) = x5 (ix2 0 j) := by pointwise
  have e7 (k : Fin 256) (j : Fin 1024) : View.ld x7 r0_8 (ix2 k j) = x7 (ix2 k j) := by pointwise
  have e9 (k : Fin 128) (j : Fin 1024) : View.ld x9 r0_7 (ix2 k j) = x9 (ix2 k j) := by pointwise
  have e16 (k : Fin 256) (j : Fin 128) : View.ld x16 r0_5 (ix2 k j) = x16 (ix2 k j) := by pointwise
  have e17 (k : Fin 256) (j : Fin 128) : View.ld x17 r0_5 (ix2 k j) = x17 (ix2 k j) := by pointwise
  have e18 (k : Fin 256) (j : Fin 128) : View.ld x18 r0_5 (ix2 k j) = x18 (ix2 k j) := by pointwise
  unfold_out out0_20
  canon_tiles x h
  · obtain ⟨r, k, rfl⟩ := Cert.Rows.row_idx x
    have eR : R = r := Fin.ext (hR.symm.trans h1)
    have eK : K = k := Fin.ext (hK.symm.trans h2)
    subst eR eK
    rw [tileH, tileU, tileK, put_at]
    have ea (p q : FVec Ideal S256x1024 .f32) (j) : (addf p q : FVec Ideal S256x1024 .f32) j = (p j : EReal) + q j := rfl
    rw [ea, upV_at, turnV_at]
    simp only [cV_at, peV_at, uV_blk, e5, e7, e9, e16, e17, e18]
    rfl

/-- What is stored in window 21 at a grid point, entry by entry. -/
theorem out21_at (y : S1x256x1024.Idx) (R : Fin 256) (K : Fin 1024) (hR : (y 1 : ℕ) = R) (hK : (y 2 : ℕ) = K) :
    out0_21 i x0 x1 x2 x3 x4 x5 x6 x7 x8 x9 x10 x11 x12 x13 x14 x15 x16 x17 x18 y = vRow (uBlk i x0 x1 x2 x3 R) (fun j => (x5 (ix2 0 j) : EReal)) (fun k j => (x8 (ix2 k j) : EReal)) (fun j => (x10 (ix2 0 j) : EReal)) K := by
  have e5 (j : Fin 256) : View.ld x5 r0_6 (ix2 0 j) = x5 (ix2 0 j) := by pointwise
  have e8 (k : Fin 256) (j : Fin 1024) : View.ld x8 r0_8 (ix2 k j) = x8 (ix2 k j) := by pointwise
  have e10 (j : Fin 1024) : View.ld x10 r0_9 (ix2 0 j) = x10 (ix2 0 j) := by pointwise
  unfold_out out0_21
  canon_tiles x h
  · obtain ⟨r, k, rfl⟩ := Cert.Rows.row_idx x
    have eR : R = r := Fin.ext (hR.symm.trans h1)
    have eK : K = k := Fin.ext (hK.symm.trans h2)
    subst eR eK
    rw [tileH, tileU, tileV, put_at]
    have ea (p q : FVec Ideal S256x1024 .f32) (j) : (addf p q : FVec Ideal S256x1024 .f32) j = (p j : EReal) + q j := rfl
    have eo : (broadcastTo S256x1024 (shapeCast S1x1024 (View.ld x10 r0_9) shapeCasts_S1x1024_S1x1024 : FVec Ideal S1x1024 .f32) broadcasts_S1x1024_S256x1024 : FVec Ideal S256x1024 .f32) (ix2 R K) = x10 (ix2 0 K) := by pointwise
    rw [ea, upV_at, eo]
    simp only [cV_at, uV_blk, e5, e8, e10]
    rfl

/-- What is stored in window 22 at a grid point, entry by entry. -/
theorem out22_at (y : S1x256x256.Idx) (K R : Fin 256) (hK : (y 1 : ℕ) = K) (hR : (y 2 : ℕ) = R) :
    out0_22 i x0 x1 x2 x3 x4 x5 x6 x7 x8 x9 x10 x11 x12 x13 x14 x15 x16 x17 x18 y = fRow (fun k j => (x14 (ix2 k j) : EReal)) (uBlk i x0 x1 x2 x3 R) (fun k j => (x13 (ix2 k j) : EReal)) (fun j => (x11 (ix2 0 j) : EReal)) (fun j => (x12 (ix2 0 j) : EReal)) K := by
  have e11 (j : Fin 256) : View.ld x11 r0_6 (ix2 0 j) = x11 (ix2 0 j) := by pointwise
  have e12 (j : Fin 256) : View.ld x12 r0_6 (ix2 0 j) = x12 (ix2 0 j) := by pointwise
  have e13 (k : Fin 256) (j : Fin 256) : View.ld x13 r0_10 (ix2 k j) = x13 (ix2 k j) := by pointwise
  have e14 (k : Fin 256) (j : Fin 256) : View.ld x14 r0_10 (ix2 k j) = x14 (ix2 k j) := by pointwise
  have es (u : FVec Ideal S256x1024 .f32) (r k : Fin 256) : extractStridedSlice S256x256 ![0, 640] u slices_S256x1024_o0_640_S256x256 (ix2 r k) = u (ix2 r ⟨640 + k.val, by omega⟩) := by pointwise
  unfold_out out0_22
  canon_tiles x h
  · obtain ⟨k, r, rfl⟩ := Cert.Rows.row_idx x
    have eR : R = r := Fin.ext (hR.symm.trans h2)
    have eK : K = k := Fin.ext (hK.symm.trans h1)
    subst eR eK
    rw [tileH, tileU, tileP, fV_at]
    simp only [ngV_at, es, uV_blk, e11, e12, e13, e14]
    rfl

/-- What is stored in window 23 at a grid point, entry by entry. -/
theorem out23_at (y : S1x256x256.Idx) (K R : Fin 256) (hK : (y 1 : ℕ) = K) (hR : (y 2 : ℕ) = R) :
    out0_23 i x0 x1 x2 x3 x4 x5 x6 x7 x8 x9 x10 x11 x12 x13 x14 x15 x16 x17 x18 y = fRow (fun k j => (x15 (ix2 k j) : EReal)) (uBlk i x0 x1 x2 x3 R) (fun k j => (x13 (ix2 k j) : EReal)) (fun j => (x11 (ix2 0 j) : EReal)) (fun j => (x12 (ix2 0 j) : EReal)) K := by
  have e11 (j : Fin 256) : View.ld x11 r0_6 (ix2 0 j) = x11 (ix2 0 j) := by pointwise
  have e12 (j : Fin 256) : View.ld x12 r0_6 (ix2 0 j) = x12 (ix2 0 j) := by pointwise
  have e13 (k : Fin 256) (j : Fin 256) : View.ld x13 r0_10 (ix2 k j) = x13 (ix2 k j) := by pointwise
  have e15 (k : Fin 256) (j : Fin 256) : View.ld x15 r0_10 (ix2 k j) = x15 (ix2 k j) := by pointwise
  have es (u : FVec Ideal S256x1024 .f32) (r k : Fin 256) : extractStridedSlice S256x256 ![0, 640] u slices_S256x1024_o0_640_S256x256 (ix2 r k) = u (ix2 r ⟨640 + k.val, by omega⟩) := by pointwise
  unfold_out out0_23
  canon_tiles x h
  · obtain ⟨k, r, rfl⟩ := Cert.Rows.row_idx x
    have eR : R = r := Fin.ext (hR.symm.trans h2)
    have eK : K = k := Fin.ext (hK.symm.trans h1)
    subst eR eK
    rw [tileH, tileU, tileF, fV_at]
    simp only [ngV_at, es, uV_blk, e11, e12, e13, e15]
    rfl

end blocks

/-! The arrays the run leaves, entry by entry, from the arrays its windows read. -/

/-- A token's row, latent or context, normalised and modulated. -/
def hAt (XL : FVec Ideal S4x8192x1024 .f32) (XC : FVec Ideal S4x256x1024 .f32) (M : FVec Ideal S4x2x6x1024 .f32) (b : Fin 4) (t : Fin 8448) : Fin 1024 → EReal :=
  Rows.modulate (Rows.norm (fun j => if h : t.val < 8192 then (XL (ix3 b ⟨t.val, h⟩ j) : EReal) else XC (ix3 b ⟨t.val - 8192, by omega⟩ j)))
    (fun j => M (ix4 b (if t.val < 8192 then 0 else 1) 0 j)) (fun j => M (ix4 b (if t.val < 8192 then 0 else 1) 1 j))

/-- The queries. -/
def qArr (XL : FVec Ideal S4x8192x1024 .f32) (XC : FVec Ideal S4x256x1024 .f32) (M : FVec Ideal S4x2x6x1024 .f32) (W : FVec Ideal S1024x1024 .bf16) (T4 : FVec Ideal S1x384 .f32) (T6 : FVec Ideal S384x1024 .bf16) (T16 : FVec Ideal S8448x128 .f32) (T17 : FVec Ideal S8448x128 .f32) (T18 : FVec Ideal S8448x128 .f32) : FVec Ideal S4x8448x1024 .bf16 := fun j =>
  qRow (lin (hAt XL XC M (j 0) (j 1)) (fun k j => (W (ix2 k j) : EReal))) (fun n => (T4 (ix2 0 n) : EReal)) (fun k n => (T6 (ix2 k n) : EReal)) (fun n => (T16 (ix2 (j 1) n) : EReal)) (fun n => (T17 (ix2 (j 1) n) : EReal)) (fun n => (T18 (ix2 (j 1) n) : EReal)) (j 2)

/-- The keys. -/
def kArr (XL : FVec Ideal S4x8192x1024 .f32) (XC : FVec Ideal S4x256x1024 .f32) (M : FVec Ideal S4x2x6x1024 .f32) (W : FVec Ideal S1024x1024 .bf16) (T5 : FVec Ideal S1x256 .f32) (T7 : FVec Ideal S256x1024 .bf16) (T9 : FVec Ideal S128x1024 .bf16) (T16 : FVec Ideal S8448x128 .f32) (T17 : FVec Ideal S8448x128 .f32) (T18 : FVec Ideal S8448x128 .f32) : FVec Ideal S4x8448x1024 .bf16 := fun j =>
  kRow (lin (hAt XL XC M (j 0) (j 1)) (fun k j => (W (ix2 k j) : EReal))) (fun n => (T5 (ix2 0 n) : EReal)) (fun k n => (T7 (ix2 k n) : EReal)) (fun k n => (T9 (ix2 k n) : EReal)) (fun n => (T16 (ix2 (j 1) n) : EReal)) (fun n => (T17 (ix2 (j 1) n) : EReal)) (fun n => (T18 (ix2 (j 1) n) : EReal)) (j 2)

/-- The values. -/
def vArr (XL : FVec Ideal S4x8192x1024 .f32) (XC : FVec Ideal S4x256x1024 .f32) (M : FVec Ideal S4x2x6x1024 .f32) (W : FVec Ideal S1024x1024 .bf16) (T5 : FVec Ideal S1x256 .f32) (T8 : FVec Ideal S256x1024 .bf16) (T10 : FVec Ideal S1x1024 .f32) : FVec Ideal S4x8448x1024 .bf16 := fun j =>
  vRow (lin (hAt XL XC M (j 0) (j 1)) (fun k j => (W (ix2 k j) : EReal))) (fun n => (T5 (ix2 0 n) : EReal)) (fun k n => (T8 (ix2 k n) : EReal)) (fun n => (T10 (ix2 0 n) : EReal)) (j 2)

/-- A matrix times the normalised lanes of every token. -/
def pArr (XL : FVec Ideal S4x8192x1024 .f32) (XC : FVec Ideal S4x256x1024 .f32) (M : FVec Ideal S4x2x6x1024 .f32) (W : FVec Ideal S1024x1024 .bf16) (T14 : FVec Ideal S256x256 .bf16) (T13 : FVec Ideal S256x256 .bf16) (T11 : FVec Ideal S1x256 .f32) (T12 : FVec Ideal S1x256 .f32) : FVec Ideal S4x256x8448 .bf16 := fun j =>
  fRow (fun k j => (T14 (ix2 k j) : EReal)) (lin (hAt XL XC M (j 0) (j 2)) (fun k j => (W (ix2 k j) : EReal))) (fun k n => (T13 (ix2 k n) : EReal)) (fun n => (T11 (ix2 0 n) : EReal)) (fun n => (T12 (ix2 0 n) : EReal)) (j 1)

variable (m : (ℓ : Loc nD τ sig) → Buf (Elt Ideal) ℓ)

/-- Where each window's block sits, at every grid point. -/
theorem idx : ∀ t : Fin cfg0.N, win0_0.index t = ![t.val / 33, min (t.val % 33) 31, 0] ∧ win0_1.index t = ![t.val / 33, 0, 0]
    ∧ win0_2.index t = ![t.val / 33, t.val % 33 / 32, 0, 0] ∧ win0_16.index t = ![t.val % 33, 0] ∧ win0_17.index t = ![t.val % 33, 0] ∧ win0_18.index t = ![t.val % 33, 0]
    ∧ (grid0.coords t 1).val = t.val % 33 :=
  (by decide +kernel : ∀ t : Fin grid0.N, _)

theorem idxO : ∀ t : Fin cfg0.N, win0_19.index t = ![t.val / 33, t.val % 33, 0] ∧ win0_20.index t = ![t.val / 33, t.val % 33, 0]
    ∧ win0_21.index t = ![t.val / 33, t.val % 33, 0] ∧ win0_22.index t = ![t.val / 33, 0, t.val % 33] ∧ win0_23.index t = ![t.val / 33, 0, t.val % 33] :=
  (by decide +kernel : ∀ t : Fin grid0.N, _)

theorem idxW : ∀ t : Fin cfg0.N, win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] :=
  (by decide +kernel : ∀ t : Fin grid0.N, _)

/-- There are fewer than 132 points. -/
theorem pt_lt (t : Fin cfg0.N) : t.val < 132 := lt_of_lt_of_eq t.isLt N_0

/-- An entry of window 0's block, read in the array at the block's place. -/
theorem iblk0_at (c : Dev nD) (t : Fin cfg0.N) (y : ((cfg0.win 0).xblock (cfg0.grid.coords t)).Idx) (i : S4x8192x1024.Idx)
    (h : ∀ a, (i a : ℕ) = win0_0.index t a * win0_0.size a + (y a : ℕ)) :
    iblk m c 0 t y = V m c main_arg0 i := by
  have e : (win0_0.rect t).emb y = i := funext fun a => Fin.ext ((win0_0.rect_emb_val t y a).trans (h a).symm)
  unfold iblk
  rw [View.read_apply]
  generalize V m c = W
  exact (cast_eq _ _).trans (congrArg (W main_arg0) e)

/-- An entry of window 1's block, read in the array at the block's place. -/
theorem iblk1_at (c : Dev nD) (t : Fin cfg0.N) (y : ((cfg0.win 1).xblock (cfg0.grid.coords t)).Idx) (i : S4x256x1024.Idx)
    (h : ∀ a, (i a : ℕ) = win0_1.index t a * win0_1.size a + (y a : ℕ)) :
    iblk m c 1 t y = V m c main_arg1 i := by
  have e : (win0_1.rect t).emb y = i := funext fun a => Fin.ext ((win0_1.rect_emb_val t y a).trans (h a).symm)
  unfold iblk
  rw [View.read_apply]
  generalize V m c = W
  exact (cast_eq _ _).trans (congrArg (W main_arg1) e)

/-- An entry of window 2's block, read in the array at the block's place. -/
theorem iblk2_at (c : Dev nD) (t : Fin cfg0.N) (y : ((cfg0.win 2).xblock (cfg0.grid.coords t)).Idx) (i : S4x2x6x1024.Idx)
    (h : ∀ a, (i a : ℕ) = win0_2.index t a * win0_2.size a + (y a : ℕ)) :
    iblk m c 2 t y = V m c main_arg2 i := by
  have e : (win0_2.rect t).emb y = i := funext fun a => Fin.ext ((win0_2.rect_emb_val t y a).trans (h a).symm)
  unfold iblk
  rw [View.read_apply]
  generalize V m c = W
  exact (cast_eq _ _).trans (congrArg (W main_arg2) e)

/-- An entry of window 3's block, read in the array at the block's place. -/
theorem iblk3_at (c : Dev nD) (t : Fin cfg0.N) (y : ((cfg0.win 3).xblock (cfg0.grid.coords t)).Idx) (i : S1024x1024.Idx)
    (h : ∀ a, (i a : ℕ) = win0_3.index t a * win0_3.size a + (y a : ℕ)) :
    iblk m c 3 t y = V m c main_v5 i := by
  have e : (win0_3.rect t).emb y = i := funext fun a => Fin.ext ((win0_3.rect_emb_val t y a).trans (h a).symm)
  unfold iblk
  rw [View.read_apply]
  generalize V m c = W
  exact (cast_eq _ _).trans (congrArg (W main_v5) e)

/-- An entry of window 4's block, read in the array at the block's place. -/
theorem iblk4_at (c : Dev nD) (t : Fin cfg0.N) (y : ((cfg0.win 4).xblock (cfg0.grid.coords t)).Idx) (i : S1x384.Idx)
    (h : ∀ a, (i a : ℕ) = win0_4.index t a * win0_4.size a + (y a : ℕ)) :
    iblk m c 4 t y = V m c main_v119 i := by
  have e : (win0_4.rect t).emb y = i := funext fun a => Fin.ext ((win0_4.rect_emb_val t y a).trans (h a).symm)
  unfold iblk
  rw [View.read_apply]
  generalize V m c = W
  exact (cast_eq _ _).trans (congrArg (W main_v119) e)

/-- An entry of window 5's block, read in the array at the block's place. -/
theorem iblk5_at (c : Dev nD) (t : Fin cfg0.N) (y : ((cfg0.win 5).xblock (cfg0.grid.coords t)).Idx) (i : S1x256.Idx)
    (h : ∀ a, (i a : ℕ) = win0_5.index t a * win0_5.size a + (y a : ℕ)) :
    iblk m c 5 t y = V m c main_v120 i := by
  have e : (win0_5.rect t).emb y = i := funext fun a => Fin.ext ((win0_5.rect_emb_val t y a).trans (h a).symm)
  unfold iblk
  rw [View.read_apply]
  generalize V m c = W
  exact (cast_eq _ _).trans (congrArg (W main_v120) e)

/-- An entry of window 6's block, read in the array at the block's place. -/
theorem iblk6_at (c : Dev nD) (t : Fin cfg0.N) (y : ((cfg0.win 6).xblock (cfg0.grid.coords t)).Idx) (i : S384x1024.Idx)
    (h : ∀ a, (i a : ℕ) = win0_6.index t a * win0_6.size a + (y a : ℕ)) :
    iblk m c 6 t y = V m c main_v15 i := by
  have e : (win0_6.rect t).emb y = i := funext fun a => Fin.ext ((win0_6.rect_emb_val t y a).trans (h a).symm)
  unfold iblk
  rw [View.read_apply]
  generalize V m c = W
  exact (cast_eq _ _).trans (congrArg (W main_v15) e)

/-- An entry of window 7's block, read in the array at the block's place. -/
theorem iblk7_at (c : Dev nD) (t : Fin cfg0.N) (y : ((cfg0.win 7).xblock (cfg0.grid.coords t)).Idx) (i : S256x1024.Idx)
    (h : ∀ a, (i a : ℕ) = win0_7.index t a * win0_7.size a + (y a : ℕ)) :
    iblk m c 7 t y = V m c main_v20 i := by
  have e : (win0_7.rect t).emb y = i := funext fun a => Fin.ext ((win0_7.rect_emb_val t y a).trans (h a).symm)
  unfold iblk
  rw [View.read_apply]
  generalize V m c = W
  exact (cast_eq _ _).trans (congrArg (W main_v20) e)

/-- An entry of window 8's block, read in the array at the block's place. -/
theorem iblk8_at (c : Dev nD) (t : Fin cfg0.N) (y : ((cfg0.win 8).xblock (cfg0.grid.coords t)).Idx) (i : S256x1024.Idx)
    (h : ∀ a, (i a : ℕ) = win0_8.index t a * win0_8.size a + (y a : ℕ)) :
    iblk m c 8 t y = V m c main_v25 i := by
  have e : (win0_8.rect t).emb y = i := funext fun a => Fin.ext ((win0_8.rect_emb_val t y a).trans (h a).symm)
  unfold iblk
  rw [View.read_apply]
  generalize V m c = W
  exact (cast_eq _ _).trans (congrArg (W main_v25) e)

/-- An entry of window 9's block, read in the array at the block's place. -/
theorem iblk9_at (c : Dev nD) (t : Fin cfg0.N) (y : ((cfg0.win 9).xblock (cfg0.grid.coords t)).Idx) (i : S128x1024.Idx)
    (h : ∀ a, (i a : ℕ) = win0_9.index t a * win0_9.size a + (y a : ℕ)) :
    iblk m c 9 t y = V m c main_v42 i := by
  have e : (win0_9.rect t).emb y = i := funext fun a => Fin.ext ((win0_9.rect_emb_val t y a).trans (h a).symm)
  unfold iblk
  rw [View.read_apply]
  generalize V m c = W
  exact (cast_eq _ _).trans (congrArg (W main_v42) e)

/-- An entry of window 10's block, read in the array at the block's place. -/
theorem iblk10_at (c : Dev nD) (t : Fin cfg0.N) (y : ((cfg0.win 10).xblock (cfg0.grid.coords t)).Idx) (i : S1x1024.Idx)
    (h : ∀ a, (i a : ℕ) = win0_10.index t a * win0_10.size a + (y a : ℕ)) :
    iblk m c 10 t y = V m c main_v46 i := by
  have e : (win0_10.rect t).emb y = i := funext fun a => Fin.ext ((win0_10.rect_emb_val t y a).trans (h a).symm)
  unfold iblk
  rw [View.read_apply]
  generalize V m c = W
  exact (cast_eq _ _).trans (congrArg (W main_v46) e)

/-- An entry of window 11's block, read in the array at the block's place. -/
theorem iblk11_at (c : Dev nD) (t : Fin cfg0.N) (y : ((cfg0.win 11).xblock (cfg0.grid.coords t)).Idx) (i : S1x256.Idx)
    (h : ∀ a, (i a : ℕ) = win0_11.index t a * win0_11.size a + (y a : ℕ)) :
    iblk m c 11 t y = V m c main_v121 i := by
  have e : (win0_11.rect t).emb y = i := funext fun a => Fin.ext ((win0_11.rect_emb_val t y a).trans (h a).symm)
  unfold iblk
  rw [View.read_apply]
  generalize V m c = W
  exact (cast_eq _ _).trans (congrArg (W main_v121) e)

/-- An entry of window 12's block, read in the array at the block's place. -/
theorem iblk12_at (c : Dev nD) (t : Fin cfg0.N) (y : ((cfg0.win 12).xblock (cfg0.grid.coords t)).Idx) (i : S1x256.Idx)
    (h : ∀ a, (i a : ℕ) = win0_12.index t a * win0_12.size a + (y a : ℕ)) :
    iblk m c 12 t y = V m c main_v122 i := by
  have e : (win0_12.rect t).emb y = i := funext fun a => Fin.ext ((win0_12.rect_emb_val t y a).trans (h a).symm)
  unfold iblk
  rw [View.read_apply]
  generalize V m c = W
  exact (cast_eq _ _).trans (congrArg (W main_v122) e)

/-- An entry of window 13's block, read in the array at the block's place. -/
theorem iblk13_at (c : Dev nD) (t : Fin cfg0.N) (y : ((cfg0.win 13).xblock (cfg0.grid.coords t)).Idx) (i : S256x256.Idx)
    (h : ∀ a, (i a : ℕ) = win0_13.index t a * win0_13.size a + (y a : ℕ)) :
    iblk m c 13 t y = V m c main_v73 i := by
  have e : (win0_13.rect t).emb y = i := funext fun a => Fin.ext ((win0_13.rect_emb_val t y a).trans (h a).symm)
  unfold iblk
  rw [View.read_apply]
  generalize V m c = W
  exact (cast_eq _ _).trans (congrArg (W main_v73) e)

/-- An entry of window 14's block, read in the array at the block's place. -/
theorem iblk14_at (c : Dev nD) (t : Fin cfg0.N) (y : ((cfg0.win 14).xblock (cfg0.grid.coords t)).Idx) (i : S256x256.Idx)
    (h : ∀ a, (i a : ℕ) = win0_14.index t a * win0_14.size a + (y a : ℕ)) :
    iblk m c 14 t y = V m c main_v67 i := by
  have e : (win0_14.rect t).emb y = i := funext fun a => Fin.ext ((win0_14.rect_emb_val t y a).trans (h a).symm)
  unfold iblk
  rw [View.read_apply]
  generalize V m c = W
  exact (cast_eq _ _).trans (congrArg (W main_v67) e)

/-- An entry of window 15's block, read in the array at the block's place. -/
theorem iblk15_at (c : Dev nD) (t : Fin cfg0.N) (y : ((cfg0.win 15).xblock (cfg0.grid.coords t)).Idx) (i : S256x256.Idx)
    (h : ∀ a, (i a : ℕ) = win0_15.index t a * win0_15.size a + (y a : ℕ)) :
    iblk m c 15 t y = V m c main_v70 i := by
  have e : (win0_15.rect t).emb y = i := funext fun a => Fin.ext ((win0_15.rect_emb_val t y a).trans (h a).symm)
  unfold iblk
  rw [View.read_apply]
  generalize V m c = W
  exact (cast_eq _ _).trans (congrArg (W main_v70) e)

/-- An entry of window 16's block, read in the array at the block's place. -/
theorem iblk16_at (c : Dev nD) (t : Fin cfg0.N) (y : ((cfg0.win 16).xblock (cfg0.grid.coords t)).Idx) (i : S8448x128.Idx)
    (h : ∀ a, (i a : ℕ) = win0_16.index t a * win0_16.size a + (y a : ℕ)) :
    iblk m c 16 t y = V m c main_v116 i := by
  have e : (win0_16.rect t).emb y = i := funext fun a => Fin.ext ((win0_16.rect_emb_val t y a).trans (h a).symm)
  unfold iblk
  rw [View.read_apply]
  generalize V m c = W
  exact (cast_eq _ _).trans (congrArg (W main_v116) e)

/-- An entry of window 17's block, read in the array at the block's place. -/
theorem iblk17_at (c : Dev nD) (t : Fin cfg0.N) (y : ((cfg0.win 17).xblock (cfg0.grid.coords t)).Idx) (i : S8448x128.Idx)
    (h : ∀ a, (i a : ℕ) = win0_17.index t a * win0_17.size a + (y a : ℕ)) :
    iblk m c 17 t y = V m c main_v117 i := by
  have e : (win0_17.rect t).emb y = i := funext fun a => Fin.ext ((win0_17.rect_emb_val t y a).trans (h a).symm)
  unfold iblk
  rw [View.read_apply]
  generalize V m c = W
  exact (cast_eq _ _).trans (congrArg (W main_v117) e)

/-- An entry of window 18's block, read in the array at the block's place. -/
theorem iblk18_at (c : Dev nD) (t : Fin cfg0.N) (y : ((cfg0.win 18).xblock (cfg0.grid.coords t)).Idx) (i : S8448x128.Idx)
    (h : ∀ a, (i a : ℕ) = win0_18.index t a * win0_18.size a + (y a : ℕ)) :
    iblk m c 18 t y = V m c main_v118 i := by
  have e : (win0_18.rect t).emb y = i := funext fun a => Fin.ext ((win0_18.rect_emb_val t y a).trans (h a).symm)
  unfold iblk
  rw [View.read_apply]
  generalize V m c = W
  exact (cast_eq _ _).trans (congrArg (W main_v118) e)

theorem w3_at (c : Dev nD) (t : Fin cfg0.N) (k : Fin 1024) (j : Fin 1024) : iblk m c 3 t (ix2 k j) = V m c main_v5 (ix2 k j) := by
  obtain ⟨i, -⟩ := idxW t
  refine iblk3_at m c t _ _ fun a => ?_
  rw [i]
  match a with
  | ⟨0, _⟩ => show k.val = 0 * 1024 + k.val; omega
  | ⟨1, _⟩ => show j.val = 0 * 1024 + j.val; omega

theorem w4_at (c : Dev nD) (t : Fin cfg0.N) (k : Fin 1) (j : Fin 384) : iblk m c 4 t (ix2 k j) = V m c main_v119 (ix2 k j) := by
  obtain ⟨_, i, -⟩ := idxW t
  refine iblk4_at m c t _ _ fun a => ?_
  rw [i]
  match a with
  | ⟨0, _⟩ => show k.val = 0 * 1 + k.val; omega
  | ⟨1, _⟩ => show j.val = 0 * 384 + j.val; omega

theorem w5_at (c : Dev nD) (t : Fin cfg0.N) (k : Fin 1) (j : Fin 256) : iblk m c 5 t (ix2 k j) = V m c main_v120 (ix2 k j) := by
  obtain ⟨_, _, i, -⟩ := idxW t
  refine iblk5_at m c t _ _ fun a => ?_
  rw [i]
  match a with
  | ⟨0, _⟩ => show k.val = 0 * 1 + k.val; omega
  | ⟨1, _⟩ => show j.val = 0 * 256 + j.val; omega

theorem w6_at (c : Dev nD) (t : Fin cfg0.N) (k : Fin 384) (j : Fin 1024) : iblk m c 6 t (ix2 k j) = V m c main_v15 (ix2 k j) := by
  obtain ⟨_, _, _, i, -⟩ := idxW t
  refine iblk6_at m c t _ _ fun a => ?_
  rw [i]
  match a with
  | ⟨0, _⟩ => show k.val = 0 * 384 + k.val; omega
  | ⟨1, _⟩ => show j.val = 0 * 1024 + j.val; omega

theorem w7_at (c : Dev nD) (t : Fin cfg0.N) (k : Fin 256) (j : Fin 1024) : iblk m c 7 t (ix2 k j) = V m c main_v20 (ix2 k j) := by
  obtain ⟨_, _, _, _, i, -⟩ := idxW t
  refine iblk7_at m c t _ _ fun a => ?_
  rw [i]
  match a with
  | ⟨0, _⟩ => show k.val = 0 * 256 + k.val; omega
  | ⟨1, _⟩ => show j.val = 0 * 1024 + j.val; omega

theorem w8_at (c : Dev nD) (t : Fin cfg0.N) (k : Fin 256) (j : Fin 1024) : iblk m c 8 t (ix2 k j) = V m c main_v25 (ix2 k j) := by
  obtain ⟨_, _, _, _, _, i, -⟩ := idxW t
  refine iblk8_at m c t _ _ fun a => ?_
  rw [i]
  match a with
  | ⟨0, _⟩ => show k.val = 0 * 256 + k.val; omega
  | ⟨1, _⟩ => show j.val = 0 * 1024 + j.val; omega

theorem w9_at (c : Dev nD) (t : Fin cfg0.N) (k : Fin 128) (j : Fin 1024) : iblk m c 9 t (ix2 k j) = V m c main_v42 (ix2 k j) := by
  obtain ⟨_, _, _, _, _, _, i, -⟩ := idxW t
  refine iblk9_at m c t _ _ fun a => ?_
  rw [i]
  match a with
  | ⟨0, _⟩ => show k.val = 0 * 128 + k.val; omega
  | ⟨1, _⟩ => show j.val = 0 * 1024 + j.val; omega

theorem w10_at (c : Dev nD) (t : Fin cfg0.N) (k : Fin 1) (j : Fin 1024) : iblk m c 10 t (ix2 k j) = V m c main_v46 (ix2 k j) := by
  obtain ⟨_, _, _, _, _, _, _, i, -⟩ := idxW t
  refine iblk10_at m c t _ _ fun a => ?_
  rw [i]
  match a with
  | ⟨0, _⟩ => show k.val = 0 * 1 + k.val; omega
  | ⟨1, _⟩ => show j.val = 0 * 1024 + j.val; omega

theorem w11_at (c : Dev nD) (t : Fin cfg0.N) (k : Fin 1) (j : Fin 256) : iblk m c 11 t (ix2 k j) = V m c main_v121 (ix2 k j) := by
  obtain ⟨_, _, _, _, _, _, _, _, i, -⟩ := idxW t
  refine iblk11_at m c t _ _ fun a => ?_
  rw [i]
  match a with
  | ⟨0, _⟩ => show k.val = 0 * 1 + k.val; omega
  | ⟨1, _⟩ => show j.val = 0 * 256 + j.val; omega

theorem w12_at (c : Dev nD) (t : Fin cfg0.N) (k : Fin 1) (j : Fin 256) : iblk m c 12 t (ix2 k j) = V m c main_v122 (ix2 k j) := by
  obtain ⟨_, _, _, _, _, _, _, _, _, i, -⟩ := idxW t
  refine iblk12_at m c t _ _ fun a => ?_
  rw [i]
  match a with
  | ⟨0, _⟩ => show k.val = 0 * 1 + k.val; omega
  | ⟨1, _⟩ => show j.val = 0 * 256 + j.val; omega

theorem w13_at (c : Dev nD) (t : Fin cfg0.N) (k : Fin 256) (j : Fin 256) : iblk m c 13 t (ix2 k j) = V m c main_v73 (ix2 k j) := by
  obtain ⟨_, _, _, _, _, _, _, _, _, _, i, -⟩ := idxW t
  refine iblk13_at m c t _ _ fun a => ?_
  rw [i]
  match a with
  | ⟨0, _⟩ => show k.val = 0 * 256 + k.val; omega
  | ⟨1, _⟩ => show j.val = 0 * 256 + j.val; omega

theorem w14_at (c : Dev nD) (t : Fin cfg0.N) (k : Fin 256) (j : Fin 256) : iblk m c 14 t (ix2 k j) = V m c main_v67 (ix2 k j) := by
  obtain ⟨_, _, _, _, _, _, _, _, _, _, _, i, -⟩ := idxW t
  refine iblk14_at m c t _ _ fun a => ?_
  rw [i]
  match a with
  | ⟨0, _⟩ => show k.val = 0 * 256 + k.val; omega
  | ⟨1, _⟩ => show j.val = 0 * 256 + j.val; omega

theorem w15_at (c : Dev nD) (t : Fin cfg0.N) (k : Fin 256) (j : Fin 256) : iblk m c 15 t (ix2 k j) = V m c main_v70 (ix2 k j) := by
  obtain ⟨_, _, _, _, _, _, _, _, _, _, _, _, i⟩ := idxW t
  refine iblk15_at m c t _ _ fun a => ?_
  rw [i]
  match a with
  | ⟨0, _⟩ => show k.val = 0 * 256 + k.val; omega
  | ⟨1, _⟩ => show j.val = 0 * 256 + j.val; omega

theorem w16_at (c : Dev nD) (t : Fin cfg0.N) (r : Fin 256) (T : Fin 8448) (hT : T.val = t.val % 33 * 256 + r.val) (j : Fin 128) : iblk m c 16 t (ix2 r j) = V m c main_v116 (ix2 T j) := by
  obtain ⟨_, _, _, i, -⟩ := idx t
  refine iblk16_at m c t _ _ fun a => ?_
  rw [i]
  match a with
  | ⟨0, _⟩ => exact hT
  | ⟨1, _⟩ => show j.val = 0 * 128 + j.val; omega

theorem w17_at (c : Dev nD) (t : Fin cfg0.N) (r : Fin 256) (T : Fin 8448) (hT : T.val = t.val % 33 * 256 + r.val) (j : Fin 128) : iblk m c 17 t (ix2 r j) = V m c main_v117 (ix2 T j) := by
  obtain ⟨_, _, _, _, i, -⟩ := idx t
  refine iblk17_at m c t _ _ fun a => ?_
  rw [i]
  match a with
  | ⟨0, _⟩ => exact hT
  | ⟨1, _⟩ => show j.val = 0 * 128 + j.val; omega

theorem w18_at (c : Dev nD) (t : Fin cfg0.N) (r : Fin 256) (T : Fin 8448) (hT : T.val = t.val % 33 * 256 + r.val) (j : Fin 128) : iblk m c 18 t (ix2 r j) = V m c main_v118 (ix2 T j) := by
  obtain ⟨_, _, _, _, _, i, -⟩ := idx t
  refine iblk18_at m c t _ _ fun a => ?_
  rw [i]
  match a with
  | ⟨0, _⟩ => exact hT
  | ⟨1, _⟩ => show j.val = 0 * 128 + j.val; omega

/-- A projected row of a block is the token's. -/
theorem u_at (c : Dev nD) (t : Fin cfg0.N) (r : Fin 256) (b : Fin 4) (T : Fin 8448) (hb : b.val = t.val / 33) (hT : T.val = t.val % 33 * 256 + r.val) :
    uBlk (cfg0.grid.coords t) (iblk m c 0 t) (iblk m c 1 t) (iblk m c 2 t) (iblk m c 3 t) r
      = lin (hAt (V m c main_arg0) (V m c main_arg1) (V m c main_arg2) b T) (fun k j => (V m c main_v5 (ix2 k j) : EReal)) := by
  have hr := r.isLt
  obtain ⟨i0, i1, i2, -, -, -, ic⟩ := idx t
  have ex (j : Fin 1024) : (if (cfg0.grid.coords t 1).val = 32 then (iblk m c 1 t (ix3 0 r j) : EReal) else iblk m c 0 t (ix3 0 r j))
      = if h : T.val < 8192 then (V m c main_arg0 (ix3 b ⟨T.val, h⟩ j) : EReal) else V m c main_arg1 (ix3 b ⟨T.val - 8192, by omega⟩ j) := by
    have ic' : (cfg0.grid.coords t 1).val = t.val % 33 := ic
    rw [ic']
    by_cases h : T.val < 8192
    · rw [dif_pos h, if_neg (by omega)]
      refine iblk0_at m c t _ _ fun a => ?_
      rw [i0]
      match a with
      | ⟨0, _⟩ => show b.val = t.val / 33 * 1 + 0; omega
      | ⟨1, _⟩ => show T.val = min (t.val % 33) 31 * 256 + r.val; omega
      | ⟨2, _⟩ => show j.val = 0 * 1024 + j.val; omega
    · rw [dif_neg h, if_pos (by omega)]
      refine iblk1_at m c t _ _ fun a => ?_
      rw [i1]
      match a with
      | ⟨0, _⟩ => show b.val = t.val / 33 * 1 + 0; omega
      | ⟨1, _⟩ => show T.val - 8192 = 0 * 256 + r.val; omega
      | ⟨2, _⟩ => show j.val = 0 * 1024 + j.val; omega
  have e2 (i : Fin 6) (j : Fin 1024) : iblk m c 2 t (ix4 0 0 i j) = V m c main_arg2 (ix4 b (if T.val < 8192 then 0 else 1) i j) := by
    refine iblk2_at m c t _ _ fun a => ?_
    rw [i2]
    match a with
    | ⟨0, _⟩ => show b.val = t.val / 33 * 1 + 0; omega
    | ⟨1, _⟩ =>
      show ((if T.val < 8192 then 0 else 1 : Fin 2) : ℕ) = t.val % 33 / 32 * 1 + 0
      split_ifs
      · show 0 = t.val % 33 / 32 * 1 + 0; omega
      · show 1 = t.val % 33 / 32 * 1 + 0; omega
    | ⟨2, _⟩ => show i.val = 0 * 6 + i.val; omega
    | ⟨3, _⟩ => show j.val = 0 * 1024 + j.val; omega
  unfold uBlk hAt
  simp only [ex, e2, w3_at]

end Cert.FrontOddIdeal.Front

end
-- ==== Proof.FrontOddHost.lean ====
module

public import proofs.«01_k».proof.Proof.Gen.FrontOddIdeal.Value
public import Idealize.ShloMosaic.Lib.Pipeline.ValueKit
public import Idealize.ShloMosaic.Lib.Pointwise
public import Idealize.ShloMosaic.Lib.Claim
public import proofs.«01_k».proof.Proof.Layout

@[expose] public section

set_option maxRecDepth 16384

noncomputable section

open Idealize.ShloMosaic Idealize.ShloMosaic.TcCoe Idealize.SL.Sem
open Idealize.ShloMosaic.Pipeline (Dat)

namespace Cert.FrontOddIdeal.Front

open Cert.FrontOddIdeal Cert.FrontOddIdeal.Gen

/-- The input weights, their columns moved. -/
def wP (w : FVec Ideal S1024x928 .f32) : FVec Ideal S1024x1024 .bf16 :=
  truncf .bf16 (concatenate S1024x1024 1 [⟨S1024x640, extractStridedSlice S1024x640 ![0, 0] w slices_S1024x928_S1024x640_0_0⟩, ⟨S1024x256, extractStridedSlice S1024x256 ![0, 672] w slices_S1024x928_S1024x256_0_672⟩, ⟨S1024x32, extractStridedSlice S1024x32 ![0, 640] w slices_S1024x928_S1024x32_0_640⟩, ⟨S1024x96, broadcastInDim S1024x96 ![] bcast_S_S1024x96 (constant S_ .f32 0x00000000#32 : FVec Ideal S_ .f32)⟩] concatenates_S1024x640_S1024x256_S1024x32_S1024x96_S1024x1024_d1 : FVec Ideal S1024x1024 .f32) bitsLt_bf16_f32

/-- The query scale. -/
def qS : FVec Ideal S_ .f32 :=
  Host.divf (constant S_ .f32 0x3F800000#32) (mulf (Host.sqrt (constant S_ .f32 0x42C00000#32)) (Host.log (constant S_ .f32 0x40000000#32)))

/-- Zero, as read off an integer. -/
def z0 : FVec Ideal S_ .f32 := sitofp .f32 (constantI S_ 32 0#32)

/-- The query weights in heads, scaled, each head in a slot of 128. -/
def wq3 (w : FVec Ideal S384x768 .f32) : FVec Ideal S384x8x96 .f32 :=
  shapeCast S384x8x96 (mulf w (broadcastInDim S384x768 ![] bcast_S_S384x768 qS)) shapeCasts_S384x768_S384x8x96
def wq8 (w : FVec Ideal S384x768 .f32) : FVec Ideal S384x8x128 .f32 :=
  pad S384x8x128 ![0, 0, 0] ![0, 0, 32] ![0, 0, 0] (wq3 w) z0 pads_S384x8x96_S384x8x128_000_000_0320 h_S_
def wQ (w : FVec Ideal S384x768 .f32) : FVec Ideal S384x1024 .bf16 :=
  truncf .bf16 (shapeCast S384x1024 (wq8 w) shapeCasts_S384x8x128_S384x1024 : FVec Ideal S384x1024 .f32) bitsLt_bf16_f32

/-- The key and value weights in heads, each head's part in a slot of 128. -/
def wkv3 (w : FVec Ideal S256x1280 .f32) : FVec Ideal S256x8x160 .f32 := shapeCast S256x8x160 w shapeCasts_S256x1280_S256x8x160
def wk8 (w : FVec Ideal S256x1280 .f32) : FVec Ideal S256x8x128 .f32 :=
  pad S256x8x128 ![0, 0, 0] ![0, 0, 64] ![0, 0, 0] (extractStridedSlice S256x8x64 ![0, 0, 0] (wkv3 w) slices_S256x8x160_S256x8x64_0_0_0) z0 pads_S256x8x64_S256x8x128_000_000_0640 h_S_
def wK (w : FVec Ideal S256x1280 .f32) : FVec Ideal S256x1024 .bf16 :=
  truncf .bf16 (shapeCast S256x1024 (wk8 w) shapeCasts_S256x8x128_S256x1024 : FVec Ideal S256x1024 .f32) bitsLt_bf16_f32
def wv8 (w : FVec Ideal S256x1280 .f32) : FVec Ideal S256x8x128 .f32 :=
  pad S256x8x128 ![0, 0, 0] ![0, 0, 32] ![0, 0, 0] (extractStridedSlice S256x8x96 ![0, 0, 64] (wkv3 w) slices_S256x8x160_S256x8x96_0_0_64) z0 pads_S256x8x96_S256x8x128_000_000_0320 h_S_
def wV (w : FVec Ideal S256x1280 .f32) : FVec Ideal S256x1024 .bf16 :=
  truncf .bf16 (shapeCast S256x1024 (wv8 w) shapeCasts_S256x8x128_S256x1024 : FVec Ideal S256x1024 .f32) bitsLt_bf16_f32

/-- The positions of a slot, down and across. -/
def down : (⟨S128x1, .i32⟩ : BufTy).Contents (Elt Ideal) := broadcastInDim S128x1 ![0] bcast_S128_S128x1_0 (iotaInDim S128 32 0)
def across : (⟨S1x128, .i32⟩ : BufTy).Contents (Elt Ideal) := broadcastInDim S1x128 ![1] bcast_S128_S1x128_1 (iotaInDim S128 32 0)

/-- The shared key lanes' places in one head's slot, and in all. -/
def place : FVec Ideal S128x128 .f32 :=
  select (andi (broadcastInDim S128x128 ![0, 1] bcast_S128x1_S128x128_0_1 (cmpi .slt down (broadcastInDim S128x1 ![] bcast_S_S128x1 (constantI S_ 32 32#32))))
      (cmpi .eq (broadcastInDim S128x128 ![0, 1] bcast_S1x128_S128x128_0_1 across)
        (broadcastInDim S128x128 ![0, 1] bcast_S128x1_S128x128_0_1 (addi (broadcastInDim S128x1 ![] bcast_S_S128x1 (constantI S_ 32 64#32)) down))))
    (broadcastInDim S128x128 ![] bcast_S_S128x128 (constant S_ .f32 0x3F800000#32 : FVec Ideal S_ .f32))
    (broadcastInDim S128x128 ![] bcast_S_S128x128 (constant S_ .f32 0x00000000#32 : FVec Ideal S_ .f32))
def places : FVec Ideal S128x1024 .bf16 :=
  truncf .bf16 (id (concatenate S128x1024 1 [⟨S128x128, place⟩, ⟨S128x128, place⟩, ⟨S128x128, place⟩, ⟨S128x128, place⟩, ⟨S128x128, place⟩, ⟨S128x128, place⟩, ⟨S128x128, place⟩, ⟨S128x128, place⟩] concatenates_S128x128_S128x128_S128x128_S128x128_S128x128_S128x128_S128x128_S128x128_S128x1024_d1) : FVec Ideal S128x1024 .f32) bitsLt_bf16_f32

/-- One at a slot's lane 96, of one head and of all. -/
def one1 : FVec Ideal S1x128 .f32 :=
  select (cmpi .eq across (broadcastInDim S1x128 ![] bcast_S_S1x128 (constantI S_ 32 96#32)))
    (broadcastInDim S1x128 ![] bcast_S_S1x128 (constant S_ .f32 0x3F800000#32 : FVec Ideal S_ .f32))
    (broadcastInDim S1x128 ![] bcast_S_S1x128 (constant S_ .f32 0x00000000#32 : FVec Ideal S_ .f32))
def ones : FVec Ideal S1x1024 .f32 :=
  concatenate S1x1024 1 [⟨S1x128, one1⟩, ⟨S1x128, one1⟩, ⟨S1x128, one1⟩, ⟨S1x128, one1⟩, ⟨S1x128, one1⟩, ⟨S1x128, one1⟩, ⟨S1x128, one1⟩, ⟨S1x128, one1⟩] concatenates_S1x128_S1x128_S1x128_S1x128_S1x128_S1x128_S1x128_S1x128_S1x1024_d1

/-- The transform's angles. -/
def turns : FVec Ideal S64x64 .f32 :=
  mulf (mulf (broadcastInDim S64x64 ![] bcast_S_S64x64 (constant S_ .f32 0x40C90FDB#32)) (mulf (broadcastInDim S64x64 ![0, 1] bcast_S64x1_S64x64_0_1 (broadcastInDim S64x1 ![0] bcast_S64_S64x1_0 (sitofp .f32 (iotaInDim S64 32 0))))
    (broadcastInDim S64x64 ![0, 1] bcast_S1x64_S64x64_0_1 (broadcastInDim S1x64 ![1] bcast_S64_S1x64_1 (sitofp .f32 (iotaInDim S64 32 0)))))) (broadcastInDim S64x64 ![] bcast_S_S64x64 (constant S_ .f32 0x3C800000#32))

/-- The unit matrix of the four groups. -/
def eye : FVec Ideal S4x4 .f32 :=
  uitofp .f32 (cmpi .eq (addi (iotaInDim S4x4 32 0) (broadcastInDim S4x4 ![] bcast_S_S4x4 (constantI S_ 32 0#32))) (iotaInDim S4x4 32 1))

/-- A matrix repeated down the diagonal. -/
def kron4 (d : FVec Ideal S64x64 .f32) : FVec Ideal S4x64x4x64 .f32 :=
  mulf (broadcastInDim S4x64x4x64 ![0, 1, 2, 3] bcast_S4x1x4x1_S4x64x4x64_0_1_2_3 (broadcastInDim S4x1x4x1 ![0, 2] bcast_S4x4_S4x1x4x1_0_2 eye))
    (broadcastInDim S4x64x4x64 ![0, 1, 2, 3] bcast_S1x64x1x64_S4x64x4x64_0_1_2_3 (broadcastInDim S1x64x1x64 ![1, 3] bcast_S64x64_S1x64x1x64_1_3 d))
def kron (d : FVec Ideal S64x64 .f32) : FVec Ideal S256x256 .bf16 :=
  truncf .bf16 (shapeCast S256x256 (kron4 d) shapeCasts_S4x64x4x64_S256x256 : FVec Ideal S256x256 .f32) bitsLt_bf16_f32
def cosM : FVec Ideal S64x64 .f32 := Host.cos turns
def sinM : FVec Ideal S64x64 .f32 := Host.negf (Host.sin turns)
def avgM : FVec Ideal S64x64 .f32 := id (broadcastInDim S64x64 ![] bcast_S_S64x64 (constant S_ .f32 0x3C800000#32))

/-- The tokens' numbers; their rows and columns on the grid. -/
def tok : (⟨S8448, .i32⟩ : BufTy).Contents (Elt Ideal) := iotaInDim S8448 32 0
def c64 : (⟨S_, .i32⟩ : BufTy).Contents (Elt Ideal) := id (constantI S_ 32 64#32)
def quo : (⟨S8448, .i32⟩ : BufTy).Contents (Elt Ideal) := Host.divsi tok (broadcastInDim S8448 ![] bcast_S_S8448 c64)
def rowT : (⟨S8448, .i32⟩ : BufTy).Contents (Elt Ideal) :=
  select (andi (cmpi .ne (signi tok) (broadcastInDim S8448 ![] bcast_S_S8448 (signi c64)))
      (cmpi .ne (Host.remsi tok (broadcastInDim S8448 ![] bcast_S_S8448 c64)) (broadcastInDim S8448 ![] bcast_S_S8448 (constantI S_ 32 0#32))))
    (subi quo (broadcastInDim S8448 ![] bcast_S_S8448 (constantI S_ 32 1#32))) quo
def d64 : (⟨S_, .i32⟩ : BufTy).Contents (Elt Ideal) := select (cmpi .eq c64 (constantI S_ 32 0#32)) (constantI S_ 32 1#32) c64
def rest : (⟨S8448, .i32⟩ : BufTy).Contents (Elt Ideal) := Host.remsi tok (broadcastInDim S8448 ![] bcast_S_S8448 d64)
def colT : (⟨S8448, .i32⟩ : BufTy).Contents (Elt Ideal) :=
  select (andi (cmpi .ne (cmpi .slt rest (broadcastInDim S8448 ![] bcast_S_S8448 (constantI S_ 32 0#32))) (broadcastInDim S8448 ![] bcast_S_S8448 (cmpi .slt d64 (constantI S_ 32 0#32))))
      (cmpi .ne rest (broadcastInDim S8448 ![] bcast_S_S8448 (constantI S_ 32 0#32))))
    (addi rest (broadcastInDim S8448 ![] bcast_S_S8448 d64)) rest

/-- The frequencies, and the angles of the tokens. -/
def freqs : FVec Ideal S8 .f32 :=
  Host.powf (broadcastInDim S8 ![] bcast_S_S8 (constant S_ .f32 0x461C4000#32))
    (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0)))))
      (broadcastInDim S8 ![] bcast_S_S8 (constant S_ .f32 0x41800000#32)))
def times (p : FVec Ideal S8448 .f32) : FVec Ideal S8448x8 .f32 :=
  mulf (broadcastInDim S8448x8 ![0, 1] bcast_S8448x1_S8448x8_0_1 (broadcastInDim S8448x1 ![0] bcast_S8448_S8448x1_0 p))
    (broadcastInDim S8448x8 ![0, 1] bcast_S1x8_S8448x8_0_1 (broadcastInDim S1x8 ![1] bcast_S8_S1x8_1 freqs))
def rowA : FVec Ideal S8448x8 .f32 := times (sitofp .f32 rowT)
def colA : FVec Ideal S8448x8 .f32 := times (sitofp .f32 colT)
def angs : FVec Ideal S8448x32 .f32 :=
  concatenate S8448x32 1 [⟨S8448x8, rowA⟩, ⟨S8448x8, rowA⟩, ⟨S8448x8, colA⟩, ⟨S8448x8, colA⟩] concatenates_S8448x8_S8448x8_S8448x8_S8448x8_S8448x32_d1

/-- Which tokens are turned. -/
def mask : (⟨S8448x32, .i1⟩ : BufTy).Contents (Elt Ideal) :=
  broadcastInDim S8448x32 ![0, 1] bcast_S8448x1_S8448x32_0_1 (broadcastInDim S8448x1 ![0] bcast_S8448_S8448x1_0 (cmpi .slt tok (broadcastInDim S8448 ![] bcast_S_S8448 (constantI S_ 32 8192#32))))
def cosT : FVec Ideal S8448x32 .f32 := select mask (Host.cos angs) (broadcastInDim S8448x32 ![] bcast_S_S8448x32 (id (constant S_ .f32 0x3F800000#32) : FVec Ideal S_ .f32))
def sinT : FVec Ideal S8448x32 .f32 := select mask (Host.sin angs) (broadcastInDim S8448x32 ![] bcast_S_S8448x32 (id (constant S_ .f32 0x00000000#32) : FVec Ideal S_ .f32))
def zero8 : FVec Ideal S8448x8 .f32 := broadcastInDim S8448x8 ![] bcast_S_S8448x8 (constant S_ .f32 0x00000000#32 : FVec Ideal S_ .f32)
def sinLf (sinT : FVec Ideal S8448x32 .f32) : FVec Ideal S8448x32 .f32 :=
  concatenate S8448x32 1 [⟨S8448x8, Host.negf (extractStridedSlice S8448x8 ![0, 0] sinT slices_S8448x32_S8448x8_0_0)⟩, ⟨S8448x8, zero8⟩, ⟨S8448x8, Host.negf (extractStridedSlice S8448x8 ![0, 16] sinT slices_S8448x32_S8448x8_0_16)⟩, ⟨S8448x8, zero8⟩] concatenates_S8448x8_S8448x8_S8448x8_S8448x8_S8448x32_d1
def sinRf (sinT : FVec Ideal S8448x32 .f32) : FVec Ideal S8448x32 .f32 :=
  concatenate S8448x32 1 [⟨S8448x8, zero8⟩, ⟨S8448x8, extractStridedSlice S8448x8 ![0, 8] sinT slices_S8448x32_S8448x8_0_8⟩, ⟨S8448x8, zero8⟩, ⟨S8448x8, extractStridedSlice S8448x8 ![0, 24] sinT slices_S8448x32_S8448x8_0_24⟩] concatenates_S8448x8_S8448x8_S8448x8_S8448x8_S8448x32_d1

/-- The turning tables, in the turned lanes of a slot. -/
def tabC : FVec Ideal S8448x128 .f32 := pad S8448x128 ![0, 64] ![0, 32] ![0, 0] cosT (id (constant S_ .f32 0x3F800000#32) : FVec Ideal S_ .f32) pads_S8448x32_S8448x128_000_64320 h_S_
def tabLf (s : FVec Ideal S8448x32 .f32) : FVec Ideal S8448x128 .f32 := pad S8448x128 ![0, 64] ![0, 32] ![0, 0] (sinLf s) (id (constant S_ .f32 0x00000000#32) : FVec Ideal S_ .f32) pads_S8448x32_S8448x128_000_64320 h_S_
def tabRf (s : FVec Ideal S8448x32 .f32) : FVec Ideal S8448x128 .f32 := pad S8448x128 ![0, 64] ![0, 32] ![0, 0] (sinRf s) (id (constant S_ .f32 0x00000000#32) : FVec Ideal S_ .f32) pads_S8448x32_S8448x128_000_64320 h_S_

end Cert.FrontOddIdeal.Front

end
-- ==== Proof.FrontOddSpec.lean ====
module

public import proofs.«01_k».proof.Proof.FrontOddRow
public import proofs.«01_k».proof.Proof.Layout
public import proofs.«01_k».proof.Proof.Softmax

@[expose] public section

set_option maxRecDepth 16384

noncomputable section

open Idealize.ShloMosaic Idealize.ShloMosaic.TcCoe Idealize.SL.Sem

namespace Cert.OddRow

/-- 32 lanes turned by their angles: each lane with its partner 8 lanes away. -/
def rot (a x : Fin 32 → EReal) : Fin 32 → EReal := fun i =>
  x i * Ideal.cos (a i) + (if h : i.val < 8 then -x ⟨8 + i.val, by omega⟩ else if h2 : i.val - 8 < 8 then x ⟨i.val - 8, by omega⟩
    else if h3 : i.val - 8 - 8 < 8 then -x ⟨24 + (i.val - 8 - 8), by omega⟩ else x ⟨16 + (i.val - 8 - 8 - 8), by omega⟩) * Ideal.sin (a i)

/-- Only the latent tokens' lanes are turned. -/
def turned (t : ℕ) (a x : Fin 32 → EReal) : Fin 32 → EReal := if t < 8192 then rot a x else x

/-- A head's query lanes: 64 plain, 32 turned, 32 empty; all times the scale. -/
def qSpec (t : ℕ) (a : Fin 32 → EReal) (q : Fin 768 → EReal) (s : EReal) (h : Fin 8) (d : Fin 128) : EReal :=
  (if h1 : d.val < 64 then q ⟨h.val * 96 + d.val, by omega⟩ else if h2 : d.val - 64 < 32 then turned t a (fun i => q ⟨h.val * 96 + (64 + i.val), by omega⟩) ⟨d.val - 64, h2⟩ else 0) * s

/-- A head's key lanes: 64 of its own, 32 turned ones shared by all heads, 32 empty. -/
def kSpec (t : ℕ) (a : Fin 32 → EReal) (kv : Fin 1280 → EReal) (e : Fin 32 → EReal) (h : Fin 8) (d : Fin 128) : EReal :=
  if h1 : d.val < 64 then kv ⟨h.val * 160 + d.val, by omega⟩ else if h2 : d.val - 64 < 32 then turned t a e ⟨d.val - 64, h2⟩ else 0

/-- A head's value lanes: 96 of its own, a one, 31 empty. -/
def vSpec (kv : Fin 1280 → EReal) (h : Fin 8) (d : Fin 128) : EReal :=
  if h1 : d.val < 96 then kv ⟨h.val * 160 + (64 + d.val), by omega⟩ else if h2 : d.val - 96 < 1 then 1 else 0

/-- The mean of 64 entries. -/
def mean64 (v : Fin 64 → EReal) : EReal := Ideal.div (∑ k, v k) (Ideal.ofBits .f32 0x42800000#32)

/-- 64 entries normalised, scaled and shifted. -/
def norm64 (v g b : Fin 64 → EReal) : Fin 64 → EReal := fun k =>
  (v k - mean64 v) * Ideal.rsqrt (mean64 (fun j => (v j - mean64 v) * (v j - mean64 v)) + Ideal.ofBits .f32 0x3727C5AC#32) * g k + b k

/-- The `h`-th of the heads' parts of a row. -/
def part {N : ℕ} (D : ℕ) (h : ℕ) (hN : h * D + D ≤ N) (v : Fin N → EReal) : Fin D → EReal := fun i => v ⟨h * D + i.val, by omega⟩

theorem ofBits_64 : Ideal.ofBits .f32 0x42800000#32 = ((64 : ℝ) : EReal) := by
  simp [Ideal.ofBits, Ideal.ieee]
  rw [← EReal.coe_mul]
  norm_num

theorem ofBits_64th : Ideal.ofBits .f32 0x3C800000#32 = ((1 / 64 : ℝ) : EReal) := by
  simp [Ideal.ofBits, Ideal.ieee]
  rw [← EReal.coe_mul]
  norm_num

/-- A slot's lanes turned by tables that are trivial outside lanes 64 to 95: only those lanes change. -/
theorem turn_slot (t : ℕ) (a : Fin 32 → EReal) (y : Fin 1024 → EReal) (C L R : Fin 128 → EReal) (z : Fin 32 → EReal) (h : Fin 8)
    (hz : ∀ i : Fin 32, y ⟨h.val * 128 + (64 + i.val), by omega⟩ = z i)
    (hC : ∀ d : Fin 128, C d = if hd : 64 ≤ d.val ∧ d.val < 96 then (if t < 8192 then Ideal.cos (a ⟨d.val - 64, by omega⟩) else 1) else 1)
    (hL : ∀ d : Fin 128, L d = if hd : 64 ≤ d.val ∧ d.val < 96 then (if t < 8192 then
      (if d.val - 64 < 8 then -Ideal.sin (a ⟨d.val - 64, by omega⟩) else if d.val - 64 - 8 < 8 then 0 else if d.val - 64 - 8 - 8 < 8 then -Ideal.sin (a ⟨d.val - 64, by omega⟩) else 0) else 0) else 0)
    (hR : ∀ d : Fin 128, R d = if hd : 64 ≤ d.val ∧ d.val < 96 then (if t < 8192 then
      (if d.val - 64 < 8 then 0 else if d.val - 64 - 8 < 8 then Ideal.sin (a ⟨d.val - 64, by omega⟩) else if d.val - 64 - 8 - 8 < 8 then 0 else Ideal.sin (a ⟨d.val - 64, by omega⟩)) else 0) else 0)
    (d : Fin 128) :
    turn y C L R ⟨h.val * 128 + d.val, by omega⟩ = if hd : 64 ≤ d.val ∧ d.val < 96 then turned t a z ⟨d.val - 64, by omega⟩ else y ⟨h.val * 128 + d.val, by omega⟩ := by
  have hl : lane (⟨h.val * 128 + d.val, by omega⟩ : Fin 1024) = d := Fin.ext (by show (h.val * 128 + d.val) % 128 = d.val; omega)
  unfold turn
  rw [hl, hC, hL, hR]
  by_cases hd : 64 ≤ d.val ∧ d.val < 96
  · have e0 : y ⟨h.val * 128 + d.val, by omega⟩ = z ⟨d.val - 64, by omega⟩ := by
      rw [← hz]; exact congrArg y (Fin.ext (by show h.val * 128 + d.val = h.val * 128 + (64 + (d.val - 64)); omega))
    simp only [dif_pos hd, e0]
    by_cases ht : t < 8192
    · simp only [turned, rot, if_pos ht]
      have up : ∀ (k : ℕ) (hk : k < 32), k = d.val - 64 + 8 → y ⟨(h.val * 128 + d.val + 8) % 1024, Nat.mod_lt _ (by norm_num)⟩ = z ⟨k, hk⟩ := fun k hk e => by
        rw [← hz]; exact congrArg y (Fin.ext (by show (h.val * 128 + d.val + 8) % 1024 = h.val * 128 + (64 + k); omega))
      have dn : ∀ (k : ℕ) (hk : k < 32), k + 8 = d.val - 64 → y ⟨(h.val * 128 + d.val + 1016) % 1024, Nat.mod_lt _ (by norm_num)⟩ = z ⟨k, hk⟩ := fun k hk e => by
        rw [← hz]; exact congrArg y (Fin.ext (by show (h.val * 128 + d.val + 1016) % 1024 = h.val * 128 + (64 + k); omega))
      by_cases h1 : d.val - 64 < 8
      · simp only [if_pos h1, dif_pos h1]
        rw [up (8 + (d.val - 64)) (by omega) (by omega), mul_zero, add_zero, mul_neg, neg_mul]
      · simp only [if_neg h1, dif_neg h1]
        by_cases h2 : d.val - 64 - 8 < 8
        · simp only [if_pos h2, dif_pos h2]
          rw [dn (d.val - 64 - 8) (by omega) (by omega), mul_zero, add_zero]
        · simp only [if_neg h2, dif_neg h2]
          by_cases h3 : d.val - 64 - 8 - 8 < 8
          · simp only [if_pos h3, dif_pos h3]
            rw [up (24 + (d.val - 64 - 8 - 8)) (by omega) (by omega), mul_zero, add_zero, mul_neg, neg_mul]
          · simp only [if_neg h3, dif_neg h3]
            rw [dn (16 + (d.val - 64 - 8 - 8 - 8)) (by omega) (by omega), mul_zero, add_zero]
    · simp only [turned, if_neg ht, mul_one, mul_zero, add_zero]
  · simp only [dif_neg hd, mul_one, mul_zero, add_zero]

theorem turned_scale (t : ℕ) (a x : Fin 32 → EReal) (s : ℝ) (hs : 0 ≤ s) (i : Fin 32) :
    turned t a (fun i => x i * (s : EReal)) i = turned t a x i * (s : EReal) := by
  have hs' : (0 : EReal) ≤ (s : EReal) := EReal.coe_nonneg.mpr hs
  have comm : ∀ u v : EReal, u * (s : EReal) * v = u * v * (s : EReal) := fun u v => by rw [mul_assoc, mul_comm (s : EReal) v, ← mul_assoc]
  unfold turned
  split_ifs with ht
  · unfold rot
    rw [EReal.right_distrib_of_nonneg_of_ne_top hs' (EReal.coe_ne_top s), comm]
    congr 1
    split_ifs <;> simp only [← neg_mul, comm]
  · rfl

/-- The kernel's query lanes. -/
theorem q_slot (t : ℕ) (a : Fin 32 → EReal) (y : Fin 1024 → EReal) (C L R : Fin 128 → EReal) (q : Fin 768 → EReal) (s : ℝ) (hs : 0 ≤ s) (h : Fin 8)
    (hy : ∀ d : Fin 128, y ⟨h.val * 128 + d.val, by omega⟩ = if hd : d.val < 96 then q ⟨h.val * 96 + d.val, by omega⟩ * (s : EReal) else 0)
    (hC : ∀ d : Fin 128, C d = if hd : 64 ≤ d.val ∧ d.val < 96 then (if t < 8192 then Ideal.cos (a ⟨d.val - 64, by omega⟩) else 1) else 1)
    (hL : ∀ d : Fin 128, L d = if hd : 64 ≤ d.val ∧ d.val < 96 then (if t < 8192 then
      (if d.val - 64 < 8 then -Ideal.sin (a ⟨d.val - 64, by omega⟩) else if d.val - 64 - 8 < 8 then 0 else if d.val - 64 - 8 - 8 < 8 then -Ideal.sin (a ⟨d.val - 64, by omega⟩) else 0) else 0) else 0)
    (hR : ∀ d : Fin 128, R d = if hd : 64 ≤ d.val ∧ d.val < 96 then (if t < 8192 then
      (if d.val - 64 < 8 then 0 else if d.val - 64 - 8 < 8 then Ideal.sin (a ⟨d.val - 64, by omega⟩) else if d.val - 64 - 8 - 8 < 8 then 0 else Ideal.sin (a ⟨d.val - 64, by omega⟩)) else 0) else 0)
    (d : Fin 128) : turn y C L R ⟨h.val * 128 + d.val, by omega⟩ = qSpec t a q (s : EReal) h d := by
  rw [turn_slot t a y C L R (fun i => q ⟨h.val * 96 + (64 + i.val), by omega⟩ * (s : EReal)) h
    (fun i => (hy ⟨64 + i.val, by omega⟩).trans (dif_pos (by show 64 + i.val < 96; omega))) hC hL hR d, hy d]
  unfold qSpec
  by_cases h1 : d.val < 64
  · rw [dif_neg (by omega), dif_pos (by omega), dif_pos h1]
  · by_cases h2 : d.val < 96
    · rw [dif_pos ⟨by omega, h2⟩, dif_neg h1, dif_pos (by omega)]
      exact turned_scale t a _ s hs _
    · rw [dif_neg (by omega), dif_neg h2, dif_neg h1, dif_neg (by omega), zero_mul]

/-- The kernel's key lanes. -/
theorem k_slot (t : ℕ) (a : Fin 32 → EReal) (x y : Fin 1024 → EReal) (C L R : Fin 128 → EReal) (kv : Fin 1280 → EReal) (e : Fin 32 → EReal) (h : Fin 8)
    (hx : ∀ d : Fin 128, x ⟨h.val * 128 + d.val, by omega⟩ = if hd : d.val < 64 then kv ⟨h.val * 160 + d.val, by omega⟩ else 0)
    (hy : ∀ d : Fin 128, y ⟨h.val * 128 + d.val, by omega⟩ = if hd : 64 ≤ d.val ∧ d.val < 96 then e ⟨d.val - 64, by omega⟩ else 0)
    (hC : ∀ d : Fin 128, C d = if hd : 64 ≤ d.val ∧ d.val < 96 then (if t < 8192 then Ideal.cos (a ⟨d.val - 64, by omega⟩) else 1) else 1)
    (hL : ∀ d : Fin 128, L d = if hd : 64 ≤ d.val ∧ d.val < 96 then (if t < 8192 then
      (if d.val - 64 < 8 then -Ideal.sin (a ⟨d.val - 64, by omega⟩) else if d.val - 64 - 8 < 8 then 0 else if d.val - 64 - 8 - 8 < 8 then -Ideal.sin (a ⟨d.val - 64, by omega⟩) else 0) else 0) else 0)
    (hR : ∀ d : Fin 128, R d = if hd : 64 ≤ d.val ∧ d.val < 96 then (if t < 8192 then
      (if d.val - 64 < 8 then 0 else if d.val - 64 - 8 < 8 then Ideal.sin (a ⟨d.val - 64, by omega⟩) else if d.val - 64 - 8 - 8 < 8 then 0 else Ideal.sin (a ⟨d.val - 64, by omega⟩)) else 0) else 0)
    (d : Fin 128) : x ⟨h.val * 128 + d.val, by omega⟩ + turn y C L R ⟨h.val * 128 + d.val, by omega⟩ = kSpec t a kv e h d := by
  rw [turn_slot t a y C L R e h
    (fun i => ((hy ⟨64 + i.val, by omega⟩).trans (dif_pos ⟨by show 64 ≤ 64 + i.val; omega, by show 64 + i.val < 96; omega⟩)).trans
      (congrArg e (Fin.ext (by show 64 + i.val - 64 = i.val; omega)))) hC hL hR d, hy d, hx d]
  unfold kSpec
  by_cases h1 : d.val < 64
  · rw [dif_pos h1, dif_neg (by omega), dif_neg (by omega), dif_pos h1, add_zero]
  · by_cases h2 : d.val < 96
    · rw [dif_neg h1, dif_pos ⟨by omega, h2⟩, dif_neg h1, dif_pos (by omega), zero_add]
    · rw [dif_neg h1, dif_neg (by omega), dif_neg (by omega), dif_neg h1, dif_neg (by omega), add_zero]

/-- The kernel's value lanes. -/
theorem v_slot (x o : Fin 1024 → EReal) (kv : Fin 1280 → EReal) (h : Fin 8)
    (hx : ∀ d : Fin 128, x ⟨h.val * 128 + d.val, by omega⟩ = if hd : d.val < 96 then kv ⟨h.val * 160 + (64 + d.val), by omega⟩ else 0)
    (ho : ∀ d : Fin 128, o ⟨h.val * 128 + d.val, by omega⟩ = if d.val = 96 then 1 else 0)
    (d : Fin 128) : x ⟨h.val * 128 + d.val, by omega⟩ + o ⟨h.val * 128 + d.val, by omega⟩ = vSpec kv h d := by
  rw [hx d, ho d]
  unfold vSpec
  by_cases h1 : d.val < 96
  · rw [dif_pos h1, dif_pos h1, if_neg (by omega), add_zero]
  · by_cases h2 : d.val = 96
    · rw [dif_neg h1, if_pos h2, dif_neg h1, dif_pos (by omega), zero_add]
    · rw [dif_neg h1, if_neg h2, dif_neg h1, dif_neg (by omega), zero_add]

/-- A sum over four groups of 64 of which one group counts. -/
theorem sum_group (f : Fin 256 → EReal) (g : Fin 4) (h0 : ∀ r : Fin 256, r.val / 64 ≠ g.val → f r = 0) :
    ∑ r, f r = ∑ i : Fin 64, f ⟨g.val * 64 + i.val, by omega⟩ := by
  rw [Cert.Layout.sum_prod (H := 4) (D := 64) (N := 256) (by norm_num) f]
  rw [Finset.sum_eq_single g (fun h _ hne => Finset.sum_eq_zero fun i _ => h0 _ (by
    show (h.val * 64 + i.val) / 64 ≠ g.val
    have : h.val ≠ g.val := fun e => hne (Fin.ext e)
    omega)) (fun hn => absurd (Finset.mem_univ g) hn)]

/-- A row times the averaging matrix is its group's mean. -/
theorem lin_avg (f : Fin 256 → EReal) (A : Fin 256 → Fin 256 → EReal)
    (hA : ∀ r c : Fin 256, A r c = if r.val / 64 = c.val / 64 then Ideal.ofBits .f32 0x3C800000#32 else 0) (c : Fin 256) (g : Fin 4) (hg : c.val / 64 = g.val) :
    lin f A c = mean64 (part 64 g.val (by omega) f) := by
  unfold lin
  rw [sum_group _ g (fun r hr => by rw [hA, if_neg (by omega), mul_zero])]
  have e : ∀ i : Fin 64, f ⟨g.val * 64 + i.val, by omega⟩ * A ⟨g.val * 64 + i.val, by omega⟩ c = f ⟨g.val * 64 + i.val, by omega⟩ * ((1 / 64 : ℝ) : EReal) := fun i => by
    rw [hA, if_pos (by show (g.val * 64 + i.val) / 64 = c.val / 64; omega), ofBits_64th]
  rw [Finset.sum_congr rfl fun i _ => e i]
  unfold mean64 part
  rw [ofBits_64, Ideal.div_coe (by norm_num), Cert.Softmax.mul_sum_real _ _ (by norm_num)]

/-- The kernel's normalised lanes are the groups' normalised lanes. -/
theorem normA_group (f : Fin 256 → EReal) (A : Fin 256 → Fin 256 → EReal) (g b : Fin 256 → EReal)
    (hA : ∀ r c : Fin 256, A r c = if r.val / 64 = c.val / 64 then Ideal.ofBits .f32 0x3C800000#32 else 0) (h : Fin 4) (i : Fin 64) :
    normA f A g b ⟨h.val * 64 + i.val, by omega⟩ = norm64 (part 64 h.val (by omega) f) (part 64 h.val (by omega) g) (part 64 h.val (by omega) b) i := by
  have cen : ∀ j : Fin 64, cenA f A ⟨h.val * 64 + j.val, by omega⟩ = part 64 h.val (by omega) f j - mean64 (part 64 h.val (by omega) f) := fun j => by
    unfold cenA
    rw [lin_avg f A hA _ h (by show (h.val * 64 + j.val) / 64 = h.val; omega)]; rfl
  unfold normA norm64
  rw [lin_avg _ A hA _ h (by show (h.val * 64 + i.val) / 64 = h.val; omega), cen]
  have e : (part 64 h.val (by omega) (fun c => cenA f A c * cenA f A c) : Fin 64 → EReal) =
      fun j => (part 64 h.val (by omega) f j - mean64 (part 64 h.val (by omega) f)) * (part 64 h.val (by omega) f j - mean64 (part 64 h.val (by omega) f)) := by
    funext j; show cenA f A _ * cenA f A _ = _; rw [cen]
  rw [e]; rfl

/-- The kernel's transform of the normalised lanes. -/
theorem f_group (D : Fin 256 → Fin 256 → EReal) (Dm : Fin 64 → Fin 64 → EReal) (n : Fin 256 → EReal) (h : Fin 4) (k : Fin 64)
    (hD : ∀ c : Fin 256, D ⟨h.val * 64 + k.val, by omega⟩ c = if h.val = c.val / 64 then Dm k ⟨c.val % 64, Nat.mod_lt _ (by norm_num)⟩ else 0) :
    ∑ c, D ⟨h.val * 64 + k.val, by omega⟩ c * n c = ∑ i : Fin 64, Dm k i * n ⟨h.val * 64 + i.val, by omega⟩ := by
  rw [sum_group _ h (fun r hr => by rw [hD, if_neg (by omega), zero_mul])]
  refine Finset.sum_congr rfl fun i _ => ?_
  rw [hD, if_pos (by show h.val = (h.val * 64 + i.val) / 64; omega)]
  congr 1
  exact congrArg (Dm k) (Fin.ext (by show (h.val * 64 + i.val) % 64 = i.val; omega))

/-- A product with columns that are another matrix's, scaled. -/
theorem lin_scaled {n : ℕ} (v w w' : Fin n → EReal) (s : ℝ) (hs : 0 ≤ s) (hw : ∀ k, w' k = w k * (s : EReal)) :
    ∑ k, v k * w' k = (∑ k, v k * w k) * (s : EReal) := by
  rw [Cert.Softmax.mul_sum_real _ _ hs]
  exact Finset.sum_congr rfl fun k _ => by rw [hw, ← mul_assoc]

end Cert.OddRow

end
-- ==== Proof.FrontOddEntry.lean ====
module

public import proofs.«01_k».proof.Proof.FrontOddHost
public import proofs.«01_k».proof.Proof.FrontOddSpec

@[expose] public section

set_option maxRecDepth 16384

noncomputable section

open Idealize.ShloMosaic Idealize.ShloMosaic.TcCoe Idealize.SL.Sem

namespace Cert.FrontOddIdeal.Front

open Cert.FrontOddIdeal Cert.FrontOddIdeal.Gen Cert.OddRow

theorem wP_at (w : FVec Ideal S1024x928 .f32) (k n : Fin 1024) :
    wP w (ix2 k n) = if h1 : n.val < 640 then (w (ix2 k ⟨n.val, by omega⟩) : EReal) else if h2 : n.val - 640 < 256 then w (ix2 k ⟨672 + (n.val - 640), by omega⟩)
      else if h3 : n.val - 640 - 256 < 32 then w (ix2 k ⟨640 + (n.val - 640 - 256), by omega⟩) else 0 := by
  pointwise [wP]

theorem z0_at (i : S_.Idx) : z0 i = (0 : EReal) := by
  show (((0#32 : BitVec 32).toInt : ℝ) : EReal) = 0
  simp

/-- Columns as heads of lanes, and back. -/
theorem split_cols {K H D N : ℕ} (x : FVec Ideal ⟨2, ![K, N]⟩ .f32) (hc : (⟨2, ![K, N]⟩ : Shape).ShapeCasts ⟨3, ![K, H, D]⟩) (hN : N = H * D)
    (k : Fin K) (h : Fin H) (d : Fin D) (n : Fin N) (hn : n.val = h.val * D + d.val) : shapeCast ⟨3, ![K, H, D]⟩ x hc (ix3 k h d) = x (ix2 k n) := by
  subst hN
  refine congrArg x (Shape.reshapeEquiv_eq_of_rowMajor _ ?_)
  rw [Shape.rowMajor_val_three, Shape.rowMajor_val_two]
  show k.val * (H * D) + n.val = (k.val * H + h.val) * D + d.val
  rw [hn]; ring
theorem merge_cols {K H D N : ℕ} (x : FVec Ideal ⟨3, ![K, H, D]⟩ .f32) (hc : (⟨3, ![K, H, D]⟩ : Shape).ShapeCasts ⟨2, ![K, N]⟩) (hN : N = H * D)
    (k : Fin K) (h : Fin H) (d : Fin D) (n : Fin N) (hn : n.val = h.val * D + d.val) : shapeCast ⟨2, ![K, N]⟩ x hc (ix2 k n) = x (ix3 k h d) := by
  subst hN
  refine congrArg x (Shape.reshapeEquiv_eq_of_rowMajor _ ?_)
  rw [Shape.rowMajor_val_three, Shape.rowMajor_val_two]
  show (k.val * H + h.val) * D + d.val = k.val * (H * D) + n.val
  rw [hn]; ring
theorem merge_both {A B C D M N : ℕ} (x : FVec Ideal ⟨4, ![A, B, C, D]⟩ .f32) (hc : (⟨4, ![A, B, C, D]⟩ : Shape).ShapeCasts ⟨2, ![M, N]⟩) (hM : M = A * B) (hN : N = C * D)
    (a : Fin A) (b : Fin B) (c : Fin C) (d : Fin D) (i : Fin M) (n : Fin N) (hi : i.val = a.val * B + b.val) (hn : n.val = c.val * D + d.val) :
    shapeCast ⟨2, ![M, N]⟩ x hc (ix2 i n) = x (ix4 a b c d) := by
  subst hM hN
  refine congrArg x (Shape.reshapeEquiv_eq_of_rowMajor _ ?_)
  rw [Shape.rowMajor_val_four, Shape.rowMajor_val_two]
  show ((a.val * B + b.val) * C + c.val) * D + d.val = i.val * (C * D) + n.val
  rw [hn, hi]; ring

theorem mulS_at (w : FVec Ideal S384x768 .f32) (k : Fin 384) (n : Fin 768) : mulf w (broadcastInDim S384x768 ![] bcast_S_S384x768 qS) (ix2 k n) = w (ix2 k n) * (qS ix0 : EReal) := by
  pointwise

theorem wq3_at (w : FVec Ideal S384x768 .f32) (k : Fin 384) (h : Fin 8) (d : Fin 96) :
    wq3 w (ix3 k h d) = w (ix2 k ⟨h.val * 96 + d.val, by omega⟩) * (qS ix0 : EReal) :=
  (split_cols (K := 384) (H := 8) (D := 96) (N := 768) _ shapeCasts_S384x768_S384x8x96 (by norm_num) k h d ⟨h.val * 96 + d.val, by omega⟩ rfl).trans (mulS_at w k _)

theorem wq8_at (w : FVec Ideal S384x768 .f32) (k : Fin 384) (h : Fin 8) (d : Fin 128) :
    wq8 w (ix3 k h d) = if hd : d.val < 96 then w (ix2 k ⟨h.val * 96 + d.val, by omega⟩) * (qS ix0 : EReal) else 0 := by
  pointwise [wq8, wq3_at, z0_at]

theorem wQ_at (w : FVec Ideal S384x768 .f32) (k : Fin 384) (h : Fin 8) (d : Fin 128) :
    wQ w (ix2 k ⟨h.val * 128 + d.val, by omega⟩) = if hd : d.val < 96 then w (ix2 k ⟨h.val * 96 + d.val, by omega⟩) * (qS ix0 : EReal) else 0 :=
  (merge_cols (K := 384) (H := 8) (D := 128) (N := 1024) (wq8 w) shapeCasts_S384x8x128_S384x1024 (by norm_num) k h d ⟨h.val * 128 + d.val, by omega⟩ rfl).trans (wq8_at w k h d)

theorem wkv3_at (w : FVec Ideal S256x1280 .f32) (k : Fin 256) (h : Fin 8) (d : Fin 160) : wkv3 w (ix3 k h d) = w (ix2 k ⟨h.val * 160 + d.val, by omega⟩) :=
  split_cols (K := 256) (H := 8) (D := 160) (N := 1280) _ shapeCasts_S256x1280_S256x8x160 (by norm_num) k h d ⟨h.val * 160 + d.val, by omega⟩ rfl

theorem wk8_at (w : FVec Ideal S256x1280 .f32) (k : Fin 256) (h : Fin 8) (d : Fin 128) :
    wk8 w (ix3 k h d) = if hd : d.val < 64 then (w (ix2 k ⟨h.val * 160 + d.val, by omega⟩) : EReal) else 0 := by
  pointwise [wk8, wkv3_at, z0_at]

theorem wv8_at (w : FVec Ideal S256x1280 .f32) (k : Fin 256) (h : Fin 8) (d : Fin 128) :
    wv8 w (ix3 k h d) = if hd : d.val < 96 then (w (ix2 k ⟨h.val * 160 + (64 + d.val), by omega⟩) : EReal) else 0 := by
  pointwise [wv8, wkv3_at, z0_at]

theorem wK_at (w : FVec Ideal S256x1280 .f32) (k : Fin 256) (h : Fin 8) (d : Fin 128) :
    wK w (ix2 k ⟨h.val * 128 + d.val, by omega⟩) = if hd : d.val < 64 then (w (ix2 k ⟨h.val * 160 + d.val, by omega⟩) : EReal) else 0 :=
  (merge_cols (K := 256) (H := 8) (D := 128) (N := 1024) (wk8 w) shapeCasts_S256x8x128_S256x1024 (by norm_num) k h d ⟨h.val * 128 + d.val, by omega⟩ rfl).trans (wk8_at w k h d)

theorem wV_at (w : FVec Ideal S256x1280 .f32) (k : Fin 256) (h : Fin 8) (d : Fin 128) :
    wV w (ix2 k ⟨h.val * 128 + d.val, by omega⟩) = if hd : d.val < 96 then (w (ix2 k ⟨h.val * 160 + (64 + d.val), by omega⟩) : EReal) else 0 :=
  (merge_cols (K := 256) (H := 8) (D := 128) (N := 1024) (wv8 w) shapeCasts_S256x8x128_S256x1024 (by norm_num) k h d ⟨h.val * 128 + d.val, by omega⟩ rfl).trans (wv8_at w k h d)

/-- Small integers compare as they are. -/
theorem slt_nat (n k : ℕ) (hn : n < 2 ^ 31) (hk : k < 2 ^ 31) : IntOp.cmpi .slt (BitVec.ofNat 32 n) (BitVec.ofNat 32 k) = if n < k then 1#1 else 0#1 := by
  have e : (BitVec.ofNat 32 n).slt (BitVec.ofNat 32 k) = decide (n < k) := by
    have ti : ∀ n : ℕ, n < 2 ^ 31 → (BitVec.ofNat 32 n).toInt = n := fun n hn => by
      rw [BitVec.toInt_eq_toNat_of_lt (by rw [BitVec.toNat_ofNat]; omega), BitVec.toNat_ofNat, Nat.mod_eq_of_lt (by omega)]
    simp only [BitVec.slt, ti n hn, ti k hk, Nat.cast_lt]
  by_cases h : n < k <;> simp [IntOp.cmpi, e, h]

theorem eq_nat (n k : ℕ) (hn : n < 2 ^ 31) (hk : k < 2 ^ 31) : IntOp.cmpi .eq (BitVec.ofNat 32 n) (BitVec.ofNat 32 k) = if n = k then 1#1 else 0#1 := by
  have e : (BitVec.ofNat 32 n == BitVec.ofNat 32 k) = decide (n = k) := by
    by_cases h : n = k
    · simp [h]
    · have : BitVec.ofNat 32 n ≠ BitVec.ofNat 32 k := fun e => h (by
        have := congrArg BitVec.toNat e
        rw [BitVec.toNat_ofNat, BitVec.toNat_ofNat, Nat.mod_eq_of_lt (by omega), Nat.mod_eq_of_lt (by omega)] at this
        exact this)
      simp [h, this]
  by_cases h : n = k <;> simp [IntOp.cmpi, e, h]

theorem sel_slt (n k : ℕ) (hn : n < 2 ^ 31) (hk : k < 2 ^ 31) (x y : EReal) : Scalar.select (IntOp.cmpi .slt (BitVec.ofNat 32 n) (BitVec.ofNat 32 k)) x y = if n < k then x else y := by
  rw [slt_nat n k hn hk]
  by_cases h : n < k <;> simp [Scalar.select, h]

theorem place_at (s d : Fin 128) : place (ix2 s d) = if s.val < 32 ∧ d.val = 64 + s.val then (1 : EReal) else 0 := by
  have e : Scalar.select (IntOp.andi (IntOp.cmpi .slt (BitVec.ofNat 32 s.val) (BitVec.ofNat 32 32)) (IntOp.cmpi .eq (BitVec.ofNat 32 d.val) (BitVec.ofNat 32 (64 + s.val)))) (1 : EReal) 0
      = if s.val < 32 ∧ d.val = 64 + s.val then (1 : EReal) else 0 := by
    rw [slt_nat _ _ (by omega) (by norm_num), eq_nat _ _ (by omega) (by omega)]
    by_cases h : s.val < 32 <;> by_cases h2 : d.val = 64 + s.val <;> simp [Scalar.select, IntOp.andi, h, h2]
  rw [← e, BitVec.ofNat_add]
  pointwise [place, down, across]
  rfl

theorem one1_at (z : Fin 1) (d : Fin 128) : one1 (ix2 z d) = if d.val = 96 then (1 : EReal) else 0 := by
  have e : Scalar.select (IntOp.cmpi .eq (BitVec.ofNat 32 d.val) (BitVec.ofNat 32 96)) (1 : EReal) 0 = if d.val = 96 then (1 : EReal) else 0 := by
    rw [eq_nat _ _ (by omega) (by norm_num)]
    by_cases h : d.val = 96 <;> simp [Scalar.select, h]
  rw [← e]
  pointwise [one1, across]

theorem eye_at (a b : Fin 4) : eye (ix2 a b) = if a.val = b.val then (1 : EReal) else 0 := by
  have e : (FloatOps.uitofp (F := Ideal) .f32 (IntOp.cmpi .eq (BitVec.ofNat 32 a.val) (BitVec.ofNat 32 b.val)) : EReal) = if a.val = b.val then (1 : EReal) else 0 := by
    rw [eq_nat _ _ (by omega) (by omega)]
    show (((if a.val = b.val then 1#1 else 0#1 : BitVec 1).toNat : ℝ) : EReal) = _
    by_cases h : a.val = b.val <;> simp [h]
  have e2 : IntOp.addi (BitVec.ofNat 32 a.val) 0#32 = BitVec.ofNat 32 a.val := by simp [IntOp.addi]
  rw [← e, ← e2]
  pointwise [eye]

theorem kron4_at (d : FVec Ideal S64x64 .f32) (a : Fin 4) (b : Fin 64) (c : Fin 4) (e : Fin 64) : kron4 d (ix4 a b c e) = (if a.val = c.val then (1 : EReal) else 0) * d (ix2 b e) := by
  pointwise [kron4, eye_at]

theorem kron_at (d : FVec Ideal S64x64 .f32) (r c : Fin 256) :
    kron d (ix2 r c) = if r.val / 64 = c.val / 64 then (d (ix2 ⟨r.val % 64, Nat.mod_lt _ (by norm_num)⟩ ⟨c.val % 64, Nat.mod_lt _ (by norm_num)⟩) : EReal) else 0 := by
  refine (merge_both (A := 4) (B := 64) (C := 4) (D := 64) (M := 256) (N := 256) (kron4 d) shapeCasts_S4x64x4x64_S256x256 (by norm_num) (by norm_num)
    ⟨r.val / 64, by omega⟩ ⟨r.val % 64, by omega⟩ ⟨c.val / 64, by omega⟩ ⟨c.val % 64, by omega⟩ r c (by show r.val = r.val / 64 * 64 + r.val % 64; omega) (by show c.val = c.val / 64 * 64 + c.val % 64; omega)).trans ?_
  rw [kron4_at]
  show (if r.val / 64 = c.val / 64 then (1 : EReal) else 0) * _ = _
  split_ifs
  · rw [one_mul]
  · rw [zero_mul]

theorem mask_at (t : Fin 8448) (i : Fin 32) (x y : EReal) : Scalar.select (mask (ix2 t i)) x y = if t.val < 8192 then x else y := by
  refine Eq.trans ?_ (sel_slt t.val 8192 (by omega) (by norm_num) x y)
  pointwise [mask, tok]

theorem cosT_at (t : Fin 8448) (i : Fin 32) : cosT (ix2 t i) = if t.val < 8192 then Ideal.cos (angs (ix2 t i)) else 1 := by
  rw [← mask_at t i]
  pointwise [cosT, id_eq]

theorem sinT_at (t : Fin 8448) (i : Fin 32) : sinT (ix2 t i) = if t.val < 8192 then Ideal.sin (angs (ix2 t i)) else 0 := by
  rw [← mask_at t i]
  pointwise [sinT, id_eq]

theorem sinLf_at (s : FVec Ideal S8448x32 .f32) (t : Fin 8448) (i : Fin 32) : sinLf s (ix2 t i) = if i.val < 8 then -(s (ix2 t i) : EReal) else if i.val - 8 < 8 then 0 else if i.val - 8 - 8 < 8 then -(s (ix2 t i) : EReal) else 0 := by
  pointwise [sinLf, zero8]
  split_ifs <;> first | rfl | exact congrArg (fun z : EReal => -z) (congrArg s (congrArg (ix2 t) (Fin.ext (by show _ = i.val; simp only; omega))))

theorem sinRf_at (s : FVec Ideal S8448x32 .f32) (t : Fin 8448) (i : Fin 32) : sinRf s (ix2 t i) = if i.val < 8 then (0 : EReal) else if i.val - 8 < 8 then s (ix2 t i) else if i.val - 8 - 8 < 8 then 0 else s (ix2 t i) := by
  pointwise [sinRf, zero8]
  split_ifs <;> first | rfl | exact congrArg s (congrArg (ix2 t) (Fin.ext (by show _ = i.val; simp only; omega)))

/-- A table padded to a slot. -/
theorem padT_at (x : FVec Ideal S8448x32 .f32) (v : FVec Ideal S_ .f32) (t : Fin 8448) (d : Fin 128) :
    pad S8448x128 ![0, 64] ![0, 32] ![0, 0] x v pads_S8448x32_S8448x128_000_64320 h_S_ (ix2 t d) = if hd : 64 ≤ d.val ∧ d.val < 96 then (x (ix2 t ⟨d.val - 64, by omega⟩) : EReal) else v ix0 := by
  have e : (64 ≤ d.val ∧ d.val - 64 < 32) = (64 ≤ d.val ∧ d.val < 96) := propext ⟨fun h => ⟨h.1, by omega⟩, fun h => ⟨h.1, by omega⟩⟩
  have e0 : Shape.Idx.first h_S_ = (ix0 : S_.Idx) := funext fun a => a.elim0
  pointwise
  simp only [e, e0]

theorem places_at (s : Fin 128) (h : Fin 8) (d : Fin 128) : places (ix2 s ⟨h.val * 128 + d.val, by omega⟩) = if s.val < 32 ∧ d.val = 64 + s.val then (1 : EReal) else 0 := by
  rw [← place_at s d]
  pointwise [places, id_eq]
  split_ifs <;> exact congrArg place (congrArg (ix2 s) (Fin.ext (by show _ = d.val; first | omega | (simp only; omega))))

theorem ones_at (z : Fin 1) (h : Fin 8) (d : Fin 128) : ones (ix2 z ⟨h.val * 128 + d.val, by omega⟩) = if d.val = 96 then (1 : EReal) else 0 := by
  obtain rfl : z = 0 := Subsingleton.elim _ _
  rw [← one1_at 0 d]
  pointwise [ones]
  split_ifs <;> exact congrArg one1 (congrArg (ix2 0) (Fin.ext (by show _ = d.val; first | omega | (simp only; omega))))

/-- The three tables. -/
theorem tabC_at (t : Fin 8448) (d : Fin 128) : tabC (ix2 t d) = if hd : 64 ≤ d.val ∧ d.val < 96 then (if t.val < 8192 then Ideal.cos (angs (ix2 t ⟨d.val - 64, by omega⟩)) else 1) else 1 := by
  unfold tabC
  rw [padT_at]
  simp only [cosT_at]
  by_cases hd : 64 ≤ d.val ∧ d.val < 96
  · rw [dif_pos hd, dif_pos hd]
  · rw [dif_neg hd, dif_neg hd]
    pointwise [id_eq]

theorem tabLf_at (t : Fin 8448) (d : Fin 128) : tabLf sinT (ix2 t d) = if hd : 64 ≤ d.val ∧ d.val < 96 then (if t.val < 8192 then
      (if d.val - 64 < 8 then -Ideal.sin (angs (ix2 t ⟨d.val - 64, by omega⟩)) else if d.val - 64 - 8 < 8 then 0 else if d.val - 64 - 8 - 8 < 8 then -Ideal.sin (angs (ix2 t ⟨d.val - 64, by omega⟩)) else 0) else 0) else 0 := by
  unfold tabLf
  rw [padT_at]
  simp only [sinLf_at, sinT_at]
  by_cases hd : 64 ≤ d.val ∧ d.val < 96
  · rw [dif_pos hd, dif_pos hd]
    by_cases ht : t.val < 8192 <;> simp [ht]
  · rw [dif_neg hd, dif_neg hd]
    pointwise [id_eq]

theorem tabRf_at (t : Fin 8448) (d : Fin 128) : tabRf sinT (ix2 t d) = if hd : 64 ≤ d.val ∧ d.val < 96 then (if t.val < 8192 then
      (if d.val - 64 < 8 then 0 else if d.val - 64 - 8 < 8 then Ideal.sin (angs (ix2 t ⟨d.val - 64, by omega⟩)) else if d.val - 64 - 8 - 8 < 8 then 0 else Ideal.sin (angs (ix2 t ⟨d.val - 64, by omega⟩))) else 0) else 0 := by
  unfold tabRf
  rw [padT_at]
  simp only [sinRf_at, sinT_at]
  by_cases hd : 64 ≤ d.val ∧ d.val < 96
  · rw [dif_pos hd, dif_pos hd]
    by_cases ht : t.val < 8192 <;> simp [ht]
  · rw [dif_neg hd, dif_neg hd]
    pointwise [id_eq]

/-- The weights of the rows, read off their one-row forms. -/
theorem row1 {N : ℕ} (x : FVec Ideal ⟨1, ![N]⟩ .f32) (hc : (⟨1, ![N]⟩ : Shape).ShapeCasts ⟨2, ![1, N]⟩) (z : Fin 1) (n : Fin N) : shapeCast ⟨2, ![1, N]⟩ x hc (ix2 z n) = x (ix1 n) := by
  refine congrArg x (Shape.reshapeEquiv_eq_of_rowMajor _ ?_)
  rw [Shape.rowMajor_val_two, Shape.rowMajor_val_one]
  obtain rfl : z = 0 := Subsingleton.elim _ _
  show n.val = 0 * N + n.val
  omega

end Cert.FrontOddIdeal.Front

end
-- ==== Proof.FrontOddRef.lean ====
module

public import proofs.«01_k».proof.Proof.Gen.FrontOddRefIdeal.Run
public import proofs.«01_k».proof.Proof.FrontOddSpec
public import proofs.«01_k».proof.Proof.FrontOddHost

@[expose] public section

set_option maxRecDepth 16384

noncomputable section

open Idealize.ShloMosaic Idealize.ShloMosaic.TcCoe Idealize.SL.Sem

namespace Cert.FrontOddRefIdeal.Front

open Cert.FrontOddRefIdeal Cert.FrontOddRefIdeal.Gen Cert.FrontOddRefIdeal.Value
open Cert.Rows Cert.OddRow

variable (V0 : Valuation τ sig (Elt Ideal))

/-- The arguments. -/
def XL : FVec Ideal S4x8192x1024 .f32 := V0 (Proc.devRef .tc main_arg0)
def XC : FVec Ideal S4x256x1024 .f32 := V0 (Proc.devRef .tc main_arg1)
def MT : FVec Ideal S4x2x6x1024 .f32 := V0 (Proc.devRef .tc main_arg2)
def WI : FVec Ideal S1024x928 .f32 := V0 (Proc.devRef .tc main_arg3)
def QN : FVec Ideal S384 .f32 := V0 (Proc.devRef .tc main_arg4)
def WQ : FVec Ideal S384x768 .f32 := V0 (Proc.devRef .tc main_arg5)
def KN : FVec Ideal S256 .f32 := V0 (Proc.devRef .tc main_arg6)
def WK : FVec Ideal S256x1280 .f32 := V0 (Proc.devRef .tc main_arg7)
def FG : FVec Ideal S256 .f32 := V0 (Proc.devRef .tc main_arg8)
def FB : FVec Ideal S256 .f32 := V0 (Proc.devRef .tc main_arg9)

theorem v7_at (b : Fin 4) (t : Fin 8192) (z : Fin 1) : res_main_v7 V0 (ix3 b t z) = Rows.mean (fun j => XL V0 (ix3 b t j)) := by
  pointwise [res_main_v7, Rows.mean, XL]

theorem v9_at (b : Fin 4) (t : Fin 8192) (k : Fin 1024) : res_main_v9 V0 (ix3 b t k) = (XL V0 (ix3 b t k) : EReal) - Rows.mean (fun j => XL V0 (ix3 b t j)) := by
  pointwise [res_main_v9, v7_at, XL]

theorem v35_at (b : Fin 4) (t : Fin 256) (z : Fin 1) : res_main_v35 V0 (ix3 b t z) = Rows.mean (fun j => XC V0 (ix3 b t j)) := by
  pointwise [res_main_v35, Rows.mean, XC]

theorem v37_at (b : Fin 4) (t : Fin 256) (k : Fin 1024) : res_main_v37 V0 (ix3 b t k) = (XC V0 (ix3 b t k) : EReal) - Rows.mean (fun j => XC V0 (ix3 b t j)) := by
  pointwise [res_main_v37, v35_at, XC]

/-- The row of a token, latent or context, normalised and modulated. -/
def hRef (b : Fin 4) (t : Fin 8448) : Fin 1024 → EReal :=
  if h : t.val < 8192 then Rows.modulate (Rows.norm (fun j => XL V0 (ix3 b ⟨t.val, h⟩ j))) (fun j => MT V0 (ix4 b 0 0 j)) (fun j => MT V0 (ix4 b 0 1 j))
  else Rows.modulate (Rows.norm (fun j => XC V0 (ix3 b ⟨t.val - 8192, by omega⟩ j))) (fun j => MT V0 (ix4 b 1 0 j)) (fun j => MT V0 (ix4 b 1 1 j))

/-- The projected row of a token. -/
def uRef (b : Fin 4) (t : Fin 8448) : Fin 928 → EReal := lin (hRef V0 b t) (fun k n => WI V0 (ix2 k n))

theorem v57_at (b : Fin 4) (t : Fin 8448) (n : Fin 928) : res_main_v57 V0 (ix3 b t n) = uRef V0 b t n := by
  unfold uRef hRef lin
  by_cases h : t.val < 8192
  · simp only [dif_pos h]
    pointwise [res_main_v57, v7_at, v9_at, v35_at, v37_at, Rows.modulate, Rows.norm, h]
    rfl
  · simp only [dif_neg h]
    pointwise [res_main_v57, v7_at, v9_at, v35_at, v37_at, Rows.modulate, Rows.norm, h]
    rfl

theorem v84_at (t : Fin 8192) (i : Fin 32) : res_main_v84 V0 (ix2 t i) = Ideal.cos (Cert.FrontOddIdeal.Front.angs (ix2 ⟨t.val, by omega⟩ i)) := by
  pointwise [res_main_v84, res_main_v83, res_main_v82, res_main_v77, res_main_v58, res_main_call0_v0, res_main_call0_v2, res_main_call1_v0, res_main_call1_v2, res_main_call1_v4, res_main_v72,
    Cert.FrontOddIdeal.Front.angs, Cert.FrontOddIdeal.Front.rowA, Cert.FrontOddIdeal.Front.colA, Cert.FrontOddIdeal.Front.times, Cert.FrontOddIdeal.Front.rowT, Cert.FrontOddIdeal.Front.colT,
    Cert.FrontOddIdeal.Front.quo, Cert.FrontOddIdeal.Front.rest, Cert.FrontOddIdeal.Front.tok, Cert.FrontOddIdeal.Front.c64, Cert.FrontOddIdeal.Front.d64, Cert.FrontOddIdeal.Front.freqs]

theorem v85_at (t : Fin 8192) (i : Fin 32) : res_main_v85 V0 (ix2 t i) = Ideal.sin (Cert.FrontOddIdeal.Front.angs (ix2 ⟨t.val, by omega⟩ i)) := by
  pointwise [res_main_v85, res_main_v83, res_main_v82, res_main_v77, res_main_v58, res_main_call0_v0, res_main_call0_v2, res_main_call1_v0, res_main_call1_v2, res_main_call1_v4, res_main_v72,
    Cert.FrontOddIdeal.Front.angs, Cert.FrontOddIdeal.Front.rowA, Cert.FrontOddIdeal.Front.colA, Cert.FrontOddIdeal.Front.times, Cert.FrontOddIdeal.Front.rowT, Cert.FrontOddIdeal.Front.colT,
    Cert.FrontOddIdeal.Front.quo, Cert.FrontOddIdeal.Front.rest, Cert.FrontOddIdeal.Front.tok, Cert.FrontOddIdeal.Front.c64, Cert.FrontOddIdeal.Front.d64, Cert.FrontOddIdeal.Front.freqs]

/-- A token's query lanes of all heads, and its key and value lanes. -/
def qRef (b : Fin 4) (t : Fin 8448) : Fin 768 → EReal :=
  lin (rms (Ideal.ofBits .f32 0x43C00000#32) (seg 0 928 (by norm_num) (uRef V0 b t)) (fun n => QN V0 (ix1 n))) (fun k n => WQ V0 (ix2 k n))
def kvRef (b : Fin 4) (t : Fin 8448) : Fin 1280 → EReal :=
  lin (rms (Ideal.ofBits .f32 0x43800000#32) (seg 384 928 (by norm_num) (uRef V0 b t)) (fun n => KN V0 (ix1 n))) (fun k n => WK V0 (ix2 k n))

theorem v86_at (b : Fin 4) (t : Fin 8448) (n : Fin 384) : res_main_v86 V0 (ix3 b t n) = seg 0 928 (by norm_num) (uRef V0 b t) n := by
  pointwise [res_main_v86, v57_at, seg]

theorem v132_at (b : Fin 4) (t : Fin 8448) (n : Fin 256) : res_main_v132 V0 (ix3 b t n) = seg 384 928 (by norm_num) (uRef V0 b t) n := by
  pointwise [res_main_v132, v57_at, seg]

theorem v101_at (b : Fin 4) (t : Fin 8448) (h : Fin 8) (d : Fin 96) : res_main_v101 V0 (ix4 b t h d) = qRef V0 b t ⟨h.val * 96 + d.val, by omega⟩ := by
  unfold res_main_v101
  refine (Cert.Layout.split_last (B := 4) (T := 8448) (H := 8) (D := 96) (N := 768) _ _ (by norm_num) b t h d ⟨h.val * 96 + d.val, by omega⟩ rfl).trans ?_
  pointwise [v86_at, qRef, lin, rms, QN, WQ]

theorem v147_at (b : Fin 4) (t : Fin 8448) (h : Fin 8) (d : Fin 160) : res_main_v147 V0 (ix4 b t h d) = kvRef V0 b t ⟨h.val * 160 + d.val, by omega⟩ := by
  unfold res_main_v147
  refine (Cert.Layout.split_last (B := 4) (T := 8448) (H := 8) (D := 160) (N := 1280) _ _ (by norm_num) b t h d ⟨h.val * 160 + d.val, by omega⟩ rfl).trans ?_
  pointwise [v132_at, kvRef, lin, rms, KN, WK]

theorem v103_at (b : Fin 4) (t : Fin 8448) (h : Fin 8) (d : Fin 32) : res_main_v103 V0 (ix4 b t h d) = qRef V0 b t ⟨h.val * 96 + (64 + d.val), by omega⟩ := by
  pointwise [res_main_v103, v101_at]

theorem v104_at (b : Fin 4) (t : Fin 8192) (h : Fin 8) (d : Fin 32) : res_main_v104 V0 (ix4 b t h d) = qRef V0 b ⟨t.val, by omega⟩ ⟨h.val * 96 + (64 + d.val), by omega⟩ := by
  pointwise [res_main_v104, v103_at]

theorem v149_at (b : Fin 4) (t : Fin 8448) (z : Fin 1) (d : Fin 32) : res_main_v149 V0 (ix4 b t z d) = seg 640 928 (by norm_num) (uRef V0 b t) d := by
  pointwise [res_main_v149, v57_at, seg]

theorem v150_at (b : Fin 4) (t : Fin 8192) (z : Fin 1) (d : Fin 32) : res_main_v150 V0 (ix4 b t z d) = seg 640 928 (by norm_num) (uRef V0 b ⟨t.val, by omega⟩) d := by
  pointwise [res_main_v150, v149_at]

/-- A token's lanes of a group. -/
def fRef (b : Fin 4) (t : Fin 8448) (g : Fin 4) : Fin 64 → EReal := part 64 g.val (by omega) (seg (n := 256) 672 928 (by norm_num) (uRef V0 b t))

theorem v180_at (b : Fin 4) (t : Fin 8448) (g : Fin 4) (i : Fin 64) :
    res_main_v180 V0 (ix4 b t g i) = fRef V0 b t g i := by
  unfold res_main_v180
  refine (Cert.Layout.split_last (B := 4) (T := 8448) (H := 4) (D := 64) (N := 256) _ _ (by norm_num) b t g i ⟨g.val * 64 + i.val, by omega⟩ rfl).trans ?_
  pointwise [v57_at, fRef, part, seg]

theorem v186_at (b : Fin 4) (t : Fin 8448) (g : Fin 4) (z : Fin 1) :
    res_main_v186 V0 (ix4 b t g z) = mean64 (fRef V0 b t g) := by
  pointwise [res_main_v186, v180_at, mean64]

theorem sub4 (x : FVec Ideal S4x8448x4x64 .f32) (y : FVec Ideal S4x8448x4x1 .f32) (b : Fin 4) (t : Fin 8448) (g : Fin 4) (i : Fin 64) :
    subf x (broadcastInDim S4x8448x4x64 ![0, 1, 2, 3] bcast_S4x8448x4x1_S4x8448x4x64_0_1_2_3 y) (ix4 b t g i) = (x (ix4 b t g i) : EReal) - y (ix4 b t g 0) := by
  pointwise

theorem v188_at (b : Fin 4) (t : Fin 8448) (g : Fin 4) (i : Fin 64) :
    res_main_v188 V0 (ix4 b t g i) = fRef V0 b t g i - mean64 (fRef V0 b t g) := by
  unfold res_main_v188
  rw [sub4, v180_at, v186_at]

/-- 256 weights as four rows of 64. -/
theorem split64 (x : FVec Ideal S256 .f32) (g : Fin 4) (i : Fin 64) :
    shapeCast S4x64 x shapeCasts_S256_S4x64 (ix2 g i) = part 64 g.val (by omega) (fun n : Fin 256 => (x (ix1 n) : EReal)) i := by
  refine congrArg x (Shape.reshapeEquiv_eq_of_rowMajor _ ?_)
  rw [Shape.rowMajor_val_two, Shape.rowMajor_val_one]
  rfl

/-- The scales and shifts of a group. -/
def gRef (g : Fin 4) : Fin 64 → EReal := part 64 g.val (by omega) (fun n : Fin 256 => (FG V0 (ix1 n) : EReal))
def bRef (g : Fin 4) : Fin 64 → EReal := part 64 g.val (by omega) (fun n : Fin 256 => (FB V0 (ix1 n) : EReal))

theorem fg_at (g : Fin 4) (i : Fin 64) : shapeCast S4x64 (V0 (Proc.devRef .tc main_arg8)) shapeCasts_S256_S4x64 (ix2 g i) = gRef V0 g i := split64 _ g i
theorem fb_at (g : Fin 4) (i : Fin 64) : shapeCast S4x64 (V0 (Proc.devRef .tc main_arg9)) shapeCasts_S256_S4x64 (ix2 g i) = bRef V0 g i := split64 _ g i

theorem norm4 (x z : FVec Ideal S4x8448x4x64 .f32) (y : FVec Ideal S4x8448x4x1 .f32) (g0 b0 : FVec Ideal S4x64 .f32) (b : Fin 4) (t : Fin 8448) (g : Fin 4) (i : Fin 64) :
    addf (mulf (mulf (subf x (broadcastInDim S4x8448x4x64 ![0, 1, 2, 3] bcast_S4x8448x4x1_S4x8448x4x64_0_1_2_3 y)) (broadcastInDim S4x8448x4x64 ![0, 1, 2, 3] bcast_S4x8448x4x1_S4x8448x4x64_0_1_2_3 (Host.rsqrt (addf (Host.divf (broadcastInDim S4x8448x4x1 ![0, 1, 2] bcast_S4x8448x4_S4x8448x4x1_0_1_2 (Host.reduceAdd (mulf z z) (constant S_ .f32 0x00000000#32) reducesTo_S4x8448x4x64_S4x8448x4_d3 h_S_)) (broadcastInDim S4x8448x4x1 ![] bcast_S_S4x8448x4x1 (constant S_ .f32 0x42800000#32))) (broadcastInDim S4x8448x4x1 ![] bcast_S_S4x8448x4x1 (constant S_ .f32 0x3727C5AC#32)))))) (broadcastInDim S4x8448x4x64 ![0, 1, 2, 3] bcast_S1x1x4x64_S4x8448x4x64_0_1_2_3 (broadcastInDim S1x1x4x64 ![2, 3] bcast_S4x64_S1x1x4x64_2_3 g0))) (broadcastInDim S4x8448x4x64 ![0, 1, 2, 3] bcast_S1x1x4x64_S4x8448x4x64_0_1_2_3 (broadcastInDim S1x1x4x64 ![2, 3] bcast_S4x64_S1x1x4x64_2_3 b0)) (ix4 b t g i)
      = ((x (ix4 b t g i) : EReal) - y (ix4 b t g 0)) * Ideal.rsqrt (mean64 (fun j => (z (ix4 b t g j) : EReal) * z (ix4 b t g j)) + Ideal.ofBits .f32 0x3727C5AC#32) * g0 (ix2 g i) + b0 (ix2 g i) := by
  pointwise [mean64]

theorem v206_at (b : Fin 4) (t : Fin 8448) (g : Fin 4) (i : Fin 64) :
    res_main_v206 V0 (ix4 b t g i) = norm64 (fRef V0 b t g) (gRef V0 g) (bRef V0 g) i := by
  unfold res_main_v206
  refine (norm4 _ _ _ _ _ b t g i).trans ?_
  simp only [v180_at, v186_at, v188_at]
  unfold norm64
  rw [← fg_at, ← fb_at]

theorem v216_at (k i : Fin 64) : res_main_v216 V0 (ix2 k i) = Cert.FrontOddIdeal.Front.turns (ix2 k i) := by
  pointwise [res_main_v216, res_main_v207, Cert.FrontOddIdeal.Front.turns]

/-- Lanes turned by the tables' cosines and sines. -/
def rotQ (x : FVec Ideal S4x8192x8x32 .f32) (c s : FVec Ideal S8192x32 .f32) : FVec Ideal S4x8192x8x32 .f32 :=
  addf (mulf x (broadcastInDim S4x8192x8x32 ![0, 1, 2, 3] bcast_S1x8192x1x32_S4x8192x8x32_0_1_2_3 (broadcastInDim S1x8192x1x32 ![1, 2, 3] bcast_S8192x1x32_S1x8192x1x32_1_2_3 (broadcastInDim S8192x1x32 ![0, 2] bcast_S8192x32_S8192x1x32_0_2 c))))
    (mulf (concatenate S4x8192x8x32 3 [⟨S4x8192x8x8, Host.negf (extractStridedSlice S4x8192x8x8 ![0, 0, 0, 8] x slices_S4x8192x8x32_S4x8192x8x8_0_0_0_8)⟩, ⟨S4x8192x8x8, extractStridedSlice S4x8192x8x8 ![0, 0, 0, 0] x slices_S4x8192x8x32_S4x8192x8x8_0_0_0_0⟩, ⟨S4x8192x8x8, Host.negf (extractStridedSlice S4x8192x8x8 ![0, 0, 0, 24] x slices_S4x8192x8x32_S4x8192x8x8_0_0_0_24)⟩, ⟨S4x8192x8x8, extractStridedSlice S4x8192x8x8 ![0, 0, 0, 16] x slices_S4x8192x8x32_S4x8192x8x8_0_0_0_16⟩] concatenates_S4x8192x8x8_S4x8192x8x8_S4x8192x8x8_S4x8192x8x8_S4x8192x8x32_d3)
      (broadcastInDim S4x8192x8x32 ![0, 1, 2, 3] bcast_S1x8192x1x32_S4x8192x8x32_0_1_2_3 (broadcastInDim S1x8192x1x32 ![1, 2, 3] bcast_S8192x1x32_S1x8192x1x32_1_2_3 (broadcastInDim S8192x1x32 ![0, 2] bcast_S8192x32_S8192x1x32_0_2 s))))

theorem rotQ_at (x : FVec Ideal S4x8192x8x32 .f32) (c s : FVec Ideal S8192x32 .f32) (a : Fin 32 → EReal) (b : Fin 4) (t : Fin 8192) (h : Fin 8) (i : Fin 32)
    (hc : c (ix2 t i) = Ideal.cos (a i)) (hs : s (ix2 t i) = Ideal.sin (a i)) : rotQ x c s (ix4 b t h i) = rot a (fun i => x (ix4 b t h i)) i := by
  unfold rot
  rw [← hc, ← hs]
  pointwise [rotQ]

/-- The latent tokens' lanes turned, the context tokens' as they are. -/
def allQ (y : FVec Ideal S4x8448x8x32 .f32) (x : FVec Ideal S4x8192x8x32 .f32) (c s : FVec Ideal S8192x32 .f32) : FVec Ideal S4x8448x8x32 .f32 :=
  concatenate S4x8448x8x32 1 [⟨S4x8192x8x32, rotQ x c s⟩, ⟨S4x256x8x32, extractStridedSlice S4x256x8x32 ![0, 8192, 0, 0] y slices_S4x8448x8x32_S4x256x8x32_0_8192_0_0⟩] concatenates_S4x8192x8x32_S4x256x8x32_S4x8448x8x32_d1

theorem allQ_at (y : FVec Ideal S4x8448x8x32 .f32) (x : FVec Ideal S4x8192x8x32 .f32) (c s : FVec Ideal S8192x32 .f32) (a : Fin 32 → EReal) (b : Fin 4) (t : Fin 8448) (h : Fin 8) (i : Fin 32)
    (hx : ∀ (ht : t.val < 8192) (i : Fin 32), x (ix4 b ⟨t.val, ht⟩ h i) = y (ix4 b t h i))
    (hc : ∀ ht : t.val < 8192, c (ix2 ⟨t.val, ht⟩ i) = Ideal.cos (a i)) (hs : ∀ ht : t.val < 8192, s (ix2 ⟨t.val, ht⟩ i) = Ideal.sin (a i)) :
    allQ y x c s (ix4 b t h i) = turned t.val a (fun i => y (ix4 b t h i)) i := by
  unfold turned
  by_cases ht : t.val < 8192
  · rw [if_pos ht]
    have e : (fun i => y (ix4 b t h i)) = fun i => x (ix4 b ⟨t.val, ht⟩ h i) := funext fun i => (hx ht i).symm
    rw [e, ← rotQ_at x c s a b ⟨t.val, ht⟩ h i (hc ht) (hs ht)]
    pointwise [allQ, ht]
  · rw [if_neg ht]
    have e : (⟨8192 + (t.val - 8192), by omega⟩ : Fin 8448) = t := Fin.ext (by show 8192 + (t.val - 8192) = t.val; omega)
    pointwise [allQ, ht, e]

/-- Lanes turned by the tables' cosines and sines. -/
def rotK (x : FVec Ideal S4x8192x1x32 .f32) (c s : FVec Ideal S8192x32 .f32) : FVec Ideal S4x8192x1x32 .f32 :=
  addf (mulf x (broadcastInDim S4x8192x1x32 ![0, 1, 2, 3] bcast_S1x8192x1x32_S4x8192x1x32_0_1_2_3 (broadcastInDim S1x8192x1x32 ![1, 2, 3] bcast_S8192x1x32_S1x8192x1x32_1_2_3 (broadcastInDim S8192x1x32 ![0, 2] bcast_S8192x32_S8192x1x32_0_2 c))))
    (mulf (concatenate S4x8192x1x32 3 [⟨S4x8192x1x8, Host.negf (extractStridedSlice S4x8192x1x8 ![0, 0, 0, 8] x slices_S4x8192x1x32_S4x8192x1x8_0_0_0_8)⟩, ⟨S4x8192x1x8, extractStridedSlice S4x8192x1x8 ![0, 0, 0, 0] x slices_S4x8192x1x32_S4x8192x1x8_0_0_0_0⟩, ⟨S4x8192x1x8, Host.negf (extractStridedSlice S4x8192x1x8 ![0, 0, 0, 24] x slices_S4x8192x1x32_S4x8192x1x8_0_0_0_24)⟩, ⟨S4x8192x1x8, extractStridedSlice S4x8192x1x8 ![0, 0, 0, 16] x slices_S4x8192x1x32_S4x8192x1x8_0_0_0_16⟩] concatenates_S4x8192x1x8_S4x8192x1x8_S4x8192x1x8_S4x8192x1x8_S4x8192x1x32_d3)
      (broadcastInDim S4x8192x1x32 ![0, 1, 2, 3] bcast_S1x8192x1x32_S4x8192x1x32_0_1_2_3 (broadcastInDim S1x8192x1x32 ![1, 2, 3] bcast_S8192x1x32_S1x8192x1x32_1_2_3 (broadcastInDim S8192x1x32 ![0, 2] bcast_S8192x32_S8192x1x32_0_2 s))))

theorem rotK_at (x : FVec Ideal S4x8192x1x32 .f32) (c s : FVec Ideal S8192x32 .f32) (a : Fin 32 → EReal) (b : Fin 4) (t : Fin 8192) (h : Fin 1) (i : Fin 32)
    (hc : c (ix2 t i) = Ideal.cos (a i)) (hs : s (ix2 t i) = Ideal.sin (a i)) : rotK x c s (ix4 b t h i) = rot a (fun i => x (ix4 b t h i)) i := by
  obtain rfl : h = 0 := Subsingleton.elim _ _
  unfold rot
  rw [← hc, ← hs]
  pointwise [rotK]

/-- The latent tokens' lanes turned, the context tokens' as they are. -/
def allK (y : FVec Ideal S4x8448x1x32 .f32) (x : FVec Ideal S4x8192x1x32 .f32) (c s : FVec Ideal S8192x32 .f32) : FVec Ideal S4x8448x1x32 .f32 :=
  concatenate S4x8448x1x32 1 [⟨S4x8192x1x32, rotK x c s⟩, ⟨S4x256x1x32, extractStridedSlice S4x256x1x32 ![0, 8192, 0, 0] y slices_S4x8448x1x32_S4x256x1x32_0_8192_0_0⟩] concatenates_S4x8192x1x32_S4x256x1x32_S4x8448x1x32_d1

theorem allK_at (y : FVec Ideal S4x8448x1x32 .f32) (x : FVec Ideal S4x8192x1x32 .f32) (c s : FVec Ideal S8192x32 .f32) (a : Fin 32 → EReal) (b : Fin 4) (t : Fin 8448) (h : Fin 1) (i : Fin 32)
    (hx : ∀ (ht : t.val < 8192) (i : Fin 32), x (ix4 b ⟨t.val, ht⟩ h i) = y (ix4 b t h i))
    (hc : ∀ ht : t.val < 8192, c (ix2 ⟨t.val, ht⟩ i) = Ideal.cos (a i)) (hs : ∀ ht : t.val < 8192, s (ix2 ⟨t.val, ht⟩ i) = Ideal.sin (a i)) :
    allK y x c s (ix4 b t h i) = turned t.val a (fun i => y (ix4 b t h i)) i := by
  obtain rfl : h = 0 := Subsingleton.elim _ _
  unfold turned
  by_cases ht : t.val < 8192
  · rw [if_pos ht]
    have e : (fun i => y (ix4 b t 0 i)) = fun i => x (ix4 b ⟨t.val, ht⟩ 0 i) := funext fun i => (hx ht i).symm
    rw [e, ← rotK_at x c s a b ⟨t.val, ht⟩ 0 i (hc ht) (hs ht)]
    pointwise [allK, ht]
  · rw [if_neg ht]
    have e : (⟨8192 + (t.val - 8192), by omega⟩ : Fin 8448) = t := Fin.ext (by show 8192 + (t.val - 8192) = t.val; omega)
    pointwise [allK, ht, e]

/-- Heads' lanes, turned lanes and zeros, side by side in slots. -/
def slot3 (y : FVec Ideal S4x8448x8x64 .f32) (z : FVec Ideal S4x8448x8x32 .f32) : FVec Ideal S4x8448x8x128 .f32 :=
  concatenate S4x8448x8x128 3 [⟨S4x8448x8x64, y⟩, ⟨S4x8448x8x32, z⟩, ⟨S4x8448x8x32, broadcastInDim S4x8448x8x32 ![] bcast_S_S4x8448x8x32 (constant S_ .f32 0x00000000#32 : FVec Ideal S_ .f32)⟩] concatenates_S4x8448x8x64_S4x8448x8x32_S4x8448x8x32_S4x8448x8x128_d3

theorem slot3_at (y : FVec Ideal S4x8448x8x64 .f32) (z : FVec Ideal S4x8448x8x32 .f32) (b : Fin 4) (t : Fin 8448) (h : Fin 8) (d : Fin 128) :
    slot3 y z (ix4 b t h d) = if h1 : d.val < 64 then (y (ix4 b t h ⟨d.val, h1⟩) : EReal) else if h2 : d.val - 64 < 32 then z (ix4 b t h ⟨d.val - 64, h2⟩) else 0 := by
  pointwise [slot3]

/-- Heads' lanes, a one and zeros, side by side in slots. -/
def slot4 (y : FVec Ideal S4x8448x8x96 .f32) : FVec Ideal S4x8448x8x128 .f32 :=
  concatenate S4x8448x8x128 3 [⟨S4x8448x8x96, y⟩, ⟨S4x8448x8x1, broadcastInDim S4x8448x8x1 ![] bcast_S_S4x8448x8x1 (constant S_ .f32 0x3F800000#32 : FVec Ideal S_ .f32)⟩, ⟨S4x8448x8x31, broadcastInDim S4x8448x8x31 ![] bcast_S_S4x8448x8x31 (constant S_ .f32 0x00000000#32 : FVec Ideal S_ .f32)⟩] concatenates_S4x8448x8x96_S4x8448x8x1_S4x8448x8x31_S4x8448x8x128_d3

theorem slot4_at (y : FVec Ideal S4x8448x8x96 .f32) (b : Fin 4) (t : Fin 8448) (h : Fin 8) (d : Fin 128) :
    slot4 y (ix4 b t h d) = if h1 : d.val < 96 then (y (ix4 b t h ⟨d.val, h1⟩) : EReal) else if h2 : d.val - 96 < 1 then 1 else 0 := by
  pointwise [slot4]

/-- The scale. -/
def scaleR : FVec Ideal S_ .f32 := Host.divf (constant S_ .f32 0x3F800000#32) (mulf (Host.sqrt (constant S_ .f32 0x42C00000#32)) (Host.log (constant S_ .f32 0x40000000#32)))

/-- The five results, from their parts. -/
def outQ (x : FVec Ideal S4x8448x8x128 .f32) : FVec Ideal S4x8448x1024 .bf16 :=
  truncf .bf16 (mulf (shapeCast S4x8448x1024 x shapeCasts_S4x8448x8x128_S4x8448x1024) (broadcastInDim S4x8448x1024 ![] bcast_S_S4x8448x1024 scaleR) : FVec Ideal S4x8448x1024 .f32) bitsLt_bf16_f32
def outK (x : FVec Ideal S4x8448x8x128 .f32) : FVec Ideal S4x8448x1024 .bf16 :=
  truncf .bf16 (shapeCast S4x8448x1024 x shapeCasts_S4x8448x8x128_S4x8448x1024 : FVec Ideal S4x8448x1024 .f32) bitsLt_bf16_f32
def dotF (d : FVec Ideal S64x64 .f32) (x : FVec Ideal S4x8448x4x64 .f32) : FVec Ideal S4x4x64x8448 .f32 :=
  transpose S4x4x64x8448 [1, 3, 0, 2] (Host.dotGeneral dot_S64x64_S4x8448x4x64_S64x4x8448x4_1_3_0_012_n_n none d x) transposes_S64x4x8448x4_S4x4x64x8448_1_3_0_2
def outF (d : FVec Ideal S64x64 .f32) (x : FVec Ideal S4x8448x4x64 .f32) : FVec Ideal S4x256x8448 .bf16 :=
  truncf .bf16 (shapeCast S4x256x8448 (dotF d x) shapeCasts_S4x4x64x8448_S4x256x8448 : FVec Ideal S4x256x8448 .f32) bitsLt_bf16_f32

theorem outK_at (x : FVec Ideal S4x8448x8x128 .f32) (b : Fin 4) (t : Fin 8448) (h : Fin 8) (d : Fin 128) :
    outK x (ix3 b t ⟨h.val * 128 + d.val, by omega⟩) = x (ix4 b t h d) :=
  Cert.Layout.merge_last (B := 4) (T := 8448) (H := 8) (D := 128) (N := 1024) x shapeCasts_S4x8448x8x128_S4x8448x1024 (by norm_num) b t h d ⟨h.val * 128 + d.val, by omega⟩ rfl

theorem outQ_at (x : FVec Ideal S4x8448x8x128 .f32) (b : Fin 4) (t : Fin 8448) (h : Fin 8) (d : Fin 128) :
    outQ x (ix3 b t ⟨h.val * 128 + d.val, by omega⟩) = x (ix4 b t h d) * (scaleR ix0 : EReal) := by
  have e := Cert.Layout.merge_last (B := 4) (T := 8448) (H := 8) (D := 128) (N := 1024) x shapeCasts_S4x8448x8x128_S4x8448x1024 (by norm_num) b t h d ⟨h.val * 128 + d.val, by omega⟩ rfl
  rw [← e]
  pointwise [outQ]

theorem dotF_at (d : FVec Ideal S64x64 .f32) (x : FVec Ideal S4x8448x4x64 .f32) (b : Fin 4) (g : Fin 4) (k : Fin 64) (t : Fin 8448) :
    dotF d x (ix4 b g k t) = ∑ i : Fin 64, (d (ix2 k i) : EReal) * x (ix4 b t g i) := by
  pointwise [dotF]

theorem outF_at (d : FVec Ideal S64x64 .f32) (x : FVec Ideal S4x8448x4x64 .f32) (b : Fin 4) (g : Fin 4) (k : Fin 64) (t : Fin 8448) :
    outF d x (ix3 b ⟨g.val * 64 + k.val, by omega⟩ t) = ∑ i : Fin 64, (d (ix2 k i) : EReal) * x (ix4 b t g i) :=
  (Cert.Layout.merge_mid (B := 4) (A := 4) (P := 64) (D := 8448) (T := 256) (dotF d x) shapeCasts_S4x4x64x8448_S4x256x8448 (by norm_num) b g k t ⟨g.val * 64 + k.val, by omega⟩ rfl).trans (dotF_at d x b g k t)

/-- The results. -/
def resQ : FVec Ideal S4x8448x1024 .bf16 :=
  outQ (slot3 (extractStridedSlice S4x8448x8x64 ![0, 0, 0, 0] (res_main_v101 V0) slices_S4x8448x8x96_S4x8448x8x64_0_0_0_0) (allQ (res_main_v103 V0) (res_main_v104 V0) (res_main_v84 V0) (res_main_v85 V0)))
def keyT : FVec Ideal S4x8448x8x32 .f32 :=
  broadcastInDim S4x8448x8x32 ![0, 1, 2, 3] bcast_S4x8448x1x32_S4x8448x8x32_0_1_2_3 (allK (res_main_v149 V0) (res_main_v150 V0) (res_main_v84 V0) (res_main_v85 V0))
def resK : FVec Ideal S4x8448x1024 .bf16 :=
  outK (slot3 (extractStridedSlice S4x8448x8x64 ![0, 0, 0, 0] (res_main_v147 V0) slices_S4x8448x8x160_S4x8448x8x64_0_0_0_0) (keyT V0))
def resV : FVec Ideal S4x8448x1024 .bf16 :=
  outK (slot4 (extractStridedSlice S4x8448x8x96 ![0, 0, 0, 64] (res_main_v147 V0) slices_S4x8448x8x160_S4x8448x8x96_0_0_0_64))
def resC : FVec Ideal S4x256x8448 .bf16 := outF (Host.cos (res_main_v216 V0)) (res_main_v206 V0)
def resS : FVec Ideal S4x256x8448 .bf16 := outF (Host.negf (Host.sin (res_main_v216 V0))) (res_main_v206 V0)

theorem sl96 (x : FVec Ideal S4x8448x8x96 .f32) (b : Fin 4) (t : Fin 8448) (h : Fin 8) (d : Fin 64) :
    extractStridedSlice S4x8448x8x64 ![0, 0, 0, 0] x slices_S4x8448x8x96_S4x8448x8x64_0_0_0_0 (ix4 b t h d) = x (ix4 b t h ⟨d.val, by omega⟩) := by
  pointwise
theorem sl160 (x : FVec Ideal S4x8448x8x160 .f32) (b : Fin 4) (t : Fin 8448) (h : Fin 8) (d : Fin 64) :
    extractStridedSlice S4x8448x8x64 ![0, 0, 0, 0] x slices_S4x8448x8x160_S4x8448x8x64_0_0_0_0 (ix4 b t h d) = x (ix4 b t h ⟨d.val, by omega⟩) := by
  pointwise
theorem sl160v (x : FVec Ideal S4x8448x8x160 .f32) (b : Fin 4) (t : Fin 8448) (h : Fin 8) (d : Fin 96) :
    extractStridedSlice S4x8448x8x96 ![0, 0, 0, 64] x slices_S4x8448x8x160_S4x8448x8x96_0_0_0_64 (ix4 b t h d) = x (ix4 b t h ⟨64 + d.val, by omega⟩) := by
  pointwise
theorem heads32 (x : FVec Ideal S4x8448x1x32 .f32) (b : Fin 4) (t : Fin 8448) (h : Fin 8) (d : Fin 32) :
    broadcastInDim S4x8448x8x32 ![0, 1, 2, 3] bcast_S4x8448x1x32_S4x8448x8x32_0_1_2_3 x (ix4 b t h d) = x (ix4 b t 0 d) := by
  pointwise

/-- A token's angles. -/
def aR (t : Fin 8448) : Fin 32 → EReal := fun i => Cert.FrontOddIdeal.Front.angs (ix2 t i)

theorem resQ_at (b : Fin 4) (t : Fin 8448) (h : Fin 8) (d : Fin 128) :
    resQ V0 (ix3 b t ⟨h.val * 128 + d.val, by omega⟩) = qSpec t.val (aR t) (qRef V0 b t) (scaleR ix0 : EReal) h d := by
  unfold resQ
  rw [outQ_at, slot3_at]
  unfold qSpec
  refine congrArg (fun z : EReal => z * (scaleR ix0 : EReal)) ?_
  split_ifs with h1 h2
  · rw [sl96, v101_at]
  · rw [allQ_at _ _ _ _ (aR t) b t h ⟨d.val - 64, h2⟩ (fun ht i => by rw [v103_at, v104_at]) (fun ht => v84_at V0 ⟨t.val, ht⟩ _) (fun ht => v85_at V0 ⟨t.val, ht⟩ _)]
    simp only [v103_at]
  · rfl

theorem resK_at (b : Fin 4) (t : Fin 8448) (h : Fin 8) (d : Fin 128) :
    resK V0 (ix3 b t ⟨h.val * 128 + d.val, by omega⟩) = kSpec t.val (aR t) (kvRef V0 b t) (seg 640 928 (by norm_num) (uRef V0 b t)) h d := by
  unfold resK
  rw [outK_at, slot3_at]
  unfold kSpec
  split_ifs with h1 h2
  · rw [sl160, v147_at]
  · unfold keyT
    rw [heads32, allK_at _ _ _ _ (aR t) b t 0 ⟨d.val - 64, h2⟩ (fun ht i => by rw [v149_at, v150_at]) (fun ht => v84_at V0 ⟨t.val, ht⟩ _) (fun ht => v85_at V0 ⟨t.val, ht⟩ _)]
    simp only [v149_at]
  · rfl

theorem resV_at (b : Fin 4) (t : Fin 8448) (h : Fin 8) (d : Fin 128) :
    resV V0 (ix3 b t ⟨h.val * 128 + d.val, by omega⟩) = vSpec (kvRef V0 b t) h d := by
  unfold resV
  rw [outK_at, slot4_at]
  unfold vSpec
  split_ifs with h1 h2
  · rw [sl160v, v147_at]
  · rfl
  · rfl

theorem resC_at (b : Fin 4) (g : Fin 4) (k : Fin 64) (t : Fin 8448) :
    resC V0 (ix3 b ⟨g.val * 64 + k.val, by omega⟩ t) = ∑ i : Fin 64, Ideal.cos (Cert.FrontOddIdeal.Front.turns (ix2 k i)) * norm64 (fRef V0 b t g) (gRef V0 g) (bRef V0 g) i := by
  unfold resC
  rw [outF_at]
  refine Finset.sum_congr rfl fun i _ => ?_
  rw [v206_at, ← v216_at V0]
  rfl

theorem resS_at (b : Fin 4) (g : Fin 4) (k : Fin 64) (t : Fin 8448) :
    resS V0 (ix3 b ⟨g.val * 64 + k.val, by omega⟩ t) = ∑ i : Fin 64, -Ideal.sin (Cert.FrontOddIdeal.Front.turns (ix2 k i)) * norm64 (fRef V0 b t g) (gRef V0 g) (bRef V0 g) i := by
  unfold resS
  rw [outF_at]
  refine Finset.sum_congr rfl fun i _ => ?_
  rw [v206_at, ← v216_at V0]
  rfl

end Cert.FrontOddRefIdeal.Front

end
-- ==== Proof.FrontOdd.lean ====
module

public import proofs.«01_k».proof.Proof.FrontOddPure
public import proofs.«01_k».proof.Proof.FrontOddEntry
public import proofs.«01_k».proof.Proof.FrontOddRef
public import proofs.«01_k».proof.Proof.Attn

@[expose] public section

set_option maxRecDepth 16384

noncomputable section

open Idealize.ShloMosaic Idealize.ShloMosaic.TcCoe Idealize.SL.Sem

namespace Cert.FrontOddEq

open Cert.FrontOddIdeal (S1x384 S1x256)
open Cert.FrontOddIdeal.Gen (shapeCasts_S384_S1x384 shapeCasts_S256_S1x256)
open Cert.FrontOddIdeal.Front Cert.FrontOddRefIdeal.Front Cert.OddRow

variable (V0 : Valuation Cert.FrontOddRefIdeal.τ Cert.FrontOddRefIdeal.sig (Elt Ideal))

/-- The scale the kernel folds into the query weights, and the reference's. -/
theorem qS_at : (qS ix0 : EReal) = ((Cert.Attn.scale2 : ℝ) : EReal) := by
  have l2 : 0 < Real.log 2 := Real.log_pos (by norm_num)
  show Ideal.div (Ideal.ofBits .f32 0x3F800000#32) (Ideal.sqrt (Ideal.ofBits .f32 0x42C00000#32) * Ideal.log (Ideal.ofBits .f32 0x40000000#32)) = _
  have : Real.sqrt 96 * Real.log 2 ≠ 0 := by positivity
  rw [Cert.Attn.ofBits_96, Cert.Attn.ofBits_2, Cert.Attn.ofBits_1, Ideal.sqrt_coe, Ideal.log_coe, if_neg (by norm_num), if_neg (by norm_num), ← EReal.coe_mul, Ideal.div_coe this, one_mul]; rfl

theorem scaleR_at : (scaleR ix0 : EReal) = ((Cert.Attn.scale2 : ℝ) : EReal) := qS_at

/-- The kernel's normalised row is the reference's. -/
theorem h_eq (b : Fin 4) (t : Fin 8448) : hAt (XL V0) (XC V0) (MT V0) b t = hRef V0 b t := by
  unfold hAt hRef
  by_cases h : t.val < 8192
  · simp only [h, dif_pos, if_pos]
  · simp only [h, dif_neg, if_neg, not_false_eq_true]

/-- The kernel's projected row. -/
def uK (b : Fin 4) (t : Fin 8448) : Fin 1024 → EReal := lin (hAt (XL V0) (XC V0) (MT V0) b t) (fun k n => (wP (WI V0) (ix2 k n) : EReal))

/-- It is the reference's, its columns moved and four quarters of 32 zeros at the end filled up. -/
theorem u_at (b : Fin 4) (t : Fin 8448) (n : Fin 1024) : uK V0 b t n = if h1 : n.val < 640 then uRef V0 b t ⟨n.val, by omega⟩
    else if h2 : n.val - 640 < 256 then uRef V0 b t ⟨672 + (n.val - 640), by omega⟩
    else if h3 : n.val - 640 - 256 < 32 then uRef V0 b t ⟨640 + (n.val - 640 - 256), by omega⟩ else 0 := by
  unfold uK uRef lin
  rw [h_eq]
  simp only [wP_at]
  split_ifs
  · rfl
  · rfl
  · rfl
  · simp only [mul_zero, Finset.sum_const_zero]

theorem seg_q (b : Fin 4) (t : Fin 8448) : (seg 0 1024 (by norm_num) (uK V0 b t) : Fin 384 → EReal) = seg 0 928 (by norm_num) (uRef V0 b t) := by
  funext n
  unfold seg
  rw [u_at, dif_pos (by show 0 + n.val < 640; omega)]

theorem seg_kv (b : Fin 4) (t : Fin 8448) : (seg 384 1024 (by norm_num) (uK V0 b t) : Fin 256 → EReal) = seg 384 928 (by norm_num) (uRef V0 b t) := by
  funext n
  unfold seg
  rw [u_at, dif_pos (by show 384 + n.val < 640; omega)]

theorem seg_f (b : Fin 4) (t : Fin 8448) : (seg 640 1024 (by norm_num) (uK V0 b t) : Fin 256 → EReal) = seg 672 928 (by norm_num) (uRef V0 b t) := by
  funext n
  unfold seg
  rw [u_at, dif_neg (by show ¬ 640 + n.val < 640; omega), dif_pos (by show 640 + n.val - 640 < 256; omega)]
  exact congrArg (uRef V0 b t) (Fin.ext (by show 672 + (640 + n.val - 640) = 672 + n.val; omega))

theorem seg_e (b : Fin 4) (t : Fin 8448) (s : Fin 128) : (seg 896 1024 (by norm_num) (uK V0 b t) : Fin 128 → EReal) s
    = if h : s.val < 32 then seg 640 928 (by norm_num) (uRef V0 b t) ⟨s.val, h⟩ else 0 := by
  unfold seg
  rw [u_at, dif_neg (by show ¬ 896 + s.val < 640; omega), dif_neg (by show ¬ 896 + s.val - 640 < 256; omega)]
  by_cases h : s.val < 32
  · rw [dif_pos (by show 896 + s.val - 640 - 256 < 32; omega), dif_pos h]
    exact congrArg (uRef V0 b t) (Fin.ext (by show 640 + (896 + s.val - 640 - 256) = 640 + s.val; omega))
  · rw [dif_neg (by show ¬ 896 + s.val - 640 - 256 < 32; omega), dif_neg h]

/-- The 32 shared lanes, put into each head's slot. -/
theorem placed (v : Fin 128 → EReal) (e : Fin 32 → EReal) (hv : ∀ s : Fin 128, v s = if h : s.val < 32 then e ⟨s.val, h⟩ else 0) (h : Fin 8) (d : Fin 128) :
    lin v (fun s l => (places (ix2 s l) : EReal)) ⟨h.val * 128 + d.val, by omega⟩ = if hd : 64 ≤ d.val ∧ d.val < 96 then e ⟨d.val - 64, by omega⟩ else 0 := by
  unfold lin
  simp only [places_at]
  by_cases hd : 64 ≤ d.val ∧ d.val < 96
  · rw [dif_pos hd, Finset.sum_eq_single (⟨d.val - 64, by omega⟩ : Fin 128)
      (fun s _ hne => by
        rw [if_neg (fun hh => hne (Fin.ext (by show s.val = d.val - 64; omega))), mul_zero])
      (fun hn => absurd (Finset.mem_univ _) hn), if_pos ⟨by show d.val - 64 < 32; omega, by show d.val = 64 + (d.val - 64); omega⟩, mul_one, hv,
      dif_pos (by show d.val - 64 < 32; omega)]
  · rw [dif_neg hd]
    exact Finset.sum_eq_zero fun s _ => by rw [if_neg (by omega), mul_zero]

theorem idx3 {A B C : ℕ} (j : (⟨3, ![A, B, C]⟩ : Shape).Idx) : ∃ (a : Fin A) (b : Fin B) (c : Fin C), j = ix3 a b c :=
  ⟨j 0, j 1, j 2, by funext a; fin_cases a <;> rfl⟩

/-- A slot's lane. -/
theorem lane_of (l : Fin 1024) : ∃ (h : Fin 8) (d : Fin 128), l = ⟨h.val * 128 + d.val, by omega⟩ :=
  ⟨⟨l.val / 128, by omega⟩, ⟨l.val % 128, by omega⟩, Fin.ext (by show l.val = l.val / 128 * 128 + l.val % 128; omega)⟩

theorem part_of (l : Fin 256) : ∃ (g : Fin 4) (k : Fin 64), l = ⟨g.val * 64 + k.val, by omega⟩ :=
  ⟨⟨l.val / 64, by omega⟩, ⟨l.val % 64, by omega⟩, Fin.ext (by show l.val = l.val / 64 * 64 + l.val % 64; omega)⟩

theorem c_eq (b : Fin 4) (t : Fin 8448) (g : Fin 256 → EReal) :
    cRow (uK V0 b t) g = rms (Ideal.ofBits .f32 0x43800000#32) (seg 384 928 (by norm_num) (uRef V0 b t)) g := by
  unfold cRow; rw [seg_kv]

/-- The queries agree. -/
theorem q_eq : qArr (XL V0) (XC V0) (MT V0) (wP (WI V0)) (shapeCast S1x384 (QN V0) shapeCasts_S384_S1x384) (wQ (WQ V0)) tabC (tabLf sinT) (tabRf sinT) = resQ V0 := by
  funext j
  obtain ⟨b, t, l, rfl⟩ := idx3 j
  obtain ⟨h, d, rfl⟩ := lane_of l
  rw [resQ_at, scaleR_at]
  show qRow (uK V0 b t) _ _ _ _ _ _ = _
  unfold qRow
  refine q_slot t.val (aR t) _ _ _ _ (qRef V0 b t) Cert.Attn.scale2 Cert.Attn.scale2_pos.le h (fun d => ?_) (tabC_at t) (tabLf_at t) (tabRf_at t) d
  unfold lin
  have er : (fun n => (shapeCast S1x384 (QN V0) shapeCasts_S384_S1x384 (ix2 0 n) : EReal)) = fun n => QN V0 (ix1 n) := funext fun n => row1 (N := 384) _ _ 0 n
  rw [seg_q, er]
  simp only [wQ_at, qS_at]
  by_cases hd : d.val < 96
  · simp only [dif_pos hd]
    exact lin_scaled _ _ _ _ Cert.Attn.scale2_pos.le fun k => rfl
  · simp only [dif_neg hd, mul_zero, Finset.sum_const_zero]

/-- The keys agree. -/
theorem k_eq : kArr (XL V0) (XC V0) (MT V0) (wP (WI V0)) (shapeCast S1x256 (KN V0) shapeCasts_S256_S1x256) (wK (WK V0)) places tabC (tabLf sinT) (tabRf sinT) = resK V0 := by
  funext j
  obtain ⟨b, t, l, rfl⟩ := idx3 j
  obtain ⟨h, d, rfl⟩ := lane_of l
  rw [resK_at]
  show kRow (uK V0 b t) _ _ _ _ _ _ _ = _
  unfold kRow
  have er : (fun n => (shapeCast S1x256 (KN V0) shapeCasts_S256_S1x256 (ix2 0 n) : EReal)) = fun n => KN V0 (ix1 n) := funext fun n => row1 (N := 256) _ _ 0 n
  refine k_slot t.val (aR t) _ _ _ _ _ (kvRef V0 b t) _ h (fun d => ?_) (fun d => placed _ _ (seg_e V0 b t) h d) (tabC_at t) (tabLf_at t) (tabRf_at t) d
  rw [c_eq, er]
  unfold lin
  simp only [wK_at]
  by_cases hd : d.val < 64
  · simp only [dif_pos hd]; rfl
  · simp only [dif_neg hd, mul_zero, Finset.sum_const_zero]

/-- The values agree. -/
theorem v_eq : vArr (XL V0) (XC V0) (MT V0) (wP (WI V0)) (shapeCast S1x256 (KN V0) shapeCasts_S256_S1x256) (wV (WK V0)) ones = resV V0 := by
  funext j
  obtain ⟨b, t, l, rfl⟩ := idx3 j
  obtain ⟨h, d, rfl⟩ := lane_of l
  rw [resV_at]
  show vRow (uK V0 b t) _ _ _ _ = _
  unfold vRow
  have er : (fun n => (shapeCast S1x256 (KN V0) shapeCasts_S256_S1x256 (ix2 0 n) : EReal)) = fun n => KN V0 (ix1 n) := funext fun n => row1 (N := 256) _ _ 0 n
  refine v_slot _ (fun n => (ones (ix2 0 n) : EReal)) (kvRef V0 b t) h (fun d => ?_) (fun d => ones_at 0 h d) d
  rw [c_eq, er]
  unfold lin
  simp only [wV_at]
  by_cases hd : d.val < 96
  · simp only [dif_pos hd]; rfl
  · simp only [dif_neg hd, mul_zero, Finset.sum_const_zero]

/-- A transform of the normalised lanes, in blocks of 64. -/
theorem f_eq (D : FVec Ideal Cert.FrontOddIdeal.S64x64 .f32) (b : Fin 4) (g : Fin 4) (k : Fin 64) (t : Fin 8448) :
    pArr (XL V0) (XC V0) (MT V0) (wP (WI V0)) (kron D) (kron avgM) (shapeCast S1x256 (FG V0) shapeCasts_S256_S1x256) (shapeCast S1x256 (FB V0) shapeCasts_S256_S1x256)
      (ix3 b ⟨g.val * 64 + k.val, by omega⟩ t) = ∑ i : Fin 64, (D (ix2 k i) : EReal) * norm64 (fRef V0 b t g) (gRef V0 g) (bRef V0 g) i := by
  have eg : (fun n => (shapeCast S1x256 (FG V0) shapeCasts_S256_S1x256 (ix2 0 n) : EReal)) = fun n => FG V0 (ix1 n) := funext fun n => row1 (N := 256) _ _ 0 n
  have eb : (fun n => (shapeCast S1x256 (FB V0) shapeCasts_S256_S1x256 (ix2 0 n) : EReal)) = fun n => FB V0 (ix1 n) := funext fun n => row1 (N := 256) _ _ 0 n
  have ea (i : Cert.FrontOddIdeal.S64x64.Idx) : (avgM i : EReal) = Ideal.ofBits .f32 0x3C800000#32 := by pointwise [avgM, id_eq]
  show fRow (fun r c => (kron D (ix2 r c) : EReal)) (uK V0 b t) _ _ _ ⟨g.val * 64 + k.val, by omega⟩ = _
  unfold fRow
  rw [eg, eb, seg_f]
  refine (f_group (fun r c => (kron D (ix2 r c) : EReal)) (fun k i => (D (ix2 k i) : EReal)) _ g k (fun c => ?_)).trans ?_
  · rw [kron_at]
    have e1 : (g.val * 64 + k.val) / 64 = g.val := by omega
    have e2 : (⟨(g.val * 64 + k.val) % 64, Nat.mod_lt _ (by norm_num)⟩ : Fin 64) = k := Fin.ext (by show (g.val * 64 + k.val) % 64 = k.val; omega)
    simp only [e1, e2]
  · refine Finset.sum_congr rfl fun i _ => congrArg (fun z : EReal => _ * z) ?_
    exact normA_group _ _ _ _ (fun r c => by rw [kron_at, ea]) g i

/-- The cosine parts agree. -/
theorem cos_eq : pArr (XL V0) (XC V0) (MT V0) (wP (WI V0)) (kron cosM) (kron avgM) (shapeCast S1x256 (FG V0) shapeCasts_S256_S1x256) (shapeCast S1x256 (FB V0) shapeCasts_S256_S1x256) = resC V0 := by
  funext j
  obtain ⟨b, l, t, rfl⟩ := idx3 j
  obtain ⟨g, k, rfl⟩ := part_of l
  rw [resC_at, f_eq]
  rfl

/-- The sine parts agree. -/
theorem sin_eq : pArr (XL V0) (XC V0) (MT V0) (wP (WI V0)) (kron sinM) (kron avgM) (shapeCast S1x256 (FG V0) shapeCasts_S256_S1x256) (shapeCast S1x256 (FB V0) shapeCasts_S256_S1x256) = resS V0 := by
  funext j
  obtain ⟨b, l, t, rfl⟩ := idx3 j
  obtain ⟨g, k, rfl⟩ := part_of l
  rw [resS_at, f_eq]
  rfl

end Cert.FrontOddEq

end
-- ==== Proof.FrontOddFinal.lean ====
module

public import proofs.«01_k».proof.Proof.Gen.FrontOddIdeal.Value
public import proofs.«01_k».proof.Proof.FrontOddPure

@[expose] public section

set_option maxRecDepth 16384

noncomputable section

open Idealize.ShloMosaic Idealize.ShloMosaic.TcCoe Idealize.SL.Sem
open Idealize.ShloMosaic.Pipeline (Dat)

namespace Cert.FrontOddIdeal.Front

open Cert.FrontOddIdeal Cert.FrontOddIdeal.Gen

open Cert.OddRow

variable (m : (ℓ : Loc nD τ sig) → Buf (Elt Ideal) ℓ)

/-- The whole array of window 19 after the run. -/
theorem final19 (c : Dev nD) : (dats m 0 c).arrAt 19 (cfgs 0).N = qArr (V m c main_arg0) (V m c main_arg1) (V m c main_arg2) (V m c main_v5) (V m c main_v119) (V m c main_v15) (V m c main_v116) (V m c main_v117) (V m c main_v118) := by
  refine (dats m 0 c).arrAt_eq_of_covers 19 _ (by decide +kernel) fun t _ y => ?_
  blk_simp
  rw [after0_19]
  have y0 : (y 0 : ℕ) < 1 := (y 0).isLt
  have y1 : (y 1 : ℕ) < 256 := (y 1).isLt
  have y2 : (y 2 : ℕ) < 1024 := (y 2).isLt
  refine (out19_at _ _ _ _ _ _ _ _ _ _ _ _ _ _ _ _ _ _ _ _ _ ⟨y 1, y1⟩ ⟨y 2, y2⟩ rfl rfl).trans ?_
  have e (a) : (((win0_19.rect t).emb y) a : ℕ) = win0_19.index t a * win0_19.size a + (y a : ℕ) := win0_19.rect_emb_val t y a
  obtain ⟨i, -⟩ := idxO t
  rw [i] at e
  have e0 : ((win0_19.rect t).emb y 0 : ℕ) = t.val / 33 := (e 0).trans (by show t.val / 33 * 1 + (y 0 : ℕ) = t.val / 33; omega)
  have e1 : ((win0_19.rect t).emb y 1 : ℕ) = t.val % 33 * 256 + (y 1 : ℕ) := e 1
  have e2 : ((win0_19.rect t).emb y 2 : ℕ) = (y 2 : ℕ) := (e 2).trans (by show 0 * 1024 + (y 2 : ℕ) = (y 2 : ℕ); omega)
  obtain ⟨z, hz⟩ : ∃ z, z = (win0_19.blk t).view.emb y := ⟨_, rfl⟩
  rw [← hz]
  have e0 : (z 0 : ℕ) = t.val / 33 := by rw [hz]; exact e0
  have e1 : (z 1 : ℕ) = t.val % 33 * 256 + (y 1 : ℕ) := by rw [hz]; exact e1
  have e2 : (z 2 : ℕ) = (y 2 : ℕ) := by rw [hz]; exact e2
  unfold qArr
  rw [u_at m c t ⟨y 1, y1⟩ (z 0) (z 1) e0 e1]
  simp only [w4_at m c t, w6_at m c t, w16_at m c t ⟨y 1, y1⟩ (z 1) e1, w17_at m c t ⟨y 1, y1⟩ (z 1) e1, w18_at m c t ⟨y 1, y1⟩ (z 1) e1]
  exact congrArg _ (Fin.ext e2.symm)

/-- The whole array of window 20 after the run. -/
theorem final20 (c : Dev nD) : (dats m 0 c).arrAt 20 (cfgs 0).N = kArr (V m c main_arg0) (V m c main_arg1) (V m c main_arg2) (V m c main_v5) (V m c main_v120) (V m c main_v20) (V m c main_v42) (V m c main_v116) (V m c main_v117) (V m c main_v118) := by
  refine (dats m 0 c).arrAt_eq_of_covers 20 _ (by decide +kernel) fun t _ y => ?_
  blk_simp
  rw [after0_20]
  have y0 : (y 0 : ℕ) < 1 := (y 0).isLt
  have y1 : (y 1 : ℕ) < 256 := (y 1).isLt
  have y2 : (y 2 : ℕ) < 1024 := (y 2).isLt
  refine (out20_at _ _ _ _ _ _ _ _ _ _ _ _ _ _ _ _ _ _ _ _ _ ⟨y 1, y1⟩ ⟨y 2, y2⟩ rfl rfl).trans ?_
  have e (a) : (((win0_20.rect t).emb y) a : ℕ) = win0_20.index t a * win0_20.size a + (y a : ℕ) := win0_20.rect_emb_val t y a
  obtain ⟨_, i, -⟩ := idxO t
  rw [i] at e
  have e0 : ((win0_20.rect t).emb y 0 : ℕ) = t.val / 33 := (e 0).trans (by show t.val / 33 * 1 + (y 0 : ℕ) = t.val / 33; omega)
  have e1 : ((win0_20.rect t).emb y 1 : ℕ) = t.val % 33 * 256 + (y 1 : ℕ) := e 1
  have e2 : ((win0_20.rect t).emb y 2 : ℕ) = (y 2 : ℕ) := (e 2).trans (by show 0 * 1024 + (y 2 : ℕ) = (y 2 : ℕ); omega)
  obtain ⟨z, hz⟩ : ∃ z, z = (win0_20.blk t).view.emb y := ⟨_, rfl⟩
  rw [← hz]
  have e0 : (z 0 : ℕ) = t.val / 33 := by rw [hz]; exact e0
  have e1 : (z 1 : ℕ) = t.val % 33 * 256 + (y 1 : ℕ) := by rw [hz]; exact e1
  have e2 : (z 2 : ℕ) = (y 2 : ℕ) := by rw [hz]; exact e2
  unfold kArr
  rw [u_at m c t ⟨y 1, y1⟩ (z 0) (z 1) e0 e1]
  simp only [w5_at m c t, w7_at m c t, w9_at m c t, w16_at m c t ⟨y 1, y1⟩ (z 1) e1, w17_at m c t ⟨y 1, y1⟩ (z 1) e1, w18_at m c t ⟨y 1, y1⟩ (z 1) e1]
  exact congrArg _ (Fin.ext e2.symm)

/-- The whole array of window 21 after the run. -/
theorem final21 (c : Dev nD) : (dats m 0 c).arrAt 21 (cfgs 0).N = vArr (V m c main_arg0) (V m c main_arg1) (V m c main_arg2) (V m c main_v5) (V m c main_v120) (V m c main_v25) (V m c main_v46) := by
  refine (dats m 0 c).arrAt_eq_of_covers 21 _ (by decide +kernel) fun t _ y => ?_
  blk_simp
  rw [after0_21]
  have y0 : (y 0 : ℕ) < 1 := (y 0).isLt
  have y1 : (y 1 : ℕ) < 256 := (y 1).isLt
  have y2 : (y 2 : ℕ) < 1024 := (y 2).isLt
  refine (out21_at _ _ _ _ _ _ _ _ _ _ _ _ _ _ _ _ _ _ _ _ _ ⟨y 1, y1⟩ ⟨y 2, y2⟩ rfl rfl).trans ?_
  have e (a) : (((win0_21.rect t).emb y) a : ℕ) = win0_21.index t a * win0_21.size a + (y a : ℕ) := win0_21.rect_emb_val t y a
  obtain ⟨_, _, i, -⟩ := idxO t
  rw [i] at e
  have e0 : ((win0_21.rect t).emb y 0 : ℕ) = t.val / 33 := (e 0).trans (by show t.val / 33 * 1 + (y 0 : ℕ) = t.val / 33; omega)
  have e1 : ((win0_21.rect t).emb y 1 : ℕ) = t.val % 33 * 256 + (y 1 : ℕ) := e 1
  have e2 : ((win0_21.rect t).emb y 2 : ℕ) = (y 2 : ℕ) := (e 2).trans (by show 0 * 1024 + (y 2 : ℕ) = (y 2 : ℕ); omega)
  obtain ⟨z, hz⟩ : ∃ z, z = (win0_21.blk t).view.emb y := ⟨_, rfl⟩
  rw [← hz]
  have e0 : (z 0 : ℕ) = t.val / 33 := by rw [hz]; exact e0
  have e1 : (z 1 : ℕ) = t.val % 33 * 256 + (y 1 : ℕ) := by rw [hz]; exact e1
  have e2 : (z 2 : ℕ) = (y 2 : ℕ) := by rw [hz]; exact e2
  unfold vArr
  rw [u_at m c t ⟨y 1, y1⟩ (z 0) (z 1) e0 e1]
  simp only [w5_at m c t, w8_at m c t, w10_at m c t]
  exact congrArg _ (Fin.ext e2.symm)

/-- The whole array of window 22 after the run. -/
theorem final22 (c : Dev nD) : (dats m 0 c).arrAt 22 (cfgs 0).N = pArr (V m c main_arg0) (V m c main_arg1) (V m c main_arg2) (V m c main_v5) (V m c main_v67) (V m c main_v73) (V m c main_v121) (V m c main_v122) := by
  refine (dats m 0 c).arrAt_eq_of_covers 22 _ (by decide +kernel) fun t _ y => ?_
  blk_simp
  rw [after0_22]
  have y0 : (y 0 : ℕ) < 1 := (y 0).isLt
  have y1 : (y 1 : ℕ) < 256 := (y 1).isLt
  have y2 : (y 2 : ℕ) < 256 := (y 2).isLt
  refine (out22_at _ _ _ _ _ _ _ _ _ _ _ _ _ _ _ _ _ _ _ _ _ ⟨y 1, y1⟩ ⟨y 2, y2⟩ rfl rfl).trans ?_
  have e (a) : (((win0_22.rect t).emb y) a : ℕ) = win0_22.index t a * win0_22.size a + (y a : ℕ) := win0_22.rect_emb_val t y a
  obtain ⟨_, _, _, i, -⟩ := idxO t
  rw [i] at e
  have e0 : ((win0_22.rect t).emb y 0 : ℕ) = t.val / 33 := (e 0).trans (by show t.val / 33 * 1 + (y 0 : ℕ) = t.val / 33; omega)
  have e1 : ((win0_22.rect t).emb y 1 : ℕ) = (y 1 : ℕ) := (e 1).trans (by show 0 * 256 + (y 1 : ℕ) = (y 1 : ℕ); omega)
  have e2 : ((win0_22.rect t).emb y 2 : ℕ) = t.val % 33 * 256 + (y 2 : ℕ) := e 2
  obtain ⟨z, hz⟩ : ∃ z, z = (win0_22.blk t).view.emb y := ⟨_, rfl⟩
  rw [← hz]
  have e0 : (z 0 : ℕ) = t.val / 33 := by rw [hz]; exact e0
  have e1 : (z 1 : ℕ) = (y 1 : ℕ) := by rw [hz]; exact e1
  have e2 : (z 2 : ℕ) = t.val % 33 * 256 + (y 2 : ℕ) := by rw [hz]; exact e2
  unfold pArr
  rw [u_at m c t ⟨y 2, y2⟩ (z 0) (z 2) e0 e2]
  simp only [w14_at m c t, w13_at m c t, w11_at m c t, w12_at m c t]
  exact congrArg _ (Fin.ext e1.symm)

/-- The whole array of window 23 after the run. -/
theorem final23 (c : Dev nD) : (dats m 0 c).arrAt 23 (cfgs 0).N = pArr (V m c main_arg0) (V m c main_arg1) (V m c main_arg2) (V m c main_v5) (V m c main_v70) (V m c main_v73) (V m c main_v121) (V m c main_v122) := by
  refine (dats m 0 c).arrAt_eq_of_covers 23 _ (by decide +kernel) fun t _ y => ?_
  blk_simp
  rw [after0_23]
  have y0 : (y 0 : ℕ) < 1 := (y 0).isLt
  have y1 : (y 1 : ℕ) < 256 := (y 1).isLt
  have y2 : (y 2 : ℕ) < 256 := (y 2).isLt
  refine (out23_at _ _ _ _ _ _ _ _ _ _ _ _ _ _ _ _ _ _ _ _ _ ⟨y 1, y1⟩ ⟨y 2, y2⟩ rfl rfl).trans ?_
  have e (a) : (((win0_23.rect t).emb y) a : ℕ) = win0_23.index t a * win0_23.size a + (y a : ℕ) := win0_23.rect_emb_val t y a
  obtain ⟨_, _, _, _, i⟩ := idxO t
  rw [i] at e
  have e0 : ((win0_23.rect t).emb y 0 : ℕ) = t.val / 33 := (e 0).trans (by show t.val / 33 * 1 + (y 0 : ℕ) = t.val / 33; omega)
  have e1 : ((win0_23.rect t).emb y 1 : ℕ) = (y 1 : ℕ) := (e 1).trans (by show 0 * 256 + (y 1 : ℕ) = (y 1 : ℕ); omega)
  have e2 : ((win0_23.rect t).emb y 2 : ℕ) = t.val % 33 * 256 + (y 2 : ℕ) := e 2
  obtain ⟨z, hz⟩ : ∃ z, z = (win0_23.blk t).view.emb y := ⟨_, rfl⟩
  rw [← hz]
  have e0 : (z 0 : ℕ) = t.val / 33 := by rw [hz]; exact e0
  have e1 : (z 1 : ℕ) = (y 1 : ℕ) := by rw [hz]; exact e1
  have e2 : (z 2 : ℕ) = t.val % 33 * 256 + (y 2 : ℕ) := by rw [hz]; exact e2
  unfold pArr
  rw [u_at m c t ⟨y 2, y2⟩ (z 0) (z 2) e0 e2]
  simp only [w15_at m c t, w13_at m c t, w11_at m c t, w12_at m c t]
  exact congrArg _ (Fin.ext e1.symm)

end Cert.FrontOddIdeal.Front

end
-- ==== Proof.FrontOddV.lean ====
module

public import proofs.«01_k».proof.Proof.Gen.FrontOddIdeal.Value
public import Idealize.ShloMosaic.Lib.Pipeline.ValueKit
public import Idealize.ShloMosaic.Lib.Pointwise
public import Idealize.ShloMosaic.Lib.Claim
public import proofs.«01_k».proof.Proof.FrontOddHost

@[expose] public section

set_option maxRecDepth 16384

noncomputable section

open Idealize.ShloMosaic Idealize.ShloMosaic.TcCoe Idealize.SL.Sem
open Idealize.ShloMosaic.Pipeline (Dat)

namespace Cert.FrontOddIdeal.Front

open Cert.FrontOddIdeal Cert.FrontOddIdeal.Gen

variable (m : (ℓ : Loc nD τ sig) → Buf (Elt Ideal) ℓ)

theorem V5 (c : Dev nD) : V m c main_v5 = wP (m ((c : Thread nD τ).loc main_arg3)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append]
  after_results; rfl

theorem V15 (c : Dev nD) : V m c main_v15 = wQ (m ((c : Thread nD τ).loc main_arg5)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append]
  after_results; rfl

theorem V20 (c : Dev nD) : V m c main_v20 = wK (m ((c : Thread nD τ).loc main_arg7)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append]
  after_results; rfl

theorem V25 (c : Dev nD) : V m c main_v25 = wV (m ((c : Thread nD τ).loc main_arg7)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append]
  after_results; rfl

theorem V42 (c : Dev nD) : V m c main_v42 = places := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append]
  after_results; rfl

theorem V46 (c : Dev nD) : V m c main_v46 = ones := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append]
  after_results; rfl

theorem V67 (c : Dev nD) : V m c main_v67 = kron cosM := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append]
  after_results; rfl

theorem V70 (c : Dev nD) : V m c main_v70 = kron sinM := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append]
  after_results; rfl

theorem V73 (c : Dev nD) : V m c main_v73 = kron avgM := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append]
  after_results; rfl

theorem V116 (c : Dev nD) : V m c main_v116 = tabC := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append]
  after_results; rfl

theorem V119 (c : Dev nD) : V m c main_v119 = shapeCast S1x384 (m ((c : Thread nD τ).loc main_arg4)) shapeCasts_S384_S1x384 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append]
  after_results; rfl

theorem V120 (c : Dev nD) : V m c main_v120 = shapeCast S1x256 (m ((c : Thread nD τ).loc main_arg6)) shapeCasts_S256_S1x256 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append]
  after_results; rfl

theorem V121 (c : Dev nD) : V m c main_v121 = shapeCast S1x256 (m ((c : Thread nD τ).loc main_arg8)) shapeCasts_S256_S1x256 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append]
  after_results; rfl

theorem V122 (c : Dev nD) : V m c main_v122 = shapeCast S1x256 (m ((c : Thread nD τ).loc main_arg9)) shapeCasts_S256_S1x256 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append]
  after_results; rfl

theorem Va0 (c : Dev nD) : V m c main_arg0 = (m ((c : Thread nD τ).loc main_arg0)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append]
  after_results

theorem Va1 (c : Dev nD) : V m c main_arg1 = (m ((c : Thread nD τ).loc main_arg1)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append]
  after_results

theorem Va2 (c : Dev nD) : V m c main_arg2 = (m ((c : Thread nD τ).loc main_arg2)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append]
  after_results

/-- The host's operations up to the turning sines, then the rest. -/
theorem ops_split : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30] : List (HloOp τ sig (Elt Ideal))) = List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23] ++ List.flatten [hostOps0_24, hostOps0_25, hostOps0_26, hostOps0_27, hostOps0_28, hostOps0_29, hostOps0_30] := by
  simp only [List.flatten_cons, List.flatten_nil, List.append_nil, List.append_assoc]

theorem V106 (W : Valuation τ sig (Elt Ideal)) : StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]) W (Proc.devRef .tc main_v106) = sinT := by
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append]
  after_results; rfl

theorem tail117 (W : Valuation τ sig (Elt Ideal)) : StableHlo.after (List.flatten [hostOps0_24, hostOps0_25, hostOps0_26, hostOps0_27, hostOps0_28, hostOps0_29, hostOps0_30]) W (Proc.devRef .tc main_v117) = tabLf (W (Proc.devRef .tc main_v106)) := by
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append]
  after_results; rfl

theorem tail118 (W : Valuation τ sig (Elt Ideal)) : StableHlo.after (List.flatten [hostOps0_24, hostOps0_25, hostOps0_26, hostOps0_27, hostOps0_28, hostOps0_29, hostOps0_30]) W (Proc.devRef .tc main_v118) = tabRf (W (Proc.devRef .tc main_v106)) := by
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append, List.nil_append]
  after_results; rfl

theorem V117 (c : Dev nD) : V m c main_v117 = tabLf sinT := by
  unfold V
  rw [ops_split, StableHlo.after_append, tail117, V106]

theorem V118 (c : Dev nD) : V m c main_v118 = tabRf sinT := by
  unfold V
  rw [ops_split, StableHlo.after_append, tail118, V106]

end Cert.FrontOddIdeal.Front

end
-- ==== Proof.PostCtxTile.lean ====
module

public import proofs.«01_k».proof.Proof.Gen.PostCtxIdeal.Frame
public import Idealize.ShloMosaic.Lib.Pipeline.ValueKit
public import Idealize.ShloMosaic.Lib.Pointwise
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.PostCtxIdeal.Post

open Cert.PostCtxIdeal Cert.PostCtxIdeal.Gen

/-- Rows less their means. -/
def cen (v : FVec Ideal S256x1024 .f32) : FVec Ideal S256x1024 .f32 :=
  subf v (broadcastTo S256x1024 (divf (shapeCast S256x1 (multiReduction .add [1] S256 v 0x00000000#32 reduces_S256x1024_S256 (.inl rfl) rfl) shapeCasts_S256_S256x1)
    (broadcast S256x1 (Scalar.ofBits .f32 0x44800000#32))) broadcasts_S256x1_S256x1024)

/-- Rows less their means, over their standard deviations. -/
def normV (v : FVec Ideal S256x1024 .f32) : FVec Ideal S256x1024 .f32 :=
  mulf (cen v) (broadcastTo S256x1024 (rsqrt (addf (divf (shapeCast S256x1 (multiReduction .add [1] S256 (mulf (cen v) (cen v)) 0x00000000#32 reduces_S256x1024_S256 (.inl rfl) rfl) shapeCasts_S256_S256x1)
    (broadcast S256x1 (Scalar.ofBits .f32 0x44800000#32))) (broadcast S256x1 (Scalar.ofBits .f32 0x3727C5AC#32)))) broadcasts_S256x1_S256x1024)

/-- The first norm's scale and shift. -/
def aff0 (g b : Vec Ideal S2x1024 .f32) (v : FVec Ideal S256x1024 .f32) : FVec Ideal S256x1024 .f32 :=
  addf (mulf v (broadcastTo S256x1024 (extractStridedSlice S1x1024 ![0, 0] g slices_S2x1024_o0_0_S1x1024) broadcasts_S1x1024_S256x1024))
    (broadcastTo S256x1024 (extractStridedSlice S1x1024 ![0, 0] b slices_S2x1024_o0_0_S1x1024) broadcasts_S1x1024_S256x1024)

/-- The second norm's scale and shift. -/
def aff1 (g b : Vec Ideal S2x1024 .f32) (v : FVec Ideal S256x1024 .f32) : FVec Ideal S256x1024 .f32 :=
  addf (mulf v (broadcastTo S256x1024 (extractStridedSlice S1x1024 ![1, 0] g slices_S2x1024_o1_0_S1x1024) broadcasts_S1x1024_S256x1024))
    (broadcastTo S256x1024 (extractStridedSlice S1x1024 ![1, 0] b slices_S2x1024_o1_0_S1x1024) broadcasts_S1x1024_S256x1024)

/-- The modulation vectors without their leading axes. -/
def mods (m : Vec Ideal S1x1x6x1024 .f32) : FVec Ideal S6x1024 .f32 := shapeCast S6x1024 m shapeCasts_S1x1x6x1024_S6x1024

/-- The mixer's residual. -/
def res1 (m : FVec Ideal S6x1024 .f32) (x y : FVec Ideal S256x1024 .f32) : FVec Ideal S256x1024 .f32 :=
  addf (mulf (broadcast S256x1024 (Scalar.ofBits .f32 0x3FB504F3#32)) x)
    (mulf (broadcastTo S256x1024 (extractStridedSlice S1x1024 ![2, 0] m slices_S6x1024_o2_0_S1x1024) broadcasts_S1x1024_S256x1024) y)

/-- The channel mixer's residual. -/
def res2 (m : FVec Ideal S6x1024 .f32) (x y : FVec Ideal S256x1024 .f32) : FVec Ideal S256x1024 .f32 :=
  addf (mulf (broadcast S256x1024 (Scalar.ofBits .f32 0x3FB504F3#32)) x)
    (mulf (broadcastTo S256x1024 (extractStridedSlice S1x1024 ![5, 0] m slices_S6x1024_o5_0_S1x1024) broadcasts_S1x1024_S256x1024) y)

/-- The modulated rows. -/
def modV (m : FVec Ideal S6x1024 .f32) (v : FVec Ideal S256x1024 .f32) : FVec Ideal S256x1024 .bf16 :=
  truncf .bf16 (addf (mulf v (broadcastTo S256x1024 (addf (broadcast S1x1024 (Scalar.ofBits .f32 0x3F800000#32)) (extractStridedSlice S1x1024 ![4, 0] m slices_S6x1024_o4_0_S1x1024)) broadcasts_S1x1024_S256x1024))
    (broadcastTo S256x1024 (extractStridedSlice S1x1024 ![3, 0] m slices_S6x1024_o3_0_S1x1024) broadcasts_S1x1024_S256x1024)) bitsLt_bf16_f32

/-- A group of hidden units, cut at zero. -/
def hid (h : FVec Ideal S256x1024 .bf16) (p : Vec Ideal S1024x1024 .bf16) : FVec Ideal S256x1024 .f32 :=
  maximumf (matmul dot_S256x1024_S1024x1024_S256x1024_1_0_0_1_n_n none h (shapeCast S1024x1024 p shapeCasts_S1024x1024_S1024x1024 : FVec Ideal S1024x1024 .bf16) (constant S256x1024 .f32 0x00000000#32))
    (broadcast S256x1024 (Scalar.ofBits .f32 0x00000000#32))

/-- A group's share of the channel mixer. -/
def chunk (h : FVec Ideal S256x1024 .bf16) (p q : Vec Ideal S1024x1024 .bf16) : FVec Ideal S256x1024 .f32 :=
  matmul dot_S256x1024_S1024x1024_S256x1024_1_0_0_1_n_n none (truncf .bf16 (mulf (hid h p) (hid h p)) bitsLt_bf16_f32)
    (shapeCast S1024x1024 q shapeCasts_S1024x1024_S1024x1024 : FVec Ideal S1024x1024 .bf16) (constant S256x1024 .f32 0x00000000#32)

/-- The four groups' sum. -/
def mlpV (h : FVec Ideal S256x1024 .bf16) (p0 q0 p1 q1 p2 q2 p3 q3 : Vec Ideal S1024x1024 .bf16) : FVec Ideal S256x1024 .f32 :=
  addf (addf (addf (chunk h p0 q0) (chunk h p1 q1)) (chunk h p2 q2)) (chunk h p3 q3)

/-- The output projection of the two mixers' rows. -/
def proj (s : Vec Ideal S1x256x512 .bf16) (wa : Vec Ideal S512x1024 .bf16) (a : Vec Ideal S1x256x512 .bf16) (wb : Vec Ideal S512x1024 .bf16) : FVec Ideal S256x1024 .f32 :=
  addf (matmul dot_S256x512_S512x1024_S256x1024_1_0_0_1_n_n none (shapeCast S256x512 s shapeCasts_S1x256x512_S256x512 : FVec Ideal S256x512 .bf16)
      (shapeCast S512x1024 wa shapeCasts_S512x1024_S512x1024 : FVec Ideal S512x1024 .bf16) (constant S256x1024 .f32 0x00000000#32))
    (matmul dot_S256x512_S512x1024_S256x1024_1_0_0_1_n_n none (shapeCast S256x512 a shapeCasts_S1x256x512_S256x512 : FVec Ideal S256x512 .bf16)
      (shapeCast S512x1024 wb shapeCasts_S512x1024_S512x1024 : FVec Ideal S512x1024 .bf16) (constant S256x1024 .f32 0x00000000#32))

/-- The rows after the mixer's norm. -/
def head (m : Vec Ideal S1x1x6x1024 .f32) (lg lb : Vec Ideal S2x1024 .f32) (x : Vec Ideal S1x256x1024 .f32) (y : FVec Ideal S256x1024 .f32) : FVec Ideal S256x1024 .f32 :=
  aff0 lg lb (normV (res1 (mods m) (shapeCast S256x1024 x shapeCasts_S1x256x1024_S256x1024 : FVec Ideal S256x1024 .f32) y))

/-- The rows after the channel mixer's norm. -/
def tail (m : Vec Ideal S1x1x6x1024 .f32) (lg lb : Vec Ideal S2x1024 .f32) (x1 : FVec Ideal S256x1024 .f32)
    (p0 q0 p1 q1 p2 q2 p3 q3 : Vec Ideal S1024x1024 .bf16) : FVec Ideal S1x256x1024 .f32 :=
  shapeCast S1x256x1024 (aff1 lg lb (normV (res2 (mods m) x1 (mlpV (modV (mods m) (normV x1)) p0 q0 p1 q1 p2 q2 p3 q3)))) shapeCasts_S256x1024_S1x256x1024

/-- What is stored for 256 rows. -/
def tile (m : Vec Ideal S1x1x6x1024 .f32) (lg lb : Vec Ideal S2x1024 .f32) (x : Vec Ideal S1x256x1024 .f32)
    (s : Vec Ideal S1x256x512 .bf16) (wa : Vec Ideal S512x1024 .bf16) (a : Vec Ideal S1x256x512 .bf16) (wb : Vec Ideal S512x1024 .bf16)
    (p0 q0 p1 q1 p2 q2 p3 q3 : Vec Ideal S1024x1024 .bf16) : FVec Ideal S1x256x1024 .f32 :=
  tail m lg lb (head m lg lb x (proj s wa a wb)) p0 q0 p1 q1 p2 q2 p3 q3

section entries
open Cert.Rows

theorem ofBits_zero : Ideal.ofBits .f32 0x00000000#32 = (0 : EReal) := by
  simp [Ideal.ofBits, Ideal.ieee]

theorem cen_at (v : FVec Ideal S256x1024 .f32) (r : Fin 256) (k : Fin 1024) :
    cen v (ix2 r k) = (v (ix2 r k) : EReal) - mean (fun j => v (ix2 r j)) := by
  pointwise [cen, mean]

theorem normV_at (v : FVec Ideal S256x1024 .f32) (r : Fin 256) (k : Fin 1024) :
    normV v (ix2 r k) = Rows.norm (fun j => v (ix2 r j)) k := by
  pointwise [normV, Rows.norm, mean, cen_at]

theorem aff0_at (g b : Vec Ideal S2x1024 .f32) (v : FVec Ideal S256x1024 .f32) (r : Fin 256) (k : Fin 1024) :
    aff0 g b v (ix2 r k) = affine (fun j => v (ix2 r j)) (fun j => g (ix2 0 j)) (fun j => b (ix2 0 j)) k := by
  pointwise [aff0, affine]

theorem aff1_at (g b : Vec Ideal S2x1024 .f32) (v : FVec Ideal S256x1024 .f32) (r : Fin 256) (k : Fin 1024) :
    aff1 g b v (ix2 r k) = affine (fun j => v (ix2 r j)) (fun j => g (ix2 1 j)) (fun j => b (ix2 1 j)) k := by
  pointwise [aff1, affine]

theorem mods_at (m : Vec Ideal S1x1x6x1024 .f32) (a : Fin 6) (k : Fin 1024) : mods m (ix2 a k) = m (ix4 0 0 a k) := by
  pointwise [mods]

theorem res1_at (m : FVec Ideal S6x1024 .f32) (x y : FVec Ideal S256x1024 .f32) (r : Fin 256) (k : Fin 1024) :
    res1 m x y (ix2 r k) = resid (fun j => x (ix2 r j)) (fun j => m (ix2 2 j)) (fun j => y (ix2 r j)) k := by
  pointwise [res1, resid]

theorem res2_at (m : FVec Ideal S6x1024 .f32) (x y : FVec Ideal S256x1024 .f32) (r : Fin 256) (k : Fin 1024) :
    res2 m x y (ix2 r k) = resid (fun j => x (ix2 r j)) (fun j => m (ix2 5 j)) (fun j => y (ix2 r j)) k := by
  pointwise [res2, resid]

theorem modV_at (m : FVec Ideal S6x1024 .f32) (v : FVec Ideal S256x1024 .f32) (r : Fin 256) (k : Fin 1024) :
    modV m v (ix2 r k) = modulate (fun j => v (ix2 r j)) (fun j => m (ix2 3 j)) (fun j => m (ix2 4 j)) k := by
  pointwise [modV, modulate]

theorem hid_at (h : FVec Ideal S256x1024 .bf16) (p : Vec Ideal S1024x1024 .bf16) (r : Fin 256) (k : Fin 1024) :
    hid h p (ix2 r k) = Rows.hidden (fun j => h (ix2 r j)) (fun i j => p (ix2 i j)) k := by
  pointwise [hid, Rows.hidden, ofBits_zero]

theorem chunk_at (h : FVec Ideal S256x1024 .bf16) (p q : Vec Ideal S1024x1024 .bf16) (r : Fin 256) (k : Fin 1024) :
    chunk h p q (ix2 r k) = mlp (fun j => h (ix2 r j)) (fun i j => p (ix2 i j)) (fun i j => q (ix2 i j)) k := by
  pointwise [chunk, mlp, hid_at]

theorem proj_at (s : Vec Ideal S1x256x512 .bf16) (wa : Vec Ideal S512x1024 .bf16) (a : Vec Ideal S1x256x512 .bf16) (wb : Vec Ideal S512x1024 .bf16) (r : Fin 256) (k : Fin 1024) :
    proj s wa a wb (ix2 r k) = ∑ i : Fin 512, (s (ix3 0 r i) : EReal) * wa (ix2 i k) + ∑ i : Fin 512, (a (ix3 0 r i) : EReal) * wb (ix2 i k) := by
  pointwise [proj]

theorem head_at (m : Vec Ideal S1x1x6x1024 .f32) (lg lb : Vec Ideal S2x1024 .f32) (x : Vec Ideal S1x256x1024 .f32) (y : FVec Ideal S256x1024 .f32) (r : Fin 256) (k : Fin 1024) :
    head m lg lb x y (ix2 r k) = first (fun j => x (ix3 0 r j)) (fun j => y (ix2 r j)) (fun j => m (ix4 0 0 2 j)) (fun j => lg (ix2 0 j)) (fun j => lb (ix2 0 j)) k := by
  have e (j : Fin 1024) : (shapeCast S256x1024 x shapeCasts_S1x256x1024_S256x1024 : FVec Ideal S256x1024 .f32) (ix2 r j) = x (ix3 0 r j) := by
    pointwise
  unfold head first
  rw [aff0_at]
  simp only [normV_at, res1_at, mods_at, e]

theorem tail_at (m : Vec Ideal S1x1x6x1024 .f32) (lg lb : Vec Ideal S2x1024 .f32) (x1 : FVec Ideal S256x1024 .f32)
    (p0 q0 p1 q1 p2 q2 p3 q3 : Vec Ideal S1024x1024 .bf16) (w : Fin 1024 → Fin 4096 → EReal) (u : Fin 4096 → Fin 1024 → EReal)
    (hp0 : ∀ i j, p0 (ix2 i j) = w i ⟨j, by omega⟩) (hq0 : ∀ i j, q0 (ix2 i j) = u ⟨i, by omega⟩ j)
    (hp1 : ∀ i j, p1 (ix2 i j) = w i ⟨1024 + j, by omega⟩) (hq1 : ∀ i j, q1 (ix2 i j) = u ⟨1024 + i, by omega⟩ j)
    (hp2 : ∀ i j, p2 (ix2 i j) = w i ⟨2048 + j, by omega⟩) (hq2 : ∀ i j, q2 (ix2 i j) = u ⟨2048 + i, by omega⟩ j)
    (hp3 : ∀ i j, p3 (ix2 i j) = w i ⟨3072 + j, by omega⟩) (hq3 : ∀ i j, q3 (ix2 i j) = u ⟨3072 + i, by omega⟩ j)
    (r : Fin 256) (k : Fin 1024) :
    tail m lg lb x1 p0 q0 p1 q1 p2 q2 p3 q3 (ix3 0 r k)
      = second (fun h => mlp4 h w u) (fun j => x1 (ix2 r j)) (fun j => m (ix4 0 0 3 j)) (fun j => m (ix4 0 0 4 j)) (fun j => m (ix4 0 0 5 j))
          (fun j => lg (ix2 1 j)) (fun j => lb (ix2 1 j)) k := by
  have e (z : FVec Ideal S256x1024 .f32) : shapeCast S1x256x1024 z shapeCasts_S256x1024_S1x256x1024 (ix3 0 r k) = z (ix2 r k) := by
    pointwise
  have a4 (h : FVec Ideal S256x1024 .bf16) (j : Fin 1024) :
      mlpV h p0 q0 p1 q1 p2 q2 p3 q3 (ix2 r j) = mlp4 (fun i => h (ix2 r i)) w u j := by
    show ((chunk h p0 q0 (ix2 r j) + chunk h p1 q1 (ix2 r j) : EReal) + chunk h p2 q2 (ix2 r j)) + chunk h p3 q3 (ix2 r j) = _
    simp only [chunk_at, hp0, hq0, hp1, hq1, hp2, hq2, hp3, hq3]
    rfl
  unfold tail second
  rw [e, aff1_at]
  simp only [normV_at, res2_at, a4, modV_at, mods_at]

end entries

/-- The stored value is these rows. -/
theorem tile_eq (m : Vec Ideal S1x1x6x1024 .f32) (lg lb : Vec Ideal S2x1024 .f32) (x : Vec Ideal S1x256x1024 .f32)
    (s : Vec Ideal S1x256x512 .bf16) (wa : Vec Ideal S512x1024 .bf16) (a : Vec Ideal S1x256x512 .bf16) (wb : Vec Ideal S512x1024 .bf16)
    (p0 q0 p1 q1 p2 q2 p3 q3 : Vec Ideal S1024x1024 .bf16) :
    k0_pay1 (k0_pay2 m) lg lb (k0_pay5 lg lb (k0_pay3 m s wa a wb x) (k0_pay4 m s wa a wb x))
      (k0_pay8 (k0_pay6 (k0_pay2 m) lg lb (k0_pay3 m s wa a wb x) (k0_pay4 m s wa a wb x))
        (k0_pay7 (k0_pay2 m) lg lb (k0_pay3 m s wa a wb x) (k0_pay4 m s wa a wb x) p0) q0 p1 q1 p2 q2 p3 q3) k0_pay9
    = tile m lg lb x s wa a wb p0 q0 p1 q1 p2 q2 p3 q3 := rfl

end Cert.PostCtxIdeal.Post

end
-- ==== Proof.PostCtxPure.lean ====
module

public import proofs.«01_k».proof.Proof.Gen.PostCtxIdeal.Frame
public import proofs.«01_k».proof.Proof.PostCtxTile

@[expose] public section

set_option maxRecDepth 16384

noncomputable section

open Idealize.ShloMosaic Idealize.ShloMosaic.TcCoe Idealize.SL.Sem
open Idealize.ShloMosaic.Pipeline (Dat)

namespace Cert.PostCtxIdeal.Post

open Cert.PostCtxIdeal Cert.PostCtxIdeal.Gen

/-- A row after both halves, from the rows and matrices it reads. -/
def rowOut (x : Fin 1024 → EReal) (a : Fin 512 → EReal) (wa : Fin 512 → Fin 1024 → EReal) (s : Fin 512 → EReal) (wb : Fin 512 → Fin 1024 → EReal)
    (md : Fin 6 → Fin 1024 → EReal) (lg lb : Fin 2 → Fin 1024 → EReal)
    (w : Fin 1024 → Fin 4096 → EReal) (u : Fin 4096 → Fin 1024 → EReal) : Fin 1024 → EReal :=
  Rows.second (fun h => Rows.mlp4 h w u)
    (Rows.first x (fun k => ∑ i, s i * wa i k + ∑ i, a i * wb i k) (md 2) (lg 0) (lb 0)) (md 3) (md 4) (md 5) (lg 1) (lb 1)

/-- One tile's entry. -/
theorem tile_at (m : Vec Ideal S1x1x6x1024 .f32) (lg lb : Vec Ideal S2x1024 .f32) (x : Vec Ideal S1x256x1024 .f32)
    (s : Vec Ideal S1x256x512 .bf16) (wa : Vec Ideal S512x1024 .bf16) (a : Vec Ideal S1x256x512 .bf16) (wb : Vec Ideal S512x1024 .bf16)
    (p0 q0 p1 q1 p2 q2 p3 q3 : Vec Ideal S1024x1024 .bf16)
    (w : Fin 1024 → Fin 4096 → EReal) (u : Fin 4096 → Fin 1024 → EReal)
    (hp0 : ∀ i j, p0 (ix2 i j) = w i ⟨j, by omega⟩) (hq0 : ∀ i j, q0 (ix2 i j) = u ⟨i, by omega⟩ j)
    (hp1 : ∀ i j, p1 (ix2 i j) = w i ⟨1024 + j, by omega⟩) (hq1 : ∀ i j, q1 (ix2 i j) = u ⟨1024 + i, by omega⟩ j)
    (hp2 : ∀ i j, p2 (ix2 i j) = w i ⟨2048 + j, by omega⟩) (hq2 : ∀ i j, q2 (ix2 i j) = u ⟨2048 + i, by omega⟩ j)
    (hp3 : ∀ i j, p3 (ix2 i j) = w i ⟨3072 + j, by omega⟩) (hq3 : ∀ i j, q3 (ix2 i j) = u ⟨3072 + i, by omega⟩ j)
    (r : Fin 256) (k : Fin 1024) :
    tile m lg lb x s wa a wb p0 q0 p1 q1 p2 q2 p3 q3 (ix3 0 r k)
      = rowOut (fun j => x (ix3 0 r j)) (fun j => a (ix3 0 r j)) (fun i j => wa (ix2 i j)) (fun j => s (ix3 0 r j)) (fun i j => wb (ix2 i j))
          (fun i j => m (ix4 0 0 i j)) (fun i j => lg (ix2 i j)) (fun i j => lb (ix2 i j)) w u k := by
  unfold tile rowOut
  rw [tail_at (w := w) (u := u) (hp0 := hp0) (hq0 := hq0) (hp1 := hp1) (hq1 := hq1) (hp2 := hp2) (hq2 := hq2) (hp3 := hp3) (hq3 := hq3)]
  refine congrFun (congrArg (fun z => Rows.second (fun h => Rows.mlp4 h w u) z _ _ _ _ _) (funext fun j => ?_)) k
  rw [head_at]
  refine congrFun (congrArg (fun z => Rows.first _ z _ _ _) (funext fun i => ?_)) j
  rw [proj_at]

/-- Equal rows and matrices give equal rows. -/
theorem rowOut_congr {x x' : Fin 1024 → EReal} {a a' : Fin 512 → EReal} {wa wa' : Fin 512 → Fin 1024 → EReal} {s s' : Fin 512 → EReal} {wb wb' : Fin 512 → Fin 1024 → EReal}
    {md md' : Fin 6 → Fin 1024 → EReal} {lg lg' lb lb' : Fin 2 → Fin 1024 → EReal}
    {w w' : Fin 1024 → Fin 4096 → EReal} {u u' : Fin 4096 → Fin 1024 → EReal} {k k' : Fin 1024}
    (hx : ∀ j, x j = x' j) (ha : ∀ j, a j = a' j) (hwa : ∀ i j, wa i j = wa' i j) (hs : ∀ c, s c = s' c) (hwb : ∀ i j, wb i j = wb' i j)
    (hmd : ∀ i j, md i j = md' i j) (hlg : ∀ i j, lg i j = lg' i j) (hlb : ∀ i j, lb i j = lb' i j)
    (hw : ∀ i j, w i j = w' i j) (hu : ∀ i j, u i j = u' i j) (hk : k = k') :
    rowOut x a wa s wb md lg lb w u k = rowOut x' a' wa' s' wb' md' lg' lb' w' u' k' := by
  obtain rfl : x = x' := funext hx
  obtain rfl : a = a' := funext ha
  obtain rfl : wa = wa' := funext fun i => funext (hwa i)
  obtain rfl : s = s' := funext hs
  obtain rfl : wb = wb' := funext fun i => funext (hwb i)
  obtain rfl : md = md' := funext fun i => funext (hmd i)
  obtain rfl : lg = lg' := funext fun i => funext (hlg i)
  obtain rfl : lb = lb' := funext fun i => funext (hlb i)
  obtain rfl : w = w' := funext fun i => funext (hw i)
  obtain rfl : u = u' := funext fun i => funext (hu i)
  rw [hk]

/-- The block stored at a grid point, entry by entry. -/
theorem out_at (x0 : Vec Ideal S1x256x1024 .f32) (x1 : Vec Ideal S1x1x6x1024 .f32) (x2 : Vec Ideal S1x256x512 .bf16) (x3 : Vec Ideal S1x256x512 .bf16)
    (x4 : Vec Ideal S512x1024 .bf16) (x5 : Vec Ideal S512x1024 .bf16) (x6 x7 : Vec Ideal S2x1024 .f32) (x8 : Vec Ideal S1024x4096 .bf16) (x9 : Vec Ideal S4096x1024 .bf16)
    (y : S1x256x1024.Idx) (R : Fin 256) (K : Fin 1024) (hR : (y 1 : ℕ) = R) (hK : (y 2 : ℕ) = K) :
    out0_10 x0 x1 x2 x3 x4 x5 x6 x7 x8 x9 y
      = rowOut (fun j => x0 (ix3 0 R j)) (fun j => x3 (ix3 0 R j)) (fun i j => x4 (ix2 i j)) (fun j => x2 (ix3 0 R j)) (fun i j => x5 (ix2 i j))
          (fun i j => x1 (ix4 0 0 i j)) (fun i j => x6 (ix2 i j)) (fun i j => x7 (ix2 i j)) (fun i j => x8 (ix2 i j)) (fun i j => x9 (ix2 i j)) K := by
  unfold_out out0_10
  canon_tiles x h
  obtain ⟨r, k, rfl⟩ := Cert.Rows.row_idx x
  have e1 : (y 1 : ℕ) = r.val := h1
  have e2 : (y 2 : ℕ) = k.val := h2
  have eR : R = r := Fin.ext (hR.symm.trans e1)
  have eK : K = k := Fin.ext (hK.symm.trans e2)
  refine (congrFun (tile_eq _ _ _ _ _ _ _ _ _ _ _ _ _ _ _ _) _).trans ?_
  refine (tile_at (w := fun i j => x8 (ix2 i j)) (u := fun i j => x9 (ix2 i j))
    (hp0 := fun i j => by pointwise) (hq0 := fun i j => by pointwise) (hp1 := fun i j => by pointwise) (hq1 := fun i j => by pointwise)
    (hp2 := fun i j => by pointwise) (hq2 := fun i j => by pointwise) (hp3 := fun i j => by pointwise) (hq3 := fun i j => by pointwise) ..).trans ?_
  subst eR eK
  refine rowOut_congr (fun j => ?_) (fun j => ?_) (fun i j => ?_) (fun j => ?_) (fun i j => ?_) (fun i j => ?_) (fun i j => ?_) (fun i j => ?_)
    (fun i j => rfl) (fun i j => rfl) rfl <;> pointwise

/-- The array the call returns, entry by entry, from the arrays its windows read. -/
def postArr (X : FVec Ideal S4x256x1024 .f32) (M : FVec Ideal S4x2x6x1024 .f32) (S A : FVec Ideal S4x256x512 .bf16)
    (WA WB : FVec Ideal S512x1024 .bf16) (LG LB : FVec Ideal S2x1024 .f32) (W : FVec Ideal S1024x4096 .bf16) (U : FVec Ideal S4096x1024 .bf16) :
    FVec Ideal S4x256x1024 .f32 := fun j =>
  rowOut (fun k => X (ix3 (j 0) (j 1) k)) (fun k => A (ix3 (j 0) (j 1) k)) (fun i k => WA (ix2 i k))
    (fun k => S (ix3 (j 0) (j 1) k)) (fun i k => WB (ix2 i k))
    (fun i k => M (ix4 (j 0) 1 i k)) (fun i k => LG (ix2 i k)) (fun i k => LB (ix2 i k)) (fun i k => W (ix2 i k)) (fun i k => U (ix2 i k)) (j 2)

variable (m : (ℓ : Loc nD τ sig) → Buf (Elt Ideal) ℓ)

/-- Where each window's block sits, at every grid point. -/
theorem idx : ∀ t : Fin cfg0.N, win0_0.index t = ![t.val, 0, 0] ∧ win0_1.index t = ![t.val, 1, 0, 0]
    ∧ win0_2.index t = ![t.val, 0, 0] ∧ win0_3.index t = ![t.val, 0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![t.val, 0, 0] :=
  (by decide +kernel : ∀ t : Fin grid0.N, _)

/-- There are fewer than 4 points. -/
theorem pt_lt (t : Fin cfg0.N) : t.val < 4 := lt_of_lt_of_eq t.isLt N_0

/-- An entry of the tokens' block, read in the array at the block's place. -/
theorem iblk0_at (c : Dev nD) (t : Fin cfg0.N) (y : ((cfg0.win 0).xblock (cfg0.grid.coords t)).Idx) (i : S4x256x1024.Idx)
    (h : ∀ a, (i a : ℕ) = win0_0.index t a * win0_0.size a + (y a : ℕ)) :
    iblk m c 0 t y = V m c main_arg0 i := by
  have e : (win0_0.rect t).emb y = i := funext fun a => Fin.ext ((win0_0.rect_emb_val t y a).trans (h a).symm)
  unfold iblk
  rw [View.read_apply]
  generalize V m c = W
  exact (cast_eq _ _).trans (congrArg (W main_arg0) e)

/-- An entry of the modulation vectors' block, read in the array at the block's place. -/
theorem iblk1_at (c : Dev nD) (t : Fin cfg0.N) (y : ((cfg0.win 1).xblock (cfg0.grid.coords t)).Idx) (i : S4x2x6x1024.Idx)
    (h : ∀ a, (i a : ℕ) = win0_1.index t a * win0_1.size a + (y a : ℕ)) :
    iblk m c 1 t y = V m c main_arg1 i := by
  have e : (win0_1.rect t).emb y = i := funext fun a => Fin.ext ((win0_1.rect_emb_val t y a).trans (h a).symm)
  unfold iblk
  rw [View.read_apply]
  generalize V m c = W
  exact (cast_eq _ _).trans (congrArg (W main_arg1) e)

/-- An entry of the first branch's block, read in the array at the block's place. -/
theorem iblk2_at (c : Dev nD) (t : Fin cfg0.N) (y : ((cfg0.win 2).xblock (cfg0.grid.coords t)).Idx) (i : S4x256x512.Idx)
    (h : ∀ a, (i a : ℕ) = win0_2.index t a * win0_2.size a + (y a : ℕ)) :
    iblk m c 2 t y = V m c main_v1 i := by
  have e : (win0_2.rect t).emb y = i := funext fun a => Fin.ext ((win0_2.rect_emb_val t y a).trans (h a).symm)
  unfold iblk
  rw [View.read_apply]
  generalize V m c = W
  exact (cast_eq _ _).trans (congrArg (W main_v1) e)

/-- An entry of the second branch's block, read in the array at the block's place. -/
theorem iblk3_at (c : Dev nD) (t : Fin cfg0.N) (y : ((cfg0.win 3).xblock (cfg0.grid.coords t)).Idx) (i : S4x256x512.Idx)
    (h : ∀ a, (i a : ℕ) = win0_3.index t a * win0_3.size a + (y a : ℕ)) :
    iblk m c 3 t y = V m c main_v2 i := by
  have e : (win0_3.rect t).emb y = i := funext fun a => Fin.ext ((win0_3.rect_emb_val t y a).trans (h a).symm)
  unfold iblk
  rw [View.read_apply]
  generalize V m c = W
  exact (cast_eq _ _).trans (congrArg (W main_v2) e)

/-- An entry of the first branch's weights' block, read in the array at the block's place. -/
theorem iblk4_at (c : Dev nD) (t : Fin cfg0.N) (y : ((cfg0.win 4).xblock (cfg0.grid.coords t)).Idx) (i : S512x1024.Idx)
    (h : ∀ a, (i a : ℕ) = win0_4.index t a * win0_4.size a + (y a : ℕ)) :
    iblk m c 4 t y = V m c main_v3 i := by
  have e : (win0_4.rect t).emb y = i := funext fun a => Fin.ext ((win0_4.rect_emb_val t y a).trans (h a).symm)
  unfold iblk
  rw [View.read_apply]
  generalize V m c = W
  exact (cast_eq _ _).trans (congrArg (W main_v3) e)

/-- An entry of the second branch's weights' block, read in the array at the block's place. -/
theorem iblk5_at (c : Dev nD) (t : Fin cfg0.N) (y : ((cfg0.win 5).xblock (cfg0.grid.coords t)).Idx) (i : S512x1024.Idx)
    (h : ∀ a, (i a : ℕ) = win0_5.index t a * win0_5.size a + (y a : ℕ)) :
    iblk m c 5 t y = V m c main_v4 i := by
  have e : (win0_5.rect t).emb y = i := funext fun a => Fin.ext ((win0_5.rect_emb_val t y a).trans (h a).symm)
  unfold iblk
  rw [View.read_apply]
  generalize V m c = W
  exact (cast_eq _ _).trans (congrArg (W main_v4) e)

/-- An entry of the scales' block, read in the array at the block's place. -/
theorem iblk6_at (c : Dev nD) (t : Fin cfg0.N) (y : ((cfg0.win 6).xblock (cfg0.grid.coords t)).Idx) (i : S2x1024.Idx)
    (h : ∀ a, (i a : ℕ) = win0_6.index t a * win0_6.size a + (y a : ℕ)) :
    iblk m c 6 t y = V m c main_arg5 i := by
  have e : (win0_6.rect t).emb y = i := funext fun a => Fin.ext ((win0_6.rect_emb_val t y a).trans (h a).symm)
  unfold iblk
  rw [View.read_apply]
  generalize V m c = W
  exact (cast_eq _ _).trans (congrArg (W main_arg5) e)

/-- An entry of the shifts' block, read in the array at the block's place. -/
theorem iblk7_at (c : Dev nD) (t : Fin cfg0.N) (y : ((cfg0.win 7).xblock (cfg0.grid.coords t)).Idx) (i : S2x1024.Idx)
    (h : ∀ a, (i a : ℕ) = win0_7.index t a * win0_7.size a + (y a : ℕ)) :
    iblk m c 7 t y = V m c main_arg6 i := by
  have e : (win0_7.rect t).emb y = i := funext fun a => Fin.ext ((win0_7.rect_emb_val t y a).trans (h a).symm)
  unfold iblk
  rw [View.read_apply]
  generalize V m c = W
  exact (cast_eq _ _).trans (congrArg (W main_arg6) e)

/-- An entry of the first channel weights' block, read in the array at the block's place. -/
theorem iblk8_at (c : Dev nD) (t : Fin cfg0.N) (y : ((cfg0.win 8).xblock (cfg0.grid.coords t)).Idx) (i : S1024x4096.Idx)
    (h : ∀ a, (i a : ℕ) = win0_8.index t a * win0_8.size a + (y a : ℕ)) :
    iblk m c 8 t y = V m c main_v5 i := by
  have e : (win0_8.rect t).emb y = i := funext fun a => Fin.ext ((win0_8.rect_emb_val t y a).trans (h a).symm)
  unfold iblk
  rw [View.read_apply]
  generalize V m c = W
  exact (cast_eq _ _).trans (congrArg (W main_v5) e)

/-- An entry of the second channel weights' block, read in the array at the block's place. -/
theorem iblk9_at (c : Dev nD) (t : Fin cfg0.N) (y : ((cfg0.win 9).xblock (cfg0.grid.coords t)).Idx) (i : S4096x1024.Idx)
    (h : ∀ a, (i a : ℕ) = win0_9.index t a * win0_9.size a + (y a : ℕ)) :
    iblk m c 9 t y = V m c main_v6 i := by
  have e : (win0_9.rect t).emb y = i := funext fun a => Fin.ext ((win0_9.rect_emb_val t y a).trans (h a).symm)
  unfold iblk
  rw [View.read_apply]
  generalize V m c = W
  exact (cast_eq _ _).trans (congrArg (W main_v6) e)

/-- The whole array after the run. -/
theorem final (c : Dev nD) : (dats m 0 c).arrAt 10 (cfgs 0).N
    = postArr (V m c main_arg0) (V m c main_arg1) (V m c main_v1) (V m c main_v2) (V m c main_v3) (V m c main_v4) (V m c main_arg5) (V m c main_arg6)
        (V m c main_v5) (V m c main_v6) := by
  refine (dats m 0 c).arrAt_eq_of_covers 10 _ (by decide +kernel) fun t _ y => ?_
  blk_simp
  rw [after0_10]
  have y1 : (y 1 : ℕ) < 256 := (y 1).isLt
  have y2 : (y 2 : ℕ) < 1024 := (y 2).isLt
  have y0 : (y 0 : ℕ) < 1 := (y 0).isLt
  have ht := pt_lt t
  refine (out_at _ _ _ _ _ _ _ _ _ _ _ ⟨y 1, y1⟩ ⟨y 2, y2⟩ rfl rfl).trans ?_
  have e (a) : (((win0_10.rect t).emb y) a : ℕ) = win0_10.index t a * win0_10.size a + (y a : ℕ) := win0_10.rect_emb_val t y a
  obtain ⟨i0, i1, i2, i3, i4, i5, i6, i7, i8, i9, i10⟩ := idx t
  rw [i10] at e
  have e0 : (((win0_10.rect t).emb y) 0 : ℕ) = t.val := by
    refine (e 0).trans ?_
    show t.val * 1 + (y 0 : ℕ) = t.val
    omega
  have e1 : (((win0_10.rect t).emb y) 1 : ℕ) = 0 * 256 + (y 1 : ℕ) := e 1
  have e2 : (((win0_10.rect t).emb y) 2 : ℕ) = (y 2 : ℕ) := by
    refine (e 2).trans ?_
    show 0 * 1024 + (y 2 : ℕ) = (y 2 : ℕ)
    omega
  obtain ⟨z, hz⟩ : ∃ z, z = (win0_10.blk t).view.emb y := ⟨_, rfl⟩
  rw [← hz]
  have e0 : (z 0 : ℕ) = t.val := by rw [hz]; exact e0
  have e1 : (z 1 : ℕ) = 0 * 256 + (y 1 : ℕ) := by rw [hz]; exact e1
  have e2 : (z 2 : ℕ) = (y 2 : ℕ) := by rw [hz]; exact e2
  unfold postArr
  have z1 : (z 1 : ℕ) < 256 := (z 1).isLt
  refine rowOut_congr (fun j => ?_) (fun j => ?_) (fun i j => ?_) (fun d => ?_) (fun i j => ?_) (fun i j => ?_) (fun i j => ?_) (fun i j => ?_)
    (fun i j => ?_) (fun i j => ?_) (Fin.ext e2.symm)
  · refine iblk0_at m c t _ _ fun a => ?_
    rw [i0]
    match a with
    | ⟨0, _⟩ => show (z 0 : ℕ) = t.val * 1 + 0; omega
    | ⟨1, _⟩ => show (z 1 : ℕ) = 0 * 256 + (y 1 : ℕ); exact e1
    | ⟨2, _⟩ => show j.val = 0 * 1024 + j.val; omega
  · refine iblk3_at m c t _ _ fun a => ?_
    rw [i3]
    match a with
    | ⟨0, _⟩ => show (z 0 : ℕ) = t.val * 1 + 0; omega
    | ⟨1, _⟩ => show (z 1 : ℕ) = 0 * 256 + (y 1 : ℕ); exact e1
    | ⟨2, _⟩ => show j.val = 0 * 512 + j.val; omega
  · refine iblk4_at m c t _ _ fun a => ?_
    rw [i4]
    match a with
    | ⟨0, _⟩ => show i.val = 0 * 512 + i.val; omega
    | ⟨1, _⟩ => show j.val = 0 * 1024 + j.val; omega
  · refine iblk2_at m c t _ _ fun a => ?_
    rw [i2]
    match a with
    | ⟨0, _⟩ => show (z 0 : ℕ) = t.val * 1 + 0; omega
    | ⟨1, _⟩ => show (z 1 : ℕ) = 0 * 256 + (y 1 : ℕ); exact e1
    | ⟨2, _⟩ => show d.val = 0 * 512 + d.val; omega
  · refine iblk5_at m c t _ _ fun a => ?_
    rw [i5]
    match a with
    | ⟨0, _⟩ => show i.val = 0 * 512 + i.val; omega
    | ⟨1, _⟩ => show j.val = 0 * 1024 + j.val; omega
  · refine iblk1_at m c t _ _ fun a => ?_
    rw [i1]
    match a with
    | ⟨0, _⟩ => show (z 0 : ℕ) = t.val * 1 + 0; omega
    | ⟨1, _⟩ => show 1 = 1 * 1 + 0; omega
    | ⟨2, _⟩ => show i.val = 0 * 6 + i.val; omega
    | ⟨3, _⟩ => show j.val = 0 * 1024 + j.val; omega
  · refine iblk6_at m c t _ _ fun a => ?_
    rw [i6]
    match a with
    | ⟨0, _⟩ => show i.val = 0 * 2 + i.val; omega
    | ⟨1, _⟩ => show j.val = 0 * 1024 + j.val; omega
  · refine iblk7_at m c t _ _ fun a => ?_
    rw [i7]
    match a with
    | ⟨0, _⟩ => show i.val = 0 * 2 + i.val; omega
    | ⟨1, _⟩ => show j.val = 0 * 1024 + j.val; omega
  · refine iblk8_at m c t _ _ fun a => ?_
    rw [i8]
    match a with
    | ⟨0, _⟩ => show i.val = 0 * 1024 + i.val; omega
    | ⟨1, _⟩ => show j.val = 0 * 4096 + j.val; omega
  · refine iblk9_at m c t _ _ fun a => ?_
    rw [i9]
    match a with
    | ⟨0, _⟩ => show i.val = 0 * 4096 + i.val; omega
    | ⟨1, _⟩ => show j.val = 0 * 1024 + j.val; omega

/-- The call runs, its result ends at the array above and its arguments end unchanged. -/
theorem ran (g : Dev nD → PrngReg) : θ_run defs (onTc (τ := τ) (main (F := Ideal))) ⟨m, fun _ => 0, g⟩ fun r => ∀ c : Dev nD,
      r.2.mem ((c : Thread nD τ).loc main_v7) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h.1 c).1 10, h.2 c⟩) (θ_run_and (run_main m g) (unchanged m g))

end Cert.PostCtxIdeal.Post

end
-- ==== Proof.PostCtxEntry.lean ====
module

public import proofs.«01_k».proof.Proof.Gen.PostCtxIdeal.Frame
public import Idealize.ShloMosaic.Lib.Pipeline.ValueKit
public import Idealize.ShloMosaic.Lib.Pointwise
public import Idealize.ShloMosaic.Lib.Claim
public import proofs.«01_k».proof.Proof.Layout

@[expose] public section

set_option maxRecDepth 16384

noncomputable section

open Idealize.ShloMosaic Idealize.ShloMosaic.TcCoe Idealize.SL.Sem
open Idealize.ShloMosaic.Pipeline (Dat)

namespace Cert.PostCtxIdeal.Post

open Cert.PostCtxIdeal Cert.PostCtxIdeal.Gen

/-- The first branch's weights. -/
def wA (w : FVec Ideal S1024x1024 .f32) : FVec Ideal S512x1024 .bf16 :=
  extractStridedSlice S512x1024 ![0, 0] (truncf .bf16 w bitsLt_bf16_f32 : FVec Ideal S1024x1024 .bf16) slices_S1024x1024_S512x1024_0_0

/-- The second branch's weights. -/
def wB (w : FVec Ideal S1024x1024 .f32) : FVec Ideal S512x1024 .bf16 :=
  extractStridedSlice S512x1024 ![512, 0] (truncf .bf16 w bitsLt_bf16_f32 : FVec Ideal S1024x1024 .bf16) slices_S1024x1024_S512x1024_512_0

theorem wA_at (w : FVec Ideal S1024x1024 .f32) (n : Fin 512) (k : Fin 1024) : wA w (ix2 n k) = w (ix2 ⟨n.val, by omega⟩ k) := by
  pointwise [wA]

theorem wB_at (w : FVec Ideal S1024x1024 .f32) (n : Fin 512) (k : Fin 1024) : wB w (ix2 n k) = w (ix2 ⟨512 + n.val, by omega⟩ k) := by
  pointwise [wB]

variable (m : (ℓ : Loc nD τ sig) → Buf (Elt Ideal) ℓ)

theorem V1 (c : Dev nD) : V m c main_v1 = (truncf .bf16 (m ((c : Thread nD τ).loc main_arg2) : FVec Ideal S4x256x512 .f32) bitsLt_bf16_f32 : FVec Ideal S4x256x512 .bf16) := by
  unfold V
  simp only [hostOps0, List.flatten_cons, List.flatten_nil, List.append_nil, List.cons_append, List.nil_append]
  after_results

theorem V2 (c : Dev nD) : V m c main_v2 = (truncf .bf16 (m ((c : Thread nD τ).loc main_arg3) : FVec Ideal S4x256x512 .f32) bitsLt_bf16_f32 : FVec Ideal S4x256x512 .bf16) := by
  unfold V
  simp only [hostOps0, List.flatten_cons, List.flatten_nil, List.append_nil, List.cons_append, List.nil_append]
  after_results

theorem V3 (c : Dev nD) : V m c main_v3 = wA (m ((c : Thread nD τ).loc main_arg4)) := by
  unfold V
  simp only [hostOps0, List.flatten_cons, List.flatten_nil, List.append_nil, List.cons_append, List.nil_append]
  after_results; rfl

theorem V4 (c : Dev nD) : V m c main_v4 = wB (m ((c : Thread nD τ).loc main_arg4)) := by
  unfold V
  simp only [hostOps0, List.flatten_cons, List.flatten_nil, List.append_nil, List.cons_append, List.nil_append]
  after_results; rfl

theorem V5 (c : Dev nD) : V m c main_v5 = (truncf .bf16 (m ((c : Thread nD τ).loc main_arg7) : FVec Ideal S1024x4096 .f32) bitsLt_bf16_f32 : FVec Ideal S1024x4096 .bf16) := by
  unfold V
  simp only [hostOps0, List.flatten_cons, List.flatten_nil, List.append_nil, List.cons_append, List.nil_append]
  after_results

theorem V6 (c : Dev nD) : V m c main_v6 = (truncf .bf16 (m ((c : Thread nD τ).loc main_arg8) : FVec Ideal S4096x1024 .f32) bitsLt_bf16_f32 : FVec Ideal S4096x1024 .bf16) := by
  unfold V
  simp only [hostOps0, List.flatten_cons, List.flatten_nil, List.append_nil, List.cons_append, List.nil_append]
  after_results

end Cert.PostCtxIdeal.Post

end
-- ==== Proof.PostCtxRef.lean ====
module

public import proofs.«01_k».proof.Proof.Gen.PostCtxRefIdeal.Run
public import Idealize.ShloMosaic.Lib.Pipeline.ValueKit
public import Idealize.ShloMosaic.Lib.Pointwise
public import Idealize.ShloMosaic.Lib.Claim
public import proofs.«01_k».proof.Proof.Layout
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.PostCtxRefIdeal.Post

open Cert.PostCtxRefIdeal Cert.PostCtxRefIdeal.Gen

/-- The means of the rows. -/
def meanV (v : FVec Ideal S4x256x1024 .f32) : FVec Ideal S4x256x1 .f32 :=
  Host.divf (broadcastInDim S4x256x1 ![0, 1] bcast_S4x256_S4x256x1_0_1 (Host.reduceAdd v (constant S_ .f32 0x00000000#32) reducesTo_S4x256x1024_S4x256_d2 h_S_)) (broadcastInDim S4x256x1 ![] bcast_S_S4x256x1 (constant S_ .f32 0x44800000#32))

/-- Rows less their means. -/
def cen (v : FVec Ideal S4x256x1024 .f32) : FVec Ideal S4x256x1024 .f32 :=
  subf v (broadcastInDim S4x256x1024 ![0, 1, 2] bcast_S4x256x1_S4x256x1024_0_1_2 (meanV v))

/-- Rows less their means, over their standard deviations. -/
def normV (v : FVec Ideal S4x256x1024 .f32) : FVec Ideal S4x256x1024 .f32 :=
  mulf (cen v) (broadcastInDim S4x256x1024 ![0, 1, 2] bcast_S4x256x1_S4x256x1024_0_1_2 (Host.rsqrt (addf (meanV (mulf (cen v) (cen v)))
    (broadcastInDim S4x256x1 ![] bcast_S_S4x256x1 (constant S_ .f32 0x3727C5AC#32)))))

/-- A row of a table of two, for every token. -/
def row0 (g : FVec Ideal S2x1024 .f32) : FVec Ideal S4x256x1024 .f32 :=
  broadcastInDim S4x256x1024 ![0, 1, 2] bcast_S1x1x1024_S4x256x1024_0_1_2 (broadcastInDim S1x1x1024 ![2] bcast_S1024_S1x1x1024_2 (shapeCast S1024 (extractStridedSlice S1x1024 ![0, 0] g slices_S2x1024_S1x1024_0_0) shapeCasts_S1x1024_S1024))

/-- The other row. -/
def row1 (g : FVec Ideal S2x1024 .f32) : FVec Ideal S4x256x1024 .f32 :=
  broadcastInDim S4x256x1024 ![0, 1, 2] bcast_S1x1x1024_S4x256x1024_0_1_2 (broadcastInDim S1x1x1024 ![2] bcast_S1024_S1x1x1024_2 (shapeCast S1024 (extractStridedSlice S1x1024 ![1, 0] g slices_S2x1024_S1x1024_1_0) shapeCasts_S1x1024_S1024))

/-- The context tokens' modulation vectors. -/
def mods (m : FVec Ideal S4x2x6x1024 .f32) : FVec Ideal S4x6x1024 .f32 :=
  shapeCast S4x6x1024 (extractStridedSlice S4x1x6x1024 ![0, 1, 0, 0] m slices_S4x2x6x1024_S4x1x6x1024_0_1_0_0) shapeCasts_S4x1x6x1024_S4x6x1024

/-- The mixer's residual. -/
def res1 (m : FVec Ideal S4x6x1024 .f32) (x y : FVec Ideal S4x256x1024 .f32) : FVec Ideal S4x256x1024 .f32 :=
  addf (mulf (broadcastInDim S4x256x1024 ![] bcast_S_S4x256x1024 (constant S_ .f32 0x3FB504F3#32)) x)
    (mulf (broadcastInDim S4x256x1024 ![0, 1, 2] bcast_S4x1x1024_S4x256x1024_0_1_2 (extractStridedSlice S4x1x1024 ![0, 2, 0] m slices_S4x6x1024_S4x1x1024_0_2_0)) y)

/-- The channel mixer's residual. -/
def res2 (m : FVec Ideal S4x6x1024 .f32) (x y : FVec Ideal S4x256x1024 .f32) : FVec Ideal S4x256x1024 .f32 :=
  addf (mulf (broadcastInDim S4x256x1024 ![] bcast_S_S4x256x1024 (constant S_ .f32 0x3FB504F3#32)) x)
    (mulf (broadcastInDim S4x256x1024 ![0, 1, 2] bcast_S4x1x1024_S4x256x1024_0_1_2 (extractStridedSlice S4x1x1024 ![0, 5, 0] m slices_S4x6x1024_S4x1x1024_0_5_0)) y)

/-- The modulated rows. -/
def modV (m : FVec Ideal S4x6x1024 .f32) (v : FVec Ideal S4x256x1024 .f32) : FVec Ideal S4x256x1024 .f32 :=
  addf (mulf v (broadcastInDim S4x256x1024 ![0, 1, 2] bcast_S4x1x1024_S4x256x1024_0_1_2 (addf (broadcastInDim S4x1x1024 ![] bcast_S_S4x1x1024 (constant S_ .f32 0x3F800000#32)) (extractStridedSlice S4x1x1024 ![0, 4, 0] m slices_S4x6x1024_S4x1x1024_0_4_0))))
    (broadcastInDim S4x256x1024 ![0, 1, 2] bcast_S4x1x1024_S4x256x1024_0_1_2 (extractStridedSlice S4x1x1024 ![0, 3, 0] m slices_S4x6x1024_S4x1x1024_0_3_0))

/-- The hidden units, cut at zero. -/
def hid (h : FVec Ideal S4x256x1024 .f32) (w : FVec Ideal S1024x4096 .f32) : FVec Ideal S4x256x4096 .f32 :=
  maximumf (Host.dotGeneral dot_S4x256x1024_S1024x4096_S4x256x4096_2_0_01_1_n_n none h w) (broadcastInDim S4x256x4096 ![] bcast_S_S4x256x4096 (constant S_ .f32 0x00000000#32))

/-- The channel mixer. -/
def mlpV (h : FVec Ideal S4x256x1024 .f32) (w : FVec Ideal S1024x4096 .f32) (u : FVec Ideal S4096x1024 .f32) : FVec Ideal S4x256x1024 .f32 :=
  Host.dotGeneral dot_S4x256x4096_S4096x1024_S4x256x1024_2_0_01_1_n_n none (mulf (hid h w) (hid h w)) u

/-- Both branches side by side. -/
def cat (p q : FVec Ideal S4x256x512 .f32) : FVec Ideal S4x256x1024 .f32 :=
  concatenate S4x256x1024 2 [⟨S4x256x512, p⟩, ⟨S4x256x512, q⟩] concatenates_S4x256x512_S4x256x512_S4x256x1024_d2

/-- The output projection. -/
def proj (y : FVec Ideal S4x256x1024 .f32) (w : FVec Ideal S1024x1024 .f32) : FVec Ideal S4x256x1024 .f32 :=
  Host.dotGeneral dot_S4x256x1024_S1024x1024_S4x256x1024_2_0_01_1_n_n none y w

/-- The first half: residual and norm. -/
def head (x : FVec Ideal S4x256x1024 .f32) (m : FVec Ideal S4x6x1024 .f32) (y : FVec Ideal S4x256x1024 .f32) (lg lb : FVec Ideal S2x1024 .f32) : FVec Ideal S4x256x1024 .f32 :=
  addf (mulf (normV (res1 m x y)) (row0 lg)) (row0 lb)

/-- The second half. -/
def tail (x1 : FVec Ideal S4x256x1024 .f32) (m : FVec Ideal S4x6x1024 .f32) (lg lb : FVec Ideal S2x1024 .f32)
    (w : FVec Ideal S1024x4096 .f32) (u : FVec Ideal S4096x1024 .f32) : FVec Ideal S4x256x1024 .f32 :=
  addf (mulf (normV (res2 m x1 (mlpV (modV m (normV x1)) w u))) (row1 lg)) (row1 lb)

/-- The reference's result. -/
def post (x : FVec Ideal S4x256x1024 .f32) (mt : FVec Ideal S4x2x6x1024 .f32) (y a : FVec Ideal S4x256x512 .f32)
    (wo : FVec Ideal S1024x1024 .f32) (lg lb : FVec Ideal S2x1024 .f32) (w : FVec Ideal S1024x4096 .f32) (u : FVec Ideal S4096x1024 .f32) : FVec Ideal S4x256x1024 .f32 :=
  tail (head x (mods mt) (proj (cat y a) wo) lg lb) (mods mt) lg lb w u

section entries
open Cert.Rows

theorem ofBits_zero : Ideal.ofBits .f32 0x00000000#32 = (0 : EReal) := by
  simp [Ideal.ofBits, Ideal.ieee]

theorem meanV_at (v : FVec Ideal S4x256x1024 .f32) (b : Fin 4) (t : Fin 256) (z : Fin 1) :
    meanV v (ix3 b t z) = mean (fun j => v (ix3 b t j)) := by
  pointwise [meanV, mean]

theorem cen_at (v : FVec Ideal S4x256x1024 .f32) (b : Fin 4) (t : Fin 256) (k : Fin 1024) :
    cen v (ix3 b t k) = (v (ix3 b t k) : EReal) - mean (fun j => v (ix3 b t j)) := by
  pointwise [cen, meanV_at]

theorem normV_at (v : FVec Ideal S4x256x1024 .f32) (b : Fin 4) (t : Fin 256) (k : Fin 1024) :
    normV v (ix3 b t k) = Rows.norm (fun j => v (ix3 b t j)) k := by
  pointwise [normV, Rows.norm, meanV_at, cen_at]

theorem row0_at (g : FVec Ideal S2x1024 .f32) (b : Fin 4) (t : Fin 256) (k : Fin 1024) : row0 g (ix3 b t k) = g (ix2 0 k) := by
  pointwise [row0]

theorem row1_at (g : FVec Ideal S2x1024 .f32) (b : Fin 4) (t : Fin 256) (k : Fin 1024) : row1 g (ix3 b t k) = g (ix2 1 k) := by
  pointwise [row1]

theorem mods_at (m : FVec Ideal S4x2x6x1024 .f32) (b : Fin 4) (a : Fin 6) (k : Fin 1024) : mods m (ix3 b a k) = m (ix4 b 1 a k) := by
  pointwise [mods]

theorem res1_at (m : FVec Ideal S4x6x1024 .f32) (x y : FVec Ideal S4x256x1024 .f32) (b : Fin 4) (t : Fin 256) (k : Fin 1024) :
    res1 m x y (ix3 b t k) = resid (fun j => x (ix3 b t j)) (fun j => m (ix3 b 2 j)) (fun j => y (ix3 b t j)) k := by
  pointwise [res1, resid]

theorem res2_at (m : FVec Ideal S4x6x1024 .f32) (x y : FVec Ideal S4x256x1024 .f32) (b : Fin 4) (t : Fin 256) (k : Fin 1024) :
    res2 m x y (ix3 b t k) = resid (fun j => x (ix3 b t j)) (fun j => m (ix3 b 5 j)) (fun j => y (ix3 b t j)) k := by
  pointwise [res2, resid]

theorem modV_at (m : FVec Ideal S4x6x1024 .f32) (v : FVec Ideal S4x256x1024 .f32) (b : Fin 4) (t : Fin 256) (k : Fin 1024) :
    modV m v (ix3 b t k) = modulate (fun j => v (ix3 b t j)) (fun j => m (ix3 b 3 j)) (fun j => m (ix3 b 4 j)) k := by
  pointwise [modV, modulate]

theorem hid_at (h : FVec Ideal S4x256x1024 .f32) (w : FVec Ideal S1024x4096 .f32) (b : Fin 4) (t : Fin 256) (k : Fin 4096) :
    hid h w (ix3 b t k) = Rows.hidden (fun j => h (ix3 b t j)) (fun i j => w (ix2 i j)) k := by
  pointwise [hid, Rows.hidden, ofBits_zero]

theorem mlpV_at (h : FVec Ideal S4x256x1024 .f32) (w : FVec Ideal S1024x4096 .f32) (u : FVec Ideal S4096x1024 .f32) (b : Fin 4) (t : Fin 256) (k : Fin 1024) :
    mlpV h w u (ix3 b t k) = mlp (fun j => h (ix3 b t j)) (fun i j => w (ix2 i j)) (fun i j => u (ix2 i j)) k := by
  pointwise [mlpV, mlp, hid_at]

theorem proj_at (y : FVec Ideal S4x256x1024 .f32) (w : FVec Ideal S1024x1024 .f32) (b : Fin 4) (t : Fin 256) (k : Fin 1024) :
    proj y w (ix3 b t k) = ∑ n : Fin 1024, (y (ix3 b t n) : EReal) * w (ix2 n k) := by
  pointwise [proj]

theorem cat_at (p q : FVec Ideal S4x256x512 .f32) (b : Fin 4) (t : Fin 256) (n : Fin 1024) :
    cat p q (ix3 b t n) = if h : n.val < 512 then (p (ix3 b t ⟨n.val, h⟩) : EReal) else q (ix3 b t ⟨n.val - 512, by omega⟩) := by
  pointwise [cat]

theorem head_at (x : FVec Ideal S4x256x1024 .f32) (m : FVec Ideal S4x6x1024 .f32) (y : FVec Ideal S4x256x1024 .f32) (lg lb : FVec Ideal S2x1024 .f32)
    (b : Fin 4) (t : Fin 256) (k : Fin 1024) :
    head x m y lg lb (ix3 b t k) = first (fun j => x (ix3 b t j)) (fun j => y (ix3 b t j)) (fun j => m (ix3 b 2 j)) (fun j => lg (ix2 0 j)) (fun j => lb (ix2 0 j)) k := by
  show (normV (res1 m x y) (ix3 b t k) : EReal) * row0 lg (ix3 b t k) + row0 lb (ix3 b t k) = _
  rw [normV_at, row0_at, row0_at]
  simp only [res1_at]
  rfl

theorem tail_at (x1 : FVec Ideal S4x256x1024 .f32) (m : FVec Ideal S4x6x1024 .f32) (lg lb : FVec Ideal S2x1024 .f32)
    (w : FVec Ideal S1024x4096 .f32) (u : FVec Ideal S4096x1024 .f32) (b : Fin 4) (t : Fin 256) (k : Fin 1024) :
    tail x1 m lg lb w u (ix3 b t k) = second (fun h => mlp h (fun i j => w (ix2 i j)) (fun i j => u (ix2 i j))) (fun j => x1 (ix3 b t j))
      (fun j => m (ix3 b 3 j)) (fun j => m (ix3 b 4 j)) (fun j => m (ix3 b 5 j)) (fun j => lg (ix2 1 j)) (fun j => lb (ix2 1 j)) k := by
  show (normV (res2 m x1 (mlpV (modV m (normV x1)) w u)) (ix3 b t k) : EReal) * row1 lg (ix3 b t k) + row1 lb (ix3 b t k) = _
  rw [normV_at, row1_at, row1_at]
  simp only [res2_at, mlpV_at, modV_at, normV_at]
  rfl

/-- The reference's result, entry by entry. -/
theorem post_at (x : FVec Ideal S4x256x1024 .f32) (mt : FVec Ideal S4x2x6x1024 .f32) (y a : FVec Ideal S4x256x512 .f32)
    (wo : FVec Ideal S1024x1024 .f32) (lg lb : FVec Ideal S2x1024 .f32) (w : FVec Ideal S1024x4096 .f32) (u : FVec Ideal S4096x1024 .f32) (b : Fin 4) (t : Fin 256) (k : Fin 1024) :
    post x mt y a wo lg lb w u (ix3 b t k)
      = second (fun h => mlp h (fun i j => w (ix2 i j)) (fun i j => u (ix2 i j)))
          (first (fun j => x (ix3 b t j)) (fun j => ∑ n : Fin 1024, (cat y a (ix3 b t n) : EReal) * wo (ix2 n j))
            (fun j => mt (ix4 b 1 2 j)) (fun j => lg (ix2 0 j)) (fun j => lb (ix2 0 j)))
          (fun j => mt (ix4 b 1 3 j)) (fun j => mt (ix4 b 1 4 j)) (fun j => mt (ix4 b 1 5 j)) (fun j => lg (ix2 1 j)) (fun j => lb (ix2 1 j)) k := by
  unfold post
  rw [tail_at]
  simp only [head_at, proj_at, mods_at]

end entries

end Cert.PostCtxRefIdeal.Post

end
-- ==== Proof.PostCtx.lean ====
module

public import proofs.«01_k».proof.Proof.PostCtxPure
public import proofs.«01_k».proof.Proof.PostCtxEntry
public import proofs.«01_k».proof.Proof.PostCtxRef

@[expose] public section

set_option maxRecDepth 16384

noncomputable section

open Idealize.ShloMosaic Idealize.ShloMosaic.TcCoe Idealize.SL.Sem

namespace Cert.PostCtxEq

open Cert.PostCtxIdeal (S4x256x1024 S4x2x6x1024 S4x256x512 S1024x1024 S512x1024 S2x1024 S1024x4096 S4096x1024)
open Cert.PostCtxIdeal.Gen (bitsLt_bf16_f32)
open Cert.PostCtxIdeal.Post (rowOut postArr wA wB wA_at wB_at)
open Cert.PostCtxRefIdeal.Post (post post_at cat cat_at)

/-- The projection of one token: the branches' products added are the product of the joined branches. -/
theorem proj_eq (y a : FVec Ideal S4x256x512 .f32) (wo : FVec Ideal S1024x1024 .f32) (b : Fin 4) (t : Fin 256) (j : Fin 1024) :
    ∑ n : Fin 1024, (cat y a (ix3 b t n) : EReal) * wo (ix2 n j)
      = ∑ i : Fin 512, (y (ix3 b t i) : EReal) * wA wo (ix2 i j)
        + ∑ i : Fin 512, (a (ix3 b t i) : EReal) * wB wo (ix2 i j) := by
  rw [Cert.Softmax.sum_split (a := 512) (b := 512) (n := 1024) (by norm_num)]
  refine congrArg₂ (fun p q : EReal => p + q) (Finset.sum_congr rfl fun i _ => ?_) (Finset.sum_congr rfl fun i _ => ?_)
  · rw [wA_at, cat_at, dif_pos (show (⟨i.val, by omega⟩ : Fin 1024).val < 512 from i.isLt)]
  · rw [wB_at, cat_at, dif_neg (show ¬ (⟨512 + i.val, by omega⟩ : Fin 1024).val < 512 by show ¬ 512 + i.val < 512; omega)]
    rw [show (⟨(⟨512 + i.val, by omega⟩ : Fin 1024).val - 512, by show 512 + i.val - 512 < 512; omega⟩ : Fin 512) = i from Fin.ext (by show 512 + i.val - 512 = i.val; omega)]

theorem post_entry (x : FVec Ideal S4x256x1024 .f32) (mt : FVec Ideal S4x2x6x1024 .f32) (y a : FVec Ideal S4x256x512 .f32)
    (wo : FVec Ideal S1024x1024 .f32) (lg lb : FVec Ideal S2x1024 .f32) (w : FVec Ideal S1024x4096 .f32) (u : FVec Ideal S4096x1024 .f32)
    (b : Fin 4) (t : Fin 256) (k : Fin 1024) :
    post x mt y a wo lg lb w u (ix3 b t k)
      = postArr x mt (truncf .bf16 y bitsLt_bf16_f32) (truncf .bf16 a bitsLt_bf16_f32) (wA wo) (wB wo) lg lb (truncf .bf16 w bitsLt_bf16_f32) (truncf .bf16 u bitsLt_bf16_f32) (ix3 b t k) := by
  rw [post_at]
  simp only [proj_eq]
  unfold postArr rowOut
  simp only [Cert.Rows.mlp4_eq]
  rfl

/-- The reference's result is the array the call leaves. -/
theorem post_eq (x : FVec Ideal S4x256x1024 .f32) (mt : FVec Ideal S4x2x6x1024 .f32) (y a : FVec Ideal S4x256x512 .f32)
    (wo : FVec Ideal S1024x1024 .f32) (lg lb : FVec Ideal S2x1024 .f32) (w : FVec Ideal S1024x4096 .f32) (u : FVec Ideal S4096x1024 .f32) :
    post x mt y a wo lg lb w u
      = postArr x mt (truncf .bf16 y bitsLt_bf16_f32) (truncf .bf16 a bitsLt_bf16_f32) (wA wo) (wB wo) lg lb (truncf .bf16 w bitsLt_bf16_f32) (truncf .bf16 u bitsLt_bf16_f32) := by
  funext j
  idx_vars j
  exact post_entry _ _ _ _ _ _ _ _ _ _ _ _

end Cert.PostCtxEq

end
-- ==== Proof.FrontCtxTile.lean ====
module

public import proofs.«01_k».proof.Proof.Gen.FrontCtxIdeal.Frame
public import Idealize.ShloMosaic.Lib.Pipeline.ValueKit
public import Idealize.ShloMosaic.Lib.Pointwise
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.FrontCtxIdeal.Front

open Cert.FrontCtxIdeal Cert.FrontCtxIdeal.Gen

/-- Rows less their means. -/
def cen (v : FVec Ideal S256x1024 .f32) : FVec Ideal S256x1024 .f32 :=
  subf v (broadcastTo S256x1024 (divf (shapeCast S256x1 (multiReduction .add [1] S256 v 0x00000000#32 reduces_S256x1024_S256 (.inl rfl) rfl) shapeCasts_S256_S256x1)
    (broadcast S256x1 (Scalar.ofBits .f32 0x44800000#32))) broadcasts_S256x1_S256x1024)

/-- Rows less their means, over their standard deviations. -/
def normV (v : FVec Ideal S256x1024 .f32) : FVec Ideal S256x1024 .f32 :=
  mulf (cen v) (broadcastTo S256x1024 (rsqrt (addf (divf (shapeCast S256x1 (multiReduction .add [1] S256 (mulf (cen v) (cen v)) 0x00000000#32 reduces_S256x1024_S256 (.inl rfl) rfl) shapeCasts_S256_S256x1)
    (broadcast S256x1 (Scalar.ofBits .f32 0x44800000#32))) (broadcast S256x1 (Scalar.ofBits .f32 0x3727C5AC#32)))) broadcasts_S256x1_S256x1024)

/-- The modulation vectors without their leading axes. -/
def mods (m : Vec Ideal S1x1x6x1024 .f32) : FVec Ideal S6x1024 .f32 := shapeCast S6x1024 m shapeCasts_S1x1x6x1024_S6x1024

/-- The modulated norm of 256 rows. -/
def hv (m : Vec Ideal S1x1x6x1024 .f32) (x : Vec Ideal S1x256x1024 .f32) : FVec Ideal S256x1024 .bf16 :=
  truncf .bf16 (addf (mulf (normV (shapeCast S256x1024 x shapeCasts_S1x256x1024_S256x1024 : FVec Ideal S256x1024 .f32)) (broadcastTo S256x1024 (addf (broadcast S1x1024 (Scalar.ofBits .f32 0x3F800000#32)) (extractStridedSlice S1x1024 ![1, 0] (mods m) slices_S6x1024_o1_0_S1x1024)) broadcasts_S1x1024_S256x1024))
    (broadcastTo S256x1024 (extractStridedSlice S1x1024 ![0, 0] (mods m) slices_S6x1024_o0_0_S1x1024) broadcasts_S1x1024_S256x1024)) bitsLt_bf16_f32

/-- What is stored for 256 rows. -/
def uV (m : Vec Ideal S1x1x6x1024 .f32) (x : Vec Ideal S1x256x1024 .f32) (w : Vec Ideal S1024x3072 .bf16) : FVec Ideal S1x256x3072 .bf16 :=
  shapeCast S1x256x3072 (truncf .bf16 (matmul dot_S256x1024_S1024x3072_S256x3072_1_0_0_1_n_n none (hv m x) (shapeCast S1024x3072 w shapeCasts_S1024x3072_S1024x3072 : FVec Ideal S1024x3072 .bf16)
    (constant S256x3072 .f32 0x00000000#32)) bitsLt_bf16_f32) shapeCasts_S256x3072_S1x256x3072

section entries
open Cert.Rows

theorem cen_at (v : FVec Ideal S256x1024 .f32) (r : Fin 256) (k : Fin 1024) :
    cen v (ix2 r k) = (v (ix2 r k) : EReal) - mean (fun j => v (ix2 r j)) := by
  pointwise [cen, mean]

theorem normV_at (v : FVec Ideal S256x1024 .f32) (r : Fin 256) (k : Fin 1024) :
    normV v (ix2 r k) = Rows.norm (fun j => v (ix2 r j)) k := by
  pointwise [normV, Rows.norm, mean, cen_at]

theorem mods_at (m : Vec Ideal S1x1x6x1024 .f32) (a : Fin 6) (k : Fin 1024) : mods m (ix2 a k) = m (ix4 0 0 a k) := by
  pointwise [mods]

/-- A row's modulated norm, entry by entry. -/
theorem hv_at (m : Vec Ideal S1x1x6x1024 .f32) (x : Vec Ideal S1x256x1024 .f32) (r : Fin 256) (k : Fin 1024) :
    hv m x (ix2 r k) = modulate (Rows.norm (fun j => x (ix3 0 r j))) (fun j => m (ix4 0 0 0 j)) (fun j => m (ix4 0 0 1 j)) k := by
  have e (j : Fin 1024) : (shapeCast S256x1024 x shapeCasts_S1x256x1024_S256x1024 : FVec Ideal S256x1024 .f32) (ix2 r j) = x (ix3 0 r j) := by
    pointwise
  pointwise [hv, modulate, normV_at, mods_at, e]

theorem uV_at (m : Vec Ideal S1x1x6x1024 .f32) (x : Vec Ideal S1x256x1024 .f32) (w : Vec Ideal S1024x3072 .bf16) (r : Fin 256) (j : Fin 3072) :
    uV m x w (ix3 0 r j) = ∑ k : Fin 1024, modulate (Rows.norm (fun j => x (ix3 0 r j))) (fun j => m (ix4 0 0 0 j)) (fun j => m (ix4 0 0 1 j)) k * (w (ix2 k j) : EReal) := by
  pointwise [uV, hv_at]

end entries

/-- The stored value is this. -/
theorem tile_eq (m : Vec Ideal S1x1x6x1024 .f32) (x : Vec Ideal S1x256x1024 .f32) (w : Vec Ideal S1024x3072 .bf16) : k0_pay1 m x w = uV m x w := rfl

end Cert.FrontCtxIdeal.Front

end
-- ==== Proof.FrontCtxPure.lean ====
module

public import proofs.«01_k».proof.Proof.Gen.FrontCtxIdeal.Value
public import proofs.«01_k».proof.Proof.FrontCtxTile

@[expose] public section

set_option maxRecDepth 16384

noncomputable section

open Idealize.ShloMosaic Idealize.ShloMosaic.TcCoe Idealize.SL.Sem
open Idealize.ShloMosaic.Pipeline (Dat)

namespace Cert.FrontCtxIdeal.Front

open Cert.FrontCtxIdeal Cert.FrontCtxIdeal.Gen

/-- The block stored at a grid point, entry by entry. -/
theorem out_at (x0 : Vec Ideal S1x256x1024 .f32) (x1 : Vec Ideal S1x1x6x1024 .f32) (x2 : Vec Ideal S1024x3072 .bf16)
    (y : S1x256x3072.Idx) (R : Fin 256) (K : Fin 3072) (hR : (y 1 : ℕ) = R) (hK : (y 2 : ℕ) = K) :
    out0_3 x0 x1 x2 y
      = ∑ k : Fin 1024, Rows.modulate (Rows.norm (fun j => x0 (ix3 0 R j))) (fun j => x1 (ix4 0 0 0 j)) (fun j => x1 (ix4 0 0 1 j)) k * (x2 (ix2 k K) : EReal) := by
  unfold out0_3
  canon_tiles x h
  obtain ⟨r, k, rfl⟩ := Cert.Rows.row_idx x
  have e1 : (y 1 : ℕ) = r.val := h1
  have e2 : (y 2 : ℕ) = k.val := h2
  have eR : R = r := Fin.ext (hR.symm.trans e1)
  have eK : K = k := Fin.ext (hK.symm.trans e2)
  have em (i : Fin 6) (j : Fin 1024) : View.ld x1 r0_0 (ix4 0 0 i j) = x1 (ix4 0 0 i j) := by pointwise
  have ew (i : Fin 1024) : View.ld x2 r0_2 (ix2 i k) = x2 (ix2 i k) := by pointwise
  have ex (j : Fin 1024) : View.ld x0 r0_1 (ix3 0 r j) = x0 (ix3 0 r j) := by pointwise
  subst eR eK
  refine (congrFun (tile_eq _ _ _) _).trans ((uV_at _ _ _ _ _).trans ?_)
  simp only [em, ew, ex]

/-- A token's modulated norm. -/
def hrow (X : FVec Ideal S4x256x1024 .f32) (M : FVec Ideal S4x2x6x1024 .f32) (b : Fin 4) (t : Fin 256) : Fin 1024 → EReal :=
  Rows.modulate (Rows.norm (fun j => X (ix3 b t j))) (fun j => M (ix4 b 1 0 j)) (fun j => M (ix4 b 1 1 j))

/-- The array the call returns, entry by entry, from the arrays its windows read. -/
def uArr (X : FVec Ideal S4x256x1024 .f32) (M : FVec Ideal S4x2x6x1024 .f32) (W : FVec Ideal S1024x3072 .bf16) : FVec Ideal S4x256x3072 .bf16 := fun j =>
  ∑ k : Fin 1024, hrow X M (j 0) (j 1) k * (W (ix2 k (j 2)) : EReal)

variable (m : (ℓ : Loc nD τ sig) → Buf (Elt Ideal) ℓ)

/-- Where each window's block sits, at every grid point. -/
theorem idx : ∀ t : Fin cfg0.N, win0_0.index t = ![t.val, 0, 0] ∧ win0_1.index t = ![t.val, 1, 0, 0]
    ∧ win0_2.index t = ![0, 0] ∧ win0_3.index t = ![t.val, 0, 0] :=
  (by decide +kernel : ∀ t : Fin grid0.N, _)

/-- There are fewer than 4 points. -/
theorem pt_lt (t : Fin cfg0.N) : t.val < 4 := lt_of_lt_of_eq t.isLt N_0

/-- An entry of the tokens' block, read in the array at the block's place. -/
theorem iblk0_at (c : Dev nD) (t : Fin cfg0.N) (y : ((cfg0.win 0).xblock (cfg0.grid.coords t)).Idx) (i : S4x256x1024.Idx)
    (h : ∀ a, (i a : ℕ) = win0_0.index t a * win0_0.size a + (y a : ℕ)) :
    iblk m c 0 t y = V m c main_arg0 i := by
  have e : (win0_0.rect t).emb y = i := funext fun a => Fin.ext ((win0_0.rect_emb_val t y a).trans (h a).symm)
  unfold iblk
  rw [View.read_apply]
  generalize V m c = W
  exact (cast_eq _ _).trans (congrArg (W main_arg0) e)

/-- An entry of the modulation vectors' block, read in the array at the block's place. -/
theorem iblk1_at (c : Dev nD) (t : Fin cfg0.N) (y : ((cfg0.win 1).xblock (cfg0.grid.coords t)).Idx) (i : S4x2x6x1024.Idx)
    (h : ∀ a, (i a : ℕ) = win0_1.index t a * win0_1.size a + (y a : ℕ)) :
    iblk m c 1 t y = V m c main_arg1 i := by
  have e : (win0_1.rect t).emb y = i := funext fun a => Fin.ext ((win0_1.rect_emb_val t y a).trans (h a).symm)
  unfold iblk
  rw [View.read_apply]
  generalize V m c = W
  exact (cast_eq _ _).trans (congrArg (W main_arg1) e)

/-- An entry of the weights' block, read in the array at the block's place. -/
theorem iblk2_at (c : Dev nD) (t : Fin cfg0.N) (y : ((cfg0.win 2).xblock (cfg0.grid.coords t)).Idx) (i : S1024x3072.Idx)
    (h : ∀ a, (i a : ℕ) = win0_2.index t a * win0_2.size a + (y a : ℕ)) :
    iblk m c 2 t y = V m c main_v0 i := by
  have e : (win0_2.rect t).emb y = i := funext fun a => Fin.ext ((win0_2.rect_emb_val t y a).trans (h a).symm)
  unfold iblk
  rw [View.read_apply]
  generalize V m c = W
  exact (cast_eq _ _).trans (congrArg (W main_v0) e)

/-- A row of a block, modulated and normalised, is the token's. -/
theorem row_at (c : Dev nD) (t : Fin cfg0.N) (r : Fin 256) (b : Fin 4) (T : Fin 256) (hb : b.val = t.val) (hT : T.val = 0 * 256 + r.val) (k : Fin 1024) :
    Rows.modulate (Rows.norm (fun j : Fin 1024 => iblk m c 0 t (ix3 0 r j))) (fun j : Fin 1024 => iblk m c 1 t (ix4 0 0 0 j)) (fun j : Fin 1024 => iblk m c 1 t (ix4 0 0 1 j)) k
      = hrow (V m c main_arg0) (V m c main_arg1) b T k := by
  obtain ⟨i0, i1, -⟩ := idx t
  have e0 (j : Fin 1024) : iblk m c 0 t (ix3 0 r j) = V m c main_arg0 (ix3 b T j) := by
    refine iblk0_at m c t _ _ fun a => ?_
    rw [i0]
    match a with
    | ⟨0, _⟩ => show b.val = t.val * 1 + 0; omega
    | ⟨1, _⟩ => exact hT
    | ⟨2, _⟩ => show j.val = 0 * 1024 + j.val; omega
  have e1 (i : Fin 6) (j : Fin 1024) : iblk m c 1 t (ix4 0 0 i j) = V m c main_arg1 (ix4 b 1 i j) := by
    refine iblk1_at m c t _ _ fun a => ?_
    rw [i1]
    match a with
    | ⟨0, _⟩ => show b.val = t.val * 1 + 0; omega
    | ⟨1, _⟩ => show 1 = 1 * 1 + 0; omega
    | ⟨2, _⟩ => show i.val = 0 * 6 + i.val; omega
    | ⟨3, _⟩ => show j.val = 0 * 1024 + j.val; omega
  unfold hrow
  simp only [e0, e1]

/-- The whole array after the run. -/
theorem final (c : Dev nD) : (dats m 0 c).arrAt 3 (cfgs 0).N = uArr (V m c main_arg0) (V m c main_arg1) (V m c main_v0) := by
  refine (dats m 0 c).arrAt_eq_of_covers 3 _ (by decide +kernel) fun t _ y => ?_
  blk_simp
  rw [after0_3]
  have y1 : (y 1 : ℕ) < 256 := (y 1).isLt
  have y2 : (y 2 : ℕ) < 3072 := (y 2).isLt
  have y0 : (y 0 : ℕ) < 1 := (y 0).isLt
  have ht := pt_lt t
  refine (out_at _ _ _ _ ⟨y 1, y1⟩ ⟨y 2, y2⟩ rfl rfl).trans ?_
  have e (a) : (((win0_3.rect t).emb y) a : ℕ) = win0_3.index t a * win0_3.size a + (y a : ℕ) := win0_3.rect_emb_val t y a
  obtain ⟨i0, i1, i2, i3⟩ := idx t
  rw [i3] at e
  have e0 : (((win0_3.rect t).emb y) 0 : ℕ) = t.val := by
    refine (e 0).trans ?_
    show t.val * 1 + (y 0 : ℕ) = t.val
    omega
  have e1 : (((win0_3.rect t).emb y) 1 : ℕ) = 0 * 256 + (y 1 : ℕ) := e 1
  have e2 : (((win0_3.rect t).emb y) 2 : ℕ) = (y 2 : ℕ) := by
    refine (e 2).trans ?_
    show 0 * 3072 + (y 2 : ℕ) = (y 2 : ℕ)
    omega
  obtain ⟨z, hz⟩ : ∃ z, z = (win0_3.blk t).view.emb y := ⟨_, rfl⟩
  rw [← hz]
  have e0 : (z 0 : ℕ) = t.val := by rw [hz]; exact e0
  have e1 : (z 1 : ℕ) = 0 * 256 + (y 1 : ℕ) := by rw [hz]; exact e1
  have e2 : (z 2 : ℕ) = (y 2 : ℕ) := by rw [hz]; exact e2
  unfold uArr
  refine Finset.sum_congr rfl fun k _ => congrArg₂ (fun p q : EReal => p * q) ?_ ?_
  · exact row_at m c t ⟨y 1, y1⟩ (z 0) (z 1) e0 e1 k
  · refine iblk2_at m c t _ _ fun a => ?_
    rw [i2]
    match a with
    | ⟨0, _⟩ => show k.val = 0 * 1024 + k.val; omega
    | ⟨1, _⟩ => show (z 2 : ℕ) = 0 * 3072 + (y 2 : ℕ); omega

end Cert.FrontCtxIdeal.Front

end
-- ==== Proof.FrontCtxEntry.lean ====
module

public import proofs.«01_k».proof.Proof.Gen.FrontCtxIdeal.Value
public import Idealize.ShloMosaic.Lib.Pipeline.ValueKit
public import Idealize.ShloMosaic.Lib.Pointwise
public import Idealize.ShloMosaic.Lib.Claim
public import proofs.«01_k».proof.Proof.Layout

@[expose] public section

set_option maxRecDepth 16384

noncomputable section

open Idealize.ShloMosaic Idealize.ShloMosaic.TcCoe Idealize.SL.Sem
open Idealize.ShloMosaic.Pipeline (Dat)

namespace Cert.FrontCtxIdeal.Front

open Cert.FrontCtxIdeal Cert.FrontCtxIdeal.Gen

variable (m : (ℓ : Loc nD τ sig) → Buf (Elt Ideal) ℓ)

theorem V0 (c : Dev nD) : V m c main_v0 = (truncf .bf16 (m ((c : Thread nD τ).loc main_arg2) : FVec Ideal S1024x3072 .f32) bitsLt_bf16_f32 : FVec Ideal S1024x3072 .bf16) := by
  unfold V
  simp only [hostOps0, List.flatten_cons, List.flatten_nil, List.append_nil, List.cons_append, List.nil_append]
  after_results

end Cert.FrontCtxIdeal.Front

end
-- ==== Proof.FrontCtxRef.lean ====
module

public import proofs.«01_k».proof.Proof.Gen.FrontCtxRefIdeal.Run
public import Idealize.ShloMosaic.Lib.Pipeline.ValueKit
public import Idealize.ShloMosaic.Lib.Pointwise
public import Idealize.ShloMosaic.Lib.Claim
public import proofs.«01_k».proof.Proof.Layout
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.FrontCtxRefIdeal.Front

open Cert.FrontCtxRefIdeal Cert.FrontCtxRefIdeal.Gen

/-- The means of the rows. -/
def meanV (v : FVec Ideal S4x256x1024 .f32) : FVec Ideal S4x256x1 .f32 :=
  Host.divf (broadcastInDim S4x256x1 ![0, 1] bcast_S4x256_S4x256x1_0_1 (Host.reduceAdd v (constant S_ .f32 0x00000000#32) reducesTo_S4x256x1024_S4x256_d2 h_S_)) (broadcastInDim S4x256x1 ![] bcast_S_S4x256x1 (constant S_ .f32 0x44800000#32))

/-- Rows less their means. -/
def cen (v : FVec Ideal S4x256x1024 .f32) : FVec Ideal S4x256x1024 .f32 :=
  subf v (broadcastInDim S4x256x1024 ![0, 1, 2] bcast_S4x256x1_S4x256x1024_0_1_2 (meanV v))

/-- Rows less their means, over their standard deviations. -/
def normV (v : FVec Ideal S4x256x1024 .f32) : FVec Ideal S4x256x1024 .f32 :=
  mulf (cen v) (broadcastInDim S4x256x1024 ![0, 1, 2] bcast_S4x256x1_S4x256x1024_0_1_2 (Host.rsqrt (addf (meanV (mulf (cen v) (cen v)))
    (broadcastInDim S4x256x1 ![] bcast_S_S4x256x1 (constant S_ .f32 0x3727C5AC#32)))))

/-- The context tokens' shifts. -/
def sh (m : FVec Ideal S4x2x6x1024 .f32) : FVec Ideal S4x1x1024 .f32 :=
  shapeCast S4x1x1024 (extractStridedSlice S4x1x1x1024 ![0, 1, 0, 0] m slices_S4x2x6x1024_S4x1x1x1024_0_1_0_0) shapeCasts_S4x1x1x1024_S4x1x1024

/-- The context tokens' scales. -/
def sc (m : FVec Ideal S4x2x6x1024 .f32) : FVec Ideal S4x1x1024 .f32 :=
  shapeCast S4x1x1024 (extractStridedSlice S4x1x1x1024 ![0, 1, 1, 0] m slices_S4x2x6x1024_S4x1x1x1024_0_1_1_0) shapeCasts_S4x1x1x1024_S4x1x1024

/-- The modulated norms of the tokens. -/
def modV (x : FVec Ideal S4x256x1024 .f32) (m : FVec Ideal S4x2x6x1024 .f32) : FVec Ideal S4x256x1024 .f32 :=
  addf (mulf (normV x) (broadcastInDim S4x256x1024 ![0, 1, 2] bcast_S4x1x1024_S4x256x1024_0_1_2 (addf (broadcastInDim S4x1x1024 ![] bcast_S_S4x1x1024 (constant S_ .f32 0x3F800000#32)) (sc m))))
    (broadcastInDim S4x256x1024 ![0, 1, 2] bcast_S4x1x1024_S4x256x1024_0_1_2 (sh m))

/-- The input projection. -/
def lin (x : FVec Ideal S4x256x1024 .f32) (m : FVec Ideal S4x2x6x1024 .f32) (w : FVec Ideal S1024x3072 .f32) : FVec Ideal S4x256x3072 .f32 :=
  Host.dotGeneral dot_S4x256x1024_S1024x3072_S4x256x3072_2_0_01_1_n_n none (modV x m) w

/-- The reference's result. -/
def front (x : FVec Ideal S4x256x1024 .f32) (m : FVec Ideal S4x2x6x1024 .f32) (w : FVec Ideal S1024x3072 .f32) : FVec Ideal S4x256x3072 .bf16 :=
  truncf .bf16 (lin x m w) bitsLt_bf16_f32

section entries
open Cert.Rows

theorem meanV_at (v : FVec Ideal S4x256x1024 .f32) (b : Fin 4) (t : Fin 256) (z : Fin 1) :
    meanV v (ix3 b t z) = mean (fun j => v (ix3 b t j)) := by
  pointwise [meanV, mean]

theorem cen_at (v : FVec Ideal S4x256x1024 .f32) (b : Fin 4) (t : Fin 256) (k : Fin 1024) :
    cen v (ix3 b t k) = (v (ix3 b t k) : EReal) - mean (fun j => v (ix3 b t j)) := by
  pointwise [cen, meanV_at]

theorem normV_at (v : FVec Ideal S4x256x1024 .f32) (b : Fin 4) (t : Fin 256) (k : Fin 1024) :
    normV v (ix3 b t k) = Rows.norm (fun j => v (ix3 b t j)) k := by
  pointwise [normV, Rows.norm, meanV_at, cen_at]

theorem sh_at (m : FVec Ideal S4x2x6x1024 .f32) (b : Fin 4) (z : Fin 1) (k : Fin 1024) : sh m (ix3 b z k) = m (ix4 b 1 0 k) := by
  pointwise [sh]

theorem sc_at (m : FVec Ideal S4x2x6x1024 .f32) (b : Fin 4) (z : Fin 1) (k : Fin 1024) : sc m (ix3 b z k) = m (ix4 b 1 1 k) := by
  pointwise [sc]

theorem modV_at (x : FVec Ideal S4x256x1024 .f32) (m : FVec Ideal S4x2x6x1024 .f32) (b : Fin 4) (t : Fin 256) (k : Fin 1024) :
    modV x m (ix3 b t k) = modulate (Rows.norm (fun j => x (ix3 b t j))) (fun j => m (ix4 b 1 0 j)) (fun j => m (ix4 b 1 1 j)) k := by
  pointwise [modV, modulate, normV_at, sh_at, sc_at]

theorem lin_at (x : FVec Ideal S4x256x1024 .f32) (m : FVec Ideal S4x2x6x1024 .f32) (w : FVec Ideal S1024x3072 .f32) (b : Fin 4) (t : Fin 256) (n : Fin 3072) :
    lin x m w (ix3 b t n) = ∑ k : Fin 1024, modulate (Rows.norm (fun j => x (ix3 b t j))) (fun j => m (ix4 b 1 0 j)) (fun j => m (ix4 b 1 1 j)) k * (w (ix2 k n) : EReal) := by
  pointwise [lin, modV_at]

theorem front_at (x : FVec Ideal S4x256x1024 .f32) (m : FVec Ideal S4x2x6x1024 .f32) (w : FVec Ideal S1024x3072 .f32) (b : Fin 4) (t : Fin 256) (n : Fin 3072) :
    front x m w (ix3 b t n) = lin x m w (ix3 b t n) := by
  pointwise [front]

end entries

end Cert.FrontCtxRefIdeal.Front

end
-- ==== Proof.FrontCtx.lean ====
module

public import proofs.«01_k».proof.Proof.FrontCtxPure
public import proofs.«01_k».proof.Proof.FrontCtxEntry
public import proofs.«01_k».proof.Proof.FrontCtxRef

@[expose] public section

set_option maxRecDepth 16384

noncomputable section

open Idealize.ShloMosaic Idealize.ShloMosaic.TcCoe Idealize.SL.Sem

namespace Cert.FrontCtxEq

open Cert.FrontCtxIdeal (S4x256x1024 S4x2x6x1024 S1024x3072)
open Cert.FrontCtxIdeal.Gen (bitsLt_bf16_f32)
open Cert.FrontCtxIdeal.Front (uArr hrow)
open Cert.FrontCtxRefIdeal.Front (front front_at lin_at)

/-- The reference's result is the array the call leaves. -/
theorem front_eq (x : FVec Ideal S4x256x1024 .f32) (m : FVec Ideal S4x2x6x1024 .f32) (w : FVec Ideal S1024x3072 .f32) :
    front x m w = uArr x m (truncf .bf16 w bitsLt_bf16_f32) := by
  funext j
  idx_vars j
  refine (front_at ..).trans ((lin_at ..).trans ?_)
  unfold uArr
  exact Finset.sum_congr rfl fun k _ => rfl

end Cert.FrontCtxEq

end
-- ==== Proof.AttnCtxTile.lean ====
module

public import proofs.«01_k».proof.Proof.Gen.AttnCtxIdeal.Value
public import Idealize.ShloMosaic.Lib.Pipeline.ValueKit
public import Idealize.ShloMosaic.Lib.Pointwise
public import proofs.«01_k».proof.Proof.Softmax

@[expose] public section

set_option maxRecDepth 16384

noncomputable section

open Idealize.ShloMosaic Idealize.ShloMosaic.TcCoe Idealize.SL.Sem
open Idealize.ShloMosaic.Pipeline (Dat)

namespace Cert.AttnCtxIdeal.Attn

open Cert.AttnCtxIdeal Cert.AttnCtxIdeal.Gen

/-- The scaled queries of two heads, the first head's with the second's lanes zero, then the second head's with the first's lanes zero. -/
def pairV (q : Vec Ideal S1x256x128 .bf16) : FVec Ideal S512x128 .bf16 :=
  concatenate S512x128 0 [⟨S256x128, select (cmpi .slt (iota .tc S256x128 32 [1] iota_S256x128_d1_w32) (broadcast S256x128 64#32))
      (mulf (shapeCast S256x128 q shapeCasts_S1x256x128_S256x128 : FVec Ideal S256x128 .bf16) (broadcast S256x128 (Scalar.ofBits .bf16 0x3E00#16)))
      (broadcast S256x128 (Scalar.ofBits .bf16 0x0000#16))⟩,
    ⟨S256x128, select (cmpi .sge (iota .tc S256x128 32 [1] iota_S256x128_d1_w32) (broadcast S256x128 64#32))
      (mulf (shapeCast S256x128 q shapeCasts_S1x256x128_S256x128 : FVec Ideal S256x128 .bf16) (broadcast S256x128 (Scalar.ofBits .bf16 0x3E00#16)))
      (broadcast S256x128 (Scalar.ofBits .bf16 0x0000#16))⟩] concatenates_S256x128_S256x128_S512x128_d0

/-- The scores of both heads' queries. -/
def scoreV (P : FVec Ideal S512x128 .bf16) (k : Vec Ideal S1x256x128 .bf16) : FVec Ideal S512x256 .f32 :=
  matmul dot_S512x128_S256x128_S512x256_1_1_0_0_n_n none P (shapeCast S256x128 k shapeCasts_S1x256x128_S256x128 : FVec Ideal S256x128 .bf16)
    (constant S512x256 .f32 0x00000000#32)

/-- The exponentials of the scores less their row's largest. -/
def expV (s : FVec Ideal S512x256 .f32) : FVec Ideal S512x256 .f32 :=
  exp (subf s (broadcastTo S512x256 (shapeCast S512x1 (multiReduction .maximumf [1] S512 s 0xFF800000#32 reduces_S512x256_S512 (.inl rfl) rfl) shapeCasts_S512_S512x1)
    broadcasts_S512x1_S512x256))

/-- The weighted sums of the values over the weights' sums. -/
def mixV (e : FVec Ideal S512x256 .f32) (v : Vec Ideal S1x256x128 .bf16) : FVec Ideal S512x128 .f32 :=
  divf (matmul dot_S512x256_S256x128_S512x128_1_0_0_1_n_n none (truncf .bf16 e bitsLt_bf16_f32) (shapeCast S256x128 v shapeCasts_S1x256x128_S256x128 : FVec Ideal S256x128 .bf16)
      (constant S512x128 .f32 0x00000000#32))
    (broadcastTo S512x128 (shapeCast S512x1 (multiReduction .add [1] S512 e 0x00000000#32 reduces_S512x256_S512 (.inl rfl) rfl) shapeCasts_S512_S512x1) broadcasts_S512x1_S512x128)

/-- Each head's rows in its own lanes. -/
def unpairV (o : FVec Ideal S512x128 .f32) : FVec Ideal S1x256x128 .bf16 :=
  shapeCast S1x256x128 (truncf .bf16 (select (cmpi .slt (iota .tc S256x128 32 [1] iota_S256x128_d1_w32) (broadcast S256x128 64#32))
    (extractStridedSlice S256x128 ![0, 0] o slices_S512x128_o0_0_S256x128) (extractStridedSlice S256x128 ![256, 0] o slices_S512x128_o256_0_S256x128))
    bitsLt_bf16_f32) shapeCasts_S256x128_S1x256x128

/-- What is stored for two heads. -/
def tile (q k v : Vec Ideal S1x256x128 .bf16) : FVec Ideal S1x256x128 .bf16 := unpairV (mixV (expV (scoreV (pairV q) k)) v)

/-- The initial value of the row maximum is minus infinity. -/
theorem ofBits_neg_inf : Ideal.ofBits .f32 0xFF800000#32 = (⊥ : EReal) := by
  simp [Ideal.ofBits, Ideal.ieee]

theorem lane_lt : ∀ d : Fin 128, IntOp.cmpi CmpIPredicate.slt (BitVec.ofNat 32 d.val) 64#32 = if d.val < 64 then 1#1 else 0#1 := by decide +kernel

theorem lane_ge : ∀ d : Fin 128, IntOp.cmpi CmpIPredicate.sge (BitVec.ofNat 32 d.val) 64#32 = if 64 ≤ d.val then 1#1 else 0#1 := by decide +kernel

/-- Selecting by a decided condition. -/
theorem select_if {α : Type} (p : Prop) [Decidable p] (a b : α) : Scalar.select (if p then 1#1 else 0#1) a b = if p then a else b := by
  by_cases h : p <;> simp [h, Scalar.select]

theorem pairV_lo (q : Vec Ideal S1x256x128 .bf16) (r : Fin 256) (d : Fin 128) :
    pairV q (ix2 ⟨r.val, by omega⟩ d) = if d.val < 64 then (q (ix3 0 r d) : EReal) * Ideal.ofBits .bf16 0x3E00#16 else 0 := by
  pointwise [pairV]
  rw [lane_lt]
  exact select_if _ _ _

theorem pairV_hi (q : Vec Ideal S1x256x128 .bf16) (r : Fin 256) (d : Fin 128) :
    pairV q (ix2 ⟨256 + r.val, by omega⟩ d) = if 64 ≤ d.val then (q (ix3 0 r d) : EReal) * Ideal.ofBits .bf16 0x3E00#16 else 0 := by
  pointwise [pairV]
  rw [lane_ge]
  exact select_if _ _ _

theorem scoreV_at (P : FVec Ideal S512x128 .bf16) (k : Vec Ideal S1x256x128 .bf16) (i : Fin 512) (j : Fin 256) :
    scoreV P k (ix2 i j) = ∑ d : Fin 128, (P (ix2 i d) : EReal) * k (ix3 0 j d) := by
  pointwise [scoreV]

theorem expV_at (s : FVec Ideal S512x256 .f32) (i : Fin 512) (j : Fin 256) :
    expV s (ix2 i j) = Ideal.exp (s (ix2 i j) - Finset.univ.fold max (⊥ : EReal) (fun k : Fin 256 => (s (ix2 i k) : EReal))) := by
  pointwise [expV, ofBits_neg_inf]

theorem mixV_at (e : FVec Ideal S512x256 .f32) (v : Vec Ideal S1x256x128 .bf16) (i : Fin 512) (d : Fin 128) :
    mixV e v (ix2 i d) = Ideal.div (∑ k : Fin 256, (e (ix2 i k) : EReal) * v (ix3 0 k d)) (∑ k : Fin 256, (e (ix2 i k) : EReal)) := by
  pointwise [mixV]

theorem unpairV_at (o : FVec Ideal S512x128 .f32) (r : Fin 256) (d : Fin 128) :
    unpairV o (ix3 0 r d) = if d.val < 64 then (o (ix2 ⟨r.val, by omega⟩ d) : EReal) else o (ix2 ⟨256 + r.val, by omega⟩ d) := by
  pointwise [unpairV]
  rw [lane_lt]
  exact select_if _ _ _

/-! The stored values are these. -/
theorem tile1 (q k v : Vec Ideal S1x256x128 .bf16) : k0_pay3 (k0_pay2 q k v) = tile q k v := rfl
theorem tile2 (q k v : Vec Ideal S1x256x128 .bf16) : k0_pay5 (k0_pay4 q k v) = tile q k v := rfl
theorem tile3 (q k v : Vec Ideal S1x256x128 .bf16) : k0_pay7 (k0_pay6 q k v) = tile q k v := rfl
theorem tile4 (q k v : Vec Ideal S1x256x128 .bf16) : k0_pay1 (k0_pay8 q k v) = tile q k v := rfl

/-- One entry of an attention row: scores `s`, the value column `v`. -/
def rowOut (s v : Fin 256 → EReal) : EReal :=
  Ideal.div (∑ k, Ideal.exp (s k - Finset.univ.fold max ⊥ s) * v k) (∑ k, Ideal.exp (s k - Finset.univ.fold max ⊥ s))

theorem rowOut_congr {s s' v v' : Fin 256 → EReal} (hs : ∀ k, s k = s' k) (hv : ∀ k, v k = v' k) : rowOut s v = rowOut s' v' := by
  rw [funext hs, funext hv]

/-- The scores of the first head's query. -/
theorem score_lo (q k : Vec Ideal S1x256x128 .bf16) (r : Fin 256) (j : Fin 256) :
    scoreV (pairV q) k (ix2 ⟨r.val, by omega⟩ j)
      = ∑ x : Fin 64, (q (ix3 0 r ⟨x.val, by omega⟩) : EReal) * Ideal.ofBits .bf16 0x3E00#16 * k (ix3 0 j ⟨x.val, by omega⟩) := by
  rw [scoreV_at, Cert.Softmax.sum_split (a := 64) (b := 64) (n := 128) rfl]
  refine (congrArg₂ (fun p q : EReal => p + q) (Finset.sum_congr rfl fun x _ => ?_) (Finset.sum_eq_zero fun x _ => ?_)).trans (add_zero _)
  · rw [pairV_lo, if_pos (show (⟨x.val, by omega⟩ : Fin 128).val < 64 from x.isLt)]
  · rw [pairV_lo, if_neg (show ¬ (⟨64 + x.val, by omega⟩ : Fin 128).val < 64 by show ¬ 64 + x.val < 64; omega), zero_mul]

/-- The scores of the second head's query. -/
theorem score_hi (q k : Vec Ideal S1x256x128 .bf16) (r : Fin 256) (j : Fin 256) :
    scoreV (pairV q) k (ix2 ⟨256 + r.val, by omega⟩ j)
      = ∑ x : Fin 64, (q (ix3 0 r ⟨64 + x.val, by omega⟩) : EReal) * Ideal.ofBits .bf16 0x3E00#16 * k (ix3 0 j ⟨64 + x.val, by omega⟩) := by
  rw [scoreV_at, Cert.Softmax.sum_split (a := 64) (b := 64) (n := 128) rfl]
  refine (congrArg₂ (fun p q : EReal => p + q) (Finset.sum_eq_zero fun x _ => ?_) (Finset.sum_congr rfl fun x _ => ?_)).trans (zero_add _)
  · rw [pairV_hi, if_neg (show ¬ 64 ≤ (⟨x.val, by omega⟩ : Fin 128).val by show ¬ 64 ≤ x.val; omega), zero_mul]
  · rw [pairV_hi, if_pos (show 64 ≤ (⟨64 + x.val, by omega⟩ : Fin 128).val by show 64 ≤ 64 + x.val; omega)]

/-- A row of the product, from the row's scores. -/
theorem mix_row (s : FVec Ideal S512x256 .f32) (v : Vec Ideal S1x256x128 .bf16) (i : Fin 512) (d : Fin 128) :
    mixV (expV s) v (ix2 i d) = rowOut (fun k => s (ix2 i k)) (fun k => v (ix3 0 k d)) := by
  rw [mixV_at]
  simp only [expV_at]
  rfl

/-- An entry stored for two heads, when the three blocks hold 128 columns from `o` on of wider blocks. -/
theorem tile_out (x0 x1 x2 : Vec Ideal S1x256x512 .bf16) (q k v : Vec Ideal S1x256x128 .bf16) (o : ℕ) (ho : o % 64 = 0) (hb : o + 128 ≤ 512)
    (hq : ∀ (r : Fin 256) (d : Fin 128), q (ix3 0 r d) = x0 (ix3 0 r ⟨o + d.val, by omega⟩))
    (hk : ∀ (r : Fin 256) (d : Fin 128), k (ix3 0 r d) = x1 (ix3 0 r ⟨o + d.val, by omega⟩))
    (hv : ∀ (r : Fin 256) (d : Fin 128), v (ix3 0 r d) = x2 (ix3 0 r ⟨o + d.val, by omega⟩))
    (r : Fin 256) (d : Fin 128) (n : Fin 512) (hn : n.val = o + d.val) :
    tile q k v (ix3 0 r d) = rowOut
      (fun j => ∑ x : Fin 64, (x0 (ix3 0 r ⟨n.val / 64 * 64 + x.val, by omega⟩) : EReal) * Ideal.ofBits .bf16 0x3E00#16 * x1 (ix3 0 j ⟨n.val / 64 * 64 + x.val, by omega⟩))
      (fun j => x2 (ix3 0 j n)) := by
  unfold tile
  rw [unpairV_at]
  by_cases hd : d.val < 64
  · rw [if_pos hd, mix_row]
    refine rowOut_congr (fun j => ?_) fun j => ?_
    · rw [score_lo]
      refine Finset.sum_congr rfl fun x _ => ?_
      have e : (⟨o + (⟨x.val, by omega⟩ : Fin 128).val, by show o + x.val < 512; omega⟩ : Fin 512) = ⟨n.val / 64 * 64 + x.val, by omega⟩ :=
        Fin.ext (by show o + x.val = n.val / 64 * 64 + x.val; omega)
      rw [hq, hk, e]
    · rw [hv]
      exact congrArg x2 ((ix3_inj ..).2 ⟨rfl, rfl, Fin.ext hn.symm⟩)
  · rw [if_neg hd, mix_row]
    refine rowOut_congr (fun j => ?_) fun j => ?_
    · rw [score_hi]
      refine Finset.sum_congr rfl fun x _ => ?_
      have e : (⟨o + (⟨64 + x.val, by omega⟩ : Fin 128).val, by show o + (64 + x.val) < 512; omega⟩ : Fin 512) = ⟨n.val / 64 * 64 + x.val, by omega⟩ :=
        Fin.ext (by show o + (64 + x.val) = n.val / 64 * 64 + x.val; omega)
      rw [hq, hk, e]
    · rw [hv]
      exact congrArg x2 ((ix3_inj ..).2 ⟨rfl, rfl, Fin.ext hn.symm⟩)

end Cert.AttnCtxIdeal.Attn

end
-- ==== Proof.AttnCtxPure.lean ====
module

public import proofs.«01_k».proof.Proof.AttnCtxTile
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.AttnCtxIdeal.Attn

open Cert.AttnCtxIdeal Cert.AttnCtxIdeal.Gen

/-- The block stored at a grid point, entry by entry. -/
theorem out_at (x0 x1 x2 : Vec Ideal S1x256x512 .bf16) (y : S1x256x512.Idx) (R : Fin 256) (N : Fin 512) (hR : (y 1 : ℕ) = R) (hN : (y 2 : ℕ) = N) :
    out0_3 x0 x1 x2 y = rowOut
      (fun j => ∑ x : Fin 64, (x0 (ix3 0 R ⟨N.val / 64 * 64 + x.val, by omega⟩) : EReal) * Ideal.ofBits .bf16 0x3E00#16 * x1 (ix3 0 j ⟨N.val / 64 * 64 + x.val, by omega⟩))
      (fun j => x2 (ix3 0 j N)) := by
  unfold out0_3
  canon_tiles x h
  all_goals
    obtain ⟨r, k, rfl⟩ := Cert.Rows.row_idx x
    have e1 : (y 1 : ℕ) = r.val := h1
    have eR : R = r := Fin.ext (hR.symm.trans e1)
    subst eR
  · exact (congrFun (tile4 _ _ _) _).trans (tile_out x0 x1 x2 _ _ _ 384 (by norm_num) (by norm_num) (fun r d => by pointwise) (fun r d => by pointwise) (fun r d => by pointwise) _ _ _ (hN.symm.trans h2))
  · exact (congrFun (tile3 _ _ _) _).trans (tile_out x0 x1 x2 _ _ _ 256 (by norm_num) (by norm_num) (fun r d => by pointwise) (fun r d => by pointwise) (fun r d => by pointwise) _ _ _ (hN.symm.trans h2))
  · exact (congrFun (tile2 _ _ _) _).trans (tile_out x0 x1 x2 _ _ _ 128 (by norm_num) (by norm_num) (fun r d => by pointwise) (fun r d => by pointwise) (fun r d => by pointwise) _ _ _ (hN.symm.trans h2))
  · exact (congrFun (tile1 _ _ _) _).trans (tile_out x0 x1 x2 _ _ _ 0 (by norm_num) (by norm_num)
      (fun r d => by pointwise)
      (fun r d => by pointwise)
      (fun r d => by pointwise) _ _ _ (by have : (y 2 : ℕ) = k.val := h2; omega))

/-- The array the call returns, entry by entry, from the projected columns its windows read. -/
def ctxArr (U : FVec Ideal S4x256x3072 .bf16) : FVec Ideal S4x256x512 .bf16 := fun j => rowOut
  (fun k => ∑ x : Fin 64, (U (ix3 (j 0) (j 1) ⟨1536 + ((j 2 : ℕ) / 64 * 64 + x.val), by have : (j 2 : ℕ) < 512 := (j 2).isLt; omega⟩) : EReal) * Ideal.ofBits .bf16 0x3E00#16
    * U (ix3 (j 0) k ⟨2048 + ((j 2 : ℕ) / 64 * 64 + x.val), by have : (j 2 : ℕ) < 512 := (j 2).isLt; omega⟩))
  (fun k => U (ix3 (j 0) k ⟨2560 + (j 2 : ℕ), by have : (j 2 : ℕ) < 512 := (j 2).isLt; omega⟩))

variable (m : (ℓ : Loc nD τ sig) → Buf (Elt Ideal) ℓ)

/-- Where each window's block sits, at every grid point. -/
theorem idx : ∀ t : Fin cfg0.N, win0_0.index t = ![t.val, 0, 3] ∧ win0_1.index t = ![t.val, 0, 4]
    ∧ win0_2.index t = ![t.val, 0, 5] ∧ win0_3.index t = ![t.val, 0, 0] :=
  (by decide +kernel : ∀ t : Fin grid0.N, _)

/-- There are fewer than 4 points. -/
theorem pt_lt (t : Fin cfg0.N) : t.val < 4 := lt_of_lt_of_eq t.isLt N_0

/-- An entry of the queries' block, read in the array at the block's place. -/
theorem iblk0_at (c : Dev nD) (t : Fin cfg0.N) (y : ((cfg0.win 0).xblock (cfg0.grid.coords t)).Idx) (i : S4x256x3072.Idx)
    (h : ∀ a, (i a : ℕ) = win0_0.index t a * win0_0.size a + (y a : ℕ)) :
    iblk m c 0 t y = V m c main_v0 i := by
  have e : (win0_0.rect t).emb y = i := funext fun a => Fin.ext ((win0_0.rect_emb_val t y a).trans (h a).symm)
  unfold iblk
  rw [View.read_apply]
  generalize V m c = W
  exact (cast_eq _ _).trans (congrArg (W main_v0) e)

/-- An entry of the keys' block, read in the array at the block's place. -/
theorem iblk1_at (c : Dev nD) (t : Fin cfg0.N) (y : ((cfg0.win 1).xblock (cfg0.grid.coords t)).Idx) (i : S4x256x3072.Idx)
    (h : ∀ a, (i a : ℕ) = win0_1.index t a * win0_1.size a + (y a : ℕ)) :
    iblk m c 1 t y = V m c main_v0 i := by
  have e : (win0_1.rect t).emb y = i := funext fun a => Fin.ext ((win0_1.rect_emb_val t y a).trans (h a).symm)
  unfold iblk
  rw [View.read_apply]
  generalize V m c = W
  exact (cast_eq _ _).trans (congrArg (W main_v0) e)

/-- An entry of the values' block, read in the array at the block's place. -/
theorem iblk2_at (c : Dev nD) (t : Fin cfg0.N) (y : ((cfg0.win 2).xblock (cfg0.grid.coords t)).Idx) (i : S4x256x3072.Idx)
    (h : ∀ a, (i a : ℕ) = win0_2.index t a * win0_2.size a + (y a : ℕ)) :
    iblk m c 2 t y = V m c main_v0 i := by
  have e : (win0_2.rect t).emb y = i := funext fun a => Fin.ext ((win0_2.rect_emb_val t y a).trans (h a).symm)
  unfold iblk
  rw [View.read_apply]
  generalize V m c = W
  exact (cast_eq _ _).trans (congrArg (W main_v0) e)

/-- The whole array after the run. -/
theorem final (c : Dev nD) : (dats m 0 c).arrAt 3 (cfgs 0).N = ctxArr (V m c main_v0) := by
  refine (dats m 0 c).arrAt_eq_of_covers 3 _ (by decide +kernel) fun t _ y => ?_
  blk_simp
  rw [after0_3]
  have y1 : (y 1 : ℕ) < 256 := (y 1).isLt
  have y2 : (y 2 : ℕ) < 512 := (y 2).isLt
  have y0 : (y 0 : ℕ) < 1 := (y 0).isLt
  have ht := pt_lt t
  refine (out_at _ _ _ _ ⟨y 1, y1⟩ ⟨y 2, y2⟩ rfl rfl).trans ?_
  have e (a) : (((win0_3.rect t).emb y) a : ℕ) = win0_3.index t a * win0_3.size a + (y a : ℕ) := win0_3.rect_emb_val t y a
  obtain ⟨i0, i1, i2, i3⟩ := idx t
  rw [i3] at e
  have e0 : (((win0_3.rect t).emb y) 0 : ℕ) = t.val := by
    refine (e 0).trans ?_
    show t.val * 1 + (y 0 : ℕ) = t.val
    omega
  have e1 : (((win0_3.rect t).emb y) 1 : ℕ) = 0 * 256 + (y 1 : ℕ) := e 1
  have e2 : (((win0_3.rect t).emb y) 2 : ℕ) = (y 2 : ℕ) := by
    refine (e 2).trans ?_
    show 0 * 512 + (y 2 : ℕ) = (y 2 : ℕ)
    omega
  obtain ⟨z, hz⟩ : ∃ z, z = (win0_3.blk t).view.emb y := ⟨_, rfl⟩
  rw [← hz]
  have e0 : (z 0 : ℕ) = t.val := by rw [hz]; exact e0
  have e1 : (z 1 : ℕ) = 0 * 256 + (y 1 : ℕ) := by rw [hz]; exact e1
  have e2 : (z 2 : ℕ) = (y 2 : ℕ) := by rw [hz]; exact e2
  unfold ctxArr
  refine rowOut_congr (fun k => Finset.sum_congr rfl fun x _ => congrArg₂ (fun p q : EReal => p * Ideal.ofBits .bf16 0x3E00#16 * q) ?_ ?_) fun k => ?_
  · refine iblk0_at m c t _ _ fun a => ?_
    rw [i0]
    match a with
    | ⟨0, _⟩ => show (z 0 : ℕ) = t.val * 1 + 0; omega
    | ⟨1, _⟩ => show (z 1 : ℕ) = 0 * 256 + (y 1 : ℕ); exact e1
    | ⟨2, _⟩ => show 1536 + ((z 2 : ℕ) / 64 * 64 + x.val) = 3 * 512 + ((y 2 : ℕ) / 64 * 64 + x.val); rw [e2]
  · refine iblk1_at m c t _ _ fun a => ?_
    rw [i1]
    match a with
    | ⟨0, _⟩ => show (z 0 : ℕ) = t.val * 1 + 0; omega
    | ⟨1, _⟩ => show k.val = 0 * 256 + k.val; omega
    | ⟨2, _⟩ => show 2048 + ((z 2 : ℕ) / 64 * 64 + x.val) = 4 * 512 + ((y 2 : ℕ) / 64 * 64 + x.val); rw [e2]
  · refine iblk2_at m c t _ _ fun a => ?_
    rw [i2]
    match a with
    | ⟨0, _⟩ => show (z 0 : ℕ) = t.val * 1 + 0; omega
    | ⟨1, _⟩ => show k.val = 0 * 256 + k.val; omega
    | ⟨2, _⟩ => show 2560 + (z 2 : ℕ) = 5 * 512 + (y 2 : ℕ); rw [e2]

theorem V0 (c : Dev nD) : V m c main_v0 = (truncf .bf16 (m ((c : Thread nD τ).loc main_arg0) : FVec Ideal S4x256x3072 .f32) bitsLt_bf16_f32 : FVec Ideal S4x256x3072 .bf16) := by
  unfold V
  simp only [hostOps0, List.flatten_cons, List.flatten_nil, List.append_nil, List.cons_append, List.nil_append]
  after_results

end Cert.AttnCtxIdeal.Attn

end
-- ==== Proof.AttnCtxRef.lean ====
module

public import proofs.«01_k».proof.Proof.Gen.AttnCtxRefIdeal.Run
public import Idealize.ShloMosaic.Lib.Pipeline.ValueKit
public import Idealize.ShloMosaic.Lib.Pointwise
public import Idealize.ShloMosaic.Lib.Claim
public import proofs.«01_k».proof.Proof.Layout

@[expose] public section

set_option maxRecDepth 16384

noncomputable section

open Idealize.ShloMosaic Idealize.ShloMosaic.TcCoe Idealize.SL.Sem
open Idealize.ShloMosaic.Pipeline (Dat)

namespace Cert.AttnCtxRefIdeal.Attn

open Cert.AttnCtxRefIdeal Cert.AttnCtxRefIdeal.Gen

/-- The initial value of the row maximum is minus infinity. -/
theorem ofBits_neg_inf : Ideal.ofBits .f32 0xFF800000#32 = (⊥ : EReal) := by
  simp [Ideal.ofBits, Ideal.ieee]

/-- The columns of a third of the attention's part, by head. -/
def heads (x : FVec Ideal S4x256x512 .f32) : FVec Ideal S4x8x256x64 .f32 :=
  transpose S4x8x256x64 [0, 2, 1, 3] (shapeCast S4x256x8x64 x shapeCasts_S4x256x512_S4x256x8x64) transposes_S4x256x8x64_S4x8x256x64_0_2_1_3

/-- The scaled scores of every query against every key. -/
def scores (q k : FVec Ideal S4x8x256x64 .f32) : FVec Ideal S4x8x256x256 .f32 :=
  mulf (Host.dotGeneral dot_S4x8x256x64_S4x8x256x64_S4x8x256x256_3_3_2_2_01_01 none q k)
    (broadcastInDim S4x8x256x256 ![] bcast_S_S4x8x256x256 (constant S_ .f32 0x3E000000#32))

/-- The largest score of each row. -/
def rowMax (S : FVec Ideal S4x8x256x256 .f32) : FVec Ideal S4x8x256 .f32 :=
  Host.reduce FloatOps.maximumf S (constant S_ .f32 0xFF800000#32) reducesTo_S4x8x256x256_S4x8x256_d3 h_S_

/-- The exponentials of the scores less their row's largest. -/
def expo (S : FVec Ideal S4x8x256x256 .f32) (M : FVec Ideal S4x8x256 .f32) : FVec Ideal S4x8x256x256 .f32 :=
  Host.exp (subf S (broadcastInDim S4x8x256x256 ![0, 1, 2, 3] bcast_S4x8x256x1_S4x8x256x256_0_1_2_3 (broadcastInDim S4x8x256x1 ![0, 1, 2] bcast_S4x8x256_S4x8x256x1_0_1_2 (maximumf (broadcastInDim S4x8x256 ![] bcast_S_S4x8x256 (constant S_ .f32 0xFF800000#32)) M))))

/-- The weights: the exponentials over their row's sum. -/
def weights (E : FVec Ideal S4x8x256x256 .f32) : FVec Ideal S4x8x256x256 .f32 :=
  Host.divf E (broadcastInDim S4x8x256x256 ![0, 1, 2, 3] bcast_S4x8x256x1_S4x8x256x256_0_1_2_3 (broadcastInDim S4x8x256x1 ![0, 1, 2] bcast_S4x8x256_S4x8x256x1_0_1_2 (Host.reduceAdd E (constant S_ .f32 0x00000000#32) reducesTo_S4x8x256x256_S4x8x256_d3 h_S_)))

/-- The weighted sums. -/
def mixed (P : FVec Ideal S4x8x256x256 .f32) (v : FVec Ideal S4x8x256x64 .f32) : FVec Ideal S4x8x256x64 .f32 :=
  Host.dotGeneral dot_S4x8x256x256_S4x8x256x64_S4x8x256x64_3_2_2_3_01_01 none P v

/-- The heads by token. -/
def byToken (o : FVec Ideal S4x8x256x64 .f32) : FVec Ideal S4x256x8x64 .f32 :=
  transpose S4x256x8x64 [0, 2, 1, 3] o transposes_S4x8x256x64_S4x256x8x64_0_2_1_3

/-- The heads side by side. -/
def joined (o : FVec Ideal S4x8x256x64 .f32) : FVec Ideal S4x256x512 .bf16 :=
  truncf .bf16 (shapeCast S4x256x512 (byToken o) shapeCasts_S4x256x8x64_S4x256x512) bitsLt_bf16_f32

def qs (u : FVec Ideal S4x256x3072 .f32) : FVec Ideal S4x256x512 .f32 := extractStridedSlice S4x256x512 ![0, 0, 1536] u slices_S4x256x3072_S4x256x512_0_0_1536
def ks (u : FVec Ideal S4x256x3072 .f32) : FVec Ideal S4x256x512 .f32 := extractStridedSlice S4x256x512 ![0, 0, 2048] u slices_S4x256x3072_S4x256x512_0_0_2048
def vs (u : FVec Ideal S4x256x3072 .f32) : FVec Ideal S4x256x512 .f32 := extractStridedSlice S4x256x512 ![0, 0, 2560] u slices_S4x256x3072_S4x256x512_0_0_2560

/-- The attention of the context tokens among themselves. -/
def attn (u : FVec Ideal S4x256x3072 .f32) : FVec Ideal S4x256x512 .bf16 :=
  joined (mixed (weights (expo (scores (heads (qs u)) (heads (ks u))) (rowMax (scores (heads (qs u)) (heads (ks u)))))) (heads (vs u)))

variable (m : (ℓ : Loc nD τ sig) → Buf (Elt Ideal) ℓ)

/-- The reference's result, in these steps. -/
theorem res_eq (c : Dev nD) : Value.res_main_v26 m c = attn (m ((c.tc : Thread nD τ).loc main_arg0)) := rfl

theorem qs_at (u : FVec Ideal S4x256x3072 .f32) (b : Fin 4) (t : Fin 256) (n : Fin 512) : qs u (ix3 b t n) = (u (ix3 b t ⟨1536 + n.val, by omega⟩) : EReal) := by
  pointwise [qs]

theorem ks_at (u : FVec Ideal S4x256x3072 .f32) (b : Fin 4) (t : Fin 256) (n : Fin 512) : ks u (ix3 b t n) = (u (ix3 b t ⟨2048 + n.val, by omega⟩) : EReal) := by
  pointwise [ks]

theorem vs_at (u : FVec Ideal S4x256x3072 .f32) (b : Fin 4) (t : Fin 256) (n : Fin 512) : vs u (ix3 b t n) = (u (ix3 b t ⟨2560 + n.val, by omega⟩) : EReal) := by
  pointwise [vs]

theorem heads_at (x : FVec Ideal S4x256x512 .f32) (b : Fin 4) (h : Fin 8) (t : Fin 256) (d : Fin 64) :
    heads x (ix4 b h t d) = (x (ix3 b t ⟨h.val * 64 + d.val, by omega⟩) : EReal) := by
  unfold heads
  rw [show (ix4 b h t d : S4x8x256x64.Idx) = ix4 b h t d from rfl]
  refine Eq.trans ?_ (Cert.Layout.split_last (B := 4) (T := 256) (N := 512) (H := 8) (D := 64) x shapeCasts_S4x256x512_S4x256x8x64 (by norm_num) b t h d _ rfl)
  generalize shapeCast S4x256x8x64 x shapeCasts_S4x256x512_S4x256x8x64 = Y
  pointwise

theorem scores_at (q k : FVec Ideal S4x8x256x64 .f32) (b : Fin 4) (h : Fin 8) (i j : Fin 256) :
    scores q k (ix4 b h i j) = (∑ x : Fin 64, (q (ix4 b h i x) : EReal) * k (ix4 b h j x)) * Ideal.ofBits .f32 0x3E000000#32 := by
  pointwise [scores]

theorem rowMax_at (S : FVec Ideal S4x8x256x256 .f32) (b : Fin 4) (h : Fin 8) (i : Fin 256) :
    rowMax S (ix3 b h i) = Finset.univ.fold max (⊥ : EReal) (fun j : Fin 256 => (S (ix4 b h i j) : EReal)) := by
  have e := Cert.Layout.reduce_max_last S (constant (F := Ideal) S_ .f32 0xFF800000#32) reducesTo_S4x8x256x256_S4x8x256_d3 h_S_ b h i
  refine e.trans ?_
  rw [show (constant (F := Ideal) S_ .f32 0xFF800000#32 (Shape.Idx.first h_S_) : EReal) = ⊥ from ofBits_neg_inf]

theorem expo_at (S : FVec Ideal S4x8x256x256 .f32) (M : FVec Ideal S4x8x256 .f32) (b : Fin 4) (h : Fin 8) (i j : Fin 256) :
    expo S M (ix4 b h i j) = Ideal.exp (S (ix4 b h i j) - M (ix3 b h i)) := by
  pointwise [expo, ofBits_neg_inf]
  simp

theorem weights_at (S : FVec Ideal S4x8x256x256 .f32) (b : Fin 4) (h : Fin 8) (i j : Fin 256) :
    weights S (ix4 b h i j) = Ideal.div (S (ix4 b h i j)) (∑ x : Fin 256, (S (ix4 b h i x) : EReal)) := by
  pointwise [weights]

theorem mixed_at (P : FVec Ideal S4x8x256x256 .f32) (v : FVec Ideal S4x8x256x64 .f32) (b : Fin 4) (h : Fin 8) (i : Fin 256) (d : Fin 64) :
    mixed P v (ix4 b h i d) = ∑ x : Fin 256, (P (ix4 b h i x) : EReal) * v (ix4 b h x d) := by
  pointwise [mixed]

theorem byToken_at (o : FVec Ideal S4x8x256x64 .f32) (b : Fin 4) (t : Fin 256) (h : Fin 8) (d : Fin 64) : byToken o (ix4 b t h d) = (o (ix4 b h t d) : EReal) := by
  pointwise [byToken]

theorem joined_at (o : FVec Ideal S4x8x256x64 .f32) (b : Fin 4) (t : Fin 256) (h : Fin 8) (d : Fin 64) (n : Fin 512) (hn : n.val = h.val * 64 + d.val) :
    joined o (ix3 b t n) = (o (ix4 b h t d) : EReal) := by
  unfold joined
  refine Eq.trans ?_ (byToken_at o b t h d)
  exact Cert.Layout.merge_last (B := 4) (T := 256) (N := 512) (H := 8) (D := 64) (byToken o) _ (by norm_num) b t h d n hn

/-- One entry: the softmax of a query's scaled scores, applied to a value column. -/
theorem attn_at (u : FVec Ideal S4x256x3072 .f32) (b : Fin 4) (t : Fin 256) (h : Fin 8) (d : Fin 64) (n : Fin 512) (hn : n.val = h.val * 64 + d.val)
    (s : Fin 256 → EReal) (hs : ∀ k, s k = (∑ x : Fin 64, (u (ix3 b t ⟨1536 + (h.val * 64 + x.val), by omega⟩) : EReal) * u (ix3 b k ⟨2048 + (h.val * 64 + x.val), by omega⟩)) * Ideal.ofBits .f32 0x3E000000#32) :
    attn u (ix3 b t n) = ∑ k : Fin 256, Ideal.div (Ideal.exp (s k - Finset.univ.fold max ⊥ s)) (∑ j : Fin 256, Ideal.exp (s j - Finset.univ.fold max ⊥ s))
      * (u (ix3 b k ⟨2560 + n.val, by omega⟩) : EReal) := by
  have es (k : Fin 256) : scores (heads (qs u)) (heads (ks u)) (ix4 b h t k) = s k := by
    rw [hs, scores_at]
    simp only [heads_at, qs_at, ks_at]
  have em : rowMax (scores (heads (qs u)) (heads (ks u))) (ix3 b h t) = Finset.univ.fold max (⊥ : EReal) s := by
    rw [rowMax_at]
    exact congrArg (Finset.univ.fold max (⊥ : EReal)) (funext es)
  have ev (k : Fin 256) : heads (vs u) (ix4 b h k d) = (u (ix3 b k ⟨2560 + n.val, by omega⟩) : EReal) := by
    rw [heads_at, vs_at]
    exact congrArg u ((ix3_inj ..).2 ⟨rfl, rfl, Fin.ext (by show 2560 + (h.val * 64 + d.val) = 2560 + n.val; rw [hn])⟩)
  unfold attn
  rw [joined_at _ b t h d n hn, mixed_at]
  refine Finset.sum_congr rfl fun k _ => ?_
  rw [weights_at, ev]
  simp only [expo_at, es, em]

end Cert.AttnCtxRefIdeal.Attn

end
-- ==== Proof.AttnCtx.lean ====
module

public import proofs.«01_k».proof.Proof.AttnCtxPure
public import proofs.«01_k».proof.Proof.AttnCtxRef
public import proofs.«01_k».proof.Proof.Softmax
public import proofs.«01_k».proof.Proof.Attn
public import proofs.«01_k».proof.Pre_finite_ctx
public import Idealize.ShloMosaic.Lib.ReduceAll

@[expose] public section

set_option maxRecDepth 16384

noncomputable section

open Idealize.ShloMosaic Idealize.ShloMosaic.TcCoe Idealize.SL.Sem

namespace Cert.AttnCtxEq

open Cert.AttnCtxIdeal (S4x256x3072 S4x256x512)
open Cert.AttnCtxIdeal.Gen (bitsLt_bf16_f32)
open Cert.AttnCtxIdeal.Attn (ctxArr rowOut)

instance : Subsingleton (Cert.Pre_finite_ctx.S_).Idx := ⟨fun a b => funext fun i => i.elim0⟩

/-- An entry of the part the precondition reads. -/
theorem part_at [Cert.Pre_finite_ctx.Facts] (u : FVec Ideal S4x256x3072 .f32) (b : Fin 4) (t : Fin 256) (n : Fin 1024) :
    extractStridedSlice Cert.Pre_finite_ctx.S4x256x1024 ![0, 0, 1536] u Cert.Pre_finite_ctx.Facts.slices_S4x256x3072_S4x256x1024_0_0_1536 (ix3 b t n)
      = (u (ix3 b t ⟨1536 + n.val, by omega⟩) : EReal) := by
  pointwise

/-- The precondition says that the queries and the keys are real numbers. -/
theorem reals_of_finite [Cert.Pre_finite_ctx.Facts] (u : FVec Ideal S4x256x3072 .f32)
    (h : Cert.Pre_finite_ctx.fn (F := Ideal) u = fun _ => 1#1) (b : Fin 4) (t : Fin 256) (n : Fin 1024) :
    ∃ r : ℝ, (u (ix3 b t ⟨1536 + n.val, by omega⟩) : EReal) = (r : EReal) := by
  have pre := congrFun h (Shape.Idx.first Cert.Pre_finite_ctx.Facts.h_S_)
  simp only [Cert.Pre_finite_ctx.fn] at pre
  obtain ⟨r, hr⟩ := Cert.Attn.real_of_abs_lt _ (Host.reduce_andi_all _ _ _ _ _ pre (ix3 b t n))
  exact ⟨r, (part_at u b t n).symm.trans hr⟩

/-- One eighth in the two formats. -/
theorem eighth_bf16 : Ideal.ofBits .bf16 0x3E00#16 = ((1 / 8 : ℝ) : EReal) := by
  simp [Ideal.ofBits, Ideal.ieee]
  rw [← EReal.coe_mul]
  norm_num

theorem eighth_f32 : Ideal.ofBits .f32 0x3E000000#32 = ((1 / 8 : ℝ) : EReal) := by
  simp [Ideal.ofBits, Ideal.ieee]
  rw [← EReal.coe_mul]
  norm_num

/-- For real scores, the weighted sum divided at the end is the sum weighted by the quotients. -/
theorem row_eq (x : Fin 256 → ℝ) (s v : Fin 256 → EReal) (hs : ∀ k, s k = (x k : EReal)) :
    rowOut s v = ∑ k, Ideal.div (Ideal.exp (s k - Finset.univ.fold max ⊥ s)) (∑ j, Ideal.exp (s j - Finset.univ.fold max ⊥ s)) * v k := by
  obtain rfl : s = fun k => (x k : EReal) := funext hs
  obtain ⟨k0, -, f0⟩ := Cert.Softmax.fold_max_real (by norm_num) x
  have e (k : Fin 256) : Ideal.exp ((x k : EReal) - Finset.univ.fold max ⊥ fun k => (x k : EReal)) = ((Real.exp (x k - x k0) : ℝ) : EReal) := by
    rw [f0, ← EReal.coe_sub, Ideal.exp_coe]
  have C : 0 < ∑ k, Real.exp (x k - x k0) := Finset.sum_pos (fun k _ => Real.exp_pos _) ⟨⟨0, by norm_num⟩, Finset.mem_univ _⟩
  have C0 : ((∑ k, Real.exp (x k - x k0) : ℝ) : EReal) ≠ 0 := by exact_mod_cast C.ne'
  unfold rowOut
  simp only [e, Cert.Softmax.sum_real, Ideal.div, if_neg C0]
  rw [← EReal.coe_inv, Cert.Softmax.mul_sum_real _ _ (inv_nonneg.2 C.le)]
  exact Finset.sum_congr rfl fun k _ => by rw [mul_right_comm]

/-- One entry of the two arrays, where the queries and the keys are real. -/
theorem attn_entry (u : FVec Ideal S4x256x3072 .f32)
    (real : ∀ (b : Fin 4) (t : Fin 256) (n : Fin 1024), ∃ r : ℝ, (u (ix3 b t ⟨1536 + n.val, by omega⟩) : EReal) = (r : EReal))
    (b : Fin 4) (t : Fin 256) (n : Fin 512) :
    Cert.AttnCtxRefIdeal.Attn.attn u (ix3 b t n) = ctxArr (truncf .bf16 u bitsLt_bf16_f32 : FVec Ideal S4x256x3072 .bf16) (ix3 b t n) := by
  choose w hw using real
  obtain ⟨h, hh⟩ : ∃ h : Fin 8, h.val = n.val / 64 := ⟨⟨n.val / 64, by omega⟩, rfl⟩
  obtain ⟨d, hd⟩ : ∃ d : Fin 64, d.val = n.val % 64 := ⟨⟨n.val % 64, by omega⟩, rfl⟩
  have hn : n.val = h.val * 64 + d.val := by omega
  let q : Fin 64 → ℝ := fun x => w b t ⟨h.val * 64 + x.val, by omega⟩
  let k : Fin 256 → Fin 64 → ℝ := fun j x => w b j ⟨512 + (h.val * 64 + x.val), by omega⟩
  have hq (x : Fin 64) (p : Fin 3072) (hp : p.val = 1536 + (h.val * 64 + x.val)) : (u (ix3 b t p) : EReal) = (q x : EReal) :=
    (congrArg u ((ix3_inj ..).2 ⟨rfl, rfl, Fin.ext hp⟩)).trans (hw b t ⟨h.val * 64 + x.val, by omega⟩)
  have hk (j : Fin 256) (x : Fin 64) (p : Fin 3072) (hp : p.val = 2048 + (h.val * 64 + x.val)) : (u (ix3 b j p) : EReal) = (k j x : EReal) :=
    (congrArg u ((ix3_inj ..).2 ⟨rfl, rfl, Fin.ext (by show p.val = 1536 + (512 + (h.val * 64 + x.val)); omega)⟩)).trans
      (hw b j ⟨512 + (h.val * 64 + x.val), by omega⟩)
  let r : Fin 256 → ℝ := fun j => (∑ x, q x * k j x) * (1 / 8)
  have hs (j : Fin 256) : ((r j : ℝ) : EReal) = (∑ x : Fin 64, (u (ix3 b t ⟨1536 + (h.val * 64 + x.val), by omega⟩) : EReal)
      * u (ix3 b j ⟨2048 + (h.val * 64 + x.val), by omega⟩)) * Ideal.ofBits .f32 0x3E000000#32 := by
    rw [eighth_f32]
    show (((∑ x, q x * k j x) * (1 / 8) : ℝ) : EReal) = _
    rw [EReal.coe_mul, ← Cert.Softmax.sum_real]
    refine congrArg (fun y : EReal => y * ((1 / 8 : ℝ) : EReal)) (Finset.sum_congr rfl fun x _ => ?_)
    rw [hq x _ rfl, hk j x _ rfl, EReal.coe_mul]
  rw [Cert.AttnCtxRefIdeal.Attn.attn_at u b t h d n hn (fun j => ((r j : ℝ) : EReal)) hs, ← row_eq r _ _ fun _ => rfl]
  unfold ctxArr
  refine Cert.AttnCtxIdeal.Attn.rowOut_congr (fun j => ?_) (fun j => rfl)
  show (((∑ x, q x * k j x) * (1 / 8) : ℝ) : EReal) = _
  rw [Finset.sum_mul, ← Cert.Softmax.sum_real]
  refine Finset.sum_congr rfl fun x _ => ?_
  show _ = (u (ix3 b t ⟨1536 + (n.val / 64 * 64 + x.val), by omega⟩) : EReal) * Ideal.ofBits .bf16 0x3E00#16 * u (ix3 b j ⟨2048 + (n.val / 64 * 64 + x.val), by omega⟩)
  rw [eighth_bf16, hq x _ (by show 1536 + (n.val / 64 * 64 + x.val) = _; rw [hh]), hk j x _ (by show 2048 + (n.val / 64 * 64 + x.val) = _; rw [hh]),
    ← EReal.coe_mul, ← EReal.coe_mul]
  congr 1
  ring

/-- The two arrays are equal. -/
theorem attn_eq (u : FVec Ideal S4x256x3072 .f32)
    (real : ∀ (b : Fin 4) (t : Fin 256) (n : Fin 1024), ∃ r : ℝ, (u (ix3 b t ⟨1536 + n.val, by omega⟩) : EReal) = (r : EReal)) :
    Cert.AttnCtxRefIdeal.Attn.attn u = ctxArr (truncf .bf16 u bitsLt_bf16_f32 : FVec Ideal S4x256x3072 .bf16) := by
  funext j
  idx_vars j
  exact attn_entry u real _ _ _

end Cert.AttnCtxEq

end
-- ==== Proof.lean ====
/- The proof of the certificate: for each of the eight calls the frames of the kernel, of its reading at exact arithmetic and of the plain formula,
   and the equality of all of the call's results with the plain formula's, entry by entry. The calls are the attention, the second halves of an odd and
   an even layer, the first halves of an even and an odd layer, an even layer's second and first half on the context tokens, and the context tokens' attention. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Gen.KernelIdeal.Value
public import proofs.«01_k».proof.Proof.Attn
public import proofs.«01_k».proof.Proof.PostOdd
public import proofs.«01_k».proof.Proof.PostEven
public import proofs.«01_k».proof.Proof.FrontEven
public import proofs.«01_k».proof.Proof.FrontOdd
public import proofs.«01_k».proof.Proof.FrontOddFinal
public import proofs.«01_k».proof.Proof.FrontOddV
public import proofs.«01_k».proof.Proof.PostCtx
public import proofs.«01_k».proof.Proof.FrontCtx
public import proofs.«01_k».proof.Proof.AttnCtx
public import proofs.«01_k».proof.Proof.Gen.PostOdd.Frame
public import proofs.«01_k».proof.Proof.Gen.PostOddIdeal.Value
public import proofs.«01_k».proof.Proof.Gen.PostOddRefIdeal.Run
public import proofs.«01_k».proof.Proof.Gen.PostEven.Frame
public import proofs.«01_k».proof.Proof.Gen.PostEvenIdeal.Value
public import proofs.«01_k».proof.Proof.Gen.PostEvenRefIdeal.Run
public import proofs.«01_k».proof.Proof.Gen.FrontEven.Frame
public import proofs.«01_k».proof.Proof.Gen.FrontEvenIdeal.Value
public import proofs.«01_k».proof.Proof.Gen.FrontEvenRefIdeal.Run
public import proofs.«01_k».proof.Proof.Gen.FrontOdd.Frame
public import proofs.«01_k».proof.Proof.Gen.FrontOddIdeal.Value
public import proofs.«01_k».proof.Proof.Gen.FrontOddRefIdeal.Run
public import proofs.«01_k».proof.Proof.Gen.PostCtx.Frame
public import proofs.«01_k».proof.Proof.Gen.PostCtxIdeal.Frame
public import proofs.«01_k».proof.Proof.Gen.PostCtxRefIdeal.Run
public import proofs.«01_k».proof.Proof.Gen.FrontCtx.Frame
public import proofs.«01_k».proof.Proof.Gen.FrontCtxIdeal.Value
public import proofs.«01_k».proof.Proof.Gen.FrontCtxRefIdeal.Run
public import proofs.«01_k».proof.Proof.Gen.AttnCtx.Frame
public import proofs.«01_k».proof.Proof.Gen.AttnCtxIdeal.Value
public import proofs.«01_k».proof.Proof.Gen.AttnCtxRefIdeal.Run
public import Idealize.ShloMosaic.Lib.Quiescent

@[expose] public section

noncomputable section

namespace Cert.Proof

open Idealize.ShloMosaic Idealize.SL.Sem

/-- The side conditions the precondition's operations take. -/
theorem pre_facts : Cert.Pre_finite.Facts :=
  ⟨by decide, by decide, by decide, by decide, by decide⟩

/-- The reference runs, its arguments end unchanged and nothing is left in flight. -/
theorem frame_ref : quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩)
    (Cert.ReferenceIdeal.Value.run (F := Ideal) m g)

/-- The kernel's attention is the reference's. -/
theorem attention : algebraic_KernelIdeal_ReferenceIdeal_pre_finite (hKernelIdeal := Cert.KernelIdeal.Gen.facts)
    (hReferenceIdeal := Cert.ReferenceIdeal.Gen.facts) (hPre_finite := pre_facts) := fun m g m' g' pre agree => by
  haveI := pre_facts
  refine ⟨fun c => (Cert.KernelIdeal.Gen.dats m 0 c).arrAt 3 (Cert.KernelIdeal.cfgs 0).N, Cert.KernelIdeal.Value.run_blocks m g,
    (θ_run _ _ _).mono (fun r h c => ⟨?_, (h c).2⟩) (Cert.ReferenceIdeal.Value.run (F := Ideal) m' g')⟩
  obtain ⟨r0, r1, r3⟩ := Cert.Attn.reals_of_finite _ _ _ _ _ (pre c)
  obtain ⟨e0, e1, e2, e3, e4⟩ := agree c
  refine (h c).1.trans ?_
  rw [Cert.ReferenceIdeal.Attn.res_eq, e0, e1, e2, e3, e4]
  refine Eq.trans ?_ (Cert.KernelIdeal.Attn.final m c).symm
  rw [Cert.KernelIdeal.Attn.V13, Cert.KernelIdeal.Attn.V20, Cert.KernelIdeal.Attn.V27]
  exact (Cert.Attn.attn_eq _ _ _ _ _ r0 r1 r3).symm

/-- The second half of an odd layer: the plain formula runs, its arguments end unchanged and nothing is left in flight. -/
theorem frame_PostOddRefIdeal : quiescent_PostOddRefIdeal (hPostOddRefIdeal := Cert.PostOddRefIdeal.Gen.facts) := fun m g _ =>
  (θ_run _ _ _).mono (fun r h => ⟨fun c => (h c).2, Idealize.ShloMosaic.sem_eq_zero_of_no_sems (by decide) r.2⟩)
    (Cert.PostOddRefIdeal.Value.run (F := Ideal) m g)

/-- The second half of an odd layer: the call's result is the plain formula's. -/
theorem post_odd : algebraic_PostOddIdeal_PostOddRefIdeal (hPostOddIdeal := Cert.PostOddIdeal.Gen.facts)
    (hPostOddRefIdeal := Cert.PostOddRefIdeal.Gen.facts) := fun m g m' g' _ agree => by
  refine ⟨fun c => (Cert.PostOddIdeal.Gen.dats m 0 c).arrAt 10 (Cert.PostOddIdeal.cfgs 0).N, Cert.PostOddIdeal.Value.run_blocks m g,
    (θ_run _ _ _).mono (fun r h c => ⟨?_, (h c).2⟩) (Cert.PostOddRefIdeal.Value.run (F := Ideal) m' g')⟩
  obtain ⟨e0, e1, e2, e3, e4, e5, e6, e7, e8⟩ := agree c
  refine (h c).1.trans ((show _ = Cert.PostOddRefIdeal.Post.post (m' ((c.tc : Thread Cert.PostOddRefIdeal.nD Cert.PostOddRefIdeal.τ).loc Cert.PostOddRefIdeal.main_arg0)) (m' ((c.tc : Thread Cert.PostOddRefIdeal.nD Cert.PostOddRefIdeal.τ).loc Cert.PostOddRefIdeal.main_arg1)) (m' ((c.tc : Thread Cert.PostOddRefIdeal.nD Cert.PostOddRefIdeal.τ).loc Cert.PostOddRefIdeal.main_arg2)) (m' ((c.tc : Thread Cert.PostOddRefIdeal.nD Cert.PostOddRefIdeal.τ).loc Cert.PostOddRefIdeal.main_arg3)) (m' ((c.tc : Thread Cert.PostOddRefIdeal.nD Cert.PostOddRefIdeal.τ).loc Cert.PostOddRefIdeal.main_arg4)) (m' ((c.tc : Thread Cert.PostOddRefIdeal.nD Cert.PostOddRefIdeal.τ).loc Cert.PostOddRefIdeal.main_arg5)) (m' ((c.tc : Thread Cert.PostOddRefIdeal.nD Cert.PostOddRefIdeal.τ).loc Cert.PostOddRefIdeal.main_arg6)) (m' ((c.tc : Thread Cert.PostOddRefIdeal.nD Cert.PostOddRefIdeal.τ).loc Cert.PostOddRefIdeal.main_arg7)) (m' ((c.tc : Thread Cert.PostOddRefIdeal.nD Cert.PostOddRefIdeal.τ).loc Cert.PostOddRefIdeal.main_arg8)) from rfl).trans ?_)
  rw [e0, e1, e2, e3, e4, e5, e6, e7, e8]
  refine Eq.trans ?_ (Cert.PostOddIdeal.Post.final m c).symm
  rw [Cert.PostOddIdeal.Post.V4, Cert.PostOddIdeal.Post.V9, Cert.PostOddIdeal.Post.V10, Cert.PostOddIdeal.Post.V11, Cert.PostOddIdeal.Post.V12,
    Cert.PostOddIdeal.Gen.V_main_arg0, Cert.PostOddIdeal.Gen.V_main_arg1, Cert.PostOddIdeal.Gen.V_main_arg3, Cert.PostOddIdeal.Gen.V_main_arg5, Cert.PostOddIdeal.Gen.V_main_arg6]
  exact Cert.PostOddEq.post_eq _ _ _ _ _ _ _ _ _

/-- The second half of an even layer: the plain formula runs, its arguments end unchanged and nothing is left in flight. -/
theorem frame_PostEvenRefIdeal : quiescent_PostEvenRefIdeal (hPostEvenRefIdeal := Cert.PostEvenRefIdeal.Gen.facts) := fun m g _ =>
  (θ_run _ _ _).mono (fun r h => ⟨fun c => (h c).2, Idealize.ShloMosaic.sem_eq_zero_of_no_sems (by decide) r.2⟩)
    (Cert.PostEvenRefIdeal.Value.run (F := Ideal) m g)

/-- The second half of an even layer: the call's result is the plain formula's. -/
theorem post_even : algebraic_PostEvenIdeal_PostEvenRefIdeal (hPostEvenIdeal := Cert.PostEvenIdeal.Gen.facts)
    (hPostEvenRefIdeal := Cert.PostEvenRefIdeal.Gen.facts) := fun m g m' g' _ agree => by
  refine ⟨fun c => (Cert.PostEvenIdeal.Gen.dats m 0 c).arrAt 10 (Cert.PostEvenIdeal.cfgs 0).N, Cert.PostEvenIdeal.Value.run_blocks m g,
    (θ_run _ _ _).mono (fun r h c => ⟨?_, (h c).2⟩) (Cert.PostEvenRefIdeal.Value.run (F := Ideal) m' g')⟩
  obtain ⟨e0, e1, e2, e3, e4, e5, e6, e7, e8⟩ := agree c
  refine (h c).1.trans ((show _ = Cert.PostEvenRefIdeal.Post.post (m' ((c.tc : Thread Cert.PostEvenRefIdeal.nD Cert.PostEvenRefIdeal.τ).loc Cert.PostEvenRefIdeal.main_arg0)) (m' ((c.tc : Thread Cert.PostEvenRefIdeal.nD Cert.PostEvenRefIdeal.τ).loc Cert.PostEvenRefIdeal.main_arg1)) (m' ((c.tc : Thread Cert.PostEvenRefIdeal.nD Cert.PostEvenRefIdeal.τ).loc Cert.PostEvenRefIdeal.main_arg2)) (m' ((c.tc : Thread Cert.PostEvenRefIdeal.nD Cert.PostEvenRefIdeal.τ).loc Cert.PostEvenRefIdeal.main_arg3)) (m' ((c.tc : Thread Cert.PostEvenRefIdeal.nD Cert.PostEvenRefIdeal.τ).loc Cert.PostEvenRefIdeal.main_arg4)) (m' ((c.tc : Thread Cert.PostEvenRefIdeal.nD Cert.PostEvenRefIdeal.τ).loc Cert.PostEvenRefIdeal.main_arg5)) (m' ((c.tc : Thread Cert.PostEvenRefIdeal.nD Cert.PostEvenRefIdeal.τ).loc Cert.PostEvenRefIdeal.main_arg6)) (m' ((c.tc : Thread Cert.PostEvenRefIdeal.nD Cert.PostEvenRefIdeal.τ).loc Cert.PostEvenRefIdeal.main_arg7)) (m' ((c.tc : Thread Cert.PostEvenRefIdeal.nD Cert.PostEvenRefIdeal.τ).loc Cert.PostEvenRefIdeal.main_arg8)) from rfl).trans ?_)
  rw [e0, e1, e2, e3, e4, e5, e6, e7, e8]
  refine Eq.trans ?_ (Cert.PostEvenIdeal.Post.final m c).symm
  rw [Cert.PostEvenIdeal.Post.V1, Cert.PostEvenIdeal.Post.V2, Cert.PostEvenIdeal.Post.V3, Cert.PostEvenIdeal.Post.V4, Cert.PostEvenIdeal.Post.V5,
    Cert.PostEvenIdeal.Gen.V_main_arg0, Cert.PostEvenIdeal.Gen.V_main_arg1, Cert.PostEvenIdeal.Gen.V_main_arg2, Cert.PostEvenIdeal.Gen.V_main_arg5, Cert.PostEvenIdeal.Gen.V_main_arg6]
  exact Cert.PostEvenEq.post_eq _ _ _ _ _ _ _ _ _

/-- The first half of an even layer: the plain formula runs, its arguments end unchanged and nothing is left in flight. -/
theorem frame_FrontEvenRefIdeal : quiescent_FrontEvenRefIdeal (hFrontEvenRefIdeal := Cert.FrontEvenRefIdeal.Gen.facts) := fun m g _ =>
  (θ_run _ _ _).mono (fun r h => ⟨fun c => (h c).2.2, Idealize.ShloMosaic.sem_eq_zero_of_no_sems (by decide) r.2⟩)
    (Cert.FrontEvenRefIdeal.Value.run (F := Ideal) m g)

/-- The first half of an even layer: both of the call's results are the plain formula's. -/
theorem front_even : algebraic_FrontEvenIdeal_FrontEvenRefIdeal (hFrontEvenIdeal := Cert.FrontEvenIdeal.Gen.facts)
    (hFrontEvenRefIdeal := Cert.FrontEvenRefIdeal.Gen.facts) := fun m g m' g' _ agree => by
  refine ⟨fun c => (Cert.FrontEvenIdeal.Gen.dats m 0 c).arrAt 4 (Cert.FrontEvenIdeal.cfgs 0).N,
    fun c => (Cert.FrontEvenIdeal.Gen.dats m 0 c).arrAt 5 (Cert.FrontEvenIdeal.cfgs 0).N, Cert.FrontEvenIdeal.Value.run_blocks m g,
    (θ_run _ _ _).mono (fun r h c => ⟨?_, ?_, (h c).2.2⟩) (Cert.FrontEvenRefIdeal.Value.run (F := Ideal) m' g')⟩
  · obtain ⟨e0, e1, e2⟩ := agree c
    refine (h c).1.trans ((show _ = Cert.FrontEvenRefIdeal.Front.tokMajor (m' ((c.tc : Thread Cert.FrontEvenRefIdeal.nD Cert.FrontEvenRefIdeal.τ).loc Cert.FrontEvenRefIdeal.main_arg0)) (m' ((c.tc : Thread Cert.FrontEvenRefIdeal.nD Cert.FrontEvenRefIdeal.τ).loc Cert.FrontEvenRefIdeal.main_arg1)) (m' ((c.tc : Thread Cert.FrontEvenRefIdeal.nD Cert.FrontEvenRefIdeal.τ).loc Cert.FrontEvenRefIdeal.main_arg2)) from rfl).trans ?_)
    rw [e0, e1, e2]
    refine Eq.trans ?_ (Cert.FrontEvenIdeal.Front.final4 m c).symm
    rw [Cert.FrontEvenIdeal.Front.V1, Cert.FrontEvenIdeal.Gen.V_main_arg0, Cert.FrontEvenIdeal.Gen.V_main_arg1]
    exact Cert.FrontEvenEq.tok_eq _ _ _
  · obtain ⟨e0, e1, e2⟩ := agree c
    refine (h c).2.1.trans ((show _ = Cert.FrontEvenRefIdeal.Front.chanMajor (m' ((c.tc : Thread Cert.FrontEvenRefIdeal.nD Cert.FrontEvenRefIdeal.τ).loc Cert.FrontEvenRefIdeal.main_arg0)) (m' ((c.tc : Thread Cert.FrontEvenRefIdeal.nD Cert.FrontEvenRefIdeal.τ).loc Cert.FrontEvenRefIdeal.main_arg1)) (m' ((c.tc : Thread Cert.FrontEvenRefIdeal.nD Cert.FrontEvenRefIdeal.τ).loc Cert.FrontEvenRefIdeal.main_arg2)) from rfl).trans ?_)
    rw [e0, e1, e2]
    refine Eq.trans ?_ (Cert.FrontEvenIdeal.Front.final5 m c).symm
    rw [Cert.FrontEvenIdeal.Front.V3, Cert.FrontEvenIdeal.Gen.V_main_arg0, Cert.FrontEvenIdeal.Gen.V_main_arg1]
    exact Cert.FrontEvenEq.chan_eq _ _ _

/-- The first half of an odd layer: the plain formula runs, its arguments end unchanged and nothing is left in flight. -/
theorem frame_FrontOddRefIdeal : quiescent_FrontOddRefIdeal (hFrontOddRefIdeal := Cert.FrontOddRefIdeal.Gen.facts) := fun m g _ =>
  (θ_run _ _ _).mono (fun r h => ⟨fun c => (h c).2.2.2.2.2, Idealize.ShloMosaic.sem_eq_zero_of_no_sems (by decide) r.2⟩)
    (Cert.FrontOddRefIdeal.Value.run (F := Ideal) m g)

set_option maxHeartbeats 4000000 in
/-- The first half of an odd layer: all five of the call's results are the plain formula's. -/
theorem front_odd : algebraic_FrontOddIdeal_FrontOddRefIdeal (hFrontOddIdeal := Cert.FrontOddIdeal.Gen.facts)
    (hFrontOddRefIdeal := Cert.FrontOddRefIdeal.Gen.facts) := fun m g m' g' _ agree => by
  refine ⟨fun c => (Cert.FrontOddIdeal.Gen.dats m 0 c).arrAt 19 (Cert.FrontOddIdeal.cfgs 0).N,
    fun c => (Cert.FrontOddIdeal.Gen.dats m 0 c).arrAt 20 (Cert.FrontOddIdeal.cfgs 0).N,
    fun c => (Cert.FrontOddIdeal.Gen.dats m 0 c).arrAt 21 (Cert.FrontOddIdeal.cfgs 0).N,
    fun c => (Cert.FrontOddIdeal.Gen.dats m 0 c).arrAt 22 (Cert.FrontOddIdeal.cfgs 0).N,
    fun c => (Cert.FrontOddIdeal.Gen.dats m 0 c).arrAt 23 (Cert.FrontOddIdeal.cfgs 0).N, Cert.FrontOddIdeal.Value.run_blocks m g,
    (θ_run _ _ _).mono (fun r h c => ⟨?_, ?_, ?_, ?_, ?_, (h c).2.2.2.2.2⟩) (Cert.FrontOddRefIdeal.Value.run (F := Ideal) m' g')⟩
  · refine ((h c).1).trans ((show _ = Cert.FrontOddRefIdeal.Front.resQ (StableHlo.launchContents m' c) from rfl).trans ?_)
    refine Eq.trans ?_ (Cert.FrontOddIdeal.Front.final19 m c).symm
    rw [Cert.FrontOddIdeal.Front.Va0, Cert.FrontOddIdeal.Front.Va1, Cert.FrontOddIdeal.Front.Va2, Cert.FrontOddIdeal.Front.V5, Cert.FrontOddIdeal.Front.V119, Cert.FrontOddIdeal.Front.V15, Cert.FrontOddIdeal.Front.V116, Cert.FrontOddIdeal.Front.V117, Cert.FrontOddIdeal.Front.V118]
    obtain ⟨e0, e1, e2, e3, e4, e5, e6, e7, e8, e9⟩ := agree c
    rw [← e0, ← e1, ← e2, ← e3, ← e4, ← e5]
    exact (Cert.FrontOddEq.q_eq (StableHlo.launchContents m' c)).symm
  · refine ((h c).2.1).trans ((show _ = Cert.FrontOddRefIdeal.Front.resK (StableHlo.launchContents m' c) from rfl).trans ?_)
    refine Eq.trans ?_ (Cert.FrontOddIdeal.Front.final20 m c).symm
    rw [Cert.FrontOddIdeal.Front.Va0, Cert.FrontOddIdeal.Front.Va1, Cert.FrontOddIdeal.Front.Va2, Cert.FrontOddIdeal.Front.V5, Cert.FrontOddIdeal.Front.V120, Cert.FrontOddIdeal.Front.V20, Cert.FrontOddIdeal.Front.V42, Cert.FrontOddIdeal.Front.V116, Cert.FrontOddIdeal.Front.V117, Cert.FrontOddIdeal.Front.V118]
    obtain ⟨e0, e1, e2, e3, e4, e5, e6, e7, e8, e9⟩ := agree c
    rw [← e0, ← e1, ← e2, ← e3, ← e6, ← e7]
    exact (Cert.FrontOddEq.k_eq (StableHlo.launchContents m' c)).symm
  · refine ((h c).2.2.1).trans ((show _ = Cert.FrontOddRefIdeal.Front.resV (StableHlo.launchContents m' c) from rfl).trans ?_)
    refine Eq.trans ?_ (Cert.FrontOddIdeal.Front.final21 m c).symm
    rw [Cert.FrontOddIdeal.Front.Va0, Cert.FrontOddIdeal.Front.Va1, Cert.FrontOddIdeal.Front.Va2, Cert.FrontOddIdeal.Front.V5, Cert.FrontOddIdeal.Front.V120, Cert.FrontOddIdeal.Front.V25, Cert.FrontOddIdeal.Front.V46]
    obtain ⟨e0, e1, e2, e3, e4, e5, e6, e7, e8, e9⟩ := agree c
    rw [← e0, ← e1, ← e2, ← e3, ← e6, ← e7]
    exact (Cert.FrontOddEq.v_eq (StableHlo.launchContents m' c)).symm
  · refine ((h c).2.2.2.1).trans ((show _ = Cert.FrontOddRefIdeal.Front.resC (StableHlo.launchContents m' c) from rfl).trans ?_)
    refine Eq.trans ?_ (Cert.FrontOddIdeal.Front.final22 m c).symm
    rw [Cert.FrontOddIdeal.Front.Va0, Cert.FrontOddIdeal.Front.Va1, Cert.FrontOddIdeal.Front.Va2, Cert.FrontOddIdeal.Front.V5, Cert.FrontOddIdeal.Front.V67, Cert.FrontOddIdeal.Front.V73, Cert.FrontOddIdeal.Front.V121, Cert.FrontOddIdeal.Front.V122]
    obtain ⟨e0, e1, e2, e3, e4, e5, e6, e7, e8, e9⟩ := agree c
    rw [← e0, ← e1, ← e2, ← e3, ← e8, ← e9]
    exact (Cert.FrontOddEq.cos_eq (StableHlo.launchContents m' c)).symm
  · refine ((h c).2.2.2.2.1).trans ((show _ = Cert.FrontOddRefIdeal.Front.resS (StableHlo.launchContents m' c) from rfl).trans ?_)
    refine Eq.trans ?_ (Cert.FrontOddIdeal.Front.final23 m c).symm
    rw [Cert.FrontOddIdeal.Front.Va0, Cert.FrontOddIdeal.Front.Va1, Cert.FrontOddIdeal.Front.Va2, Cert.FrontOddIdeal.Front.V5, Cert.FrontOddIdeal.Front.V70, Cert.FrontOddIdeal.Front.V73, Cert.FrontOddIdeal.Front.V121, Cert.FrontOddIdeal.Front.V122]
    obtain ⟨e0, e1, e2, e3, e4, e5, e6, e7, e8, e9⟩ := agree c
    rw [← e0, ← e1, ← e2, ← e3, ← e8, ← e9]
    exact (Cert.FrontOddEq.sin_eq (StableHlo.launchContents m' c)).symm

/-- The second half of an even layer on the context tokens: the plain formula runs, its arguments end unchanged and nothing is left in flight. -/
theorem frame_PostCtxRefIdeal : quiescent_PostCtxRefIdeal (hPostCtxRefIdeal := Cert.PostCtxRefIdeal.Gen.facts) := fun m g _ =>
  (θ_run _ _ _).mono (fun r h => ⟨fun c => (h c).2, Idealize.ShloMosaic.sem_eq_zero_of_no_sems (by decide) r.2⟩)
    (Cert.PostCtxRefIdeal.Value.run (F := Ideal) m g)

/-- The second half of an even layer on the context tokens: the call's result is the plain formula's. -/
theorem post_ctx : algebraic_PostCtxIdeal_PostCtxRefIdeal (hPostCtxIdeal := Cert.PostCtxIdeal.Gen.facts)
    (hPostCtxRefIdeal := Cert.PostCtxRefIdeal.Gen.facts) := fun m g m' g' _ agree => by
  refine ⟨fun c => (Cert.PostCtxIdeal.Gen.dats m 0 c).arrAt 10 (Cert.PostCtxIdeal.cfgs 0).N, Cert.PostCtxIdeal.Post.ran m g,
    (θ_run _ _ _).mono (fun r h c => ⟨?_, (h c).2⟩) (Cert.PostCtxRefIdeal.Value.run (F := Ideal) m' g')⟩
  obtain ⟨e0, e1, e2, e3, e4, e5, e6, e7, e8⟩ := agree c
  refine (h c).1.trans ((show _ = Cert.PostCtxRefIdeal.Post.post (m' ((c.tc : Thread Cert.PostCtxRefIdeal.nD Cert.PostCtxRefIdeal.τ).loc Cert.PostCtxRefIdeal.main_arg0)) (m' ((c.tc : Thread Cert.PostCtxRefIdeal.nD Cert.PostCtxRefIdeal.τ).loc Cert.PostCtxRefIdeal.main_arg1)) (m' ((c.tc : Thread Cert.PostCtxRefIdeal.nD Cert.PostCtxRefIdeal.τ).loc Cert.PostCtxRefIdeal.main_arg2)) (m' ((c.tc : Thread Cert.PostCtxRefIdeal.nD Cert.PostCtxRefIdeal.τ).loc Cert.PostCtxRefIdeal.main_arg3)) (m' ((c.tc : Thread Cert.PostCtxRefIdeal.nD Cert.PostCtxRefIdeal.τ).loc Cert.PostCtxRefIdeal.main_arg4)) (m' ((c.tc : Thread Cert.PostCtxRefIdeal.nD Cert.PostCtxRefIdeal.τ).loc Cert.PostCtxRefIdeal.main_arg5)) (m' ((c.tc : Thread Cert.PostCtxRefIdeal.nD Cert.PostCtxRefIdeal.τ).loc Cert.PostCtxRefIdeal.main_arg6)) (m' ((c.tc : Thread Cert.PostCtxRefIdeal.nD Cert.PostCtxRefIdeal.τ).loc Cert.PostCtxRefIdeal.main_arg7)) (m' ((c.tc : Thread Cert.PostCtxRefIdeal.nD Cert.PostCtxRefIdeal.τ).loc Cert.PostCtxRefIdeal.main_arg8)) from rfl).trans ?_)
  rw [e0, e1, e2, e3, e4, e5, e6, e7, e8]
  refine Eq.trans ?_ (Cert.PostCtxIdeal.Post.final m c).symm
  rw [Cert.PostCtxIdeal.Post.V1, Cert.PostCtxIdeal.Post.V2, Cert.PostCtxIdeal.Post.V3, Cert.PostCtxIdeal.Post.V4, Cert.PostCtxIdeal.Post.V5, Cert.PostCtxIdeal.Post.V6,
    Cert.PostCtxIdeal.Gen.V_main_arg0, Cert.PostCtxIdeal.Gen.V_main_arg1, Cert.PostCtxIdeal.Gen.V_main_arg5, Cert.PostCtxIdeal.Gen.V_main_arg6]
  exact Cert.PostCtxEq.post_eq _ _ _ _ _ _ _ _ _

/-- The first half of an even layer on the context tokens: the plain formula runs, its arguments end unchanged and nothing is left in flight. -/
theorem frame_FrontCtxRefIdeal : quiescent_FrontCtxRefIdeal (hFrontCtxRefIdeal := Cert.FrontCtxRefIdeal.Gen.facts) := fun m g _ =>
  (θ_run _ _ _).mono (fun r h => ⟨fun c => (h c).2, Idealize.ShloMosaic.sem_eq_zero_of_no_sems (by decide) r.2⟩)
    (Cert.FrontCtxRefIdeal.Value.run (F := Ideal) m g)

/-- The first half of an even layer on the context tokens: the call's result is the plain formula's. -/
theorem front_ctx : algebraic_FrontCtxIdeal_FrontCtxRefIdeal (hFrontCtxIdeal := Cert.FrontCtxIdeal.Gen.facts)
    (hFrontCtxRefIdeal := Cert.FrontCtxRefIdeal.Gen.facts) := fun m g m' g' _ agree => by
  refine ⟨fun c => (Cert.FrontCtxIdeal.Gen.dats m 0 c).arrAt 3 (Cert.FrontCtxIdeal.cfgs 0).N, Cert.FrontCtxIdeal.Value.run_blocks m g,
    (θ_run _ _ _).mono (fun r h c => ⟨?_, (h c).2⟩) (Cert.FrontCtxRefIdeal.Value.run (F := Ideal) m' g')⟩
  obtain ⟨e0, e1, e2⟩ := agree c
  refine (h c).1.trans ((show _ = Cert.FrontCtxRefIdeal.Front.front (m' ((c.tc : Thread Cert.FrontCtxRefIdeal.nD Cert.FrontCtxRefIdeal.τ).loc Cert.FrontCtxRefIdeal.main_arg0)) (m' ((c.tc : Thread Cert.FrontCtxRefIdeal.nD Cert.FrontCtxRefIdeal.τ).loc Cert.FrontCtxRefIdeal.main_arg1)) (m' ((c.tc : Thread Cert.FrontCtxRefIdeal.nD Cert.FrontCtxRefIdeal.τ).loc Cert.FrontCtxRefIdeal.main_arg2)) from rfl).trans ?_)
  rw [e0, e1, e2]
  refine Eq.trans ?_ (Cert.FrontCtxIdeal.Front.final m c).symm
  rw [Cert.FrontCtxIdeal.Front.V0, Cert.FrontCtxIdeal.Gen.V_main_arg0, Cert.FrontCtxIdeal.Gen.V_main_arg1]
  exact Cert.FrontCtxEq.front_eq _ _ _

/-- The side conditions the operations of the precondition on the context tokens take. -/
theorem pre_facts_ctx : Cert.Pre_finite_ctx.Facts :=
  ⟨by decide, by decide, by decide, by decide⟩

/-- The context tokens' attention: the plain formula runs, its arguments end unchanged and nothing is left in flight. -/
theorem frame_AttnCtxRefIdeal : quiescent_AttnCtxRefIdeal (hAttnCtxRefIdeal := Cert.AttnCtxRefIdeal.Gen.facts) := fun m g _ =>
  (θ_run _ _ _).mono (fun r h => ⟨fun c => (h c).2, Idealize.ShloMosaic.sem_eq_zero_of_no_sems (by decide) r.2⟩)
    (Cert.AttnCtxRefIdeal.Value.run (F := Ideal) m g)

/-- The context tokens' attention: the call's result is the plain formula's. -/
theorem attn_ctx : algebraic_AttnCtxIdeal_AttnCtxRefIdeal_pre_finite_ctx (hAttnCtxIdeal := Cert.AttnCtxIdeal.Gen.facts)
    (hAttnCtxRefIdeal := Cert.AttnCtxRefIdeal.Gen.facts) (hPre_finite_ctx := pre_facts_ctx) := fun m g m' g' pre agree => by
  haveI := pre_facts_ctx
  refine ⟨fun c => (Cert.AttnCtxIdeal.Gen.dats m 0 c).arrAt 3 (Cert.AttnCtxIdeal.cfgs 0).N, Cert.AttnCtxIdeal.Value.run_blocks m g,
    (θ_run _ _ _).mono (fun r h c => ⟨?_, (h c).2⟩) (Cert.AttnCtxRefIdeal.Value.run (F := Ideal) m' g')⟩
  have real := Cert.AttnCtxEq.reals_of_finite _ (pre c)
  have e0 := agree c
  refine (h c).1.trans ?_
  rw [Cert.AttnCtxRefIdeal.Attn.res_eq, e0]
  refine Eq.trans ?_ (Cert.AttnCtxIdeal.Attn.final m c).symm
  rw [Cert.AttnCtxIdeal.Attn.V0]
  exact Cert.AttnCtxEq.attn_eq _ real

/-- All of the claims. -/
theorem claim : Cert.Claim := ⟨Cert.Kernel.Gen.facts, Cert.KernelIdeal.Gen.facts, Cert.ReferenceIdeal.Gen.facts,
  Cert.PostOdd.Gen.facts, Cert.PostOddIdeal.Gen.facts, Cert.PostOddRefIdeal.Gen.facts,
  Cert.PostEven.Gen.facts, Cert.PostEvenIdeal.Gen.facts, Cert.PostEvenRefIdeal.Gen.facts,
  Cert.FrontEven.Gen.facts, Cert.FrontEvenIdeal.Gen.facts, Cert.FrontEvenRefIdeal.Gen.facts,
  Cert.FrontOdd.Gen.facts, Cert.FrontOddIdeal.Gen.facts, Cert.FrontOddRefIdeal.Gen.facts,
  Cert.PostCtx.Gen.facts, Cert.PostCtxIdeal.Gen.facts, Cert.PostCtxRefIdeal.Gen.facts,
  Cert.FrontCtx.Gen.facts, Cert.FrontCtxIdeal.Gen.facts, Cert.FrontCtxRefIdeal.Gen.facts,
  Cert.AttnCtx.Gen.facts, Cert.AttnCtxIdeal.Gen.facts, Cert.AttnCtxRefIdeal.Gen.facts, pre_facts, pre_facts_ctx,
  fun m g _ => Cert.Kernel.Gen.frame m g, fun m g _ => Cert.KernelIdeal.Gen.frame m g, fun m g _ => Cert.KernelIdeal.Gen.frame m g,
  frame_ref, fun m g _ => frame_ref m g trivial,
  fun m g _ => Cert.PostOdd.Gen.frame m g, fun m g _ => Cert.PostOddIdeal.Gen.frame m g, frame_PostOddRefIdeal,
  fun m g _ => Cert.PostEven.Gen.frame m g, fun m g _ => Cert.PostEvenIdeal.Gen.frame m g, frame_PostEvenRefIdeal,
  fun m g _ => Cert.FrontEven.Gen.frame m g, fun m g _ => Cert.FrontEvenIdeal.Gen.frame m g, frame_FrontEvenRefIdeal,
  fun m g _ => Cert.FrontOdd.Gen.frame m g, fun m g _ => Cert.FrontOddIdeal.Gen.frame m g, frame_FrontOddRefIdeal,
  fun m g _ => Cert.PostCtx.Gen.frame m g, fun m g _ => Cert.PostCtxIdeal.Gen.frame m g, frame_PostCtxRefIdeal,
  fun m g _ => Cert.FrontCtx.Gen.frame m g, fun m g _ => Cert.FrontCtxIdeal.Gen.frame m g, frame_FrontCtxRefIdeal,
  fun m g _ => Cert.AttnCtx.Gen.frame m g, fun m g _ => Cert.AttnCtxIdeal.Gen.frame m g, fun m g _ => Cert.AttnCtxIdeal.Gen.frame m g,
  frame_AttnCtxRefIdeal, fun m g _ => frame_AttnCtxRefIdeal m g trivial,
  trivial, attention, trivial, post_odd, trivial, post_even, trivial, front_even, trivial, front_odd, trivial, post_ctx, trivial, front_ctx, trivial, attn_ctx⟩

end Cert.Proof

end
